-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Att3 (m : (ℓ : Loc Cert.Att3.nD Cert.Att3.τ Cert.Att3.sig) → Buf (Elt Bits) ℓ) : Prop :=
  True

def Pre_Att3Ideal (m : (ℓ : Loc Cert.Att3Ideal.nD Cert.Att3Ideal.τ Cert.Att3Ideal.sig) → Buf (Elt Ideal) ℓ) : Prop :=
  True

def Pre_Att3Ideal_finite [hPre_finite : Cert.Pre_finite.Facts] (m : (ℓ : Loc Cert.Att3Ideal.nD Cert.Att3Ideal.τ Cert.Att3Ideal.sig) → Buf (Elt Ideal) ℓ) : Prop :=
  ∀ c : Dev Cert.Att3Ideal.nD,
    (Cert.Pre_finite.fn (F := Ideal) (m ((c.tc : Thread Cert.Att3Ideal.nD Cert.Att3Ideal.τ).loc Cert.Att3Ideal.main_arg0)) (m ((c.tc : Thread Cert.Att3Ideal.nD Cert.Att3Ideal.τ).loc Cert.Att3Ideal.main_arg1)) (m ((c.tc : Thread Cert.Att3Ideal.nD Cert.Att3Ideal.τ).loc Cert.Att3Ideal.main_arg2)) (m ((c.tc : Thread Cert.Att3Ideal.nD Cert.Att3Ideal.τ).loc Cert.Att3Ideal.main_arg3)) (m ((c.tc : Thread Cert.Att3Ideal.nD Cert.Att3Ideal.τ).loc Cert.Att3Ideal.main_arg4))) = (fun _ => 1#1)

def Pre_Att3RefIdeal (m : (ℓ : Loc Cert.Att3RefIdeal.nD Cert.Att3RefIdeal.τ Cert.Att3RefIdeal.sig) → Buf (Elt Ideal) ℓ) : Prop :=
  True

def Pre_Att3RefIdeal_finite [hPre_finite : Cert.Pre_finite.Facts] (m : (ℓ : Loc Cert.Att3RefIdeal.nD Cert.Att3RefIdeal.τ Cert.Att3RefIdeal.sig) → Buf (Elt Ideal) ℓ) : Prop :=
  ∀ c : Dev Cert.Att3RefIdeal.nD,
    (Cert.Pre_finite.fn (F := Ideal) (m ((c.tc : Thread Cert.Att3RefIdeal.nD Cert.Att3RefIdeal.τ).loc Cert.Att3RefIdeal.main_arg0)) (m ((c.tc : Thread Cert.Att3RefIdeal.nD Cert.Att3RefIdeal.τ).loc Cert.Att3RefIdeal.main_arg1)) (m ((c.tc : Thread Cert.Att3RefIdeal.nD Cert.Att3RefIdeal.τ).loc Cert.Att3RefIdeal.main_arg2)) (m ((c.tc : Thread Cert.Att3RefIdeal.nD Cert.Att3RefIdeal.τ).loc Cert.Att3RefIdeal.main_arg3)) (m ((c.tc : Thread Cert.Att3RefIdeal.nD Cert.Att3RefIdeal.τ).loc Cert.Att3RefIdeal.main_arg4))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Qkv3 (m : (ℓ : Loc Cert.Qkv3.nD Cert.Qkv3.τ Cert.Qkv3.sig) → Buf (Elt Bits) ℓ) : Prop :=
  True

def Pre_Qkv3Ideal (m : (ℓ : Loc Cert.Qkv3Ideal.nD Cert.Qkv3Ideal.τ Cert.Qkv3Ideal.sig) → Buf (Elt Ideal) ℓ) : Prop :=
  True

def Pre_Qkv3RefIdeal (m : (ℓ : Loc Cert.Qkv3RefIdeal.nD Cert.Qkv3RefIdeal.τ Cert.Qkv3RefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Out1 (m : (ℓ : Loc Cert.Out1.nD Cert.Out1.τ Cert.Out1.sig) → Buf (Elt Bits) ℓ) : Prop :=
  True

def Pre_Out1Ideal (m : (ℓ : Loc Cert.Out1Ideal.nD Cert.Out1Ideal.τ Cert.Out1Ideal.sig) → Buf (Elt Ideal) ℓ) : Prop :=
  True

def Pre_Out1RefIdeal (m : (ℓ : Loc Cert.Out1RefIdeal.nD Cert.Out1RefIdeal.τ Cert.Out1RefIdeal.sig) → Buf (Elt Ideal) ℓ) : Prop :=
  True

def Pre_Out2 (m : (ℓ : Loc Cert.Out2.nD Cert.Out2.τ Cert.Out2.sig) → Buf (Elt Bits) ℓ) : Prop :=
  True

def Pre_Out2Ideal (m : (ℓ : Loc Cert.Out2Ideal.nD Cert.Out2Ideal.τ Cert.Out2Ideal.sig) → Buf (Elt Ideal) ℓ) : Prop :=
  True

def Pre_Out2RefIdeal (m : (ℓ : Loc Cert.Out2RefIdeal.nD Cert.Out2RefIdeal.τ Cert.Out2RefIdeal.sig) → Buf (Elt Ideal) ℓ) : Prop :=
  True

def Pre_Out3 (m : (ℓ : Loc Cert.Out3.nD Cert.Out3.τ Cert.Out3.sig) → Buf (Elt Bits) ℓ) : Prop :=
  True

def Pre_Out3Ideal (m : (ℓ : Loc Cert.Out3Ideal.nD Cert.Out3Ideal.τ Cert.Out3Ideal.sig) → Buf (Elt Ideal) ℓ) : Prop :=
  True

def Pre_Out3RefIdeal (m : (ℓ : Loc Cert.Out3RefIdeal.nD Cert.Out3RefIdeal.τ Cert.Out3RefIdeal.sig) → Buf (Elt Ideal) ℓ) : Prop :=
  True

def Pre_DilA (m : (ℓ : Loc Cert.DilA.nD Cert.DilA.τ Cert.DilA.sig) → Buf (Elt Bits) ℓ) : Prop :=
  True

def Pre_DilAIdeal (m : (ℓ : Loc Cert.DilAIdeal.nD Cert.DilAIdeal.τ Cert.DilAIdeal.sig) → Buf (Elt Ideal) ℓ) : Prop :=
  True

def Pre_DilARefIdeal (m : (ℓ : Loc Cert.DilARefIdeal.nD Cert.DilARefIdeal.τ Cert.DilARefIdeal.sig) → Buf (Elt Ideal) ℓ) : Prop :=
  True

def Pre_DilB (m : (ℓ : Loc Cert.DilB.nD Cert.DilB.τ Cert.DilB.sig) → Buf (Elt Bits) ℓ) : Prop :=
  True

def Pre_DilBIdeal (m : (ℓ : Loc Cert.DilBIdeal.nD Cert.DilBIdeal.τ Cert.DilBIdeal.sig) → Buf (Elt Ideal) ℓ) : Prop :=
  True

def Pre_DilBRefIdeal (m : (ℓ : Loc Cert.DilBRefIdeal.nD Cert.DilBRefIdeal.τ Cert.DilBRefIdeal.sig) → Buf (Elt Ideal) ℓ) : Prop :=
  True

def Pre_DilC (m : (ℓ : Loc Cert.DilC.nD Cert.DilC.τ Cert.DilC.sig) → Buf (Elt Bits) ℓ) : Prop :=
  True

def Pre_DilCIdeal (m : (ℓ : Loc Cert.DilCIdeal.nD Cert.DilCIdeal.τ Cert.DilCIdeal.sig) → Buf (Elt Ideal) ℓ) : Prop :=
  True

def Pre_DilCRefIdeal (m : (ℓ : Loc Cert.DilCRefIdeal.nD Cert.DilCRefIdeal.τ Cert.DilCRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Comb0 (m : (ℓ : Loc Cert.Comb0.nD Cert.Comb0.τ Cert.Comb0.sig) → Buf (Elt Bits) ℓ) : Prop :=
  True

def Pre_Comb0Ideal (m : (ℓ : Loc Cert.Comb0Ideal.nD Cert.Comb0Ideal.τ Cert.Comb0Ideal.sig) → Buf (Elt Ideal) ℓ) : Prop :=
  True

def Pre_Comb0RefIdeal (m : (ℓ : Loc Cert.Comb0RefIdeal.nD Cert.Comb0RefIdeal.τ Cert.Comb0RefIdeal.sig) → Buf (Elt Ideal) ℓ) : Prop :=
  True

def Pre_Comb1 (m : (ℓ : Loc Cert.Comb1.nD Cert.Comb1.τ Cert.Comb1.sig) → Buf (Elt Bits) ℓ) : Prop :=
  True

def Pre_Comb1Ideal (m : (ℓ : Loc Cert.Comb1Ideal.nD Cert.Comb1Ideal.τ Cert.Comb1Ideal.sig) → Buf (Elt Ideal) ℓ) : Prop :=
  True

def Pre_Comb1RefIdeal (m : (ℓ : Loc Cert.Comb1RefIdeal.nD Cert.Comb1RefIdeal.τ Cert.Comb1RefIdeal.sig) → Buf (Elt Ideal) ℓ) : Prop :=
  True

def Pre_Comb2 (m : (ℓ : Loc Cert.Comb2.nD Cert.Comb2.τ Cert.Comb2.sig) → Buf (Elt Bits) ℓ) : Prop :=
  True

def Pre_Comb2Ideal (m : (ℓ : Loc Cert.Comb2Ideal.nD Cert.Comb2Ideal.τ Cert.Comb2Ideal.sig) → Buf (Elt Ideal) ℓ) : Prop :=
  True

def Pre_Comb2RefIdeal (m : (ℓ : Loc Cert.Comb2RefIdeal.nD Cert.Comb2RefIdeal.τ Cert.Comb2RefIdeal.sig) → Buf (Elt Ideal) ℓ) : Prop :=
  True

def Pre_Comb3 (m : (ℓ : Loc Cert.Comb3.nD Cert.Comb3.τ Cert.Comb3.sig) → Buf (Elt Bits) ℓ) : Prop :=
  True

def Pre_Comb3Ideal (m : (ℓ : Loc Cert.Comb3Ideal.nD Cert.Comb3Ideal.τ Cert.Comb3Ideal.sig) → Buf (Elt Ideal) ℓ) : Prop :=
  True

def Pre_Comb3RefIdeal (m : (ℓ : Loc Cert.Comb3RefIdeal.nD Cert.Comb3RefIdeal.τ Cert.Comb3RefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_GrpC (m : (ℓ : Loc Cert.GrpC.nD Cert.GrpC.τ Cert.GrpC.sig) → Buf (Elt Bits) ℓ) : Prop :=
  True

def Pre_GrpCIdeal (m : (ℓ : Loc Cert.GrpCIdeal.nD Cert.GrpCIdeal.τ Cert.GrpCIdeal.sig) → Buf (Elt Ideal) ℓ) : Prop :=
  True

def Pre_GrpCIdeal_finite_group [hPre_finite_group : Cert.Pre_finite_group.Facts] (m : (ℓ : Loc Cert.GrpCIdeal.nD Cert.GrpCIdeal.τ Cert.GrpCIdeal.sig) → Buf (Elt Ideal) ℓ) : Prop :=
  ∀ c : Dev Cert.GrpCIdeal.nD,
    (Cert.Pre_finite_group.fn (F := Ideal) (m ((c.tc : Thread Cert.GrpCIdeal.nD Cert.GrpCIdeal.τ).loc Cert.GrpCIdeal.main_arg0)) (m ((c.tc : Thread Cert.GrpCIdeal.nD Cert.GrpCIdeal.τ).loc Cert.GrpCIdeal.main_arg1)) (m ((c.tc : Thread Cert.GrpCIdeal.nD Cert.GrpCIdeal.τ).loc Cert.GrpCIdeal.main_arg2))) = (fun _ => 1#1)

def Pre_GrpCRefIdeal (m : (ℓ : Loc Cert.GrpCRefIdeal.nD Cert.GrpCRefIdeal.τ Cert.GrpCRefIdeal.sig) → Buf (Elt Ideal) ℓ) : Prop :=
  True

def Pre_GrpCRefIdeal_finite_group [hPre_finite_group : Cert.Pre_finite_group.Facts] (m : (ℓ : Loc Cert.GrpCRefIdeal.nD Cert.GrpCRefIdeal.τ Cert.GrpCRefIdeal.sig) → Buf (Elt Ideal) ℓ) : Prop :=
  ∀ c : Dev Cert.GrpCRefIdeal.nD,
    (Cert.Pre_finite_group.fn (F := Ideal) (m ((c.tc : Thread Cert.GrpCRefIdeal.nD Cert.GrpCRefIdeal.τ).loc Cert.GrpCRefIdeal.main_arg0)) (m ((c.tc : Thread Cert.GrpCRefIdeal.nD Cert.GrpCRefIdeal.τ).loc Cert.GrpCRefIdeal.main_arg1)) (m ((c.tc : Thread Cert.GrpCRefIdeal.nD Cert.GrpCRefIdeal.τ).loc Cert.GrpCRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Att3 [hAtt3 : Cert.Att3.Facts] : Prop :=
  ∀ (m : (ℓ : Loc Cert.Att3.nD Cert.Att3.τ Cert.Att3.sig) → Buf (Elt Bits) ℓ) (g : Dev Cert.Att3.nD → PrngReg), Pre_Att3 m →
    θ_run (Cert.Att3.defs (F := Bits)) (onTc (τ := Cert.Att3.τ) (Cert.Att3.main (F := Bits))) ⟨m, fun _ => 0, g⟩ (fun r => (∀ c : Dev Cert.Att3.nD,
      r.2.mem ((c.tc : Thread Cert.Att3.nD Cert.Att3.τ).loc Cert.Att3.main_arg0) = m ((c.tc : Thread Cert.Att3.nD Cert.Att3.τ).loc Cert.Att3.main_arg0)
      ∧ r.2.mem ((c.tc : Thread Cert.Att3.nD Cert.Att3.τ).loc Cert.Att3.main_arg1) = m ((c.tc : Thread Cert.Att3.nD Cert.Att3.τ).loc Cert.Att3.main_arg1)
      ∧ r.2.mem ((c.tc : Thread Cert.Att3.nD Cert.Att3.τ).loc Cert.Att3.main_arg2) = m ((c.tc : Thread Cert.Att3.nD Cert.Att3.τ).loc Cert.Att3.main_arg2)
      ∧ r.2.mem ((c.tc : Thread Cert.Att3.nD Cert.Att3.τ).loc Cert.Att3.main_arg3) = m ((c.tc : Thread Cert.Att3.nD Cert.Att3.τ).loc Cert.Att3.main_arg3)
      ∧ r.2.mem ((c.tc : Thread Cert.Att3.nD Cert.Att3.τ).loc Cert.Att3.main_arg4) = m ((c.tc : Thread Cert.Att3.nD Cert.Att3.τ).loc Cert.Att3.main_arg4))
      ∧ r.2.sem = fun _ => 0)

def quiescent_Att3Ideal [hAtt3Ideal : Cert.Att3Ideal.Facts] : Prop :=
  ∀ (m : (ℓ : Loc Cert.Att3Ideal.nD Cert.Att3Ideal.τ Cert.Att3Ideal.sig) → Buf (Elt Ideal) ℓ) (g : Dev Cert.Att3Ideal.nD → PrngReg), Pre_Att3Ideal m →
    θ_run (Cert.Att3Ideal.defs (F := Ideal)) (onTc (τ := Cert.Att3Ideal.τ) (Cert.Att3Ideal.main (F := Ideal))) ⟨m, fun _ => 0, g⟩ (fun r => (∀ c : Dev Cert.Att3Ideal.nD,
      r.2.mem ((c.tc : Thread Cert.Att3Ideal.nD Cert.Att3Ideal.τ).loc Cert.Att3Ideal.main_arg0) = m ((c.tc : Thread Cert.Att3Ideal.nD Cert.Att3Ideal.τ).loc Cert.Att3Ideal.main_arg0)
      ∧ r.2.mem ((c.tc : Thread Cert.Att3Ideal.nD Cert.Att3Ideal.τ).loc Cert.Att3Ideal.main_arg1) = m ((c.tc : Thread Cert.Att3Ideal.nD Cert.Att3Ideal.τ).loc Cert.Att3Ideal.main_arg1)
      ∧ r.2.mem ((c.tc : Thread Cert.Att3Ideal.nD Cert.Att3Ideal.τ).loc Cert.Att3Ideal.main_arg2) = m ((c.tc : Thread Cert.Att3Ideal.nD Cert.Att3Ideal.τ).loc Cert.Att3Ideal.main_arg2)
      ∧ r.2.mem ((c.tc : Thread Cert.Att3Ideal.nD Cert.Att3Ideal.τ).loc Cert.Att3Ideal.main_arg3) = m ((c.tc : Thread Cert.Att3Ideal.nD Cert.Att3Ideal.τ).loc Cert.Att3Ideal.main_arg3)
      ∧ r.2.mem ((c.tc : Thread Cert.Att3Ideal.nD Cert.Att3Ideal.τ).loc Cert.Att3Ideal.main_arg4) = m ((c.tc : Thread Cert.Att3Ideal.nD Cert.Att3Ideal.τ).loc Cert.Att3Ideal.main_arg4))
      ∧ r.2.sem = fun _ => 0)

def quiescent_Att3Ideal_pre_finite [hAtt3Ideal : Cert.Att3Ideal.Facts] [hPre_finite : Cert.Pre_finite.Facts] : Prop :=
  ∀ (m : (ℓ : Loc Cert.Att3Ideal.nD Cert.Att3Ideal.τ Cert.Att3Ideal.sig) → Buf (Elt Ideal) ℓ) (g : Dev Cert.Att3Ideal.nD → PrngReg), Pre_Att3Ideal_finite m →
    θ_run (Cert.Att3Ideal.defs (F := Ideal)) (onTc (τ := Cert.Att3Ideal.τ) (Cert.Att3Ideal.main (F := Ideal))) ⟨m, fun _ => 0, g⟩ (fun r => (∀ c : Dev Cert.Att3Ideal.nD,
      r.2.mem ((c.tc : Thread Cert.Att3Ideal.nD Cert.Att3Ideal.τ).loc Cert.Att3Ideal.main_arg0) = m ((c.tc : Thread Cert.Att3Ideal.nD Cert.Att3Ideal.τ).loc Cert.Att3Ideal.main_arg0)
      ∧ r.2.mem ((c.tc : Thread Cert.Att3Ideal.nD Cert.Att3Ideal.τ).loc Cert.Att3Ideal.main_arg1) = m ((c.tc : Thread Cert.Att3Ideal.nD Cert.Att3Ideal.τ).loc Cert.Att3Ideal.main_arg1)
      ∧ r.2.mem ((c.tc : Thread Cert.Att3Ideal.nD Cert.Att3Ideal.τ).loc Cert.Att3Ideal.main_arg2) = m ((c.tc : Thread Cert.Att3Ideal.nD Cert.Att3Ideal.τ).loc Cert.Att3Ideal.main_arg2)
      ∧ r.2.mem ((c.tc : Thread Cert.Att3Ideal.nD Cert.Att3Ideal.τ).loc Cert.Att3Ideal.main_arg3) = m ((c.tc : Thread Cert.Att3Ideal.nD Cert.Att3Ideal.τ).loc Cert.Att3Ideal.main_arg3)
      ∧ r.2.mem ((c.tc : Thread Cert.Att3Ideal.nD Cert.Att3Ideal.τ).loc Cert.Att3Ideal.main_arg4) = m ((c.tc : Thread Cert.Att3Ideal.nD Cert.Att3Ideal.τ).loc Cert.Att3Ideal.main_arg4))
      ∧ r.2.sem = fun _ => 0)

def quiescent_Att3RefIdeal [hAtt3RefIdeal : Cert.Att3RefIdeal.Facts] : Prop :=
  ∀ (m : (ℓ : Loc Cert.Att3RefIdeal.nD Cert.Att3RefIdeal.τ Cert.Att3RefIdeal.sig) → Buf (Elt Ideal) ℓ) (g : Dev Cert.Att3RefIdeal.nD → PrngReg), Pre_Att3RefIdeal m →
    θ_run (Cert.Att3RefIdeal.defs (F := Ideal)) (onTc (τ := Cert.Att3RefIdeal.τ) (Cert.Att3RefIdeal.main (F := Ideal))) ⟨m, fun _ => 0, g⟩ (fun r => (∀ c : Dev Cert.Att3RefIdeal.nD,
      r.2.mem ((c.tc : Thread Cert.Att3RefIdeal.nD Cert.Att3RefIdeal.τ).loc Cert.Att3RefIdeal.main_arg0) = m ((c.tc : Thread Cert.Att3RefIdeal.nD Cert.Att3RefIdeal.τ).loc Cert.Att3RefIdeal.main_arg0)
      ∧ r.2.mem ((c.tc : Thread Cert.Att3RefIdeal.nD Cert.Att3RefIdeal.τ).loc Cert.Att3RefIdeal.main_arg1) = m ((c.tc : Thread Cert.Att3RefIdeal.nD Cert.Att3RefIdeal.τ).loc Cert.Att3RefIdeal.main_arg1)
      ∧ r.2.mem ((c.tc : Thread Cert.Att3RefIdeal.nD Cert.Att3RefIdeal.τ).loc Cert.Att3RefIdeal.main_arg2) = m ((c.tc : Thread Cert.Att3RefIdeal.nD Cert.Att3RefIdeal.τ).loc Cert.Att3RefIdeal.main_arg2)
      ∧ r.2.mem ((c.tc : Thread Cert.Att3RefIdeal.nD Cert.Att3RefIdeal.τ).loc Cert.Att3RefIdeal.main_arg3) = m ((c.tc : Thread Cert.Att3RefIdeal.nD Cert.Att3RefIdeal.τ).loc Cert.Att3RefIdeal.main_arg3)
      ∧ r.2.mem ((c.tc : Thread Cert.Att3RefIdeal.nD Cert.Att3RefIdeal.τ).loc Cert.Att3RefIdeal.main_arg4) = m ((c.tc : Thread Cert.Att3RefIdeal.nD Cert.Att3RefIdeal.τ).loc Cert.Att3RefIdeal.main_arg4))
      ∧ r.2.sem = fun _ => 0)

def quiescent_Att3RefIdeal_pre_finite [hAtt3RefIdeal : Cert.Att3RefIdeal.Facts] [hPre_finite : Cert.Pre_finite.Facts] : Prop :=
  ∀ (m : (ℓ : Loc Cert.Att3RefIdeal.nD Cert.Att3RefIdeal.τ Cert.Att3RefIdeal.sig) → Buf (Elt Ideal) ℓ) (g : Dev Cert.Att3RefIdeal.nD → PrngReg), Pre_Att3RefIdeal_finite m →
    θ_run (Cert.Att3RefIdeal.defs (F := Ideal)) (onTc (τ := Cert.Att3RefIdeal.τ) (Cert.Att3RefIdeal.main (F := Ideal))) ⟨m, fun _ => 0, g⟩ (fun r => (∀ c : Dev Cert.Att3RefIdeal.nD,
      r.2.mem ((c.tc : Thread Cert.Att3RefIdeal.nD Cert.Att3RefIdeal.τ).loc Cert.Att3RefIdeal.main_arg0) = m ((c.tc : Thread Cert.Att3RefIdeal.nD Cert.Att3RefIdeal.τ).loc Cert.Att3RefIdeal.main_arg0)
      ∧ r.2.mem ((c.tc : Thread Cert.Att3RefIdeal.nD Cert.Att3RefIdeal.τ).loc Cert.Att3RefIdeal.main_arg1) = m ((c.tc : Thread Cert.Att3RefIdeal.nD Cert.Att3RefIdeal.τ).loc Cert.Att3RefIdeal.main_arg1)
      ∧ r.2.mem ((c.tc : Thread Cert.Att3RefIdeal.nD Cert.Att3RefIdeal.τ).loc Cert.Att3RefIdeal.main_arg2) = m ((c.tc : Thread Cert.Att3RefIdeal.nD Cert.Att3RefIdeal.τ).loc Cert.Att3RefIdeal.main_arg2)
      ∧ r.2.mem ((c.tc : Thread Cert.Att3RefIdeal.nD Cert.Att3RefIdeal.τ).loc Cert.Att3RefIdeal.main_arg3) = m ((c.tc : Thread Cert.Att3RefIdeal.nD Cert.Att3RefIdeal.τ).loc Cert.Att3RefIdeal.main_arg3)
      ∧ r.2.mem ((c.tc : Thread Cert.Att3RefIdeal.nD Cert.Att3RefIdeal.τ).loc Cert.Att3RefIdeal.main_arg4) = m ((c.tc : Thread Cert.Att3RefIdeal.nD Cert.Att3RefIdeal.τ).loc Cert.Att3RefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Qkv3 [hQkv3 : Cert.Qkv3.Facts] : Prop :=
  ∀ (m : (ℓ : Loc Cert.Qkv3.nD Cert.Qkv3.τ Cert.Qkv3.sig) → Buf (Elt Bits) ℓ) (g : Dev Cert.Qkv3.nD → PrngReg), Pre_Qkv3 m →
    θ_run (Cert.Qkv3.defs (F := Bits)) (onTc (τ := Cert.Qkv3.τ) (Cert.Qkv3.main (F := Bits))) ⟨m, fun _ => 0, g⟩ (fun r => (∀ c : Dev Cert.Qkv3.nD,
      r.2.mem ((c.tc : Thread Cert.Qkv3.nD Cert.Qkv3.τ).loc Cert.Qkv3.main_arg0) = m ((c.tc : Thread Cert.Qkv3.nD Cert.Qkv3.τ).loc Cert.Qkv3.main_arg0)
      ∧ r.2.mem ((c.tc : Thread Cert.Qkv3.nD Cert.Qkv3.τ).loc Cert.Qkv3.main_arg1) = m ((c.tc : Thread Cert.Qkv3.nD Cert.Qkv3.τ).loc Cert.Qkv3.main_arg1)
      ∧ r.2.mem ((c.tc : Thread Cert.Qkv3.nD Cert.Qkv3.τ).loc Cert.Qkv3.main_arg2) = m ((c.tc : Thread Cert.Qkv3.nD Cert.Qkv3.τ).loc Cert.Qkv3.main_arg2))
      ∧ r.2.sem = fun _ => 0)

def quiescent_Qkv3Ideal [hQkv3Ideal : Cert.Qkv3Ideal.Facts] : Prop :=
  ∀ (m : (ℓ : Loc Cert.Qkv3Ideal.nD Cert.Qkv3Ideal.τ Cert.Qkv3Ideal.sig) → Buf (Elt Ideal) ℓ) (g : Dev Cert.Qkv3Ideal.nD → PrngReg), Pre_Qkv3Ideal m →
    θ_run (Cert.Qkv3Ideal.defs (F := Ideal)) (onTc (τ := Cert.Qkv3Ideal.τ) (Cert.Qkv3Ideal.main (F := Ideal))) ⟨m, fun _ => 0, g⟩ (fun r => (∀ c : Dev Cert.Qkv3Ideal.nD,
      r.2.mem ((c.tc : Thread Cert.Qkv3Ideal.nD Cert.Qkv3Ideal.τ).loc Cert.Qkv3Ideal.main_arg0) = m ((c.tc : Thread Cert.Qkv3Ideal.nD Cert.Qkv3Ideal.τ).loc Cert.Qkv3Ideal.main_arg0)
      ∧ r.2.mem ((c.tc : Thread Cert.Qkv3Ideal.nD Cert.Qkv3Ideal.τ).loc Cert.Qkv3Ideal.main_arg1) = m ((c.tc : Thread Cert.Qkv3Ideal.nD Cert.Qkv3Ideal.τ).loc Cert.Qkv3Ideal.main_arg1)
      ∧ r.2.mem ((c.tc : Thread Cert.Qkv3Ideal.nD Cert.Qkv3Ideal.τ).loc Cert.Qkv3Ideal.main_arg2) = m ((c.tc : Thread Cert.Qkv3Ideal.nD Cert.Qkv3Ideal.τ).loc Cert.Qkv3Ideal.main_arg2))
      ∧ r.2.sem = fun _ => 0)

def quiescent_Qkv3RefIdeal [hQkv3RefIdeal : Cert.Qkv3RefIdeal.Facts] : Prop :=
  ∀ (m : (ℓ : Loc Cert.Qkv3RefIdeal.nD Cert.Qkv3RefIdeal.τ Cert.Qkv3RefIdeal.sig) → Buf (Elt Ideal) ℓ) (g : Dev Cert.Qkv3RefIdeal.nD → PrngReg), Pre_Qkv3RefIdeal m →
    θ_run (Cert.Qkv3RefIdeal.defs (F := Ideal)) (onTc (τ := Cert.Qkv3RefIdeal.τ) (Cert.Qkv3RefIdeal.main (F := Ideal))) ⟨m, fun _ => 0, g⟩ (fun r => (∀ c : Dev Cert.Qkv3RefIdeal.nD,
      r.2.mem ((c.tc : Thread Cert.Qkv3RefIdeal.nD Cert.Qkv3RefIdeal.τ).loc Cert.Qkv3RefIdeal.main_arg0) = m ((c.tc : Thread Cert.Qkv3RefIdeal.nD Cert.Qkv3RefIdeal.τ).loc Cert.Qkv3RefIdeal.main_arg0)
      ∧ r.2.mem ((c.tc : Thread Cert.Qkv3RefIdeal.nD Cert.Qkv3RefIdeal.τ).loc Cert.Qkv3RefIdeal.main_arg1) = m ((c.tc : Thread Cert.Qkv3RefIdeal.nD Cert.Qkv3RefIdeal.τ).loc Cert.Qkv3RefIdeal.main_arg1)
      ∧ r.2.mem ((c.tc : Thread Cert.Qkv3RefIdeal.nD Cert.Qkv3RefIdeal.τ).loc Cert.Qkv3RefIdeal.main_arg2) = m ((c.tc : Thread Cert.Qkv3RefIdeal.nD Cert.Qkv3RefIdeal.τ).loc Cert.Qkv3RefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Out1 [hOut1 : Cert.Out1.Facts] : Prop :=
  ∀ (m : (ℓ : Loc Cert.Out1.nD Cert.Out1.τ Cert.Out1.sig) → Buf (Elt Bits) ℓ) (g : Dev Cert.Out1.nD → PrngReg), Pre_Out1 m →
    θ_run (Cert.Out1.defs (F := Bits)) (onTc (τ := Cert.Out1.τ) (Cert.Out1.main (F := Bits))) ⟨m, fun _ => 0, g⟩ (fun r => (∀ c : Dev Cert.Out1.nD,
      r.2.mem ((c.tc : Thread Cert.Out1.nD Cert.Out1.τ).loc Cert.Out1.main_arg0) = m ((c.tc : Thread Cert.Out1.nD Cert.Out1.τ).loc Cert.Out1.main_arg0)
      ∧ r.2.mem ((c.tc : Thread Cert.Out1.nD Cert.Out1.τ).loc Cert.Out1.main_arg1) = m ((c.tc : Thread Cert.Out1.nD Cert.Out1.τ).loc Cert.Out1.main_arg1)
      ∧ r.2.mem ((c.tc : Thread Cert.Out1.nD Cert.Out1.τ).loc Cert.Out1.main_arg2) = m ((c.tc : Thread Cert.Out1.nD Cert.Out1.τ).loc Cert.Out1.main_arg2))
      ∧ r.2.sem = fun _ => 0)

def quiescent_Out1Ideal [hOut1Ideal : Cert.Out1Ideal.Facts] : Prop :=
  ∀ (m : (ℓ : Loc Cert.Out1Ideal.nD Cert.Out1Ideal.τ Cert.Out1Ideal.sig) → Buf (Elt Ideal) ℓ) (g : Dev Cert.Out1Ideal.nD → PrngReg), Pre_Out1Ideal m →
    θ_run (Cert.Out1Ideal.defs (F := Ideal)) (onTc (τ := Cert.Out1Ideal.τ) (Cert.Out1Ideal.main (F := Ideal))) ⟨m, fun _ => 0, g⟩ (fun r => (∀ c : Dev Cert.Out1Ideal.nD,
      r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
      ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
      ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2))
      ∧ r.2.sem = fun _ => 0)

def quiescent_Out1RefIdeal [hOut1RefIdeal : Cert.Out1RefIdeal.Facts] : Prop :=
  ∀ (m : (ℓ : Loc Cert.Out1RefIdeal.nD Cert.Out1RefIdeal.τ Cert.Out1RefIdeal.sig) → Buf (Elt Ideal) ℓ) (g : Dev Cert.Out1RefIdeal.nD → PrngReg), Pre_Out1RefIdeal m →
    θ_run (Cert.Out1RefIdeal.defs (F := Ideal)) (onTc (τ := Cert.Out1RefIdeal.τ) (Cert.Out1RefIdeal.main (F := Ideal))) ⟨m, fun _ => 0, g⟩ (fun r => (∀ c : Dev Cert.Out1RefIdeal.nD,
      r.2.mem ((c.tc : Thread Cert.Out1RefIdeal.nD Cert.Out1RefIdeal.τ).loc Cert.Out1RefIdeal.main_arg0) = m ((c.tc : Thread Cert.Out1RefIdeal.nD Cert.Out1RefIdeal.τ).loc Cert.Out1RefIdeal.main_arg0)
      ∧ r.2.mem ((c.tc : Thread Cert.Out1RefIdeal.nD Cert.Out1RefIdeal.τ).loc Cert.Out1RefIdeal.main_arg1) = m ((c.tc : Thread Cert.Out1RefIdeal.nD Cert.Out1RefIdeal.τ).loc Cert.Out1RefIdeal.main_arg1)
      ∧ r.2.mem ((c.tc : Thread Cert.Out1RefIdeal.nD Cert.Out1RefIdeal.τ).loc Cert.Out1RefIdeal.main_arg2) = m ((c.tc : Thread Cert.Out1RefIdeal.nD Cert.Out1RefIdeal.τ).loc Cert.Out1RefIdeal.main_arg2))
      ∧ r.2.sem = fun _ => 0)

def quiescent_Out2 [hOut2 : Cert.Out2.Facts] : Prop :=
  ∀ (m : (ℓ : Loc Cert.Out2.nD Cert.Out2.τ Cert.Out2.sig) → Buf (Elt Bits) ℓ) (g : Dev Cert.Out2.nD → PrngReg), Pre_Out2 m →
    θ_run (Cert.Out2.defs (F := Bits)) (onTc (τ := Cert.Out2.τ) (Cert.Out2.main (F := Bits))) ⟨m, fun _ => 0, g⟩ (fun r => (∀ c : Dev Cert.Out2.nD,
      r.2.mem ((c.tc : Thread Cert.Out2.nD Cert.Out2.τ).loc Cert.Out2.main_arg0) = m ((c.tc : Thread Cert.Out2.nD Cert.Out2.τ).loc Cert.Out2.main_arg0)
      ∧ r.2.mem ((c.tc : Thread Cert.Out2.nD Cert.Out2.τ).loc Cert.Out2.main_arg1) = m ((c.tc : Thread Cert.Out2.nD Cert.Out2.τ).loc Cert.Out2.main_arg1)
      ∧ r.2.mem ((c.tc : Thread Cert.Out2.nD Cert.Out2.τ).loc Cert.Out2.main_arg2) = m ((c.tc : Thread Cert.Out2.nD Cert.Out2.τ).loc Cert.Out2.main_arg2))
      ∧ r.2.sem = fun _ => 0)

def quiescent_Out2Ideal [hOut2Ideal : Cert.Out2Ideal.Facts] : Prop :=
  ∀ (m : (ℓ : Loc Cert.Out2Ideal.nD Cert.Out2Ideal.τ Cert.Out2Ideal.sig) → Buf (Elt Ideal) ℓ) (g : Dev Cert.Out2Ideal.nD → PrngReg), Pre_Out2Ideal m →
    θ_run (Cert.Out2Ideal.defs (F := Ideal)) (onTc (τ := Cert.Out2Ideal.τ) (Cert.Out2Ideal.main (F := Ideal))) ⟨m, fun _ => 0, g⟩ (fun r => (∀ c : Dev Cert.Out2Ideal.nD,
      r.2.mem ((c.tc : Thread Cert.Out2Ideal.nD Cert.Out2Ideal.τ).loc Cert.Out2Ideal.main_arg0) = m ((c.tc : Thread Cert.Out2Ideal.nD Cert.Out2Ideal.τ).loc Cert.Out2Ideal.main_arg0)
      ∧ r.2.mem ((c.tc : Thread Cert.Out2Ideal.nD Cert.Out2Ideal.τ).loc Cert.Out2Ideal.main_arg1) = m ((c.tc : Thread Cert.Out2Ideal.nD Cert.Out2Ideal.τ).loc Cert.Out2Ideal.main_arg1)
      ∧ r.2.mem ((c.tc : Thread Cert.Out2Ideal.nD Cert.Out2Ideal.τ).loc Cert.Out2Ideal.main_arg2) = m ((c.tc : Thread Cert.Out2Ideal.nD Cert.Out2Ideal.τ).loc Cert.Out2Ideal.main_arg2))
      ∧ r.2.sem = fun _ => 0)

def quiescent_Out2RefIdeal [hOut2RefIdeal : Cert.Out2RefIdeal.Facts] : Prop :=
  ∀ (m : (ℓ : Loc Cert.Out2RefIdeal.nD Cert.Out2RefIdeal.τ Cert.Out2RefIdeal.sig) → Buf (Elt Ideal) ℓ) (g : Dev Cert.Out2RefIdeal.nD → PrngReg), Pre_Out2RefIdeal m →
    θ_run (Cert.Out2RefIdeal.defs (F := Ideal)) (onTc (τ := Cert.Out2RefIdeal.τ) (Cert.Out2RefIdeal.main (F := Ideal))) ⟨m, fun _ => 0, g⟩ (fun r => (∀ c : Dev Cert.Out2RefIdeal.nD,
      r.2.mem ((c.tc : Thread Cert.Out2RefIdeal.nD Cert.Out2RefIdeal.τ).loc Cert.Out2RefIdeal.main_arg0) = m ((c.tc : Thread Cert.Out2RefIdeal.nD Cert.Out2RefIdeal.τ).loc Cert.Out2RefIdeal.main_arg0)
      ∧ r.2.mem ((c.tc : Thread Cert.Out2RefIdeal.nD Cert.Out2RefIdeal.τ).loc Cert.Out2RefIdeal.main_arg1) = m ((c.tc : Thread Cert.Out2RefIdeal.nD Cert.Out2RefIdeal.τ).loc Cert.Out2RefIdeal.main_arg1)
      ∧ r.2.mem ((c.tc : Thread Cert.Out2RefIdeal.nD Cert.Out2RefIdeal.τ).loc Cert.Out2RefIdeal.main_arg2) = m ((c.tc : Thread Cert.Out2RefIdeal.nD Cert.Out2RefIdeal.τ).loc Cert.Out2RefIdeal.main_arg2))
      ∧ r.2.sem = fun _ => 0)

def quiescent_Out3 [hOut3 : Cert.Out3.Facts] : Prop :=
  ∀ (m : (ℓ : Loc Cert.Out3.nD Cert.Out3.τ Cert.Out3.sig) → Buf (Elt Bits) ℓ) (g : Dev Cert.Out3.nD → PrngReg), Pre_Out3 m →
    θ_run (Cert.Out3.defs (F := Bits)) (onTc (τ := Cert.Out3.τ) (Cert.Out3.main (F := Bits))) ⟨m, fun _ => 0, g⟩ (fun r => (∀ c : Dev Cert.Out3.nD,
      r.2.mem ((c.tc : Thread Cert.Out3.nD Cert.Out3.τ).loc Cert.Out3.main_arg0) = m ((c.tc : Thread Cert.Out3.nD Cert.Out3.τ).loc Cert.Out3.main_arg0)
      ∧ r.2.mem ((c.tc : Thread Cert.Out3.nD Cert.Out3.τ).loc Cert.Out3.main_arg1) = m ((c.tc : Thread Cert.Out3.nD Cert.Out3.τ).loc Cert.Out3.main_arg1)
      ∧ r.2.mem ((c.tc : Thread Cert.Out3.nD Cert.Out3.τ).loc Cert.Out3.main_arg2) = m ((c.tc : Thread Cert.Out3.nD Cert.Out3.τ).loc Cert.Out3.main_arg2))
      ∧ r.2.sem = fun _ => 0)

def quiescent_Out3Ideal [hOut3Ideal : Cert.Out3Ideal.Facts] : Prop :=
  ∀ (m : (ℓ : Loc Cert.Out3Ideal.nD Cert.Out3Ideal.τ Cert.Out3Ideal.sig) → Buf (Elt Ideal) ℓ) (g : Dev Cert.Out3Ideal.nD → PrngReg), Pre_Out3Ideal m →
    θ_run (Cert.Out3Ideal.defs (F := Ideal)) (onTc (τ := Cert.Out3Ideal.τ) (Cert.Out3Ideal.main (F := Ideal))) ⟨m, fun _ => 0, g⟩ (fun r => (∀ c : Dev Cert.Out3Ideal.nD,
      r.2.mem ((c.tc : Thread Cert.Out3Ideal.nD Cert.Out3Ideal.τ).loc Cert.Out3Ideal.main_arg0) = m ((c.tc : Thread Cert.Out3Ideal.nD Cert.Out3Ideal.τ).loc Cert.Out3Ideal.main_arg0)
      ∧ r.2.mem ((c.tc : Thread Cert.Out3Ideal.nD Cert.Out3Ideal.τ).loc Cert.Out3Ideal.main_arg1) = m ((c.tc : Thread Cert.Out3Ideal.nD Cert.Out3Ideal.τ).loc Cert.Out3Ideal.main_arg1)
      ∧ r.2.mem ((c.tc : Thread Cert.Out3Ideal.nD Cert.Out3Ideal.τ).loc Cert.Out3Ideal.main_arg2) = m ((c.tc : Thread Cert.Out3Ideal.nD Cert.Out3Ideal.τ).loc Cert.Out3Ideal.main_arg2))
      ∧ r.2.sem = fun _ => 0)

def quiescent_Out3RefIdeal [hOut3RefIdeal : Cert.Out3RefIdeal.Facts] : Prop :=
  ∀ (m : (ℓ : Loc Cert.Out3RefIdeal.nD Cert.Out3RefIdeal.τ Cert.Out3RefIdeal.sig) → Buf (Elt Ideal) ℓ) (g : Dev Cert.Out3RefIdeal.nD → PrngReg), Pre_Out3RefIdeal m →
    θ_run (Cert.Out3RefIdeal.defs (F := Ideal)) (onTc (τ := Cert.Out3RefIdeal.τ) (Cert.Out3RefIdeal.main (F := Ideal))) ⟨m, fun _ => 0, g⟩ (fun r => (∀ c : Dev Cert.Out3RefIdeal.nD,
      r.2.mem ((c.tc : Thread Cert.Out3RefIdeal.nD Cert.Out3RefIdeal.τ).loc Cert.Out3RefIdeal.main_arg0) = m ((c.tc : Thread Cert.Out3RefIdeal.nD Cert.Out3RefIdeal.τ).loc Cert.Out3RefIdeal.main_arg0)
      ∧ r.2.mem ((c.tc : Thread Cert.Out3RefIdeal.nD Cert.Out3RefIdeal.τ).loc Cert.Out3RefIdeal.main_arg1) = m ((c.tc : Thread Cert.Out3RefIdeal.nD Cert.Out3RefIdeal.τ).loc Cert.Out3RefIdeal.main_arg1)
      ∧ r.2.mem ((c.tc : Thread Cert.Out3RefIdeal.nD Cert.Out3RefIdeal.τ).loc Cert.Out3RefIdeal.main_arg2) = m ((c.tc : Thread Cert.Out3RefIdeal.nD Cert.Out3RefIdeal.τ).loc Cert.Out3RefIdeal.main_arg2))
      ∧ r.2.sem = fun _ => 0)

def quiescent_DilA [hDilA : Cert.DilA.Facts] : Prop :=
  ∀ (m : (ℓ : Loc Cert.DilA.nD Cert.DilA.τ Cert.DilA.sig) → Buf (Elt Bits) ℓ) (g : Dev Cert.DilA.nD → PrngReg), Pre_DilA m →
    θ_run (Cert.DilA.defs (F := Bits)) (onTc (τ := Cert.DilA.τ) (Cert.DilA.main (F := Bits))) ⟨m, fun _ => 0, g⟩ (fun r => (∀ c : Dev Cert.DilA.nD,
      r.2.mem ((c.tc : Thread Cert.DilA.nD Cert.DilA.τ).loc Cert.DilA.main_arg0) = m ((c.tc : Thread Cert.DilA.nD Cert.DilA.τ).loc Cert.DilA.main_arg0)
      ∧ r.2.mem ((c.tc : Thread Cert.DilA.nD Cert.DilA.τ).loc Cert.DilA.main_arg1) = m ((c.tc : Thread Cert.DilA.nD Cert.DilA.τ).loc Cert.DilA.main_arg1)
      ∧ r.2.mem ((c.tc : Thread Cert.DilA.nD Cert.DilA.τ).loc Cert.DilA.main_arg2) = m ((c.tc : Thread Cert.DilA.nD Cert.DilA.τ).loc Cert.DilA.main_arg2))
      ∧ r.2.sem = fun _ => 0)

def quiescent_DilAIdeal [hDilAIdeal : Cert.DilAIdeal.Facts] : Prop :=
  ∀ (m : (ℓ : Loc Cert.DilAIdeal.nD Cert.DilAIdeal.τ Cert.DilAIdeal.sig) → Buf (Elt Ideal) ℓ) (g : Dev Cert.DilAIdeal.nD → PrngReg), Pre_DilAIdeal m →
    θ_run (Cert.DilAIdeal.defs (F := Ideal)) (onTc (τ := Cert.DilAIdeal.τ) (Cert.DilAIdeal.main (F := Ideal))) ⟨m, fun _ => 0, g⟩ (fun r => (∀ c : Dev Cert.DilAIdeal.nD,
      r.2.mem ((c.tc : Thread Cert.DilAIdeal.nD Cert.DilAIdeal.τ).loc Cert.DilAIdeal.main_arg0) = m ((c.tc : Thread Cert.DilAIdeal.nD Cert.DilAIdeal.τ).loc Cert.DilAIdeal.main_arg0)
      ∧ r.2.mem ((c.tc : Thread Cert.DilAIdeal.nD Cert.DilAIdeal.τ).loc Cert.DilAIdeal.main_arg1) = m ((c.tc : Thread Cert.DilAIdeal.nD Cert.DilAIdeal.τ).loc Cert.DilAIdeal.main_arg1)
      ∧ r.2.mem ((c.tc : Thread Cert.DilAIdeal.nD Cert.DilAIdeal.τ).loc Cert.DilAIdeal.main_arg2) = m ((c.tc : Thread Cert.DilAIdeal.nD Cert.DilAIdeal.τ).loc Cert.DilAIdeal.main_arg2))
      ∧ r.2.sem = fun _ => 0)

def quiescent_DilARefIdeal [hDilARefIdeal : Cert.DilARefIdeal.Facts] : Prop :=
  ∀ (m : (ℓ : Loc Cert.DilARefIdeal.nD Cert.DilARefIdeal.τ Cert.DilARefIdeal.sig) → Buf (Elt Ideal) ℓ) (g : Dev Cert.DilARefIdeal.nD → PrngReg), Pre_DilARefIdeal m →
    θ_run (Cert.DilARefIdeal.defs (F := Ideal)) (onTc (τ := Cert.DilARefIdeal.τ) (Cert.DilARefIdeal.main (F := Ideal))) ⟨m, fun _ => 0, g⟩ (fun r => (∀ c : Dev Cert.DilARefIdeal.nD,
      r.2.mem ((c.tc : Thread Cert.DilARefIdeal.nD Cert.DilARefIdeal.τ).loc Cert.DilARefIdeal.main_arg0) = m ((c.tc : Thread Cert.DilARefIdeal.nD Cert.DilARefIdeal.τ).loc Cert.DilARefIdeal.main_arg0)
      ∧ r.2.mem ((c.tc : Thread Cert.DilARefIdeal.nD Cert.DilARefIdeal.τ).loc Cert.DilARefIdeal.main_arg1) = m ((c.tc : Thread Cert.DilARefIdeal.nD Cert.DilARefIdeal.τ).loc Cert.DilARefIdeal.main_arg1)
      ∧ r.2.mem ((c.tc : Thread Cert.DilARefIdeal.nD Cert.DilARefIdeal.τ).loc Cert.DilARefIdeal.main_arg2) = m ((c.tc : Thread Cert.DilARefIdeal.nD Cert.DilARefIdeal.τ).loc Cert.DilARefIdeal.main_arg2))
      ∧ r.2.sem = fun _ => 0)

def quiescent_DilB [hDilB : Cert.DilB.Facts] : Prop :=
  ∀ (m : (ℓ : Loc Cert.DilB.nD Cert.DilB.τ Cert.DilB.sig) → Buf (Elt Bits) ℓ) (g : Dev Cert.DilB.nD → PrngReg), Pre_DilB m →
    θ_run (Cert.DilB.defs (F := Bits)) (onTc (τ := Cert.DilB.τ) (Cert.DilB.main (F := Bits))) ⟨m, fun _ => 0, g⟩ (fun r => (∀ c : Dev Cert.DilB.nD,
      r.2.mem ((c.tc : Thread Cert.DilB.nD Cert.DilB.τ).loc Cert.DilB.main_arg0) = m ((c.tc : Thread Cert.DilB.nD Cert.DilB.τ).loc Cert.DilB.main_arg0)
      ∧ r.2.mem ((c.tc : Thread Cert.DilB.nD Cert.DilB.τ).loc Cert.DilB.main_arg1) = m ((c.tc : Thread Cert.DilB.nD Cert.DilB.τ).loc Cert.DilB.main_arg1)
      ∧ r.2.mem ((c.tc : Thread Cert.DilB.nD Cert.DilB.τ).loc Cert.DilB.main_arg2) = m ((c.tc : Thread Cert.DilB.nD Cert.DilB.τ).loc Cert.DilB.main_arg2))
      ∧ r.2.sem = fun _ => 0)

def quiescent_DilBIdeal [hDilBIdeal : Cert.DilBIdeal.Facts] : Prop :=
  ∀ (m : (ℓ : Loc Cert.DilBIdeal.nD Cert.DilBIdeal.τ Cert.DilBIdeal.sig) → Buf (Elt Ideal) ℓ) (g : Dev Cert.DilBIdeal.nD → PrngReg), Pre_DilBIdeal m →
    θ_run (Cert.DilBIdeal.defs (F := Ideal)) (onTc (τ := Cert.DilBIdeal.τ) (Cert.DilBIdeal.main (F := Ideal))) ⟨m, fun _ => 0, g⟩ (fun r => (∀ c : Dev Cert.DilBIdeal.nD,
      r.2.mem ((c.tc : Thread Cert.DilBIdeal.nD Cert.DilBIdeal.τ).loc Cert.DilBIdeal.main_arg0) = m ((c.tc : Thread Cert.DilBIdeal.nD Cert.DilBIdeal.τ).loc Cert.DilBIdeal.main_arg0)
      ∧ r.2.mem ((c.tc : Thread Cert.DilBIdeal.nD Cert.DilBIdeal.τ).loc Cert.DilBIdeal.main_arg1) = m ((c.tc : Thread Cert.DilBIdeal.nD Cert.DilBIdeal.τ).loc Cert.DilBIdeal.main_arg1)
      ∧ r.2.mem ((c.tc : Thread Cert.DilBIdeal.nD Cert.DilBIdeal.τ).loc Cert.DilBIdeal.main_arg2) = m ((c.tc : Thread Cert.DilBIdeal.nD Cert.DilBIdeal.τ).loc Cert.DilBIdeal.main_arg2))
      ∧ r.2.sem = fun _ => 0)

def quiescent_DilBRefIdeal [hDilBRefIdeal : Cert.DilBRefIdeal.Facts] : Prop :=
  ∀ (m : (ℓ : Loc Cert.DilBRefIdeal.nD Cert.DilBRefIdeal.τ Cert.DilBRefIdeal.sig) → Buf (Elt Ideal) ℓ) (g : Dev Cert.DilBRefIdeal.nD → PrngReg), Pre_DilBRefIdeal m →
    θ_run (Cert.DilBRefIdeal.defs (F := Ideal)) (onTc (τ := Cert.DilBRefIdeal.τ) (Cert.DilBRefIdeal.main (F := Ideal))) ⟨m, fun _ => 0, g⟩ (fun r => (∀ c : Dev Cert.DilBRefIdeal.nD,
      r.2.mem ((c.tc : Thread Cert.DilBRefIdeal.nD Cert.DilBRefIdeal.τ).loc Cert.DilBRefIdeal.main_arg0) = m ((c.tc : Thread Cert.DilBRefIdeal.nD Cert.DilBRefIdeal.τ).loc Cert.DilBRefIdeal.main_arg0)
      ∧ r.2.mem ((c.tc : Thread Cert.DilBRefIdeal.nD Cert.DilBRefIdeal.τ).loc Cert.DilBRefIdeal.main_arg1) = m ((c.tc : Thread Cert.DilBRefIdeal.nD Cert.DilBRefIdeal.τ).loc Cert.DilBRefIdeal.main_arg1)
      ∧ r.2.mem ((c.tc : Thread Cert.DilBRefIdeal.nD Cert.DilBRefIdeal.τ).loc Cert.DilBRefIdeal.main_arg2) = m ((c.tc : Thread Cert.DilBRefIdeal.nD Cert.DilBRefIdeal.τ).loc Cert.DilBRefIdeal.main_arg2))
      ∧ r.2.sem = fun _ => 0)

def quiescent_DilC [hDilC : Cert.DilC.Facts] : Prop :=
  ∀ (m : (ℓ : Loc Cert.DilC.nD Cert.DilC.τ Cert.DilC.sig) → Buf (Elt Bits) ℓ) (g : Dev Cert.DilC.nD → PrngReg), Pre_DilC m →
    θ_run (Cert.DilC.defs (F := Bits)) (onTc (τ := Cert.DilC.τ) (Cert.DilC.main (F := Bits))) ⟨m, fun _ => 0, g⟩ (fun r => (∀ c : Dev Cert.DilC.nD,
      r.2.mem ((c.tc : Thread Cert.DilC.nD Cert.DilC.τ).loc Cert.DilC.main_arg0) = m ((c.tc : Thread Cert.DilC.nD Cert.DilC.τ).loc Cert.DilC.main_arg0)
      ∧ r.2.mem ((c.tc : Thread Cert.DilC.nD Cert.DilC.τ).loc Cert.DilC.main_arg1) = m ((c.tc : Thread Cert.DilC.nD Cert.DilC.τ).loc Cert.DilC.main_arg1)
      ∧ r.2.mem ((c.tc : Thread Cert.DilC.nD Cert.DilC.τ).loc Cert.DilC.main_arg2) = m ((c.tc : Thread Cert.DilC.nD Cert.DilC.τ).loc Cert.DilC.main_arg2))
      ∧ r.2.sem = fun _ => 0)

def quiescent_DilCIdeal [hDilCIdeal : Cert.DilCIdeal.Facts] : Prop :=
  ∀ (m : (ℓ : Loc Cert.DilCIdeal.nD Cert.DilCIdeal.τ Cert.DilCIdeal.sig) → Buf (Elt Ideal) ℓ) (g : Dev Cert.DilCIdeal.nD → PrngReg), Pre_DilCIdeal m →
    θ_run (Cert.DilCIdeal.defs (F := Ideal)) (onTc (τ := Cert.DilCIdeal.τ) (Cert.DilCIdeal.main (F := Ideal))) ⟨m, fun _ => 0, g⟩ (fun r => (∀ c : Dev Cert.DilCIdeal.nD,
      r.2.mem ((c.tc : Thread Cert.DilCIdeal.nD Cert.DilCIdeal.τ).loc Cert.DilCIdeal.main_arg0) = m ((c.tc : Thread Cert.DilCIdeal.nD Cert.DilCIdeal.τ).loc Cert.DilCIdeal.main_arg0)
      ∧ r.2.mem ((c.tc : Thread Cert.DilCIdeal.nD Cert.DilCIdeal.τ).loc Cert.DilCIdeal.main_arg1) = m ((c.tc : Thread Cert.DilCIdeal.nD Cert.DilCIdeal.τ).loc Cert.DilCIdeal.main_arg1)
      ∧ r.2.mem ((c.tc : Thread Cert.DilCIdeal.nD Cert.DilCIdeal.τ).loc Cert.DilCIdeal.main_arg2) = m ((c.tc : Thread Cert.DilCIdeal.nD Cert.DilCIdeal.τ).loc Cert.DilCIdeal.main_arg2))
      ∧ r.2.sem = fun _ => 0)

def quiescent_DilCRefIdeal [hDilCRefIdeal : Cert.DilCRefIdeal.Facts] : Prop :=
  ∀ (m : (ℓ : Loc Cert.DilCRefIdeal.nD Cert.DilCRefIdeal.τ Cert.DilCRefIdeal.sig) → Buf (Elt Ideal) ℓ) (g : Dev Cert.DilCRefIdeal.nD → PrngReg), Pre_DilCRefIdeal m →
    θ_run (Cert.DilCRefIdeal.defs (F := Ideal)) (onTc (τ := Cert.DilCRefIdeal.τ) (Cert.DilCRefIdeal.main (F := Ideal))) ⟨m, fun _ => 0, g⟩ (fun r => (∀ c : Dev Cert.DilCRefIdeal.nD,
      r.2.mem ((c.tc : Thread Cert.DilCRefIdeal.nD Cert.DilCRefIdeal.τ).loc Cert.DilCRefIdeal.main_arg0) = m ((c.tc : Thread Cert.DilCRefIdeal.nD Cert.DilCRefIdeal.τ).loc Cert.DilCRefIdeal.main_arg0)
      ∧ r.2.mem ((c.tc : Thread Cert.DilCRefIdeal.nD Cert.DilCRefIdeal.τ).loc Cert.DilCRefIdeal.main_arg1) = m ((c.tc : Thread Cert.DilCRefIdeal.nD Cert.DilCRefIdeal.τ).loc Cert.DilCRefIdeal.main_arg1)
      ∧ r.2.mem ((c.tc : Thread Cert.DilCRefIdeal.nD Cert.DilCRefIdeal.τ).loc Cert.DilCRefIdeal.main_arg2) = m ((c.tc : Thread Cert.DilCRefIdeal.nD Cert.DilCRefIdeal.τ).loc Cert.DilCRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Comb0 [hComb0 : Cert.Comb0.Facts] : Prop :=
  ∀ (m : (ℓ : Loc Cert.Comb0.nD Cert.Comb0.τ Cert.Comb0.sig) → Buf (Elt Bits) ℓ) (g : Dev Cert.Comb0.nD → PrngReg), Pre_Comb0 m →
    θ_run (Cert.Comb0.defs (F := Bits)) (onTc (τ := Cert.Comb0.τ) (Cert.Comb0.main (F := Bits))) ⟨m, fun _ => 0, g⟩ (fun r => (∀ c : Dev Cert.Comb0.nD,
      r.2.mem ((c.tc : Thread Cert.Comb0.nD Cert.Comb0.τ).loc Cert.Comb0.main_arg0) = m ((c.tc : Thread Cert.Comb0.nD Cert.Comb0.τ).loc Cert.Comb0.main_arg0)
      ∧ r.2.mem ((c.tc : Thread Cert.Comb0.nD Cert.Comb0.τ).loc Cert.Comb0.main_arg1) = m ((c.tc : Thread Cert.Comb0.nD Cert.Comb0.τ).loc Cert.Comb0.main_arg1)
      ∧ r.2.mem ((c.tc : Thread Cert.Comb0.nD Cert.Comb0.τ).loc Cert.Comb0.main_arg2) = m ((c.tc : Thread Cert.Comb0.nD Cert.Comb0.τ).loc Cert.Comb0.main_arg2)
      ∧ r.2.mem ((c.tc : Thread Cert.Comb0.nD Cert.Comb0.τ).loc Cert.Comb0.main_arg3) = m ((c.tc : Thread Cert.Comb0.nD Cert.Comb0.τ).loc Cert.Comb0.main_arg3))
      ∧ r.2.sem = fun _ => 0)

def quiescent_Comb0Ideal [hComb0Ideal : Cert.Comb0Ideal.Facts] : Prop :=
  ∀ (m : (ℓ : Loc Cert.Comb0Ideal.nD Cert.Comb0Ideal.τ Cert.Comb0Ideal.sig) → Buf (Elt Ideal) ℓ) (g : Dev Cert.Comb0Ideal.nD → PrngReg), Pre_Comb0Ideal m →
    θ_run (Cert.Comb0Ideal.defs (F := Ideal)) (onTc (τ := Cert.Comb0Ideal.τ) (Cert.Comb0Ideal.main (F := Ideal))) ⟨m, fun _ => 0, g⟩ (fun r => (∀ c : Dev Cert.Comb0Ideal.nD,
      r.2.mem ((c.tc : Thread Cert.Comb0Ideal.nD Cert.Comb0Ideal.τ).loc Cert.Comb0Ideal.main_arg0) = m ((c.tc : Thread Cert.Comb0Ideal.nD Cert.Comb0Ideal.τ).loc Cert.Comb0Ideal.main_arg0)
      ∧ r.2.mem ((c.tc : Thread Cert.Comb0Ideal.nD Cert.Comb0Ideal.τ).loc Cert.Comb0Ideal.main_arg1) = m ((c.tc : Thread Cert.Comb0Ideal.nD Cert.Comb0Ideal.τ).loc Cert.Comb0Ideal.main_arg1)
      ∧ r.2.mem ((c.tc : Thread Cert.Comb0Ideal.nD Cert.Comb0Ideal.τ).loc Cert.Comb0Ideal.main_arg2) = m ((c.tc : Thread Cert.Comb0Ideal.nD Cert.Comb0Ideal.τ).loc Cert.Comb0Ideal.main_arg2)
      ∧ r.2.mem ((c.tc : Thread Cert.Comb0Ideal.nD Cert.Comb0Ideal.τ).loc Cert.Comb0Ideal.main_arg3) = m ((c.tc : Thread Cert.Comb0Ideal.nD Cert.Comb0Ideal.τ).loc Cert.Comb0Ideal.main_arg3))
      ∧ r.2.sem = fun _ => 0)

def quiescent_Comb0RefIdeal [hComb0RefIdeal : Cert.Comb0RefIdeal.Facts] : Prop :=
  ∀ (m : (ℓ : Loc Cert.Comb0RefIdeal.nD Cert.Comb0RefIdeal.τ Cert.Comb0RefIdeal.sig) → Buf (Elt Ideal) ℓ) (g : Dev Cert.Comb0RefIdeal.nD → PrngReg), Pre_Comb0RefIdeal m →
    θ_run (Cert.Comb0RefIdeal.defs (F := Ideal)) (onTc (τ := Cert.Comb0RefIdeal.τ) (Cert.Comb0RefIdeal.main (F := Ideal))) ⟨m, fun _ => 0, g⟩ (fun r => (∀ c : Dev Cert.Comb0RefIdeal.nD,
      r.2.mem ((c.tc : Thread Cert.Comb0RefIdeal.nD Cert.Comb0RefIdeal.τ).loc Cert.Comb0RefIdeal.main_arg0) = m ((c.tc : Thread Cert.Comb0RefIdeal.nD Cert.Comb0RefIdeal.τ).loc Cert.Comb0RefIdeal.main_arg0)
      ∧ r.2.mem ((c.tc : Thread Cert.Comb0RefIdeal.nD Cert.Comb0RefIdeal.τ).loc Cert.Comb0RefIdeal.main_arg1) = m ((c.tc : Thread Cert.Comb0RefIdeal.nD Cert.Comb0RefIdeal.τ).loc Cert.Comb0RefIdeal.main_arg1)
      ∧ r.2.mem ((c.tc : Thread Cert.Comb0RefIdeal.nD Cert.Comb0RefIdeal.τ).loc Cert.Comb0RefIdeal.main_arg2) = m ((c.tc : Thread Cert.Comb0RefIdeal.nD Cert.Comb0RefIdeal.τ).loc Cert.Comb0RefIdeal.main_arg2)
      ∧ r.2.mem ((c.tc : Thread Cert.Comb0RefIdeal.nD Cert.Comb0RefIdeal.τ).loc Cert.Comb0RefIdeal.main_arg3) = m ((c.tc : Thread Cert.Comb0RefIdeal.nD Cert.Comb0RefIdeal.τ).loc Cert.Comb0RefIdeal.main_arg3))
      ∧ r.2.sem = fun _ => 0)

def quiescent_Comb1 [hComb1 : Cert.Comb1.Facts] : Prop :=
  ∀ (m : (ℓ : Loc Cert.Comb1.nD Cert.Comb1.τ Cert.Comb1.sig) → Buf (Elt Bits) ℓ) (g : Dev Cert.Comb1.nD → PrngReg), Pre_Comb1 m →
    θ_run (Cert.Comb1.defs (F := Bits)) (onTc (τ := Cert.Comb1.τ) (Cert.Comb1.main (F := Bits))) ⟨m, fun _ => 0, g⟩ (fun r => (∀ c : Dev Cert.Comb1.nD,
      r.2.mem ((c.tc : Thread Cert.Comb1.nD Cert.Comb1.τ).loc Cert.Comb1.main_arg0) = m ((c.tc : Thread Cert.Comb1.nD Cert.Comb1.τ).loc Cert.Comb1.main_arg0)
      ∧ r.2.mem ((c.tc : Thread Cert.Comb1.nD Cert.Comb1.τ).loc Cert.Comb1.main_arg1) = m ((c.tc : Thread Cert.Comb1.nD Cert.Comb1.τ).loc Cert.Comb1.main_arg1)
      ∧ r.2.mem ((c.tc : Thread Cert.Comb1.nD Cert.Comb1.τ).loc Cert.Comb1.main_arg2) = m ((c.tc : Thread Cert.Comb1.nD Cert.Comb1.τ).loc Cert.Comb1.main_arg2)
      ∧ r.2.mem ((c.tc : Thread Cert.Comb1.nD Cert.Comb1.τ).loc Cert.Comb1.main_arg3) = m ((c.tc : Thread Cert.Comb1.nD Cert.Comb1.τ).loc Cert.Comb1.main_arg3))
      ∧ r.2.sem = fun _ => 0)

def quiescent_Comb1Ideal [hComb1Ideal : Cert.Comb1Ideal.Facts] : Prop :=
  ∀ (m : (ℓ : Loc Cert.Comb1Ideal.nD Cert.Comb1Ideal.τ Cert.Comb1Ideal.sig) → Buf (Elt Ideal) ℓ) (g : Dev Cert.Comb1Ideal.nD → PrngReg), Pre_Comb1Ideal m →
    θ_run (Cert.Comb1Ideal.defs (F := Ideal)) (onTc (τ := Cert.Comb1Ideal.τ) (Cert.Comb1Ideal.main (F := Ideal))) ⟨m, fun _ => 0, g⟩ (fun r => (∀ c : Dev Cert.Comb1Ideal.nD,
      r.2.mem ((c.tc : Thread Cert.Comb1Ideal.nD Cert.Comb1Ideal.τ).loc Cert.Comb1Ideal.main_arg0) = m ((c.tc : Thread Cert.Comb1Ideal.nD Cert.Comb1Ideal.τ).loc Cert.Comb1Ideal.main_arg0)
      ∧ r.2.mem ((c.tc : Thread Cert.Comb1Ideal.nD Cert.Comb1Ideal.τ).loc Cert.Comb1Ideal.main_arg1) = m ((c.tc : Thread Cert.Comb1Ideal.nD Cert.Comb1Ideal.τ).loc Cert.Comb1Ideal.main_arg1)
      ∧ r.2.mem ((c.tc : Thread Cert.Comb1Ideal.nD Cert.Comb1Ideal.τ).loc Cert.Comb1Ideal.main_arg2) = m ((c.tc : Thread Cert.Comb1Ideal.nD Cert.Comb1Ideal.τ).loc Cert.Comb1Ideal.main_arg2)
      ∧ r.2.mem ((c.tc : Thread Cert.Comb1Ideal.nD Cert.Comb1Ideal.τ).loc Cert.Comb1Ideal.main_arg3) = m ((c.tc : Thread Cert.Comb1Ideal.nD Cert.Comb1Ideal.τ).loc Cert.Comb1Ideal.main_arg3))
      ∧ r.2.sem = fun _ => 0)

def quiescent_Comb1RefIdeal [hComb1RefIdeal : Cert.Comb1RefIdeal.Facts] : Prop :=
  ∀ (m : (ℓ : Loc Cert.Comb1RefIdeal.nD Cert.Comb1RefIdeal.τ Cert.Comb1RefIdeal.sig) → Buf (Elt Ideal) ℓ) (g : Dev Cert.Comb1RefIdeal.nD → PrngReg), Pre_Comb1RefIdeal m →
    θ_run (Cert.Comb1RefIdeal.defs (F := Ideal)) (onTc (τ := Cert.Comb1RefIdeal.τ) (Cert.Comb1RefIdeal.main (F := Ideal))) ⟨m, fun _ => 0, g⟩ (fun r => (∀ c : Dev Cert.Comb1RefIdeal.nD,
      r.2.mem ((c.tc : Thread Cert.Comb1RefIdeal.nD Cert.Comb1RefIdeal.τ).loc Cert.Comb1RefIdeal.main_arg0) = m ((c.tc : Thread Cert.Comb1RefIdeal.nD Cert.Comb1RefIdeal.τ).loc Cert.Comb1RefIdeal.main_arg0)
      ∧ r.2.mem ((c.tc : Thread Cert.Comb1RefIdeal.nD Cert.Comb1RefIdeal.τ).loc Cert.Comb1RefIdeal.main_arg1) = m ((c.tc : Thread Cert.Comb1RefIdeal.nD Cert.Comb1RefIdeal.τ).loc Cert.Comb1RefIdeal.main_arg1)
      ∧ r.2.mem ((c.tc : Thread Cert.Comb1RefIdeal.nD Cert.Comb1RefIdeal.τ).loc Cert.Comb1RefIdeal.main_arg2) = m ((c.tc : Thread Cert.Comb1RefIdeal.nD Cert.Comb1RefIdeal.τ).loc Cert.Comb1RefIdeal.main_arg2)
      ∧ r.2.mem ((c.tc : Thread Cert.Comb1RefIdeal.nD Cert.Comb1RefIdeal.τ).loc Cert.Comb1RefIdeal.main_arg3) = m ((c.tc : Thread Cert.Comb1RefIdeal.nD Cert.Comb1RefIdeal.τ).loc Cert.Comb1RefIdeal.main_arg3))
      ∧ r.2.sem = fun _ => 0)

def quiescent_Comb2 [hComb2 : Cert.Comb2.Facts] : Prop :=
  ∀ (m : (ℓ : Loc Cert.Comb2.nD Cert.Comb2.τ Cert.Comb2.sig) → Buf (Elt Bits) ℓ) (g : Dev Cert.Comb2.nD → PrngReg), Pre_Comb2 m →
    θ_run (Cert.Comb2.defs (F := Bits)) (onTc (τ := Cert.Comb2.τ) (Cert.Comb2.main (F := Bits))) ⟨m, fun _ => 0, g⟩ (fun r => (∀ c : Dev Cert.Comb2.nD,
      r.2.mem ((c.tc : Thread Cert.Comb2.nD Cert.Comb2.τ).loc Cert.Comb2.main_arg0) = m ((c.tc : Thread Cert.Comb2.nD Cert.Comb2.τ).loc Cert.Comb2.main_arg0)
      ∧ r.2.mem ((c.tc : Thread Cert.Comb2.nD Cert.Comb2.τ).loc Cert.Comb2.main_arg1) = m ((c.tc : Thread Cert.Comb2.nD Cert.Comb2.τ).loc Cert.Comb2.main_arg1)
      ∧ r.2.mem ((c.tc : Thread Cert.Comb2.nD Cert.Comb2.τ).loc Cert.Comb2.main_arg2) = m ((c.tc : Thread Cert.Comb2.nD Cert.Comb2.τ).loc Cert.Comb2.main_arg2)
      ∧ r.2.mem ((c.tc : Thread Cert.Comb2.nD Cert.Comb2.τ).loc Cert.Comb2.main_arg3) = m ((c.tc : Thread Cert.Comb2.nD Cert.Comb2.τ).loc Cert.Comb2.main_arg3))
      ∧ r.2.sem = fun _ => 0)

def quiescent_Comb2Ideal [hComb2Ideal : Cert.Comb2Ideal.Facts] : Prop :=
  ∀ (m : (ℓ : Loc Cert.Comb2Ideal.nD Cert.Comb2Ideal.τ Cert.Comb2Ideal.sig) → Buf (Elt Ideal) ℓ) (g : Dev Cert.Comb2Ideal.nD → PrngReg), Pre_Comb2Ideal m →
    θ_run (Cert.Comb2Ideal.defs (F := Ideal)) (onTc (τ := Cert.Comb2Ideal.τ) (Cert.Comb2Ideal.main (F := Ideal))) ⟨m, fun _ => 0, g⟩ (fun r => (∀ c : Dev Cert.Comb2Ideal.nD,
      r.2.mem ((c.tc : Thread Cert.Comb2Ideal.nD Cert.Comb2Ideal.τ).loc Cert.Comb2Ideal.main_arg0) = m ((c.tc : Thread Cert.Comb2Ideal.nD Cert.Comb2Ideal.τ).loc Cert.Comb2Ideal.main_arg0)
      ∧ r.2.mem ((c.tc : Thread Cert.Comb2Ideal.nD Cert.Comb2Ideal.τ).loc Cert.Comb2Ideal.main_arg1) = m ((c.tc : Thread Cert.Comb2Ideal.nD Cert.Comb2Ideal.τ).loc Cert.Comb2Ideal.main_arg1)
      ∧ r.2.mem ((c.tc : Thread Cert.Comb2Ideal.nD Cert.Comb2Ideal.τ).loc Cert.Comb2Ideal.main_arg2) = m ((c.tc : Thread Cert.Comb2Ideal.nD Cert.Comb2Ideal.τ).loc Cert.Comb2Ideal.main_arg2)
      ∧ r.2.mem ((c.tc : Thread Cert.Comb2Ideal.nD Cert.Comb2Ideal.τ).loc Cert.Comb2Ideal.main_arg3) = m ((c.tc : Thread Cert.Comb2Ideal.nD Cert.Comb2Ideal.τ).loc Cert.Comb2Ideal.main_arg3))
      ∧ r.2.sem = fun _ => 0)

def quiescent_Comb2RefIdeal [hComb2RefIdeal : Cert.Comb2RefIdeal.Facts] : Prop :=
  ∀ (m : (ℓ : Loc Cert.Comb2RefIdeal.nD Cert.Comb2RefIdeal.τ Cert.Comb2RefIdeal.sig) → Buf (Elt Ideal) ℓ) (g : Dev Cert.Comb2RefIdeal.nD → PrngReg), Pre_Comb2RefIdeal m →
    θ_run (Cert.Comb2RefIdeal.defs (F := Ideal)) (onTc (τ := Cert.Comb2RefIdeal.τ) (Cert.Comb2RefIdeal.main (F := Ideal))) ⟨m, fun _ => 0, g⟩ (fun r => (∀ c : Dev Cert.Comb2RefIdeal.nD,
      r.2.mem ((c.tc : Thread Cert.Comb2RefIdeal.nD Cert.Comb2RefIdeal.τ).loc Cert.Comb2RefIdeal.main_arg0) = m ((c.tc : Thread Cert.Comb2RefIdeal.nD Cert.Comb2RefIdeal.τ).loc Cert.Comb2RefIdeal.main_arg0)
      ∧ r.2.mem ((c.tc : Thread Cert.Comb2RefIdeal.nD Cert.Comb2RefIdeal.τ).loc Cert.Comb2RefIdeal.main_arg1) = m ((c.tc : Thread Cert.Comb2RefIdeal.nD Cert.Comb2RefIdeal.τ).loc Cert.Comb2RefIdeal.main_arg1)
      ∧ r.2.mem ((c.tc : Thread Cert.Comb2RefIdeal.nD Cert.Comb2RefIdeal.τ).loc Cert.Comb2RefIdeal.main_arg2) = m ((c.tc : Thread Cert.Comb2RefIdeal.nD Cert.Comb2RefIdeal.τ).loc Cert.Comb2RefIdeal.main_arg2)
      ∧ r.2.mem ((c.tc : Thread Cert.Comb2RefIdeal.nD Cert.Comb2RefIdeal.τ).loc Cert.Comb2RefIdeal.main_arg3) = m ((c.tc : Thread Cert.Comb2RefIdeal.nD Cert.Comb2RefIdeal.τ).loc Cert.Comb2RefIdeal.main_arg3))
      ∧ r.2.sem = fun _ => 0)

def quiescent_Comb3 [hComb3 : Cert.Comb3.Facts] : Prop :=
  ∀ (m : (ℓ : Loc Cert.Comb3.nD Cert.Comb3.τ Cert.Comb3.sig) → Buf (Elt Bits) ℓ) (g : Dev Cert.Comb3.nD → PrngReg), Pre_Comb3 m →
    θ_run (Cert.Comb3.defs (F := Bits)) (onTc (τ := Cert.Comb3.τ) (Cert.Comb3.main (F := Bits))) ⟨m, fun _ => 0, g⟩ (fun r => (∀ c : Dev Cert.Comb3.nD,
      r.2.mem ((c.tc : Thread Cert.Comb3.nD Cert.Comb3.τ).loc Cert.Comb3.main_arg0) = m ((c.tc : Thread Cert.Comb3.nD Cert.Comb3.τ).loc Cert.Comb3.main_arg0)
      ∧ r.2.mem ((c.tc : Thread Cert.Comb3.nD Cert.Comb3.τ).loc Cert.Comb3.main_arg1) = m ((c.tc : Thread Cert.Comb3.nD Cert.Comb3.τ).loc Cert.Comb3.main_arg1)
      ∧ r.2.mem ((c.tc : Thread Cert.Comb3.nD Cert.Comb3.τ).loc Cert.Comb3.main_arg2) = m ((c.tc : Thread Cert.Comb3.nD Cert.Comb3.τ).loc Cert.Comb3.main_arg2)
      ∧ r.2.mem ((c.tc : Thread Cert.Comb3.nD Cert.Comb3.τ).loc Cert.Comb3.main_arg3) = m ((c.tc : Thread Cert.Comb3.nD Cert.Comb3.τ).loc Cert.Comb3.main_arg3))
      ∧ r.2.sem = fun _ => 0)

def quiescent_Comb3Ideal [hComb3Ideal : Cert.Comb3Ideal.Facts] : Prop :=
  ∀ (m : (ℓ : Loc Cert.Comb3Ideal.nD Cert.Comb3Ideal.τ Cert.Comb3Ideal.sig) → Buf (Elt Ideal) ℓ) (g : Dev Cert.Comb3Ideal.nD → PrngReg), Pre_Comb3Ideal m →
    θ_run (Cert.Comb3Ideal.defs (F := Ideal)) (onTc (τ := Cert.Comb3Ideal.τ) (Cert.Comb3Ideal.main (F := Ideal))) ⟨m, fun _ => 0, g⟩ (fun r => (∀ c : Dev Cert.Comb3Ideal.nD,
      r.2.mem ((c.tc : Thread Cert.Comb3Ideal.nD Cert.Comb3Ideal.τ).loc Cert.Comb3Ideal.main_arg0) = m ((c.tc : Thread Cert.Comb3Ideal.nD Cert.Comb3Ideal.τ).loc Cert.Comb3Ideal.main_arg0)
      ∧ r.2.mem ((c.tc : Thread Cert.Comb3Ideal.nD Cert.Comb3Ideal.τ).loc Cert.Comb3Ideal.main_arg1) = m ((c.tc : Thread Cert.Comb3Ideal.nD Cert.Comb3Ideal.τ).loc Cert.Comb3Ideal.main_arg1)
      ∧ r.2.mem ((c.tc : Thread Cert.Comb3Ideal.nD Cert.Comb3Ideal.τ).loc Cert.Comb3Ideal.main_arg2) = m ((c.tc : Thread Cert.Comb3Ideal.nD Cert.Comb3Ideal.τ).loc Cert.Comb3Ideal.main_arg2)
      ∧ r.2.mem ((c.tc : Thread Cert.Comb3Ideal.nD Cert.Comb3Ideal.τ).loc Cert.Comb3Ideal.main_arg3) = m ((c.tc : Thread Cert.Comb3Ideal.nD Cert.Comb3Ideal.τ).loc Cert.Comb3Ideal.main_arg3))
      ∧ r.2.sem = fun _ => 0)

def quiescent_Comb3RefIdeal [hComb3RefIdeal : Cert.Comb3RefIdeal.Facts] : Prop :=
  ∀ (m : (ℓ : Loc Cert.Comb3RefIdeal.nD Cert.Comb3RefIdeal.τ Cert.Comb3RefIdeal.sig) → Buf (Elt Ideal) ℓ) (g : Dev Cert.Comb3RefIdeal.nD → PrngReg), Pre_Comb3RefIdeal m →
    θ_run (Cert.Comb3RefIdeal.defs (F := Ideal)) (onTc (τ := Cert.Comb3RefIdeal.τ) (Cert.Comb3RefIdeal.main (F := Ideal))) ⟨m, fun _ => 0, g⟩ (fun r => (∀ c : Dev Cert.Comb3RefIdeal.nD,
      r.2.mem ((c.tc : Thread Cert.Comb3RefIdeal.nD Cert.Comb3RefIdeal.τ).loc Cert.Comb3RefIdeal.main_arg0) = m ((c.tc : Thread Cert.Comb3RefIdeal.nD Cert.Comb3RefIdeal.τ).loc Cert.Comb3RefIdeal.main_arg0)
      ∧ r.2.mem ((c.tc : Thread Cert.Comb3RefIdeal.nD Cert.Comb3RefIdeal.τ).loc Cert.Comb3RefIdeal.main_arg1) = m ((c.tc : Thread Cert.Comb3RefIdeal.nD Cert.Comb3RefIdeal.τ).loc Cert.Comb3RefIdeal.main_arg1)
      ∧ r.2.mem ((c.tc : Thread Cert.Comb3RefIdeal.nD Cert.Comb3RefIdeal.τ).loc Cert.Comb3RefIdeal.main_arg2) = m ((c.tc : Thread Cert.Comb3RefIdeal.nD Cert.Comb3RefIdeal.τ).loc Cert.Comb3RefIdeal.main_arg2)
      ∧ r.2.mem ((c.tc : Thread Cert.Comb3RefIdeal.nD Cert.Comb3RefIdeal.τ).loc Cert.Comb3RefIdeal.main_arg3) = m ((c.tc : Thread Cert.Comb3RefIdeal.nD Cert.Comb3RefIdeal.τ).loc Cert.Comb3RefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_GrpC [hGrpC : Cert.GrpC.Facts] : Prop :=
  ∀ (m : (ℓ : Loc Cert.GrpC.nD Cert.GrpC.τ Cert.GrpC.sig) → Buf (Elt Bits) ℓ) (g : Dev Cert.GrpC.nD → PrngReg), Pre_GrpC m →
    θ_run (Cert.GrpC.defs (F := Bits)) (onTc (τ := Cert.GrpC.τ) (Cert.GrpC.main (F := Bits))) ⟨m, fun _ => 0, g⟩ (fun r => (∀ c : Dev Cert.GrpC.nD,
      r.2.mem ((c.tc : Thread Cert.GrpC.nD Cert.GrpC.τ).loc Cert.GrpC.main_arg0) = m ((c.tc : Thread Cert.GrpC.nD Cert.GrpC.τ).loc Cert.GrpC.main_arg0)
      ∧ r.2.mem ((c.tc : Thread Cert.GrpC.nD Cert.GrpC.τ).loc Cert.GrpC.main_arg1) = m ((c.tc : Thread Cert.GrpC.nD Cert.GrpC.τ).loc Cert.GrpC.main_arg1)
      ∧ r.2.mem ((c.tc : Thread Cert.GrpC.nD Cert.GrpC.τ).loc Cert.GrpC.main_arg2) = m ((c.tc : Thread Cert.GrpC.nD Cert.GrpC.τ).loc Cert.GrpC.main_arg2))
      ∧ r.2.sem = fun _ => 0)

def quiescent_GrpCIdeal [hGrpCIdeal : Cert.GrpCIdeal.Facts] : Prop :=
  ∀ (m : (ℓ : Loc Cert.GrpCIdeal.nD Cert.GrpCIdeal.τ Cert.GrpCIdeal.sig) → Buf (Elt Ideal) ℓ) (g : Dev Cert.GrpCIdeal.nD → PrngReg), Pre_GrpCIdeal m →
    θ_run (Cert.GrpCIdeal.defs (F := Ideal)) (onTc (τ := Cert.GrpCIdeal.τ) (Cert.GrpCIdeal.main (F := Ideal))) ⟨m, fun _ => 0, g⟩ (fun r => (∀ c : Dev Cert.GrpCIdeal.nD,
      r.2.mem ((c.tc : Thread Cert.GrpCIdeal.nD Cert.GrpCIdeal.τ).loc Cert.GrpCIdeal.main_arg0) = m ((c.tc : Thread Cert.GrpCIdeal.nD Cert.GrpCIdeal.τ).loc Cert.GrpCIdeal.main_arg0)
      ∧ r.2.mem ((c.tc : Thread Cert.GrpCIdeal.nD Cert.GrpCIdeal.τ).loc Cert.GrpCIdeal.main_arg1) = m ((c.tc : Thread Cert.GrpCIdeal.nD Cert.GrpCIdeal.τ).loc Cert.GrpCIdeal.main_arg1)
      ∧ r.2.mem ((c.tc : Thread Cert.GrpCIdeal.nD Cert.GrpCIdeal.τ).loc Cert.GrpCIdeal.main_arg2) = m ((c.tc : Thread Cert.GrpCIdeal.nD Cert.GrpCIdeal.τ).loc Cert.GrpCIdeal.main_arg2))
      ∧ r.2.sem = fun _ => 0)

def quiescent_GrpCIdeal_pre_finite_group [hGrpCIdeal : Cert.GrpCIdeal.Facts] [hPre_finite_group : Cert.Pre_finite_group.Facts] : Prop :=
  ∀ (m : (ℓ : Loc Cert.GrpCIdeal.nD Cert.GrpCIdeal.τ Cert.GrpCIdeal.sig) → Buf (Elt Ideal) ℓ) (g : Dev Cert.GrpCIdeal.nD → PrngReg), Pre_GrpCIdeal_finite_group m →
    θ_run (Cert.GrpCIdeal.defs (F := Ideal)) (onTc (τ := Cert.GrpCIdeal.τ) (Cert.GrpCIdeal.main (F := Ideal))) ⟨m, fun _ => 0, g⟩ (fun r => (∀ c : Dev Cert.GrpCIdeal.nD,
      r.2.mem ((c.tc : Thread Cert.GrpCIdeal.nD Cert.GrpCIdeal.τ).loc Cert.GrpCIdeal.main_arg0) = m ((c.tc : Thread Cert.GrpCIdeal.nD Cert.GrpCIdeal.τ).loc Cert.GrpCIdeal.main_arg0)
      ∧ r.2.mem ((c.tc : Thread Cert.GrpCIdeal.nD Cert.GrpCIdeal.τ).loc Cert.GrpCIdeal.main_arg1) = m ((c.tc : Thread Cert.GrpCIdeal.nD Cert.GrpCIdeal.τ).loc Cert.GrpCIdeal.main_arg1)
      ∧ r.2.mem ((c.tc : Thread Cert.GrpCIdeal.nD Cert.GrpCIdeal.τ).loc Cert.GrpCIdeal.main_arg2) = m ((c.tc : Thread Cert.GrpCIdeal.nD Cert.GrpCIdeal.τ).loc Cert.GrpCIdeal.main_arg2))
      ∧ r.2.sem = fun _ => 0)

def quiescent_GrpCRefIdeal [hGrpCRefIdeal : Cert.GrpCRefIdeal.Facts] : Prop :=
  ∀ (m : (ℓ : Loc Cert.GrpCRefIdeal.nD Cert.GrpCRefIdeal.τ Cert.GrpCRefIdeal.sig) → Buf (Elt Ideal) ℓ) (g : Dev Cert.GrpCRefIdeal.nD → PrngReg), Pre_GrpCRefIdeal m →
    θ_run (Cert.GrpCRefIdeal.defs (F := Ideal)) (onTc (τ := Cert.GrpCRefIdeal.τ) (Cert.GrpCRefIdeal.main (F := Ideal))) ⟨m, fun _ => 0, g⟩ (fun r => (∀ c : Dev Cert.GrpCRefIdeal.nD,
      r.2.mem ((c.tc : Thread Cert.GrpCRefIdeal.nD Cert.GrpCRefIdeal.τ).loc Cert.GrpCRefIdeal.main_arg0) = m ((c.tc : Thread Cert.GrpCRefIdeal.nD Cert.GrpCRefIdeal.τ).loc Cert.GrpCRefIdeal.main_arg0)
      ∧ r.2.mem ((c.tc : Thread Cert.GrpCRefIdeal.nD Cert.GrpCRefIdeal.τ).loc Cert.GrpCRefIdeal.main_arg1) = m ((c.tc : Thread Cert.GrpCRefIdeal.nD Cert.GrpCRefIdeal.τ).loc Cert.GrpCRefIdeal.main_arg1)
      ∧ r.2.mem ((c.tc : Thread Cert.GrpCRefIdeal.nD Cert.GrpCRefIdeal.τ).loc Cert.GrpCRefIdeal.main_arg2) = m ((c.tc : Thread Cert.GrpCRefIdeal.nD Cert.GrpCRefIdeal.τ).loc Cert.GrpCRefIdeal.main_arg2))
      ∧ r.2.sem = fun _ => 0)

def quiescent_GrpCRefIdeal_pre_finite_group [hGrpCRefIdeal : Cert.GrpCRefIdeal.Facts] [hPre_finite_group : Cert.Pre_finite_group.Facts] : Prop :=
  ∀ (m : (ℓ : Loc Cert.GrpCRefIdeal.nD Cert.GrpCRefIdeal.τ Cert.GrpCRefIdeal.sig) → Buf (Elt Ideal) ℓ) (g : Dev Cert.GrpCRefIdeal.nD → PrngReg), Pre_GrpCRefIdeal_finite_group m →
    θ_run (Cert.GrpCRefIdeal.defs (F := Ideal)) (onTc (τ := Cert.GrpCRefIdeal.τ) (Cert.GrpCRefIdeal.main (F := Ideal))) ⟨m, fun _ => 0, g⟩ (fun r => (∀ c : Dev Cert.GrpCRefIdeal.nD,
      r.2.mem ((c.tc : Thread Cert.GrpCRefIdeal.nD Cert.GrpCRefIdeal.τ).loc Cert.GrpCRefIdeal.main_arg0) = m ((c.tc : Thread Cert.GrpCRefIdeal.nD Cert.GrpCRefIdeal.τ).loc Cert.GrpCRefIdeal.main_arg0)
      ∧ r.2.mem ((c.tc : Thread Cert.GrpCRefIdeal.nD Cert.GrpCRefIdeal.τ).loc Cert.GrpCRefIdeal.main_arg1) = m ((c.tc : Thread Cert.GrpCRefIdeal.nD Cert.GrpCRefIdeal.τ).loc Cert.GrpCRefIdeal.main_arg1)
      ∧ r.2.mem ((c.tc : Thread Cert.GrpCRefIdeal.nD Cert.GrpCRefIdeal.τ).loc Cert.GrpCRefIdeal.main_arg2) = m ((c.tc : Thread Cert.GrpCRefIdeal.nD Cert.GrpCRefIdeal.τ).loc Cert.GrpCRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Att3_Att3Ideal : Prop :=
  True

def algebraic_Att3Ideal_Att3RefIdeal_pre_finite [hAtt3Ideal : Cert.Att3Ideal.Facts] [hAtt3RefIdeal : Cert.Att3RefIdeal.Facts] [hPre_finite : Cert.Pre_finite.Facts] : Prop :=
  ∀ (m : (ℓ : Loc Cert.Att3Ideal.nD Cert.Att3Ideal.τ Cert.Att3Ideal.sig) → Buf (Elt Ideal) ℓ) (g : Dev Cert.Att3Ideal.nD → PrngReg)
    (m' : (ℓ : Loc Cert.Att3RefIdeal.nD Cert.Att3RefIdeal.τ Cert.Att3RefIdeal.sig) → Buf (Elt Ideal) ℓ) (g' : Dev Cert.Att3RefIdeal.nD → PrngReg), Pre_Att3Ideal_finite m →
    (∀ c : Dev Cert.Att3Ideal.nD,
      m' ((c.tc : Thread Cert.Att3RefIdeal.nD Cert.Att3RefIdeal.τ).loc Cert.Att3RefIdeal.main_arg0) = m ((c.tc : Thread Cert.Att3Ideal.nD Cert.Att3Ideal.τ).loc Cert.Att3Ideal.main_arg0)
      ∧ m' ((c.tc : Thread Cert.Att3RefIdeal.nD Cert.Att3RefIdeal.τ).loc Cert.Att3RefIdeal.main_arg1) = m ((c.tc : Thread Cert.Att3Ideal.nD Cert.Att3Ideal.τ).loc Cert.Att3Ideal.main_arg1)
      ∧ m' ((c.tc : Thread Cert.Att3RefIdeal.nD Cert.Att3RefIdeal.τ).loc Cert.Att3RefIdeal.main_arg2) = m ((c.tc : Thread Cert.Att3Ideal.nD Cert.Att3Ideal.τ).loc Cert.Att3Ideal.main_arg2)
      ∧ m' ((c.tc : Thread Cert.Att3RefIdeal.nD Cert.Att3RefIdeal.τ).loc Cert.Att3RefIdeal.main_arg3) = m ((c.tc : Thread Cert.Att3Ideal.nD Cert.Att3Ideal.τ).loc Cert.Att3Ideal.main_arg3)
      ∧ m' ((c.tc : Thread Cert.Att3RefIdeal.nD Cert.Att3RefIdeal.τ).loc Cert.Att3RefIdeal.main_arg4) = m ((c.tc : Thread Cert.Att3Ideal.nD Cert.Att3Ideal.τ).loc Cert.Att3Ideal.main_arg4)) →
    ∃ (v0 : (c : Dev Cert.Att3Ideal.nD) → Buf (Elt Ideal) ((c.tc : Thread Cert.Att3Ideal.nD Cert.Att3Ideal.τ).loc Cert.Att3Ideal.main_v9)),
      θ_run (Cert.Att3Ideal.defs (F := Ideal)) (onTc (τ := Cert.Att3Ideal.τ) (Cert.Att3Ideal.main (F := Ideal))) ⟨m, fun _ => 0, g⟩ (fun r => ∀ c : Dev Cert.Att3Ideal.nD,
          r.2.mem ((c.tc : Thread Cert.Att3Ideal.nD Cert.Att3Ideal.τ).loc Cert.Att3Ideal.main_v9) = v0 c
          ∧ r.2.mem ((c.tc : Thread Cert.Att3Ideal.nD Cert.Att3Ideal.τ).loc Cert.Att3Ideal.main_arg0) = m ((c.tc : Thread Cert.Att3Ideal.nD Cert.Att3Ideal.τ).loc Cert.Att3Ideal.main_arg0)
          ∧ r.2.mem ((c.tc : Thread Cert.Att3Ideal.nD Cert.Att3Ideal.τ).loc Cert.Att3Ideal.main_arg1) = m ((c.tc : Thread Cert.Att3Ideal.nD Cert.Att3Ideal.τ).loc Cert.Att3Ideal.main_arg1)
          ∧ r.2.mem ((c.tc : Thread Cert.Att3Ideal.nD Cert.Att3Ideal.τ).loc Cert.Att3Ideal.main_arg2) = m ((c.tc : Thread Cert.Att3Ideal.nD Cert.Att3Ideal.τ).loc Cert.Att3Ideal.main_arg2)
          ∧ r.2.mem ((c.tc : Thread Cert.Att3Ideal.nD Cert.Att3Ideal.τ).loc Cert.Att3Ideal.main_arg3) = m ((c.tc : Thread Cert.Att3Ideal.nD Cert.Att3Ideal.τ).loc Cert.Att3Ideal.main_arg3)
          ∧ r.2.mem ((c.tc : Thread Cert.Att3Ideal.nD Cert.Att3Ideal.τ).loc Cert.Att3Ideal.main_arg4) = m ((c.tc : Thread Cert.Att3Ideal.nD Cert.Att3Ideal.τ).loc Cert.Att3Ideal.main_arg4))
      ∧ θ_run (Cert.Att3RefIdeal.defs (F := Ideal)) (onTc (τ := Cert.Att3RefIdeal.τ) (Cert.Att3RefIdeal.main (F := Ideal))) ⟨m', fun _ => 0, g'⟩ (fun r => ∀ c : Dev Cert.Att3RefIdeal.nD,
          r.2.mem ((c.tc : Thread Cert.Att3RefIdeal.nD Cert.Att3RefIdeal.τ).loc Cert.Att3RefIdeal.main_v57) = v0 c
          ∧ r.2.mem ((c.tc : Thread Cert.Att3RefIdeal.nD Cert.Att3RefIdeal.τ).loc Cert.Att3RefIdeal.main_arg0) = m' ((c.tc : Thread Cert.Att3RefIdeal.nD Cert.Att3RefIdeal.τ).loc Cert.Att3RefIdeal.main_arg0)
          ∧ r.2.mem ((c.tc : Thread Cert.Att3RefIdeal.nD Cert.Att3RefIdeal.τ).loc Cert.Att3RefIdeal.main_arg1) = m' ((c.tc : Thread Cert.Att3RefIdeal.nD Cert.Att3RefIdeal.τ).loc Cert.Att3RefIdeal.main_arg1)
          ∧ r.2.mem ((c.tc : Thread Cert.Att3RefIdeal.nD Cert.Att3RefIdeal.τ).loc Cert.Att3RefIdeal.main_arg2) = m' ((c.tc : Thread Cert.Att3RefIdeal.nD Cert.Att3RefIdeal.τ).loc Cert.Att3RefIdeal.main_arg2)
          ∧ r.2.mem ((c.tc : Thread Cert.Att3RefIdeal.nD Cert.Att3RefIdeal.τ).loc Cert.Att3RefIdeal.main_arg3) = m' ((c.tc : Thread Cert.Att3RefIdeal.nD Cert.Att3RefIdeal.τ).loc Cert.Att3RefIdeal.main_arg3)
          ∧ r.2.mem ((c.tc : Thread Cert.Att3RefIdeal.nD Cert.Att3RefIdeal.τ).loc Cert.Att3RefIdeal.main_arg4) = m' ((c.tc : Thread Cert.Att3RefIdeal.nD Cert.Att3RefIdeal.τ).loc Cert.Att3RefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v57)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v57) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v73) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Qkv3_Qkv3Ideal : Prop :=
  True

def algebraic_Qkv3Ideal_Qkv3RefIdeal [hQkv3Ideal : Cert.Qkv3Ideal.Facts] [hQkv3RefIdeal : Cert.Qkv3RefIdeal.Facts] : Prop :=
  ∀ (m : (ℓ : Loc Cert.Qkv3Ideal.nD Cert.Qkv3Ideal.τ Cert.Qkv3Ideal.sig) → Buf (Elt Ideal) ℓ) (g : Dev Cert.Qkv3Ideal.nD → PrngReg)
    (m' : (ℓ : Loc Cert.Qkv3RefIdeal.nD Cert.Qkv3RefIdeal.τ Cert.Qkv3RefIdeal.sig) → Buf (Elt Ideal) ℓ) (g' : Dev Cert.Qkv3RefIdeal.nD → PrngReg), Pre_Qkv3Ideal m →
    (∀ c : Dev Cert.Qkv3Ideal.nD,
      m' ((c.tc : Thread Cert.Qkv3RefIdeal.nD Cert.Qkv3RefIdeal.τ).loc Cert.Qkv3RefIdeal.main_arg0) = m ((c.tc : Thread Cert.Qkv3Ideal.nD Cert.Qkv3Ideal.τ).loc Cert.Qkv3Ideal.main_arg0)
      ∧ m' ((c.tc : Thread Cert.Qkv3RefIdeal.nD Cert.Qkv3RefIdeal.τ).loc Cert.Qkv3RefIdeal.main_arg1) = m ((c.tc : Thread Cert.Qkv3Ideal.nD Cert.Qkv3Ideal.τ).loc Cert.Qkv3Ideal.main_arg1)
      ∧ m' ((c.tc : Thread Cert.Qkv3RefIdeal.nD Cert.Qkv3RefIdeal.τ).loc Cert.Qkv3RefIdeal.main_arg2) = m ((c.tc : Thread Cert.Qkv3Ideal.nD Cert.Qkv3Ideal.τ).loc Cert.Qkv3Ideal.main_arg2)) →
    ∃ (v0 : (c : Dev Cert.Qkv3Ideal.nD) → Buf (Elt Ideal) ((c.tc : Thread Cert.Qkv3Ideal.nD Cert.Qkv3Ideal.τ).loc Cert.Qkv3Ideal.main_v57)),
      θ_run (Cert.Qkv3Ideal.defs (F := Ideal)) (onTc (τ := Cert.Qkv3Ideal.τ) (Cert.Qkv3Ideal.main (F := Ideal))) ⟨m, fun _ => 0, g⟩ (fun r => ∀ c : Dev Cert.Qkv3Ideal.nD,
          r.2.mem ((c.tc : Thread Cert.Qkv3Ideal.nD Cert.Qkv3Ideal.τ).loc Cert.Qkv3Ideal.main_v57) = v0 c
          ∧ r.2.mem ((c.tc : Thread Cert.Qkv3Ideal.nD Cert.Qkv3Ideal.τ).loc Cert.Qkv3Ideal.main_arg0) = m ((c.tc : Thread Cert.Qkv3Ideal.nD Cert.Qkv3Ideal.τ).loc Cert.Qkv3Ideal.main_arg0)
          ∧ r.2.mem ((c.tc : Thread Cert.Qkv3Ideal.nD Cert.Qkv3Ideal.τ).loc Cert.Qkv3Ideal.main_arg1) = m ((c.tc : Thread Cert.Qkv3Ideal.nD Cert.Qkv3Ideal.τ).loc Cert.Qkv3Ideal.main_arg1)
          ∧ r.2.mem ((c.tc : Thread Cert.Qkv3Ideal.nD Cert.Qkv3Ideal.τ).loc Cert.Qkv3Ideal.main_arg2) = m ((c.tc : Thread Cert.Qkv3Ideal.nD Cert.Qkv3Ideal.τ).loc Cert.Qkv3Ideal.main_arg2))
      ∧ θ_run (Cert.Qkv3RefIdeal.defs (F := Ideal)) (onTc (τ := Cert.Qkv3RefIdeal.τ) (Cert.Qkv3RefIdeal.main (F := Ideal))) ⟨m', fun _ => 0, g'⟩ (fun r => ∀ c : Dev Cert.Qkv3RefIdeal.nD,
          r.2.mem ((c.tc : Thread Cert.Qkv3RefIdeal.nD Cert.Qkv3RefIdeal.τ).loc Cert.Qkv3RefIdeal.main_v73) = v0 c
          ∧ r.2.mem ((c.tc : Thread Cert.Qkv3RefIdeal.nD Cert.Qkv3RefIdeal.τ).loc Cert.Qkv3RefIdeal.main_arg0) = m' ((c.tc : Thread Cert.Qkv3RefIdeal.nD Cert.Qkv3RefIdeal.τ).loc Cert.Qkv3RefIdeal.main_arg0)
          ∧ r.2.mem ((c.tc : Thread Cert.Qkv3RefIdeal.nD Cert.Qkv3RefIdeal.τ).loc Cert.Qkv3RefIdeal.main_arg1) = m' ((c.tc : Thread Cert.Qkv3RefIdeal.nD Cert.Qkv3RefIdeal.τ).loc Cert.Qkv3RefIdeal.main_arg1)
          ∧ r.2.mem ((c.tc : Thread Cert.Qkv3RefIdeal.nD Cert.Qkv3RefIdeal.τ).loc Cert.Qkv3RefIdeal.main_arg2) = m' ((c.tc : Thread Cert.Qkv3RefIdeal.nD Cert.Qkv3RefIdeal.τ).loc Cert.Qkv3RefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v6) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Out1_Out1Ideal : Prop :=
  True

def algebraic_Out1Ideal_Out1RefIdeal [hOut1Ideal : Cert.Out1Ideal.Facts] [hOut1RefIdeal : Cert.Out1RefIdeal.Facts] : Prop :=
  ∀ (m : (ℓ : Loc Cert.Out1Ideal.nD Cert.Out1Ideal.τ Cert.Out1Ideal.sig) → Buf (Elt Ideal) ℓ) (g : Dev Cert.Out1Ideal.nD → PrngReg)
    (m' : (ℓ : Loc Cert.Out1RefIdeal.nD Cert.Out1RefIdeal.τ Cert.Out1RefIdeal.sig) → Buf (Elt Ideal) ℓ) (g' : Dev Cert.Out1RefIdeal.nD → PrngReg), Pre_Out1Ideal m →
    (∀ c : Dev Cert.Out1Ideal.nD,
      m' ((c.tc : Thread Cert.Out1RefIdeal.nD Cert.Out1RefIdeal.τ).loc Cert.Out1RefIdeal.main_arg0) = m ((c.tc : Thread Cert.Out1Ideal.nD Cert.Out1Ideal.τ).loc Cert.Out1Ideal.main_arg0)
      ∧ m' ((c.tc : Thread Cert.Out1RefIdeal.nD Cert.Out1RefIdeal.τ).loc Cert.Out1RefIdeal.main_arg1) = m ((c.tc : Thread Cert.Out1Ideal.nD Cert.Out1Ideal.τ).loc Cert.Out1Ideal.main_arg1)
      ∧ m' ((c.tc : Thread Cert.Out1RefIdeal.nD Cert.Out1RefIdeal.τ).loc Cert.Out1RefIdeal.main_arg2) = m ((c.tc : Thread Cert.Out1Ideal.nD Cert.Out1Ideal.τ).loc Cert.Out1Ideal.main_arg2)) →
    ∃ (v0 : (c : Dev Cert.Out1Ideal.nD) → Buf (Elt Ideal) ((c.tc : Thread Cert.Out1Ideal.nD Cert.Out1Ideal.τ).loc Cert.Out1Ideal.main_v0)),
      θ_run (Cert.Out1Ideal.defs (F := Ideal)) (onTc (τ := Cert.Out1Ideal.τ) (Cert.Out1Ideal.main (F := Ideal))) ⟨m, fun _ => 0, g⟩ (fun r => ∀ c : Dev Cert.Out1Ideal.nD,
          r.2.mem ((c.tc : Thread Cert.Out1Ideal.nD Cert.Out1Ideal.τ).loc Cert.Out1Ideal.main_v0) = v0 c
          ∧ r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
          ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
          ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2))
      ∧ θ_run (Cert.Out1RefIdeal.defs (F := Ideal)) (onTc (τ := Cert.Out1RefIdeal.τ) (Cert.Out1RefIdeal.main (F := Ideal))) ⟨m', fun _ => 0, g'⟩ (fun r => ∀ c : Dev Cert.Out1RefIdeal.nD,
          r.2.mem ((c.tc : Thread Cert.Out1RefIdeal.nD Cert.Out1RefIdeal.τ).loc Cert.Out1RefIdeal.main_v5) = v0 c
          ∧ r.2.mem ((c.tc : Thread Cert.Out1RefIdeal.nD Cert.Out1RefIdeal.τ).loc Cert.Out1RefIdeal.main_arg0) = m' ((c.tc : Thread Cert.Out1RefIdeal.nD Cert.Out1RefIdeal.τ).loc Cert.Out1RefIdeal.main_arg0)
          ∧ r.2.mem ((c.tc : Thread Cert.Out1RefIdeal.nD Cert.Out1RefIdeal.τ).loc Cert.Out1RefIdeal.main_arg1) = m' ((c.tc : Thread Cert.Out1RefIdeal.nD Cert.Out1RefIdeal.τ).loc Cert.Out1RefIdeal.main_arg1)
          ∧ r.2.mem ((c.tc : Thread Cert.Out1RefIdeal.nD Cert.Out1RefIdeal.τ).loc Cert.Out1RefIdeal.main_arg2) = m' ((c.tc : Thread Cert.Out1RefIdeal.nD Cert.Out1RefIdeal.τ).loc Cert.Out1RefIdeal.main_arg2))

def preserves_Out2_Out2Ideal : Prop :=
  True

def algebraic_Out2Ideal_Out2RefIdeal [hOut2Ideal : Cert.Out2Ideal.Facts] [hOut2RefIdeal : Cert.Out2RefIdeal.Facts] : Prop :=
  ∀ (m : (ℓ : Loc Cert.Out2Ideal.nD Cert.Out2Ideal.τ Cert.Out2Ideal.sig) → Buf (Elt Ideal) ℓ) (g : Dev Cert.Out2Ideal.nD → PrngReg)
    (m' : (ℓ : Loc Cert.Out2RefIdeal.nD Cert.Out2RefIdeal.τ Cert.Out2RefIdeal.sig) → Buf (Elt Ideal) ℓ) (g' : Dev Cert.Out2RefIdeal.nD → PrngReg), Pre_Out2Ideal m →
    (∀ c : Dev Cert.Out2Ideal.nD,
      m' ((c.tc : Thread Cert.Out2RefIdeal.nD Cert.Out2RefIdeal.τ).loc Cert.Out2RefIdeal.main_arg0) = m ((c.tc : Thread Cert.Out2Ideal.nD Cert.Out2Ideal.τ).loc Cert.Out2Ideal.main_arg0)
      ∧ m' ((c.tc : Thread Cert.Out2RefIdeal.nD Cert.Out2RefIdeal.τ).loc Cert.Out2RefIdeal.main_arg1) = m ((c.tc : Thread Cert.Out2Ideal.nD Cert.Out2Ideal.τ).loc Cert.Out2Ideal.main_arg1)
      ∧ m' ((c.tc : Thread Cert.Out2RefIdeal.nD Cert.Out2RefIdeal.τ).loc Cert.Out2RefIdeal.main_arg2) = m ((c.tc : Thread Cert.Out2Ideal.nD Cert.Out2Ideal.τ).loc Cert.Out2Ideal.main_arg2)) →
    ∃ (v0 : (c : Dev Cert.Out2Ideal.nD) → Buf (Elt Ideal) ((c.tc : Thread Cert.Out2Ideal.nD Cert.Out2Ideal.τ).loc Cert.Out2Ideal.main_v0)),
      θ_run (Cert.Out2Ideal.defs (F := Ideal)) (onTc (τ := Cert.Out2Ideal.τ) (Cert.Out2Ideal.main (F := Ideal))) ⟨m, fun _ => 0, g⟩ (fun r => ∀ c : Dev Cert.Out2Ideal.nD,
          r.2.mem ((c.tc : Thread Cert.Out2Ideal.nD Cert.Out2Ideal.τ).loc Cert.Out2Ideal.main_v0) = v0 c
          ∧ r.2.mem ((c.tc : Thread Cert.Out2Ideal.nD Cert.Out2Ideal.τ).loc Cert.Out2Ideal.main_arg0) = m ((c.tc : Thread Cert.Out2Ideal.nD Cert.Out2Ideal.τ).loc Cert.Out2Ideal.main_arg0)
          ∧ r.2.mem ((c.tc : Thread Cert.Out2Ideal.nD Cert.Out2Ideal.τ).loc Cert.Out2Ideal.main_arg1) = m ((c.tc : Thread Cert.Out2Ideal.nD Cert.Out2Ideal.τ).loc Cert.Out2Ideal.main_arg1)
          ∧ r.2.mem ((c.tc : Thread Cert.Out2Ideal.nD Cert.Out2Ideal.τ).loc Cert.Out2Ideal.main_arg2) = m ((c.tc : Thread Cert.Out2Ideal.nD Cert.Out2Ideal.τ).loc Cert.Out2Ideal.main_arg2))
      ∧ θ_run (Cert.Out2RefIdeal.defs (F := Ideal)) (onTc (τ := Cert.Out2RefIdeal.τ) (Cert.Out2RefIdeal.main (F := Ideal))) ⟨m', fun _ => 0, g'⟩ (fun r => ∀ c : Dev Cert.Out2RefIdeal.nD,
          r.2.mem ((c.tc : Thread Cert.Out2RefIdeal.nD Cert.Out2RefIdeal.τ).loc Cert.Out2RefIdeal.main_v5) = v0 c
          ∧ r.2.mem ((c.tc : Thread Cert.Out2RefIdeal.nD Cert.Out2RefIdeal.τ).loc Cert.Out2RefIdeal.main_arg0) = m' ((c.tc : Thread Cert.Out2RefIdeal.nD Cert.Out2RefIdeal.τ).loc Cert.Out2RefIdeal.main_arg0)
          ∧ r.2.mem ((c.tc : Thread Cert.Out2RefIdeal.nD Cert.Out2RefIdeal.τ).loc Cert.Out2RefIdeal.main_arg1) = m' ((c.tc : Thread Cert.Out2RefIdeal.nD Cert.Out2RefIdeal.τ).loc Cert.Out2RefIdeal.main_arg1)
          ∧ r.2.mem ((c.tc : Thread Cert.Out2RefIdeal.nD Cert.Out2RefIdeal.τ).loc Cert.Out2RefIdeal.main_arg2) = m' ((c.tc : Thread Cert.Out2RefIdeal.nD Cert.Out2RefIdeal.τ).loc Cert.Out2RefIdeal.main_arg2))

def preserves_Out3_Out3Ideal : Prop :=
  True

def algebraic_Out3Ideal_Out3RefIdeal [hOut3Ideal : Cert.Out3Ideal.Facts] [hOut3RefIdeal : Cert.Out3RefIdeal.Facts] : Prop :=
  ∀ (m : (ℓ : Loc Cert.Out3Ideal.nD Cert.Out3Ideal.τ Cert.Out3Ideal.sig) → Buf (Elt Ideal) ℓ) (g : Dev Cert.Out3Ideal.nD → PrngReg)
    (m' : (ℓ : Loc Cert.Out3RefIdeal.nD Cert.Out3RefIdeal.τ Cert.Out3RefIdeal.sig) → Buf (Elt Ideal) ℓ) (g' : Dev Cert.Out3RefIdeal.nD → PrngReg), Pre_Out3Ideal m →
    (∀ c : Dev Cert.Out3Ideal.nD,
      m' ((c.tc : Thread Cert.Out3RefIdeal.nD Cert.Out3RefIdeal.τ).loc Cert.Out3RefIdeal.main_arg0) = m ((c.tc : Thread Cert.Out3Ideal.nD Cert.Out3Ideal.τ).loc Cert.Out3Ideal.main_arg0)
      ∧ m' ((c.tc : Thread Cert.Out3RefIdeal.nD Cert.Out3RefIdeal.τ).loc Cert.Out3RefIdeal.main_arg1) = m ((c.tc : Thread Cert.Out3Ideal.nD Cert.Out3Ideal.τ).loc Cert.Out3Ideal.main_arg1)
      ∧ m' ((c.tc : Thread Cert.Out3RefIdeal.nD Cert.Out3RefIdeal.τ).loc Cert.Out3RefIdeal.main_arg2) = m ((c.tc : Thread Cert.Out3Ideal.nD Cert.Out3Ideal.τ).loc Cert.Out3Ideal.main_arg2)) →
    ∃ (v0 : (c : Dev Cert.Out3Ideal.nD) → Buf (Elt Ideal) ((c.tc : Thread Cert.Out3Ideal.nD Cert.Out3Ideal.τ).loc Cert.Out3Ideal.main_v0)),
      θ_run (Cert.Out3Ideal.defs (F := Ideal)) (onTc (τ := Cert.Out3Ideal.τ) (Cert.Out3Ideal.main (F := Ideal))) ⟨m, fun _ => 0, g⟩ (fun r => ∀ c : Dev Cert.Out3Ideal.nD,
          r.2.mem ((c.tc : Thread Cert.Out3Ideal.nD Cert.Out3Ideal.τ).loc Cert.Out3Ideal.main_v0) = v0 c
          ∧ r.2.mem ((c.tc : Thread Cert.Out3Ideal.nD Cert.Out3Ideal.τ).loc Cert.Out3Ideal.main_arg0) = m ((c.tc : Thread Cert.Out3Ideal.nD Cert.Out3Ideal.τ).loc Cert.Out3Ideal.main_arg0)
          ∧ r.2.mem ((c.tc : Thread Cert.Out3Ideal.nD Cert.Out3Ideal.τ).loc Cert.Out3Ideal.main_arg1) = m ((c.tc : Thread Cert.Out3Ideal.nD Cert.Out3Ideal.τ).loc Cert.Out3Ideal.main_arg1)
          ∧ r.2.mem ((c.tc : Thread Cert.Out3Ideal.nD Cert.Out3Ideal.τ).loc Cert.Out3Ideal.main_arg2) = m ((c.tc : Thread Cert.Out3Ideal.nD Cert.Out3Ideal.τ).loc Cert.Out3Ideal.main_arg2))
      ∧ θ_run (Cert.Out3RefIdeal.defs (F := Ideal)) (onTc (τ := Cert.Out3RefIdeal.τ) (Cert.Out3RefIdeal.main (F := Ideal))) ⟨m', fun _ => 0, g'⟩ (fun r => ∀ c : Dev Cert.Out3RefIdeal.nD,
          r.2.mem ((c.tc : Thread Cert.Out3RefIdeal.nD Cert.Out3RefIdeal.τ).loc Cert.Out3RefIdeal.main_v6) = v0 c
          ∧ r.2.mem ((c.tc : Thread Cert.Out3RefIdeal.nD Cert.Out3RefIdeal.τ).loc Cert.Out3RefIdeal.main_arg0) = m' ((c.tc : Thread Cert.Out3RefIdeal.nD Cert.Out3RefIdeal.τ).loc Cert.Out3RefIdeal.main_arg0)
          ∧ r.2.mem ((c.tc : Thread Cert.Out3RefIdeal.nD Cert.Out3RefIdeal.τ).loc Cert.Out3RefIdeal.main_arg1) = m' ((c.tc : Thread Cert.Out3RefIdeal.nD Cert.Out3RefIdeal.τ).loc Cert.Out3RefIdeal.main_arg1)
          ∧ r.2.mem ((c.tc : Thread Cert.Out3RefIdeal.nD Cert.Out3RefIdeal.τ).loc Cert.Out3RefIdeal.main_arg2) = m' ((c.tc : Thread Cert.Out3RefIdeal.nD Cert.Out3RefIdeal.τ).loc Cert.Out3RefIdeal.main_arg2))

def preserves_DilA_DilAIdeal : Prop :=
  True

def algebraic_DilAIdeal_DilARefIdeal [hDilAIdeal : Cert.DilAIdeal.Facts] [hDilARefIdeal : Cert.DilARefIdeal.Facts] : Prop :=
  ∀ (m : (ℓ : Loc Cert.DilAIdeal.nD Cert.DilAIdeal.τ Cert.DilAIdeal.sig) → Buf (Elt Ideal) ℓ) (g : Dev Cert.DilAIdeal.nD → PrngReg)
    (m' : (ℓ : Loc Cert.DilARefIdeal.nD Cert.DilARefIdeal.τ Cert.DilARefIdeal.sig) → Buf (Elt Ideal) ℓ) (g' : Dev Cert.DilARefIdeal.nD → PrngReg), Pre_DilAIdeal m →
    (∀ c : Dev Cert.DilAIdeal.nD,
      m' ((c.tc : Thread Cert.DilARefIdeal.nD Cert.DilARefIdeal.τ).loc Cert.DilARefIdeal.main_arg0) = m ((c.tc : Thread Cert.DilAIdeal.nD Cert.DilAIdeal.τ).loc Cert.DilAIdeal.main_arg0)
      ∧ m' ((c.tc : Thread Cert.DilARefIdeal.nD Cert.DilARefIdeal.τ).loc Cert.DilARefIdeal.main_arg1) = m ((c.tc : Thread Cert.DilAIdeal.nD Cert.DilAIdeal.τ).loc Cert.DilAIdeal.main_arg1)
      ∧ m' ((c.tc : Thread Cert.DilARefIdeal.nD Cert.DilARefIdeal.τ).loc Cert.DilARefIdeal.main_arg2) = m ((c.tc : Thread Cert.DilAIdeal.nD Cert.DilAIdeal.τ).loc Cert.DilAIdeal.main_arg2)) →
    ∃ (v0 : (c : Dev Cert.DilAIdeal.nD) → Buf (Elt Ideal) ((c.tc : Thread Cert.DilAIdeal.nD Cert.DilAIdeal.τ).loc Cert.DilAIdeal.main_v57)),
      θ_run (Cert.DilAIdeal.defs (F := Ideal)) (onTc (τ := Cert.DilAIdeal.τ) (Cert.DilAIdeal.main (F := Ideal))) ⟨m, fun _ => 0, g⟩ (fun r => ∀ c : Dev Cert.DilAIdeal.nD,
          r.2.mem ((c.tc : Thread Cert.DilAIdeal.nD Cert.DilAIdeal.τ).loc Cert.DilAIdeal.main_v57) = v0 c
          ∧ r.2.mem ((c.tc : Thread Cert.DilAIdeal.nD Cert.DilAIdeal.τ).loc Cert.DilAIdeal.main_arg0) = m ((c.tc : Thread Cert.DilAIdeal.nD Cert.DilAIdeal.τ).loc Cert.DilAIdeal.main_arg0)
          ∧ r.2.mem ((c.tc : Thread Cert.DilAIdeal.nD Cert.DilAIdeal.τ).loc Cert.DilAIdeal.main_arg1) = m ((c.tc : Thread Cert.DilAIdeal.nD Cert.DilAIdeal.τ).loc Cert.DilAIdeal.main_arg1)
          ∧ r.2.mem ((c.tc : Thread Cert.DilAIdeal.nD Cert.DilAIdeal.τ).loc Cert.DilAIdeal.main_arg2) = m ((c.tc : Thread Cert.DilAIdeal.nD Cert.DilAIdeal.τ).loc Cert.DilAIdeal.main_arg2))
      ∧ θ_run (Cert.DilARefIdeal.defs (F := Ideal)) (onTc (τ := Cert.DilARefIdeal.τ) (Cert.DilARefIdeal.main (F := Ideal))) ⟨m', fun _ => 0, g'⟩ (fun r => ∀ c : Dev Cert.DilARefIdeal.nD,
          r.2.mem ((c.tc : Thread Cert.DilARefIdeal.nD Cert.DilARefIdeal.τ).loc Cert.DilARefIdeal.main_v79) = v0 c
          ∧ r.2.mem ((c.tc : Thread Cert.DilARefIdeal.nD Cert.DilARefIdeal.τ).loc Cert.DilARefIdeal.main_arg0) = m' ((c.tc : Thread Cert.DilARefIdeal.nD Cert.DilARefIdeal.τ).loc Cert.DilARefIdeal.main_arg0)
          ∧ r.2.mem ((c.tc : Thread Cert.DilARefIdeal.nD Cert.DilARefIdeal.τ).loc Cert.DilARefIdeal.main_arg1) = m' ((c.tc : Thread Cert.DilARefIdeal.nD Cert.DilARefIdeal.τ).loc Cert.DilARefIdeal.main_arg1)
          ∧ r.2.mem ((c.tc : Thread Cert.DilARefIdeal.nD Cert.DilARefIdeal.τ).loc Cert.DilARefIdeal.main_arg2) = m' ((c.tc : Thread Cert.DilARefIdeal.nD Cert.DilARefIdeal.τ).loc Cert.DilARefIdeal.main_arg2))

def preserves_DilB_DilBIdeal : Prop :=
  True

def algebraic_DilBIdeal_DilBRefIdeal [hDilBIdeal : Cert.DilBIdeal.Facts] [hDilBRefIdeal : Cert.DilBRefIdeal.Facts] : Prop :=
  ∀ (m : (ℓ : Loc Cert.DilBIdeal.nD Cert.DilBIdeal.τ Cert.DilBIdeal.sig) → Buf (Elt Ideal) ℓ) (g : Dev Cert.DilBIdeal.nD → PrngReg)
    (m' : (ℓ : Loc Cert.DilBRefIdeal.nD Cert.DilBRefIdeal.τ Cert.DilBRefIdeal.sig) → Buf (Elt Ideal) ℓ) (g' : Dev Cert.DilBRefIdeal.nD → PrngReg), Pre_DilBIdeal m →
    (∀ c : Dev Cert.DilBIdeal.nD,
      m' ((c.tc : Thread Cert.DilBRefIdeal.nD Cert.DilBRefIdeal.τ).loc Cert.DilBRefIdeal.main_arg0) = m ((c.tc : Thread Cert.DilBIdeal.nD Cert.DilBIdeal.τ).loc Cert.DilBIdeal.main_arg0)
      ∧ m' ((c.tc : Thread Cert.DilBRefIdeal.nD Cert.DilBRefIdeal.τ).loc Cert.DilBRefIdeal.main_arg1) = m ((c.tc : Thread Cert.DilBIdeal.nD Cert.DilBIdeal.τ).loc Cert.DilBIdeal.main_arg1)
      ∧ m' ((c.tc : Thread Cert.DilBRefIdeal.nD Cert.DilBRefIdeal.τ).loc Cert.DilBRefIdeal.main_arg2) = m ((c.tc : Thread Cert.DilBIdeal.nD Cert.DilBIdeal.τ).loc Cert.DilBIdeal.main_arg2)) →
    ∃ (v0 : (c : Dev Cert.DilBIdeal.nD) → Buf (Elt Ideal) ((c.tc : Thread Cert.DilBIdeal.nD Cert.DilBIdeal.τ).loc Cert.DilBIdeal.main_v57)),
      θ_run (Cert.DilBIdeal.defs (F := Ideal)) (onTc (τ := Cert.DilBIdeal.τ) (Cert.DilBIdeal.main (F := Ideal))) ⟨m, fun _ => 0, g⟩ (fun r => ∀ c : Dev Cert.DilBIdeal.nD,
          r.2.mem ((c.tc : Thread Cert.DilBIdeal.nD Cert.DilBIdeal.τ).loc Cert.DilBIdeal.main_v57) = v0 c
          ∧ r.2.mem ((c.tc : Thread Cert.DilBIdeal.nD Cert.DilBIdeal.τ).loc Cert.DilBIdeal.main_arg0) = m ((c.tc : Thread Cert.DilBIdeal.nD Cert.DilBIdeal.τ).loc Cert.DilBIdeal.main_arg0)
          ∧ r.2.mem ((c.tc : Thread Cert.DilBIdeal.nD Cert.DilBIdeal.τ).loc Cert.DilBIdeal.main_arg1) = m ((c.tc : Thread Cert.DilBIdeal.nD Cert.DilBIdeal.τ).loc Cert.DilBIdeal.main_arg1)
          ∧ r.2.mem ((c.tc : Thread Cert.DilBIdeal.nD Cert.DilBIdeal.τ).loc Cert.DilBIdeal.main_arg2) = m ((c.tc : Thread Cert.DilBIdeal.nD Cert.DilBIdeal.τ).loc Cert.DilBIdeal.main_arg2))
      ∧ θ_run (Cert.DilBRefIdeal.defs (F := Ideal)) (onTc (τ := Cert.DilBRefIdeal.τ) (Cert.DilBRefIdeal.main (F := Ideal))) ⟨m', fun _ => 0, g'⟩ (fun r => ∀ c : Dev Cert.DilBRefIdeal.nD,
          r.2.mem ((c.tc : Thread Cert.DilBRefIdeal.nD Cert.DilBRefIdeal.τ).loc Cert.DilBRefIdeal.main_v81) = v0 c
          ∧ r.2.mem ((c.tc : Thread Cert.DilBRefIdeal.nD Cert.DilBRefIdeal.τ).loc Cert.DilBRefIdeal.main_arg0) = m' ((c.tc : Thread Cert.DilBRefIdeal.nD Cert.DilBRefIdeal.τ).loc Cert.DilBRefIdeal.main_arg0)
          ∧ r.2.mem ((c.tc : Thread Cert.DilBRefIdeal.nD Cert.DilBRefIdeal.τ).loc Cert.DilBRefIdeal.main_arg1) = m' ((c.tc : Thread Cert.DilBRefIdeal.nD Cert.DilBRefIdeal.τ).loc Cert.DilBRefIdeal.main_arg1)
          ∧ r.2.mem ((c.tc : Thread Cert.DilBRefIdeal.nD Cert.DilBRefIdeal.τ).loc Cert.DilBRefIdeal.main_arg2) = m' ((c.tc : Thread Cert.DilBRefIdeal.nD Cert.DilBRefIdeal.τ).loc Cert.DilBRefIdeal.main_arg2))

def preserves_DilC_DilCIdeal : Prop :=
  True

def algebraic_DilCIdeal_DilCRefIdeal [hDilCIdeal : Cert.DilCIdeal.Facts] [hDilCRefIdeal : Cert.DilCRefIdeal.Facts] : Prop :=
  ∀ (m : (ℓ : Loc Cert.DilCIdeal.nD Cert.DilCIdeal.τ Cert.DilCIdeal.sig) → Buf (Elt Ideal) ℓ) (g : Dev Cert.DilCIdeal.nD → PrngReg)
    (m' : (ℓ : Loc Cert.DilCRefIdeal.nD Cert.DilCRefIdeal.τ Cert.DilCRefIdeal.sig) → Buf (Elt Ideal) ℓ) (g' : Dev Cert.DilCRefIdeal.nD → PrngReg), Pre_DilCIdeal m →
    (∀ c : Dev Cert.DilCIdeal.nD,
      m' ((c.tc : Thread Cert.DilCRefIdeal.nD Cert.DilCRefIdeal.τ).loc Cert.DilCRefIdeal.main_arg0) = m ((c.tc : Thread Cert.DilCIdeal.nD Cert.DilCIdeal.τ).loc Cert.DilCIdeal.main_arg0)
      ∧ m' ((c.tc : Thread Cert.DilCRefIdeal.nD Cert.DilCRefIdeal.τ).loc Cert.DilCRefIdeal.main_arg1) = m ((c.tc : Thread Cert.DilCIdeal.nD Cert.DilCIdeal.τ).loc Cert.DilCIdeal.main_arg1)
      ∧ m' ((c.tc : Thread Cert.DilCRefIdeal.nD Cert.DilCRefIdeal.τ).loc Cert.DilCRefIdeal.main_arg2) = m ((c.tc : Thread Cert.DilCIdeal.nD Cert.DilCIdeal.τ).loc Cert.DilCIdeal.main_arg2)) →
    ∃ (v0 : (c : Dev Cert.DilCIdeal.nD) → Buf (Elt Ideal) ((c.tc : Thread Cert.DilCIdeal.nD Cert.DilCIdeal.τ).loc Cert.DilCIdeal.main_v57)),
      θ_run (Cert.DilCIdeal.defs (F := Ideal)) (onTc (τ := Cert.DilCIdeal.τ) (Cert.DilCIdeal.main (F := Ideal))) ⟨m, fun _ => 0, g⟩ (fun r => ∀ c : Dev Cert.DilCIdeal.nD,
          r.2.mem ((c.tc : Thread Cert.DilCIdeal.nD Cert.DilCIdeal.τ).loc Cert.DilCIdeal.main_v57) = v0 c
          ∧ r.2.mem ((c.tc : Thread Cert.DilCIdeal.nD Cert.DilCIdeal.τ).loc Cert.DilCIdeal.main_arg0) = m ((c.tc : Thread Cert.DilCIdeal.nD Cert.DilCIdeal.τ).loc Cert.DilCIdeal.main_arg0)
          ∧ r.2.mem ((c.tc : Thread Cert.DilCIdeal.nD Cert.DilCIdeal.τ).loc Cert.DilCIdeal.main_arg1) = m ((c.tc : Thread Cert.DilCIdeal.nD Cert.DilCIdeal.τ).loc Cert.DilCIdeal.main_arg1)
          ∧ r.2.mem ((c.tc : Thread Cert.DilCIdeal.nD Cert.DilCIdeal.τ).loc Cert.DilCIdeal.main_arg2) = m ((c.tc : Thread Cert.DilCIdeal.nD Cert.DilCIdeal.τ).loc Cert.DilCIdeal.main_arg2))
      ∧ θ_run (Cert.DilCRefIdeal.defs (F := Ideal)) (onTc (τ := Cert.DilCRefIdeal.τ) (Cert.DilCRefIdeal.main (F := Ideal))) ⟨m', fun _ => 0, g'⟩ (fun r => ∀ c : Dev Cert.DilCRefIdeal.nD,
          r.2.mem ((c.tc : Thread Cert.DilCRefIdeal.nD Cert.DilCRefIdeal.τ).loc Cert.DilCRefIdeal.main_v81) = v0 c
          ∧ r.2.mem ((c.tc : Thread Cert.DilCRefIdeal.nD Cert.DilCRefIdeal.τ).loc Cert.DilCRefIdeal.main_arg0) = m' ((c.tc : Thread Cert.DilCRefIdeal.nD Cert.DilCRefIdeal.τ).loc Cert.DilCRefIdeal.main_arg0)
          ∧ r.2.mem ((c.tc : Thread Cert.DilCRefIdeal.nD Cert.DilCRefIdeal.τ).loc Cert.DilCRefIdeal.main_arg1) = m' ((c.tc : Thread Cert.DilCRefIdeal.nD Cert.DilCRefIdeal.τ).loc Cert.DilCRefIdeal.main_arg1)
          ∧ r.2.mem ((c.tc : Thread Cert.DilCRefIdeal.nD Cert.DilCRefIdeal.τ).loc Cert.DilCRefIdeal.main_arg2) = m' ((c.tc : Thread Cert.DilCRefIdeal.nD Cert.DilCRefIdeal.τ).loc Cert.DilCRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Comb0_Comb0Ideal : Prop :=
  True

def algebraic_Comb0Ideal_Comb0RefIdeal [hComb0Ideal : Cert.Comb0Ideal.Facts] [hComb0RefIdeal : Cert.Comb0RefIdeal.Facts] : Prop :=
  ∀ (m : (ℓ : Loc Cert.Comb0Ideal.nD Cert.Comb0Ideal.τ Cert.Comb0Ideal.sig) → Buf (Elt Ideal) ℓ) (g : Dev Cert.Comb0Ideal.nD → PrngReg)
    (m' : (ℓ : Loc Cert.Comb0RefIdeal.nD Cert.Comb0RefIdeal.τ Cert.Comb0RefIdeal.sig) → Buf (Elt Ideal) ℓ) (g' : Dev Cert.Comb0RefIdeal.nD → PrngReg), Pre_Comb0Ideal m →
    (∀ c : Dev Cert.Comb0Ideal.nD,
      m' ((c.tc : Thread Cert.Comb0RefIdeal.nD Cert.Comb0RefIdeal.τ).loc Cert.Comb0RefIdeal.main_arg0) = m ((c.tc : Thread Cert.Comb0Ideal.nD Cert.Comb0Ideal.τ).loc Cert.Comb0Ideal.main_arg0)
      ∧ m' ((c.tc : Thread Cert.Comb0RefIdeal.nD Cert.Comb0RefIdeal.τ).loc Cert.Comb0RefIdeal.main_arg1) = m ((c.tc : Thread Cert.Comb0Ideal.nD Cert.Comb0Ideal.τ).loc Cert.Comb0Ideal.main_arg1)
      ∧ m' ((c.tc : Thread Cert.Comb0RefIdeal.nD Cert.Comb0RefIdeal.τ).loc Cert.Comb0RefIdeal.main_arg2) = m ((c.tc : Thread Cert.Comb0Ideal.nD Cert.Comb0Ideal.τ).loc Cert.Comb0Ideal.main_arg2)
      ∧ m' ((c.tc : Thread Cert.Comb0RefIdeal.nD Cert.Comb0RefIdeal.τ).loc Cert.Comb0RefIdeal.main_arg3) = m ((c.tc : Thread Cert.Comb0Ideal.nD Cert.Comb0Ideal.τ).loc Cert.Comb0Ideal.main_arg3)) →
    ∃ (v0 : (c : Dev Cert.Comb0Ideal.nD) → Buf (Elt Ideal) ((c.tc : Thread Cert.Comb0Ideal.nD Cert.Comb0Ideal.τ).loc Cert.Comb0Ideal.main_v1_0)) (v1 : (c : Dev Cert.Comb0Ideal.nD) → Buf (Elt Ideal) ((c.tc : Thread Cert.Comb0Ideal.nD Cert.Comb0Ideal.τ).loc Cert.Comb0Ideal.main_v1_1)),
      θ_run (Cert.Comb0Ideal.defs (F := Ideal)) (onTc (τ := Cert.Comb0Ideal.τ) (Cert.Comb0Ideal.main (F := Ideal))) ⟨m, fun _ => 0, g⟩ (fun r => ∀ c : Dev Cert.Comb0Ideal.nD,
          r.2.mem ((c.tc : Thread Cert.Comb0Ideal.nD Cert.Comb0Ideal.τ).loc Cert.Comb0Ideal.main_v1_0) = v0 c
          ∧ r.2.mem ((c.tc : Thread Cert.Comb0Ideal.nD Cert.Comb0Ideal.τ).loc Cert.Comb0Ideal.main_v1_1) = v1 c
          ∧ r.2.mem ((c.tc : Thread Cert.Comb0Ideal.nD Cert.Comb0Ideal.τ).loc Cert.Comb0Ideal.main_arg0) = m ((c.tc : Thread Cert.Comb0Ideal.nD Cert.Comb0Ideal.τ).loc Cert.Comb0Ideal.main_arg0)
          ∧ r.2.mem ((c.tc : Thread Cert.Comb0Ideal.nD Cert.Comb0Ideal.τ).loc Cert.Comb0Ideal.main_arg1) = m ((c.tc : Thread Cert.Comb0Ideal.nD Cert.Comb0Ideal.τ).loc Cert.Comb0Ideal.main_arg1)
          ∧ r.2.mem ((c.tc : Thread Cert.Comb0Ideal.nD Cert.Comb0Ideal.τ).loc Cert.Comb0Ideal.main_arg2) = m ((c.tc : Thread Cert.Comb0Ideal.nD Cert.Comb0Ideal.τ).loc Cert.Comb0Ideal.main_arg2)
          ∧ r.2.mem ((c.tc : Thread Cert.Comb0Ideal.nD Cert.Comb0Ideal.τ).loc Cert.Comb0Ideal.main_arg3) = m ((c.tc : Thread Cert.Comb0Ideal.nD Cert.Comb0Ideal.τ).loc Cert.Comb0Ideal.main_arg3))
      ∧ θ_run (Cert.Comb0RefIdeal.defs (F := Ideal)) (onTc (τ := Cert.Comb0RefIdeal.τ) (Cert.Comb0RefIdeal.main (F := Ideal))) ⟨m', fun _ => 0, g'⟩ (fun r => ∀ c : Dev Cert.Comb0RefIdeal.nD,
          r.2.mem ((c.tc : Thread Cert.Comb0RefIdeal.nD Cert.Comb0RefIdeal.τ).loc Cert.Comb0RefIdeal.main_v8) = v0 c
          ∧ r.2.mem ((c.tc : Thread Cert.Comb0RefIdeal.nD Cert.Comb0RefIdeal.τ).loc Cert.Comb0RefIdeal.main_v24) = v1 c
          ∧ r.2.mem ((c.tc : Thread Cert.Comb0RefIdeal.nD Cert.Comb0RefIdeal.τ).loc Cert.Comb0RefIdeal.main_arg0) = m' ((c.tc : Thread Cert.Comb0RefIdeal.nD Cert.Comb0RefIdeal.τ).loc Cert.Comb0RefIdeal.main_arg0)
          ∧ r.2.mem ((c.tc : Thread Cert.Comb0RefIdeal.nD Cert.Comb0RefIdeal.τ).loc Cert.Comb0RefIdeal.main_arg1) = m' ((c.tc : Thread Cert.Comb0RefIdeal.nD Cert.Comb0RefIdeal.τ).loc Cert.Comb0RefIdeal.main_arg1)
          ∧ r.2.mem ((c.tc : Thread Cert.Comb0RefIdeal.nD Cert.Comb0RefIdeal.τ).loc Cert.Comb0RefIdeal.main_arg2) = m' ((c.tc : Thread Cert.Comb0RefIdeal.nD Cert.Comb0RefIdeal.τ).loc Cert.Comb0RefIdeal.main_arg2)
          ∧ r.2.mem ((c.tc : Thread Cert.Comb0RefIdeal.nD Cert.Comb0RefIdeal.τ).loc Cert.Comb0RefIdeal.main_arg3) = m' ((c.tc : Thread Cert.Comb0RefIdeal.nD Cert.Comb0RefIdeal.τ).loc Cert.Comb0RefIdeal.main_arg3))

def preserves_Comb1_Comb1Ideal : Prop :=
  True

def algebraic_Comb1Ideal_Comb1RefIdeal [hComb1Ideal : Cert.Comb1Ideal.Facts] [hComb1RefIdeal : Cert.Comb1RefIdeal.Facts] : Prop :=
  ∀ (m : (ℓ : Loc Cert.Comb1Ideal.nD Cert.Comb1Ideal.τ Cert.Comb1Ideal.sig) → Buf (Elt Ideal) ℓ) (g : Dev Cert.Comb1Ideal.nD → PrngReg)
    (m' : (ℓ : Loc Cert.Comb1RefIdeal.nD Cert.Comb1RefIdeal.τ Cert.Comb1RefIdeal.sig) → Buf (Elt Ideal) ℓ) (g' : Dev Cert.Comb1RefIdeal.nD → PrngReg), Pre_Comb1Ideal m →
    (∀ c : Dev Cert.Comb1Ideal.nD,
      m' ((c.tc : Thread Cert.Comb1RefIdeal.nD Cert.Comb1RefIdeal.τ).loc Cert.Comb1RefIdeal.main_arg0) = m ((c.tc : Thread Cert.Comb1Ideal.nD Cert.Comb1Ideal.τ).loc Cert.Comb1Ideal.main_arg0)
      ∧ m' ((c.tc : Thread Cert.Comb1RefIdeal.nD Cert.Comb1RefIdeal.τ).loc Cert.Comb1RefIdeal.main_arg1) = m ((c.tc : Thread Cert.Comb1Ideal.nD Cert.Comb1Ideal.τ).loc Cert.Comb1Ideal.main_arg1)
      ∧ m' ((c.tc : Thread Cert.Comb1RefIdeal.nD Cert.Comb1RefIdeal.τ).loc Cert.Comb1RefIdeal.main_arg2) = m ((c.tc : Thread Cert.Comb1Ideal.nD Cert.Comb1Ideal.τ).loc Cert.Comb1Ideal.main_arg2)
      ∧ m' ((c.tc : Thread Cert.Comb1RefIdeal.nD Cert.Comb1RefIdeal.τ).loc Cert.Comb1RefIdeal.main_arg3) = m ((c.tc : Thread Cert.Comb1Ideal.nD Cert.Comb1Ideal.τ).loc Cert.Comb1Ideal.main_arg3)) →
    ∃ (v0 : (c : Dev Cert.Comb1Ideal.nD) → Buf (Elt Ideal) ((c.tc : Thread Cert.Comb1Ideal.nD Cert.Comb1Ideal.τ).loc Cert.Comb1Ideal.main_v1_0)) (v1 : (c : Dev Cert.Comb1Ideal.nD) → Buf (Elt Ideal) ((c.tc : Thread Cert.Comb1Ideal.nD Cert.Comb1Ideal.τ).loc Cert.Comb1Ideal.main_v1_1)),
      θ_run (Cert.Comb1Ideal.defs (F := Ideal)) (onTc (τ := Cert.Comb1Ideal.τ) (Cert.Comb1Ideal.main (F := Ideal))) ⟨m, fun _ => 0, g⟩ (fun r => ∀ c : Dev Cert.Comb1Ideal.nD,
          r.2.mem ((c.tc : Thread Cert.Comb1Ideal.nD Cert.Comb1Ideal.τ).loc Cert.Comb1Ideal.main_v1_0) = v0 c
          ∧ r.2.mem ((c.tc : Thread Cert.Comb1Ideal.nD Cert.Comb1Ideal.τ).loc Cert.Comb1Ideal.main_v1_1) = v1 c
          ∧ r.2.mem ((c.tc : Thread Cert.Comb1Ideal.nD Cert.Comb1Ideal.τ).loc Cert.Comb1Ideal.main_arg0) = m ((c.tc : Thread Cert.Comb1Ideal.nD Cert.Comb1Ideal.τ).loc Cert.Comb1Ideal.main_arg0)
          ∧ r.2.mem ((c.tc : Thread Cert.Comb1Ideal.nD Cert.Comb1Ideal.τ).loc Cert.Comb1Ideal.main_arg1) = m ((c.tc : Thread Cert.Comb1Ideal.nD Cert.Comb1Ideal.τ).loc Cert.Comb1Ideal.main_arg1)
          ∧ r.2.mem ((c.tc : Thread Cert.Comb1Ideal.nD Cert.Comb1Ideal.τ).loc Cert.Comb1Ideal.main_arg2) = m ((c.tc : Thread Cert.Comb1Ideal.nD Cert.Comb1Ideal.τ).loc Cert.Comb1Ideal.main_arg2)
          ∧ r.2.mem ((c.tc : Thread Cert.Comb1Ideal.nD Cert.Comb1Ideal.τ).loc Cert.Comb1Ideal.main_arg3) = m ((c.tc : Thread Cert.Comb1Ideal.nD Cert.Comb1Ideal.τ).loc Cert.Comb1Ideal.main_arg3))
      ∧ θ_run (Cert.Comb1RefIdeal.defs (F := Ideal)) (onTc (τ := Cert.Comb1RefIdeal.τ) (Cert.Comb1RefIdeal.main (F := Ideal))) ⟨m', fun _ => 0, g'⟩ (fun r => ∀ c : Dev Cert.Comb1RefIdeal.nD,
          r.2.mem ((c.tc : Thread Cert.Comb1RefIdeal.nD Cert.Comb1RefIdeal.τ).loc Cert.Comb1RefIdeal.main_v8) = v0 c
          ∧ r.2.mem ((c.tc : Thread Cert.Comb1RefIdeal.nD Cert.Comb1RefIdeal.τ).loc Cert.Comb1RefIdeal.main_v24) = v1 c
          ∧ r.2.mem ((c.tc : Thread Cert.Comb1RefIdeal.nD Cert.Comb1RefIdeal.τ).loc Cert.Comb1RefIdeal.main_arg0) = m' ((c.tc : Thread Cert.Comb1RefIdeal.nD Cert.Comb1RefIdeal.τ).loc Cert.Comb1RefIdeal.main_arg0)
          ∧ r.2.mem ((c.tc : Thread Cert.Comb1RefIdeal.nD Cert.Comb1RefIdeal.τ).loc Cert.Comb1RefIdeal.main_arg1) = m' ((c.tc : Thread Cert.Comb1RefIdeal.nD Cert.Comb1RefIdeal.τ).loc Cert.Comb1RefIdeal.main_arg1)
          ∧ r.2.mem ((c.tc : Thread Cert.Comb1RefIdeal.nD Cert.Comb1RefIdeal.τ).loc Cert.Comb1RefIdeal.main_arg2) = m' ((c.tc : Thread Cert.Comb1RefIdeal.nD Cert.Comb1RefIdeal.τ).loc Cert.Comb1RefIdeal.main_arg2)
          ∧ r.2.mem ((c.tc : Thread Cert.Comb1RefIdeal.nD Cert.Comb1RefIdeal.τ).loc Cert.Comb1RefIdeal.main_arg3) = m' ((c.tc : Thread Cert.Comb1RefIdeal.nD Cert.Comb1RefIdeal.τ).loc Cert.Comb1RefIdeal.main_arg3))

def preserves_Comb2_Comb2Ideal : Prop :=
  True

def algebraic_Comb2Ideal_Comb2RefIdeal [hComb2Ideal : Cert.Comb2Ideal.Facts] [hComb2RefIdeal : Cert.Comb2RefIdeal.Facts] : Prop :=
  ∀ (m : (ℓ : Loc Cert.Comb2Ideal.nD Cert.Comb2Ideal.τ Cert.Comb2Ideal.sig) → Buf (Elt Ideal) ℓ) (g : Dev Cert.Comb2Ideal.nD → PrngReg)
    (m' : (ℓ : Loc Cert.Comb2RefIdeal.nD Cert.Comb2RefIdeal.τ Cert.Comb2RefIdeal.sig) → Buf (Elt Ideal) ℓ) (g' : Dev Cert.Comb2RefIdeal.nD → PrngReg), Pre_Comb2Ideal m →
    (∀ c : Dev Cert.Comb2Ideal.nD,
      m' ((c.tc : Thread Cert.Comb2RefIdeal.nD Cert.Comb2RefIdeal.τ).loc Cert.Comb2RefIdeal.main_arg0) = m ((c.tc : Thread Cert.Comb2Ideal.nD Cert.Comb2Ideal.τ).loc Cert.Comb2Ideal.main_arg0)
      ∧ m' ((c.tc : Thread Cert.Comb2RefIdeal.nD Cert.Comb2RefIdeal.τ).loc Cert.Comb2RefIdeal.main_arg1) = m ((c.tc : Thread Cert.Comb2Ideal.nD Cert.Comb2Ideal.τ).loc Cert.Comb2Ideal.main_arg1)
      ∧ m' ((c.tc : Thread Cert.Comb2RefIdeal.nD Cert.Comb2RefIdeal.τ).loc Cert.Comb2RefIdeal.main_arg2) = m ((c.tc : Thread Cert.Comb2Ideal.nD Cert.Comb2Ideal.τ).loc Cert.Comb2Ideal.main_arg2)
      ∧ m' ((c.tc : Thread Cert.Comb2RefIdeal.nD Cert.Comb2RefIdeal.τ).loc Cert.Comb2RefIdeal.main_arg3) = m ((c.tc : Thread Cert.Comb2Ideal.nD Cert.Comb2Ideal.τ).loc Cert.Comb2Ideal.main_arg3)) →
    ∃ (v0 : (c : Dev Cert.Comb2Ideal.nD) → Buf (Elt Ideal) ((c.tc : Thread Cert.Comb2Ideal.nD Cert.Comb2Ideal.τ).loc Cert.Comb2Ideal.main_v1_0)) (v1 : (c : Dev Cert.Comb2Ideal.nD) → Buf (Elt Ideal) ((c.tc : Thread Cert.Comb2Ideal.nD Cert.Comb2Ideal.τ).loc Cert.Comb2Ideal.main_v1_1)),
      θ_run (Cert.Comb2Ideal.defs (F := Ideal)) (onTc (τ := Cert.Comb2Ideal.τ) (Cert.Comb2Ideal.main (F := Ideal))) ⟨m, fun _ => 0, g⟩ (fun r => ∀ c : Dev Cert.Comb2Ideal.nD,
          r.2.mem ((c.tc : Thread Cert.Comb2Ideal.nD Cert.Comb2Ideal.τ).loc Cert.Comb2Ideal.main_v1_0) = v0 c
          ∧ r.2.mem ((c.tc : Thread Cert.Comb2Ideal.nD Cert.Comb2Ideal.τ).loc Cert.Comb2Ideal.main_v1_1) = v1 c
          ∧ r.2.mem ((c.tc : Thread Cert.Comb2Ideal.nD Cert.Comb2Ideal.τ).loc Cert.Comb2Ideal.main_arg0) = m ((c.tc : Thread Cert.Comb2Ideal.nD Cert.Comb2Ideal.τ).loc Cert.Comb2Ideal.main_arg0)
          ∧ r.2.mem ((c.tc : Thread Cert.Comb2Ideal.nD Cert.Comb2Ideal.τ).loc Cert.Comb2Ideal.main_arg1) = m ((c.tc : Thread Cert.Comb2Ideal.nD Cert.Comb2Ideal.τ).loc Cert.Comb2Ideal.main_arg1)
          ∧ r.2.mem ((c.tc : Thread Cert.Comb2Ideal.nD Cert.Comb2Ideal.τ).loc Cert.Comb2Ideal.main_arg2) = m ((c.tc : Thread Cert.Comb2Ideal.nD Cert.Comb2Ideal.τ).loc Cert.Comb2Ideal.main_arg2)
          ∧ r.2.mem ((c.tc : Thread Cert.Comb2Ideal.nD Cert.Comb2Ideal.τ).loc Cert.Comb2Ideal.main_arg3) = m ((c.tc : Thread Cert.Comb2Ideal.nD Cert.Comb2Ideal.τ).loc Cert.Comb2Ideal.main_arg3))
      ∧ θ_run (Cert.Comb2RefIdeal.defs (F := Ideal)) (onTc (τ := Cert.Comb2RefIdeal.τ) (Cert.Comb2RefIdeal.main (F := Ideal))) ⟨m', fun _ => 0, g'⟩ (fun r => ∀ c : Dev Cert.Comb2RefIdeal.nD,
          r.2.mem ((c.tc : Thread Cert.Comb2RefIdeal.nD Cert.Comb2RefIdeal.τ).loc Cert.Comb2RefIdeal.main_v8) = v0 c
          ∧ r.2.mem ((c.tc : Thread Cert.Comb2RefIdeal.nD Cert.Comb2RefIdeal.τ).loc Cert.Comb2RefIdeal.main_v24) = v1 c
          ∧ r.2.mem ((c.tc : Thread Cert.Comb2RefIdeal.nD Cert.Comb2RefIdeal.τ).loc Cert.Comb2RefIdeal.main_arg0) = m' ((c.tc : Thread Cert.Comb2RefIdeal.nD Cert.Comb2RefIdeal.τ).loc Cert.Comb2RefIdeal.main_arg0)
          ∧ r.2.mem ((c.tc : Thread Cert.Comb2RefIdeal.nD Cert.Comb2RefIdeal.τ).loc Cert.Comb2RefIdeal.main_arg1) = m' ((c.tc : Thread Cert.Comb2RefIdeal.nD Cert.Comb2RefIdeal.τ).loc Cert.Comb2RefIdeal.main_arg1)
          ∧ r.2.mem ((c.tc : Thread Cert.Comb2RefIdeal.nD Cert.Comb2RefIdeal.τ).loc Cert.Comb2RefIdeal.main_arg2) = m' ((c.tc : Thread Cert.Comb2RefIdeal.nD Cert.Comb2RefIdeal.τ).loc Cert.Comb2RefIdeal.main_arg2)
          ∧ r.2.mem ((c.tc : Thread Cert.Comb2RefIdeal.nD Cert.Comb2RefIdeal.τ).loc Cert.Comb2RefIdeal.main_arg3) = m' ((c.tc : Thread Cert.Comb2RefIdeal.nD Cert.Comb2RefIdeal.τ).loc Cert.Comb2RefIdeal.main_arg3))

def preserves_Comb3_Comb3Ideal : Prop :=
  True

def algebraic_Comb3Ideal_Comb3RefIdeal [hComb3Ideal : Cert.Comb3Ideal.Facts] [hComb3RefIdeal : Cert.Comb3RefIdeal.Facts] : Prop :=
  ∀ (m : (ℓ : Loc Cert.Comb3Ideal.nD Cert.Comb3Ideal.τ Cert.Comb3Ideal.sig) → Buf (Elt Ideal) ℓ) (g : Dev Cert.Comb3Ideal.nD → PrngReg)
    (m' : (ℓ : Loc Cert.Comb3RefIdeal.nD Cert.Comb3RefIdeal.τ Cert.Comb3RefIdeal.sig) → Buf (Elt Ideal) ℓ) (g' : Dev Cert.Comb3RefIdeal.nD → PrngReg), Pre_Comb3Ideal m →
    (∀ c : Dev Cert.Comb3Ideal.nD,
      m' ((c.tc : Thread Cert.Comb3RefIdeal.nD Cert.Comb3RefIdeal.τ).loc Cert.Comb3RefIdeal.main_arg0) = m ((c.tc : Thread Cert.Comb3Ideal.nD Cert.Comb3Ideal.τ).loc Cert.Comb3Ideal.main_arg0)
      ∧ m' ((c.tc : Thread Cert.Comb3RefIdeal.nD Cert.Comb3RefIdeal.τ).loc Cert.Comb3RefIdeal.main_arg1) = m ((c.tc : Thread Cert.Comb3Ideal.nD Cert.Comb3Ideal.τ).loc Cert.Comb3Ideal.main_arg1)
      ∧ m' ((c.tc : Thread Cert.Comb3RefIdeal.nD Cert.Comb3RefIdeal.τ).loc Cert.Comb3RefIdeal.main_arg2) = m ((c.tc : Thread Cert.Comb3Ideal.nD Cert.Comb3Ideal.τ).loc Cert.Comb3Ideal.main_arg2)
      ∧ m' ((c.tc : Thread Cert.Comb3RefIdeal.nD Cert.Comb3RefIdeal.τ).loc Cert.Comb3RefIdeal.main_arg3) = m ((c.tc : Thread Cert.Comb3Ideal.nD Cert.Comb3Ideal.τ).loc Cert.Comb3Ideal.main_arg3)) →
    ∃ (v0 : (c : Dev Cert.Comb3Ideal.nD) → Buf (Elt Ideal) ((c.tc : Thread Cert.Comb3Ideal.nD Cert.Comb3Ideal.τ).loc Cert.Comb3Ideal.main_v2)),
      θ_run (Cert.Comb3Ideal.defs (F := Ideal)) (onTc (τ := Cert.Comb3Ideal.τ) (Cert.Comb3Ideal.main (F := Ideal))) ⟨m, fun _ => 0, g⟩ (fun r => ∀ c : Dev Cert.Comb3Ideal.nD,
          r.2.mem ((c.tc : Thread Cert.Comb3Ideal.nD Cert.Comb3Ideal.τ).loc Cert.Comb3Ideal.main_v2) = v0 c
          ∧ r.2.mem ((c.tc : Thread Cert.Comb3Ideal.nD Cert.Comb3Ideal.τ).loc Cert.Comb3Ideal.main_arg0) = m ((c.tc : Thread Cert.Comb3Ideal.nD Cert.Comb3Ideal.τ).loc Cert.Comb3Ideal.main_arg0)
          ∧ r.2.mem ((c.tc : Thread Cert.Comb3Ideal.nD Cert.Comb3Ideal.τ).loc Cert.Comb3Ideal.main_arg1) = m ((c.tc : Thread Cert.Comb3Ideal.nD Cert.Comb3Ideal.τ).loc Cert.Comb3Ideal.main_arg1)
          ∧ r.2.mem ((c.tc : Thread Cert.Comb3Ideal.nD Cert.Comb3Ideal.τ).loc Cert.Comb3Ideal.main_arg2) = m ((c.tc : Thread Cert.Comb3Ideal.nD Cert.Comb3Ideal.τ).loc Cert.Comb3Ideal.main_arg2)
          ∧ r.2.mem ((c.tc : Thread Cert.Comb3Ideal.nD Cert.Comb3Ideal.τ).loc Cert.Comb3Ideal.main_arg3) = m ((c.tc : Thread Cert.Comb3Ideal.nD Cert.Comb3Ideal.τ).loc Cert.Comb3Ideal.main_arg3))
      ∧ θ_run (Cert.Comb3RefIdeal.defs (F := Ideal)) (onTc (τ := Cert.Comb3RefIdeal.τ) (Cert.Comb3RefIdeal.main (F := Ideal))) ⟨m', fun _ => 0, g'⟩ (fun r => ∀ c : Dev Cert.Comb3RefIdeal.nD,
          r.2.mem ((c.tc : Thread Cert.Comb3RefIdeal.nD Cert.Comb3RefIdeal.τ).loc Cert.Comb3RefIdeal.main_v21) = v0 c
          ∧ r.2.mem ((c.tc : Thread Cert.Comb3RefIdeal.nD Cert.Comb3RefIdeal.τ).loc Cert.Comb3RefIdeal.main_arg0) = m' ((c.tc : Thread Cert.Comb3RefIdeal.nD Cert.Comb3RefIdeal.τ).loc Cert.Comb3RefIdeal.main_arg0)
          ∧ r.2.mem ((c.tc : Thread Cert.Comb3RefIdeal.nD Cert.Comb3RefIdeal.τ).loc Cert.Comb3RefIdeal.main_arg1) = m' ((c.tc : Thread Cert.Comb3RefIdeal.nD Cert.Comb3RefIdeal.τ).loc Cert.Comb3RefIdeal.main_arg1)
          ∧ r.2.mem ((c.tc : Thread Cert.Comb3RefIdeal.nD Cert.Comb3RefIdeal.τ).loc Cert.Comb3RefIdeal.main_arg2) = m' ((c.tc : Thread Cert.Comb3RefIdeal.nD Cert.Comb3RefIdeal.τ).loc Cert.Comb3RefIdeal.main_arg2)
          ∧ r.2.mem ((c.tc : Thread Cert.Comb3RefIdeal.nD Cert.Comb3RefIdeal.τ).loc Cert.Comb3RefIdeal.main_arg3) = m' ((c.tc : Thread Cert.Comb3RefIdeal.nD Cert.Comb3RefIdeal.τ).loc Cert.Comb3RefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v30) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_GrpC_GrpCIdeal : Prop :=
  IdealRules.named_const.Statement Cert.GrpCIdeal.κ "mask" .f32 0xF149F2CA#32 ⊥
  ∧ IdealRules.named_const.Statement Cert.GrpCIdeal.κ "ln2" .f32 0x3F317218#32 ((Real.log 2 : ℝ) : EReal)

def algebraic_GrpCIdeal_GrpCRefIdeal_pre_finite_group [hGrpCIdeal : Cert.GrpCIdeal.Facts] [hGrpCRefIdeal : Cert.GrpCRefIdeal.Facts] [hPre_finite_group : Cert.Pre_finite_group.Facts] : Prop :=
  ∀ (m : (ℓ : Loc Cert.GrpCIdeal.nD Cert.GrpCIdeal.τ Cert.GrpCIdeal.sig) → Buf (Elt Ideal) ℓ) (g : Dev Cert.GrpCIdeal.nD → PrngReg)
    (m' : (ℓ : Loc Cert.GrpCRefIdeal.nD Cert.GrpCRefIdeal.τ Cert.GrpCRefIdeal.sig) → Buf (Elt Ideal) ℓ) (g' : Dev Cert.GrpCRefIdeal.nD → PrngReg), Pre_GrpCIdeal_finite_group m →
    (∀ c : Dev Cert.GrpCIdeal.nD,
      m' ((c.tc : Thread Cert.GrpCRefIdeal.nD Cert.GrpCRefIdeal.τ).loc Cert.GrpCRefIdeal.main_arg0) = m ((c.tc : Thread Cert.GrpCIdeal.nD Cert.GrpCIdeal.τ).loc Cert.GrpCIdeal.main_arg0)
      ∧ m' ((c.tc : Thread Cert.GrpCRefIdeal.nD Cert.GrpCRefIdeal.τ).loc Cert.GrpCRefIdeal.main_arg1) = m ((c.tc : Thread Cert.GrpCIdeal.nD Cert.GrpCIdeal.τ).loc Cert.GrpCIdeal.main_arg1)
      ∧ m' ((c.tc : Thread Cert.GrpCRefIdeal.nD Cert.GrpCRefIdeal.τ).loc Cert.GrpCRefIdeal.main_arg2) = m ((c.tc : Thread Cert.GrpCIdeal.nD Cert.GrpCIdeal.τ).loc Cert.GrpCIdeal.main_arg2)) →
    ∃ (v0 : (c : Dev Cert.GrpCIdeal.nD) → Buf (Elt Ideal) ((c.tc : Thread Cert.GrpCIdeal.nD Cert.GrpCIdeal.τ).loc Cert.GrpCIdeal.main_v10_0)) (v1 : (c : Dev Cert.GrpCIdeal.nD) → Buf (Elt Ideal) ((c.tc : Thread Cert.GrpCIdeal.nD Cert.GrpCIdeal.τ).loc Cert.GrpCIdeal.main_v10_1)),
      θ_run (Cert.GrpCIdeal.defs (F := Ideal)) (onTc (τ := Cert.GrpCIdeal.τ) (Cert.GrpCIdeal.main (F := Ideal))) ⟨m, fun _ => 0, g⟩ (fun r => ∀ c : Dev Cert.GrpCIdeal.nD,
          r.2.mem ((c.tc : Thread Cert.GrpCIdeal.nD Cert.GrpCIdeal.τ).loc Cert.GrpCIdeal.main_v10_0) = v0 c
          ∧ r.2.mem ((c.tc : Thread Cert.GrpCIdeal.nD Cert.GrpCIdeal.τ).loc Cert.GrpCIdeal.main_v10_1) = v1 c
          ∧ r.2.mem ((c.tc : Thread Cert.GrpCIdeal.nD Cert.GrpCIdeal.τ).loc Cert.GrpCIdeal.main_arg0) = m ((c.tc : Thread Cert.GrpCIdeal.nD Cert.GrpCIdeal.τ).loc Cert.GrpCIdeal.main_arg0)
          ∧ r.2.mem ((c.tc : Thread Cert.GrpCIdeal.nD Cert.GrpCIdeal.τ).loc Cert.GrpCIdeal.main_arg1) = m ((c.tc : Thread Cert.GrpCIdeal.nD Cert.GrpCIdeal.τ).loc Cert.GrpCIdeal.main_arg1)
          ∧ r.2.mem ((c.tc : Thread Cert.GrpCIdeal.nD Cert.GrpCIdeal.τ).loc Cert.GrpCIdeal.main_arg2) = m ((c.tc : Thread Cert.GrpCIdeal.nD Cert.GrpCIdeal.τ).loc Cert.GrpCIdeal.main_arg2))
      ∧ θ_run (Cert.GrpCRefIdeal.defs (F := Ideal)) (onTc (τ := Cert.GrpCRefIdeal.τ) (Cert.GrpCRefIdeal.main (F := Ideal))) ⟨m', fun _ => 0, g'⟩ (fun r => ∀ c : Dev Cert.GrpCRefIdeal.nD,
          r.2.mem ((c.tc : Thread Cert.GrpCRefIdeal.nD Cert.GrpCRefIdeal.τ).loc Cert.GrpCRefIdeal.main_v37) = v0 c
          ∧ r.2.mem ((c.tc : Thread Cert.GrpCRefIdeal.nD Cert.GrpCRefIdeal.τ).loc Cert.GrpCRefIdeal.main_v38) = v1 c
          ∧ r.2.mem ((c.tc : Thread Cert.GrpCRefIdeal.nD Cert.GrpCRefIdeal.τ).loc Cert.GrpCRefIdeal.main_arg0) = m' ((c.tc : Thread Cert.GrpCRefIdeal.nD Cert.GrpCRefIdeal.τ).loc Cert.GrpCRefIdeal.main_arg0)
          ∧ r.2.mem ((c.tc : Thread Cert.GrpCRefIdeal.nD Cert.GrpCRefIdeal.τ).loc Cert.GrpCRefIdeal.main_arg1) = m' ((c.tc : Thread Cert.GrpCRefIdeal.nD Cert.GrpCRefIdeal.τ).loc Cert.GrpCRefIdeal.main_arg1)
          ∧ r.2.mem ((c.tc : Thread Cert.GrpCRefIdeal.nD Cert.GrpCRefIdeal.τ).loc Cert.GrpCRefIdeal.main_arg2) = m' ((c.tc : Thread Cert.GrpCRefIdeal.nD Cert.GrpCRefIdeal.τ).loc Cert.GrpCRefIdeal.main_arg2))

def Claim : Prop :=
  ∃ (hKernel : Cert.Kernel.Facts) (hKernelIdeal : Cert.KernelIdeal.Facts) (hReferenceIdeal : Cert.ReferenceIdeal.Facts) (hAtt3 : Cert.Att3.Facts) (hAtt3Ideal : Cert.Att3Ideal.Facts) (hAtt3RefIdeal : Cert.Att3RefIdeal.Facts) (hQkv : Cert.Qkv.Facts) (hQkvIdeal : Cert.QkvIdeal.Facts) (hQkvRefIdeal : Cert.QkvRefIdeal.Facts) (hQkv3 : Cert.Qkv3.Facts) (hQkv3Ideal : Cert.Qkv3Ideal.Facts) (hQkv3RefIdeal : Cert.Qkv3RefIdeal.Facts) (hOut : Cert.Out.Facts) (hOutIdeal : Cert.OutIdeal.Facts) (hOutRefIdeal : Cert.OutRefIdeal.Facts) (hOut1 : Cert.Out1.Facts) (hOut1Ideal : Cert.Out1Ideal.Facts) (hOut1RefIdeal : Cert.Out1RefIdeal.Facts) (hOut2 : Cert.Out2.Facts) (hOut2Ideal : Cert.Out2Ideal.Facts) (hOut2RefIdeal : Cert.Out2RefIdeal.Facts) (hOut3 : Cert.Out3.Facts) (hOut3Ideal : Cert.Out3Ideal.Facts) (hOut3RefIdeal : Cert.Out3RefIdeal.Facts) (hDilA : Cert.DilA.Facts) (hDilAIdeal : Cert.DilAIdeal.Facts) (hDilARefIdeal : Cert.DilARefIdeal.Facts) (hDilB : Cert.DilB.Facts) (hDilBIdeal : Cert.DilBIdeal.Facts) (hDilBRefIdeal : Cert.DilBRefIdeal.Facts) (hDilC : Cert.DilC.Facts) (hDilCIdeal : Cert.DilCIdeal.Facts) (hDilCRefIdeal : Cert.DilCRefIdeal.Facts) (hNorm : Cert.Norm.Facts) (hNormIdeal : Cert.NormIdeal.Facts) (hNormRefIdeal : Cert.NormRefIdeal.Facts) (hComb0 : Cert.Comb0.Facts) (hComb0Ideal : Cert.Comb0Ideal.Facts) (hComb0RefIdeal : Cert.Comb0RefIdeal.Facts) (hComb1 : Cert.Comb1.Facts) (hComb1Ideal : Cert.Comb1Ideal.Facts) (hComb1RefIdeal : Cert.Comb1RefIdeal.Facts) (hComb2 : Cert.Comb2.Facts) (hComb2Ideal : Cert.Comb2Ideal.Facts) (hComb2RefIdeal : Cert.Comb2RefIdeal.Facts) (hComb3 : Cert.Comb3.Facts) (hComb3Ideal : Cert.Comb3Ideal.Facts) (hComb3RefIdeal : Cert.Comb3RefIdeal.Facts) (hMerge : Cert.Merge.Facts) (hMergeIdeal : Cert.MergeIdeal.Facts) (hMergeRefIdeal : Cert.MergeRefIdeal.Facts) (hGrpC : Cert.GrpC.Facts) (hGrpCIdeal : Cert.GrpCIdeal.Facts) (hGrpCRefIdeal : Cert.GrpCRefIdeal.Facts) (hPre_finite : Cert.Pre_finite.Facts) (hPre_finite_group : Cert.Pre_finite_group.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Att3 (hAtt3 := hAtt3)
    ∧ quiescent_Att3Ideal (hAtt3Ideal := hAtt3Ideal)
    ∧ quiescent_Att3Ideal_pre_finite (hAtt3Ideal := hAtt3Ideal) (hPre_finite := hPre_finite)
    ∧ quiescent_Att3RefIdeal (hAtt3RefIdeal := hAtt3RefIdeal)
    ∧ quiescent_Att3RefIdeal_pre_finite (hAtt3RefIdeal := hAtt3RefIdeal) (hPre_finite := hPre_finite)
    ∧ quiescent_Qkv (hQkv := hQkv)
    ∧ quiescent_QkvIdeal (hQkvIdeal := hQkvIdeal)
    ∧ quiescent_QkvRefIdeal (hQkvRefIdeal := hQkvRefIdeal)
    ∧ quiescent_Qkv3 (hQkv3 := hQkv3)
    ∧ quiescent_Qkv3Ideal (hQkv3Ideal := hQkv3Ideal)
    ∧ quiescent_Qkv3RefIdeal (hQkv3RefIdeal := hQkv3RefIdeal)
    ∧ quiescent_Out (hOut := hOut)
    ∧ quiescent_OutIdeal (hOutIdeal := hOutIdeal)
    ∧ quiescent_OutRefIdeal (hOutRefIdeal := hOutRefIdeal)
    ∧ quiescent_Out1 (hOut1 := hOut1)
    ∧ quiescent_Out1Ideal (hOut1Ideal := hOut1Ideal)
    ∧ quiescent_Out1RefIdeal (hOut1RefIdeal := hOut1RefIdeal)
    ∧ quiescent_Out2 (hOut2 := hOut2)
    ∧ quiescent_Out2Ideal (hOut2Ideal := hOut2Ideal)
    ∧ quiescent_Out2RefIdeal (hOut2RefIdeal := hOut2RefIdeal)
    ∧ quiescent_Out3 (hOut3 := hOut3)
    ∧ quiescent_Out3Ideal (hOut3Ideal := hOut3Ideal)
    ∧ quiescent_Out3RefIdeal (hOut3RefIdeal := hOut3RefIdeal)
    ∧ quiescent_DilA (hDilA := hDilA)
    ∧ quiescent_DilAIdeal (hDilAIdeal := hDilAIdeal)
    ∧ quiescent_DilARefIdeal (hDilARefIdeal := hDilARefIdeal)
    ∧ quiescent_DilB (hDilB := hDilB)
    ∧ quiescent_DilBIdeal (hDilBIdeal := hDilBIdeal)
    ∧ quiescent_DilBRefIdeal (hDilBRefIdeal := hDilBRefIdeal)
    ∧ quiescent_DilC (hDilC := hDilC)
    ∧ quiescent_DilCIdeal (hDilCIdeal := hDilCIdeal)
    ∧ quiescent_DilCRefIdeal (hDilCRefIdeal := hDilCRefIdeal)
    ∧ quiescent_Norm (hNorm := hNorm)
    ∧ quiescent_NormIdeal (hNormIdeal := hNormIdeal)
    ∧ quiescent_NormRefIdeal (hNormRefIdeal := hNormRefIdeal)
    ∧ quiescent_Comb0 (hComb0 := hComb0)
    ∧ quiescent_Comb0Ideal (hComb0Ideal := hComb0Ideal)
    ∧ quiescent_Comb0RefIdeal (hComb0RefIdeal := hComb0RefIdeal)
    ∧ quiescent_Comb1 (hComb1 := hComb1)
    ∧ quiescent_Comb1Ideal (hComb1Ideal := hComb1Ideal)
    ∧ quiescent_Comb1RefIdeal (hComb1RefIdeal := hComb1RefIdeal)
    ∧ quiescent_Comb2 (hComb2 := hComb2)
    ∧ quiescent_Comb2Ideal (hComb2Ideal := hComb2Ideal)
    ∧ quiescent_Comb2RefIdeal (hComb2RefIdeal := hComb2RefIdeal)
    ∧ quiescent_Comb3 (hComb3 := hComb3)
    ∧ quiescent_Comb3Ideal (hComb3Ideal := hComb3Ideal)
    ∧ quiescent_Comb3RefIdeal (hComb3RefIdeal := hComb3RefIdeal)
    ∧ quiescent_Merge (hMerge := hMerge)
    ∧ quiescent_MergeIdeal (hMergeIdeal := hMergeIdeal)
    ∧ quiescent_MergeRefIdeal (hMergeRefIdeal := hMergeRefIdeal)
    ∧ quiescent_GrpC (hGrpC := hGrpC)
    ∧ quiescent_GrpCIdeal (hGrpCIdeal := hGrpCIdeal)
    ∧ quiescent_GrpCIdeal_pre_finite_group (hGrpCIdeal := hGrpCIdeal) (hPre_finite_group := hPre_finite_group)
    ∧ quiescent_GrpCRefIdeal (hGrpCRefIdeal := hGrpCRefIdeal)
    ∧ quiescent_GrpCRefIdeal_pre_finite_group (hGrpCRefIdeal := hGrpCRefIdeal) (hPre_finite_group := hPre_finite_group)
    ∧ preserves_Kernel_KernelIdeal
    ∧ algebraic_KernelIdeal_ReferenceIdeal_pre_finite (hKernelIdeal := hKernelIdeal) (hReferenceIdeal := hReferenceIdeal) (hPre_finite := hPre_finite)
    ∧ preserves_Att3_Att3Ideal
    ∧ algebraic_Att3Ideal_Att3RefIdeal_pre_finite (hAtt3Ideal := hAtt3Ideal) (hAtt3RefIdeal := hAtt3RefIdeal) (hPre_finite := hPre_finite)
    ∧ preserves_Qkv_QkvIdeal
    ∧ algebraic_QkvIdeal_QkvRefIdeal (hQkvIdeal := hQkvIdeal) (hQkvRefIdeal := hQkvRefIdeal)
    ∧ preserves_Qkv3_Qkv3Ideal
    ∧ algebraic_Qkv3Ideal_Qkv3RefIdeal (hQkv3Ideal := hQkv3Ideal) (hQkv3RefIdeal := hQkv3RefIdeal)
    ∧ preserves_Out_OutIdeal
    ∧ algebraic_OutIdeal_OutRefIdeal (hOutIdeal := hOutIdeal) (hOutRefIdeal := hOutRefIdeal)
    ∧ preserves_Out1_Out1Ideal
    ∧ algebraic_Out1Ideal_Out1RefIdeal (hOut1Ideal := hOut1Ideal) (hOut1RefIdeal := hOut1RefIdeal)
    ∧ preserves_Out2_Out2Ideal
    ∧ algebraic_Out2Ideal_Out2RefIdeal (hOut2Ideal := hOut2Ideal) (hOut2RefIdeal := hOut2RefIdeal)
    ∧ preserves_Out3_Out3Ideal
    ∧ algebraic_Out3Ideal_Out3RefIdeal (hOut3Ideal := hOut3Ideal) (hOut3RefIdeal := hOut3RefIdeal)
    ∧ preserves_DilA_DilAIdeal
    ∧ algebraic_DilAIdeal_DilARefIdeal (hDilAIdeal := hDilAIdeal) (hDilARefIdeal := hDilARefIdeal)
    ∧ preserves_DilB_DilBIdeal
    ∧ algebraic_DilBIdeal_DilBRefIdeal (hDilBIdeal := hDilBIdeal) (hDilBRefIdeal := hDilBRefIdeal)
    ∧ preserves_DilC_DilCIdeal
    ∧ algebraic_DilCIdeal_DilCRefIdeal (hDilCIdeal := hDilCIdeal) (hDilCRefIdeal := hDilCRefIdeal)
    ∧ preserves_Norm_NormIdeal
    ∧ algebraic_NormIdeal_NormRefIdeal (hNormIdeal := hNormIdeal) (hNormRefIdeal := hNormRefIdeal)
    ∧ preserves_Comb0_Comb0Ideal
    ∧ algebraic_Comb0Ideal_Comb0RefIdeal (hComb0Ideal := hComb0Ideal) (hComb0RefIdeal := hComb0RefIdeal)
    ∧ preserves_Comb1_Comb1Ideal
    ∧ algebraic_Comb1Ideal_Comb1RefIdeal (hComb1Ideal := hComb1Ideal) (hComb1RefIdeal := hComb1RefIdeal)
    ∧ preserves_Comb2_Comb2Ideal
    ∧ algebraic_Comb2Ideal_Comb2RefIdeal (hComb2Ideal := hComb2Ideal) (hComb2RefIdeal := hComb2RefIdeal)
    ∧ preserves_Comb3_Comb3Ideal
    ∧ algebraic_Comb3Ideal_Comb3RefIdeal (hComb3Ideal := hComb3Ideal) (hComb3RefIdeal := hComb3RefIdeal)
    ∧ preserves_Merge_MergeIdeal
    ∧ algebraic_MergeIdeal_MergeRefIdeal (hMergeIdeal := hMergeIdeal) (hMergeRefIdeal := hMergeRefIdeal)
    ∧ preserves_GrpC_GrpCIdeal
    ∧ algebraic_GrpCIdeal_GrpCRefIdeal_pre_finite_group (hGrpCIdeal := hGrpCIdeal) (hGrpCRefIdeal := hGrpCRefIdeal) (hPre_finite_group := hPre_finite_group)
-- ==== Pre_finite.lean ====
abbrev S4x2048x8x2x128 : Shape := ⟨5, ![4, 2048, 8, 2, 128]⟩
abbrev S4x2048x8x256 : Shape := ⟨4, ![4, 2048, 8, 256]⟩
abbrev S2x4x128 : Shape := ⟨3, ![2, 4, 128]⟩
abbrev S2x256 : Shape := ⟨2, ![2, 256]⟩
abbrev S_ : Shape := ⟨0, ![]⟩

class Facts : Prop where
  bcast_S_S4x2048x8x2x128 : S_.BroadcastsInDim S4x2048x8x2x128 (![] : Fin 0 → Fin S4x2048x8x2x128.rank)
  reducesTo_S4x2048x8x2x128_S_d0_1_2_3_4 : S4x2048x8x2x128.ReducesTo [0, 1, 2, 3, 4] S_
  h_S_ : 0 < S_.numel
  bcast_S_S4x2048x8x256 : S_.BroadcastsInDim S4x2048x8x256 (![] : Fin 0 → Fin S4x2048x8x256.rank)
  reducesTo_S4x2048x8x256_S_d0_1_2_3 : S4x2048x8x256.ReducesTo [0, 1, 2, 3] S_
  bcast_S_S2x4x128 : S_.BroadcastsInDim S2x4x128 (![] : Fin 0 → Fin S2x4x128.rank)
  reducesTo_S2x4x128_S_d0_1_2 : S2x4x128.ReducesTo [0, 1, 2] S_

variable [Facts]

def fn_part1 {F : FTy → Type} [FloatOps F] (main_v13 : IVec S_ 1) (main_v16 : IVec S2x4x128 1) : IVec S_ 1 :=
  let main_c_5 : IVec S_ 1 := constantI S_ 1 1#1
  let main_v17 : IVec S_ 1 := (fun x v => Host.reduce IntOp.andi x v reducesTo_S2x4x128_S_d0_1_2 h_S_) main_v16 main_c_5
  let main_v18 : IVec S_ 1 := andi main_v13 main_v17
  main_v18

def fn {F : FTy → Type} [FloatOps F] (main_arg0 : FVec F S4x2048x8x2x128 .f32) (main_arg1 : FVec F S4x2048x8x2x128 .f32) (main_arg2 : FVec F S4x2048x8x256 .f32) (main_arg3 : FVec F S2x4x128 .f32) (main_arg4 : FVec F S2x256 .f32) : IVec S_ 1 :=
  let main_v0 : FVec F S4x2048x8x2x128 .f32 := Host.absf main_arg0
  let main_cst : FVec F S_ .f32 := constant S_ .f32 0x7F800000#32
  let main_v1 : FVec F S4x2048x8x2x128 .f32 := broadcastInDim S4x2048x8x2x128 ![] bcast_S_S4x2048x8x2x128 main_cst
  let main_v2 : IVec S4x2048x8x2x128 1 := cmpf .olt main_v0 main_v1
  let main_c : IVec S_ 1 := constantI S_ 1 1#1
  let main_v3 : IVec S_ 1 := (fun x v => Host.reduce IntOp.andi x v reducesTo_S4x2048x8x2x128_S_d0_1_2_3_4 h_S_) main_v2 main_c
  let main_v4 : FVec F S4x2048x8x2x128 .f32 := Host.absf main_arg1
  let main_cst_0 : FVec F S_ .f32 := constant S_ .f32 0x7F800000#32
  let main_v5 : FVec F S4x2048x8x2x128 .f32 := broadcastInDim S4x2048x8x2x128 ![] bcast_S_S4x2048x8x2x128 main_cst_0
  let main_v6 : IVec S4x2048x8x2x128 1 := cmpf .olt main_v4 main_v5
  let main_c_1 : IVec S_ 1 := constantI S_ 1 1#1
  let main_v7 : IVec S_ 1 := (fun x v => Host.reduce IntOp.andi x v reducesTo_S4x2048x8x2x128_S_d0_1_2_3_4 h_S_) main_v6 main_c_1
  let main_v8 : IVec S_ 1 := andi main_v3 main_v7
  let main_v9 : FVec F S4x2048x8x256 .f32 := Host.absf main_arg2
  let main_cst_2 : FVec F S_ .f32 := constant S_ .f32 0x7F800000#32
  let main_v10 : FVec F S4x2048x8x256 .f32 := broadcastInDim S4x2048x8x256 ![] bcast_S_S4x2048x8x256 main_cst_2
  let main_v11 : IVec S4x2048x8x256 1 := cmpf .olt main_v9 main_v10
  let main_c_3 : IVec S_ 1 := constantI S_ 1 1#1
  let main_v12 : IVec S_ 1 := (fun x v => Host.reduce IntOp.andi x v reducesTo_S4x2048x8x256_S_d0_1_2_3 h_S_) main_v11 main_c_3
  let main_v13 : IVec S_ 1 := andi main_v8 main_v12
  let main_v14 : FVec F S2x4x128 .f32 := Host.absf main_arg3
  let main_cst_4 : FVec F S_ .f32 := constant S_ .f32 0x7F800000#32
  let main_v15 : FVec F S2x4x128 .f32 := broadcastInDim S2x4x128 ![] bcast_S_S2x4x128 main_cst_4
  let main_v16 : IVec S2x4x128 1 := cmpf .olt main_v14 main_v15
  fn_part1 (F := F) main_v13 main_v16
-- ==== Pre_finite_group.lean ====
abbrev S4x2048x8x128 : Shape := ⟨4, ![4, 2048, 8, 128]⟩
abbrev S_ : Shape := ⟨0, ![]⟩

class Facts : Prop where
  bcast_S_S4x2048x8x128 : S_.BroadcastsInDim S4x2048x8x128 (![] : Fin 0 → Fin S4x2048x8x128.rank)
  reducesTo_S4x2048x8x128_S_d0_1_2_3 : S4x2048x8x128.ReducesTo [0, 1, 2, 3] S_
  h_S_ : 0 < S_.numel

variable [Facts]

def fn {F : FTy → Type} [FloatOps F] (main_arg0 : FVec F S4x2048x8x128 .f32) (main_arg1 : FVec F S4x2048x8x128 .f32) (main_arg2 : FVec F S4x2048x8x128 .f32) : IVec S_ 1 :=
  let main_v0 : FVec F S4x2048x8x128 .f32 := Host.absf main_arg0
  let main_cst : FVec F S_ .f32 := constant S_ .f32 0x7F800000#32
  let main_v1 : FVec F S4x2048x8x128 .f32 := broadcastInDim S4x2048x8x128 ![] bcast_S_S4x2048x8x128 main_cst
  let main_v2 : IVec S4x2048x8x128 1 := cmpf .olt main_v0 main_v1
  let main_c : IVec S_ 1 := constantI S_ 1 1#1
  let main_v3 : IVec S_ 1 := (fun x v => Host.reduce IntOp.andi x v reducesTo_S4x2048x8x128_S_d0_1_2_3 h_S_) main_v2 main_c
  let main_v4 : FVec F S4x2048x8x128 .f32 := Host.absf main_arg1
  let main_cst_0 : FVec F S_ .f32 := constant S_ .f32 0x7F800000#32
  let main_v5 : FVec F S4x2048x8x128 .f32 := broadcastInDim S4x2048x8x128 ![] bcast_S_S4x2048x8x128 main_cst_0
  let main_v6 : IVec S4x2048x8x128 1 := cmpf .olt main_v4 main_v5
  let main_c_1 : IVec S_ 1 := constantI S_ 1 1#1
  let main_v7 : IVec S_ 1 := (fun x v => Host.reduce IntOp.andi x v reducesTo_S4x2048x8x128_S_d0_1_2_3 h_S_) main_v6 main_c_1
  let main_v8 : IVec S_ 1 := andi main_v3 main_v7
  let main_v9 : FVec F S4x2048x8x128 .f32 := Host.absf main_arg2
  let main_cst_2 : FVec F S_ .f32 := constant S_ .f32 0x7F800000#32
  let main_v10 : FVec F S4x2048x8x128 .f32 := broadcastInDim S4x2048x8x128 ![] bcast_S_S4x2048x8x128 main_cst_2
  let main_v11 : IVec S4x2048x8x128 1 := cmpf .olt main_v9 main_v10
  let main_c_3 : IVec S_ 1 := constantI S_ 1 1#1
  let main_v12 : IVec S_ 1 := (fun x v => Host.reduce IntOp.andi x v reducesTo_S4x2048x8x128_S_d0_1_2_3 h_S_) main_v11 main_c_3
  let main_v13 : IVec S_ 1 := andi main_v8 main_v12
  main_v13
-- ==== Kernel.lean ====
abbrev S4x2048x8x2x128 : Shape := ⟨5, ![4, 2048, 8, 2, 128]⟩
abbrev S4x2048x8x256 : Shape := ⟨4, ![4, 2048, 8, 256]⟩
abbrev S2x4x128 : Shape := ⟨3, ![2, 4, 128]⟩
abbrev S2x256 : Shape := ⟨2, ![2, 256]⟩
abbrev S_ : Shape := ⟨0, ![]⟩
abbrev S8192x2048 : Shape := ⟨2, ![8192, 2048]⟩
abbrev S8192x6144 : Shape := ⟨2, ![8192, 6144]⟩
abbrev S2x1x256 : Shape := ⟨3, ![2, 1, 256]⟩
abbrev S256x256 : Shape := ⟨2, ![256, 256]⟩
abbrev S2048x256 : Shape := ⟨2, ![2048, 256]⟩
abbrev S1x4x128 : Shape := ⟨3, ![1, 4, 128]⟩
abbrev S1x1x256 : Shape := ⟨3, ![1, 1, 256]⟩
abbrev S4x128 : Shape := ⟨2, ![4, 128]⟩
abbrev S1x128 : Shape := ⟨2, ![1, 128]⟩
abbrev S1 : Shape := ⟨1, ![1]⟩
abbrev S1x1 : Shape := ⟨2, ![1, 1]⟩
abbrev S256x128 : Shape := ⟨2, ![256, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩
abbrev S1x256 : Shape := ⟨2, ![1, 256]⟩

abbrev nBuf : Space → Nat
  | .hbm => 16
  | .vmem => 10
  | .smem => 0
  | _ => 0

abbrev bufTy : (tb : Table) → Fin (tcTables nBuf tb) → BufTy
  | .hbm, ⟨0, _⟩ => ⟨S4x2048x8x2x128, .f32⟩
  | .hbm, ⟨1, _⟩ => ⟨S4x2048x8x2x128, .f32⟩
  | .hbm, ⟨2, _⟩ => ⟨S4x2048x8x256, .f32⟩
  | .hbm, ⟨3, _⟩ => ⟨S2x4x128, .f32⟩
  | .hbm, ⟨4, _⟩ => ⟨S2x256, .f32⟩
  | .hbm, ⟨5, _⟩ => ⟨S_, .f32⟩
  | .hbm, ⟨6, _⟩ => ⟨S_, .f32⟩
  | .hbm, ⟨7, _⟩ => ⟨S4x2048x8x2x128, .f32⟩
  | .hbm, ⟨8, _⟩ => ⟨S4x2048x8x2x128, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x6144, .f32⟩
  | .hbm, ⟨13, _⟩ => ⟨S8192x6144, .bf16⟩
  | .hbm, ⟨14, _⟩ => ⟨S2x1x256, .f32⟩
  | .hbm, ⟨15, _⟩ => ⟨S8192x2048, .bf16⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S1x4x128, .f32⟩
  | .local _ .vmem, ⟨7, _⟩ => ⟨S1x1x256, .f32⟩
  | .local _ .vmem, ⟨8, _⟩ => ⟨S256x256, .bf16⟩
  | .local _ .vmem, ⟨9, _⟩ => ⟨S256x256, .bf16⟩
  | _, _ => ⟨S4x2048x8x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x2048x8x2x128 : Shape := ⟨5, ![4, 2048, 8, 2, 128]⟩
abbrev S4x2048x8x256 : Shape := ⟨4, ![4, 2048, 8, 256]⟩
abbrev S2x4x128 : Shape := ⟨3, ![2, 4, 128]⟩
abbrev S2x256 : Shape := ⟨2, ![2, 256]⟩
abbrev S1x4x128 : Shape := ⟨3, ![1, 4, 128]⟩
abbrev S4x128 : Shape := ⟨2, ![4, 128]⟩
abbrev S1x256 : Shape := ⟨2, ![1, 256]⟩
abbrev S256 : Shape := ⟨1, ![256]⟩
abbrev S1x128 : Shape := ⟨2, ![1, 128]⟩
abbrev S128 : Shape := ⟨1, ![128]⟩
abbrev S_ : Shape := ⟨0, ![]⟩
abbrev S4x8x2x2048x2048 : Shape := ⟨5, ![4, 8, 2, 2048, 2048]⟩
abbrev S4x8x2x2048 : Shape := ⟨4, ![4, 8, 2, 2048]⟩
abbrev S4x8x2x2048x1 : Shape := ⟨5, ![4, 8, 2, 2048, 1]⟩
abbrev S4x8x1x2048x2048 : Shape := ⟨5, ![4, 8, 1, 2048, 2048]⟩
abbrev S4x8x2048x2048 : Shape := ⟨4, ![4, 8, 2048, 2048]⟩
abbrev S4x8x256x2048 : Shape := ⟨4, ![4, 8, 256, 2048]⟩
abbrev S4x2048x8 : Shape := ⟨3, ![4, 2048, 8]⟩
abbrev S4x2048x8x1 : Shape := ⟨4, ![4, 2048, 8, 1]⟩
abbrev S1x1x1x256 : Shape := ⟨4, ![1, 1, 1, 256]⟩
abbrev S8192x2048 : Shape := ⟨2, ![8192, 2048]⟩

abbrev nBuf : Space → Nat
  | .hbm => 73
  | .vmem => 0
  | .smem => 0
  | _ => 0

abbrev bufTy : (tb : Table) → Fin (tcTables nBuf tb) → BufTy
  | .hbm, ⟨0, _⟩ => ⟨S4x2048x8x2x128, .f32⟩
  | .hbm, ⟨1, _⟩ => ⟨S4x2048x8x2x128, .f32⟩
  | .hbm, ⟨2, _⟩ => ⟨S4x2048x8x256, .f32⟩
  | .hbm, ⟨3, _⟩ => ⟨S2x4x128, .f32⟩
  | .hbm, ⟨4, _⟩ => ⟨S2x256, .f32⟩
  | .hbm, ⟨5, _⟩ => ⟨S1x4x128, .f32⟩
  | .hbm, ⟨6, _⟩ => ⟨S4x128, .f32⟩
  | .hbm, ⟨7, _⟩ => ⟨S1x256, .f32⟩
  | .hbm, ⟨8, _⟩ => ⟨S256, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x8x2x2048x2048, .f32⟩
  | .hbm, ⟨29, _⟩ => ⟨S_, .f32⟩
  | .hbm, ⟨30, _⟩ => ⟨S4x8x2x2048, .f32⟩
  | .hbm, ⟨31, _⟩ => ⟨S_, .f32⟩
  | .hbm, ⟨32, _⟩ => ⟨S4x8x2x2048, .f32⟩
  | .hbm, ⟨33, _⟩ => ⟨S4x8x2x2048, .f32⟩
  | .hbm, ⟨34, _⟩ => ⟨S4x8x2x2048x1, .f32⟩
  | .hbm, ⟨35, _⟩ => ⟨S4x8x2x2048x2048, .f32⟩
  | .hbm, ⟨36, _⟩ => ⟨S4x8x2x2048x2048, .f32⟩
  | .hbm, ⟨37, _⟩ => ⟨S4x8x2x2048x2048, .f32⟩
  | .hbm, ⟨38, _⟩ => ⟨S_, .f32⟩
  | .hbm, ⟨39, _⟩ => ⟨S4x8x2x2048, .f32⟩
  | .hbm, ⟨40, _⟩ => ⟨S4x8x2x2048x1, .f32⟩
  | .hbm, ⟨41, _⟩ => ⟨S4x8x2x2048x2048, .f32⟩
  | .hbm, ⟨42, _⟩ => ⟨S4x8x2x2048x2048, .f32⟩
  | .hbm, ⟨43, _⟩ => ⟨S4x8x1x2048x2048, .f32⟩
  | .hbm, ⟨44, _⟩ => ⟨S4x8x2048x2048, .f32⟩
  | .hbm, ⟨45, _⟩ => ⟨S4x8x1x2048x2048, .f32⟩
  | .hbm, ⟨46, _⟩ => ⟨S4x8x2048x2048, .f32⟩
  | .hbm, ⟨47, _⟩ => ⟨S4x8x2048x2048, .f32⟩
  | .hbm, ⟨48, _⟩ => ⟨S4x8x2048x2048, .f32⟩
  | .hbm, ⟨49, _⟩ => ⟨S4x8x2048x2048, .f32⟩
  | .hbm, ⟨50, _⟩ => ⟨S4x8x256x2048, .f32⟩
  | .hbm, ⟨51, _⟩ => ⟨S4x2048x8x256, .f32⟩
  | .hbm, ⟨52, _⟩ => ⟨S4x2048x8x256, .f32⟩
  | .hbm, ⟨53, _⟩ => ⟨S_, .f32⟩
  | .hbm, ⟨54, _⟩ => ⟨S4x2048x8, .f32⟩
  | .hbm, ⟨55, _⟩ => ⟨S4x2048x8x1, .f32⟩
  | .hbm, ⟨56, _⟩ => ⟨S_, .f32⟩
  | .hbm, ⟨57, _⟩ => ⟨S4x2048x8x1, .f32⟩
  | .hbm, ⟨58, _⟩ => ⟨S4x2048x8x1, .f32⟩
  | .hbm, ⟨59, _⟩ => ⟨S_, .f32⟩
  | .hbm, ⟨60, _⟩ => ⟨S4x2048x8x1, .f32⟩
  | .hbm, ⟨61, _⟩ => ⟨S4x2048x8x1, .f32⟩
  | .hbm, ⟨62, _⟩ => ⟨S4x2048x8x1, .f32⟩
  | .hbm, ⟨63, _⟩ => ⟨S4x2048x8x256, .f32⟩
  | .hbm, ⟨64, _⟩ => ⟨S4x2048x8x256, .f32⟩
  | .hbm, ⟨65, _⟩ => ⟨S1x1x1x256, .f32⟩
  | .hbm, ⟨66, _⟩ => ⟨S4x2048x8x256, .f32⟩
  | .hbm, ⟨67, _⟩ => ⟨S4x2048x8x256, .f32⟩
  | .hbm, ⟨68, _⟩ => ⟨S_, .f32⟩
  | .hbm, ⟨69, _⟩ => ⟨S4x2048x8x256, .f32⟩
  | .hbm, ⟨70, _⟩ => ⟨S4x2048x8x256, .f32⟩
  | .hbm, ⟨71, _⟩ => ⟨S8192x2048, .f32⟩
  | .hbm, ⟨72, _⟩ => ⟨S8192x2048, .bf16⟩
  | _, _ => ⟨S4x2048x8x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Att3.lean ====
abbrev S4x2048x8x2x128 : Shape := ⟨5, ![4, 2048, 8, 2, 128]⟩
abbrev S4x2048x8x256 : Shape := ⟨4, ![4, 2048, 8, 256]⟩
abbrev S2x4x128 : Shape := ⟨3, ![2, 4, 128]⟩
abbrev S2x256 : Shape := ⟨2, ![2, 256]⟩
abbrev S_ : Shape := ⟨0, ![]⟩
abbrev S8192x2048 : Shape := ⟨2, ![8192, 2048]⟩
abbrev S8192x6144 : Shape := ⟨2, ![8192, 6144]⟩
abbrev S2x1x256 : Shape := ⟨3, ![2, 1, 256]⟩
abbrev S256x256 : Shape := ⟨2, ![256, 256]⟩
abbrev S2048x256 : Shape := ⟨2, ![2048, 256]⟩
abbrev S1x4x128 : Shape := ⟨3, ![1, 4, 128]⟩
abbrev S1x1x256 : Shape := ⟨3, ![1, 1, 256]⟩
abbrev S4x128 : Shape := ⟨2, ![4, 128]⟩
abbrev S1x128 : Shape := ⟨2, ![1, 128]⟩
abbrev S1 : Shape := ⟨1, ![1]⟩
abbrev S1x1 : Shape := ⟨2, ![1, 1]⟩
abbrev S256x128 : Shape := ⟨2, ![256, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩
abbrev S1x256 : Shape := ⟨2, ![1, 256]⟩

abbrev nBuf : Space → Nat
  | .hbm => 16
  | .vmem => 10
  | .smem => 0
  | _ => 0

abbrev bufTy : (tb : Table) → Fin (tcTables nBuf tb) → BufTy
  | .hbm, ⟨0, _⟩ => ⟨S4x2048x8x2x128, .f32⟩
  | .hbm, ⟨1, _⟩ => ⟨S4x2048x8x2x128, .f32⟩
  | .hbm, ⟨2, _⟩ => ⟨S4x2048x8x256, .f32⟩
  | .hbm, ⟨3, _⟩ => ⟨S2x4x128, .f32⟩
  | .hbm, ⟨4, _⟩ => ⟨S2x256, .f32⟩
  | .hbm, ⟨5, _⟩ => ⟨S_, .f32⟩
  | .hbm, ⟨6, _⟩ => ⟨S_, .f32⟩
  | .hbm, ⟨7, _⟩ => ⟨S4x2048x8x2x128, .f32⟩
  | .hbm, ⟨8, _⟩ => ⟨S4x2048x8x2x128, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x6144, .f32⟩
  | .hbm, ⟨13, _⟩ => ⟨S8192x6144, .bf16⟩
  | .hbm, ⟨14, _⟩ => ⟨S2x1x256, .f32⟩
  | .hbm, ⟨15, _⟩ => ⟨S8192x2048, .bf16⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S1x4x128, .f32⟩
  | .local _ .vmem, ⟨7, _⟩ => ⟨S1x1x256, .f32⟩
  | .local _ .vmem, ⟨8, _⟩ => ⟨S256x256, .bf16⟩
  | .local _ .vmem, ⟨9, _⟩ => ⟨S256x256, .bf16⟩
  | _, _ => ⟨S4x2048x8x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Att3RefIdeal.lean ====
abbrev S4x2048x8x2x128 : Shape := ⟨5, ![4, 2048, 8, 2, 128]⟩
abbrev S4x2048x8x256 : Shape := ⟨4, ![4, 2048, 8, 256]⟩
abbrev S2x4x128 : Shape := ⟨3, ![2, 4, 128]⟩
abbrev S2x256 : Shape := ⟨2, ![2, 256]⟩
abbrev S1x4x128 : Shape := ⟨3, ![1, 4, 128]⟩
abbrev S4x128 : Shape := ⟨2, ![4, 128]⟩
abbrev S1x256 : Shape := ⟨2, ![1, 256]⟩
abbrev S256 : Shape := ⟨1, ![256]⟩
abbrev S1x128 : Shape := ⟨2, ![1, 128]⟩
abbrev S128 : Shape := ⟨1, ![128]⟩
abbrev S_ : Shape := ⟨0, ![]⟩
abbrev S4x8x2x2048x2048 : Shape := ⟨5, ![4, 8, 2, 2048, 2048]⟩
abbrev S4x8x2x2048 : Shape := ⟨4, ![4, 8, 2, 2048]⟩
abbrev S4x8x2x2048x1 : Shape := ⟨5, ![4, 8, 2, 2048, 1]⟩
abbrev S4x8x1x2048x2048 : Shape := ⟨5, ![4, 8, 1, 2048, 2048]⟩
abbrev S4x8x2048x2048 : Shape := ⟨4, ![4, 8, 2048, 2048]⟩
abbrev S4x8x256x2048 : Shape := ⟨4, ![4, 8, 256, 2048]⟩
abbrev S4x2048x8 : Shape := ⟨3, ![4, 2048, 8]⟩
abbrev S4x2048x8x1 : Shape := ⟨4, ![4, 2048, 8, 1]⟩
abbrev S1x1x1x256 : Shape := ⟨4, ![1, 1, 1, 256]⟩
abbrev S8192x2048 : Shape := ⟨2, ![8192, 2048]⟩

abbrev nBuf : Space → Nat
  | .hbm => 73
  | .vmem => 0
  | .smem => 0
  | _ => 0

abbrev bufTy : (tb : Table) → Fin (tcTables nBuf tb) → BufTy
  | .hbm, ⟨0, _⟩ => ⟨S4x2048x8x2x128, .f32⟩
  | .hbm, ⟨1, _⟩ => ⟨S4x2048x8x2x128, .f32⟩
  | .hbm, ⟨2, _⟩ => ⟨S4x2048x8x256, .f32⟩
  | .hbm, ⟨3, _⟩ => ⟨S2x4x128, .f32⟩
  | .hbm, ⟨4, _⟩ => ⟨S2x256, .f32⟩
  | .hbm, ⟨5, _⟩ => ⟨S1x4x128, .f32⟩
  | .hbm, ⟨6, _⟩ => ⟨S4x128, .f32⟩
  | .hbm, ⟨7, _⟩ => ⟨S1x256, .f32⟩
  | .hbm, ⟨8, _⟩ => ⟨S256, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x8x2x2048x2048, .f32⟩
  | .hbm, ⟨29, _⟩ => ⟨S_, .f32⟩
  | .hbm, ⟨30, _⟩ => ⟨S4x8x2x2048, .f32⟩
  | .hbm, ⟨31, _⟩ => ⟨S_, .f32⟩
  | .hbm, ⟨32, _⟩ => ⟨S4x8x2x2048, .f32⟩
  | .hbm, ⟨33, _⟩ => ⟨S4x8x2x2048, .f32⟩
  | .hbm, ⟨34, _⟩ => ⟨S4x8x2x2048x1, .f32⟩
  | .hbm, ⟨35, _⟩ => ⟨S4x8x2x2048x2048, .f32⟩
  | .hbm, ⟨36, _⟩ => ⟨S4x8x2x2048x2048, .f32⟩
  | .hbm, ⟨37, _⟩ => ⟨S4x8x2x2048x2048, .f32⟩
  | .hbm, ⟨38, _⟩ => ⟨S_, .f32⟩
  | .hbm, ⟨39, _⟩ => ⟨S4x8x2x2048, .f32⟩
  | .hbm, ⟨40, _⟩ => ⟨S4x8x2x2048x1, .f32⟩
  | .hbm, ⟨41, _⟩ => ⟨S4x8x2x2048x2048, .f32⟩
  | .hbm, ⟨42, _⟩ => ⟨S4x8x2x2048x2048, .f32⟩
  | .hbm, ⟨43, _⟩ => ⟨S4x8x1x2048x2048, .f32⟩
  | .hbm, ⟨44, _⟩ => ⟨S4x8x2048x2048, .f32⟩
  | .hbm, ⟨45, _⟩ => ⟨S4x8x1x2048x2048, .f32⟩
  | .hbm, ⟨46, _⟩ => ⟨S4x8x2048x2048, .f32⟩
  | .hbm, ⟨47, _⟩ => ⟨S4x8x2048x2048, .f32⟩
  | .hbm, ⟨48, _⟩ => ⟨S4x8x2048x2048, .f32⟩
  | .hbm, ⟨49, _⟩ => ⟨S4x8x2048x2048, .f32⟩
  | .hbm, ⟨50, _⟩ => ⟨S4x8x256x2048, .f32⟩
  | .hbm, ⟨51, _⟩ => ⟨S4x2048x8x256, .f32⟩
  | .hbm, ⟨52, _⟩ => ⟨S4x2048x8x256, .f32⟩
  | .hbm, ⟨53, _⟩ => ⟨S_, .f32⟩
  | .hbm, ⟨54, _⟩ => ⟨S4x2048x8, .f32⟩
  | .hbm, ⟨55, _⟩ => ⟨S4x2048x8x1, .f32⟩
  | .hbm, ⟨56, _⟩ => ⟨S_, .f32⟩
  | .hbm, ⟨57, _⟩ => ⟨S4x2048x8x1, .f32⟩
  | .hbm, ⟨58, _⟩ => ⟨S4x2048x8x1, .f32⟩
  | .hbm, ⟨59, _⟩ => ⟨S_, .f32⟩
  | .hbm, ⟨60, _⟩ => ⟨S4x2048x8x1, .f32⟩
  | .hbm, ⟨61, _⟩ => ⟨S4x2048x8x1, .f32⟩
  | .hbm, ⟨62, _⟩ => ⟨S4x2048x8x1, .f32⟩
  | .hbm, ⟨63, _⟩ => ⟨S4x2048x8x256, .f32⟩
  | .hbm, ⟨64, _⟩ => ⟨S4x2048x8x256, .f32⟩
  | .hbm, ⟨65, _⟩ => ⟨S1x1x1x256, .f32⟩
  | .hbm, ⟨66, _⟩ => ⟨S4x2048x8x256, .f32⟩
  | .hbm, ⟨67, _⟩ => ⟨S4x2048x8x256, .f32⟩
  | .hbm, ⟨68, _⟩ => ⟨S_, .f32⟩
  | .hbm, ⟨69, _⟩ => ⟨S4x2048x8x256, .f32⟩
  | .hbm, ⟨70, _⟩ => ⟨S4x2048x8x256, .f32⟩
  | .hbm, ⟨71, _⟩ => ⟨S8192x2048, .f32⟩
  | .hbm, ⟨72, _⟩ => ⟨S8192x2048, .bf16⟩
  | _, _ => ⟨S4x2048x8x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Qkv.lean ====
abbrev S8192x2048 : Shape := ⟨2, ![8192, 2048]⟩
abbrev S4x2048 : Shape := ⟨2, ![4, 2048]⟩
abbrev S2x2048x6144 : Shape := ⟨3, ![2, 2048, 6144]⟩
abbrev S_ : Shape := ⟨0, ![]⟩
abbrev S16 : Shape := ⟨1, ![16]⟩
abbrev S4x2048x1 : Shape := ⟨3, ![4, 2048, 1]⟩
abbrev S1x1x16 : Shape := ⟨3, ![1, 1, 16]⟩
abbrev S4x2048x16 : Shape := ⟨3, ![4, 2048, 16]⟩
abbrev S8192x16 : Shape := ⟨2, ![8192, 16]⟩
abbrev S8192x96 : Shape := ⟨2, ![8192, 96]⟩
abbrev S8192x128 : Shape := ⟨2, ![8192, 128]⟩
abbrev S8192x112 : Shape := ⟨2, ![8192, 112]⟩
abbrev S1x8192x128 : Shape := ⟨3, ![1, 8192, 128]⟩
abbrev S3x8192x128 : Shape := ⟨3, ![3, 8192, 128]⟩
abbrev S8192x6144 : Shape := ⟨2, ![8192, 6144]⟩
abbrev S512x2048 : Shape := ⟨2, ![512, 2048]⟩
abbrev S1x2048x512 : Shape := ⟨3, ![1, 2048, 512]⟩
abbrev S1x512x128 : Shape := ⟨3, ![1, 512, 128]⟩
abbrev S512x512 : Shape := ⟨2, ![512, 512]⟩
abbrev S2048x512 : Shape := ⟨2, ![2048, 512]⟩
abbrev S512x128 : Shape := ⟨2, ![512, 128]⟩

abbrev nBuf : Space → Nat
  | .hbm => 77
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S4x2048, .i32⟩
  | .hbm, ⟨2, _⟩ => ⟨S2x2048x6144, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4x2048, .f32⟩
  | .hbm, ⟨22, _⟩ => ⟨S4x2048x1, .f32⟩
  | .hbm, ⟨23, _⟩ => ⟨S1x1x16, .f32⟩
  | .hbm, ⟨24, _⟩ => ⟨S4x2048x16, .f32⟩
  | .hbm, ⟨25, _⟩ => ⟨S4x2048x16, .f32⟩
  | .hbm, ⟨26, _⟩ => ⟨S4x2048x16, .f32⟩
  | .hbm, ⟨27, _⟩ => ⟨S4x2048x16, .f32⟩
  | .hbm, ⟨28, _⟩ => ⟨S8192x16, .f32⟩
  | .hbm, ⟨29, _⟩ => ⟨S4x2048x16, .f32⟩
  | .hbm, ⟨30, _⟩ => ⟨S8192x16, .f32⟩
  | .hbm, ⟨31, _⟩ => ⟨S_, .f32⟩
  | .hbm, ⟨32, _⟩ => ⟨S8192x96, .f32⟩
  | .hbm, ⟨33, _⟩ => ⟨S8192x128, .f32⟩
  | .hbm, ⟨34, _⟩ => ⟨S8192x16, .f32⟩
  | .hbm, ⟨35, _⟩ => ⟨S_, .f32⟩
  | .hbm, ⟨36, _⟩ => ⟨S8192x112, .f32⟩
  | .hbm, ⟨37, _⟩ => ⟨S8192x128, .f32⟩
  | .hbm, ⟨38, _⟩ => ⟨S_, .f32⟩
  | .hbm, ⟨39, _⟩ => ⟨S8192x16, .f32⟩
  | .hbm, ⟨40, _⟩ => ⟨S_, .f32⟩
  | .hbm, ⟨41, _⟩ => ⟨S8192x96, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S_, .f32⟩
  | .hbm, ⟨50, _⟩ => ⟨S8192x128, .f32⟩
  | .hbm, ⟨51, _⟩ => ⟨S8192x128, .f32⟩
  | .hbm, ⟨52, _⟩ => ⟨S_, .f32⟩
  | .hbm, ⟨53, _⟩ => ⟨S8192x128, .f32⟩
  | .hbm, ⟨54, _⟩ => ⟨S8192x128, .f32⟩
  | .hbm, ⟨55, _⟩ => ⟨S_, .f32⟩
  | .hbm, ⟨56, _⟩ => ⟨S8192x128, .f32⟩
  | .hbm, ⟨57, _⟩ => ⟨S8192x128, .f32⟩
  | .hbm, ⟨58, _⟩ => ⟨S_, .f32⟩
  | .hbm, ⟨59, _⟩ => ⟨S8192x128, .f32⟩
  | .hbm, ⟨60, _⟩ => ⟨S_, .f32⟩
  | .hbm, ⟨61, _⟩ => ⟨S8192x128, .f32⟩
  | .hbm, ⟨62, _⟩ => ⟨S_, .f32⟩
  | .hbm, ⟨63, _⟩ => ⟨S8192x128, .f32⟩
  | .hbm, ⟨64, _⟩ => ⟨S1x8192x128, .f32⟩
  | .hbm, ⟨65, _⟩ => ⟨S1x8192x128, .f32⟩
  | .hbm, ⟨66, _⟩ => ⟨S1x8192x128, .f32⟩
  | .hbm, ⟨67, _⟩ => ⟨S3x8192x128, .f32⟩
  | .hbm, ⟨68, _⟩ => ⟨S1x8192x128, .f32⟩
  | .hbm, ⟨69, _⟩ => ⟨S1x8192x128, .f32⟩
  | .hbm, ⟨70, _⟩ => ⟨S1x8192x128, .f32⟩
  | .hbm, ⟨71, _⟩ => ⟨S3x8192x128, .f32⟩
  | .hbm, ⟨72, _⟩ => ⟨S1x8192x128, .f32⟩
  | .hbm, ⟨73, _⟩ => ⟨S1x8192x128, .f32⟩
  | .hbm, ⟨74, _⟩ => ⟨S1x8192x128, .f32⟩
  | .hbm, ⟨75, _⟩ => ⟨S3x8192x128, .f32⟩
  | .hbm, ⟨76, _⟩ => ⟨S8192x6144, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S512x512, .bf16⟩
  | .local _ .vmem, ⟨11, _⟩ => ⟨S512x512, .bf16⟩
  | .local _ .vmem, ⟨12, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_v41 : Ref sig .tc := ⟨.hbm, 57, rfl⟩
abbrev main_cst_12 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkvRefIdeal.lean ====
abbrev S8192x2048 : Shape := ⟨2, ![8192, 2048]⟩
abbrev S4x2048 : Shape := ⟨2, ![4, 2048]⟩
abbrev S2x2048x6144 : Shape := ⟨3, ![2, 2048, 6144]⟩
abbrev S16 : Shape := ⟨1, ![16]⟩
abbrev S_ : Shape := ⟨0, ![]⟩
abbrev S4x2048x1 : Shape := ⟨3, ![4, 2048, 1]⟩
abbrev S1x1x16 : Shape := ⟨3, ![1, 1, 16]⟩
abbrev S4x2048x16 : Shape := ⟨3, ![4, 2048, 16]⟩
abbrev S4x2048x2048 : Shape := ⟨3, ![4, 2048, 2048]⟩
abbrev S1x2048x6144 : Shape := ⟨3, ![1, 2048, 6144]⟩
abbrev S2048x6144 : Shape := ⟨2, ![2048, 6144]⟩
abbrev S4x2048x6144 : Shape := ⟨3, ![4, 2048, 6144]⟩
abbrev S4x2048x8x2x128 : Shape := ⟨5, ![4, 2048, 8, 2, 128]⟩
abbrev S4x2048x8x256 : Shape := ⟨4, ![4, 2048, 8, 256]⟩
abbrev S4x2048x1x1x16 : Shape := ⟨5, ![4, 2048, 1, 1, 16]⟩
abbrev S4x2048x8x2x32 : Shape := ⟨5, ![4, 2048, 8, 2, 32]⟩
abbrev S4x2048x8x2x16 : Shape := ⟨5, ![4, 2048, 8, 2, 16]⟩
abbrev S4x2048x8x2x96 : Shape := ⟨5, ![4, 2048, 8, 2, 96]⟩
abbrev S8192x6144 : Shape := ⟨2, ![8192, 6144]⟩

abbrev nBuf : Space → Nat
  | .hbm => 83
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048, .i32⟩
  | .hbm, ⟨2, _⟩ => ⟨S2x2048x6144, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4x2048, .f32⟩
  | .hbm, ⟨18, _⟩ => ⟨S4x2048x1, .f32⟩
  | .hbm, ⟨19, _⟩ => ⟨S1x1x16, .f32⟩
  | .hbm, ⟨20, _⟩ => ⟨S4x2048x16, .f32⟩
  | .hbm, ⟨21, _⟩ => ⟨S4x2048x16, .f32⟩
  | .hbm, ⟨22, _⟩ => ⟨S4x2048x16, .f32⟩
  | .hbm, ⟨23, _⟩ => ⟨S4x2048x16, .f32⟩
  | .hbm, ⟨24, _⟩ => ⟨S4x2048x16, .f32⟩
  | .hbm, ⟨25, _⟩ => ⟨S4x2048x2048, .bf16⟩
  | .hbm, ⟨26, _⟩ => ⟨S1x2048x6144, .f32⟩
  | .hbm, ⟨27, _⟩ => ⟨S2048x6144, .f32⟩
  | .hbm, ⟨28, _⟩ => ⟨S4x2048x6144, .f32⟩
  | .hbm, ⟨29, _⟩ => ⟨S4x2048x2048, .f32⟩
  | .hbm, ⟨30, _⟩ => ⟨S4x2048x8x2x128, .f32⟩
  | .hbm, ⟨31, _⟩ => ⟨S4x2048x2048, .f32⟩
  | .hbm, ⟨32, _⟩ => ⟨S4x2048x8x2x128, .f32⟩
  | .hbm, ⟨33, _⟩ => ⟨S4x2048x2048, .f32⟩
  | .hbm, ⟨34, _⟩ => ⟨S4x2048x8x256, .f32⟩
  | .hbm, ⟨35, _⟩ => ⟨S4x2048x1x1x16, .f32⟩
  | .hbm, ⟨36, _⟩ => ⟨S4x2048x1x1x16, .f32⟩
  | .hbm, ⟨37, _⟩ => ⟨S4x2048x8x2x32, .f32⟩
  | .hbm, ⟨38, _⟩ => ⟨S4x2048x8x2x16, .f32⟩
  | .hbm, ⟨39, _⟩ => ⟨S4x2048x8x2x16, .f32⟩
  | .hbm, ⟨40, _⟩ => ⟨S4x2048x8x2x16, .f32⟩
  | .hbm, ⟨41, _⟩ => ⟨S4x2048x8x2x16, .f32⟩
  | .hbm, ⟨42, _⟩ => ⟨S4x2048x8x2x16, .f32⟩
  | .hbm, ⟨43, _⟩ => ⟨S4x2048x8x2x16, .f32⟩
  | .hbm, ⟨44, _⟩ => ⟨S4x2048x8x2x16, .f32⟩
  | .hbm, ⟨45, _⟩ => ⟨S4x2048x8x2x16, .f32⟩
  | .hbm, ⟨46, _⟩ => ⟨S4x2048x8x2x16, .f32⟩
  | .hbm, ⟨47, _⟩ => ⟨S4x2048x8x2x16, .f32⟩
  | .hbm, ⟨48, _⟩ => ⟨S4x2048x8x2x16, .f32⟩
  | .hbm, ⟨49, _⟩ => ⟨S4x2048x8x2x16, .f32⟩
  | .hbm, ⟨50, _⟩ => ⟨S4x2048x8x2x32, .f32⟩
  | .hbm, ⟨51, _⟩ => ⟨S4x2048x8x2x96, .f32⟩
  | .hbm, ⟨52, _⟩ => ⟨S4x2048x8x2x128, .f32⟩
  | .hbm, ⟨53, _⟩ => ⟨S_, .f32⟩
  | .hbm, ⟨54, _⟩ => ⟨S4x2048x8x2x128, .f32⟩
  | .hbm, ⟨55, _⟩ => ⟨S4x2048x8x2x128, .f32⟩
  | .hbm, ⟨56, _⟩ => ⟨S4x2048x1x1x16, .f32⟩
  | .hbm, ⟨57, _⟩ => ⟨S4x2048x1x1x16, .f32⟩
  | .hbm, ⟨58, _⟩ => ⟨S4x2048x8x2x32, .f32⟩
  | .hbm, ⟨59, _⟩ => ⟨S4x2048x8x2x16, .f32⟩
  | .hbm, ⟨60, _⟩ => ⟨S4x2048x8x2x16, .f32⟩
  | .hbm, ⟨61, _⟩ => ⟨S4x2048x8x2x16, .f32⟩
  | .hbm, ⟨62, _⟩ => ⟨S4x2048x8x2x16, .f32⟩
  | .hbm, ⟨63, _⟩ => ⟨S4x2048x8x2x16, .f32⟩
  | .hbm, ⟨64, _⟩ => ⟨S4x2048x8x2x16, .f32⟩
  | .hbm, ⟨65, _⟩ => ⟨S4x2048x8x2x16, .f32⟩
  | .hbm, ⟨66, _⟩ => ⟨S4x2048x8x2x16, .f32⟩
  | .hbm, ⟨67, _⟩ => ⟨S4x2048x8x2x16, .f32⟩
  | .hbm, ⟨68, _⟩ => ⟨S4x2048x8x2x16, .f32⟩
  | .hbm, ⟨69, _⟩ => ⟨S4x2048x8x2x16, .f32⟩
  | .hbm, ⟨70, _⟩ => ⟨S4x2048x8x2x16, .f32⟩
  | .hbm, ⟨71, _⟩ => ⟨S4x2048x8x2x32, .f32⟩
  | .hbm, ⟨72, _⟩ => ⟨S4x2048x8x2x96, .f32⟩
  | .hbm, ⟨73, _⟩ => ⟨S4x2048x8x2x128, .f32⟩
  | .hbm, ⟨74, _⟩ => ⟨S_, .f32⟩
  | .hbm, ⟨75, _⟩ => ⟨S_, .f32⟩
  | .hbm, ⟨76, _⟩ => ⟨S4x2048x8x2x128, .f32⟩
  | .hbm, ⟨77, _⟩ => ⟨S4x2048x8x2x128, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x6144, .f32⟩
  | .hbm, ⟨82, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_3 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_cst_4 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩

abbrev nD : Nat := 1
abbrev τ : Topo := Topo.v7x

variable {F : FTy → Type} [FloatOps F]
-- ==== Qkv3.lean ====
abbrev S8192x2048 : Shape := ⟨2, ![8192, 2048]⟩
abbrev S4x2048 : Shape := ⟨2, ![4, 2048]⟩
abbrev S2x2048x6144 : Shape := ⟨3, ![2, 2048, 6144]⟩
abbrev S_ : Shape := ⟨0, ![]⟩
abbrev S16 : Shape := ⟨1, ![16]⟩
abbrev S4x2048x1 : Shape := ⟨3, ![4, 2048, 1]⟩
abbrev S1x1x16 : Shape := ⟨3, ![1, 1, 16]⟩
abbrev S4x2048x16 : Shape := ⟨3, ![4, 2048, 16]⟩
abbrev S8192x16 : Shape := ⟨2, ![8192, 16]⟩
abbrev S8192x96 : Shape := ⟨2, ![8192, 96]⟩
abbrev S8192x128 : Shape := ⟨2, ![8192, 128]⟩
abbrev S8192x112 : Shape := ⟨2, ![8192, 112]⟩
abbrev S1x8192x128 : Shape := ⟨3, ![1, 8192, 128]⟩
abbrev S3x8192x128 : Shape := ⟨3, ![3, 8192, 128]⟩
abbrev S8192x6144 : Shape := ⟨2, ![8192, 6144]⟩
abbrev S512x2048 : Shape := ⟨2, ![512, 2048]⟩
abbrev S1x2048x512 : Shape := ⟨3, ![1, 2048, 512]⟩
abbrev S1x512x128 : Shape := ⟨3, ![1, 512, 128]⟩
abbrev S512x512 : Shape := ⟨2, ![512, 512]⟩
abbrev S2048x512 : Shape := ⟨2, ![2048, 512]⟩
abbrev S512x128 : Shape := ⟨2, ![512, 128]⟩

abbrev nBuf : Space → Nat
  | .hbm => 77
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S4x2048, .i32⟩
  | .hbm, ⟨2, _⟩ => ⟨S2x2048x6144, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4x2048, .f32⟩
  | .hbm, ⟨22, _⟩ => ⟨S4x2048x1, .f32⟩
  | .hbm, ⟨23, _⟩ => ⟨S1x1x16, .f32⟩
  | .hbm, ⟨24, _⟩ => ⟨S4x2048x16, .f32⟩
  | .hbm, ⟨25, _⟩ => ⟨S4x2048x16, .f32⟩
  | .hbm, ⟨26, _⟩ => ⟨S4x2048x16, .f32⟩
  | .hbm, ⟨27, _⟩ => ⟨S4x2048x16, .f32⟩
  | .hbm, ⟨28, _⟩ => ⟨S8192x16, .f32⟩
  | .hbm, ⟨29, _⟩ => ⟨S4x2048x16, .f32⟩
  | .hbm, ⟨30, _⟩ => ⟨S8192x16, .f32⟩
  | .hbm, ⟨31, _⟩ => ⟨S_, .f32⟩
  | .hbm, ⟨32, _⟩ => ⟨S8192x96, .f32⟩
  | .hbm, ⟨33, _⟩ => ⟨S8192x128, .f32⟩
  | .hbm, ⟨34, _⟩ => ⟨S8192x16, .f32⟩
  | .hbm, ⟨35, _⟩ => ⟨S_, .f32⟩
  | .hbm, ⟨36, _⟩ => ⟨S8192x112, .f32⟩
  | .hbm, ⟨37, _⟩ => ⟨S8192x128, .f32⟩
  | .hbm, ⟨38, _⟩ => ⟨S_, .f32⟩
  | .hbm, ⟨39, _⟩ => ⟨S8192x16, .f32⟩
  | .hbm, ⟨40, _⟩ => ⟨S_, .f32⟩
  | .hbm, ⟨41, _⟩ => ⟨S8192x96, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S_, .f32⟩
  | .hbm, ⟨50, _⟩ => ⟨S8192x128, .f32⟩
  | .hbm, ⟨51, _⟩ => ⟨S8192x128, .f32⟩
  | .hbm, ⟨52, _⟩ => ⟨S_, .f32⟩
  | .hbm, ⟨53, _⟩ => ⟨S8192x128, .f32⟩
  | .hbm, ⟨54, _⟩ => ⟨S8192x128, .f32⟩
  | .hbm, ⟨55, _⟩ => ⟨S_, .f32⟩
  | .hbm, ⟨56, _⟩ => ⟨S8192x128, .f32⟩
  | .hbm, ⟨57, _⟩ => ⟨S8192x128, .f32⟩
  | .hbm, ⟨58, _⟩ => ⟨S_, .f32⟩
  | .hbm, ⟨59, _⟩ => ⟨S8192x128, .f32⟩
  | .hbm, ⟨60, _⟩ => ⟨S_, .f32⟩
  | .hbm, ⟨61, _⟩ => ⟨S8192x128, .f32⟩
  | .hbm, ⟨62, _⟩ => ⟨S_, .f32⟩
  | .hbm, ⟨63, _⟩ => ⟨S8192x128, .f32⟩
  | .hbm, ⟨64, _⟩ => ⟨S1x8192x128, .f32⟩
  | .hbm, ⟨65, _⟩ => ⟨S1x8192x128, .f32⟩
  | .hbm, ⟨66, _⟩ => ⟨S1x8192x128, .f32⟩
  | .hbm, ⟨67, _⟩ => ⟨S3x8192x128, .f32⟩
  | .hbm, ⟨68, _⟩ => ⟨S1x8192x128, .f32⟩
  | .hbm, ⟨69, _⟩ => ⟨S1x8192x128, .f32⟩
  | .hbm, ⟨70, _⟩ => ⟨S1x8192x128, .f32⟩
  | .hbm, ⟨71, _⟩ => ⟨S3x8192x128, .f32⟩
  | .hbm, ⟨72, _⟩ => ⟨S1x8192x128, .f32⟩
  | .hbm, ⟨73, _⟩ => ⟨S1x8192x128, .f32⟩
  | .hbm, ⟨74, _⟩ => ⟨S1x8192x128, .f32⟩
  | .hbm, ⟨75, _⟩ => ⟨S3x8192x128, .f32⟩
  | .hbm, ⟨76, _⟩ => ⟨S8192x6144, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S512x512, .bf16⟩
  | .local _ .vmem, ⟨11, _⟩ => ⟨S512x512, .bf16⟩
  | .local _ .vmem, ⟨12, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_v41 : Ref sig .tc := ⟨.hbm, 57, rfl⟩
abbrev main_cst_12 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Qkv3RefIdeal.lean ====
abbrev S8192x2048 : Shape := ⟨2, ![8192, 2048]⟩
abbrev S4x2048 : Shape := ⟨2, ![4, 2048]⟩
abbrev S2x2048x6144 : Shape := ⟨3, ![2, 2048, 6144]⟩
abbrev S16 : Shape := ⟨1, ![16]⟩
abbrev S_ : Shape := ⟨0, ![]⟩
abbrev S4x2048x1 : Shape := ⟨3, ![4, 2048, 1]⟩
abbrev S1x1x16 : Shape := ⟨3, ![1, 1, 16]⟩
abbrev S4x2048x16 : Shape := ⟨3, ![4, 2048, 16]⟩
abbrev S4x2048x2048 : Shape := ⟨3, ![4, 2048, 2048]⟩
abbrev S1x2048x6144 : Shape := ⟨3, ![1, 2048, 6144]⟩
abbrev S2048x6144 : Shape := ⟨2, ![2048, 6144]⟩
abbrev S4x2048x6144 : Shape := ⟨3, ![4, 2048, 6144]⟩
abbrev S4x2048x8x2x128 : Shape := ⟨5, ![4, 2048, 8, 2, 128]⟩
abbrev S4x2048x8x256 : Shape := ⟨4, ![4, 2048, 8, 256]⟩
abbrev S4x2048x1x1x16 : Shape := ⟨5, ![4, 2048, 1, 1, 16]⟩
abbrev S4x2048x8x2x32 : Shape := ⟨5, ![4, 2048, 8, 2, 32]⟩
abbrev S4x2048x8x2x16 : Shape := ⟨5, ![4, 2048, 8, 2, 16]⟩
abbrev S4x2048x8x2x96 : Shape := ⟨5, ![4, 2048, 8, 2, 96]⟩
abbrev S8192x6144 : Shape := ⟨2, ![8192, 6144]⟩

abbrev nBuf : Space → Nat
  | .hbm => 83
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048, .i32⟩
  | .hbm, ⟨2, _⟩ => ⟨S2x2048x6144, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4x2048, .f32⟩
  | .hbm, ⟨18, _⟩ => ⟨S4x2048x1, .f32⟩
  | .hbm, ⟨19, _⟩ => ⟨S1x1x16, .f32⟩
  | .hbm, ⟨20, _⟩ => ⟨S4x2048x16, .f32⟩
  | .hbm, ⟨21, _⟩ => ⟨S4x2048x16, .f32⟩
  | .hbm, ⟨22, _⟩ => ⟨S4x2048x16, .f32⟩
  | .hbm, ⟨23, _⟩ => ⟨S4x2048x16, .f32⟩
  | .hbm, ⟨24, _⟩ => ⟨S4x2048x16, .f32⟩
  | .hbm, ⟨25, _⟩ => ⟨S4x2048x2048, .bf16⟩
  | .hbm, ⟨26, _⟩ => ⟨S1x2048x6144, .f32⟩
  | .hbm, ⟨27, _⟩ => ⟨S2048x6144, .f32⟩
  | .hbm, ⟨28, _⟩ => ⟨S4x2048x6144, .f32⟩
  | .hbm, ⟨29, _⟩ => ⟨S4x2048x2048, .f32⟩
  | .hbm, ⟨30, _⟩ => ⟨S4x2048x8x2x128, .f32⟩
  | .hbm, ⟨31, _⟩ => ⟨S4x2048x2048, .f32⟩
  | .hbm, ⟨32, _⟩ => ⟨S4x2048x8x2x128, .f32⟩
  | .hbm, ⟨33, _⟩ => ⟨S4x2048x2048, .f32⟩
  | .hbm, ⟨34, _⟩ => ⟨S4x2048x8x256, .f32⟩
  | .hbm, ⟨35, _⟩ => ⟨S4x2048x1x1x16, .f32⟩
  | .hbm, ⟨36, _⟩ => ⟨S4x2048x1x1x16, .f32⟩
  | .hbm, ⟨37, _⟩ => ⟨S4x2048x8x2x32, .f32⟩
  | .hbm, ⟨38, _⟩ => ⟨S4x2048x8x2x16, .f32⟩
  | .hbm, ⟨39, _⟩ => ⟨S4x2048x8x2x16, .f32⟩
  | .hbm, ⟨40, _⟩ => ⟨S4x2048x8x2x16, .f32⟩
  | .hbm, ⟨41, _⟩ => ⟨S4x2048x8x2x16, .f32⟩
  | .hbm, ⟨42, _⟩ => ⟨S4x2048x8x2x16, .f32⟩
  | .hbm, ⟨43, _⟩ => ⟨S4x2048x8x2x16, .f32⟩
  | .hbm, ⟨44, _⟩ => ⟨S4x2048x8x2x16, .f32⟩
  | .hbm, ⟨45, _⟩ => ⟨S4x2048x8x2x16, .f32⟩
  | .hbm, ⟨46, _⟩ => ⟨S4x2048x8x2x16, .f32⟩
  | .hbm, ⟨47, _⟩ => ⟨S4x2048x8x2x16, .f32⟩
  | .hbm, ⟨48, _⟩ => ⟨S4x2048x8x2x16, .f32⟩
  | .hbm, ⟨49, _⟩ => ⟨S4x2048x8x2x16, .f32⟩
  | .hbm, ⟨50, _⟩ => ⟨S4x2048x8x2x32, .f32⟩
  | .hbm, ⟨51, _⟩ => ⟨S4x2048x8x2x96, .f32⟩
  | .hbm, ⟨52, _⟩ => ⟨S4x2048x8x2x128, .f32⟩
  | .hbm, ⟨53, _⟩ => ⟨S_, .f32⟩
  | .hbm, ⟨54, _⟩ => ⟨S4x2048x8x2x128, .f32⟩
  | .hbm, ⟨55, _⟩ => ⟨S4x2048x8x2x128, .f32⟩
  | .hbm, ⟨56, _⟩ => ⟨S4x2048x1x1x16, .f32⟩
  | .hbm, ⟨57, _⟩ => ⟨S4x2048x1x1x16, .f32⟩
  | .hbm, ⟨58, _⟩ => ⟨S4x2048x8x2x32, .f32⟩
  | .hbm, ⟨59, _⟩ => ⟨S4x2048x8x2x16, .f32⟩
  | .hbm, ⟨60, _⟩ => ⟨S4x2048x8x2x16, .f32⟩
  | .hbm, ⟨61, _⟩ => ⟨S4x2048x8x2x16, .f32⟩
  | .hbm, ⟨62, _⟩ => ⟨S4x2048x8x2x16, .f32⟩
  | .hbm, ⟨63, _⟩ => ⟨S4x2048x8x2x16, .f32⟩
  | .hbm, ⟨64, _⟩ => ⟨S4x2048x8x2x16, .f32⟩
  | .hbm, ⟨65, _⟩ => ⟨S4x2048x8x2x16, .f32⟩
  | .hbm, ⟨66, _⟩ => ⟨S4x2048x8x2x16, .f32⟩
  | .hbm, ⟨67, _⟩ => ⟨S4x2048x8x2x16, .f32⟩
  | .hbm, ⟨68, _⟩ => ⟨S4x2048x8x2x16, .f32⟩
  | .hbm, ⟨69, _⟩ => ⟨S4x2048x8x2x16, .f32⟩
  | .hbm, ⟨70, _⟩ => ⟨S4x2048x8x2x16, .f32⟩
  | .hbm, ⟨71, _⟩ => ⟨S4x2048x8x2x32, .f32⟩
  | .hbm, ⟨72, _⟩ => ⟨S4x2048x8x2x96, .f32⟩
  | .hbm, ⟨73, _⟩ => ⟨S4x2048x8x2x128, .f32⟩
  | .hbm, ⟨74, _⟩ => ⟨S_, .f32⟩
  | .hbm, ⟨75, _⟩ => ⟨S_, .f32⟩
  | .hbm, ⟨76, _⟩ => ⟨S4x2048x8x2x128, .f32⟩
  | .hbm, ⟨77, _⟩ => ⟨S4x2048x8x2x128, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x6144, .f32⟩
  | .hbm, ⟨82, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_3 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_cst_4 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩

abbrev nD : Nat := 1
abbrev τ : Topo := Topo.v7x

variable {F : FTy → Type} [FloatOps F]
-- ==== Out.lean ====
abbrev S8192x2048 : Shape := ⟨2, ![8192, 2048]⟩
abbrev S2x2048x2048 : Shape := ⟨3, ![2, 2048, 2048]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2x2048x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8192x2048 : Shape := ⟨2, ![8192, 2048]⟩
abbrev S2x2048x2048 : Shape := ⟨3, ![2, 2048, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2x2048x2048, .f32⟩
  | .hbm, ⟨3, _⟩ => ⟨S4x2048x2048, .bf16⟩
  | .hbm, ⟨4, _⟩ => ⟨S1x2048x2048, .f32⟩
  | .hbm, ⟨5, _⟩ => ⟨S2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Out1.lean ====
abbrev S8192x2048 : Shape := ⟨2, ![8192, 2048]⟩
abbrev S1x2048x2048 : Shape := ⟨3, ![1, 2048, 2048]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Out1RefIdeal.lean ====
abbrev S8192x2048 : Shape := ⟨2, ![8192, 2048]⟩
abbrev S1x2048x2048 : Shape := ⟨3, ![1, 2048, 2048]⟩
abbrev S4x2048x2048 : Shape := ⟨3, ![4, 2048, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048x2048, .f32⟩
  | .hbm, ⟨3, _⟩ => ⟨S4x2048x2048, .bf16⟩
  | .hbm, ⟨4, _⟩ => ⟨S2048x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Out2.lean ====
abbrev S8192x2048 : Shape := ⟨2, ![8192, 2048]⟩
abbrev S8192x1024 : Shape := ⟨2, ![8192, 1024]⟩
abbrev S1x1024x2048 : Shape := ⟨3, ![1, 1024, 2048]⟩
abbrev S512x1024 : Shape := ⟨2, ![512, 1024]⟩
abbrev S1x1024x512 : Shape := ⟨3, ![1, 1024, 512]⟩
abbrev S512x512 : Shape := ⟨2, ![512, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S1x1024x2048, .f32⟩
  | .hbm, ⟨3, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1x1024x512, .f32⟩
  | .local _ .vmem, ⟨3, _⟩ => ⟨S1x1024x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Out2RefIdeal.lean ====
abbrev S8192x2048 : Shape := ⟨2, ![8192, 2048]⟩
abbrev S8192x1024 : Shape := ⟨2, ![8192, 1024]⟩
abbrev S1x1024x2048 : Shape := ⟨3, ![1, 1024, 2048]⟩
abbrev S4x2048x1024 : Shape := ⟨3, ![4, 2048, 1024]⟩
abbrev S1024x2048 : Shape := ⟨2, ![1024, 2048]⟩
abbrev S4x2048x2048 : Shape := ⟨3, ![4, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S1x1024x2048, .f32⟩
  | .hbm, ⟨3, _⟩ => ⟨S4x2048x1024, .bf16⟩
  | .hbm, ⟨4, _⟩ => ⟨S1024x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Out3.lean ====
abbrev S8192x2048 : Shape := ⟨2, ![8192, 2048]⟩
abbrev S2x2048x2048 : Shape := ⟨3, ![2, 2048, 2048]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2x2048x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Out3RefIdeal.lean ====
abbrev S8192x2048 : Shape := ⟨2, ![8192, 2048]⟩
abbrev S2x2048x2048 : Shape := ⟨3, ![2, 2048, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2x2048x2048, .f32⟩
  | .hbm, ⟨3, _⟩ => ⟨S4x2048x2048, .bf16⟩
  | .hbm, ⟨4, _⟩ => ⟨S1x2048x2048, .f32⟩
  | .hbm, ⟨5, _⟩ => ⟨S2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DilA.lean ====
abbrev S8192x2048 : Shape := ⟨2, ![8192, 2048]⟩
abbrev S4x2048 : Shape := ⟨2, ![4, 2048]⟩
abbrev S1x2048x9216 : Shape := ⟨3, ![1, 2048, 9216]⟩
abbrev S_ : Shape := ⟨0, ![]⟩
abbrev S16 : Shape := ⟨1, ![16]⟩
abbrev S4x2048x1 : Shape := ⟨3, ![4, 2048, 1]⟩
abbrev S1x1x16 : Shape := ⟨3, ![1, 1, 16]⟩
abbrev S4x2048x16 : Shape := ⟨3, ![4, 2048, 16]⟩
abbrev S8192x16 : Shape := ⟨2, ![8192, 16]⟩
abbrev S8192x96 : Shape := ⟨2, ![8192, 96]⟩
abbrev S8192x128 : Shape := ⟨2, ![8192, 128]⟩
abbrev S8192x112 : Shape := ⟨2, ![8192, 112]⟩
abbrev S1x8192x128 : Shape := ⟨3, ![1, 8192, 128]⟩
abbrev S3x8192x128 : Shape := ⟨3, ![3, 8192, 128]⟩
abbrev S8192x3072 : Shape := ⟨2, ![8192, 3072]⟩
abbrev S512x2048 : Shape := ⟨2, ![512, 2048]⟩
abbrev S1x2048x512 : Shape := ⟨3, ![1, 2048, 512]⟩
abbrev S1x512x128 : Shape := ⟨3, ![1, 512, 128]⟩
abbrev S512x512 : Shape := ⟨2, ![512, 512]⟩
abbrev S2048x512 : Shape := ⟨2, ![2048, 512]⟩
abbrev S512x128 : Shape := ⟨2, ![512, 128]⟩

abbrev nBuf : Space → Nat
  | .hbm => 77
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S4x2048, .i32⟩
  | .hbm, ⟨2, _⟩ => ⟨S1x2048x9216, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4x2048, .f32⟩
  | .hbm, ⟨22, _⟩ => ⟨S4x2048x1, .f32⟩
  | .hbm, ⟨23, _⟩ => ⟨S1x1x16, .f32⟩
  | .hbm, ⟨24, _⟩ => ⟨S4x2048x16, .f32⟩
  | .hbm, ⟨25, _⟩ => ⟨S4x2048x16, .f32⟩
  | .hbm, ⟨26, _⟩ => ⟨S4x2048x16, .f32⟩
  | .hbm, ⟨27, _⟩ => ⟨S4x2048x16, .f32⟩
  | .hbm, ⟨28, _⟩ => ⟨S8192x16, .f32⟩
  | .hbm, ⟨29, _⟩ => ⟨S4x2048x16, .f32⟩
  | .hbm, ⟨30, _⟩ => ⟨S8192x16, .f32⟩
  | .hbm, ⟨31, _⟩ => ⟨S_, .f32⟩
  | .hbm, ⟨32, _⟩ => ⟨S8192x96, .f32⟩
  | .hbm, ⟨33, _⟩ => ⟨S8192x128, .f32⟩
  | .hbm, ⟨34, _⟩ => ⟨S8192x16, .f32⟩
  | .hbm, ⟨35, _⟩ => ⟨S_, .f32⟩
  | .hbm, ⟨36, _⟩ => ⟨S8192x112, .f32⟩
  | .hbm, ⟨37, _⟩ => ⟨S8192x128, .f32⟩
  | .hbm, ⟨38, _⟩ => ⟨S_, .f32⟩
  | .hbm, ⟨39, _⟩ => ⟨S8192x16, .f32⟩
  | .hbm, ⟨40, _⟩ => ⟨S_, .f32⟩
  | .hbm, ⟨41, _⟩ => ⟨S8192x96, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S_, .f32⟩
  | .hbm, ⟨50, _⟩ => ⟨S8192x128, .f32⟩
  | .hbm, ⟨51, _⟩ => ⟨S8192x128, .f32⟩
  | .hbm, ⟨52, _⟩ => ⟨S_, .f32⟩
  | .hbm, ⟨53, _⟩ => ⟨S8192x128, .f32⟩
  | .hbm, ⟨54, _⟩ => ⟨S8192x128, .f32⟩
  | .hbm, ⟨55, _⟩ => ⟨S_, .f32⟩
  | .hbm, ⟨56, _⟩ => ⟨S8192x128, .f32⟩
  | .hbm, ⟨57, _⟩ => ⟨S8192x128, .f32⟩
  | .hbm, ⟨58, _⟩ => ⟨S_, .f32⟩
  | .hbm, ⟨59, _⟩ => ⟨S8192x128, .f32⟩
  | .hbm, ⟨60, _⟩ => ⟨S_, .f32⟩
  | .hbm, ⟨61, _⟩ => ⟨S8192x128, .f32⟩
  | .hbm, ⟨62, _⟩ => ⟨S_, .f32⟩
  | .hbm, ⟨63, _⟩ => ⟨S8192x128, .f32⟩
  | .hbm, ⟨64, _⟩ => ⟨S1x8192x128, .f32⟩
  | .hbm, ⟨65, _⟩ => ⟨S1x8192x128, .f32⟩
  | .hbm, ⟨66, _⟩ => ⟨S1x8192x128, .f32⟩
  | .hbm, ⟨67, _⟩ => ⟨S3x8192x128, .f32⟩
  | .hbm, ⟨68, _⟩ => ⟨S1x8192x128, .f32⟩
  | .hbm, ⟨69, _⟩ => ⟨S1x8192x128, .f32⟩
  | .hbm, ⟨70, _⟩ => ⟨S1x8192x128, .f32⟩
  | .hbm, ⟨71, _⟩ => ⟨S3x8192x128, .f32⟩
  | .hbm, ⟨72, _⟩ => ⟨S1x8192x128, .f32⟩
  | .hbm, ⟨73, _⟩ => ⟨S1x8192x128, .f32⟩
  | .hbm, ⟨74, _⟩ => ⟨S1x8192x128, .f32⟩
  | .hbm, ⟨75, _⟩ => ⟨S3x8192x128, .f32⟩
  | .hbm, ⟨76, _⟩ => ⟨S8192x3072, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S512x512, .bf16⟩
  | .local _ .vmem, ⟨11, _⟩ => ⟨S512x512, .bf16⟩
  | .local _ .vmem, ⟨12, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_v41 : Ref sig .tc := ⟨.hbm, 57, rfl⟩
abbrev main_cst_12 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli v16 c3_i32
  let c0_i32_4 : BitVec 32 := 0#32
  let v18 : BitVec 32 := Scalar.addi v17 c0_i32_4
  let c2_i32_5 : BitVec 32 := 2#32
  let v19 : BitVec 32 := Scalar.muli v18 c2_i32_5
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_12 : BitVec 32 := 0#32
  let c0_i32_13 : BitVec 32 := 0#32
  let c0_i32_14 : BitVec 32 := 0#32
  ![c0_i32_12.toNat, c0_i32_13.toNat, v30.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DilARefIdeal.lean ====
abbrev S8192x2048 : Shape := ⟨2, ![8192, 2048]⟩
abbrev S4x2048 : Shape := ⟨2, ![4, 2048]⟩
abbrev S1x2048x9216 : Shape := ⟨3, ![1, 2048, 9216]⟩
abbrev S16 : Shape := ⟨1, ![16]⟩
abbrev S_ : Shape := ⟨0, ![]⟩
abbrev S4x2048x1 : Shape := ⟨3, ![4, 2048, 1]⟩
abbrev S1x1x16 : Shape := ⟨3, ![1, 1, 16]⟩
abbrev S4x2048x16 : Shape := ⟨3, ![4, 2048, 16]⟩
abbrev S4x2048x2048 : Shape := ⟨3, ![4, 2048, 2048]⟩
abbrev S2048x9216 : Shape := ⟨2, ![2048, 9216]⟩
abbrev S4x2048x9216 : Shape := ⟨3, ![4, 2048, 9216]⟩
abbrev S4x2048x3x3x8x128 : Shape := ⟨6, ![4, 2048, 3, 3, 8, 128]⟩
abbrev S4x2048x1x3x8x128 : Shape := ⟨6, ![4, 2048, 1, 3, 8, 128]⟩
abbrev S4x2048x3x8x128 : Shape := ⟨5, ![4, 2048, 3, 8, 128]⟩
abbrev S4x2048x1x1x16 : Shape := ⟨5, ![4, 2048, 1, 1, 16]⟩
abbrev S4x2048x3x8x32 : Shape := ⟨5, ![4, 2048, 3, 8, 32]⟩
abbrev S4x2048x3x8x16 : Shape := ⟨5, ![4, 2048, 3, 8, 16]⟩
abbrev S4x2048x3x8x96 : Shape := ⟨5, ![4, 2048, 3, 8, 96]⟩
abbrev S4x2048x1x8x128 : Shape := ⟨5, ![4, 2048, 1, 8, 128]⟩
abbrev S4x2048x8x128 : Shape := ⟨4, ![4, 2048, 8, 128]⟩
abbrev S8192x1024 : Shape := ⟨2, ![8192, 1024]⟩
abbrev S8192x3072 : Shape := ⟨2, ![8192, 3072]⟩

abbrev nBuf : Space → Nat
  | .hbm => 89
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048, .i32⟩
  | .hbm, ⟨2, _⟩ => ⟨S1x2048x9216, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4x2048, .f32⟩
  | .hbm, ⟨18, _⟩ => ⟨S4x2048x1, .f32⟩
  | .hbm, ⟨19, _⟩ => ⟨S1x1x16, .f32⟩
  | .hbm, ⟨20, _⟩ => ⟨S4x2048x16, .f32⟩
  | .hbm, ⟨21, _⟩ => ⟨S4x2048x16, .f32⟩
  | .hbm, ⟨22, _⟩ => ⟨S4x2048x16, .f32⟩
  | .hbm, ⟨23, _⟩ => ⟨S4x2048x16, .f32⟩
  | .hbm, ⟨24, _⟩ => ⟨S4x2048x16, .f32⟩
  | .hbm, ⟨25, _⟩ => ⟨S4x2048x2048, .bf16⟩
  | .hbm, ⟨26, _⟩ => ⟨S2048x9216, .f32⟩
  | .hbm, ⟨27, _⟩ => ⟨S4x2048x9216, .f32⟩
  | .hbm, ⟨28, _⟩ => ⟨S4x2048x3x3x8x128, .f32⟩
  | .hbm, ⟨29, _⟩ => ⟨S4x2048x1x3x8x128, .f32⟩
  | .hbm, ⟨30, _⟩ => ⟨S4x2048x3x8x128, .f32⟩
  | .hbm, ⟨31, _⟩ => ⟨S4x2048x1x1x16, .f32⟩
  | .hbm, ⟨32, _⟩ => ⟨S4x2048x1x1x16, .f32⟩
  | .hbm, ⟨33, _⟩ => ⟨S4x2048x3x8x32, .f32⟩
  | .hbm, ⟨34, _⟩ => ⟨S4x2048x3x8x16, .f32⟩
  | .hbm, ⟨35, _⟩ => ⟨S4x2048x3x8x16, .f32⟩
  | .hbm, ⟨36, _⟩ => ⟨S4x2048x3x8x16, .f32⟩
  | .hbm, ⟨37, _⟩ => ⟨S4x2048x3x8x16, .f32⟩
  | .hbm, ⟨38, _⟩ => ⟨S4x2048x3x8x16, .f32⟩
  | .hbm, ⟨39, _⟩ => ⟨S4x2048x3x8x16, .f32⟩
  | .hbm, ⟨40, _⟩ => ⟨S4x2048x3x8x16, .f32⟩
  | .hbm, ⟨41, _⟩ => ⟨S4x2048x3x8x16, .f32⟩
  | .hbm, ⟨42, _⟩ => ⟨S4x2048x3x8x16, .f32⟩
  | .hbm, ⟨43, _⟩ => ⟨S4x2048x3x8x16, .f32⟩
  | .hbm, ⟨44, _⟩ => ⟨S4x2048x3x8x16, .f32⟩
  | .hbm, ⟨45, _⟩ => ⟨S4x2048x3x8x16, .f32⟩
  | .hbm, ⟨46, _⟩ => ⟨S4x2048x3x8x32, .f32⟩
  | .hbm, ⟨47, _⟩ => ⟨S4x2048x3x8x96, .f32⟩
  | .hbm, ⟨48, _⟩ => ⟨S4x2048x3x8x128, .f32⟩
  | .hbm, ⟨49, _⟩ => ⟨S_, .f32⟩
  | .hbm, ⟨50, _⟩ => ⟨S4x2048x3x8x128, .f32⟩
  | .hbm, ⟨51, _⟩ => ⟨S4x2048x3x8x128, .f32⟩
  | .hbm, ⟨52, _⟩ => ⟨S4x2048x1x3x8x128, .f32⟩
  | .hbm, ⟨53, _⟩ => ⟨S4x2048x3x8x128, .f32⟩
  | .hbm, ⟨54, _⟩ => ⟨S4x2048x1x1x16, .f32⟩
  | .hbm, ⟨55, _⟩ => ⟨S4x2048x1x1x16, .f32⟩
  | .hbm, ⟨56, _⟩ => ⟨S4x2048x3x8x32, .f32⟩
  | .hbm, ⟨57, _⟩ => ⟨S4x2048x3x8x16, .f32⟩
  | .hbm, ⟨58, _⟩ => ⟨S4x2048x3x8x16, .f32⟩
  | .hbm, ⟨59, _⟩ => ⟨S4x2048x3x8x16, .f32⟩
  | .hbm, ⟨60, _⟩ => ⟨S4x2048x3x8x16, .f32⟩
  | .hbm, ⟨61, _⟩ => ⟨S4x2048x3x8x16, .f32⟩
  | .hbm, ⟨62, _⟩ => ⟨S4x2048x3x8x16, .f32⟩
  | .hbm, ⟨63, _⟩ => ⟨S4x2048x3x8x16, .f32⟩
  | .hbm, ⟨64, _⟩ => ⟨S4x2048x3x8x16, .f32⟩
  | .hbm, ⟨65, _⟩ => ⟨S4x2048x3x8x16, .f32⟩
  | .hbm, ⟨66, _⟩ => ⟨S4x2048x3x8x16, .f32⟩
  | .hbm, ⟨67, _⟩ => ⟨S4x2048x3x8x16, .f32⟩
  | .hbm, ⟨68, _⟩ => ⟨S4x2048x3x8x16, .f32⟩
  | .hbm, ⟨69, _⟩ => ⟨S4x2048x3x8x32, .f32⟩
  | .hbm, ⟨70, _⟩ => ⟨S4x2048x3x8x96, .f32⟩
  | .hbm, ⟨71, _⟩ => ⟨S4x2048x3x8x128, .f32⟩
  | .hbm, ⟨72, _⟩ => ⟨S4x2048x1x3x8x128, .f32⟩
  | .hbm, ⟨73, _⟩ => ⟨S4x2048x3x8x128, .f32⟩
  | .hbm, ⟨74, _⟩ => ⟨S4x2048x1x8x128, .f32⟩
  | .hbm, ⟨75, _⟩ => ⟨S4x2048x8x128, .f32⟩
  | .hbm, ⟨76, _⟩ => ⟨S4x2048x1x8x128, .f32⟩
  | .hbm, ⟨77, _⟩ => ⟨S4x2048x8x128, .f32⟩
  | .hbm, ⟨78, _⟩ => ⟨S4x2048x1x8x128, .f32⟩
  | .hbm, ⟨79, _⟩ => ⟨S4x2048x8x128, .f32⟩
  | .hbm, ⟨80, _⟩ => ⟨S_, .f32⟩
  | .hbm, ⟨81, _⟩ => ⟨S_, .f32⟩
  | .hbm, ⟨82, _⟩ => ⟨S4x2048x8x128, .f32⟩
  | .hbm, ⟨83, _⟩ => ⟨S4x2048x8x128, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x3072, .f32⟩
  | .hbm, ⟨88, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_cst_4 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩

abbrev nD : Nat := 1
abbrev τ : Topo := Topo.v7x

variable {F : FTy → Type} [FloatOps F]
-- ==== DilB.lean ====
abbrev S8192x2048 : Shape := ⟨2, ![8192, 2048]⟩
abbrev S4x2048 : Shape := ⟨2, ![4, 2048]⟩
abbrev S1x2048x9216 : Shape := ⟨3, ![1, 2048, 9216]⟩
abbrev S_ : Shape := ⟨0, ![]⟩
abbrev S16 : Shape := ⟨1, ![16]⟩
abbrev S4x2048x1 : Shape := ⟨3, ![4, 2048, 1]⟩
abbrev S1x1x16 : Shape := ⟨3, ![1, 1, 16]⟩
abbrev S4x2048x16 : Shape := ⟨3, ![4, 2048, 16]⟩
abbrev S8192x16 : Shape := ⟨2, ![8192, 16]⟩
abbrev S8192x96 : Shape := ⟨2, ![8192, 96]⟩
abbrev S8192x128 : Shape := ⟨2, ![8192, 128]⟩
abbrev S8192x112 : Shape := ⟨2, ![8192, 112]⟩
abbrev S1x8192x128 : Shape := ⟨3, ![1, 8192, 128]⟩
abbrev S3x8192x128 : Shape := ⟨3, ![3, 8192, 128]⟩
abbrev S4x2048x3072 : Shape := ⟨3, ![4, 2048, 3072]⟩
abbrev S512x2048 : Shape := ⟨2, ![512, 2048]⟩
abbrev S1x2048x512 : Shape := ⟨3, ![1, 2048, 512]⟩
abbrev S1x512x128 : Shape := ⟨3, ![1, 512, 128]⟩
abbrev S4x128x512 : Shape := ⟨3, ![4, 128, 512]⟩
abbrev S2048x512 : Shape := ⟨2, ![2048, 512]⟩
abbrev S4x512x128 : Shape := ⟨3, ![4, 512, 128]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 77
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S4x2048, .i32⟩
  | .hbm, ⟨2, _⟩ => ⟨S1x2048x9216, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4x2048, .f32⟩
  | .hbm, ⟨22, _⟩ => ⟨S4x2048x1, .f32⟩
  | .hbm, ⟨23, _⟩ => ⟨S1x1x16, .f32⟩
  | .hbm, ⟨24, _⟩ => ⟨S4x2048x16, .f32⟩
  | .hbm, ⟨25, _⟩ => ⟨S4x2048x16, .f32⟩
  | .hbm, ⟨26, _⟩ => ⟨S4x2048x16, .f32⟩
  | .hbm, ⟨27, _⟩ => ⟨S4x2048x16, .f32⟩
  | .hbm, ⟨28, _⟩ => ⟨S8192x16, .f32⟩
  | .hbm, ⟨29, _⟩ => ⟨S4x2048x16, .f32⟩
  | .hbm, ⟨30, _⟩ => ⟨S8192x16, .f32⟩
  | .hbm, ⟨31, _⟩ => ⟨S_, .f32⟩
  | .hbm, ⟨32, _⟩ => ⟨S8192x96, .f32⟩
  | .hbm, ⟨33, _⟩ => ⟨S8192x128, .f32⟩
  | .hbm, ⟨34, _⟩ => ⟨S8192x16, .f32⟩
  | .hbm, ⟨35, _⟩ => ⟨S_, .f32⟩
  | .hbm, ⟨36, _⟩ => ⟨S8192x112, .f32⟩
  | .hbm, ⟨37, _⟩ => ⟨S8192x128, .f32⟩
  | .hbm, ⟨38, _⟩ => ⟨S_, .f32⟩
  | .hbm, ⟨39, _⟩ => ⟨S8192x16, .f32⟩
  | .hbm, ⟨40, _⟩ => ⟨S_, .f32⟩
  | .hbm, ⟨41, _⟩ => ⟨S8192x96, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S_, .f32⟩
  | .hbm, ⟨50, _⟩ => ⟨S8192x128, .f32⟩
  | .hbm, ⟨51, _⟩ => ⟨S8192x128, .f32⟩
  | .hbm, ⟨52, _⟩ => ⟨S_, .f32⟩
  | .hbm, ⟨53, _⟩ => ⟨S8192x128, .f32⟩
  | .hbm, ⟨54, _⟩ => ⟨S8192x128, .f32⟩
  | .hbm, ⟨55, _⟩ => ⟨S_, .f32⟩
  | .hbm, ⟨56, _⟩ => ⟨S8192x128, .f32⟩
  | .hbm, ⟨57, _⟩ => ⟨S8192x128, .f32⟩
  | .hbm, ⟨58, _⟩ => ⟨S_, .f32⟩
  | .hbm, ⟨59, _⟩ => ⟨S8192x128, .f32⟩
  | .hbm, ⟨60, _⟩ => ⟨S_, .f32⟩
  | .hbm, ⟨61, _⟩ => ⟨S8192x128, .f32⟩
  | .hbm, ⟨62, _⟩ => ⟨S_, .f32⟩
  | .hbm, ⟨63, _⟩ => ⟨S8192x128, .f32⟩
  | .hbm, ⟨64, _⟩ => ⟨S1x8192x128, .f32⟩
  | .hbm, ⟨65, _⟩ => ⟨S1x8192x128, .f32⟩
  | .hbm, ⟨66, _⟩ => ⟨S1x8192x128, .f32⟩
  | .hbm, ⟨67, _⟩ => ⟨S3x8192x128, .f32⟩
  | .hbm, ⟨68, _⟩ => ⟨S1x8192x128, .f32⟩
  | .hbm, ⟨69, _⟩ => ⟨S1x8192x128, .f32⟩
  | .hbm, ⟨70, _⟩ => ⟨S1x8192x128, .f32⟩
  | .hbm, ⟨71, _⟩ => ⟨S3x8192x128, .f32⟩
  | .hbm, ⟨72, _⟩ => ⟨S1x8192x128, .f32⟩
  | .hbm, ⟨73, _⟩ => ⟨S1x8192x128, .f32⟩
  | .hbm, ⟨74, _⟩ => ⟨S1x8192x128, .f32⟩
  | .hbm, ⟨75, _⟩ => ⟨S3x8192x128, .f32⟩
  | .hbm, ⟨76, _⟩ => ⟨S4x2048x3072, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S4x128x512, .bf16⟩
  | .local _ .vmem, ⟨11, _⟩ => ⟨S4x128x512, .bf16⟩
  | .local _ .vmem, ⟨12, _⟩ => ⟨S2048x512, .bf16⟩
  | .local _ .vmem, ⟨13, _⟩ => ⟨S4x512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_v41 : Ref sig .tc := ⟨.hbm, 57, rfl⟩
abbrev main_cst_12 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli v16 c3_i32
  let c1_i32_4 : BitVec 32 := 1#32
  let v18 : BitVec 32 := Scalar.addi v17 c1_i32_4
  let c2_i32_5 : BitVec 32 := 2#32
  let v19 : BitVec 32 := Scalar.muli v18 c2_i32_5
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_12 : BitVec 32 := 0#32
  let c0_i32_13 : BitVec 32 := 0#32
  let c0_i32_14 : BitVec 32 := 0#32
  ![c0_i32_12.toNat, c0_i32_13.toNat, v30.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DilBRefIdeal.lean ====
abbrev S8192x2048 : Shape := ⟨2, ![8192, 2048]⟩
abbrev S4x2048 : Shape := ⟨2, ![4, 2048]⟩
abbrev S1x2048x9216 : Shape := ⟨3, ![1, 2048, 9216]⟩
abbrev S16 : Shape := ⟨1, ![16]⟩
abbrev S_ : Shape := ⟨0, ![]⟩
abbrev S4x2048x1 : Shape := ⟨3, ![4, 2048, 1]⟩
abbrev S1x1x16 : Shape := ⟨3, ![1, 1, 16]⟩
abbrev S4x2048x16 : Shape := ⟨3, ![4, 2048, 16]⟩
abbrev S4x2048x2048 : Shape := ⟨3, ![4, 2048, 2048]⟩
abbrev S2048x9216 : Shape := ⟨2, ![2048, 9216]⟩
abbrev S4x2048x9216 : Shape := ⟨3, ![4, 2048, 9216]⟩
abbrev S4x2048x3x3x8x128 : Shape := ⟨6, ![4, 2048, 3, 3, 8, 128]⟩
abbrev S4x2048x1x3x8x128 : Shape := ⟨6, ![4, 2048, 1, 3, 8, 128]⟩
abbrev S4x2048x3x8x128 : Shape := ⟨5, ![4, 2048, 3, 8, 128]⟩
abbrev S4x2048x1x1x16 : Shape := ⟨5, ![4, 2048, 1, 1, 16]⟩
abbrev S4x2048x3x8x32 : Shape := ⟨5, ![4, 2048, 3, 8, 32]⟩
abbrev S4x2048x3x8x16 : Shape := ⟨5, ![4, 2048, 3, 8, 16]⟩
abbrev S4x2048x3x8x96 : Shape := ⟨5, ![4, 2048, 3, 8, 96]⟩
abbrev S4x2048x1x8x128 : Shape := ⟨5, ![4, 2048, 1, 8, 128]⟩
abbrev S4x2048x8x128 : Shape := ⟨4, ![4, 2048, 8, 128]⟩
abbrev S8192x1024 : Shape := ⟨2, ![8192, 1024]⟩
abbrev S8192x3072 : Shape := ⟨2, ![8192, 3072]⟩
abbrev S2048x4x3072 : Shape := ⟨3, ![2048, 4, 3072]⟩
abbrev S4x2048x3072 : Shape := ⟨3, ![4, 2048, 3072]⟩

abbrev nBuf : Space → Nat
  | .hbm => 91
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048, .i32⟩
  | .hbm, ⟨2, _⟩ => ⟨S1x2048x9216, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4x2048, .f32⟩
  | .hbm, ⟨18, _⟩ => ⟨S4x2048x1, .f32⟩
  | .hbm, ⟨19, _⟩ => ⟨S1x1x16, .f32⟩
  | .hbm, ⟨20, _⟩ => ⟨S4x2048x16, .f32⟩
  | .hbm, ⟨21, _⟩ => ⟨S4x2048x16, .f32⟩
  | .hbm, ⟨22, _⟩ => ⟨S4x2048x16, .f32⟩
  | .hbm, ⟨23, _⟩ => ⟨S4x2048x16, .f32⟩
  | .hbm, ⟨24, _⟩ => ⟨S4x2048x16, .f32⟩
  | .hbm, ⟨25, _⟩ => ⟨S4x2048x2048, .bf16⟩
  | .hbm, ⟨26, _⟩ => ⟨S2048x9216, .f32⟩
  | .hbm, ⟨27, _⟩ => ⟨S4x2048x9216, .f32⟩
  | .hbm, ⟨28, _⟩ => ⟨S4x2048x3x3x8x128, .f32⟩
  | .hbm, ⟨29, _⟩ => ⟨S4x2048x1x3x8x128, .f32⟩
  | .hbm, ⟨30, _⟩ => ⟨S4x2048x3x8x128, .f32⟩
  | .hbm, ⟨31, _⟩ => ⟨S4x2048x1x1x16, .f32⟩
  | .hbm, ⟨32, _⟩ => ⟨S4x2048x1x1x16, .f32⟩
  | .hbm, ⟨33, _⟩ => ⟨S4x2048x3x8x32, .f32⟩
  | .hbm, ⟨34, _⟩ => ⟨S4x2048x3x8x16, .f32⟩
  | .hbm, ⟨35, _⟩ => ⟨S4x2048x3x8x16, .f32⟩
  | .hbm, ⟨36, _⟩ => ⟨S4x2048x3x8x16, .f32⟩
  | .hbm, ⟨37, _⟩ => ⟨S4x2048x3x8x16, .f32⟩
  | .hbm, ⟨38, _⟩ => ⟨S4x2048x3x8x16, .f32⟩
  | .hbm, ⟨39, _⟩ => ⟨S4x2048x3x8x16, .f32⟩
  | .hbm, ⟨40, _⟩ => ⟨S4x2048x3x8x16, .f32⟩
  | .hbm, ⟨41, _⟩ => ⟨S4x2048x3x8x16, .f32⟩
  | .hbm, ⟨42, _⟩ => ⟨S4x2048x3x8x16, .f32⟩
  | .hbm, ⟨43, _⟩ => ⟨S4x2048x3x8x16, .f32⟩
  | .hbm, ⟨44, _⟩ => ⟨S4x2048x3x8x16, .f32⟩
  | .hbm, ⟨45, _⟩ => ⟨S4x2048x3x8x16, .f32⟩
  | .hbm, ⟨46, _⟩ => ⟨S4x2048x3x8x32, .f32⟩
  | .hbm, ⟨47, _⟩ => ⟨S4x2048x3x8x96, .f32⟩
  | .hbm, ⟨48, _⟩ => ⟨S4x2048x3x8x128, .f32⟩
  | .hbm, ⟨49, _⟩ => ⟨S_, .f32⟩
  | .hbm, ⟨50, _⟩ => ⟨S4x2048x3x8x128, .f32⟩
  | .hbm, ⟨51, _⟩ => ⟨S4x2048x3x8x128, .f32⟩
  | .hbm, ⟨52, _⟩ => ⟨S4x2048x1x3x8x128, .f32⟩
  | .hbm, ⟨53, _⟩ => ⟨S4x2048x3x8x128, .f32⟩
  | .hbm, ⟨54, _⟩ => ⟨S4x2048x1x1x16, .f32⟩
  | .hbm, ⟨55, _⟩ => ⟨S4x2048x1x1x16, .f32⟩
  | .hbm, ⟨56, _⟩ => ⟨S4x2048x3x8x32, .f32⟩
  | .hbm, ⟨57, _⟩ => ⟨S4x2048x3x8x16, .f32⟩
  | .hbm, ⟨58, _⟩ => ⟨S4x2048x3x8x16, .f32⟩
  | .hbm, ⟨59, _⟩ => ⟨S4x2048x3x8x16, .f32⟩
  | .hbm, ⟨60, _⟩ => ⟨S4x2048x3x8x16, .f32⟩
  | .hbm, ⟨61, _⟩ => ⟨S4x2048x3x8x16, .f32⟩
  | .hbm, ⟨62, _⟩ => ⟨S4x2048x3x8x16, .f32⟩
  | .hbm, ⟨63, _⟩ => ⟨S4x2048x3x8x16, .f32⟩
  | .hbm, ⟨64, _⟩ => ⟨S4x2048x3x8x16, .f32⟩
  | .hbm, ⟨65, _⟩ => ⟨S4x2048x3x8x16, .f32⟩
  | .hbm, ⟨66, _⟩ => ⟨S4x2048x3x8x16, .f32⟩
  | .hbm, ⟨67, _⟩ => ⟨S4x2048x3x8x16, .f32⟩
  | .hbm, ⟨68, _⟩ => ⟨S4x2048x3x8x16, .f32⟩
  | .hbm, ⟨69, _⟩ => ⟨S4x2048x3x8x32, .f32⟩
  | .hbm, ⟨70, _⟩ => ⟨S4x2048x3x8x96, .f32⟩
  | .hbm, ⟨71, _⟩ => ⟨S4x2048x3x8x128, .f32⟩
  | .hbm, ⟨72, _⟩ => ⟨S4x2048x1x3x8x128, .f32⟩
  | .hbm, ⟨73, _⟩ => ⟨S4x2048x3x8x128, .f32⟩
  | .hbm, ⟨74, _⟩ => ⟨S4x2048x1x8x128, .f32⟩
  | .hbm, ⟨75, _⟩ => ⟨S4x2048x8x128, .f32⟩
  | .hbm, ⟨76, _⟩ => ⟨S4x2048x1x8x128, .f32⟩
  | .hbm, ⟨77, _⟩ => ⟨S4x2048x8x128, .f32⟩
  | .hbm, ⟨78, _⟩ => ⟨S4x2048x1x8x128, .f32⟩
  | .hbm, ⟨79, _⟩ => ⟨S4x2048x8x128, .f32⟩
  | .hbm, ⟨80, _⟩ => ⟨S_, .f32⟩
  | .hbm, ⟨81, _⟩ => ⟨S_, .f32⟩
  | .hbm, ⟨82, _⟩ => ⟨S4x2048x8x128, .f32⟩
  | .hbm, ⟨83, _⟩ => ⟨S4x2048x8x128, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x3072, .f32⟩
  | .hbm, ⟨88, _⟩ => ⟨S8192x3072, .bf16⟩
  | .hbm, ⟨89, _⟩ => ⟨S2048x4x3072, .bf16⟩
  | .hbm, ⟨90, _⟩ => ⟨S4x2048x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_cst_4 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩

abbrev nD : Nat := 1
abbrev τ : Topo := Topo.v7x

variable {F : FTy → Type} [FloatOps F]
-- ==== DilC.lean ====
abbrev S8192x2048 : Shape := ⟨2, ![8192, 2048]⟩
abbrev S4x2048 : Shape := ⟨2, ![4, 2048]⟩
abbrev S1x2048x9216 : Shape := ⟨3, ![1, 2048, 9216]⟩
abbrev S_ : Shape := ⟨0, ![]⟩
abbrev S16 : Shape := ⟨1, ![16]⟩
abbrev S4x2048x1 : Shape := ⟨3, ![4, 2048, 1]⟩
abbrev S1x1x16 : Shape := ⟨3, ![1, 1, 16]⟩
abbrev S4x2048x16 : Shape := ⟨3, ![4, 2048, 16]⟩
abbrev S8192x16 : Shape := ⟨2, ![8192, 16]⟩
abbrev S8192x96 : Shape := ⟨2, ![8192, 96]⟩
abbrev S8192x128 : Shape := ⟨2, ![8192, 128]⟩
abbrev S8192x112 : Shape := ⟨2, ![8192, 112]⟩
abbrev S1x8192x128 : Shape := ⟨3, ![1, 8192, 128]⟩
abbrev S3x8192x128 : Shape := ⟨3, ![3, 8192, 128]⟩
abbrev S16x512x3072 : Shape := ⟨3, ![16, 512, 3072]⟩
abbrev S512x2048 : Shape := ⟨2, ![512, 2048]⟩
abbrev S1x2048x512 : Shape := ⟨3, ![1, 2048, 512]⟩
abbrev S1x512x128 : Shape := ⟨3, ![1, 512, 128]⟩
abbrev S16x32x512 : Shape := ⟨3, ![16, 32, 512]⟩
abbrev S2048x512 : Shape := ⟨2, ![2048, 512]⟩
abbrev S4x512x128 : Shape := ⟨3, ![4, 512, 128]⟩
abbrev S512x512 : Shape := ⟨2, ![512, 512]⟩
abbrev S512x128 : Shape := ⟨2, ![512, 128]⟩
abbrev S1x32x128 : Shape := ⟨3, ![1, 32, 128]⟩
abbrev S32x128 : Shape := ⟨2, ![32, 128]⟩

abbrev nBuf : Space → Nat
  | .hbm => 77
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S4x2048, .i32⟩
  | .hbm, ⟨2, _⟩ => ⟨S1x2048x9216, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4x2048, .f32⟩
  | .hbm, ⟨22, _⟩ => ⟨S4x2048x1, .f32⟩
  | .hbm, ⟨23, _⟩ => ⟨S1x1x16, .f32⟩
  | .hbm, ⟨24, _⟩ => ⟨S4x2048x16, .f32⟩
  | .hbm, ⟨25, _⟩ => ⟨S4x2048x16, .f32⟩
  | .hbm, ⟨26, _⟩ => ⟨S4x2048x16, .f32⟩
  | .hbm, ⟨27, _⟩ => ⟨S4x2048x16, .f32⟩
  | .hbm, ⟨28, _⟩ => ⟨S8192x16, .f32⟩
  | .hbm, ⟨29, _⟩ => ⟨S4x2048x16, .f32⟩
  | .hbm, ⟨30, _⟩ => ⟨S8192x16, .f32⟩
  | .hbm, ⟨31, _⟩ => ⟨S_, .f32⟩
  | .hbm, ⟨32, _⟩ => ⟨S8192x96, .f32⟩
  | .hbm, ⟨33, _⟩ => ⟨S8192x128, .f32⟩
  | .hbm, ⟨34, _⟩ => ⟨S8192x16, .f32⟩
  | .hbm, ⟨35, _⟩ => ⟨S_, .f32⟩
  | .hbm, ⟨36, _⟩ => ⟨S8192x112, .f32⟩
  | .hbm, ⟨37, _⟩ => ⟨S8192x128, .f32⟩
  | .hbm, ⟨38, _⟩ => ⟨S_, .f32⟩
  | .hbm, ⟨39, _⟩ => ⟨S8192x16, .f32⟩
  | .hbm, ⟨40, _⟩ => ⟨S_, .f32⟩
  | .hbm, ⟨41, _⟩ => ⟨S8192x96, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S_, .f32⟩
  | .hbm, ⟨50, _⟩ => ⟨S8192x128, .f32⟩
  | .hbm, ⟨51, _⟩ => ⟨S8192x128, .f32⟩
  | .hbm, ⟨52, _⟩ => ⟨S_, .f32⟩
  | .hbm, ⟨53, _⟩ => ⟨S8192x128, .f32⟩
  | .hbm, ⟨54, _⟩ => ⟨S8192x128, .f32⟩
  | .hbm, ⟨55, _⟩ => ⟨S_, .f32⟩
  | .hbm, ⟨56, _⟩ => ⟨S8192x128, .f32⟩
  | .hbm, ⟨57, _⟩ => ⟨S8192x128, .f32⟩
  | .hbm, ⟨58, _⟩ => ⟨S_, .f32⟩
  | .hbm, ⟨59, _⟩ => ⟨S8192x128, .f32⟩
  | .hbm, ⟨60, _⟩ => ⟨S_, .f32⟩
  | .hbm, ⟨61, _⟩ => ⟨S8192x128, .f32⟩
  | .hbm, ⟨62, _⟩ => ⟨S_, .f32⟩
  | .hbm, ⟨63, _⟩ => ⟨S8192x128, .f32⟩
  | .hbm, ⟨64, _⟩ => ⟨S1x8192x128, .f32⟩
  | .hbm, ⟨65, _⟩ => ⟨S1x8192x128, .f32⟩
  | .hbm, ⟨66, _⟩ => ⟨S1x8192x128, .f32⟩
  | .hbm, ⟨67, _⟩ => ⟨S3x8192x128, .f32⟩
  | .hbm, ⟨68, _⟩ => ⟨S1x8192x128, .f32⟩
  | .hbm, ⟨69, _⟩ => ⟨S1x8192x128, .f32⟩
  | .hbm, ⟨70, _⟩ => ⟨S1x8192x128, .f32⟩
  | .hbm, ⟨71, _⟩ => ⟨S3x8192x128, .f32⟩
  | .hbm, ⟨72, _⟩ => ⟨S1x8192x128, .f32⟩
  | .hbm, ⟨73, _⟩ => ⟨S1x8192x128, .f32⟩
  | .hbm, ⟨74, _⟩ => ⟨S1x8192x128, .f32⟩
  | .hbm, ⟨75, _⟩ => ⟨S3x8192x128, .f32⟩
  | .hbm, ⟨76, _⟩ => ⟨S16x512x3072, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S16x32x512, .bf16⟩
  | .local _ .vmem, ⟨11, _⟩ => ⟨S16x32x512, .bf16⟩
  | .local _ .vmem, ⟨12, _⟩ => ⟨S2048x512, .bf16⟩
  | .local _ .vmem, ⟨13, _⟩ => ⟨S4x512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_v41 : Ref sig .tc := ⟨.hbm, 57, rfl⟩
abbrev main_cst_12 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli v16 c3_i32
  let c2_i32_4 : BitVec 32 := 2#32
  let v18 : BitVec 32 := Scalar.addi v17 c2_i32_4
  let c2_i32_5 : BitVec 32 := 2#32
  let v19 : BitVec 32 := Scalar.muli v18 c2_i32_5
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_12 : BitVec 32 := 0#32
  let c0_i32_13 : BitVec 32 := 0#32
  let c0_i32_14 : BitVec 32 := 0#32
  ![c0_i32_12.toNat, c0_i32_13.toNat, v30.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DilCRefIdeal.lean ====
abbrev S8192x2048 : Shape := ⟨2, ![8192, 2048]⟩
abbrev S4x2048 : Shape := ⟨2, ![4, 2048]⟩
abbrev S1x2048x9216 : Shape := ⟨3, ![1, 2048, 9216]⟩
abbrev S16 : Shape := ⟨1, ![16]⟩
abbrev S_ : Shape := ⟨0, ![]⟩
abbrev S4x2048x1 : Shape := ⟨3, ![4, 2048, 1]⟩
abbrev S1x1x16 : Shape := ⟨3, ![1, 1, 16]⟩
abbrev S4x2048x16 : Shape := ⟨3, ![4, 2048, 16]⟩
abbrev S4x2048x2048 : Shape := ⟨3, ![4, 2048, 2048]⟩
abbrev S2048x9216 : Shape := ⟨2, ![2048, 9216]⟩
abbrev S4x2048x9216 : Shape := ⟨3, ![4, 2048, 9216]⟩
abbrev S4x2048x3x3x8x128 : Shape := ⟨6, ![4, 2048, 3, 3, 8, 128]⟩
abbrev S4x2048x1x3x8x128 : Shape := ⟨6, ![4, 2048, 1, 3, 8, 128]⟩
abbrev S4x2048x3x8x128 : Shape := ⟨5, ![4, 2048, 3, 8, 128]⟩
abbrev S4x2048x1x1x16 : Shape := ⟨5, ![4, 2048, 1, 1, 16]⟩
abbrev S4x2048x3x8x32 : Shape := ⟨5, ![4, 2048, 3, 8, 32]⟩
abbrev S4x2048x3x8x16 : Shape := ⟨5, ![4, 2048, 3, 8, 16]⟩
abbrev S4x2048x3x8x96 : Shape := ⟨5, ![4, 2048, 3, 8, 96]⟩
abbrev S4x2048x1x8x128 : Shape := ⟨5, ![4, 2048, 1, 8, 128]⟩
abbrev S4x2048x8x128 : Shape := ⟨4, ![4, 2048, 8, 128]⟩
abbrev S8192x1024 : Shape := ⟨2, ![8192, 1024]⟩
abbrev S8192x3072 : Shape := ⟨2, ![8192, 3072]⟩
abbrev S512x16x3072 : Shape := ⟨3, ![512, 16, 3072]⟩
abbrev S16x512x3072 : Shape := ⟨3, ![16, 512, 3072]⟩

abbrev nBuf : Space → Nat
  | .hbm => 91
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048, .i32⟩
  | .hbm, ⟨2, _⟩ => ⟨S1x2048x9216, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4x2048, .f32⟩
  | .hbm, ⟨18, _⟩ => ⟨S4x2048x1, .f32⟩
  | .hbm, ⟨19, _⟩ => ⟨S1x1x16, .f32⟩
  | .hbm, ⟨20, _⟩ => ⟨S4x2048x16, .f32⟩
  | .hbm, ⟨21, _⟩ => ⟨S4x2048x16, .f32⟩
  | .hbm, ⟨22, _⟩ => ⟨S4x2048x16, .f32⟩
  | .hbm, ⟨23, _⟩ => ⟨S4x2048x16, .f32⟩
  | .hbm, ⟨24, _⟩ => ⟨S4x2048x16, .f32⟩
  | .hbm, ⟨25, _⟩ => ⟨S4x2048x2048, .bf16⟩
  | .hbm, ⟨26, _⟩ => ⟨S2048x9216, .f32⟩
  | .hbm, ⟨27, _⟩ => ⟨S4x2048x9216, .f32⟩
  | .hbm, ⟨28, _⟩ => ⟨S4x2048x3x3x8x128, .f32⟩
  | .hbm, ⟨29, _⟩ => ⟨S4x2048x1x3x8x128, .f32⟩
  | .hbm, ⟨30, _⟩ => ⟨S4x2048x3x8x128, .f32⟩
  | .hbm, ⟨31, _⟩ => ⟨S4x2048x1x1x16, .f32⟩
  | .hbm, ⟨32, _⟩ => ⟨S4x2048x1x1x16, .f32⟩
  | .hbm, ⟨33, _⟩ => ⟨S4x2048x3x8x32, .f32⟩
  | .hbm, ⟨34, _⟩ => ⟨S4x2048x3x8x16, .f32⟩
  | .hbm, ⟨35, _⟩ => ⟨S4x2048x3x8x16, .f32⟩
  | .hbm, ⟨36, _⟩ => ⟨S4x2048x3x8x16, .f32⟩
  | .hbm, ⟨37, _⟩ => ⟨S4x2048x3x8x16, .f32⟩
  | .hbm, ⟨38, _⟩ => ⟨S4x2048x3x8x16, .f32⟩
  | .hbm, ⟨39, _⟩ => ⟨S4x2048x3x8x16, .f32⟩
  | .hbm, ⟨40, _⟩ => ⟨S4x2048x3x8x16, .f32⟩
  | .hbm, ⟨41, _⟩ => ⟨S4x2048x3x8x16, .f32⟩
  | .hbm, ⟨42, _⟩ => ⟨S4x2048x3x8x16, .f32⟩
  | .hbm, ⟨43, _⟩ => ⟨S4x2048x3x8x16, .f32⟩
  | .hbm, ⟨44, _⟩ => ⟨S4x2048x3x8x16, .f32⟩
  | .hbm, ⟨45, _⟩ => ⟨S4x2048x3x8x16, .f32⟩
  | .hbm, ⟨46, _⟩ => ⟨S4x2048x3x8x32, .f32⟩
  | .hbm, ⟨47, _⟩ => ⟨S4x2048x3x8x96, .f32⟩
  | .hbm, ⟨48, _⟩ => ⟨S4x2048x3x8x128, .f32⟩
  | .hbm, ⟨49, _⟩ => ⟨S_, .f32⟩
  | .hbm, ⟨50, _⟩ => ⟨S4x2048x3x8x128, .f32⟩
  | .hbm, ⟨51, _⟩ => ⟨S4x2048x3x8x128, .f32⟩
  | .hbm, ⟨52, _⟩ => ⟨S4x2048x1x3x8x128, .f32⟩
  | .hbm, ⟨53, _⟩ => ⟨S4x2048x3x8x128, .f32⟩
  | .hbm, ⟨54, _⟩ => ⟨S4x2048x1x1x16, .f32⟩
  | .hbm, ⟨55, _⟩ => ⟨S4x2048x1x1x16, .f32⟩
  | .hbm, ⟨56, _⟩ => ⟨S4x2048x3x8x32, .f32⟩
  | .hbm, ⟨57, _⟩ => ⟨S4x2048x3x8x16, .f32⟩
  | .hbm, ⟨58, _⟩ => ⟨S4x2048x3x8x16, .f32⟩
  | .hbm, ⟨59, _⟩ => ⟨S4x2048x3x8x16, .f32⟩
  | .hbm, ⟨60, _⟩ => ⟨S4x2048x3x8x16, .f32⟩
  | .hbm, ⟨61, _⟩ => ⟨S4x2048x3x8x16, .f32⟩
  | .hbm, ⟨62, _⟩ => ⟨S4x2048x3x8x16, .f32⟩
  | .hbm, ⟨63, _⟩ => ⟨S4x2048x3x8x16, .f32⟩
  | .hbm, ⟨64, _⟩ => ⟨S4x2048x3x8x16, .f32⟩
  | .hbm, ⟨65, _⟩ => ⟨S4x2048x3x8x16, .f32⟩
  | .hbm, ⟨66, _⟩ => ⟨S4x2048x3x8x16, .f32⟩
  | .hbm, ⟨67, _⟩ => ⟨S4x2048x3x8x16, .f32⟩
  | .hbm, ⟨68, _⟩ => ⟨S4x2048x3x8x16, .f32⟩
  | .hbm, ⟨69, _⟩ => ⟨S4x2048x3x8x32, .f32⟩
  | .hbm, ⟨70, _⟩ => ⟨S4x2048x3x8x96, .f32⟩
  | .hbm, ⟨71, _⟩ => ⟨S4x2048x3x8x128, .f32⟩
  | .hbm, ⟨72, _⟩ => ⟨S4x2048x1x3x8x128, .f32⟩
  | .hbm, ⟨73, _⟩ => ⟨S4x2048x3x8x128, .f32⟩
  | .hbm, ⟨74, _⟩ => ⟨S4x2048x1x8x128, .f32⟩
  | .hbm, ⟨75, _⟩ => ⟨S4x2048x8x128, .f32⟩
  | .hbm, ⟨76, _⟩ => ⟨S4x2048x1x8x128, .f32⟩
  | .hbm, ⟨77, _⟩ => ⟨S4x2048x8x128, .f32⟩
  | .hbm, ⟨78, _⟩ => ⟨S4x2048x1x8x128, .f32⟩
  | .hbm, ⟨79, _⟩ => ⟨S4x2048x8x128, .f32⟩
  | .hbm, ⟨80, _⟩ => ⟨S_, .f32⟩
  | .hbm, ⟨81, _⟩ => ⟨S_, .f32⟩
  | .hbm, ⟨82, _⟩ => ⟨S4x2048x8x128, .f32⟩
  | .hbm, ⟨83, _⟩ => ⟨S4x2048x8x128, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x3072, .f32⟩
  | .hbm, ⟨88, _⟩ => ⟨S8192x3072, .bf16⟩
  | .hbm, ⟨89, _⟩ => ⟨S512x16x3072, .bf16⟩
  | .hbm, ⟨90, _⟩ => ⟨S16x512x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_cst_4 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩

abbrev nD : Nat := 1
abbrev τ : Topo := Topo.v7x

variable {F : FTy → Type} [FloatOps F]
-- ==== Norm.lean ====
abbrev S8192x2048 : Shape := ⟨2, ![8192, 2048]⟩
abbrev S4x2048 : Shape := ⟨2, ![4, 2048]⟩
abbrev S4x1x2048 : Shape := ⟨3, ![4, 1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S1x2048 : Shape := ⟨2, ![1, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x1x2048, .f32⟩
  | .hbm, ⟨3, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S1x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Comb0.lean ====
abbrev S8192x2048 : Shape := ⟨2, ![8192, 2048]⟩
abbrev S16512x2048 : Shape := ⟨2, ![16512, 2048]⟩
abbrev S8192x128 : Shape := ⟨2, ![8192, 128]⟩
abbrev S4x2048 : Shape := ⟨2, ![4, 2048]⟩
abbrev S4x1x2048 : Shape := ⟨3, ![4, 1, 2048]⟩
abbrev S256x2048 : Shape := ⟨2, ![256, 2048]⟩
abbrev S256x128 : Shape := ⟨2, ![256, 128]⟩
abbrev S1x1x2048 : Shape := ⟨3, ![1, 1, 2048]⟩
abbrev S256x1 : Shape := ⟨2, ![256, 1]⟩
abbrev S256 : Shape := ⟨1, ![256]⟩
abbrev S1x2048 : Shape := ⟨2, ![1, 2048]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S16512x2048, .f32⟩
  | .hbm, ⟨2, _⟩ => ⟨S8192x128, .f32⟩
  | .hbm, ⟨3, _⟩ => ⟨S4x2048, .f32⟩
  | .hbm, ⟨4, _⟩ => ⟨S4x1x2048, .f32⟩
  | .hbm, ⟨5, _⟩ => ⟨S8192x2048, .f32⟩
  | .hbm, ⟨6, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x128, .f32⟩
  | .local _ .vmem, ⟨7, _⟩ => ⟨S256x128, .f32⟩
  | .local _ .vmem, ⟨8, _⟩ => ⟨S1x1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Comb0RefIdeal.lean ====
abbrev S8192x2048 : Shape := ⟨2, ![8192, 2048]⟩
abbrev S16512x2048 : Shape := ⟨2, ![16512, 2048]⟩
abbrev S8192x128 : Shape := ⟨2, ![8192, 128]⟩
abbrev S4x2048 : Shape := ⟨2, ![4, 2048]⟩
abbrev S8192x2 : Shape := ⟨2, ![8192, 2]⟩
abbrev S8192x2x1 : Shape := ⟨3, ![8192, 2, 1]⟩
abbrev S16384x2048 : Shape := ⟨2, ![16384, 2048]⟩
abbrev S2x8192x2048 : Shape := ⟨3, ![2, 8192, 2048]⟩
abbrev S8192x2x2048 : Shape := ⟨3, ![8192, 2, 2048]⟩
abbrev S_ : Shape := ⟨0, ![]⟩
abbrev S1x2048 : Shape := ⟨2, ![1, 2048]⟩
abbrev S2048 : Shape := ⟨1, ![2048]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16512x2048, .f32⟩
  | .hbm, ⟨2, _⟩ => ⟨S8192x128, .f32⟩
  | .hbm, ⟨3, _⟩ => ⟨S4x2048, .f32⟩
  | .hbm, ⟨4, _⟩ => ⟨S8192x2, .f32⟩
  | .hbm, ⟨5, _⟩ => ⟨S8192x2x1, .f32⟩
  | .hbm, ⟨6, _⟩ => ⟨S16384x2048, .f32⟩
  | .hbm, ⟨7, _⟩ => ⟨S2x8192x2048, .f32⟩
  | .hbm, ⟨8, _⟩ => ⟨S8192x2x2048, .f32⟩
  | .hbm, ⟨9, _⟩ => ⟨S8192x2x2048, .f32⟩
  | .hbm, ⟨10, _⟩ => ⟨S8192x2x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S1x2048, .f32⟩
  | .hbm, ⟨15, _⟩ => ⟨S2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Comb1.lean ====
abbrev S8192x2048 : Shape := ⟨2, ![8192, 2048]⟩
abbrev S16512x2048 : Shape := ⟨2, ![16512, 2048]⟩
abbrev S8192x128 : Shape := ⟨2, ![8192, 128]⟩
abbrev S4x2048 : Shape := ⟨2, ![4, 2048]⟩
abbrev S4x1x2048 : Shape := ⟨3, ![4, 1, 2048]⟩
abbrev S256x2048 : Shape := ⟨2, ![256, 2048]⟩
abbrev S256x128 : Shape := ⟨2, ![256, 128]⟩
abbrev S1x1x2048 : Shape := ⟨3, ![1, 1, 2048]⟩
abbrev S256x1 : Shape := ⟨2, ![256, 1]⟩
abbrev S256 : Shape := ⟨1, ![256]⟩
abbrev S1x2048 : Shape := ⟨2, ![1, 2048]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S16512x2048, .f32⟩
  | .hbm, ⟨2, _⟩ => ⟨S8192x128, .f32⟩
  | .hbm, ⟨3, _⟩ => ⟨S4x2048, .f32⟩
  | .hbm, ⟨4, _⟩ => ⟨S4x1x2048, .f32⟩
  | .hbm, ⟨5, _⟩ => ⟨S8192x2048, .f32⟩
  | .hbm, ⟨6, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x128, .f32⟩
  | .local _ .vmem, ⟨7, _⟩ => ⟨S256x128, .f32⟩
  | .local _ .vmem, ⟨8, _⟩ => ⟨S1x1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Comb1RefIdeal.lean ====
abbrev S8192x2048 : Shape := ⟨2, ![8192, 2048]⟩
abbrev S16512x2048 : Shape := ⟨2, ![16512, 2048]⟩
abbrev S8192x128 : Shape := ⟨2, ![8192, 128]⟩
abbrev S4x2048 : Shape := ⟨2, ![4, 2048]⟩
abbrev S8192x2 : Shape := ⟨2, ![8192, 2]⟩
abbrev S8192x2x1 : Shape := ⟨3, ![8192, 2, 1]⟩
abbrev S16384x2048 : Shape := ⟨2, ![16384, 2048]⟩
abbrev S2x8192x2048 : Shape := ⟨3, ![2, 8192, 2048]⟩
abbrev S8192x2x2048 : Shape := ⟨3, ![8192, 2, 2048]⟩
abbrev S_ : Shape := ⟨0, ![]⟩
abbrev S1x2048 : Shape := ⟨2, ![1, 2048]⟩
abbrev S2048 : Shape := ⟨1, ![2048]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16512x2048, .f32⟩
  | .hbm, ⟨2, _⟩ => ⟨S8192x128, .f32⟩
  | .hbm, ⟨3, _⟩ => ⟨S4x2048, .f32⟩
  | .hbm, ⟨4, _⟩ => ⟨S8192x2, .f32⟩
  | .hbm, ⟨5, _⟩ => ⟨S8192x2x1, .f32⟩
  | .hbm, ⟨6, _⟩ => ⟨S16384x2048, .f32⟩
  | .hbm, ⟨7, _⟩ => ⟨S2x8192x2048, .f32⟩
  | .hbm, ⟨8, _⟩ => ⟨S8192x2x2048, .f32⟩
  | .hbm, ⟨9, _⟩ => ⟨S8192x2x2048, .f32⟩
  | .hbm, ⟨10, _⟩ => ⟨S8192x2x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S1x2048, .f32⟩
  | .hbm, ⟨15, _⟩ => ⟨S2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Comb2.lean ====
abbrev S8192x2048 : Shape := ⟨2, ![8192, 2048]⟩
abbrev S16512x2048 : Shape := ⟨2, ![16512, 2048]⟩
abbrev S8192x128 : Shape := ⟨2, ![8192, 128]⟩
abbrev S4x2048 : Shape := ⟨2, ![4, 2048]⟩
abbrev S4x1x2048 : Shape := ⟨3, ![4, 1, 2048]⟩
abbrev S256x2048 : Shape := ⟨2, ![256, 2048]⟩
abbrev S256x128 : Shape := ⟨2, ![256, 128]⟩
abbrev S1x1x2048 : Shape := ⟨3, ![1, 1, 2048]⟩
abbrev S256x1 : Shape := ⟨2, ![256, 1]⟩
abbrev S256 : Shape := ⟨1, ![256]⟩
abbrev S1x2048 : Shape := ⟨2, ![1, 2048]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S16512x2048, .f32⟩
  | .hbm, ⟨2, _⟩ => ⟨S8192x128, .f32⟩
  | .hbm, ⟨3, _⟩ => ⟨S4x2048, .f32⟩
  | .hbm, ⟨4, _⟩ => ⟨S4x1x2048, .f32⟩
  | .hbm, ⟨5, _⟩ => ⟨S8192x2048, .f32⟩
  | .hbm, ⟨6, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x128, .f32⟩
  | .local _ .vmem, ⟨7, _⟩ => ⟨S256x128, .f32⟩
  | .local _ .vmem, ⟨8, _⟩ => ⟨S1x1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Comb2RefIdeal.lean ====
abbrev S8192x2048 : Shape := ⟨2, ![8192, 2048]⟩
abbrev S16512x2048 : Shape := ⟨2, ![16512, 2048]⟩
abbrev S8192x128 : Shape := ⟨2, ![8192, 128]⟩
abbrev S4x2048 : Shape := ⟨2, ![4, 2048]⟩
abbrev S8192x2 : Shape := ⟨2, ![8192, 2]⟩
abbrev S8192x2x1 : Shape := ⟨3, ![8192, 2, 1]⟩
abbrev S16384x2048 : Shape := ⟨2, ![16384, 2048]⟩
abbrev S2x8192x2048 : Shape := ⟨3, ![2, 8192, 2048]⟩
abbrev S8192x2x2048 : Shape := ⟨3, ![8192, 2, 2048]⟩
abbrev S_ : Shape := ⟨0, ![]⟩
abbrev S1x2048 : Shape := ⟨2, ![1, 2048]⟩
abbrev S2048 : Shape := ⟨1, ![2048]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16512x2048, .f32⟩
  | .hbm, ⟨2, _⟩ => ⟨S8192x128, .f32⟩
  | .hbm, ⟨3, _⟩ => ⟨S4x2048, .f32⟩
  | .hbm, ⟨4, _⟩ => ⟨S8192x2, .f32⟩
  | .hbm, ⟨5, _⟩ => ⟨S8192x2x1, .f32⟩
  | .hbm, ⟨6, _⟩ => ⟨S16384x2048, .f32⟩
  | .hbm, ⟨7, _⟩ => ⟨S2x8192x2048, .f32⟩
  | .hbm, ⟨8, _⟩ => ⟨S8192x2x2048, .f32⟩
  | .hbm, ⟨9, _⟩ => ⟨S8192x2x2048, .f32⟩
  | .hbm, ⟨10, _⟩ => ⟨S8192x2x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S1x2048, .f32⟩
  | .hbm, ⟨15, _⟩ => ⟨S2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Comb3.lean ====
abbrev S8192x2048 : Shape := ⟨2, ![8192, 2048]⟩
abbrev S16512x2048 : Shape := ⟨2, ![16512, 2048]⟩
abbrev S8192x128 : Shape := ⟨2, ![8192, 128]⟩
abbrev S2048 : Shape := ⟨1, ![2048]⟩
abbrev S1x2048 : Shape := ⟨2, ![1, 2048]⟩
abbrev S1x1x2048 : Shape := ⟨3, ![1, 1, 2048]⟩
abbrev S256x2048 : Shape := ⟨2, ![256, 2048]⟩
abbrev S256x128 : Shape := ⟨2, ![256, 128]⟩
abbrev S256x1 : Shape := ⟨2, ![256, 1]⟩
abbrev S256 : Shape := ⟨1, ![256]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S16512x2048, .f32⟩
  | .hbm, ⟨2, _⟩ => ⟨S8192x128, .f32⟩
  | .hbm, ⟨3, _⟩ => ⟨S2048, .f32⟩
  | .hbm, ⟨4, _⟩ => ⟨S1x2048, .f32⟩
  | .hbm, ⟨5, _⟩ => ⟨S1x1x2048, .f32⟩
  | .hbm, ⟨6, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x128, .f32⟩
  | .local _ .vmem, ⟨7, _⟩ => ⟨S256x128, .f32⟩
  | .local _ .vmem, ⟨8, _⟩ => ⟨S1x1x2048, .f32⟩
  | .local _ .vmem, ⟨9, _⟩ => ⟨S256x2048, .f32⟩
  | .local _ .vmem, ⟨10, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Comb3RefIdeal.lean ====
abbrev S8192x2048 : Shape := ⟨2, ![8192, 2048]⟩
abbrev S16512x2048 : Shape := ⟨2, ![16512, 2048]⟩
abbrev S8192x128 : Shape := ⟨2, ![8192, 128]⟩
abbrev S2048 : Shape := ⟨1, ![2048]⟩
abbrev S8192x2 : Shape := ⟨2, ![8192, 2]⟩
abbrev S8192x2x1 : Shape := ⟨3, ![8192, 2, 1]⟩
abbrev S16384x2048 : Shape := ⟨2, ![16384, 2048]⟩
abbrev S2x8192x2048 : Shape := ⟨3, ![2, 8192, 2048]⟩
abbrev S8192x2x2048 : Shape := ⟨3, ![8192, 2, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16512x2048, .f32⟩
  | .hbm, ⟨2, _⟩ => ⟨S8192x128, .f32⟩
  | .hbm, ⟨3, _⟩ => ⟨S2048, .f32⟩
  | .hbm, ⟨4, _⟩ => ⟨S8192x2, .f32⟩
  | .hbm, ⟨5, _⟩ => ⟨S8192x2x1, .f32⟩
  | .hbm, ⟨6, _⟩ => ⟨S16384x2048, .f32⟩
  | .hbm, ⟨7, _⟩ => ⟨S2x8192x2048, .f32⟩
  | .hbm, ⟨8, _⟩ => ⟨S8192x2x2048, .f32⟩
  | .hbm, ⟨9, _⟩ => ⟨S8192x2x2048, .f32⟩
  | .hbm, ⟨10, _⟩ => ⟨S8192x2x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Merge.lean ====
abbrev S8192x1024 : Shape := ⟨2, ![8192, 1024]⟩
abbrev S8192x128 : Shape := ⟨2, ![8192, 128]⟩
abbrev S256x1024 : Shape := ⟨2, ![256, 1024]⟩
abbrev S256x128 : Shape := ⟨2, ![256, 128]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x1024, .bf16⟩
  | .local _ .vmem, ⟨13, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeRefIdeal.lean ====
abbrev S8192x1024 : Shape := ⟨2, ![8192, 1024]⟩
abbrev S8192x128 : Shape := ⟨2, ![8192, 128]⟩
abbrev S8192x8x128 : Shape := ⟨3, ![8192, 8, 128]⟩
abbrev S8192x8 : Shape := ⟨2, ![8192, 8]⟩
abbrev S1x8192x8 : Shape := ⟨3, ![1, 8192, 8]⟩
abbrev S3x8192x8 : Shape := ⟨3, ![3, 8192, 8]⟩
abbrev S_ : Shape := ⟨0, ![]⟩
abbrev S1x8192x8x128 : Shape := ⟨4, ![1, 8192, 8, 128]⟩
abbrev S3x8192x8x128 : Shape := ⟨4, ![3, 8192, 8, 128]⟩
abbrev S3x8192x8x1 : Shape := ⟨4, ![3, 8192, 8, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x8x128, .f32⟩
  | .hbm, ⟨7, _⟩ => ⟨S8192x8x128, .f32⟩
  | .hbm, ⟨8, _⟩ => ⟨S8192x8x128, .f32⟩
  | .hbm, ⟨9, _⟩ => ⟨S8192x8, .f32⟩
  | .hbm, ⟨10, _⟩ => ⟨S8192x8, .f32⟩
  | .hbm, ⟨11, _⟩ => ⟨S8192x8, .f32⟩
  | .hbm, ⟨12, _⟩ => ⟨S1x8192x8, .f32⟩
  | .hbm, ⟨13, _⟩ => ⟨S1x8192x8, .f32⟩
  | .hbm, ⟨14, _⟩ => ⟨S1x8192x8, .f32⟩
  | .hbm, ⟨15, _⟩ => ⟨S3x8192x8, .f32⟩
  | .hbm, ⟨16, _⟩ => ⟨S_, .f32⟩
  | .hbm, ⟨17, _⟩ => ⟨S8192x8, .f32⟩
  | .hbm, ⟨18, _⟩ => ⟨S_, .f32⟩
  | .hbm, ⟨19, _⟩ => ⟨S8192x8, .f32⟩
  | .hbm, ⟨20, _⟩ => ⟨S8192x8, .f32⟩
  | .hbm, ⟨21, _⟩ => ⟨S1x8192x8, .f32⟩
  | .hbm, ⟨22, _⟩ => ⟨S3x8192x8, .f32⟩
  | .hbm, ⟨23, _⟩ => ⟨S3x8192x8, .f32⟩
  | .hbm, ⟨24, _⟩ => ⟨S3x8192x8, .f32⟩
  | .hbm, ⟨25, _⟩ => ⟨S_, .f32⟩
  | .hbm, ⟨26, _⟩ => ⟨S8192x8, .f32⟩
  | .hbm, ⟨27, _⟩ => ⟨S1x8192x8, .f32⟩
  | .hbm, ⟨28, _⟩ => ⟨S3x8192x8, .f32⟩
  | .hbm, ⟨29, _⟩ => ⟨S3x8192x8, .f32⟩
  | .hbm, ⟨30, _⟩ => ⟨S1x8192x8x128, .f32⟩
  | .hbm, ⟨31, _⟩ => ⟨S1x8192x8x128, .f32⟩
  | .hbm, ⟨32, _⟩ => ⟨S1x8192x8x128, .f32⟩
  | .hbm, ⟨33, _⟩ => ⟨S3x8192x8x128, .f32⟩
  | .hbm, ⟨34, _⟩ => ⟨S3x8192x8x1, .f32⟩
  | .hbm, ⟨35, _⟩ => ⟨S3x8192x8x128, .f32⟩
  | .hbm, ⟨36, _⟩ => ⟨S3x8192x8x128, .f32⟩
  | .hbm, ⟨37, _⟩ => ⟨S_, .f32⟩
  | .hbm, ⟨38, _⟩ => ⟨S8192x8x128, .f32⟩
  | .hbm, ⟨39, _⟩ => ⟨S8192x1024, .f32⟩
  | .hbm, ⟨40, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== GrpC.lean ====
abbrev S4x2048x8x128 : Shape := ⟨4, ![4, 2048, 8, 128]⟩
abbrev S_ : Shape := ⟨0, ![]⟩
abbrev S8192x1024 : Shape := ⟨2, ![8192, 1024]⟩
abbrev S8192x3072 : Shape := ⟨2, ![8192, 3072]⟩
abbrev S512x16x3072 : Shape := ⟨3, ![512, 16, 3072]⟩
abbrev S16x512x3072 : Shape := ⟨3, ![16, 512, 3072]⟩
abbrev S512x16384 : Shape := ⟨2, ![512, 16384]⟩
abbrev S512x2048 : Shape := ⟨2, ![512, 2048]⟩
abbrev S1x128x1024 : Shape := ⟨3, ![1, 128, 1024]⟩
abbrev S128x1024 : Shape := ⟨2, ![128, 1024]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 16
  | .vmem => 10
  | .smem => 0
  | _ => 0

abbrev bufTy : (tb : Table) → Fin (tcTables nBuf tb) → BufTy
  | .hbm, ⟨0, _⟩ => ⟨S4x2048x8x128, .f32⟩
  | .hbm, ⟨1, _⟩ => ⟨S4x2048x8x128, .f32⟩
  | .hbm, ⟨2, _⟩ => ⟨S4x2048x8x128, .f32⟩
  | .hbm, ⟨3, _⟩ => ⟨S_, .f32⟩
  | .hbm, ⟨4, _⟩ => ⟨S_, .f32⟩
  | .hbm, ⟨5, _⟩ => ⟨S4x2048x8x128, .f32⟩
  | .hbm, ⟨6, _⟩ => ⟨S4x2048x8x128, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x3072, .f32⟩
  | .hbm, ⟨11, _⟩ => ⟨S8192x3072, .bf16⟩
  | .hbm, ⟨12, _⟩ => ⟨S512x16x3072, .bf16⟩
  | .hbm, ⟨13, _⟩ => ⟨S16x512x3072, .bf16⟩
  | .hbm, ⟨14, _⟩ => ⟨S512x16384, .f32⟩
  | .hbm, ⟨15, _⟩ => ⟨S512x2048, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S128x1024, .f32⟩
  | .local _ .vmem, ⟨7, _⟩ => ⟨S128x1024, .f32⟩
  | .local _ .vmem, ⟨8, _⟩ => ⟨S128x128, .f32⟩
  | .local _ .vmem, ⟨9, _⟩ => ⟨S128x128, .f32⟩
  | _, _ => ⟨S4x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 1], ![false, false, false]⟩

def k0_mult1 (i : grid0.Coords) : BitVec 32 :=
  let c0_i32_1 : BitVec 32 := 0#32
  let c0_i32_0 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v1 : BitVec 32 := Scalar.subi v0 c0_i32
  let v2 : BitVec 32 := Scalar.maxsi c0_i32_0 v1
  let v3 : BitVec 32 := Scalar.minsi c0_i32_1 v2
  v3
def k0_off1 (i : grid0.Coords) : Fin 3 → Nat :=
  let c0_4 : Index := 0#32
  let c0_i32_1 : BitVec 32 := 0#32
  let c0_i32_0 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v1 : BitVec 32 := Scalar.subi v0 c0_i32
  let v2 : BitVec 32 := Scalar.maxsi c0_i32_0 v1
  let v3 : BitVec 32 := Scalar.minsi c0_i32_1 v2
  let v4 : BitVec 32 := v3
  let v19 : Index := Scalar.indexCast v4
  let c0_5 : Index := 0#32
  ![0, v19.toNat, 0]
def k0_off2 (i : grid0.Coords) : Fin 3 → Nat :=
  let c0_20 : Index := 0#32
  let c0_i32_1 : BitVec 32 := 0#32
  let c0_i32_0 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v1 : BitVec 32 := Scalar.subi v0 c0_i32
  let v2 : BitVec 32 := Scalar.maxsi c0_i32_0 v1
  let v3 : BitVec 32 := Scalar.minsi c0_i32_1 v2
  let v4 : BitVec 32 := v3
  let v53 : Index := Scalar.indexCast v4
  let c128_21 : Index := 128#32
  ![0, v53.toNat, 128]
def k0_off3 (i : grid0.Coords) : Fin 3 → Nat :=
  let c0_35 : Index := 0#32
  let c0_i32_1 : BitVec 32 := 0#32
  let c0_i32_0 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v1 : BitVec 32 := Scalar.subi v0 c0_i32
  let v2 : BitVec 32 := Scalar.maxsi c0_i32_0 v1
  let v3 : BitVec 32 := Scalar.minsi c0_i32_1 v2
  let v4 : BitVec 32 := v3
  let v87 : Index := Scalar.indexCast v4
  let c256_36 : Index := 256#32
  ![0, v87.toNat, 256]
def k0_off4 (i : grid0.Coords) : Fin 3 → Nat :=
  let c0_50 : Index := 0#32
  let c0_i32_1 : BitVec 32 := 0#32
  let c0_i32_0 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v1 : BitVec 32 := Scalar.subi v0 c0_i32
  let v2 : BitVec 32 := Scalar.maxsi c0_i32_0 v1
  let v3 : BitVec 32 := Scalar.minsi c0_i32_1 v2
  let v4 : BitVec 32 := v3
  let v121 : Index := Scalar.indexCast v4
  let c384_51 : Index := 384#32
  ![0, v121.toNat, 384]
def k0_off5 (i : grid0.Coords) : Fin 3 → Nat :=
  let c0_65 : Index := 0#32
  let c0_i32_1 : BitVec 32 := 0#32
  let c0_i32_0 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v1 : BitVec 32 := Scalar.subi v0 c0_i32
  let v2 : BitVec 32 := Scalar.maxsi c0_i32_0 v1
  let v3 : BitVec 32 := Scalar.minsi c0_i32_1 v2
  let v4 : BitVec 32 := v3
  let v155 : Index := Scalar.indexCast v4
  let c512_66 : Index := 512#32
  ![0, v155.toNat, 512]
def k0_off6 (i : grid0.Coords) : Fin 3 → Nat :=
  let c0_80 : Index := 0#32
  let c0_i32_1 : BitVec 32 := 0#32
  let c0_i32_0 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v1 : BitVec 32 := Scalar.subi v0 c0_i32
  let v2 : BitVec 32 := Scalar.maxsi c0_i32_0 v1
  let v3 : BitVec 32 := Scalar.minsi c0_i32_1 v2
  let v4 : BitVec 32 := v3
  let v189 : Index := Scalar.indexCast v4
  let c640_81 : Index := 640#32
  ![0, v189.toNat, 640]
def k0_off7 (i : grid0.Coords) : Fin 3 → Nat :=
  let c0_95 : Index := 0#32
  let c0_i32_1 : BitVec 32 := 0#32
  let c0_i32_0 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v1 : BitVec 32 := Scalar.subi v0 c0_i32
  let v2 : BitVec 32 := Scalar.maxsi c0_i32_0 v1
  let v3 : BitVec 32 := Scalar.minsi c0_i32_1 v2
  let v4 : BitVec 32 := v3
  let v223 : Index := Scalar.indexCast v4
  let c768_96 : Index := 768#32
  ![0, v223.toNat, 768]
def k0_off8 (i : grid0.Coords) : Fin 3 → Nat :=
  let c0_110 : Index := 0#32
  let c0_i32_1 : BitVec 32 := 0#32
  let c0_i32_0 : BitVec 32 := 0#32
  let arg2 : BitVec 32 := BitVec.ofNat 32 (i 2).val
  let c128_i32 : BitVec 32 := 128#32
  let v0 : BitVec 32 := Scalar.muli arg2 c128_i32
  let c0_i32 : BitVec 32 := 0#32
  let v1 : BitVec 32 := Scalar.subi v0 c0_i32
  let v2 : BitVec 32 := Scalar.maxsi c0_i32_0 v1
  let v3 : BitVec 32 := Scalar.minsi c0_i32_1 v2
  let v4 : BitVec 32 := v3
  let v257 : Index := Scalar.indexCast v4
  let c896_111 : Index := 896#32
  ![0, v257.toNat, 896]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg1.toNat, arg0.toNat, c1_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg1.toNat, arg0.toNat, c2_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== GrpCIdeal.lean ====
variable {F : FTy → Type} [FloatOps F] [Named F]
def κ : String → Option EReal := fun
  | "ln2" => some ((Real.log 2 : ℝ) : EReal)
  | "mask" => some ⊥
  | _ => none
-- ==== GrpCRefIdeal.lean ====
abbrev S4x2048x8x128 : Shape := ⟨4, ![4, 2048, 8, 128]⟩
abbrev S2048 : Shape := ⟨1, ![2048]⟩
abbrev S2048x1 : Shape := ⟨2, ![2048, 1]⟩
abbrev S129 : Shape := ⟨1, ![129]⟩
abbrev S_ : Shape := ⟨0, ![]⟩
abbrev S1x129 : Shape := ⟨2, ![1, 129]⟩
abbrev S2048x129 : Shape := ⟨2, ![2048, 129]⟩
abbrev S2048x129x1 : Shape := ⟨3, ![2048, 129, 1]⟩
abbrev S4x2048x129x8x128 : Shape := ⟨5, ![4, 2048, 129, 8, 128]⟩
abbrev S4x2048x8x129 : Shape := ⟨4, ![4, 2048, 8, 129]⟩
abbrev S1x2048x1x129 : Shape := ⟨4, ![1, 2048, 1, 129]⟩
abbrev S4x2048x8 : Shape := ⟨3, ![4, 2048, 8]⟩
abbrev S4x2048x8x1 : Shape := ⟨4, ![4, 2048, 8, 1]⟩
abbrev S4x2048x120 : Shape := ⟨3, ![4, 2048, 120]⟩
abbrev S4x2048x128 : Shape := ⟨3, ![4, 2048, 128]⟩
abbrev S512x16384 : Shape := ⟨2, ![512, 16384]⟩
abbrev S512x2048 : Shape := ⟨2, ![512, 2048]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x8x128, .f32⟩
  | .hbm, ⟨1, _⟩ => ⟨S4x2048x8x128, .f32⟩
  | .hbm, ⟨2, _⟩ => ⟨S4x2048x8x128, .f32⟩
  | .hbm, ⟨3, _⟩ => ⟨S2048, .i32⟩
  | .hbm, ⟨4, _⟩ => ⟨S2048x1, .i32⟩
  | .hbm, ⟨5, _⟩ => ⟨S129, .i32⟩
  | .hbm, ⟨6, _⟩ => ⟨S_, .i32⟩
  | .hbm, ⟨7, _⟩ => ⟨S129, .i32⟩
  | .hbm, ⟨8, _⟩ => ⟨S129, .i32⟩
  | .hbm, ⟨9, _⟩ => ⟨S1x129, .i32⟩
  | .hbm, ⟨10, _⟩ => ⟨S_, .i32⟩
  | .hbm, ⟨11, _⟩ => ⟨S1x129, .i32⟩
  | .hbm, ⟨12, _⟩ => ⟨S1x129, .i32⟩
  | .hbm, ⟨13, _⟩ => ⟨S2048x129, .i32⟩
  | .hbm, ⟨14, _⟩ => ⟨S2048x129, .i32⟩
  | .hbm, ⟨15, _⟩ => ⟨S2048x129, .i32⟩
  | .hbm, ⟨16, _⟩ => ⟨S_, .i32⟩
  | .hbm, ⟨17, _⟩ => ⟨S2048x129, .i32⟩
  | .hbm, ⟨18, _⟩ => ⟨S2048x129, .i1⟩
  | .hbm, ⟨19, _⟩ => ⟨S_, .i32⟩
  | .hbm, ⟨20, _⟩ => ⟨S2048x129, .i32⟩
  | .hbm, ⟨21, _⟩ => ⟨S2048x129, .i1⟩
  | .hbm, ⟨22, _⟩ => ⟨S2048x129, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S2048x129, .i32⟩
  | .hbm, ⟨27, _⟩ => ⟨S2048x129, .i32⟩
  | .hbm, ⟨28, _⟩ => ⟨S_, .i32⟩
  | .hbm, ⟨29, _⟩ => ⟨S2048x129, .i32⟩
  | .hbm, ⟨30, _⟩ => ⟨S2048x129, .i32⟩
  | .hbm, ⟨31, _⟩ => ⟨S2048x129x1, .i32⟩
  | .hbm, ⟨32, _⟩ => ⟨S4x2048x129x8x128, .f32⟩
  | .hbm, ⟨33, _⟩ => ⟨S2048x129x1, .i32⟩
  | .hbm, ⟨34, _⟩ => ⟨S4x2048x129x8x128, .f32⟩
  | .hbm, ⟨35, _⟩ => ⟨S4x2048x8x129, .f32⟩
  | .hbm, ⟨36, _⟩ => ⟨S1x2048x1x129, .i1⟩
  | .hbm, ⟨37, _⟩ => ⟨S_, .f32⟩
  | .hbm, ⟨38, _⟩ => ⟨S_, .f32⟩
  | .hbm, ⟨39, _⟩ => ⟨S4x2048x8x129, .i1⟩
  | .hbm, ⟨40, _⟩ => ⟨S4x2048x8x129, .f32⟩
  | .hbm, ⟨41, _⟩ => ⟨S4x2048x8x129, .f32⟩
  | .hbm, ⟨42, _⟩ => ⟨S_, .f32⟩
  | .hbm, ⟨43, _⟩ => ⟨S4x2048x8, .f32⟩
  | .hbm, ⟨44, _⟩ => ⟨S4x2048x8x1, .f32⟩
  | .hbm, ⟨45, _⟩ => ⟨S4x2048x8x129, .f32⟩
  | .hbm, ⟨46, _⟩ => ⟨S4x2048x8x129, .f32⟩
  | .hbm, ⟨47, _⟩ => ⟨S4x2048x8x129, .f32⟩
  | .hbm, ⟨48, _⟩ => ⟨S_, .f32⟩
  | .hbm, ⟨49, _⟩ => ⟨S4x2048x8, .f32⟩
  | .hbm, ⟨50, _⟩ => ⟨S4x2048x8, .f32⟩
  | .hbm, ⟨51, _⟩ => ⟨S4x2048x8, .f32⟩
  | .hbm, ⟨52, _⟩ => ⟨S4x2048x8x1, .f32⟩
  | .hbm, ⟨53, _⟩ => ⟨S4x2048x8x129, .f32⟩
  | .hbm, ⟨54, _⟩ => ⟨S4x2048x8x129, .f32⟩
  | .hbm, ⟨55, _⟩ => ⟨S4x2048x8x129, .f32⟩
  | .hbm, ⟨56, _⟩ => ⟨S4x2048x8x128, .f32⟩
  | .hbm, ⟨57, _⟩ => ⟨S_, .f32⟩
  | .hbm, ⟨58, _⟩ => ⟨S4x2048x120, .f32⟩
  | .hbm, ⟨59, _⟩ => ⟨S4x2048x128, .f32⟩
  | .hbm, ⟨60, _⟩ => ⟨S512x16384, .f32⟩
  | .hbm, ⟨61, _⟩ => ⟨S512x2048, .f32⟩
  | _, _ => ⟨S4x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_c_4 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v16 : Ref sig .tc := ⟨.hbm, 30, rfl⟩
abbrev main_call1_v0 : Ref sig .tc := ⟨.hbm, 31, rfl⟩
abbrev main_v17 : Ref sig .tc := ⟨.hbm, 32, rfl⟩
abbrev main_call2_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== Proof.AttPre.lean ====
module

public import proofs.«01_k».proof.Proof.Gen.Pre_finite
public import Idealize.ShloMosaic.Lib.Pointwise
public import Idealize.ShloMosaic.Lib.ReduceAll
public import Idealize.ShloMosaic.Lib.Affine

@[expose] public section

set_option maxRecDepth 16384

noncomputable section

/-! # What the precondition gives

Every entry of the queries, keys, values and lambda vectors is a real number. -/

namespace Cert.Att.Pre
open Idealize.ShloMosaic

theorem posInf : Ideal.ofBits .f32 0x7F800000#32 = (⊤ : EReal) := by
  simp [Ideal.ofBits, Ideal.ieee]

/-- An extended real whose magnitude is below infinity is a real. -/
theorem real_of_abs (x : EReal) (h : BitVec.ofBool (decide (max x (-x) < ⊤)) = 1#1) : ∃ r : ℝ, x = (r : EReal) := by
  induction x with
  | bot => simp at h
  | top => simp at h
  | coe r => exact ⟨r, rfl⟩

instance : Subsingleton Cert.Pre_finite.S_.Idx := ⟨fun a b => funext fun i => i.elim0⟩

variable (a0 a1 : FVec Ideal Cert.Pre_finite.S4x2048x8x2x128 .f32) (a2 : FVec Ideal Cert.Pre_finite.S4x2048x8x256 .f32)
  (a3 : FVec Ideal Cert.Pre_finite.S2x4x128 .f32) (a4 : FVec Ideal Cert.Pre_finite.S2x256 .f32)

/-- An array whose magnitudes are all below infinity holds reals. -/
theorem real_of_all {s t u : Shape} [Subsingleton t.Idx] {axes : List (Fin s.rank)} (x : FVec Ideal s .f32) (b : s.Idx → EReal)
    (hb : ∀ i, b i = ⊤) (init : u.Idx → BitVec 1) (h : s.ReducesTo axes t) (hu : 0 < u.numel) (j : t.Idx)
    (hx : Host.reduce IntOp.andi (cmpf (F := Ideal) (φ := .f32) .olt (Host.absf x) b) init h hu j = 1#1) (i : s.Idx) :
    ∃ r : ℝ, x i = (r : EReal) := by
  have := Host.reduce_andi_all _ _ h hu j hx i
  refine real_of_abs (x i) ?_
  rw [← hb i]
  exact this

theorem reals (h : Cert.Pre_finite.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ ∀ i, ∃ r : ℝ, a3 i = (r : EReal) := by
  have h0 := congrFun h ix0
  unfold Cert.Pre_finite.fn Cert.Pre_finite.fn_part1 at h0
  obtain ⟨h1, h3⟩ := IntOp.andi_eq_one.mp h0
  obtain ⟨h1, h2⟩ := IntOp.andi_eq_one.mp h1
  obtain ⟨h0, h1⟩ := IntOp.andi_eq_one.mp h1
  exact ⟨real_of_all a0 _ (fun _ => posInf) _ _ _ _ h0, real_of_all a1 _ (fun _ => posInf) _ _ _ _ h1,
    real_of_all a2 _ (fun _ => posInf) _ _ _ _ h2, real_of_all a3 _ (fun _ => posInf) _ _ _ _ h3⟩

end Cert.Att.Pre
-- ==== Proof.AttEntry.lean ====
module

public import proofs.«01_k».proof.Proof.Gen.KernelIdeal.Value
public import Idealize.ShloMosaic.Lib.Pointwise
public import Idealize.ShloMosaic.Lib.StableHlo.RunRead

@[expose] public section

set_option maxRecDepth 16384

noncomputable section

/-! # The arrays that the kernel reads, from the arguments -/

namespace Cert.Att
open Idealize.ShloMosaic Idealize.ShloMosaic.TcCoe Idealize.SL.Sem
open Cert.KernelIdeal Cert.KernelIdeal.Gen

variable (m : (ℓ : Loc nD τ sig) → Buf (Elt Ideal) ℓ) (c : Dev nD)

/-- The packed array's first 2048 columns: the queries over `log 2`. -/
theorem q_at (b : Fin 4) (t : Fin 2048) (h : Fin 8) (u : Fin 2) (x : Fin 128) (i : S8192x6144.Idx)
    (h0 : (i 0 : ℕ) = b * 2048 + t) (h1 : (i 1 : ℕ) = h * 256 + u * 128 + x) :
    (V m c main_v7 : FVec Ideal S8192x6144 .bf16) i
      = Ideal.div ((m ((c.tc : Thread nD τ).loc main_arg0) : FVec Ideal S4x2048x8x2x128 .f32) (ix5 b t h u x))
          (Ideal.log (Ideal.ofBits .f32 0x40000000#32)) := by
  obtain ⟨j, hj⟩ : ∃ j : Fin 2048, (j : ℕ) = h * 256 + u * 128 + x := ⟨⟨h * 256 + u * 128 + x, by omega⟩, rfl⟩
  obtain ⟨r, hr⟩ : ∃ r : Fin 8192, (r : ℕ) = b * 2048 + t := ⟨⟨b * 2048 + t, by omega⟩, rfl⟩
  have hi : i = ix2 r ⟨j, by omega⟩ := funext fun a => match a with
    | ⟨0, _⟩ => Fin.ext (h0.trans hr.symm) | ⟨1, _⟩ => Fin.ext (h1.trans hj.symm)
  rw [hi]
  unfold V
  unfold hostOps0
  after_reads_simp
  pointwise
  after_reads_simp
  pointwise
  refine congrArg₂ (fun u w => Ideal.div ((m ((c.tc : Thread nD τ).loc main_arg0) : FVec Ideal S4x2048x8x2x128 .f32) u) w) ?_ rfl
  refine funext fun a => match a with
    | ⟨0, _⟩ => Fin.ext ?_ | ⟨1, _⟩ => Fin.ext ?_ | ⟨2, _⟩ => Fin.ext ?_ | ⟨3, _⟩ => Fin.ext ?_ | ⟨4, _⟩ => Fin.ext ?_
  · show (r : ℕ) / 2048 = b; omega
  · show (r : ℕ) % 2048 = t; omega
  · show (j : ℕ) / 256 = h; omega
  · show (j : ℕ) / 128 % 2 = u; omega
  · show (j : ℕ) % 128 = x; omega

/-- The next 2048 columns: the keys. -/
theorem k_at (b : Fin 4) (t : Fin 2048) (h : Fin 8) (u : Fin 2) (x : Fin 128) (i : S8192x6144.Idx)
    (h0 : (i 0 : ℕ) = b * 2048 + t) (h1 : (i 1 : ℕ) = 2048 + (h * 256 + u * 128 + x)) :
    (V m c main_v7 : FVec Ideal S8192x6144 .bf16) i
      = (m ((c.tc : Thread nD τ).loc main_arg1) : FVec Ideal S4x2048x8x2x128 .f32) (ix5 b t h u x) := by
  obtain ⟨j, hj⟩ : ∃ j : Fin 2048, (j : ℕ) = h * 256 + u * 128 + x := ⟨⟨h * 256 + u * 128 + x, by omega⟩, rfl⟩
  obtain ⟨r, hr⟩ : ∃ r : Fin 8192, (r : ℕ) = b * 2048 + t := ⟨⟨b * 2048 + t, by omega⟩, rfl⟩
  have hi : i = ix2 r ⟨2048 + j, by omega⟩ := funext fun a => match a with
    | ⟨0, _⟩ => Fin.ext (h0.trans hr.symm) | ⟨1, _⟩ => Fin.ext (h1.trans (congrArg (2048 + ·) hj.symm))
  rw [hi]
  unfold V
  unfold hostOps0
  after_reads_simp
  pointwise
  after_reads_simp
  pointwise
  refine congrArg (m ((c.tc : Thread nD τ).loc main_arg1) : FVec Ideal S4x2048x8x2x128 .f32) ?_
  refine funext fun a => match a with
    | ⟨0, _⟩ => Fin.ext ?_ | ⟨1, _⟩ => Fin.ext ?_ | ⟨2, _⟩ => Fin.ext ?_ | ⟨3, _⟩ => Fin.ext ?_ | ⟨4, _⟩ => Fin.ext ?_
  · show (r : ℕ) / 2048 = b; omega
  · show (r : ℕ) % 2048 = t; omega
  · show (j : ℕ) / 256 = h; omega
  · show (j : ℕ) / 128 % 2 = u; omega
  · show (j : ℕ) % 128 = x; omega

/-- The last 2048 columns: the values. -/
theorem v_at (b : Fin 4) (t : Fin 2048) (h : Fin 8) (e : Fin 256) (i : S8192x6144.Idx)
    (h0 : (i 0 : ℕ) = b * 2048 + t) (h1 : (i 1 : ℕ) = 4096 + (h * 256 + e)) :
    (V m c main_v7 : FVec Ideal S8192x6144 .bf16) i
      = (m ((c.tc : Thread nD τ).loc main_arg2) : FVec Ideal S4x2048x8x256 .f32) (ix4 b t h e) := by
  obtain ⟨j, hj⟩ : ∃ j : Fin 2048, (j : ℕ) = h * 256 + e := ⟨⟨h * 256 + e, by omega⟩, rfl⟩
  obtain ⟨r, hr⟩ : ∃ r : Fin 8192, (r : ℕ) = b * 2048 + t := ⟨⟨b * 2048 + t, by omega⟩, rfl⟩
  have hi : i = ix2 r ⟨4096 + j, by omega⟩ := funext fun a => match a with
    | ⟨0, _⟩ => Fin.ext (h0.trans hr.symm) | ⟨1, _⟩ => Fin.ext (h1.trans (congrArg (4096 + ·) hj.symm))
  rw [hi]
  unfold V
  unfold hostOps0
  after_reads_simp
  pointwise
  after_reads_simp
  pointwise
  rw [dif_neg (by omega), dif_neg (by omega)]
  refine congrArg (m ((c.tc : Thread nD τ).loc main_arg2) : FVec Ideal S4x2048x8x256 .f32) ?_
  refine funext fun a => match a with
    | ⟨0, _⟩ => Fin.ext ?_ | ⟨1, _⟩ => Fin.ext ?_ | ⟨2, _⟩ => Fin.ext ?_ | ⟨3, _⟩ => Fin.ext ?_
  · show (r : ℕ) / 2048 = b; omega
  · show (r : ℕ) % 2048 = t; omega
  · show (4096 + (j : ℕ) - 2048 - 2048) / 256 = h; omega
  · show (4096 + (j : ℕ) - 2048 - 2048) % 256 = e; omega

/-- The gains of the sub-layer norm. -/
theorem g_at (a : Fin 2) (j : Fin 256) : (V m c main_v8 : FVec Ideal S2x1x256 .f32) (ix3 a 0 j)
    = (m ((c.tc : Thread nD τ).loc main_arg4) : FVec Ideal S2x256 .f32) (ix2 a j) := by
  unfold V
  unfold hostOps0
  after_reads_simp
  pointwise

end Cert.Att
-- ==== Proof.AttBlock.lean ====
module

public import proofs.«01_k».proof.Proof.Gen.KernelIdeal.Value
public import Idealize.ShloMosaic.Lib.Pointwise

@[expose] public section

set_option maxRecDepth 16384

noncomputable section

/-! # What one block of the attention computes

A block of 256 queries of one head, over the head's 2048 keys and values: its entry at a query and a column. -/

namespace Cert.Att
open Idealize.ShloMosaic Idealize.ShloMosaic.TcCoe Idealize.SL.Sem
open Cert.KernelIdeal Cert.KernelIdeal.Gen

/-- The normalised weighted sum of the values `v` under the scores `s`, with powers of two. -/
def half (s v : Fin 2048 → EReal) : EReal :=
  Ideal.div (∑ k, Ideal.exp2 (s k - Finset.univ.fold max (Ideal.ofBits .f32 0xFF800000#32) s) * v k)
    (∑ k, Ideal.exp2 (s k - Finset.univ.fold max (Ideal.ofBits .f32 0xFF800000#32) s))

/-- The norm and scale that follow the difference of the halves. -/
def tail (d : Fin 256 → EReal) (g : EReal) (e : Fin 256) : EReal :=
  d e * Ideal.rsqrt (Ideal.div (∑ x, d x * d x) (Ideal.ofBits .f32 0x43800000#32) + Ideal.ofBits .f32 0x358637BD#32)
    * g * Ideal.ofBits .f32 0x3F4CCCCD#32

/-- The weight of the second half. -/
def lam (l : S1x4x128.Idx → EReal) : EReal :=
  Ideal.exp (∑ x, l (ix3 0 0 x) * l (ix3 0 1 x)) - Ideal.exp (∑ x, l (ix3 0 2 x) * l (ix3 0 3 x))
    + Ideal.ofBits .f32 0x3E4CCCCD#32

theorem lam_blk (l : Vec Ideal S1x4x128 .f32) : k0_pay2 l (ix2 0 0) = lam l := by
  pointwise [k0_pay2]
  rfl

theorem half_blk (v : Vec Ideal S2048x256 .bf16) (q : Vec Ideal S256x128 .bf16) (k : Vec Ideal S2048x128 .bf16)
    (r e : Fin 256) :
    k0_pay4 v q k (ix2 r e) = half (fun j => ∑ x, q (ix2 r x) * k (ix2 j x)) (fun j => v (ix2 j e)) := by
  pointwise [k0_pay4, k0_pay3]
  rfl

theorem out_blk (la : Vec Ideal S1x1 .f32) (v : Vec Ideal S2048x256 .bf16) (o : Vec Ideal S256x256 .f32)
    (q : Vec Ideal S256x128 .bf16) (k : Vec Ideal S2048x128 .bf16) (g : Vec Ideal S1x1x256 .f32) (r e : Fin 256) :
    k0_pay1 la (k0_pay3 v) o q k g (ix2 r e)
      = tail (fun y => o (ix2 r y) - la (ix2 0 0) * half (fun j => ∑ x, q (ix2 r x) * k (ix2 j x)) (fun j => v (ix2 j y)))
          (g (ix3 0 0 e)) e := by
  pointwise [k0_pay1, k0_pay3]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The block's result, from the contents of its five inputs. -/
theorem block (q : Vec Ideal S256x256 .bf16) (k v : Vec Ideal S2048x256 .bf16) (l : Vec Ideal S1x4x128 .f32)
    (g : Vec Ideal S1x1x256 .f32) (r e : Fin 256) :
    (out0_5 q k v l g : Vec Ideal S256x256 .bf16) (ix2 r e)
      = tail (fun y =>
            half (fun j => ∑ x : Fin 128, q (ix2 r ⟨x, by omega⟩) * k (ix2 j ⟨x, by omega⟩)) (fun j => v (ix2 j y))
              - lam l * half (fun j => ∑ x : Fin 128, q (ix2 r ⟨128 + x, by omega⟩) * k (ix2 j ⟨128 + x, by omega⟩))
                  (fun j => v (ix2 j y)))
          (g (ix3 0 0 e)) e := by
  unfold out0_5
  rw [View.canon_unit_zero hz2, View.ld_unit_zero hz3, View.ld_unit_zero hz2, View.ld_unit_zero hz3]
  rw [out_blk]
  simp only [half_blk, lam_blk]
  pointwise [k0_pay5]

end Cert.Att
-- ==== Proof.AttMath.lean ====
module

public import Idealize.ShloMosaic.Lib.Pointwise
public import Idealize.ShloMosaic.Lib.IdealHost

@[expose] public section

set_option maxRecDepth 16384

noncomputable section

/-! # The softmax over real scores

A softmax taken with powers of two over scores divided by `log 2`, normalised after the sum over the values, is the
softmax taken with `exp` and normalised before that sum, whatever real number is subtracted from the scores first. -/

namespace Cert.Att.Soft
open Idealize.ShloMosaic

/-- The pattern of minus infinity. -/
theorem negInf : Ideal.ofBits .f32 0xFF800000#32 = (⊥ : EReal) := by
  simp [Ideal.ofBits, Ideal.ieee]

/-- The pattern of two. -/
theorem two : Ideal.ofBits .f32 0x40000000#32 = ((2 : ℝ) : EReal) := by
  simp [Ideal.ofBits, Ideal.ieee]
  rw [← EReal.coe_mul]
  norm_num

/-- A sum of reals. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The largest of finitely many reals is a real. -/
theorem fold_real {n : ℕ} [NeZero n] (f : Fin n → ℝ) :
    ∃ M : ℝ, Finset.univ.fold max (⊥ : EReal) (fun k => ((f k : ℝ) : EReal)) = (M : EReal) := by
  have key : ∀ s : Finset (Fin n), s = ∅ ∨ ∃ M : ℝ, s.fold max (⊥ : EReal) (fun k => ((f k : ℝ) : EReal)) = (M : EReal) := by
    intro s
    induction s using Finset.induction_on with
    | empty => exact Or.inl rfl
    | insert a s ha ih =>
      refine Or.inr ?_
      rw [Finset.fold_insert ha]
      rcases ih with rfl | ⟨M, hM⟩
      · exact ⟨f a, by simp⟩
      · exact ⟨max (f a) M, by rw [hM]; exact (EReal.coe_strictMono.monotone.map_max).symm⟩
  exact (key Finset.univ).resolve_left (Finset.ne_empty_of_mem (Finset.mem_univ 0))

/-- The weight of key `k`: the softmax of real scores. -/
def weight {n : ℕ} (s : Fin n → ℝ) (k : Fin n) : ℝ := Real.exp (s k) / ∑ j, Real.exp (s j)

theorem sum_exp_pos {n : ℕ} [NeZero n] (s : Fin n → ℝ) : 0 < ∑ j, Real.exp (s j) :=
  Finset.sum_pos (fun j _ => Real.exp_pos _) ⟨0, Finset.mem_univ _⟩

/-- A shift of all scores changes no weight. -/
theorem weight_shift {n : ℕ} [NeZero n] (s : Fin n → ℝ) (M : ℝ) (k : Fin n) :
    Real.exp (s k - M) / ∑ j, Real.exp (s j - M) = weight s k := by
  unfold weight
  simp only [Real.exp_sub]
  rw [← Finset.sum_div]
  have h1 := (sum_exp_pos s).ne'
  have h2 := (Real.exp_pos M).ne'
  field_simp

/-- The softmax of the reference. -/
theorem ref_weight {n : ℕ} [NeZero n] (s : Fin n → ℝ) (k : Fin n) (F : EReal)
    (hF : F = Finset.univ.fold max (⊥ : EReal) (fun k => ((s k : ℝ) : EReal))) :
    Ideal.div (Ideal.exp (((s k : ℝ) : EReal) - max ⊥ F)) (∑ j, Ideal.exp (((s j : ℝ) : EReal) - max ⊥ F))
      = ((weight s k : ℝ) : EReal) := by
  obtain ⟨M, hM⟩ := fold_real s
  have hF' : max (⊥ : EReal) F = (M : EReal) := by rw [hF, hM]; simp
  have he : ∀ j, Ideal.exp (((s j : ℝ) : EReal) - max ⊥ F) = ((Real.exp (s j - M) : ℝ) : EReal) := fun j => by
    rw [hF', ← EReal.coe_sub, Ideal.exp_coe]
  simp only [he]
  rw [coe_sum, Ideal.div_coe (sum_exp_pos fun j => s j - M).ne', ← EReal.coe_mul, mul_one_div, weight_shift]

/-- The power of two at a score divided by `log 2` is the exponential. -/
theorem exp2_score (x M : ℝ) :
    Ideal.exp2 (((x / Real.log 2 : ℝ) : EReal) - (M : EReal)) = ((Real.exp (x - M * Real.log 2) : ℝ) : EReal) := by
  have hl : Real.log 2 ≠ 0 := (Real.log_pos (by norm_num)).ne'
  rw [← EReal.coe_sub, Ideal.exp2_coe]
  congr 1
  show (2 : ℝ) ^ (x / Real.log 2 - M) = _
  rw [Real.rpow_def_of_pos (by norm_num : (0 : ℝ) < 2)]
  congr 1
  field_simp

/-- The kernel's half: the values summed with the unnormalised weights, then divided by the weights' sum. -/
theorem kernel_half {n : ℕ} [NeZero n] (s v : Fin n → ℝ) (F : EReal)
    (hF : F = Finset.univ.fold max (⊥ : EReal) (fun k => ((s k / Real.log 2 : ℝ) : EReal))) :
    Ideal.div (∑ k, Ideal.exp2 (((s k / Real.log 2 : ℝ) : EReal) - F) * ((v k : ℝ) : EReal))
        (∑ k, Ideal.exp2 (((s k / Real.log 2 : ℝ) : EReal) - F))
      = ((∑ k, v k * weight s k : ℝ) : EReal) := by
  obtain ⟨M, hM⟩ := fold_real fun k => s k / Real.log 2
  rw [hF, hM]
  simp only [exp2_score, ← EReal.coe_mul, coe_sum]
  rw [Ideal.div_coe (sum_exp_pos fun j => s j - M * Real.log 2).ne', ← EReal.coe_mul]
  congr 1
  rw [mul_one_div, Finset.sum_div]
  refine Finset.sum_congr rfl fun k _ => ?_
  rw [← weight_shift s (M * Real.log 2) k]
  ring

/-- A query divided by `log 2` gives the score divided by `log 2`. -/
theorem score_div {n : ℕ} (q k : Fin n → ℝ) :
    (∑ x, Ideal.div ((q x : ℝ) : EReal) (Ideal.log (Ideal.ofBits .f32 0x40000000#32)) * ((k x : ℝ) : EReal))
      = (((∑ x, q x * k x) / Real.log 2 : ℝ) : EReal) := by
  have hl : Real.log 2 ≠ 0 := (Real.log_pos (by norm_num)).ne'
  rw [two, Ideal.log_coe, if_neg (by norm_num)]
  simp only [Ideal.div_coe hl, ← EReal.coe_mul, coe_sum]
  congr 1
  rw [Finset.sum_div]
  refine Finset.sum_congr rfl fun x _ => ?_
  ring

/-- The difference of the two halves: one sum over the keys. -/
theorem halves_sub {n : ℕ} (v p0 p1 : Fin n → ℝ) (l : ℝ) :
    ((∑ k, v k * p0 k : ℝ) : EReal) - (l : EReal) * ((∑ k, v k * p1 k : ℝ) : EReal)
      = ∑ k, ((v k : ℝ) : EReal) * (((p0 k : ℝ) : EReal) - (l : EReal) * ((p1 k : ℝ) : EReal)) := by
  simp only [← EReal.coe_mul, ← EReal.coe_sub, coe_sum]
  congr 1
  rw [Finset.mul_sum, ← Finset.sum_sub_distrib]
  refine Finset.sum_congr rfl fun k _ => ?_
  ring

end Cert.Att.Soft
-- ==== Proof.AttRef.lean ====
module

public import proofs.«01_k».proof.Proof.Gen.ReferenceIdeal.Read
public import Idealize.ShloMosaic.Lib.Pointwise

@[expose] public section

set_option maxRecDepth 16384

noncomputable section

/-! # The reference of the attention at an index

The reference's result, read at a token and a column, over the sums and maxima of its arguments. -/

namespace Cert.Att.Ref
open Idealize.ShloMosaic Idealize.ShloMosaic.TcCoe Idealize.SL.Sem
open Cert.ReferenceIdeal Cert.ReferenceIdeal.Read

variable (x0 x1 : (⟨S4x2048x8x2x128, .f32⟩ : BufTy).Contents (Elt Ideal)) (x2 : (⟨S4x2048x8x256, .f32⟩ : BufTy).Contents (Elt Ideal))
  (x3 : (⟨S2x4x128, .f32⟩ : BufTy).Contents (Elt Ideal)) (x4 : (⟨S2x256, .f32⟩ : BufTy).Contents (Elt Ideal))

/-- The score of query `q` against key `k`, of half `c` of head `h` in batch `b`. -/
theorem score_at (b : Fin 4) (h : Fin 8) (c : Fin 2) (q k : Fin 2048) :
    val_main_v20 x0 x1 (ix5 b h c q k) = ∑ x, x0 (ix5 b q h c x) * x1 (ix5 b k h c x) := by
  rw [val_main_v20_apply]
  refine Finset.sum_congr rfl fun x _ => ?_
  exact congrArg₂ (fun u w => x0 u * x1 w)
    (funext fun a => match a with | ⟨0, _⟩ => rfl | ⟨1, _⟩ => rfl | ⟨2, _⟩ => rfl | ⟨3, _⟩ => rfl | ⟨4, _⟩ => rfl)
    (funext fun a => match a with | ⟨0, _⟩ => rfl | ⟨1, _⟩ => rfl | ⟨2, _⟩ => rfl | ⟨3, _⟩ => rfl | ⟨4, _⟩ => rfl)

/-- The largest score of query `q`. -/
theorem max_at (b : Fin 4) (h : Fin 8) (c : Fin 2) (q : Fin 2048) :
    val_main_v21 x0 x1 (ix4 b h c q)
      = Finset.univ.fold max (Ideal.ofBits .f32 0xFF800000#32) fun k => val_main_v20 x0 x1 (ix5 b h c q k) := by
  unfold val_main_v21
  generalize val_main_v20 x0 x1 = y
  pointwise [val_main_cst_2]

/-- The exponential of the shifted score. -/
theorem exp_at (b : Fin 4) (h : Fin 8) (c : Fin 2) (q k : Fin 2048) :
    val_main_v27 x0 x1 (ix5 b h c q k)
      = Ideal.exp (val_main_v20 x0 x1 (ix5 b h c q k)
          - max (Ideal.ofBits .f32 0xFF800000#32) (val_main_v21 x0 x1 (ix4 b h c q))) := by
  rw [val_main_v27_apply, val_main_v26_apply, val_main_v25_apply, val_main_v24_apply, val_main_v23_apply, val_main_v22_apply,
    val_main_cst_3_apply,
    show idx_main_v24 (idx_main_v25 (ix5 b h c q k)) = ix4 b h c q from
      funext fun a => match a with | ⟨0, _⟩ => rfl | ⟨1, _⟩ => rfl | ⟨2, _⟩ => rfl | ⟨3, _⟩ => rfl]
  rfl

/-- The softmax weight. -/
theorem weight_at (b : Fin 4) (h : Fin 8) (c : Fin 2) (q k : Fin 2048) :
    val_main_v31 x0 x1 (ix5 b h c q k)
      = Ideal.div (val_main_v27 x0 x1 (ix5 b h c q k)) (∑ j, val_main_v27 x0 x1 (ix5 b h c q j)) := by
  rw [val_main_v31_apply, val_main_v30_apply, val_main_v29_apply, val_main_v28_apply, val_main_cst_4_apply]
  rw [show (FloatOps.ofBits .f32 0x00000000#32 : Ideal .f32) = 0 from Ideal.ofBits_zero_f32, zero_add]
  refine congrArg (Ideal.div _) (Finset.sum_congr rfl fun j _ => congrArg _ ?_)
  exact funext fun a => match a with | ⟨0, _⟩ => rfl | ⟨1, _⟩ => rfl | ⟨2, _⟩ => rfl | ⟨3, _⟩ => rfl | ⟨4, _⟩ => rfl

/-- The reshaped slice's index, whichever half is taken. -/
theorem idx33 (b : Fin 4) (h : Fin 8) (q k : Fin 2048) :
    idx_main_v32 (idx_main_v33 (ix4 b h q k)) = ix5 b h 0 q k := by
  have := b.isLt; have := h.isLt; have := q.isLt; have := k.isLt
  refine funext fun a => match a with
    | ⟨0, _⟩ => Fin.ext ?_ | ⟨1, _⟩ => Fin.ext ?_ | ⟨2, _⟩ => rfl | ⟨3, _⟩ => Fin.ext ?_ | ⟨4, _⟩ => Fin.ext ?_
  · show (((b.val * 8 + h.val) * 2048 + q.val) * 2048 + k.val) / 33554432 = b.val; omega
  · show (((b.val * 8 + h.val) * 2048 + q.val) * 2048 + k.val) / 4194304 % 8 = h.val; omega
  · show (((b.val * 8 + h.val) * 2048 + q.val) * 2048 + k.val) / 2048 % 2048 = q.val; omega
  · show (((b.val * 8 + h.val) * 2048 + q.val) * 2048 + k.val) % 2048 = k.val; omega

theorem idx35 (b : Fin 4) (h : Fin 8) (q k : Fin 2048) :
    idx_main_v34 (idx_main_v35 (ix4 b h q k)) = ix5 b h 1 q k := by
  have := b.isLt; have := h.isLt; have := q.isLt; have := k.isLt
  refine funext fun a => match a with
    | ⟨0, _⟩ => Fin.ext ?_ | ⟨1, _⟩ => Fin.ext ?_ | ⟨2, _⟩ => rfl | ⟨3, _⟩ => Fin.ext ?_ | ⟨4, _⟩ => Fin.ext ?_
  · show (((b.val * 8 + h.val) * 2048 + q.val) * 2048 + k.val) / 33554432 = b.val; omega
  · show (((b.val * 8 + h.val) * 2048 + q.val) * 2048 + k.val) / 4194304 % 8 = h.val; omega
  · show (((b.val * 8 + h.val) * 2048 + q.val) * 2048 + k.val) / 2048 % 2048 = q.val; omega
  · show (((b.val * 8 + h.val) * 2048 + q.val) * 2048 + k.val) % 2048 = k.val; omega

/-- The scalar that weighs the second half's attention. -/
theorem lam_at (i : S_.Idx) :
    val_main_v19 x3 i
      = Ideal.exp (∑ x, x3 (ix3 0 0 x) * x3 (ix3 0 1 x)) - Ideal.exp (∑ x, x3 (ix3 0 2 x) * x3 (ix3 0 3 x))
          + Ideal.ofBits .f32 0x3E4CCCCD#32 := by
  pointwise [val_main_v19, val_main_cst_1, val_main_v18, val_main_v17, val_main_v16, val_main_cst_0, val_main_v15, val_main_v14,
    val_main_v13, val_main_v12, val_main_v11, val_main_v10, val_main_v9, val_main_cst, val_main_v8, val_main_v7, val_main_v6,
    val_main_v5, val_main_v4, val_main_v1, val_main_v0]

/-- The attention before its normalization. -/
theorem out_at (b : Fin 4) (q : Fin 2048) (h : Fin 8) (e : Fin 256) :
    val_main_v40 x0 x1 x2 x3 (ix4 b q h e)
      = ∑ k, x2 (ix4 b k h e) * (val_main_v31 x0 x1 (ix5 b h 0 q k) - val_main_v19 x3 ix0 * val_main_v31 x0 x1 (ix5 b h 1 q k)) := by
  rw [val_main_v40_apply, val_main_v39_apply]
  refine Finset.sum_congr rfl fun k _ => ?_
  rw [show lidx_main_v39 (idx_main_v40 (ix4 b q h e)) k = ix4 b k h e from
      funext fun a => match a with | ⟨0, _⟩ => rfl | ⟨1, _⟩ => rfl | ⟨2, _⟩ => rfl | ⟨3, _⟩ => rfl,
    show ridx_main_v39 (idx_main_v40 (ix4 b q h e)) k = ix4 b h q k from
      funext fun a => match a with | ⟨0, _⟩ => rfl | ⟨1, _⟩ => rfl | ⟨2, _⟩ => rfl | ⟨3, _⟩ => rfl,
    val_main_v38_apply, val_main_v37_apply, val_main_v36_apply, val_main_v35_apply, val_main_v34_apply, val_main_v33_apply,
    val_main_v32_apply, idx33, idx35]
  exact congrArg (fun z => x2 (ix4 b k h e) * (_ - val_main_v19 x3 z * _)) (funext fun a => a.elim0)

/-- The reference's result at an index: the attention at its token and head, normalized over the head's columns. -/
theorem result_at (b : Fin 4) (q : Fin 2048) (h : Fin 8) (e : Fin 256) (i : S8192x2048.Idx)
    (h0 : (i 0).val = b.val * 2048 + q.val) (h1 : (i 1).val = h.val * 256 + e.val) :
    val_main_v57 x0 x1 x2 x3 x4 i
      = val_main_v40 x0 x1 x2 x3 (ix4 b q h e)
          * Ideal.rsqrt (Ideal.div (∑ x, val_main_v40 x0 x1 x2 x3 (ix4 b q h x) * val_main_v40 x0 x1 x2 x3 (ix4 b q h x))
              (Ideal.ofBits .f32 0x43800000#32) + Ideal.ofBits .f32 0x358637BD#32)
          * x4 (ix2 0 e) * Ideal.ofBits .f32 0x3F4CCCCD#32 := by
  have hi : idx_main_v56 i = ix4 b q h e := by
    have := b.isLt; have := h.isLt; have := q.isLt; have := e.isLt
    refine funext fun a => match a with
      | ⟨0, _⟩ => Fin.ext ?_ | ⟨1, _⟩ => Fin.ext ?_ | ⟨2, _⟩ => Fin.ext ?_ | ⟨3, _⟩ => Fin.ext ?_
    · show ((i 0).val * 2048 + (i 1).val) / 4194304 = b.val; omega
    · show ((i 0).val * 2048 + (i 1).val) / 2048 % 2048 = q.val; omega
    · show ((i 0).val * 2048 + (i 1).val) / 256 % 8 = h.val; omega
    · show ((i 0).val * 2048 + (i 1).val) % 256 = e.val; omega
  rw [val_main_v57_apply, val_main_v56_apply, hi]
  generalize hy : val_main_v40 x0 x1 x2 x3 = y
  pointwise [val_main_v55, val_main_v54, val_main_cst_8, val_main_v53, val_main_v52, val_main_v51, val_main_v50, val_main_v49,
    val_main_v48, val_main_v47, val_main_v46, val_main_cst_7, val_main_v45, val_main_v44, val_main_cst_6, val_main_v43, val_main_v42,
    val_main_cst_5, val_main_v41, val_main_v2, val_main_v3]
  simp only [hy]

end Cert.Att.Ref
-- ==== Proof.AttArr.lean ====
module

public import proofs.«01_k».proof.Proof.AttEntry
public import proofs.«01_k».proof.Proof.AttBlock
public import proofs.«01_k».proof.Proof.AttMath
public import proofs.«01_k».proof.Proof.AttRef
public import Idealize.ShloMosaic.Lib.Pipeline.ValueKit
public import Idealize.ShloMosaic.Lib.Claim

@[expose] public section

set_option maxRecDepth 16384

noncomputable section

/-! # What the result array holds: the reference of the arguments -/

namespace Cert.Att
open Idealize.ShloMosaic Idealize.ShloMosaic.TcCoe Idealize.SL.Sem
open Cert.KernelIdeal Cert.KernelIdeal.Gen

variable (m : (ℓ : Loc nD τ sig) → Buf (Elt Ideal) ℓ) (c : Dev nD)

/-- Where each window's block lies at a grid point: batch `b`, head `h` and query block `s`. -/
theorem places : ∀ t : Fin cfg0.N, ∃ (b : Fin 4) (h : Fin 8) (s : Fin 8),
    (win0_0.index t 0 = b * 8 + s ∧ win0_0.index t 1 = h)
    ∧ (win0_1.index t 0 = b ∧ win0_1.index t 1 = 8 + h)
    ∧ (win0_2.index t 0 = b ∧ win0_2.index t 1 = 16 + h)
    ∧ (win0_3.index t 0 = 0 ∧ win0_3.index t 1 = 0 ∧ win0_3.index t 2 = 0)
    ∧ (win0_4.index t 0 = 0 ∧ win0_4.index t 1 = 0 ∧ win0_4.index t 2 = 0)
    ∧ (win0_5.index t 0 = b * 8 + s ∧ win0_5.index t 1 = h) := by
  decide +kernel

abbrev a0 : FVec Ideal S4x2048x8x2x128 .f32 := m ((c.tc : Thread nD τ).loc main_arg0)
abbrev a1 : FVec Ideal S4x2048x8x2x128 .f32 := m ((c.tc : Thread nD τ).loc main_arg1)
abbrev a2 : FVec Ideal S4x2048x8x256 .f32 := m ((c.tc : Thread nD τ).loc main_arg2)
abbrev a3 : FVec Ideal S2x4x128 .f32 := m ((c.tc : Thread nD τ).loc main_arg3)
abbrev a4 : FVec Ideal S2x256 .f32 := m ((c.tc : Thread nD τ).loc main_arg4)

abbrev G : Buf (Elt Ideal) ((c.tc : Thread nD τ).loc main_v9) :=
  Cert.ReferenceIdeal.Read.val_main_v57 (a0 m c) (a1 m c) (a2 m c) (a3 m c) (a4 m c)

section blocks
variable (t : Fin cfg0.N) (b : Fin 4) (h : Fin 8)

/-- The block of queries. -/
theorem q_blk (s : Fin 8) (e0 : win0_0.index t 0 = b * 8 + s) (e1 : win0_0.index t 1 = h) (r : Fin 256) (u : Fin 2)
    (x : Fin 128) (q : Fin 2048) (hq : (q : ℕ) = s * 256 + r) (y : Fin 256) (hy : (y : ℕ) = u * 128 + x) :
    (iblk m c 0 t : Vec Ideal S256x256 .bf16) (ix2 r y)
      = Ideal.div (a0 m c (ix5 b q h u x)) (Ideal.log (Ideal.ofBits .f32 0x40000000#32)) := by
  refine q_at m c b q h u x _ ?_ ?_
  all_goals blk_simp [e0, e1]
  all_goals omega

/-- The block of keys. -/
theorem k_blk (e0 : win0_1.index t 0 = b) (e1 : win0_1.index t 1 = 8 + h) (j : Fin 2048) (u : Fin 2)
    (x : Fin 128) (y : Fin 256) (hy : (y : ℕ) = u * 128 + x) :
    (iblk m c 1 t : Vec Ideal S2048x256 .bf16) (ix2 j y) = a1 m c (ix5 b j h u x) := by
  refine k_at m c b j h u x _ ?_ ?_
  all_goals blk_simp [e0, e1]
  all_goals omega

/-- The block of values. -/
theorem v_blk (e0 : win0_2.index t 0 = b) (e1 : win0_2.index t 1 = 16 + h) (j : Fin 2048) (y : Fin 256) :
    (iblk m c 2 t : Vec Ideal S2048x256 .bf16) (ix2 j y) = a2 m c (ix4 b j h y) := by
  refine v_at m c b j h y _ ?_ ?_
  all_goals blk_simp [e0, e1]
  all_goals omega

/-- The lambda vectors. -/
theorem l_blk (e0 : win0_3.index t 0 = 0) (e1 : win0_3.index t 1 = 0) (e2 : win0_3.index t 2 = 0) (a : Fin 4) (x : Fin 128) :
    (iblk m c 3 t : Vec Ideal S1x4x128 .f32) (ix3 0 a x) = a3 m c (ix3 0 a x) := by
  blk_ext [iblk, V, e0, e1, e2]

/-- The gains. -/
theorem g_blk (e0 : win0_4.index t 0 = 0) (e1 : win0_4.index t 1 = 0) (e2 : win0_4.index t 2 = 0) (x : Fin 256) :
    (iblk m c 4 t : Vec Ideal S1x1x256 .f32) (ix3 0 0 x) = a4 m c (ix2 0 x) := by
  refine Eq.trans ?_ (g_at m c 0 x)
  refine congrArg (V m c main_v8 : FVec Ideal S2x1x256 .f32) (a₂ := ix3 0 0 x) ?_
  blk_ext [e0, e1, e2]

end blocks

/-- The difference of the halves, the reference's and the kernel's, at real arguments. -/
theorem diff_eq (h0 : ∀ i, ∃ r : ℝ, a0 m c i = (r : EReal)) (h1 : ∀ i, ∃ r : ℝ, a1 m c i = (r : EReal))
    (h2 : ∀ i, ∃ r : ℝ, a2 m c i = (r : EReal)) (h3 : ∀ i, ∃ r : ℝ, a3 m c i = (r : EReal))
    (b : Fin 4) (q : Fin 2048) (h : Fin 8) (e : Fin 256) :
    half (fun j => ∑ x : Fin 128, Ideal.div (a0 m c (ix5 b q h 0 x)) (Ideal.log (Ideal.ofBits .f32 0x40000000#32))
            * a1 m c (ix5 b j h 0 x)) (fun j => a2 m c (ix4 b j h e))
        - Cert.ReferenceIdeal.Read.val_main_v19 (F := Ideal) (a3 m c) ix0
          * half (fun j => ∑ x : Fin 128, Ideal.div (a0 m c (ix5 b q h 1 x)) (Ideal.log (Ideal.ofBits .f32 0x40000000#32))
            * a1 m c (ix5 b j h 1 x)) (fun j => a2 m c (ix4 b j h e))
      = Cert.ReferenceIdeal.Read.val_main_v40 (F := Ideal) (a0 m c) (a1 m c) (a2 m c) (a3 m c) (ix4 b q h e) := by
  choose A0 hA0 using h0
  choose A1 hA1 using h1
  choose A2 hA2 using h2
  choose A3 hA3 using h3
  obtain ⟨l, hl⟩ : ∃ l : ℝ, Cert.ReferenceIdeal.Read.val_main_v19 (F := Ideal) (a3 m c) ix0 = (l : EReal) := by
    rw [Ref.lam_at]
    obtain ⟨z, hz⟩ : ∃ z : ℝ, Ideal.ofBits .f32 0x3E4CCCCD#32 = (z : EReal) := by
      simp only [Ideal.ofBits, Ideal.ieee]
      exact ⟨_, rfl⟩
    simp only [hA3, ← EReal.coe_mul, Soft.coe_sum, Ideal.exp_coe, hz, ← EReal.coe_sub, ← EReal.coe_add]
    exact ⟨_, rfl⟩
  have hw : ∀ (u : Fin 2) (k : Fin 2048),
      Cert.ReferenceIdeal.Read.val_main_v31 (F := Ideal) (a0 m c) (a1 m c) (ix5 b h u q k)
        = ((Soft.weight (fun j : Fin 2048 => ∑ x, A0 (ix5 b q h u x) * A1 (ix5 b j h u x)) k : ℝ) : EReal) := fun u k => by
    rw [Ref.weight_at]
    simp only [Ref.exp_at, Ref.max_at, Ref.score_at, hA0, hA1, ← EReal.coe_mul, Soft.coe_sum, Soft.negInf]
    exact Soft.ref_weight (fun j : Fin 2048 => ∑ x, A0 (ix5 b q h u x) * A1 (ix5 b j h u x)) k _ rfl
  have hh : ∀ u : Fin 2, half (fun j => ∑ x : Fin 128, Ideal.div (a0 m c (ix5 b q h u x)) (Ideal.log (Ideal.ofBits .f32 0x40000000#32))
            * a1 m c (ix5 b j h u x)) (fun j => a2 m c (ix4 b j h e))
        = ((∑ k, A2 (ix4 b k h e) * Soft.weight (fun j : Fin 2048 => ∑ x, A0 (ix5 b q h u x) * A1 (ix5 b j h u x)) k : ℝ) : EReal) := fun u => by
    unfold half
    simp only [hA0, hA1, hA2, Soft.score_div, Soft.negInf]
    exact Soft.kernel_half (fun j : Fin 2048 => ∑ x, A0 (ix5 b q h u x) * A1 (ix5 b j h u x)) (fun k => A2 (ix4 b k h e)) _ rfl
  rw [Ref.out_at, hl, hh 0, hh 1]
  simp only [hw, hA2]
  exact Soft.halves_sub _ _ _ _

/-- At real arguments, the result array ends holding the reference's result. -/
theorem final (h0 : ∀ i, ∃ r : ℝ, a0 m c i = (r : EReal)) (h1 : ∀ i, ∃ r : ℝ, a1 m c i = (r : EReal))
    (h2 : ∀ i, ∃ r : ℝ, a2 m c i = (r : EReal)) (h3 : ∀ i, ∃ r : ℝ, a3 m c i = (r : EReal)) :
    (dats m 0 c).arrAt 5 cfg0.N = G m c := by
  refine (dats m 0 c).arrAt_eq_of_covers 5 _ (by decide +kernel) fun t hf y => ?_
  blk_simp
  rw [after0_5]
  obtain ⟨b, h, s, ⟨q0, q1⟩, ⟨k0, k1⟩, ⟨v0, v1⟩, ⟨l0, l1, l2⟩, ⟨g0, g1, g2⟩, o0, o1⟩ := places t
  obtain ⟨r, e, rfl⟩ : ∃ r e : Fin 256, y = ix2 r e := ⟨y 0, y 1, funext fun a => match a with | ⟨0, _⟩ => rfl | ⟨1, _⟩ => rfl⟩
  obtain ⟨q, hq⟩ : ∃ q : Fin 2048, (q : ℕ) = s * 256 + r := ⟨⟨s * 256 + r, by omega⟩, rfl⟩
  have e0 : (((win0_5.blk t).view.emb (ix2 r e)) 0 : ℕ) = b * 2048 + q := by blk_simp [o0, o1]; omega
  have e1 : (((win0_5.blk t).view.emb (ix2 r e)) 1 : ℕ) = h * 256 + e := by blk_simp [o0, o1]
  refine Eq.trans ?_ (Ref.result_at (a0 m c) (a1 m c) (a2 m c) (a3 m c) (a4 m c) b q h e _ e0 e1).symm
  refine (block _ _ _ _ _ r e).trans ?_
  rw [g_blk m c t g0 g1 g2 e]
  refine Eq.trans (congrArg (fun d => tail d (a4 m c (ix2 0 e)) e) (funext fun y => ?_))
    (show tail (fun y => Cert.ReferenceIdeal.Read.val_main_v40 (F := Ideal) (a0 m c) (a1 m c) (a2 m c) (a3 m c) (ix4 b q h y))
      (a4 m c (ix2 0 e)) e = _ from rfl)
  rw [← diff_eq m c h0 h1 h2 h3 b q h y, Ref.lam_at]
  have hl : lam (iblk m c 3 t : Vec Ideal S1x4x128 .f32) = lam (fun i => a3 m c (ix3 0 (i 1) (i 2))) := by
    unfold lam
    simp only [l_blk m c t l0 l1 l2]
    rfl
  rw [hl]
  have hv : ∀ j, (iblk m c 2 t : Vec Ideal S2048x256 .bf16) (ix2 j y) = a2 m c (ix4 b j h y) := fun j => v_blk m c t b h v0 v1 j y
  have hq0 : ∀ x : Fin 128, (iblk m c 0 t : Vec Ideal S256x256 .bf16) (ix2 r ⟨x, by omega⟩)
      = Ideal.div (a0 m c (ix5 b q h 0 x)) (Ideal.log (Ideal.ofBits .f32 0x40000000#32)) := fun x =>
    q_blk m c t b h s q0 q1 r 0 x q hq _ (by simp)
  have hq1 : ∀ x : Fin 128, (iblk m c 0 t : Vec Ideal S256x256 .bf16) (ix2 r ⟨128 + x, by omega⟩)
      = Ideal.div (a0 m c (ix5 b q h 1 x)) (Ideal.log (Ideal.ofBits .f32 0x40000000#32)) := fun x =>
    q_blk m c t b h s q0 q1 r 1 x q hq _ (by simp)
  have hk0 : ∀ (j : Fin 2048) (x : Fin 128), (iblk m c 1 t : Vec Ideal S2048x256 .bf16) (ix2 j ⟨x, by omega⟩)
      = a1 m c (ix5 b j h 0 x) := fun j x => k_blk m c t b h k0 k1 j 0 x _ (by simp)
  have hk1 : ∀ (j : Fin 2048) (x : Fin 128), (iblk m c 1 t : Vec Ideal S2048x256 .bf16) (ix2 j ⟨128 + x, by omega⟩)
      = a1 m c (ix5 b j h 1 x) := fun j x => k_blk m c t b h k0 k1 j 1 x _ (by simp)
  simp only [hv, hq0, hq1, hk0, hk1]
  rfl

end Cert.Att
-- ==== Proof.Att3Entry.lean ====
module

public import proofs.«01_k».proof.Proof.Gen.Att3Ideal.Value
public import Idealize.ShloMosaic.Lib.Pointwise
public import Idealize.ShloMosaic.Lib.StableHlo.RunRead

@[expose] public section

set_option maxRecDepth 16384

noncomputable section

/-! # The arrays that the kernel reads, from the arguments -/

namespace Cert.Att3
open Idealize.ShloMosaic Idealize.ShloMosaic.TcCoe Idealize.SL.Sem
open Cert.Att3Ideal Cert.Att3Ideal.Gen

variable (m : (ℓ : Loc nD τ sig) → Buf (Elt Ideal) ℓ) (c : Dev nD)

/-- The packed array's first 2048 columns: the queries over `log 2`. -/
theorem q_at (b : Fin 4) (t : Fin 2048) (h : Fin 8) (u : Fin 2) (x : Fin 128) (i : S8192x6144.Idx)
    (h0 : (i 0 : ℕ) = b * 2048 + t) (h1 : (i 1 : ℕ) = h * 256 + u * 128 + x) :
    (V m c main_v7 : FVec Ideal S8192x6144 .bf16) i
      = Ideal.div ((m ((c.tc : Thread nD τ).loc main_arg0) : FVec Ideal S4x2048x8x2x128 .f32) (ix5 b t h u x))
          (Ideal.log (Ideal.ofBits .f32 0x40000000#32)) := by
  obtain ⟨j, hj⟩ : ∃ j : Fin 2048, (j : ℕ) = h * 256 + u * 128 + x := ⟨⟨h * 256 + u * 128 + x, by omega⟩, rfl⟩
  obtain ⟨r, hr⟩ : ∃ r : Fin 8192, (r : ℕ) = b * 2048 + t := ⟨⟨b * 2048 + t, by omega⟩, rfl⟩
  have hi : i = ix2 r ⟨j, by omega⟩ := funext fun a => match a with
    | ⟨0, _⟩ => Fin.ext (h0.trans hr.symm) | ⟨1, _⟩ => Fin.ext (h1.trans hj.symm)
  rw [hi]
  unfold V
  unfold hostOps0
  after_reads_simp
  pointwise
  after_reads_simp
  pointwise
  refine congrArg₂ (fun u w => Ideal.div ((m ((c.tc : Thread nD τ).loc main_arg0) : FVec Ideal S4x2048x8x2x128 .f32) u) w) ?_ rfl
  refine funext fun a => match a with
    | ⟨0, _⟩ => Fin.ext ?_ | ⟨1, _⟩ => Fin.ext ?_ | ⟨2, _⟩ => Fin.ext ?_ | ⟨3, _⟩ => Fin.ext ?_ | ⟨4, _⟩ => Fin.ext ?_
  · show (r : ℕ) / 2048 = b; omega
  · show (r : ℕ) % 2048 = t; omega
  · show (j : ℕ) / 256 = h; omega
  · show (j : ℕ) / 128 % 2 = u; omega
  · show (j : ℕ) % 128 = x; omega

/-- The next 2048 columns: the keys. -/
theorem k_at (b : Fin 4) (t : Fin 2048) (h : Fin 8) (u : Fin 2) (x : Fin 128) (i : S8192x6144.Idx)
    (h0 : (i 0 : ℕ) = b * 2048 + t) (h1 : (i 1 : ℕ) = 2048 + (h * 256 + u * 128 + x)) :
    (V m c main_v7 : FVec Ideal S8192x6144 .bf16) i
      = (m ((c.tc : Thread nD τ).loc main_arg1) : FVec Ideal S4x2048x8x2x128 .f32) (ix5 b t h u x) := by
  obtain ⟨j, hj⟩ : ∃ j : Fin 2048, (j : ℕ) = h * 256 + u * 128 + x := ⟨⟨h * 256 + u * 128 + x, by omega⟩, rfl⟩
  obtain ⟨r, hr⟩ : ∃ r : Fin 8192, (r : ℕ) = b * 2048 + t := ⟨⟨b * 2048 + t, by omega⟩, rfl⟩
  have hi : i = ix2 r ⟨2048 + j, by omega⟩ := funext fun a => match a with
    | ⟨0, _⟩ => Fin.ext (h0.trans hr.symm) | ⟨1, _⟩ => Fin.ext (h1.trans (congrArg (2048 + ·) hj.symm))
  rw [hi]
  unfold V
  unfold hostOps0
  after_reads_simp
  pointwise
  after_reads_simp
  pointwise
  refine congrArg (m ((c.tc : Thread nD τ).loc main_arg1) : FVec Ideal S4x2048x8x2x128 .f32) ?_
  refine funext fun a => match a with
    | ⟨0, _⟩ => Fin.ext ?_ | ⟨1, _⟩ => Fin.ext ?_ | ⟨2, _⟩ => Fin.ext ?_ | ⟨3, _⟩ => Fin.ext ?_ | ⟨4, _⟩ => Fin.ext ?_
  · show (r : ℕ) / 2048 = b; omega
  · show (r : ℕ) % 2048 = t; omega
  · show (j : ℕ) / 256 = h; omega
  · show (j : ℕ) / 128 % 2 = u; omega
  · show (j : ℕ) % 128 = x; omega

/-- The last 2048 columns: the values. -/
theorem v_at (b : Fin 4) (t : Fin 2048) (h : Fin 8) (e : Fin 256) (i : S8192x6144.Idx)
    (h0 : (i 0 : ℕ) = b * 2048 + t) (h1 : (i 1 : ℕ) = 4096 + (h * 256 + e)) :
    (V m c main_v7 : FVec Ideal S8192x6144 .bf16) i
      = (m ((c.tc : Thread nD τ).loc main_arg2) : FVec Ideal S4x2048x8x256 .f32) (ix4 b t h e) := by
  obtain ⟨j, hj⟩ : ∃ j : Fin 2048, (j : ℕ) = h * 256 + e := ⟨⟨h * 256 + e, by omega⟩, rfl⟩
  obtain ⟨r, hr⟩ : ∃ r : Fin 8192, (r : ℕ) = b * 2048 + t := ⟨⟨b * 2048 + t, by omega⟩, rfl⟩
  have hi : i = ix2 r ⟨4096 + j, by omega⟩ := funext fun a => match a with
    | ⟨0, _⟩ => Fin.ext (h0.trans hr.symm) | ⟨1, _⟩ => Fin.ext (h1.trans (congrArg (4096 + ·) hj.symm))
  rw [hi]
  unfold V
  unfold hostOps0
  after_reads_simp
  pointwise
  after_reads_simp
  pointwise
  rw [dif_neg (by omega), dif_neg (by omega)]
  refine congrArg (m ((c.tc : Thread nD τ).loc main_arg2) : FVec Ideal S4x2048x8x256 .f32) ?_
  refine funext fun a => match a with
    | ⟨0, _⟩ => Fin.ext ?_ | ⟨1, _⟩ => Fin.ext ?_ | ⟨2, _⟩ => Fin.ext ?_ | ⟨3, _⟩ => Fin.ext ?_
  · show (r : ℕ) / 2048 = b; omega
  · show (r : ℕ) % 2048 = t; omega
  · show (4096 + (j : ℕ) - 2048 - 2048) / 256 = h; omega
  · show (4096 + (j : ℕ) - 2048 - 2048) % 256 = e; omega

/-- The gains of the sub-layer norm. -/
theorem g_at (a : Fin 2) (j : Fin 256) : (V m c main_v8 : FVec Ideal S2x1x256 .f32) (ix3 a 0 j)
    = (m ((c.tc : Thread nD τ).loc main_arg4) : FVec Ideal S2x256 .f32) (ix2 a j) := by
  unfold V
  unfold hostOps0
  after_reads_simp
  pointwise

end Cert.Att3
-- ==== Proof.Att3Block.lean ====
module

public import proofs.«01_k».proof.Proof.Gen.Att3Ideal.Value
public import Idealize.ShloMosaic.Lib.Pointwise

@[expose] public section

set_option maxRecDepth 16384

noncomputable section

/-! # What one block of the attention computes

A block of 256 queries of one head, over the head's 2048 keys and values: its entry at a query and a column. -/

namespace Cert.Att3
open Idealize.ShloMosaic Idealize.ShloMosaic.TcCoe Idealize.SL.Sem
open Cert.Att3Ideal Cert.Att3Ideal.Gen

/-- The normalised weighted sum of the values `v` under the scores `s`, with powers of two. -/
def half (s v : Fin 2048 → EReal) : EReal :=
  Ideal.div (∑ k, Ideal.exp2 (s k - Finset.univ.fold max (Ideal.ofBits .f32 0xFF800000#32) s) * v k)
    (∑ k, Ideal.exp2 (s k - Finset.univ.fold max (Ideal.ofBits .f32 0xFF800000#32) s))

/-- The norm and scale that follow the difference of the halves. -/
def tail (d : Fin 256 → EReal) (g : EReal) (e : Fin 256) : EReal :=
  d e * Ideal.rsqrt (Ideal.div (∑ x, d x * d x) (Ideal.ofBits .f32 0x43800000#32) + Ideal.ofBits .f32 0x358637BD#32)
    * g * Ideal.ofBits .f32 0x3EE34C57#32

/-- The weight of the second half. -/
def lam (l : S1x4x128.Idx → EReal) : EReal :=
  Ideal.exp (∑ x, l (ix3 0 0 x) * l (ix3 0 1 x)) - Ideal.exp (∑ x, l (ix3 0 2 x) * l (ix3 0 3 x))
    + Ideal.ofBits .f32 0x3F0E59D5#32

theorem lam_blk (l : Vec Ideal S1x4x128 .f32) : k0_pay2 l (ix2 0 0) = lam l := by
  pointwise [k0_pay2]
  rfl

theorem half_blk (v : Vec Ideal S2048x256 .bf16) (q : Vec Ideal S256x128 .bf16) (k : Vec Ideal S2048x128 .bf16)
    (r e : Fin 256) :
    k0_pay4 v q k (ix2 r e) = half (fun j => ∑ x, q (ix2 r x) * k (ix2 j x)) (fun j => v (ix2 j e)) := by
  pointwise [k0_pay4, k0_pay3]
  rfl

theorem out_blk (la : Vec Ideal S1x1 .f32) (v : Vec Ideal S2048x256 .bf16) (o : Vec Ideal S256x256 .f32)
    (q : Vec Ideal S256x128 .bf16) (k : Vec Ideal S2048x128 .bf16) (g : Vec Ideal S1x1x256 .f32) (r e : Fin 256) :
    k0_pay1 la (k0_pay3 v) o q k g (ix2 r e)
      = tail (fun y => o (ix2 r y) - la (ix2 0 0) * half (fun j => ∑ x, q (ix2 r x) * k (ix2 j x)) (fun j => v (ix2 j y)))
          (g (ix3 0 0 e)) e := by
  pointwise [k0_pay1, k0_pay3]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The block's result, from the contents of its five inputs. -/
theorem block (q : Vec Ideal S256x256 .bf16) (k v : Vec Ideal S2048x256 .bf16) (l : Vec Ideal S1x4x128 .f32)
    (g : Vec Ideal S1x1x256 .f32) (r e : Fin 256) :
    (out0_5 q k v l g : Vec Ideal S256x256 .bf16) (ix2 r e)
      = tail (fun y =>
            half (fun j => ∑ x : Fin 128, q (ix2 r ⟨x, by omega⟩) * k (ix2 j ⟨x, by omega⟩)) (fun j => v (ix2 j y))
              - lam l * half (fun j => ∑ x : Fin 128, q (ix2 r ⟨128 + x, by omega⟩) * k (ix2 j ⟨128 + x, by omega⟩))
                  (fun j => v (ix2 j y)))
          (g (ix3 0 0 e)) e := by
  unfold out0_5
  rw [View.canon_unit_zero hz2, View.ld_unit_zero hz3, View.ld_unit_zero hz2, View.ld_unit_zero hz3]
  rw [out_blk]
  simp only [half_blk, lam_blk]
  pointwise [k0_pay5]

end Cert.Att3
-- ==== Proof.Att3Ref.lean ====
module

public import proofs.«01_k».proof.Proof.Gen.Att3RefIdeal.Read
public import Idealize.ShloMosaic.Lib.Pointwise

@[expose] public section

set_option maxRecDepth 16384

noncomputable section

/-! # The reference of the attention at an index

The reference's result, read at a token and a column, over the sums and maxima of its arguments. -/

namespace Cert.Att3.Ref
open Idealize.ShloMosaic Idealize.ShloMosaic.TcCoe Idealize.SL.Sem
open Cert.Att3RefIdeal Cert.Att3RefIdeal.Read

variable (x0 x1 : (⟨S4x2048x8x2x128, .f32⟩ : BufTy).Contents (Elt Ideal)) (x2 : (⟨S4x2048x8x256, .f32⟩ : BufTy).Contents (Elt Ideal))
  (x3 : (⟨S2x4x128, .f32⟩ : BufTy).Contents (Elt Ideal)) (x4 : (⟨S2x256, .f32⟩ : BufTy).Contents (Elt Ideal))

/-- The score of query `q` against key `k`, of half `c` of head `h` in batch `b`. -/
theorem score_at (b : Fin 4) (h : Fin 8) (c : Fin 2) (q k : Fin 2048) :
    val_main_v20 x0 x1 (ix5 b h c q k) = ∑ x, x0 (ix5 b q h c x) * x1 (ix5 b k h c x) := by
  rw [val_main_v20_apply]
  refine Finset.sum_congr rfl fun x _ => ?_
  exact congrArg₂ (fun u w => x0 u * x1 w)
    (funext fun a => match a with | ⟨0, _⟩ => rfl | ⟨1, _⟩ => rfl | ⟨2, _⟩ => rfl | ⟨3, _⟩ => rfl | ⟨4, _⟩ => rfl)
    (funext fun a => match a with | ⟨0, _⟩ => rfl | ⟨1, _⟩ => rfl | ⟨2, _⟩ => rfl | ⟨3, _⟩ => rfl | ⟨4, _⟩ => rfl)

/-- The largest score of query `q`. -/
theorem max_at (b : Fin 4) (h : Fin 8) (c : Fin 2) (q : Fin 2048) :
    val_main_v21 x0 x1 (ix4 b h c q)
      = Finset.univ.fold max (Ideal.ofBits .f32 0xFF800000#32) fun k => val_main_v20 x0 x1 (ix5 b h c q k) := by
  unfold val_main_v21
  generalize val_main_v20 x0 x1 = y
  pointwise [val_main_cst_2]

/-- The exponential of the shifted score. -/
theorem exp_at (b : Fin 4) (h : Fin 8) (c : Fin 2) (q k : Fin 2048) :
    val_main_v27 x0 x1 (ix5 b h c q k)
      = Ideal.exp (val_main_v20 x0 x1 (ix5 b h c q k)
          - max (Ideal.ofBits .f32 0xFF800000#32) (val_main_v21 x0 x1 (ix4 b h c q))) := by
  rw [val_main_v27_apply, val_main_v26_apply, val_main_v25_apply, val_main_v24_apply, val_main_v23_apply, val_main_v22_apply,
    val_main_cst_3_apply,
    show idx_main_v24 (idx_main_v25 (ix5 b h c q k)) = ix4 b h c q from
      funext fun a => match a with | ⟨0, _⟩ => rfl | ⟨1, _⟩ => rfl | ⟨2, _⟩ => rfl | ⟨3, _⟩ => rfl]
  rfl

/-- The softmax weight. -/
theorem weight_at (b : Fin 4) (h : Fin 8) (c : Fin 2) (q k : Fin 2048) :
    val_main_v31 x0 x1 (ix5 b h c q k)
      = Ideal.div (val_main_v27 x0 x1 (ix5 b h c q k)) (∑ j, val_main_v27 x0 x1 (ix5 b h c q j)) := by
  rw [val_main_v31_apply, val_main_v30_apply, val_main_v29_apply, val_main_v28_apply, val_main_cst_4_apply]
  rw [show (FloatOps.ofBits .f32 0x00000000#32 : Ideal .f32) = 0 from Ideal.ofBits_zero_f32, zero_add]
  refine congrArg (Ideal.div _) (Finset.sum_congr rfl fun j _ => congrArg _ ?_)
  exact funext fun a => match a with | ⟨0, _⟩ => rfl | ⟨1, _⟩ => rfl | ⟨2, _⟩ => rfl | ⟨3, _⟩ => rfl | ⟨4, _⟩ => rfl

/-- The reshaped slice's index, whichever half is taken. -/
theorem idx33 (b : Fin 4) (h : Fin 8) (q k : Fin 2048) :
    idx_main_v32 (idx_main_v33 (ix4 b h q k)) = ix5 b h 0 q k := by
  have := b.isLt; have := h.isLt; have := q.isLt; have := k.isLt
  refine funext fun a => match a with
    | ⟨0, _⟩ => Fin.ext ?_ | ⟨1, _⟩ => Fin.ext ?_ | ⟨2, _⟩ => rfl | ⟨3, _⟩ => Fin.ext ?_ | ⟨4, _⟩ => Fin.ext ?_
  · show (((b.val * 8 + h.val) * 2048 + q.val) * 2048 + k.val) / 33554432 = b.val; omega
  · show (((b.val * 8 + h.val) * 2048 + q.val) * 2048 + k.val) / 4194304 % 8 = h.val; omega
  · show (((b.val * 8 + h.val) * 2048 + q.val) * 2048 + k.val) / 2048 % 2048 = q.val; omega
  · show (((b.val * 8 + h.val) * 2048 + q.val) * 2048 + k.val) % 2048 = k.val; omega

theorem idx35 (b : Fin 4) (h : Fin 8) (q k : Fin 2048) :
    idx_main_v34 (idx_main_v35 (ix4 b h q k)) = ix5 b h 1 q k := by
  have := b.isLt; have := h.isLt; have := q.isLt; have := k.isLt
  refine funext fun a => match a with
    | ⟨0, _⟩ => Fin.ext ?_ | ⟨1, _⟩ => Fin.ext ?_ | ⟨2, _⟩ => rfl | ⟨3, _⟩ => Fin.ext ?_ | ⟨4, _⟩ => Fin.ext ?_
  · show (((b.val * 8 + h.val) * 2048 + q.val) * 2048 + k.val) / 33554432 = b.val; omega
  · show (((b.val * 8 + h.val) * 2048 + q.val) * 2048 + k.val) / 4194304 % 8 = h.val; omega
  · show (((b.val * 8 + h.val) * 2048 + q.val) * 2048 + k.val) / 2048 % 2048 = q.val; omega
  · show (((b.val * 8 + h.val) * 2048 + q.val) * 2048 + k.val) % 2048 = k.val; omega

/-- The scalar that weighs the second half's attention. -/
theorem lam_at (i : S_.Idx) :
    val_main_v19 x3 i
      = Ideal.exp (∑ x, x3 (ix3 1 0 x) * x3 (ix3 1 1 x)) - Ideal.exp (∑ x, x3 (ix3 1 2 x) * x3 (ix3 1 3 x))
          + Ideal.ofBits .f32 0x3F0E59D5#32 := by
  pointwise [val_main_v19, val_main_cst_1, val_main_v18, val_main_v17, val_main_v16, val_main_cst_0, val_main_v15, val_main_v14,
    val_main_v13, val_main_v12, val_main_v11, val_main_v10, val_main_v9, val_main_cst, val_main_v8, val_main_v7, val_main_v6,
    val_main_v5, val_main_v4, val_main_v1, val_main_v0]

/-- The attention before its normalization. -/
theorem out_at (b : Fin 4) (q : Fin 2048) (h : Fin 8) (e : Fin 256) :
    val_main_v40 x0 x1 x2 x3 (ix4 b q h e)
      = ∑ k, x2 (ix4 b k h e) * (val_main_v31 x0 x1 (ix5 b h 0 q k) - val_main_v19 x3 ix0 * val_main_v31 x0 x1 (ix5 b h 1 q k)) := by
  rw [val_main_v40_apply, val_main_v39_apply]
  refine Finset.sum_congr rfl fun k _ => ?_
  rw [show lidx_main_v39 (idx_main_v40 (ix4 b q h e)) k = ix4 b k h e from
      funext fun a => match a with | ⟨0, _⟩ => rfl | ⟨1, _⟩ => rfl | ⟨2, _⟩ => rfl | ⟨3, _⟩ => rfl,
    show ridx_main_v39 (idx_main_v40 (ix4 b q h e)) k = ix4 b h q k from
      funext fun a => match a with | ⟨0, _⟩ => rfl | ⟨1, _⟩ => rfl | ⟨2, _⟩ => rfl | ⟨3, _⟩ => rfl,
    val_main_v38_apply, val_main_v37_apply, val_main_v36_apply, val_main_v35_apply, val_main_v34_apply, val_main_v33_apply,
    val_main_v32_apply, idx33, idx35]
  exact congrArg (fun z => x2 (ix4 b k h e) * (_ - val_main_v19 x3 z * _)) (funext fun a => a.elim0)

/-- The reference's result at an index: the attention at its token and head, normalized over the head's columns. -/
theorem result_at (b : Fin 4) (q : Fin 2048) (h : Fin 8) (e : Fin 256) (i : S8192x2048.Idx)
    (h0 : (i 0).val = b.val * 2048 + q.val) (h1 : (i 1).val = h.val * 256 + e.val) :
    val_main_v57 x0 x1 x2 x3 x4 i
      = val_main_v40 x0 x1 x2 x3 (ix4 b q h e)
          * Ideal.rsqrt (Ideal.div (∑ x, val_main_v40 x0 x1 x2 x3 (ix4 b q h x) * val_main_v40 x0 x1 x2 x3 (ix4 b q h x))
              (Ideal.ofBits .f32 0x43800000#32) + Ideal.ofBits .f32 0x358637BD#32)
          * x4 (ix2 1 e) * Ideal.ofBits .f32 0x3EE34C57#32 := by
  have hi : idx_main_v56 i = ix4 b q h e := by
    have := b.isLt; have := h.isLt; have := q.isLt; have := e.isLt
    refine funext fun a => match a with
      | ⟨0, _⟩ => Fin.ext ?_ | ⟨1, _⟩ => Fin.ext ?_ | ⟨2, _⟩ => Fin.ext ?_ | ⟨3, _⟩ => Fin.ext ?_
    · show ((i 0).val * 2048 + (i 1).val) / 4194304 = b.val; omega
    · show ((i 0).val * 2048 + (i 1).val) / 2048 % 2048 = q.val; omega
    · show ((i 0).val * 2048 + (i 1).val) / 256 % 8 = h.val; omega
    · show ((i 0).val * 2048 + (i 1).val) % 256 = e.val; omega
  rw [val_main_v57_apply, val_main_v56_apply, hi]
  generalize hy : val_main_v40 x0 x1 x2 x3 = y
  pointwise [val_main_v55, val_main_v54, val_main_cst_8, val_main_v53, val_main_v52, val_main_v51, val_main_v50, val_main_v49,
    val_main_v48, val_main_v47, val_main_v46, val_main_cst_7, val_main_v45, val_main_v44, val_main_cst_6, val_main_v43, val_main_v42,
    val_main_cst_5, val_main_v41, val_main_v2, val_main_v3]
  simp only [hy]

end Cert.Att3.Ref
-- ==== Proof.Att3Arr.lean ====
module

public import proofs.«01_k».proof.Proof.Att3Entry
public import proofs.«01_k».proof.Proof.Att3Block
public import proofs.«01_k».proof.Proof.AttMath
public import proofs.«01_k».proof.Proof.Att3Ref
public import Idealize.ShloMosaic.Lib.Pipeline.ValueKit
public import Idealize.ShloMosaic.Lib.Claim

@[expose] public section

set_option maxRecDepth 16384

noncomputable section

/-! # What the result array holds: the reference of the arguments -/

namespace Cert.Att3
open Idealize.ShloMosaic Idealize.ShloMosaic.TcCoe Idealize.SL.Sem
open Cert.Att Cert.Att3Ideal Cert.Att3Ideal.Gen

variable (m : (ℓ : Loc nD τ sig) → Buf (Elt Ideal) ℓ) (c : Dev nD)

/-- Where each window's block lies at a grid point: batch `b`, head `h` and query block `s`. -/
theorem places : ∀ t : Fin cfg0.N, ∃ (b : Fin 4) (h : Fin 8) (s : Fin 8),
    (win0_0.index t 0 = b * 8 + s ∧ win0_0.index t 1 = h)
    ∧ (win0_1.index t 0 = b ∧ win0_1.index t 1 = 8 + h)
    ∧ (win0_2.index t 0 = b ∧ win0_2.index t 1 = 16 + h)
    ∧ (win0_3.index t 0 = 1 ∧ win0_3.index t 1 = 0 ∧ win0_3.index t 2 = 0)
    ∧ (win0_4.index t 0 = 1 ∧ win0_4.index t 1 = 0 ∧ win0_4.index t 2 = 0)
    ∧ (win0_5.index t 0 = b * 8 + s ∧ win0_5.index t 1 = h) := by
  decide +kernel

abbrev a0 : FVec Ideal S4x2048x8x2x128 .f32 := m ((c.tc : Thread nD τ).loc main_arg0)
abbrev a1 : FVec Ideal S4x2048x8x2x128 .f32 := m ((c.tc : Thread nD τ).loc main_arg1)
abbrev a2 : FVec Ideal S4x2048x8x256 .f32 := m ((c.tc : Thread nD τ).loc main_arg2)
abbrev a3 : FVec Ideal S2x4x128 .f32 := m ((c.tc : Thread nD τ).loc main_arg3)
abbrev a4 : FVec Ideal S2x256 .f32 := m ((c.tc : Thread nD τ).loc main_arg4)

abbrev G : Buf (Elt Ideal) ((c.tc : Thread nD τ).loc main_v9) :=
  Cert.Att3RefIdeal.Read.val_main_v57 (a0 m c) (a1 m c) (a2 m c) (a3 m c) (a4 m c)

section blocks
variable (t : Fin cfg0.N) (b : Fin 4) (h : Fin 8)

/-- The block of queries. -/
theorem q_blk (s : Fin 8) (e0 : win0_0.index t 0 = b * 8 + s) (e1 : win0_0.index t 1 = h) (r : Fin 256) (u : Fin 2)
    (x : Fin 128) (q : Fin 2048) (hq : (q : ℕ) = s * 256 + r) (y : Fin 256) (hy : (y : ℕ) = u * 128 + x) :
    (iblk m c 0 t : Vec Ideal S256x256 .bf16) (ix2 r y)
      = Ideal.div (a0 m c (ix5 b q h u x)) (Ideal.log (Ideal.ofBits .f32 0x40000000#32)) := by
  refine q_at m c b q h u x _ ?_ ?_
  all_goals blk_simp [e0, e1]
  all_goals omega

/-- The block of keys. -/
theorem k_blk (e0 : win0_1.index t 0 = b) (e1 : win0_1.index t 1 = 8 + h) (j : Fin 2048) (u : Fin 2)
    (x : Fin 128) (y : Fin 256) (hy : (y : ℕ) = u * 128 + x) :
    (iblk m c 1 t : Vec Ideal S2048x256 .bf16) (ix2 j y) = a1 m c (ix5 b j h u x) := by
  refine k_at m c b j h u x _ ?_ ?_
  all_goals blk_simp [e0, e1]
  all_goals omega

/-- The block of values. -/
theorem v_blk (e0 : win0_2.index t 0 = b) (e1 : win0_2.index t 1 = 16 + h) (j : Fin 2048) (y : Fin 256) :
    (iblk m c 2 t : Vec Ideal S2048x256 .bf16) (ix2 j y) = a2 m c (ix4 b j h y) := by
  refine v_at m c b j h y _ ?_ ?_
  all_goals blk_simp [e0, e1]
  all_goals omega

/-- The lambda vectors. -/
theorem l_blk (e0 : win0_3.index t 0 = 1) (e1 : win0_3.index t 1 = 0) (e2 : win0_3.index t 2 = 0) (a : Fin 4) (x : Fin 128) :
    (iblk m c 3 t : Vec Ideal S1x4x128 .f32) (ix3 0 a x) = a3 m c (ix3 1 a x) := by
  blk_ext [iblk, V, e0, e1, e2]

/-- The gains. -/
theorem g_blk (e0 : win0_4.index t 0 = 1) (e1 : win0_4.index t 1 = 0) (e2 : win0_4.index t 2 = 0) (x : Fin 256) :
    (iblk m c 4 t : Vec Ideal S1x1x256 .f32) (ix3 0 0 x) = a4 m c (ix2 1 x) := by
  refine Eq.trans ?_ (g_at m c 1 x)
  refine congrArg (V m c main_v8 : FVec Ideal S2x1x256 .f32) (a₂ := ix3 1 0 x) ?_
  blk_ext [e0, e1, e2]

end blocks

/-- The difference of the halves, the reference's and the kernel's, at real arguments. -/
theorem diff_eq (h0 : ∀ i, ∃ r : ℝ, a0 m c i = (r : EReal)) (h1 : ∀ i, ∃ r : ℝ, a1 m c i = (r : EReal))
    (h2 : ∀ i, ∃ r : ℝ, a2 m c i = (r : EReal)) (h3 : ∀ i, ∃ r : ℝ, a3 m c i = (r : EReal))
    (b : Fin 4) (q : Fin 2048) (h : Fin 8) (e : Fin 256) :
    half (fun j => ∑ x : Fin 128, Ideal.div (a0 m c (ix5 b q h 0 x)) (Ideal.log (Ideal.ofBits .f32 0x40000000#32))
            * a1 m c (ix5 b j h 0 x)) (fun j => a2 m c (ix4 b j h e))
        - Cert.Att3RefIdeal.Read.val_main_v19 (F := Ideal) (a3 m c) ix0
          * half (fun j => ∑ x : Fin 128, Ideal.div (a0 m c (ix5 b q h 1 x)) (Ideal.log (Ideal.ofBits .f32 0x40000000#32))
            * a1 m c (ix5 b j h 1 x)) (fun j => a2 m c (ix4 b j h e))
      = Cert.Att3RefIdeal.Read.val_main_v40 (F := Ideal) (a0 m c) (a1 m c) (a2 m c) (a3 m c) (ix4 b q h e) := by
  choose A0 hA0 using h0
  choose A1 hA1 using h1
  choose A2 hA2 using h2
  choose A3 hA3 using h3
  obtain ⟨l, hl⟩ : ∃ l : ℝ, Cert.Att3RefIdeal.Read.val_main_v19 (F := Ideal) (a3 m c) ix0 = (l : EReal) := by
    rw [Ref.lam_at]
    obtain ⟨z, hz⟩ : ∃ z : ℝ, Ideal.ofBits .f32 0x3F0E59D5#32 = (z : EReal) := by
      simp only [Ideal.ofBits, Ideal.ieee]
      exact ⟨_, rfl⟩
    simp only [hA3, ← EReal.coe_mul, Soft.coe_sum, Ideal.exp_coe, hz, ← EReal.coe_sub, ← EReal.coe_add]
    exact ⟨_, rfl⟩
  have hw : ∀ (u : Fin 2) (k : Fin 2048),
      Cert.Att3RefIdeal.Read.val_main_v31 (F := Ideal) (a0 m c) (a1 m c) (ix5 b h u q k)
        = ((Soft.weight (fun j : Fin 2048 => ∑ x, A0 (ix5 b q h u x) * A1 (ix5 b j h u x)) k : ℝ) : EReal) := fun u k => by
    rw [Ref.weight_at]
    simp only [Ref.exp_at, Ref.max_at, Ref.score_at, hA0, hA1, ← EReal.coe_mul, Soft.coe_sum, Soft.negInf]
    exact Soft.ref_weight (fun j : Fin 2048 => ∑ x, A0 (ix5 b q h u x) * A1 (ix5 b j h u x)) k _ rfl
  have hh : ∀ u : Fin 2, half (fun j => ∑ x : Fin 128, Ideal.div (a0 m c (ix5 b q h u x)) (Ideal.log (Ideal.ofBits .f32 0x40000000#32))
            * a1 m c (ix5 b j h u x)) (fun j => a2 m c (ix4 b j h e))
        = ((∑ k, A2 (ix4 b k h e) * Soft.weight (fun j : Fin 2048 => ∑ x, A0 (ix5 b q h u x) * A1 (ix5 b j h u x)) k : ℝ) : EReal) := fun u => by
    unfold half
    simp only [hA0, hA1, hA2, Soft.score_div, Soft.negInf]
    exact Soft.kernel_half (fun j : Fin 2048 => ∑ x, A0 (ix5 b q h u x) * A1 (ix5 b j h u x)) (fun k => A2 (ix4 b k h e)) _ rfl
  rw [Ref.out_at, hl, hh 0, hh 1]
  simp only [hw, hA2]
  exact Soft.halves_sub _ _ _ _

/-- At real arguments, the result array ends holding the reference's result. -/
theorem final (h0 : ∀ i, ∃ r : ℝ, a0 m c i = (r : EReal)) (h1 : ∀ i, ∃ r : ℝ, a1 m c i = (r : EReal))
    (h2 : ∀ i, ∃ r : ℝ, a2 m c i = (r : EReal)) (h3 : ∀ i, ∃ r : ℝ, a3 m c i = (r : EReal)) :
    (dats m 0 c).arrAt 5 cfg0.N = G m c := by
  refine (dats m 0 c).arrAt_eq_of_covers 5 _ (by decide +kernel) fun t hf y => ?_
  blk_simp
  rw [after0_5]
  obtain ⟨b, h, s, ⟨q0, q1⟩, ⟨k0, k1⟩, ⟨v0, v1⟩, ⟨l0, l1, l2⟩, ⟨g0, g1, g2⟩, o0, o1⟩ := places t
  obtain ⟨r, e, rfl⟩ : ∃ r e : Fin 256, y = ix2 r e := ⟨y 0, y 1, funext fun a => match a with | ⟨0, _⟩ => rfl | ⟨1, _⟩ => rfl⟩
  obtain ⟨q, hq⟩ : ∃ q : Fin 2048, (q : ℕ) = s * 256 + r := ⟨⟨s * 256 + r, by omega⟩, rfl⟩
  have e0 : (((win0_5.blk t).view.emb (ix2 r e)) 0 : ℕ) = b * 2048 + q := by blk_simp [o0, o1]; omega
  have e1 : (((win0_5.blk t).view.emb (ix2 r e)) 1 : ℕ) = h * 256 + e := by blk_simp [o0, o1]
  refine Eq.trans ?_ (Ref.result_at (a0 m c) (a1 m c) (a2 m c) (a3 m c) (a4 m c) b q h e _ e0 e1).symm
  refine (block _ _ _ _ _ r e).trans ?_
  rw [g_blk m c t g0 g1 g2 e]
  refine Eq.trans (congrArg (fun d => tail d (a4 m c (ix2 1 e)) e) (funext fun y => ?_))
    (show tail (fun y => Cert.Att3RefIdeal.Read.val_main_v40 (F := Ideal) (a0 m c) (a1 m c) (a2 m c) (a3 m c) (ix4 b q h y))
      (a4 m c (ix2 1 e)) e = _ from rfl)
  rw [← diff_eq m c h0 h1 h2 h3 b q h y, Ref.lam_at]
  have hl : lam (iblk m c 3 t : Vec Ideal S1x4x128 .f32) = lam (fun i => a3 m c (ix3 1 (i 1) (i 2))) := by
    unfold lam
    simp only [l_blk m c t l0 l1 l2]
    rfl
  rw [hl]
  have hv : ∀ j, (iblk m c 2 t : Vec Ideal S2048x256 .bf16) (ix2 j y) = a2 m c (ix4 b j h y) := fun j => v_blk m c t b h v0 v1 j y
  have hq0 : ∀ x : Fin 128, (iblk m c 0 t : Vec Ideal S256x256 .bf16) (ix2 r ⟨x, by omega⟩)
      = Ideal.div (a0 m c (ix5 b q h 0 x)) (Ideal.log (Ideal.ofBits .f32 0x40000000#32)) := fun x =>
    q_blk m c t b h s q0 q1 r 0 x q hq _ (by simp)
  have hq1 : ∀ x : Fin 128, (iblk m c 0 t : Vec Ideal S256x256 .bf16) (ix2 r ⟨128 + x, by omega⟩)
      = Ideal.div (a0 m c (ix5 b q h 1 x)) (Ideal.log (Ideal.ofBits .f32 0x40000000#32)) := fun x =>
    q_blk m c t b h s q0 q1 r 1 x q hq _ (by simp)
  have hk0 : ∀ (j : Fin 2048) (x : Fin 128), (iblk m c 1 t : Vec Ideal S2048x256 .bf16) (ix2 j ⟨x, by omega⟩)
      = a1 m c (ix5 b j h 0 x) := fun j x => k_blk m c t b h k0 k1 j 0 x _ (by simp)
  have hk1 : ∀ (j : Fin 2048) (x : Fin 128), (iblk m c 1 t : Vec Ideal S2048x256 .bf16) (ix2 j ⟨128 + x, by omega⟩)
      = a1 m c (ix5 b j h 1 x) := fun j x => k_blk m c t b h k0 k1 j 1 x _ (by simp)
  simp only [hv, hq0, hq1, hk0, hk1]
  rfl

end Cert.Att3
-- ==== Proof.RopeMath.lean ====
module

public import Idealize.ShloMosaic.Lib.Pointwise
public import Idealize.ShloMosaic.Lib.Claim
public import proofs.«01_k».proof.Proof.AttMath

@[expose] public section

noncomputable section

/-! # The rotary embedding of one lane of a head -/

namespace Cert.Rope
open Idealize.ShloMosaic

/-- The angle of lane `l` at position `p`. -/
def ang (p : BitVec 32) (l : ℕ) : EReal :=
  (FloatOps.sitofp .f32 p : Ideal .f32) * Ideal.pow (Ideal.ofBits .f32 0x48F42400#32)
    (Ideal.div (-(Ideal.ofBits .f32 0x40000000#32 * (FloatOps.sitofp .f32 (BitVec.ofNat 32 l) : Ideal .f32)))
      (Ideal.ofBits .f32 0x42000000#32))

/-- The cosine table: what a lane is multiplied by. -/
def cTab (p : BitVec 32) (j : ℕ) : EReal :=
  if _ : j < 16 then Ideal.cos (ang p j) else if _ : j - 16 < 16 then Ideal.cos (ang p (j - 16)) else 1

/-- The table for the lane sixteen places above. -/
def loTab (p : BitVec 32) (j : ℕ) : EReal := if _ : j < 16 then -Ideal.sin (ang p j) else 0

/-- The table for the lane sixteen places below. -/
def hiTab (p : BitVec 32) (j : ℕ) : EReal :=
  if _ : j < 16 then 0 else if _ : j - 16 < 16 then Ideal.sin (ang p (j - 16)) else 0

/-- The factor of the queries: the head's scale over `log 2`. -/
def sigma : EReal := Ideal.div (Ideal.ofBits .f32 0x3DB504F3#32) (Ideal.log (Ideal.ofBits .f32 0x40000000#32))

/-- A lane of a head turned by its angle, or a lane past the rotary width kept. -/
def turn (x : Fin 128 → EReal) (p : BitVec 32) (j : Fin 128) : EReal :=
  if h : (j : ℕ) < 16 then x j * Ideal.cos (ang p j) - x ⟨j + 16, by omega⟩ * Ideal.sin (ang p j)
  else if h' : (j : ℕ) < 32 then
    x j * Ideal.cos (ang p (j - 16)) + x ⟨j - 16, by omega⟩ * Ideal.sin (ang p (j - 16))
  else x j

theorem scale_real : ∃ s : ℝ, 0 < s ∧ Ideal.ofBits .f32 0x3DB504F3#32 = (s : EReal) := by
  refine ⟨11863283 / 134217728, by norm_num, ?_⟩
  simp [Ideal.ofBits, Ideal.ieee]
  rw [← EReal.coe_mul]
  norm_num

theorem log_two : Ideal.log (Ideal.ofBits .f32 0x40000000#32) = ((Real.log 2 : ℝ) : EReal) := by
  rw [Att.Soft.two]
  exact (Ideal.log_coe _).trans (if_neg (by norm_num))

theorem sigma_real : ∃ s : ℝ, 0 < s ∧ sigma = (s : EReal) := by
  obtain ⟨s, hs, h⟩ := scale_real
  have hl : (0 : ℝ) < Real.log 2 := Real.log_pos (by norm_num)
  refine ⟨s * (1 / Real.log 2), by positivity, ?_⟩
  rw [sigma, h, log_two, Ideal.div_coe hl.ne', ← EReal.coe_mul]

/-- The reference's scaling and division by `log 2` are the one factor. -/
theorem scaled (t : EReal) :
    Ideal.div (t * Ideal.ofBits .f32 0x3DB504F3#32) (Ideal.log (Ideal.ofBits .f32 0x40000000#32)) = t * sigma := by
  obtain ⟨s, hs, h⟩ := scale_real
  have hl : (0 : ℝ) < Real.log 2 := Real.log_pos (by norm_num)
  rw [sigma, h, log_two, Ideal.div_coe hl.ne', Ideal.div_coe hl.ne', mul_assoc]

/-- The three products with the tables turn the lane. -/
theorem turned (x : Fin 128 → EReal) (p : BitVec 32) (j : Fin 128) (y z : EReal)
    (hy : ∀ h : (j : ℕ) < 16, y = x ⟨j + 16, by omega⟩)
    (hz : ∀ h : ¬(j : ℕ) < 16, (j : ℕ) < 32 → z = x ⟨j - 16, by omega⟩) :
    x j * cTab p j + y * loTab p j + z * hiTab p j = turn x p j := by
  unfold cTab loTab hiTab turn
  by_cases h : (j : ℕ) < 16
  · simp only [h, dif_pos, mul_zero, add_zero, hy h, mul_neg]
    rfl
  · by_cases h' : (j : ℕ) < 32
    · have h'' : (j : ℕ) - 16 < 16 := by omega
      simp only [h, h', h'', dif_pos, dif_neg, not_false_eq_true, mul_zero, add_zero, hz h h']
    · have h'' : ¬(j : ℕ) - 16 < 16 := by omega
      simp only [h, h', h'', dif_neg, not_false_eq_true, mul_zero, add_zero, mul_one]

theorem mul_sigma (a b : EReal) : (a + b) * sigma = a * sigma + b * sigma := by
  obtain ⟨s, hs, h⟩ := sigma_real
  rw [h]
  exact EReal.right_distrib_of_nonneg_of_ne_top (by exact_mod_cast hs.le) (EReal.coe_ne_top s) a b

/-- The same with the factor of the queries in the tables. -/
theorem turned_scaled (x : Fin 128 → EReal) (p : BitVec 32) (j : Fin 128) (y z : EReal)
    (hy : ∀ h : (j : ℕ) < 16, y = x ⟨j + 16, by omega⟩)
    (hz : ∀ h : ¬(j : ℕ) < 16, (j : ℕ) < 32 → z = x ⟨j - 16, by omega⟩) :
    x j * (cTab p j * sigma) + y * (loTab p j * sigma) + z * (hiTab p j * sigma) = turn x p j * sigma := by
  rw [← turned x p j y z hy hz, mul_sigma, mul_sigma, mul_assoc, mul_assoc, mul_assoc]

/-- The reference's two halves, put side by side before the lanes past the rotary width. -/
theorem turn_of (x : Fin 128 → EReal) (t : Fin 16 → EReal) (p : BitVec 32) (j : Fin 128) (ht : ∀ l, t l = ang p l) :
    (if h₁ : (j : ℕ) < 32 then
        if h₂ : (j : ℕ) < 16 then
          x ⟨j, by omega⟩ * Ideal.cos (t ⟨j, h₂⟩) - x ⟨16 + j, by omega⟩ * Ideal.sin (t ⟨j, h₂⟩)
        else
          x ⟨16 + (j - 16), by omega⟩ * Ideal.cos (t ⟨j - 16, by omega⟩) + x ⟨j - 16, by omega⟩ * Ideal.sin (t ⟨j - 16, by omega⟩)
      else x ⟨32 + (j - 32), by omega⟩) = turn x p j := by
  unfold turn
  by_cases h : (j : ℕ) < 16
  · have h' : (j : ℕ) < 32 := by omega
    simp only [h, h', dif_pos, ht, Nat.add_comm 16]
  · by_cases h' : (j : ℕ) < 32
    · have e : (⟨16 + (j - 16), by omega⟩ : Fin 128) = j := Fin.ext (by simp only []; omega)
      simp only [h, h', dif_pos, dif_neg, not_false_eq_true, ht, e]
    · have e : (⟨32 + (j - 32), by omega⟩ : Fin 128) = j := Fin.ext (by simp only []; omega)
      simp only [h, h', dif_neg, not_false_eq_true, e]

/-- A row of a table repeated four times, read at a lane. -/
theorem tile (f : Fin 128 → EReal) (a : Fin 4) (j : Fin 128) (e : Fin 512) (he : (e : ℕ) = a * 128 + j) :
    (if h : (e : ℕ) < 128 then f ⟨e, h⟩
      else if h : (e : ℕ) - 128 < 128 then f ⟨e - 128, h⟩
      else if h : (e : ℕ) - 128 - 128 < 128 then f ⟨e - 128 - 128, h⟩
      else f ⟨e - 128 - 128 - 128, by omega⟩) = f j := by
  split_ifs
  all_goals exact congrArg f (Fin.ext (by simp only []; omega))

end Cert.Rope
-- ==== Proof.QkvEntry.lean ====
module

public import proofs.«01_k».proof.Proof.Gen.QkvIdeal.Value
public import proofs.«01_k».proof.Proof.RopeMath
public import Idealize.ShloMosaic.Lib.Pointwise
public import Idealize.ShloMosaic.Lib.StableHlo.RunRead

@[expose] public section

set_option maxRecDepth 16384

noncomputable section

/-! # The rotary tables that the call reads, from the positions -/

namespace Cert.Qkvp
open Idealize.ShloMosaic Idealize.ShloMosaic.TcCoe Idealize.SL.Sem
open Cert.QkvIdeal Cert.QkvIdeal.Gen Cert.Rope

variable (m : (ℓ : Loc nD τ sig) → Buf (Elt Ideal) ℓ) (c : Dev nD)

/-- The position of a row. -/
abbrev pos (r : Fin 8192) : BitVec 32 :=
  (m ((c.tc : Thread nD τ).loc main_arg1) : IVec S4x2048 32) (ix2 ⟨r / 2048, by omega⟩ ⟨r % 2048, by omega⟩)

theorem c_at0 (r : Fin 8192) (j : Fin 128) :
    (V m c main_v48 : FVec Ideal S3x8192x128 .f32) (ix3 0 r j) = (cTab (pos m c r) j * sigma : EReal) := by
  unfold V
  unfold hostOps0
  after_reads_simp
  pointwise
  after_reads_simp
  pointwise
  after_reads_simp
  pointwise
  rfl

theorem c_at1 (r : Fin 8192) (j : Fin 128) :
    (V m c main_v48 : FVec Ideal S3x8192x128 .f32) (ix3 1 r j) = (cTab (pos m c r) j : EReal) := by
  unfold V
  unfold hostOps0
  after_reads_simp
  pointwise
  after_reads_simp
  pointwise
  after_reads_simp
  pointwise
  rfl

theorem c_at2 (r : Fin 8192) (j : Fin 128) :
    (V m c main_v48 : FVec Ideal S3x8192x128 .f32) (ix3 2 r j) = (1 : EReal) := by
  unfold V
  unfold hostOps0
  after_reads_simp
  pointwise
  after_reads_simp
  pointwise

theorem lo_at0 (r : Fin 8192) (j : Fin 128) :
    (V m c main_v52 : FVec Ideal S3x8192x128 .f32) (ix3 0 r j) = (loTab (pos m c r) j * sigma : EReal) := by
  unfold V
  unfold hostOps0
  after_reads_simp
  pointwise
  after_reads_simp
  pointwise
  after_reads_simp
  pointwise
  rfl

theorem lo_at1 (r : Fin 8192) (j : Fin 128) :
    (V m c main_v52 : FVec Ideal S3x8192x128 .f32) (ix3 1 r j) = (loTab (pos m c r) j : EReal) := by
  unfold V
  unfold hostOps0
  after_reads_simp
  pointwise
  after_reads_simp
  pointwise
  after_reads_simp
  pointwise
  rfl

theorem lo_at2 (r : Fin 8192) (j : Fin 128) :
    (V m c main_v52 : FVec Ideal S3x8192x128 .f32) (ix3 2 r j) = (0 : EReal) := by
  unfold V
  unfold hostOps0
  after_reads_simp
  pointwise
  after_reads_simp
  pointwise

theorem hi_at0 (r : Fin 8192) (j : Fin 128) :
    (V m c main_v56 : FVec Ideal S3x8192x128 .f32) (ix3 0 r j) = (hiTab (pos m c r) j * sigma : EReal) := by
  unfold V
  unfold hostOps0
  after_reads_simp
  pointwise
  after_reads_simp
  pointwise
  after_reads_simp
  pointwise
  rfl

theorem hi_at1 (r : Fin 8192) (j : Fin 128) :
    (V m c main_v56 : FVec Ideal S3x8192x128 .f32) (ix3 1 r j) = (hiTab (pos m c r) j : EReal) := by
  unfold V
  unfold hostOps0
  after_reads_simp
  pointwise
  after_reads_simp
  pointwise
  after_reads_simp
  pointwise
  rfl

theorem hi_at2 (r : Fin 8192) (j : Fin 128) :
    (V m c main_v56 : FVec Ideal S3x8192x128 .f32) (ix3 2 r j) = (0 : EReal) := by
  unfold V
  unfold hostOps0
  after_reads_simp
  pointwise
  after_reads_simp
  pointwise

end Cert.Qkvp
-- ==== Proof.QkvRef.lean ====
module

public import proofs.«01_k».proof.Proof.Gen.QkvRefIdeal.Read
public import proofs.«01_k».proof.Proof.RopeMath

@[expose] public section

set_option maxRecDepth 16384

noncomputable section

/-! # The reference's queries, keys and values, entry by entry -/

namespace Cert.Qkvp.Ref
open Idealize.ShloMosaic Idealize.ShloMosaic.TcCoe Idealize.SL.Sem
open Cert.QkvRefIdeal Cert.QkvRefIdeal.Read Cert.Rope

variable (x0 : (⟨S8192x2048, .bf16⟩ : BufTy).Contents (Elt Ideal)) (x1 : (⟨S4x2048, .i32⟩ : BufTy).Contents (Elt Ideal))
  (x2 : (⟨S2x2048x6144, .f32⟩ : BufTy).Contents (Elt Ideal))

/-- The product of row `r` with column `e` of the weights. -/
def dot (r : Fin 8192) (e : Fin 6144) : EReal := ∑ k : Fin 2048, x0 (ix2 r k) * x2 (ix3 0 k e)

theorem dot_at (b : Fin 4) (s : Fin 2048) (e : Fin 6144) (r : Fin 8192) (hr : (r : ℕ) = b * 2048 + s) :
    val_main_v21 (F := Ideal) x0 x2 (ix3 b s e) = dot x0 x2 r e := by
  rw [val_main_v21_apply]
  refine Finset.sum_congr rfl fun k _ => congr_arg₂ (· * ·) ?_ ?_
  · rw [val_main_v18_apply]
    refine congrArg x0 (funext fun a => match a with
      | ⟨0, _⟩ => Fin.ext ?_
      | ⟨1, _⟩ => Fin.ext ?_)
    all_goals simp [idx_main_v18, lidx_main_v21]
    all_goals omega
  · rw [val_main_v20_apply, val_main_v19_apply]
    refine congrArg x2 (funext fun a => match a with
      | ⟨0, _⟩ => Fin.ext ?_
      | ⟨1, _⟩ => Fin.ext ?_
      | ⟨2, _⟩ => Fin.ext ?_)
    all_goals simp [idx_main_v20, idx_main_v19, ridx_main_v21]
    all_goals omega

theorem ang_at (b : Fin 4) (s : Fin 2048) (l : Fin 16) : val_main_v15 (F := Ideal) x1 (ix3 b s l) = ang (x1 (ix2 b s)) l := by
  unfold val_main_v15 val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1 val_main_cst_2
  pointwise
  rfl

/-- The queries, turned. -/
theorem q_turn (b : Fin 4) (s : Fin 2048) (h : Fin 8) (u : Fin 2) (j : Fin 128) (r : Fin 8192) (hr : (r : ℕ) = b * 2048 + s) :
    val_main_v45 (F := Ideal) x0 x1 x2 (ix5 b s h u j)
      = turn (fun l => dot x0 x2 r ⟨h * 256 + u * 128 + l, by omega⟩) (x1 (ix2 b s)) j := by
  have hT : ∀ l : Fin 16, val_main_v15 (F := Ideal) x1 (ix3 b s l) = ang (x1 (ix2 b s)) l := ang_at x1 b s
  have hY : ∀ e : Fin 6144, val_main_v21 (F := Ideal) x0 x2 (ix3 b s e) = dot x0 x2 r e := fun e => dot_at x0 x2 b s e r hr
  unfold val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v23 val_main_v22 val_main_v16 val_main_v17
  generalize val_main_v15 (F := Ideal) x1 = t at hT ⊢
  generalize val_main_v21 (F := Ideal) x0 x2 = y at hY ⊢
  pointwise
  simp only [hY]
  refine Eq.trans ?_ (turn_of _ (fun l => t (ix3 b s l)) _ j hT)
  simp only [Nat.add_assoc]

/-- The keys, turned. -/
theorem k_turn (b : Fin 4) (s : Fin 2048) (h : Fin 8) (u : Fin 2) (j : Fin 128) (r : Fin 8192) (hr : (r : ℕ) = b * 2048 + s) :
    val_main_v65 (F := Ideal) x0 x1 x2 (ix5 b s h u j)
      = turn (fun l => dot x0 x2 r ⟨2048 + h * 256 + u * 128 + l, by omega⟩) (x1 (ix2 b s)) j := by
  have hT : ∀ l : Fin 16, val_main_v15 (F := Ideal) x1 (ix3 b s l) = ang (x1 (ix2 b s)) l := ang_at x1 b s
  have hY : ∀ e : Fin 6144, val_main_v21 (F := Ideal) x0 x2 (ix3 b s e) = dot x0 x2 r e := fun e => dot_at x0 x2 b s e r hr
  unfold val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v25 val_main_v24 val_main_v16 val_main_v17
  generalize val_main_v15 (F := Ideal) x1 = t at hT ⊢
  generalize val_main_v21 (F := Ideal) x0 x2 = y at hY ⊢
  pointwise
  simp only [hY]
  refine Eq.trans ?_ (turn_of _ (fun l => t (ix3 b s l)) _ j hT)
  simp only [Nat.add_assoc]

/-- A column of queries. -/
theorem q_at (b : Fin 4) (s : Fin 2048) (h : Fin 8) (u : Fin 2) (j : Fin 128) (r : Fin 8192) (e : Fin 2048)
    (hr : (r : ℕ) = b * 2048 + s) (he : (e : ℕ) = h * 256 + u * 128 + j) :
    val_main_v73 (F := Ideal) x0 x1 x2 (ix2 r ⟨e, by omega⟩)
      = turn (fun l => dot x0 x2 r ⟨h * 256 + u * 128 + l, by omega⟩) (x1 (ix2 b s)) j * sigma := by
  unfold val_main_v73 val_main_v72 val_main_v71 val_main_v70 val_main_v69 val_main_v68 val_main_v67 val_main_v66 val_main_cst_4
    val_main_v47 val_main_v46 val_main_cst_3
  have hq := q_turn x0 x1 x2 b s h u j r hr
  generalize val_main_v45 (F := Ideal) x0 x1 x2 = t at hq ⊢
  generalize val_main_v65 (F := Ideal) x0 x1 x2 = y
  generalize val_main_v27 (F := Ideal) x0 x2 = z
  pointwise
  have hi : (ix5 (⟨r / 2048, by omega⟩ : Fin 4) (⟨r % 2048, by omega⟩ : Fin 2048) (⟨e / 256, by omega⟩ : Fin 8)
      (⟨e / 128 % 2, by omega⟩ : Fin 2) (⟨e % 128, by omega⟩ : Fin 128)) = ix5 b s h u j := by
    congr 1 <;> exact Fin.ext (by simp only []; omega)
  rw [hi, hq]
  exact scaled _

/-- A column of keys. -/
theorem k_at (b : Fin 4) (s : Fin 2048) (h : Fin 8) (u : Fin 2) (j : Fin 128) (r : Fin 8192) (e : Fin 2048)
    (hr : (r : ℕ) = b * 2048 + s) (he : (e : ℕ) = h * 256 + u * 128 + j) :
    val_main_v73 (F := Ideal) x0 x1 x2 (ix2 r ⟨2048 + e, by omega⟩)
      = turn (fun l => dot x0 x2 r ⟨2048 + h * 256 + u * 128 + l, by omega⟩) (x1 (ix2 b s)) j := by
  unfold val_main_v73 val_main_v72 val_main_v71 val_main_v70 val_main_v69 val_main_v68 val_main_v67 val_main_v66 val_main_cst_4
    val_main_v47 val_main_v46 val_main_cst_3
  have hk := k_turn x0 x1 x2 b s h u j r hr
  generalize val_main_v45 (F := Ideal) x0 x1 x2 = t
  generalize val_main_v65 (F := Ideal) x0 x1 x2 = y at hk ⊢
  generalize val_main_v27 (F := Ideal) x0 x2 = z
  pointwise
  have hi : (ix5 (⟨r / 2048, by omega⟩ : Fin 4) (⟨r % 2048, by omega⟩ : Fin 2048) (⟨e / 256, by omega⟩ : Fin 8)
      (⟨e / 128 % 2, by omega⟩ : Fin 2) (⟨e % 128, by omega⟩ : Fin 128)) = ix5 b s h u j := by
    congr 1 <;> exact Fin.ext (by simp only []; omega)
  rw [hi, hk]

/-- A column of values. -/
theorem v_at (r : Fin 8192) (e : Fin 2048) :
    val_main_v73 (F := Ideal) x0 x1 x2 (ix2 r ⟨4096 + e, by omega⟩) = dot x0 x2 r ⟨4096 + e, by omega⟩ := by
  have hy := dot_at x0 x2 ⟨r / 2048, by omega⟩ ⟨r % 2048, by omega⟩ ⟨4096 + e, by omega⟩ r (by simp only []; omega)
  unfold val_main_v73 val_main_v72 val_main_v71 val_main_v70 val_main_v69 val_main_v68 val_main_v67 val_main_v66 val_main_cst_4
    val_main_v47 val_main_v46 val_main_cst_3 val_main_v27 val_main_v26
  generalize val_main_v45 (F := Ideal) x0 x1 x2 = t
  generalize val_main_v65 (F := Ideal) x0 x1 x2 = y
  generalize val_main_v21 (F := Ideal) x0 x2 = z at hy ⊢
  pointwise
  rw [dif_neg (by omega), dif_neg (by omega), ← hy]
  exact congrArg (fun w => z (ix3 _ _ w)) (Fin.ext (by simp only []; omega))

end Cert.Qkvp.Ref
-- ==== Proof.QkvArr.lean ====
module

public import proofs.«01_k».proof.Proof.Gen.QkvIdeal.Value
public import proofs.«01_k».proof.Proof.QkvEntry
public import proofs.«01_k».proof.Proof.QkvRef
public import Idealize.ShloMosaic.Lib.Pipeline.ValueKit
public import Idealize.ShloMosaic.Lib.Pipeline.ReadBack
public import Idealize.ShloMosaic.Lib.Claim

@[expose] public section

set_option maxRecDepth 16384

noncomputable section

/-! # The product with the rotation: what its result array holds -/

namespace Cert.Qkvp
open Idealize.ShloMosaic Idealize.ShloMosaic.TcCoe Idealize.SL.Sem
open Cert.QkvIdeal Cert.QkvIdeal.Gen Cert.Rope

variable (m : (ℓ : Loc nD τ sig) → Buf (Elt Ideal) ℓ) (c : Dev nD)

/-- A point leaves the turned product of its input block with the weights that it carries on. -/
theorem left (t : Fin cfg0.N) : (outsAt0 m c t.val t.isLt).1
    = (k0_pay2 (F := Ideal) (iblk m c 0 t) (outsAt0 m c t.val t.isLt).2 (iblk m c 2 t) (iblk m c 3 t) (iblk m c 4 t)) := by
  by_cases h0 : t.val % 16 = 0
  · rw [outsAt0_A m c t h0]
    frame_out
  · rw [outsAt0_B m c t h0]
    frame_out
    simp only [sout0_B_0, read_unread_whole]

/-- Where each window's block lies at a grid point: column block `q` of part `P`, row block `s`. -/
theorem places : ∀ t : Fin cfg0.N, ∃ (P : Fin 3) (q : Fin 4) (s : Fin 16), (P * 4 + q : ℕ) = t.val / 16
    ∧ (win0_0.index t 0 = s ∧ win0_0.index t 1 = 0)
    ∧ (win0_1.index t 0 = 0 ∧ win0_1.index t 1 = 0 ∧ win0_1.index t 2 = P * 4 + q)
    ∧ (win0_2.index t 0 = P ∧ win0_2.index t 1 = s ∧ win0_2.index t 2 = 0)
    ∧ (win0_3.index t 0 = P ∧ win0_3.index t 1 = s ∧ win0_3.index t 2 = 0)
    ∧ (win0_4.index t 0 = P ∧ win0_4.index t 1 = s ∧ win0_4.index t 2 = 0)
    ∧ (win0_5.index t 0 = s ∧ win0_5.index t 1 = P * 4 + q) := by
  decide +kernel

abbrev a0 : FVec Ideal S8192x2048 .bf16 := m ((c.tc : Thread nD τ).loc main_arg0)
abbrev a1 : IVec S4x2048 32 := m ((c.tc : Thread nD τ).loc main_arg1)
abbrev a2 : FVec Ideal S2x2048x6144 .f32 := m ((c.tc : Thread nD τ).loc main_arg2)

/-- The weights cast at a point. -/
theorem cast_at (w : Vec Ideal S1x2048x512 .f32) (k : Fin 2048) (e : Fin 512) :
    k0_pay1 (F := Ideal) w (ix2 k e) = w (ix3 0 k e) := by
  pointwise [k0_pay1]

/-- The turned product stored at a point. -/
theorem block_at (v3 : Vec Ideal S512x2048 .bf16) (v4 : Vec Ideal S2048x512 .bf16) (v6 v9 v12 : Vec Ideal S1x512x128 .f32)
    (r e : Fin 512) (a : Fin 4) (j : Fin 128) (he : (e : ℕ) = a * 128 + j) (D : Fin 512 → EReal)
    (hD : ∀ e, ∑ x, v3 (ix2 r x) * v4 (ix2 x e) = D e) :
    k0_pay2 (F := Ideal) v3 v4 v6 v9 v12 (ix2 r e)
      = D e * v6 (ix3 0 r j) + D ⟨(e + 512 - 496) % 512, by omega⟩ * v9 (ix3 0 r j)
        + D ⟨(e + 512 - 16) % 512, by omega⟩ * v12 (ix3 0 r j) := by
  pointwise [k0_pay2]
  simp only [hD]
  exact congr_arg₂ (· + ·) (congr_arg₂ (· + ·)
    (congrArg (_ * ·) (tile (fun j => v6 (ix3 0 r j)) a j e he)) (congrArg (_ * ·) (tile (fun j => v9 (ix3 0 r j)) a j e he)))
    (congrArg (_ * ·) (tile (fun j => v12 (ix3 0 r j)) a j e he))

/-- The block of weights. -/
theorem w_blk (t : Fin cfg0.N) (p : Fin 12) (e0 : win0_1.index t 0 = 0) (e1 : win0_1.index t 1 = 0) (e2 : win0_1.index t 2 = p)
    (k : Fin 2048) (e : Fin 512) :
    (iblk m c 1 t : Vec Ideal S1x2048x512 .f32) (ix3 0 k e) = a2 m c (ix3 0 k ⟨p * 512 + e, by omega⟩) := by
  refine Eq.trans ?_ (congrFun (show (V m c main_arg2 : FVec Ideal S2x2048x6144 .f32) = a2 m c from V_main_arg2 m c) _)
  refine congrArg (V m c main_arg2 : FVec Ideal S2x2048x6144 .f32) ?_
  blk_ext [e0, e1, e2]

/-- The block of tokens. -/
theorem x_blk (t : Fin cfg0.N) (s : Fin 16) (e0 : win0_0.index t 0 = s) (e1 : win0_0.index t 1 = 0)
    (r : Fin 512) (k : Fin 2048) :
    (iblk m c 0 t : Vec Ideal S512x2048 .bf16) (ix2 r k) = a0 m c (ix2 ⟨s * 512 + r, by omega⟩ k) := by
  refine Eq.trans ?_ (congrFun (show (V m c main_arg0 : FVec Ideal S8192x2048 .bf16) = a0 m c from V_main_arg0 m c) _)
  refine congrArg (V m c main_arg0 : FVec Ideal S8192x2048 .bf16) ?_
  blk_ext [e0, e1]

/-- A block of the table `c`. -/
theorem c_blk (t : Fin cfg0.N) (P : Fin 3) (s : Fin 16) (e0 : win0_2.index t 0 = P) (e1 : win0_2.index t 1 = s)
    (e2 : win0_2.index t 2 = 0) (r : Fin 512) (j : Fin 128) :
    (iblk m c 2 t : Vec Ideal S1x512x128 .f32) (ix3 0 r j)
      = (V m c main_v48 : FVec Ideal S3x8192x128 .f32) (ix3 P ⟨s * 512 + r, by omega⟩ j) := by
  refine congrArg (V m c main_v48 : FVec Ideal S3x8192x128 .f32) ?_
  blk_ext [e0, e1, e2]

/-- A block of the table `lo`. -/
theorem lo_blk (t : Fin cfg0.N) (P : Fin 3) (s : Fin 16) (e0 : win0_3.index t 0 = P) (e1 : win0_3.index t 1 = s)
    (e2 : win0_3.index t 2 = 0) (r : Fin 512) (j : Fin 128) :
    (iblk m c 3 t : Vec Ideal S1x512x128 .f32) (ix3 0 r j)
      = (V m c main_v52 : FVec Ideal S3x8192x128 .f32) (ix3 P ⟨s * 512 + r, by omega⟩ j) := by
  refine congrArg (V m c main_v52 : FVec Ideal S3x8192x128 .f32) ?_
  blk_ext [e0, e1, e2]

/-- A block of the table `hi`. -/
theorem hi_blk (t : Fin cfg0.N) (P : Fin 3) (s : Fin 16) (e0 : win0_4.index t 0 = P) (e1 : win0_4.index t 1 = s)
    (e2 : win0_4.index t 2 = 0) (r : Fin 512) (j : Fin 128) :
    (iblk m c 4 t : Vec Ideal S1x512x128 .f32) (ix3 0 r j)
      = (V m c main_v56 : FVec Ideal S3x8192x128 .f32) (ix3 P ⟨s * 512 + r, by omega⟩ j) := by
  refine congrArg (V m c main_v56 : FVec Ideal S3x8192x128 .f32) ?_
  blk_ext [e0, e1, e2]

/-- The weights that a point carries on: those of its column block. -/
theorem carried (n : ℕ) : ∀ (hn : n < cfg0.N) (p : Fin 12), (p : ℕ) = n / 16 → ∀ (k : Fin 2048) (e : Fin 512),
    (outsAt0 m c n hn).2 (ix2 k e) = a2 m c (ix3 0 k ⟨p * 512 + e, by omega⟩) := by
  induction n with
  | zero =>
    intro hn p hp k e
    obtain ⟨P, q, s, hp', -, ⟨e0, e1, e2⟩, -⟩ := places ⟨0, hn⟩
    refine Eq.trans ?_ ((cast_at (iblk m c 1 ⟨0, hn⟩) k e).trans
      (w_blk m c ⟨0, hn⟩ p e0 e1 (e2.trans (hp'.trans hp.symm)) k e))
    rw [outsAt0_A m c ⟨0, hn⟩ rfl]
    frame_out
  | succ n ih =>
    intro hn p hp k e
    by_cases h0 : (n + 1) % 16 = 0
    · obtain ⟨P, q, s, hp', -, ⟨e0, e1, e2⟩, -⟩ := places ⟨n + 1, hn⟩
      refine Eq.trans ?_ ((cast_at (iblk m c 1 ⟨n + 1, hn⟩) k e).trans
        (w_blk m c ⟨n + 1, hn⟩ p e0 e1 (e2.trans (hp'.trans hp.symm)) k e))
      rw [outsAt0_A m c ⟨n + 1, hn⟩ h0]
      frame_out
    · rw [outsAt0_B m c ⟨n + 1, hn⟩ h0]
      exact ih (Nat.lt_of_succ_lt hn) p (by omega) k e

abbrev G : Buf (Elt Ideal) ((c.tc : Thread nD τ).loc main_v57) :=
  Cert.QkvRefIdeal.Read.val_main_v73 (F := Ideal) (a0 m c) (a1 m c) (a2 m c)

/-- The result array ends holding the reference's result. -/
theorem final : (dats m 0 c).arrAt 5 cfg0.N = G m c := by
  refine (dats m 0 c).arrAt_eq_of_covers 5 _ (by decide +kernel) fun t hf y => ?_
  blk_simp
  rw [after0_5, left]
  obtain ⟨P, q, s, hp, ⟨x0, x1⟩, -, ⟨c0, c1, c2⟩, ⟨l0, l1, l2⟩, ⟨h0, h1, h2⟩, o0, o1⟩ := places t
  obtain ⟨r, e, rfl⟩ : ∃ r e : Fin 512, y = ix2 r e := ⟨y 0, y 1, funext fun a => match a with | ⟨0, _⟩ => rfl | ⟨1, _⟩ => rfl⟩
  obtain ⟨a, ha⟩ : ∃ a : Fin 4, (a : ℕ) = e / 128 := ⟨⟨e / 128, by omega⟩, rfl⟩
  obtain ⟨j, hj⟩ : ∃ j : Fin 128, (j : ℕ) = e % 128 := ⟨⟨e % 128, by omega⟩, rfl⟩
  obtain ⟨R, hR⟩ : ∃ R : Fin 8192, (R : ℕ) = s * 512 + r := ⟨⟨s * 512 + r, by omega⟩, rfl⟩
  obtain ⟨p, hpp⟩ : ∃ p : Fin 12, (p : ℕ) = P * 4 + q := ⟨⟨P * 4 + q, by omega⟩, rfl⟩
  obtain ⟨E, hE⟩ : ∃ E : Fin 2048, (E : ℕ) = q * 512 + e := ⟨⟨q * 512 + e, by omega⟩, rfl⟩
  have he : (e : ℕ) = a * 128 + j := by omega
  have e0 : (((win0_5.blk t).view.emb (ix2 r e)) 0 : ℕ) = R := by blk_simp [o0, o1]; omega
  have e1 : (((win0_5.blk t).view.emb (ix2 r e)) 1 : ℕ) = P * 2048 + E := by blk_simp [o0, o1]; omega
  have hi : (win0_5.blk t).view.emb (ix2 r e) = (ix2 R ⟨P * 2048 + E, by omega⟩ : S8192x6144.Idx) :=
    funext fun a => match a with | ⟨0, _⟩ => Fin.ext e0 | ⟨1, _⟩ => Fin.ext e1
  rw [hi]
  have hRe : (⟨s * 512 + r, by omega⟩ : Fin 8192) = R := Fin.ext hR.symm
  refine (block_at _ _ _ _ _ r e a j he (fun e => Ref.dot (a0 m c) (a2 m c) R ⟨p * 512 + e, by omega⟩) fun e => ?_).trans ?_
  · refine Finset.sum_congr rfl fun k _ => congr_arg₂ (· * ·) ?_ (carried m c t.val t.isLt p (hpp.trans hp) k e)
    exact (x_blk m c t s x0 x1 r k).trans (by rw [hRe])
  rw [c_blk m c t P s c0 c1 c2, lo_blk m c t P s l0 l1 l2, hi_blk m c t P s h0 h1 h2, hRe]
  obtain ⟨x, hx⟩ : ∃ x : Fin 128 → EReal, x = fun l : Fin 128 => Ref.dot (a0 m c) (a2 m c) R ⟨p * 512 + (a * 128 + l), by omega⟩ := ⟨_, rfl⟩
  have hX : Ref.dot (a0 m c) (a2 m c) R ⟨p * 512 + e, by omega⟩
      = x j :=
    (congrArg (Ref.dot (a0 m c) (a2 m c) R) (Fin.ext (by simp only []; omega))).trans (congrFun hx _).symm
  have hY : ∀ h : (j : ℕ) < 16, Ref.dot (a0 m c) (a2 m c) R ⟨p * 512 + (e + 512 - 496) % 512, by omega⟩
      = x ⟨j + 16, by omega⟩ := fun h =>
    (congrArg (Ref.dot (a0 m c) (a2 m c) R) (Fin.ext (by simp only []; omega))).trans (congrFun hx _).symm
  have hZ : ∀ h : ¬(j : ℕ) < 16, (j : ℕ) < 32 → Ref.dot (a0 m c) (a2 m c) R ⟨p * 512 + (e + 512 - 16) % 512, by omega⟩
      = x ⟨j - 16, by omega⟩ := fun h h' =>
    (congrArg (Ref.dot (a0 m c) (a2 m c) R) (Fin.ext (by simp only []; omega))).trans (congrFun hx _).symm
  dsimp only
  obtain ⟨H, hH⟩ : ∃ H : Fin 8, (H : ℕ) = q * 2 + a / 2 := ⟨⟨q * 2 + a / 2, by omega⟩, rfl⟩
  obtain ⟨u, hu⟩ : ∃ u : Fin 2, (u : ℕ) = a % 2 := ⟨⟨a % 2, by omega⟩, rfl⟩
  have hr : (R : ℕ) = (⟨R / 2048, by omega⟩ : Fin 4) * 2048 + (⟨R % 2048, by omega⟩ : Fin 2048) := by simp only []; omega
  have hEE : (E : ℕ) = H * 256 + u * 128 + j := by omega
  have hP : P = 0 ∨ P = 1 ∨ P = 2 := by fin_cases P <;> simp
  rcases hP with rfl | rfl | rfl
  · rw [c_at0, lo_at0, hi_at0, hX]
    refine (turned_scaled x (pos m c R) j _ _ hY hZ).trans (Eq.trans (congrArg (fun x => turn x (pos m c R) j * sigma)
      (funext fun l => (congrFun hx l).trans (congrArg (Ref.dot (a0 m c) (a2 m c) R) (Fin.ext ?_))))
      ((Ref.q_at (a0 m c) (a1 m c) (a2 m c) _ _ H u j R E hr hEE).symm.trans
        (congrArg (fun w => Cert.QkvRefIdeal.Read.val_main_v73 (F := Ideal) (a0 m c) (a1 m c) (a2 m c) (ix2 R w)) (Fin.ext ?_))))
    · simp at hpp; simp only []; omega
    · simp
  · rw [c_at1, lo_at1, hi_at1, hX]
    refine (turned x (pos m c R) j _ _ hY hZ).trans (Eq.trans (congrArg (fun x => turn x (pos m c R) j)
      (funext fun l => (congrFun hx l).trans (congrArg (Ref.dot (a0 m c) (a2 m c) R) (Fin.ext ?_))))
      ((Ref.k_at (a0 m c) (a1 m c) (a2 m c) _ _ H u j R E hr hEE).symm.trans
        (congrArg (fun w => Cert.QkvRefIdeal.Read.val_main_v73 (F := Ideal) (a0 m c) (a1 m c) (a2 m c) (ix2 R w)) (Fin.ext ?_))))
    · simp at hpp; simp only []; omega
    · simp
  · rw [c_at2, lo_at2, hi_at2, mul_one, mul_zero, mul_zero, add_zero, add_zero]
    refine Eq.trans (congrArg (Ref.dot (a0 m c) (a2 m c) R) (Fin.ext ?_))
      ((Ref.v_at (a0 m c) (a1 m c) (a2 m c) R E).symm.trans
        (congrArg (fun w => Cert.QkvRefIdeal.Read.val_main_v73 (F := Ideal) (a0 m c) (a1 m c) (a2 m c) (ix2 R w)) (Fin.ext ?_)))
    · simp at hpp; simp only []; omega
    · simp

end Cert.Qkvp
-- ==== Proof.Qkv3Entry.lean ====
module

public import proofs.«01_k».proof.Proof.Gen.Qkv3Ideal.Value
public import proofs.«01_k».proof.Proof.RopeMath
public import Idealize.ShloMosaic.Lib.Pointwise
public import Idealize.ShloMosaic.Lib.StableHlo.RunRead

@[expose] public section

set_option maxRecDepth 16384

noncomputable section

/-! # The rotary tables that the call reads, from the positions -/

namespace Cert.Qkvp3
open Idealize.ShloMosaic Idealize.ShloMosaic.TcCoe Idealize.SL.Sem
open Cert.Qkv3Ideal Cert.Qkv3Ideal.Gen Cert.Rope

variable (m : (ℓ : Loc nD τ sig) → Buf (Elt Ideal) ℓ) (c : Dev nD)

/-- The position of a row. -/
abbrev pos (r : Fin 8192) : BitVec 32 :=
  (m ((c.tc : Thread nD τ).loc main_arg1) : IVec S4x2048 32) (ix2 ⟨r / 2048, by omega⟩ ⟨r % 2048, by omega⟩)

theorem c_at0 (r : Fin 8192) (j : Fin 128) :
    (V m c main_v48 : FVec Ideal S3x8192x128 .f32) (ix3 0 r j) = (cTab (pos m c r) j * sigma : EReal) := by
  unfold V
  unfold hostOps0
  after_reads_simp
  pointwise
  after_reads_simp
  pointwise
  after_reads_simp
  pointwise
  rfl

theorem c_at1 (r : Fin 8192) (j : Fin 128) :
    (V m c main_v48 : FVec Ideal S3x8192x128 .f32) (ix3 1 r j) = (cTab (pos m c r) j : EReal) := by
  unfold V
  unfold hostOps0
  after_reads_simp
  pointwise
  after_reads_simp
  pointwise
  after_reads_simp
  pointwise
  rfl

theorem c_at2 (r : Fin 8192) (j : Fin 128) :
    (V m c main_v48 : FVec Ideal S3x8192x128 .f32) (ix3 2 r j) = (1 : EReal) := by
  unfold V
  unfold hostOps0
  after_reads_simp
  pointwise
  after_reads_simp
  pointwise

theorem lo_at0 (r : Fin 8192) (j : Fin 128) :
    (V m c main_v52 : FVec Ideal S3x8192x128 .f32) (ix3 0 r j) = (loTab (pos m c r) j * sigma : EReal) := by
  unfold V
  unfold hostOps0
  after_reads_simp
  pointwise
  after_reads_simp
  pointwise
  after_reads_simp
  pointwise
  rfl

theorem lo_at1 (r : Fin 8192) (j : Fin 128) :
    (V m c main_v52 : FVec Ideal S3x8192x128 .f32) (ix3 1 r j) = (loTab (pos m c r) j : EReal) := by
  unfold V
  unfold hostOps0
  after_reads_simp
  pointwise
  after_reads_simp
  pointwise
  after_reads_simp
  pointwise
  rfl

theorem lo_at2 (r : Fin 8192) (j : Fin 128) :
    (V m c main_v52 : FVec Ideal S3x8192x128 .f32) (ix3 2 r j) = (0 : EReal) := by
  unfold V
  unfold hostOps0
  after_reads_simp
  pointwise
  after_reads_simp
  pointwise

theorem hi_at0 (r : Fin 8192) (j : Fin 128) :
    (V m c main_v56 : FVec Ideal S3x8192x128 .f32) (ix3 0 r j) = (hiTab (pos m c r) j * sigma : EReal) := by
  unfold V
  unfold hostOps0
  after_reads_simp
  pointwise
  after_reads_simp
  pointwise
  after_reads_simp
  pointwise
  rfl

theorem hi_at1 (r : Fin 8192) (j : Fin 128) :
    (V m c main_v56 : FVec Ideal S3x8192x128 .f32) (ix3 1 r j) = (hiTab (pos m c r) j : EReal) := by
  unfold V
  unfold hostOps0
  after_reads_simp
  pointwise
  after_reads_simp
  pointwise
  after_reads_simp
  pointwise
  rfl

theorem hi_at2 (r : Fin 8192) (j : Fin 128) :
    (V m c main_v56 : FVec Ideal S3x8192x128 .f32) (ix3 2 r j) = (0 : EReal) := by
  unfold V
  unfold hostOps0
  after_reads_simp
  pointwise
  after_reads_simp
  pointwise

end Cert.Qkvp3
-- ==== Proof.Qkv3Ref.lean ====
module

public import proofs.«01_k».proof.Proof.Gen.Qkv3RefIdeal.Read
public import proofs.«01_k».proof.Proof.RopeMath

@[expose] public section

set_option maxRecDepth 16384

noncomputable section

/-! # The reference's queries, keys and values, entry by entry -/

namespace Cert.Qkvp3.Ref
open Idealize.ShloMosaic Idealize.ShloMosaic.TcCoe Idealize.SL.Sem
open Cert.Qkv3RefIdeal Cert.Qkv3RefIdeal.Read Cert.Rope

variable (x0 : (⟨S8192x2048, .bf16⟩ : BufTy).Contents (Elt Ideal)) (x1 : (⟨S4x2048, .i32⟩ : BufTy).Contents (Elt Ideal))
  (x2 : (⟨S2x2048x6144, .f32⟩ : BufTy).Contents (Elt Ideal))

/-- The product of row `r` with column `e` of the weights. -/
def dot (r : Fin 8192) (e : Fin 6144) : EReal := ∑ k : Fin 2048, x0 (ix2 r k) * x2 (ix3 1 k e)

theorem dot_at (b : Fin 4) (s : Fin 2048) (e : Fin 6144) (r : Fin 8192) (hr : (r : ℕ) = b * 2048 + s) :
    val_main_v21 (F := Ideal) x0 x2 (ix3 b s e) = dot x0 x2 r e := by
  rw [val_main_v21_apply]
  refine Finset.sum_congr rfl fun k _ => congr_arg₂ (· * ·) ?_ ?_
  · rw [val_main_v18_apply]
    refine congrArg x0 (funext fun a => match a with
      | ⟨0, _⟩ => Fin.ext ?_
      | ⟨1, _⟩ => Fin.ext ?_)
    all_goals simp [idx_main_v18, lidx_main_v21]
    all_goals omega
  · rw [val_main_v20_apply, val_main_v19_apply]
    refine congrArg x2 (funext fun a => match a with
      | ⟨0, _⟩ => Fin.ext ?_
      | ⟨1, _⟩ => Fin.ext ?_
      | ⟨2, _⟩ => Fin.ext ?_)
    all_goals simp [idx_main_v20, idx_main_v19, ridx_main_v21]
    all_goals omega

theorem ang_at (b : Fin 4) (s : Fin 2048) (l : Fin 16) : val_main_v15 (F := Ideal) x1 (ix3 b s l) = ang (x1 (ix2 b s)) l := by
  unfold val_main_v15 val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1 val_main_cst_2
  pointwise
  rfl

/-- The queries, turned. -/
theorem q_turn (b : Fin 4) (s : Fin 2048) (h : Fin 8) (u : Fin 2) (j : Fin 128) (r : Fin 8192) (hr : (r : ℕ) = b * 2048 + s) :
    val_main_v45 (F := Ideal) x0 x1 x2 (ix5 b s h u j)
      = turn (fun l => dot x0 x2 r ⟨h * 256 + u * 128 + l, by omega⟩) (x1 (ix2 b s)) j := by
  have hT : ∀ l : Fin 16, val_main_v15 (F := Ideal) x1 (ix3 b s l) = ang (x1 (ix2 b s)) l := ang_at x1 b s
  have hY : ∀ e : Fin 6144, val_main_v21 (F := Ideal) x0 x2 (ix3 b s e) = dot x0 x2 r e := fun e => dot_at x0 x2 b s e r hr
  unfold val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v23 val_main_v22 val_main_v16 val_main_v17
  generalize val_main_v15 (F := Ideal) x1 = t at hT ⊢
  generalize val_main_v21 (F := Ideal) x0 x2 = y at hY ⊢
  pointwise
  simp only [hY]
  refine Eq.trans ?_ (turn_of _ (fun l => t (ix3 b s l)) _ j hT)
  simp only [Nat.add_assoc]

/-- The keys, turned. -/
theorem k_turn (b : Fin 4) (s : Fin 2048) (h : Fin 8) (u : Fin 2) (j : Fin 128) (r : Fin 8192) (hr : (r : ℕ) = b * 2048 + s) :
    val_main_v65 (F := Ideal) x0 x1 x2 (ix5 b s h u j)
      = turn (fun l => dot x0 x2 r ⟨2048 + h * 256 + u * 128 + l, by omega⟩) (x1 (ix2 b s)) j := by
  have hT : ∀ l : Fin 16, val_main_v15 (F := Ideal) x1 (ix3 b s l) = ang (x1 (ix2 b s)) l := ang_at x1 b s
  have hY : ∀ e : Fin 6144, val_main_v21 (F := Ideal) x0 x2 (ix3 b s e) = dot x0 x2 r e := fun e => dot_at x0 x2 b s e r hr
  unfold val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v25 val_main_v24 val_main_v16 val_main_v17
  generalize val_main_v15 (F := Ideal) x1 = t at hT ⊢
  generalize val_main_v21 (F := Ideal) x0 x2 = y at hY ⊢
  pointwise
  simp only [hY]
  refine Eq.trans ?_ (turn_of _ (fun l => t (ix3 b s l)) _ j hT)
  simp only [Nat.add_assoc]

/-- A column of queries. -/
theorem q_at (b : Fin 4) (s : Fin 2048) (h : Fin 8) (u : Fin 2) (j : Fin 128) (r : Fin 8192) (e : Fin 2048)
    (hr : (r : ℕ) = b * 2048 + s) (he : (e : ℕ) = h * 256 + u * 128 + j) :
    val_main_v73 (F := Ideal) x0 x1 x2 (ix2 r ⟨e, by omega⟩)
      = turn (fun l => dot x0 x2 r ⟨h * 256 + u * 128 + l, by omega⟩) (x1 (ix2 b s)) j * sigma := by
  unfold val_main_v73 val_main_v72 val_main_v71 val_main_v70 val_main_v69 val_main_v68 val_main_v67 val_main_v66 val_main_cst_4
    val_main_v47 val_main_v46 val_main_cst_3
  have hq := q_turn x0 x1 x2 b s h u j r hr
  generalize val_main_v45 (F := Ideal) x0 x1 x2 = t at hq ⊢
  generalize val_main_v65 (F := Ideal) x0 x1 x2 = y
  generalize val_main_v27 (F := Ideal) x0 x2 = z
  pointwise
  have hi : (ix5 (⟨r / 2048, by omega⟩ : Fin 4) (⟨r % 2048, by omega⟩ : Fin 2048) (⟨e / 256, by omega⟩ : Fin 8)
      (⟨e / 128 % 2, by omega⟩ : Fin 2) (⟨e % 128, by omega⟩ : Fin 128)) = ix5 b s h u j := by
    congr 1 <;> exact Fin.ext (by simp only []; omega)
  rw [hi, hq]
  exact scaled _

/-- A column of keys. -/
theorem k_at (b : Fin 4) (s : Fin 2048) (h : Fin 8) (u : Fin 2) (j : Fin 128) (r : Fin 8192) (e : Fin 2048)
    (hr : (r : ℕ) = b * 2048 + s) (he : (e : ℕ) = h * 256 + u * 128 + j) :
    val_main_v73 (F := Ideal) x0 x1 x2 (ix2 r ⟨2048 + e, by omega⟩)
      = turn (fun l => dot x0 x2 r ⟨2048 + h * 256 + u * 128 + l, by omega⟩) (x1 (ix2 b s)) j := by
  unfold val_main_v73 val_main_v72 val_main_v71 val_main_v70 val_main_v69 val_main_v68 val_main_v67 val_main_v66 val_main_cst_4
    val_main_v47 val_main_v46 val_main_cst_3
  have hk := k_turn x0 x1 x2 b s h u j r hr
  generalize val_main_v45 (F := Ideal) x0 x1 x2 = t
  generalize val_main_v65 (F := Ideal) x0 x1 x2 = y at hk ⊢
  generalize val_main_v27 (F := Ideal) x0 x2 = z
  pointwise
  have hi : (ix5 (⟨r / 2048, by omega⟩ : Fin 4) (⟨r % 2048, by omega⟩ : Fin 2048) (⟨e / 256, by omega⟩ : Fin 8)
      (⟨e / 128 % 2, by omega⟩ : Fin 2) (⟨e % 128, by omega⟩ : Fin 128)) = ix5 b s h u j := by
    congr 1 <;> exact Fin.ext (by simp only []; omega)
  rw [hi, hk]

/-- A column of values. -/
theorem v_at (r : Fin 8192) (e : Fin 2048) :
    val_main_v73 (F := Ideal) x0 x1 x2 (ix2 r ⟨4096 + e, by omega⟩) = dot x0 x2 r ⟨4096 + e, by omega⟩ := by
  have hy := dot_at x0 x2 ⟨r / 2048, by omega⟩ ⟨r % 2048, by omega⟩ ⟨4096 + e, by omega⟩ r (by simp only []; omega)
  unfold val_main_v73 val_main_v72 val_main_v71 val_main_v70 val_main_v69 val_main_v68 val_main_v67 val_main_v66 val_main_cst_4
    val_main_v47 val_main_v46 val_main_cst_3 val_main_v27 val_main_v26
  generalize val_main_v45 (F := Ideal) x0 x1 x2 = t
  generalize val_main_v65 (F := Ideal) x0 x1 x2 = y
  generalize val_main_v21 (F := Ideal) x0 x2 = z at hy ⊢
  pointwise
  rw [dif_neg (by omega), dif_neg (by omega), ← hy]
  exact congrArg (fun w => z (ix3 _ _ w)) (Fin.ext (by simp only []; omega))

end Cert.Qkvp3.Ref
-- ==== Proof.Qkv3Arr.lean ====
module

public import proofs.«01_k».proof.Proof.Gen.Qkv3Ideal.Value
public import proofs.«01_k».proof.Proof.Qkv3Entry
public import proofs.«01_k».proof.Proof.Qkv3Ref
public import Idealize.ShloMosaic.Lib.Pipeline.ValueKit
public import Idealize.ShloMosaic.Lib.Pipeline.ReadBack
public import Idealize.ShloMosaic.Lib.Claim

@[expose] public section

set_option maxRecDepth 16384

noncomputable section

/-! # The product with the rotation: what its result array holds -/

namespace Cert.Qkvp3
open Idealize.ShloMosaic Idealize.ShloMosaic.TcCoe Idealize.SL.Sem
open Cert.Qkv3Ideal Cert.Qkv3Ideal.Gen Cert.Rope

variable (m : (ℓ : Loc nD τ sig) → Buf (Elt Ideal) ℓ) (c : Dev nD)

/-- A point leaves the turned product of its input block with the weights that it carries on. -/
theorem left (t : Fin cfg0.N) : (outsAt0 m c t.val t.isLt).1
    = (k0_pay2 (F := Ideal) (iblk m c 0 t) (outsAt0 m c t.val t.isLt).2 (iblk m c 2 t) (iblk m c 3 t) (iblk m c 4 t)) := by
  by_cases h0 : t.val % 16 = 0
  · rw [outsAt0_A m c t h0]
    frame_out
  · rw [outsAt0_B m c t h0]
    frame_out
    simp only [sout0_B_0, read_unread_whole]

/-- Where each window's block lies at a grid point: column block `q` of part `P`, row block `s`. -/
theorem places : ∀ t : Fin cfg0.N, ∃ (P : Fin 3) (q : Fin 4) (s : Fin 16), (P * 4 + q : ℕ) = t.val / 16
    ∧ (win0_0.index t 0 = s ∧ win0_0.index t 1 = 0)
    ∧ (win0_1.index t 0 = 1 ∧ win0_1.index t 1 = 0 ∧ win0_1.index t 2 = P * 4 + q)
    ∧ (win0_2.index t 0 = P ∧ win0_2.index t 1 = s ∧ win0_2.index t 2 = 0)
    ∧ (win0_3.index t 0 = P ∧ win0_3.index t 1 = s ∧ win0_3.index t 2 = 0)
    ∧ (win0_4.index t 0 = P ∧ win0_4.index t 1 = s ∧ win0_4.index t 2 = 0)
    ∧ (win0_5.index t 0 = s ∧ win0_5.index t 1 = P * 4 + q) := by
  decide +kernel

abbrev a0 : FVec Ideal S8192x2048 .bf16 := m ((c.tc : Thread nD τ).loc main_arg0)
abbrev a1 : IVec S4x2048 32 := m ((c.tc : Thread nD τ).loc main_arg1)
abbrev a2 : FVec Ideal S2x2048x6144 .f32 := m ((c.tc : Thread nD τ).loc main_arg2)

/-- The weights cast at a point. -/
theorem cast_at (w : Vec Ideal S1x2048x512 .f32) (k : Fin 2048) (e : Fin 512) :
    k0_pay1 (F := Ideal) w (ix2 k e) = w (ix3 0 k e) := by
  pointwise [k0_pay1]

/-- The turned product stored at a point. -/
theorem block_at (v3 : Vec Ideal S512x2048 .bf16) (v4 : Vec Ideal S2048x512 .bf16) (v6 v9 v12 : Vec Ideal S1x512x128 .f32)
    (r e : Fin 512) (a : Fin 4) (j : Fin 128) (he : (e : ℕ) = a * 128 + j) (D : Fin 512 → EReal)
    (hD : ∀ e, ∑ x, v3 (ix2 r x) * v4 (ix2 x e) = D e) :
    k0_pay2 (F := Ideal) v3 v4 v6 v9 v12 (ix2 r e)
      = D e * v6 (ix3 0 r j) + D ⟨(e + 512 - 496) % 512, by omega⟩ * v9 (ix3 0 r j)
        + D ⟨(e + 512 - 16) % 512, by omega⟩ * v12 (ix3 0 r j) := by
  pointwise [k0_pay2]
  simp only [hD]
  exact congr_arg₂ (· + ·) (congr_arg₂ (· + ·)
    (congrArg (_ * ·) (tile (fun j => v6 (ix3 0 r j)) a j e he)) (congrArg (_ * ·) (tile (fun j => v9 (ix3 0 r j)) a j e he)))
    (congrArg (_ * ·) (tile (fun j => v12 (ix3 0 r j)) a j e he))

/-- The block of weights. -/
theorem w_blk (t : Fin cfg0.N) (p : Fin 12) (e0 : win0_1.index t 0 = 1) (e1 : win0_1.index t 1 = 0) (e2 : win0_1.index t 2 = p)
    (k : Fin 2048) (e : Fin 512) :
    (iblk m c 1 t : Vec Ideal S1x2048x512 .f32) (ix3 0 k e) = a2 m c (ix3 1 k ⟨p * 512 + e, by omega⟩) := by
  refine Eq.trans ?_ (congrFun (show (V m c main_arg2 : FVec Ideal S2x2048x6144 .f32) = a2 m c from V_main_arg2 m c) _)
  refine congrArg (V m c main_arg2 : FVec Ideal S2x2048x6144 .f32) ?_
  blk_ext [e0, e1, e2]

/-- The block of tokens. -/
theorem x_blk (t : Fin cfg0.N) (s : Fin 16) (e0 : win0_0.index t 0 = s) (e1 : win0_0.index t 1 = 0)
    (r : Fin 512) (k : Fin 2048) :
    (iblk m c 0 t : Vec Ideal S512x2048 .bf16) (ix2 r k) = a0 m c (ix2 ⟨s * 512 + r, by omega⟩ k) := by
  refine Eq.trans ?_ (congrFun (show (V m c main_arg0 : FVec Ideal S8192x2048 .bf16) = a0 m c from V_main_arg0 m c) _)
  refine congrArg (V m c main_arg0 : FVec Ideal S8192x2048 .bf16) ?_
  blk_ext [e0, e1]

/-- A block of the table `c`. -/
theorem c_blk (t : Fin cfg0.N) (P : Fin 3) (s : Fin 16) (e0 : win0_2.index t 0 = P) (e1 : win0_2.index t 1 = s)
    (e2 : win0_2.index t 2 = 0) (r : Fin 512) (j : Fin 128) :
    (iblk m c 2 t : Vec Ideal S1x512x128 .f32) (ix3 0 r j)
      = (V m c main_v48 : FVec Ideal S3x8192x128 .f32) (ix3 P ⟨s * 512 + r, by omega⟩ j) := by
  refine congrArg (V m c main_v48 : FVec Ideal S3x8192x128 .f32) ?_
  blk_ext [e0, e1, e2]

/-- A block of the table `lo`. -/
theorem lo_blk (t : Fin cfg0.N) (P : Fin 3) (s : Fin 16) (e0 : win0_3.index t 0 = P) (e1 : win0_3.index t 1 = s)
    (e2 : win0_3.index t 2 = 0) (r : Fin 512) (j : Fin 128) :
    (iblk m c 3 t : Vec Ideal S1x512x128 .f32) (ix3 0 r j)
      = (V m c main_v52 : FVec Ideal S3x8192x128 .f32) (ix3 P ⟨s * 512 + r, by omega⟩ j) := by
  refine congrArg (V m c main_v52 : FVec Ideal S3x8192x128 .f32) ?_
  blk_ext [e0, e1, e2]

/-- A block of the table `hi`. -/
theorem hi_blk (t : Fin cfg0.N) (P : Fin 3) (s : Fin 16) (e0 : win0_4.index t 0 = P) (e1 : win0_4.index t 1 = s)
    (e2 : win0_4.index t 2 = 0) (r : Fin 512) (j : Fin 128) :
    (iblk m c 4 t : Vec Ideal S1x512x128 .f32) (ix3 0 r j)
      = (V m c main_v56 : FVec Ideal S3x8192x128 .f32) (ix3 P ⟨s * 512 + r, by omega⟩ j) := by
  refine congrArg (V m c main_v56 : FVec Ideal S3x8192x128 .f32) ?_
  blk_ext [e0, e1, e2]

/-- The weights that a point carries on: those of its column block. -/
theorem carried (n : ℕ) : ∀ (hn : n < cfg0.N) (p : Fin 12), (p : ℕ) = n / 16 → ∀ (k : Fin 2048) (e : Fin 512),
    (outsAt0 m c n hn).2 (ix2 k e) = a2 m c (ix3 1 k ⟨p * 512 + e, by omega⟩) := by
  induction n with
  | zero =>
    intro hn p hp k e
    obtain ⟨P, q, s, hp', -, ⟨e0, e1, e2⟩, -⟩ := places ⟨0, hn⟩
    refine Eq.trans ?_ ((cast_at (iblk m c 1 ⟨0, hn⟩) k e).trans
      (w_blk m c ⟨0, hn⟩ p e0 e1 (e2.trans (hp'.trans hp.symm)) k e))
    rw [outsAt0_A m c ⟨0, hn⟩ rfl]
    frame_out
  | succ n ih =>
    intro hn p hp k e
    by_cases h0 : (n + 1) % 16 = 0
    · obtain ⟨P, q, s, hp', -, ⟨e0, e1, e2⟩, -⟩ := places ⟨n + 1, hn⟩
      refine Eq.trans ?_ ((cast_at (iblk m c 1 ⟨n + 1, hn⟩) k e).trans
        (w_blk m c ⟨n + 1, hn⟩ p e0 e1 (e2.trans (hp'.trans hp.symm)) k e))
      rw [outsAt0_A m c ⟨n + 1, hn⟩ h0]
      frame_out
    · rw [outsAt0_B m c ⟨n + 1, hn⟩ h0]
      exact ih (Nat.lt_of_succ_lt hn) p (by omega) k e

abbrev G : Buf (Elt Ideal) ((c.tc : Thread nD τ).loc main_v57) :=
  Cert.Qkv3RefIdeal.Read.val_main_v73 (F := Ideal) (a0 m c) (a1 m c) (a2 m c)

/-- The result array ends holding the reference's result. -/
theorem final : (dats m 0 c).arrAt 5 cfg0.N = G m c := by
  refine (dats m 0 c).arrAt_eq_of_covers 5 _ (by decide +kernel) fun t hf y => ?_
  blk_simp
  rw [after0_5, left]
  obtain ⟨P, q, s, hp, ⟨x0, x1⟩, -, ⟨c0, c1, c2⟩, ⟨l0, l1, l2⟩, ⟨h0, h1, h2⟩, o0, o1⟩ := places t
  obtain ⟨r, e, rfl⟩ : ∃ r e : Fin 512, y = ix2 r e := ⟨y 0, y 1, funext fun a => match a with | ⟨0, _⟩ => rfl | ⟨1, _⟩ => rfl⟩
  obtain ⟨a, ha⟩ : ∃ a : Fin 4, (a : ℕ) = e / 128 := ⟨⟨e / 128, by omega⟩, rfl⟩
  obtain ⟨j, hj⟩ : ∃ j : Fin 128, (j : ℕ) = e % 128 := ⟨⟨e % 128, by omega⟩, rfl⟩
  obtain ⟨R, hR⟩ : ∃ R : Fin 8192, (R : ℕ) = s * 512 + r := ⟨⟨s * 512 + r, by omega⟩, rfl⟩
  obtain ⟨p, hpp⟩ : ∃ p : Fin 12, (p : ℕ) = P * 4 + q := ⟨⟨P * 4 + q, by omega⟩, rfl⟩
  obtain ⟨E, hE⟩ : ∃ E : Fin 2048, (E : ℕ) = q * 512 + e := ⟨⟨q * 512 + e, by omega⟩, rfl⟩
  have he : (e : ℕ) = a * 128 + j := by omega
  have e0 : (((win0_5.blk t).view.emb (ix2 r e)) 0 : ℕ) = R := by blk_simp [o0, o1]; omega
  have e1 : (((win0_5.blk t).view.emb (ix2 r e)) 1 : ℕ) = P * 2048 + E := by blk_simp [o0, o1]; omega
  have hi : (win0_5.blk t).view.emb (ix2 r e) = (ix2 R ⟨P * 2048 + E, by omega⟩ : S8192x6144.Idx) :=
    funext fun a => match a with | ⟨0, _⟩ => Fin.ext e0 | ⟨1, _⟩ => Fin.ext e1
  rw [hi]
  have hRe : (⟨s * 512 + r, by omega⟩ : Fin 8192) = R := Fin.ext hR.symm
  refine (block_at _ _ _ _ _ r e a j he (fun e => Ref.dot (a0 m c) (a2 m c) R ⟨p * 512 + e, by omega⟩) fun e => ?_).trans ?_
  · refine Finset.sum_congr rfl fun k _ => congr_arg₂ (· * ·) ?_ (carried m c t.val t.isLt p (hpp.trans hp) k e)
    exact (x_blk m c t s x0 x1 r k).trans (by rw [hRe])
  rw [c_blk m c t P s c0 c1 c2, lo_blk m c t P s l0 l1 l2, hi_blk m c t P s h0 h1 h2, hRe]
  obtain ⟨x, hx⟩ : ∃ x : Fin 128 → EReal, x = fun l : Fin 128 => Ref.dot (a0 m c) (a2 m c) R ⟨p * 512 + (a * 128 + l), by omega⟩ := ⟨_, rfl⟩
  have hX : Ref.dot (a0 m c) (a2 m c) R ⟨p * 512 + e, by omega⟩
      = x j :=
    (congrArg (Ref.dot (a0 m c) (a2 m c) R) (Fin.ext (by simp only []; omega))).trans (congrFun hx _).symm
  have hY : ∀ h : (j : ℕ) < 16, Ref.dot (a0 m c) (a2 m c) R ⟨p * 512 + (e + 512 - 496) % 512, by omega⟩
      = x ⟨j + 16, by omega⟩ := fun h =>
    (congrArg (Ref.dot (a0 m c) (a2 m c) R) (Fin.ext (by simp only []; omega))).trans (congrFun hx _).symm
  have hZ : ∀ h : ¬(j : ℕ) < 16, (j : ℕ) < 32 → Ref.dot (a0 m c) (a2 m c) R ⟨p * 512 + (e + 512 - 16) % 512, by omega⟩
      = x ⟨j - 16, by omega⟩ := fun h h' =>
    (congrArg (Ref.dot (a0 m c) (a2 m c) R) (Fin.ext (by simp only []; omega))).trans (congrFun hx _).symm
  dsimp only
  obtain ⟨H, hH⟩ : ∃ H : Fin 8, (H : ℕ) = q * 2 + a / 2 := ⟨⟨q * 2 + a / 2, by omega⟩, rfl⟩
  obtain ⟨u, hu⟩ : ∃ u : Fin 2, (u : ℕ) = a % 2 := ⟨⟨a % 2, by omega⟩, rfl⟩
  have hr : (R : ℕ) = (⟨R / 2048, by omega⟩ : Fin 4) * 2048 + (⟨R % 2048, by omega⟩ : Fin 2048) := by simp only []; omega
  have hEE : (E : ℕ) = H * 256 + u * 128 + j := by omega
  have hP : P = 0 ∨ P = 1 ∨ P = 2 := by fin_cases P <;> simp
  rcases hP with rfl | rfl | rfl
  · rw [c_at0, lo_at0, hi_at0, hX]
    refine (turned_scaled x (pos m c R) j _ _ hY hZ).trans (Eq.trans (congrArg (fun x => turn x (pos m c R) j * sigma)
      (funext fun l => (congrFun hx l).trans (congrArg (Ref.dot (a0 m c) (a2 m c) R) (Fin.ext ?_))))
      ((Ref.q_at (a0 m c) (a1 m c) (a2 m c) _ _ H u j R E hr hEE).symm.trans
        (congrArg (fun w => Cert.Qkv3RefIdeal.Read.val_main_v73 (F := Ideal) (a0 m c) (a1 m c) (a2 m c) (ix2 R w)) (Fin.ext ?_))))
    · simp at hpp; simp only []; omega
    · simp
  · rw [c_at1, lo_at1, hi_at1, hX]
    refine (turned x (pos m c R) j _ _ hY hZ).trans (Eq.trans (congrArg (fun x => turn x (pos m c R) j)
      (funext fun l => (congrFun hx l).trans (congrArg (Ref.dot (a0 m c) (a2 m c) R) (Fin.ext ?_))))
      ((Ref.k_at (a0 m c) (a1 m c) (a2 m c) _ _ H u j R E hr hEE).symm.trans
        (congrArg (fun w => Cert.Qkv3RefIdeal.Read.val_main_v73 (F := Ideal) (a0 m c) (a1 m c) (a2 m c) (ix2 R w)) (Fin.ext ?_))))
    · simp at hpp; simp only []; omega
    · simp
  · rw [c_at2, lo_at2, hi_at2, mul_one, mul_zero, mul_zero, add_zero, add_zero]
    refine Eq.trans (congrArg (Ref.dot (a0 m c) (a2 m c) R) (Fin.ext ?_))
      ((Ref.v_at (a0 m c) (a1 m c) (a2 m c) R E).symm.trans
        (congrArg (fun w => Cert.Qkv3RefIdeal.Read.val_main_v73 (F := Ideal) (a0 m c) (a1 m c) (a2 m c) (ix2 R w)) (Fin.ext ?_)))
    · simp at hpp; simp only []; omega
    · simp

end Cert.Qkvp3
-- ==== Proof.OutArr.lean ====
module

public import proofs.«01_k».proof.Proof.Gen.OutIdeal.Value
public import proofs.«01_k».proof.Proof.Gen.OutRefIdeal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

/-! # The output product: what its result array holds -/

namespace Cert.Output
open Idealize.ShloMosaic Idealize.ShloMosaic.TcCoe Idealize.SL.Sem
open Cert.OutIdeal Cert.OutIdeal.Gen

variable (m : (ℓ : Loc nD τ sig) → Buf (Elt Ideal) ℓ) (c : Dev nD)

/-- A point leaves the product of its input block with the weights that it carries on. -/
theorem left (t : Fin cfg0.N) : (outsAt0 m c t.val t.isLt).1
    = (k0_pay2 (F := Ideal) (iblk m c 0 t) (outsAt0 m c t.val t.isLt).2 (iblk m c 2 t)) := by
  by_cases h0 : t.val % 16 = 0
  · rw [outsAt0_A m c t h0]
    frame_out
  · rw [outsAt0_B m c t h0]
    frame_out
    simp only [sout0_B_0, read_unread_whole]

/-- Where each window's block lies at a grid point: column block `p`, row block `s`. -/
theorem places : ∀ t : Fin cfg0.N, ∃ (p : Fin 4) (s : Fin 16), (p : ℕ) = t.val / 16
    ∧ (win0_0.index t 0 = s ∧ win0_0.index t 1 = 0)
    ∧ (win0_1.index t 0 = 0 ∧ win0_1.index t 1 = 0 ∧ win0_1.index t 2 = p)
    ∧ (win0_2.index t 0 = s ∧ win0_2.index t 1 = p)
    ∧ (win0_3.index t 0 = s ∧ win0_3.index t 1 = p) := by
  decide +kernel

abbrev a0 : FVec Ideal S8192x2048 .f32 := m ((c.tc : Thread nD τ).loc main_arg0)
abbrev a1 : FVec Ideal S8192x2048 .bf16 := m ((c.tc : Thread nD τ).loc main_arg1)
abbrev a2 : FVec Ideal S2x2048x2048 .f32 := m ((c.tc : Thread nD τ).loc main_arg2)

/-- The weights cast at a point. -/
theorem cast_at (w : Vec Ideal S1x2048x512 .f32) (k : Fin 2048) (e : Fin 512) :
    k0_pay1 (F := Ideal) w (ix2 k e) = w (ix3 0 k e) := by
  pointwise [k0_pay1]

/-- The product stored at a point. -/
theorem block_at (x : Vec Ideal S512x2048 .bf16) (w : Vec Ideal S2048x512 .bf16) (z : Vec Ideal S512x512 .f32)
    (r e : Fin 512) : k0_pay2 (F := Ideal) x w z (ix2 r e) = z (ix2 r e) + ∑ k : Fin 2048, x (ix2 r k) * w (ix2 k e) := by
  pointwise [k0_pay2]
  try simp

/-- The block of weights. -/
theorem w_blk (t : Fin cfg0.N) (p : Fin 4) (e0 : win0_1.index t 0 = 0) (e1 : win0_1.index t 1 = 0) (e2 : win0_1.index t 2 = p)
    (k : Fin 2048) (e : Fin 512) :
    (iblk m c 1 t : Vec Ideal S1x2048x512 .f32) (ix3 0 k e) = a2 m c (ix3 0 k ⟨p * 512 + e, by omega⟩) := by
  blk_ext [iblk, V, e0, e1, e2]

theorem x_blk (t : Fin cfg0.N) (s : Fin 16) (e0 : win0_0.index t 0 = s) (e1 : win0_0.index t 1 = 0)
    (r : Fin 512) (k : Fin 2048) :
    (iblk m c 0 t : Vec Ideal S512x2048 .bf16) (ix2 r k) = a1 m c (ix2 ⟨s * 512 + r, by omega⟩ k) := by
  blk_ext [iblk, V, e0, e1]

theorem z_blk (t : Fin cfg0.N) (s : Fin 16) (p : Fin 4) (e0 : win0_2.index t 0 = s) (e1 : win0_2.index t 1 = p)
    (r e : Fin 512) :
    (iblk m c 2 t : Vec Ideal S512x512 .f32) (ix2 r e) = a0 m c (ix2 ⟨s * 512 + r, by omega⟩ ⟨p * 512 + e, by omega⟩) := by
  blk_ext [iblk, V, e0, e1]

/-- The weights that a point carries on: those of its column block. -/
theorem carried (n : ℕ) : ∀ (hn : n < cfg0.N) (p : Fin 4), (p : ℕ) = n / 16 → ∀ (k : Fin 2048) (e : Fin 512),
    (outsAt0 m c n hn).2 (ix2 k e) = a2 m c (ix3 0 k ⟨p * 512 + e, by omega⟩) := by
  induction n with
  | zero =>
    intro hn p hp k e
    obtain ⟨p', s, hp', -, ⟨e0, e1, e2⟩, -, -⟩ := places ⟨0, hn⟩
    have hpp : p = p' := Fin.ext (hp.trans hp'.symm)
    rw [hpp]
    refine Eq.trans ?_ ((cast_at (iblk m c 1 ⟨0, hn⟩) k e).trans (w_blk m c ⟨0, hn⟩ p' e0 e1 e2 k e))
    rw [outsAt0_A m c ⟨0, hn⟩ rfl]
    frame_out
  | succ n ih =>
    intro hn p hp k e
    by_cases h0 : (n + 1) % 16 = 0
    · obtain ⟨p', s, hp', -, ⟨e0, e1, e2⟩, -, -⟩ := places ⟨n + 1, hn⟩
      have hpp : p = p' := Fin.ext (hp.trans hp'.symm)
      rw [hpp]
      refine Eq.trans ?_ ((cast_at (iblk m c 1 ⟨n + 1, hn⟩) k e).trans (w_blk m c ⟨n + 1, hn⟩ p' e0 e1 e2 k e))
      rw [outsAt0_A m c ⟨n + 1, hn⟩ h0]
      frame_out
    · rw [outsAt0_B m c ⟨n + 1, hn⟩ h0]
      exact ih (Nat.lt_of_succ_lt hn) p (by omega) k e

abbrev G : Buf (Elt Ideal) ((c.tc : Thread nD τ).loc main_v0) :=
  Cert.OutRefIdeal.Read.val_main_v6 (F := Ideal) (a0 m c) (a1 m c) (a2 m c)

/-- The reference's result at a row and a column. -/
theorem ref_at (x0 : FVec Ideal S8192x2048 .f32) (x1 : FVec Ideal S8192x2048 .bf16) (x2 : FVec Ideal S2x2048x2048 .f32)
    (i : S8192x2048.Idx) (r : Fin 8192) (e : Fin 2048) (hr : (i 0 : ℕ) = r) (he : (i 1 : ℕ) = e) :
    Cert.OutRefIdeal.Read.val_main_v6 (F := Ideal) x0 x1 x2 i
      = x0 (ix2 r e) + ∑ k : Fin 2048, x1 (ix2 r k) * x2 (ix3 0 k e) := by
  have hi : i = ix2 r e := funext fun a => match a with | ⟨0, _⟩ => Fin.ext hr | ⟨1, _⟩ => Fin.ext he
  rw [hi, Cert.OutRefIdeal.Read.val_main_v6_apply, Cert.OutRefIdeal.Read.val_main_v5_apply,
    Cert.OutRefIdeal.Read.val_main_v3_apply, Cert.OutRefIdeal.Read.val_main_v4_apply]
  have ha : Cert.OutRefIdeal.Read.idx_main_v4 (Cert.OutRefIdeal.Read.idx_main_v6 (ix2 r e)) = ix2 r e := funext fun a => match a with
    | ⟨0, _⟩ => Fin.ext (by simp [Cert.OutRefIdeal.Read.idx_main_v4, Cert.OutRefIdeal.Read.idx_main_v6]; omega)
    | ⟨1, _⟩ => Fin.ext (by simp [Cert.OutRefIdeal.Read.idx_main_v4, Cert.OutRefIdeal.Read.idx_main_v6])
  rw [ha]
  refine congrArg (x0 (ix2 r e) + ·) (Finset.sum_congr rfl fun k _ => congr_arg₂ (· * ·) ?_ ?_)
  · rw [Cert.OutRefIdeal.Read.val_main_v0_apply]
    refine congrArg x1 (funext fun a => match a with
      | ⟨0, _⟩ => Fin.ext ?_
      | ⟨1, _⟩ => Fin.ext ?_)
    all_goals simp [Cert.OutRefIdeal.Read.idx_main_v0, Cert.OutRefIdeal.Read.lidx_main_v3, Cert.OutRefIdeal.Read.idx_main_v6]
    all_goals omega
  · rw [Cert.OutRefIdeal.Read.val_main_v2_apply, Cert.OutRefIdeal.Read.val_main_v1_apply]
    refine congrArg x2 (funext fun a => match a with
      | ⟨0, _⟩ => Fin.ext ?_
      | ⟨1, _⟩ => Fin.ext ?_
      | ⟨2, _⟩ => Fin.ext ?_)
    all_goals simp [Cert.OutRefIdeal.Read.idx_main_v2, Cert.OutRefIdeal.Read.idx_main_v1, Cert.OutRefIdeal.Read.ridx_main_v3, Cert.OutRefIdeal.Read.idx_main_v6]
    all_goals omega

/-- The result array ends holding the reference's result. -/
theorem final : (dats m 0 c).arrAt 3 cfg0.N = G m c := by
  refine (dats m 0 c).arrAt_eq_of_covers 3 _ (by decide +kernel) fun t hf y => ?_
  blk_simp
  rw [after0_3, left]
  obtain ⟨p, s, hp, ⟨q0, q1⟩, -, ⟨z0, z1⟩, o0, o1⟩ := places t
  obtain ⟨r, e, rfl⟩ : ∃ r e : Fin 512, y = ix2 r e := ⟨y 0, y 1, funext fun a => match a with | ⟨0, _⟩ => rfl | ⟨1, _⟩ => rfl⟩
  have e0 : (((win0_3.blk t).view.emb (ix2 r e)) 0 : ℕ) = s * 512 + r := by blk_simp [o0, o1]
  have e1 : (((win0_3.blk t).view.emb (ix2 r e)) 1 : ℕ) = p * 512 + e := by blk_simp [o0, o1]
  refine Eq.trans ?_ (ref_at (a0 m c) (a1 m c) (a2 m c) _ ⟨s * 512 + r, by omega⟩ ⟨p * 512 + e, by omega⟩ e0 e1).symm
  refine (block_at _ _ _ r e).trans ?_
  rw [z_blk m c t s p z0 z1]
  simp only [x_blk m c t s q0 q1, carried m c t.val t.isLt p hp]

end Cert.Output
-- ==== Proof.Out1Arr.lean ====
module

public import proofs.«01_k».proof.Proof.Gen.Out1Ideal.Value
public import proofs.«01_k».proof.Proof.Gen.Out1RefIdeal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

/-! # The output product: what its result array holds -/

namespace Cert.Output1
open Idealize.ShloMosaic Idealize.ShloMosaic.TcCoe Idealize.SL.Sem
open Cert.Out1Ideal Cert.Out1Ideal.Gen

variable (m : (ℓ : Loc nD τ sig) → Buf (Elt Ideal) ℓ) (c : Dev nD)

/-- A point leaves the product of its input block with the weights that it carries on. -/
theorem left (t : Fin cfg0.N) : (outsAt0 m c t.val t.isLt).1
    = (k0_pay2 (F := Ideal) (iblk m c 0 t) (outsAt0 m c t.val t.isLt).2 (iblk m c 2 t)) := by
  by_cases h0 : t.val % 16 = 0
  · rw [outsAt0_A m c t h0]
    frame_out
  · rw [outsAt0_B m c t h0]
    frame_out
    simp only [sout0_B_0, read_unread_whole]

/-- Where each window's block lies at a grid point: column block `p`, row block `s`. -/
theorem places : ∀ t : Fin cfg0.N, ∃ (p : Fin 4) (s : Fin 16), (p : ℕ) = t.val / 16
    ∧ (win0_0.index t 0 = s ∧ win0_0.index t 1 = 0)
    ∧ (win0_1.index t 0 = 0 ∧ win0_1.index t 1 = 0 ∧ win0_1.index t 2 = p)
    ∧ (win0_2.index t 0 = s ∧ win0_2.index t 1 = p)
    ∧ (win0_3.index t 0 = s ∧ win0_3.index t 1 = p) := by
  decide +kernel

abbrev a0 : FVec Ideal S8192x2048 .f32 := m ((c.tc : Thread nD τ).loc main_arg0)
abbrev a1 : FVec Ideal S8192x2048 .bf16 := m ((c.tc : Thread nD τ).loc main_arg1)
abbrev a2 : FVec Ideal S1x2048x2048 .f32 := m ((c.tc : Thread nD τ).loc main_arg2)

/-- The weights cast at a point. -/
theorem cast_at (w : Vec Ideal S1x2048x512 .f32) (k : Fin 2048) (e : Fin 512) :
    k0_pay1 (F := Ideal) w (ix2 k e) = w (ix3 0 k e) := by
  pointwise [k0_pay1]

/-- The product stored at a point. -/
theorem block_at (x : Vec Ideal S512x2048 .bf16) (w : Vec Ideal S2048x512 .bf16) (z : Vec Ideal S512x512 .f32)
    (r e : Fin 512) : k0_pay2 (F := Ideal) x w z (ix2 r e) = z (ix2 r e) + ∑ k : Fin 2048, x (ix2 r k) * w (ix2 k e) := by
  pointwise [k0_pay2]
  try simp

/-- The block of weights. -/
theorem w_blk (t : Fin cfg0.N) (p : Fin 4) (e0 : win0_1.index t 0 = 0) (e1 : win0_1.index t 1 = 0) (e2 : win0_1.index t 2 = p)
    (k : Fin 2048) (e : Fin 512) :
    (iblk m c 1 t : Vec Ideal S1x2048x512 .f32) (ix3 0 k e) = a2 m c (ix3 0 k ⟨p * 512 + e, by omega⟩) := by
  blk_ext [iblk, V, e0, e1, e2]

theorem x_blk (t : Fin cfg0.N) (s : Fin 16) (e0 : win0_0.index t 0 = s) (e1 : win0_0.index t 1 = 0)
    (r : Fin 512) (k : Fin 2048) :
    (iblk m c 0 t : Vec Ideal S512x2048 .bf16) (ix2 r k) = a1 m c (ix2 ⟨s * 512 + r, by omega⟩ k) := by
  blk_ext [iblk, V, e0, e1]

theorem z_blk (t : Fin cfg0.N) (s : Fin 16) (p : Fin 4) (e0 : win0_2.index t 0 = s) (e1 : win0_2.index t 1 = p)
    (r e : Fin 512) :
    (iblk m c 2 t : Vec Ideal S512x512 .f32) (ix2 r e) = a0 m c (ix2 ⟨s * 512 + r, by omega⟩ ⟨p * 512 + e, by omega⟩) := by
  blk_ext [iblk, V, e0, e1]

/-- The weights that a point carries on: those of its column block. -/
theorem carried (n : ℕ) : ∀ (hn : n < cfg0.N) (p : Fin 4), (p : ℕ) = n / 16 → ∀ (k : Fin 2048) (e : Fin 512),
    (outsAt0 m c n hn).2 (ix2 k e) = a2 m c (ix3 0 k ⟨p * 512 + e, by omega⟩) := by
  induction n with
  | zero =>
    intro hn p hp k e
    obtain ⟨p', s, hp', -, ⟨e0, e1, e2⟩, -, -⟩ := places ⟨0, hn⟩
    have hpp : p = p' := Fin.ext (hp.trans hp'.symm)
    rw [hpp]
    refine Eq.trans ?_ ((cast_at (iblk m c 1 ⟨0, hn⟩) k e).trans (w_blk m c ⟨0, hn⟩ p' e0 e1 e2 k e))
    rw [outsAt0_A m c ⟨0, hn⟩ rfl]
    frame_out
  | succ n ih =>
    intro hn p hp k e
    by_cases h0 : (n + 1) % 16 = 0
    · obtain ⟨p', s, hp', -, ⟨e0, e1, e2⟩, -, -⟩ := places ⟨n + 1, hn⟩
      have hpp : p = p' := Fin.ext (hp.trans hp'.symm)
      rw [hpp]
      refine Eq.trans ?_ ((cast_at (iblk m c 1 ⟨n + 1, hn⟩) k e).trans (w_blk m c ⟨n + 1, hn⟩ p' e0 e1 e2 k e))
      rw [outsAt0_A m c ⟨n + 1, hn⟩ h0]
      frame_out
    · rw [outsAt0_B m c ⟨n + 1, hn⟩ h0]
      exact ih (Nat.lt_of_succ_lt hn) p (by omega) k e

abbrev G : Buf (Elt Ideal) ((c.tc : Thread nD τ).loc main_v0) :=
  Cert.Out1RefIdeal.Read.val_main_v5 (F := Ideal) (a0 m c) (a1 m c) (a2 m c)

/-- The reference's result at a row and a column. -/
theorem ref_at (x0 : FVec Ideal S8192x2048 .f32) (x1 : FVec Ideal S8192x2048 .bf16) (x2 : FVec Ideal S1x2048x2048 .f32)
    (i : S8192x2048.Idx) (r : Fin 8192) (e : Fin 2048) (hr : (i 0 : ℕ) = r) (he : (i 1 : ℕ) = e) :
    Cert.Out1RefIdeal.Read.val_main_v5 (F := Ideal) x0 x1 x2 i
      = x0 (ix2 r e) + ∑ k : Fin 2048, x1 (ix2 r k) * x2 (ix3 0 k e) := by
  have hi : i = ix2 r e := funext fun a => match a with | ⟨0, _⟩ => Fin.ext hr | ⟨1, _⟩ => Fin.ext he
  rw [hi, Cert.Out1RefIdeal.Read.val_main_v5_apply, Cert.Out1RefIdeal.Read.val_main_v4_apply,
    Cert.Out1RefIdeal.Read.val_main_v2_apply, Cert.Out1RefIdeal.Read.val_main_v3_apply]
  have ha : Cert.Out1RefIdeal.Read.idx_main_v3 (Cert.Out1RefIdeal.Read.idx_main_v5 (ix2 r e)) = ix2 r e := funext fun a => match a with
    | ⟨0, _⟩ => Fin.ext (by simp [Cert.Out1RefIdeal.Read.idx_main_v3, Cert.Out1RefIdeal.Read.idx_main_v5]; omega)
    | ⟨1, _⟩ => Fin.ext (by simp [Cert.Out1RefIdeal.Read.idx_main_v3, Cert.Out1RefIdeal.Read.idx_main_v5])
  rw [ha]
  refine congrArg (x0 (ix2 r e) + ·) (Finset.sum_congr rfl fun k _ => congr_arg₂ (· * ·) ?_ ?_)
  · rw [Cert.Out1RefIdeal.Read.val_main_v0_apply]
    refine congrArg x1 (funext fun a => match a with
      | ⟨0, _⟩ => Fin.ext ?_
      | ⟨1, _⟩ => Fin.ext ?_)
    all_goals simp [Cert.Out1RefIdeal.Read.idx_main_v0, Cert.Out1RefIdeal.Read.lidx_main_v2, Cert.Out1RefIdeal.Read.idx_main_v5]
    all_goals omega
  · rw [Cert.Out1RefIdeal.Read.val_main_v1_apply]
    refine congrArg x2 (funext fun a => match a with
      | ⟨0, _⟩ => Fin.ext ?_
      | ⟨1, _⟩ => Fin.ext ?_
      | ⟨2, _⟩ => Fin.ext ?_)
    all_goals simp [Cert.Out1RefIdeal.Read.idx_main_v1, Cert.Out1RefIdeal.Read.ridx_main_v2, Cert.Out1RefIdeal.Read.idx_main_v5]
    all_goals omega

/-- The result array ends holding the reference's result. -/
theorem final : (dats m 0 c).arrAt 3 cfg0.N = G m c := by
  refine (dats m 0 c).arrAt_eq_of_covers 3 _ (by decide +kernel) fun t hf y => ?_
  blk_simp
  rw [after0_3, left]
  obtain ⟨p, s, hp, ⟨q0, q1⟩, -, ⟨z0, z1⟩, o0, o1⟩ := places t
  obtain ⟨r, e, rfl⟩ : ∃ r e : Fin 512, y = ix2 r e := ⟨y 0, y 1, funext fun a => match a with | ⟨0, _⟩ => rfl | ⟨1, _⟩ => rfl⟩
  have e0 : (((win0_3.blk t).view.emb (ix2 r e)) 0 : ℕ) = s * 512 + r := by blk_simp [o0, o1]
  have e1 : (((win0_3.blk t).view.emb (ix2 r e)) 1 : ℕ) = p * 512 + e := by blk_simp [o0, o1]
  refine Eq.trans ?_ (ref_at (a0 m c) (a1 m c) (a2 m c) _ ⟨s * 512 + r, by omega⟩ ⟨p * 512 + e, by omega⟩ e0 e1).symm
  refine (block_at _ _ _ r e).trans ?_
  rw [z_blk m c t s p z0 z1]
  simp only [x_blk m c t s q0 q1, carried m c t.val t.isLt p hp]

end Cert.Output1
-- ==== Proof.Out2Arr.lean ====
module

public import proofs.«01_k».proof.Proof.Gen.Out2Ideal.Value
public import proofs.«01_k».proof.Proof.Gen.Out2RefIdeal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

/-! # The output product: what its result array holds -/

namespace Cert.Output2
open Idealize.ShloMosaic Idealize.ShloMosaic.TcCoe Idealize.SL.Sem
open Cert.Out2Ideal Cert.Out2Ideal.Gen

variable (m : (ℓ : Loc nD τ sig) → Buf (Elt Ideal) ℓ) (c : Dev nD)

/-- A point leaves the product of its input block with the weights that it carries on. -/
theorem left (t : Fin cfg0.N) : (outsAt0 m c t.val t.isLt).1
    = (k0_pay2 (F := Ideal) (iblk m c 0 t) (outsAt0 m c t.val t.isLt).2 (iblk m c 2 t)) := by
  by_cases h0 : t.val % 16 = 0
  · rw [outsAt0_A m c t h0]
    frame_out
  · rw [outsAt0_B m c t h0]
    frame_out
    simp only [sout0_B_0, read_unread_whole]

/-- Where each window's block lies at a grid point: column block `p`, row block `s`. -/
theorem places : ∀ t : Fin cfg0.N, ∃ (p : Fin 4) (s : Fin 16), (p : ℕ) = t.val / 16
    ∧ (win0_0.index t 0 = s ∧ win0_0.index t 1 = 0)
    ∧ (win0_1.index t 0 = 0 ∧ win0_1.index t 1 = 0 ∧ win0_1.index t 2 = p)
    ∧ (win0_2.index t 0 = s ∧ win0_2.index t 1 = p)
    ∧ (win0_3.index t 0 = s ∧ win0_3.index t 1 = p) := by
  decide +kernel

abbrev a0 : FVec Ideal S8192x2048 .f32 := m ((c.tc : Thread nD τ).loc main_arg0)
abbrev a1 : FVec Ideal S8192x1024 .bf16 := m ((c.tc : Thread nD τ).loc main_arg1)
abbrev a2 : FVec Ideal S1x1024x2048 .f32 := m ((c.tc : Thread nD τ).loc main_arg2)

/-- The weights cast at a point. -/
theorem cast_at (w : Vec Ideal S1x1024x512 .f32) (k : Fin 1024) (e : Fin 512) :
    k0_pay1 (F := Ideal) w (ix2 k e) = w (ix3 0 k e) := by
  pointwise [k0_pay1]

/-- The product stored at a point. -/
theorem block_at (x : Vec Ideal S512x1024 .bf16) (w : Vec Ideal S1024x512 .bf16) (z : Vec Ideal S512x512 .f32)
    (r e : Fin 512) : k0_pay2 (F := Ideal) x w z (ix2 r e) = z (ix2 r e) + ∑ k : Fin 1024, x (ix2 r k) * w (ix2 k e) := by
  pointwise [k0_pay2]
  try simp

/-- The block of weights. -/
theorem w_blk (t : Fin cfg0.N) (p : Fin 4) (e0 : win0_1.index t 0 = 0) (e1 : win0_1.index t 1 = 0) (e2 : win0_1.index t 2 = p)
    (k : Fin 1024) (e : Fin 512) :
    (iblk m c 1 t : Vec Ideal S1x1024x512 .f32) (ix3 0 k e) = a2 m c (ix3 0 k ⟨p * 512 + e, by omega⟩) := by
  blk_ext [iblk, V, e0, e1, e2]

theorem x_blk (t : Fin cfg0.N) (s : Fin 16) (e0 : win0_0.index t 0 = s) (e1 : win0_0.index t 1 = 0)
    (r : Fin 512) (k : Fin 1024) :
    (iblk m c 0 t : Vec Ideal S512x1024 .bf16) (ix2 r k) = a1 m c (ix2 ⟨s * 512 + r, by omega⟩ k) := by
  blk_ext [iblk, V, e0, e1]

theorem z_blk (t : Fin cfg0.N) (s : Fin 16) (p : Fin 4) (e0 : win0_2.index t 0 = s) (e1 : win0_2.index t 1 = p)
    (r e : Fin 512) :
    (iblk m c 2 t : Vec Ideal S512x512 .f32) (ix2 r e) = a0 m c (ix2 ⟨s * 512 + r, by omega⟩ ⟨p * 512 + e, by omega⟩) := by
  blk_ext [iblk, V, e0, e1]

/-- The weights that a point carries on: those of its column block. -/
theorem carried (n : ℕ) : ∀ (hn : n < cfg0.N) (p : Fin 4), (p : ℕ) = n / 16 → ∀ (k : Fin 1024) (e : Fin 512),
    (outsAt0 m c n hn).2 (ix2 k e) = a2 m c (ix3 0 k ⟨p * 512 + e, by omega⟩) := by
  induction n with
  | zero =>
    intro hn p hp k e
    obtain ⟨p', s, hp', -, ⟨e0, e1, e2⟩, -, -⟩ := places ⟨0, hn⟩
    have hpp : p = p' := Fin.ext (hp.trans hp'.symm)
    rw [hpp]
    refine Eq.trans ?_ ((cast_at (iblk m c 1 ⟨0, hn⟩) k e).trans (w_blk m c ⟨0, hn⟩ p' e0 e1 e2 k e))
    rw [outsAt0_A m c ⟨0, hn⟩ rfl]
    frame_out
  | succ n ih =>
    intro hn p hp k e
    by_cases h0 : (n + 1) % 16 = 0
    · obtain ⟨p', s, hp', -, ⟨e0, e1, e2⟩, -, -⟩ := places ⟨n + 1, hn⟩
      have hpp : p = p' := Fin.ext (hp.trans hp'.symm)
      rw [hpp]
      refine Eq.trans ?_ ((cast_at (iblk m c 1 ⟨n + 1, hn⟩) k e).trans (w_blk m c ⟨n + 1, hn⟩ p' e0 e1 e2 k e))
      rw [outsAt0_A m c ⟨n + 1, hn⟩ h0]
      frame_out
    · rw [outsAt0_B m c ⟨n + 1, hn⟩ h0]
      exact ih (Nat.lt_of_succ_lt hn) p (by omega) k e

abbrev G : Buf (Elt Ideal) ((c.tc : Thread nD τ).loc main_v0) :=
  Cert.Out2RefIdeal.Read.val_main_v5 (F := Ideal) (a0 m c) (a1 m c) (a2 m c)

/-- The reference's result at a row and a column. -/
theorem ref_at (x0 : FVec Ideal S8192x2048 .f32) (x1 : FVec Ideal S8192x1024 .bf16) (x2 : FVec Ideal S1x1024x2048 .f32)
    (i : S8192x2048.Idx) (r : Fin 8192) (e : Fin 2048) (hr : (i 0 : ℕ) = r) (he : (i 1 : ℕ) = e) :
    Cert.Out2RefIdeal.Read.val_main_v5 (F := Ideal) x0 x1 x2 i
      = x0 (ix2 r e) + ∑ k : Fin 1024, x1 (ix2 r k) * x2 (ix3 0 k e) := by
  have hi : i = ix2 r e := funext fun a => match a with | ⟨0, _⟩ => Fin.ext hr | ⟨1, _⟩ => Fin.ext he
  rw [hi, Cert.Out2RefIdeal.Read.val_main_v5_apply, Cert.Out2RefIdeal.Read.val_main_v4_apply,
    Cert.Out2RefIdeal.Read.val_main_v2_apply, Cert.Out2RefIdeal.Read.val_main_v3_apply]
  have ha : Cert.Out2RefIdeal.Read.idx_main_v3 (Cert.Out2RefIdeal.Read.idx_main_v5 (ix2 r e)) = ix2 r e := funext fun a => match a with
    | ⟨0, _⟩ => Fin.ext (by simp [Cert.Out2RefIdeal.Read.idx_main_v3, Cert.Out2RefIdeal.Read.idx_main_v5]; omega)
    | ⟨1, _⟩ => Fin.ext (by simp [Cert.Out2RefIdeal.Read.idx_main_v3, Cert.Out2RefIdeal.Read.idx_main_v5])
  rw [ha]
  refine congrArg (x0 (ix2 r e) + ·) (Finset.sum_congr rfl fun k _ => congr_arg₂ (· * ·) ?_ ?_)
  · rw [Cert.Out2RefIdeal.Read.val_main_v0_apply]
    refine congrArg x1 (funext fun a => match a with
      | ⟨0, _⟩ => Fin.ext ?_
      | ⟨1, _⟩ => Fin.ext ?_)
    all_goals simp [Cert.Out2RefIdeal.Read.idx_main_v0, Cert.Out2RefIdeal.Read.lidx_main_v2, Cert.Out2RefIdeal.Read.idx_main_v5]
    all_goals omega
  · rw [Cert.Out2RefIdeal.Read.val_main_v1_apply]
    refine congrArg x2 (funext fun a => match a with
      | ⟨0, _⟩ => Fin.ext ?_
      | ⟨1, _⟩ => Fin.ext ?_
      | ⟨2, _⟩ => Fin.ext ?_)
    all_goals simp [Cert.Out2RefIdeal.Read.idx_main_v1, Cert.Out2RefIdeal.Read.ridx_main_v2, Cert.Out2RefIdeal.Read.idx_main_v5]
    all_goals omega

/-- The result array ends holding the reference's result. -/
theorem final : (dats m 0 c).arrAt 3 cfg0.N = G m c := by
  refine (dats m 0 c).arrAt_eq_of_covers 3 _ (by decide +kernel) fun t hf y => ?_
  blk_simp
  rw [after0_3, left]
  obtain ⟨p, s, hp, ⟨q0, q1⟩, -, ⟨z0, z1⟩, o0, o1⟩ := places t
  obtain ⟨r, e, rfl⟩ : ∃ r e : Fin 512, y = ix2 r e := ⟨y 0, y 1, funext fun a => match a with | ⟨0, _⟩ => rfl | ⟨1, _⟩ => rfl⟩
  have e0 : (((win0_3.blk t).view.emb (ix2 r e)) 0 : ℕ) = s * 512 + r := by blk_simp [o0, o1]
  have e1 : (((win0_3.blk t).view.emb (ix2 r e)) 1 : ℕ) = p * 512 + e := by blk_simp [o0, o1]
  refine Eq.trans ?_ (ref_at (a0 m c) (a1 m c) (a2 m c) _ ⟨s * 512 + r, by omega⟩ ⟨p * 512 + e, by omega⟩ e0 e1).symm
  refine (block_at _ _ _ r e).trans ?_
  rw [z_blk m c t s p z0 z1]
  simp only [x_blk m c t s q0 q1, carried m c t.val t.isLt p hp]

end Cert.Output2
-- ==== Proof.Out3Arr.lean ====
module

public import proofs.«01_k».proof.Proof.Gen.Out3Ideal.Value
public import proofs.«01_k».proof.Proof.Gen.Out3RefIdeal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

/-! # The output product: what its result array holds -/

namespace Cert.Output3
open Idealize.ShloMosaic Idealize.ShloMosaic.TcCoe Idealize.SL.Sem
open Cert.Out3Ideal Cert.Out3Ideal.Gen

variable (m : (ℓ : Loc nD τ sig) → Buf (Elt Ideal) ℓ) (c : Dev nD)

/-- A point leaves the product of its input block with the weights that it carries on. -/
theorem left (t : Fin cfg0.N) : (outsAt0 m c t.val t.isLt).1
    = (k0_pay2 (F := Ideal) (iblk m c 0 t) (outsAt0 m c t.val t.isLt).2 (iblk m c 2 t)) := by
  by_cases h0 : t.val % 16 = 0
  · rw [outsAt0_A m c t h0]
    frame_out
  · rw [outsAt0_B m c t h0]
    frame_out
    simp only [sout0_B_0, read_unread_whole]

/-- Where each window's block lies at a grid point: column block `p`, row block `s`. -/
theorem places : ∀ t : Fin cfg0.N, ∃ (p : Fin 4) (s : Fin 16), (p : ℕ) = t.val / 16
    ∧ (win0_0.index t 0 = s ∧ win0_0.index t 1 = 0)
    ∧ (win0_1.index t 0 = 1 ∧ win0_1.index t 1 = 0 ∧ win0_1.index t 2 = p)
    ∧ (win0_2.index t 0 = s ∧ win0_2.index t 1 = p)
    ∧ (win0_3.index t 0 = s ∧ win0_3.index t 1 = p) := by
  decide +kernel

abbrev a0 : FVec Ideal S8192x2048 .f32 := m ((c.tc : Thread nD τ).loc main_arg0)
abbrev a1 : FVec Ideal S8192x2048 .bf16 := m ((c.tc : Thread nD τ).loc main_arg1)
abbrev a2 : FVec Ideal S2x2048x2048 .f32 := m ((c.tc : Thread nD τ).loc main_arg2)

/-- The weights cast at a point. -/
theorem cast_at (w : Vec Ideal S1x2048x512 .f32) (k : Fin 2048) (e : Fin 512) :
    k0_pay1 (F := Ideal) w (ix2 k e) = w (ix3 0 k e) := by
  pointwise [k0_pay1]

/-- The product stored at a point. -/
theorem block_at (x : Vec Ideal S512x2048 .bf16) (w : Vec Ideal S2048x512 .bf16) (z : Vec Ideal S512x512 .f32)
    (r e : Fin 512) : k0_pay2 (F := Ideal) x w z (ix2 r e) = z (ix2 r e) + ∑ k : Fin 2048, x (ix2 r k) * w (ix2 k e) := by
  pointwise [k0_pay2]
  try simp

/-- The block of weights. -/
theorem w_blk (t : Fin cfg0.N) (p : Fin 4) (e0 : win0_1.index t 0 = 1) (e1 : win0_1.index t 1 = 0) (e2 : win0_1.index t 2 = p)
    (k : Fin 2048) (e : Fin 512) :
    (iblk m c 1 t : Vec Ideal S1x2048x512 .f32) (ix3 0 k e) = a2 m c (ix3 1 k ⟨p * 512 + e, by omega⟩) := by
  blk_ext [iblk, V, e0, e1, e2]

theorem x_blk (t : Fin cfg0.N) (s : Fin 16) (e0 : win0_0.index t 0 = s) (e1 : win0_0.index t 1 = 0)
    (r : Fin 512) (k : Fin 2048) :
    (iblk m c 0 t : Vec Ideal S512x2048 .bf16) (ix2 r k) = a1 m c (ix2 ⟨s * 512 + r, by omega⟩ k) := by
  blk_ext [iblk, V, e0, e1]

theorem z_blk (t : Fin cfg0.N) (s : Fin 16) (p : Fin 4) (e0 : win0_2.index t 0 = s) (e1 : win0_2.index t 1 = p)
    (r e : Fin 512) :
    (iblk m c 2 t : Vec Ideal S512x512 .f32) (ix2 r e) = a0 m c (ix2 ⟨s * 512 + r, by omega⟩ ⟨p * 512 + e, by omega⟩) := by
  blk_ext [iblk, V, e0, e1]

/-- The weights that a point carries on: those of its column block. -/
theorem carried (n : ℕ) : ∀ (hn : n < cfg0.N) (p : Fin 4), (p : ℕ) = n / 16 → ∀ (k : Fin 2048) (e : Fin 512),
    (outsAt0 m c n hn).2 (ix2 k e) = a2 m c (ix3 1 k ⟨p * 512 + e, by omega⟩) := by
  induction n with
  | zero =>
    intro hn p hp k e
    obtain ⟨p', s, hp', -, ⟨e0, e1, e2⟩, -, -⟩ := places ⟨0, hn⟩
    have hpp : p = p' := Fin.ext (hp.trans hp'.symm)
    rw [hpp]
    refine Eq.trans ?_ ((cast_at (iblk m c 1 ⟨0, hn⟩) k e).trans (w_blk m c ⟨0, hn⟩ p' e0 e1 e2 k e))
    rw [outsAt0_A m c ⟨0, hn⟩ rfl]
    frame_out
  | succ n ih =>
    intro hn p hp k e
    by_cases h0 : (n + 1) % 16 = 0
    · obtain ⟨p', s, hp', -, ⟨e0, e1, e2⟩, -, -⟩ := places ⟨n + 1, hn⟩
      have hpp : p = p' := Fin.ext (hp.trans hp'.symm)
      rw [hpp]
      refine Eq.trans ?_ ((cast_at (iblk m c 1 ⟨n + 1, hn⟩) k e).trans (w_blk m c ⟨n + 1, hn⟩ p' e0 e1 e2 k e))
      rw [outsAt0_A m c ⟨n + 1, hn⟩ h0]
      frame_out
    · rw [outsAt0_B m c ⟨n + 1, hn⟩ h0]
      exact ih (Nat.lt_of_succ_lt hn) p (by omega) k e

abbrev G : Buf (Elt Ideal) ((c.tc : Thread nD τ).loc main_v0) :=
  Cert.Out3RefIdeal.Read.val_main_v6 (F := Ideal) (a0 m c) (a1 m c) (a2 m c)

/-- The reference's result at a row and a column. -/
theorem ref_at (x0 : FVec Ideal S8192x2048 .f32) (x1 : FVec Ideal S8192x2048 .bf16) (x2 : FVec Ideal S2x2048x2048 .f32)
    (i : S8192x2048.Idx) (r : Fin 8192) (e : Fin 2048) (hr : (i 0 : ℕ) = r) (he : (i 1 : ℕ) = e) :
    Cert.Out3RefIdeal.Read.val_main_v6 (F := Ideal) x0 x1 x2 i
      = x0 (ix2 r e) + ∑ k : Fin 2048, x1 (ix2 r k) * x2 (ix3 1 k e) := by
  have hi : i = ix2 r e := funext fun a => match a with | ⟨0, _⟩ => Fin.ext hr | ⟨1, _⟩ => Fin.ext he
  rw [hi, Cert.Out3RefIdeal.Read.val_main_v6_apply, Cert.Out3RefIdeal.Read.val_main_v5_apply,
    Cert.Out3RefIdeal.Read.val_main_v3_apply, Cert.Out3RefIdeal.Read.val_main_v4_apply]
  have ha : Cert.Out3RefIdeal.Read.idx_main_v4 (Cert.Out3RefIdeal.Read.idx_main_v6 (ix2 r e)) = ix2 r e := funext fun a => match a with
    | ⟨0, _⟩ => Fin.ext (by simp [Cert.Out3RefIdeal.Read.idx_main_v4, Cert.Out3RefIdeal.Read.idx_main_v6]; omega)
    | ⟨1, _⟩ => Fin.ext (by simp [Cert.Out3RefIdeal.Read.idx_main_v4, Cert.Out3RefIdeal.Read.idx_main_v6])
  rw [ha]
  refine congrArg (x0 (ix2 r e) + ·) (Finset.sum_congr rfl fun k _ => congr_arg₂ (· * ·) ?_ ?_)
  · rw [Cert.Out3RefIdeal.Read.val_main_v0_apply]
    refine congrArg x1 (funext fun a => match a with
      | ⟨0, _⟩ => Fin.ext ?_
      | ⟨1, _⟩ => Fin.ext ?_)
    all_goals simp [Cert.Out3RefIdeal.Read.idx_main_v0, Cert.Out3RefIdeal.Read.lidx_main_v3, Cert.Out3RefIdeal.Read.idx_main_v6]
    all_goals omega
  · rw [Cert.Out3RefIdeal.Read.val_main_v2_apply, Cert.Out3RefIdeal.Read.val_main_v1_apply]
    refine congrArg x2 (funext fun a => match a with
      | ⟨0, _⟩ => Fin.ext ?_
      | ⟨1, _⟩ => Fin.ext ?_
      | ⟨2, _⟩ => Fin.ext ?_)
    all_goals simp [Cert.Out3RefIdeal.Read.idx_main_v2, Cert.Out3RefIdeal.Read.idx_main_v1, Cert.Out3RefIdeal.Read.ridx_main_v3, Cert.Out3RefIdeal.Read.idx_main_v6]
    all_goals omega

/-- The result array ends holding the reference's result. -/
theorem final : (dats m 0 c).arrAt 3 cfg0.N = G m c := by
  refine (dats m 0 c).arrAt_eq_of_covers 3 _ (by decide +kernel) fun t hf y => ?_
  blk_simp
  rw [after0_3, left]
  obtain ⟨p, s, hp, ⟨q0, q1⟩, -, ⟨z0, z1⟩, o0, o1⟩ := places t
  obtain ⟨r, e, rfl⟩ : ∃ r e : Fin 512, y = ix2 r e := ⟨y 0, y 1, funext fun a => match a with | ⟨0, _⟩ => rfl | ⟨1, _⟩ => rfl⟩
  have e0 : (((win0_3.blk t).view.emb (ix2 r e)) 0 : ℕ) = s * 512 + r := by blk_simp [o0, o1]
  have e1 : (((win0_3.blk t).view.emb (ix2 r e)) 1 : ℕ) = p * 512 + e := by blk_simp [o0, o1]
  refine Eq.trans ?_ (ref_at (a0 m c) (a1 m c) (a2 m c) _ ⟨s * 512 + r, by omega⟩ ⟨p * 512 + e, by omega⟩ e0 e1).symm
  refine (block_at _ _ _ r e).trans ?_
  rw [z_blk m c t s p z0 z1]
  simp only [x_blk m c t s q0 q1, carried m c t.val t.isLt p hp]

end Cert.Output3
-- ==== Proof.DilAEntry.lean ====
module

public import proofs.«01_k».proof.Proof.Gen.DilAIdeal.Value
public import proofs.«01_k».proof.Proof.RopeMath
public import Idealize.ShloMosaic.Lib.Pointwise
public import Idealize.ShloMosaic.Lib.StableHlo.RunRead

@[expose] public section

set_option maxRecDepth 16384

noncomputable section

/-! # The rotary tables that the call reads, from the positions -/

namespace Cert.DilAp
open Idealize.ShloMosaic Idealize.ShloMosaic.TcCoe Idealize.SL.Sem
open Cert.DilAIdeal Cert.DilAIdeal.Gen Cert.Rope

variable (m : (ℓ : Loc nD τ sig) → Buf (Elt Ideal) ℓ) (c : Dev nD)

/-- The position of a row. -/
abbrev pos (r : Fin 8192) : BitVec 32 :=
  (m ((c.tc : Thread nD τ).loc main_arg1) : IVec S4x2048 32) (ix2 ⟨r / 2048, by omega⟩ ⟨r % 2048, by omega⟩)

theorem c_at0 (r : Fin 8192) (j : Fin 128) :
    (V m c main_v48 : FVec Ideal S3x8192x128 .f32) (ix3 0 r j) = (cTab (pos m c r) j * sigma : EReal) := by
  unfold V
  unfold hostOps0
  after_reads_simp
  pointwise
  after_reads_simp
  pointwise
  after_reads_simp
  pointwise
  rfl

theorem c_at1 (r : Fin 8192) (j : Fin 128) :
    (V m c main_v48 : FVec Ideal S3x8192x128 .f32) (ix3 1 r j) = (cTab (pos m c r) j : EReal) := by
  unfold V
  unfold hostOps0
  after_reads_simp
  pointwise
  after_reads_simp
  pointwise
  after_reads_simp
  pointwise
  rfl

theorem c_at2 (r : Fin 8192) (j : Fin 128) :
    (V m c main_v48 : FVec Ideal S3x8192x128 .f32) (ix3 2 r j) = (1 : EReal) := by
  unfold V
  unfold hostOps0
  after_reads_simp
  pointwise
  after_reads_simp
  pointwise

theorem lo_at0 (r : Fin 8192) (j : Fin 128) :
    (V m c main_v52 : FVec Ideal S3x8192x128 .f32) (ix3 0 r j) = (loTab (pos m c r) j * sigma : EReal) := by
  unfold V
  unfold hostOps0
  after_reads_simp
  pointwise
  after_reads_simp
  pointwise
  after_reads_simp
  pointwise
  rfl

theorem lo_at1 (r : Fin 8192) (j : Fin 128) :
    (V m c main_v52 : FVec Ideal S3x8192x128 .f32) (ix3 1 r j) = (loTab (pos m c r) j : EReal) := by
  unfold V
  unfold hostOps0
  after_reads_simp
  pointwise
  after_reads_simp
  pointwise
  after_reads_simp
  pointwise
  rfl

theorem lo_at2 (r : Fin 8192) (j : Fin 128) :
    (V m c main_v52 : FVec Ideal S3x8192x128 .f32) (ix3 2 r j) = (0 : EReal) := by
  unfold V
  unfold hostOps0
  after_reads_simp
  pointwise
  after_reads_simp
  pointwise

theorem hi_at0 (r : Fin 8192) (j : Fin 128) :
    (V m c main_v56 : FVec Ideal S3x8192x128 .f32) (ix3 0 r j) = (hiTab (pos m c r) j * sigma : EReal) := by
  unfold V
  unfold hostOps0
  after_reads_simp
  pointwise
  after_reads_simp
  pointwise
  after_reads_simp
  pointwise
  rfl

theorem hi_at1 (r : Fin 8192) (j : Fin 128) :
    (V m c main_v56 : FVec Ideal S3x8192x128 .f32) (ix3 1 r j) = (hiTab (pos m c r) j : EReal) := by
  unfold V
  unfold hostOps0
  after_reads_simp
  pointwise
  after_reads_simp
  pointwise
  after_reads_simp
  pointwise
  rfl

theorem hi_at2 (r : Fin 8192) (j : Fin 128) :
    (V m c main_v56 : FVec Ideal S3x8192x128 .f32) (ix3 2 r j) = (0 : EReal) := by
  unfold V
  unfold hostOps0
  after_reads_simp
  pointwise
  after_reads_simp
  pointwise

end Cert.DilAp
-- ==== Proof.DilARef.lean ====
module

public import proofs.«01_k».proof.Proof.Gen.DilARefIdeal.Read
public import proofs.«01_k».proof.Proof.RopeMath

@[expose] public section

set_option maxRecDepth 16384

noncomputable section

/-! # The reference's queries, keys and values of one group, entry by entry -/

namespace Cert.DilAp.Ref
open Idealize.ShloMosaic Idealize.ShloMosaic.TcCoe Idealize.SL.Sem
open Cert.DilARefIdeal Cert.DilARefIdeal.Read Cert.Rope

variable (x0 : (⟨S8192x2048, .bf16⟩ : BufTy).Contents (Elt Ideal)) (x1 : (⟨S4x2048, .i32⟩ : BufTy).Contents (Elt Ideal))
  (x2 : (⟨S1x2048x9216, .f32⟩ : BufTy).Contents (Elt Ideal))

/-- The product of row `r` with column `e` of the weights. -/
def dot (r : Fin 8192) (e : Fin 9216) : EReal := ∑ k : Fin 2048, x0 (ix2 r k) * x2 (ix3 0 k e)

theorem dot_at (b : Fin 4) (s : Fin 2048) (e : Fin 9216) (r : Fin 8192) (hr : (r : ℕ) = b * 2048 + s) :
    val_main_v20 (F := Ideal) x0 x2 (ix3 b s e) = dot x0 x2 r e := by
  rw [val_main_v20_apply]
  refine Finset.sum_congr rfl fun k _ => congr_arg₂ (· * ·) ?_ ?_
  · rw [val_main_v18_apply]
    refine congrArg x0 (funext fun a => match a with
      | ⟨0, _⟩ => Fin.ext ?_
      | ⟨1, _⟩ => Fin.ext ?_)
    all_goals simp [idx_main_v18, lidx_main_v20]
    all_goals omega
  · rw [val_main_v19_apply]
    refine congrArg x2 (funext fun a => match a with
      | ⟨0, _⟩ => Fin.ext ?_
      | ⟨1, _⟩ => Fin.ext ?_
      | ⟨2, _⟩ => Fin.ext ?_)
    all_goals simp [idx_main_v19, ridx_main_v20]
    all_goals omega

theorem ang_at (b : Fin 4) (s : Fin 2048) (l : Fin 16) : val_main_v15 (F := Ideal) x1 (ix3 b s l) = ang (x1 (ix2 b s)) l := by
  unfold val_main_v15 val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1 val_main_cst_2
  pointwise
  rfl

/-- The queries, turned. -/
theorem q_turn (b : Fin 4) (s : Fin 2048) (h : Fin 8) (j : Fin 128) (r : Fin 8192) (hr : (r : ℕ) = b * 2048 + s) :
    val_main_v41 (F := Ideal) x0 x1 x2 (ix5 b s 0 h j)
      = turn (fun l => dot x0 x2 r ⟨h * 128 + l, by omega⟩) (x1 (ix2 b s)) j := by
  have hT : ∀ l : Fin 16, val_main_v15 (F := Ideal) x1 (ix3 b s l) = ang (x1 (ix2 b s)) l := ang_at x1 b s
  have hY : ∀ e : Fin 9216, val_main_v20 (F := Ideal) x0 x2 (ix3 b s e) = dot x0 x2 r e := fun e => dot_at x0 x2 b s e r hr
  unfold val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v16 val_main_v17
  generalize val_main_v15 (F := Ideal) x1 = t at hT ⊢
  generalize val_main_v20 (F := Ideal) x0 x2 = y at hY ⊢
  pointwise
  simp only [hY]
  refine Eq.trans ?_ (turn_of _ (fun l => t (ix3 b s l)) _ j hT)
  simp [Nat.add_assoc]

/-- The keys, turned. -/
theorem k_turn (b : Fin 4) (s : Fin 2048) (h : Fin 8) (j : Fin 128) (r : Fin 8192) (hr : (r : ℕ) = b * 2048 + s) :
    val_main_v63 (F := Ideal) x0 x1 x2 (ix5 b s 0 h j)
      = turn (fun l => dot x0 x2 r ⟨3072 + h * 128 + l, by omega⟩) (x1 (ix2 b s)) j := by
  have hT : ∀ l : Fin 16, val_main_v15 (F := Ideal) x1 (ix3 b s l) = ang (x1 (ix2 b s)) l := ang_at x1 b s
  have hY : ∀ e : Fin 9216, val_main_v20 (F := Ideal) x0 x2 (ix3 b s e) = dot x0 x2 r e := fun e => dot_at x0 x2 b s e r hr
  unfold val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v21 val_main_v16 val_main_v17
  generalize val_main_v15 (F := Ideal) x1 = t at hT ⊢
  generalize val_main_v20 (F := Ideal) x0 x2 = y at hY ⊢
  pointwise
  simp only [hY]
  refine Eq.trans ?_ (turn_of _ (fun l => t (ix3 b s l)) _ j hT)
  simp [Nat.add_assoc]

/-- A column of queries. -/
theorem q_at (b : Fin 4) (s : Fin 2048) (h : Fin 8) (j : Fin 128) (r : Fin 8192) (e : Fin 1024)
    (hr : (r : ℕ) = b * 2048 + s) (he : (e : ℕ) = h * 128 + j) :
    val_main_v79 (F := Ideal) x0 x1 x2 (ix2 r ⟨e, by omega⟩)
      = turn (fun l => dot x0 x2 r ⟨h * 128 + l, by omega⟩) (x1 (ix2 b s)) j * sigma := by
  have hq := q_turn x0 x1 x2 b s h j r hr
  unfold val_main_v79 val_main_v78 val_main_v77 val_main_v76 val_main_v75 val_main_v74 val_main_v73 val_main_v72 val_main_v71 val_main_v70 val_main_v69 val_main_v68 val_main_v67 val_main_v66 val_main_cst_4 val_main_v43 val_main_v42 val_main_cst_3
  generalize val_main_v41 (F := Ideal) x0 x1 x2 = t at hq ⊢
  generalize val_main_v63 (F := Ideal) x0 x1 x2 = y
  generalize val_main_v65 (F := Ideal) x0 x2 = z
  pointwise
  have hi : (ix5 (⟨r / 2048, by omega⟩ : Fin 4) (⟨r % 2048, by omega⟩ : Fin 2048) (0 : Fin 3) (⟨e / 128, by omega⟩ : Fin 8)
      (⟨e % 128, by omega⟩ : Fin 128)) = ix5 b s 0 h j := by
    congr 1 <;> exact Fin.ext (by simp only []; omega)
  refine Eq.trans (congrArg (fun w => Ideal.div (w * _) _) (Eq.trans (congrArg t hi) hq)) ?_
  exact scaled _

/-- A column of keys. -/
theorem k_at (b : Fin 4) (s : Fin 2048) (h : Fin 8) (j : Fin 128) (r : Fin 8192) (e : Fin 1024)
    (hr : (r : ℕ) = b * 2048 + s) (he : (e : ℕ) = h * 128 + j) :
    val_main_v79 (F := Ideal) x0 x1 x2 (ix2 r ⟨1024 + e, by omega⟩)
      = turn (fun l => dot x0 x2 r ⟨3072 + h * 128 + l, by omega⟩) (x1 (ix2 b s)) j := by
  have hk := k_turn x0 x1 x2 b s h j r hr
  unfold val_main_v79 val_main_v78 val_main_v77 val_main_v76 val_main_v75 val_main_v74 val_main_v73 val_main_v72 val_main_v71 val_main_v70 val_main_v69 val_main_v68 val_main_v67 val_main_v66 val_main_cst_4 val_main_v43 val_main_v42 val_main_cst_3
  generalize val_main_v41 (F := Ideal) x0 x1 x2 = t
  generalize val_main_v63 (F := Ideal) x0 x1 x2 = y at hk ⊢
  generalize val_main_v65 (F := Ideal) x0 x2 = z
  pointwise
  have hi : (ix5 (⟨r / 2048, by omega⟩ : Fin 4) (⟨r % 2048, by omega⟩ : Fin 2048) (0 : Fin 3) (⟨e / 128, by omega⟩ : Fin 8)
      (⟨e % 128, by omega⟩ : Fin 128)) = ix5 b s 0 h j := by
    congr 1 <;> exact Fin.ext (by simp only []; omega)
  exact (congrArg y hi).trans hk

set_option maxHeartbeats 1000000 in
/-- A column of values. -/
theorem v_at (r : Fin 8192) (e : Fin 1024) :
    val_main_v79 (F := Ideal) x0 x1 x2 (ix2 r ⟨2048 + e, by omega⟩) = dot x0 x2 r ⟨6144 + e, by omega⟩ := by
  have hy := dot_at x0 x2 ⟨r / 2048, by omega⟩ ⟨r % 2048, by omega⟩ ⟨6144 + e, by omega⟩ r (by simp only []; omega)
  unfold val_main_v79 val_main_v78 val_main_v77 val_main_v76 val_main_v75 val_main_v74 val_main_v73 val_main_v72 val_main_v71 val_main_v70 val_main_v69 val_main_v68 val_main_v67 val_main_v66 val_main_cst_4 val_main_v43 val_main_v42 val_main_cst_3
    val_main_v65 val_main_v64 val_main_v21
  generalize val_main_v41 (F := Ideal) x0 x1 x2 = t
  generalize val_main_v63 (F := Ideal) x0 x1 x2 = y
  generalize val_main_v20 (F := Ideal) x0 x2 = z at hy ⊢
  pointwise
  rw [dif_neg (by omega), dif_neg (by omega), ← hy]
  exact congrArg (fun w => z (ix3 _ _ w)) (Fin.ext (by simp only []; omega))

end Cert.DilAp.Ref
-- ==== Proof.DilAArr.lean ====
module

public import proofs.«01_k».proof.Proof.Gen.DilAIdeal.Value
public import proofs.«01_k».proof.Proof.DilAEntry
public import proofs.«01_k».proof.Proof.DilARef
public import Idealize.ShloMosaic.Lib.Pipeline.ValueKit
public import Idealize.ShloMosaic.Lib.Pipeline.ReadBack
public import Idealize.ShloMosaic.Lib.Claim

@[expose] public section

set_option maxRecDepth 16384

noncomputable section

/-! # The product with the rotation: what its result array holds -/

namespace Cert.DilAp
open Idealize.ShloMosaic Idealize.ShloMosaic.TcCoe Idealize.SL.Sem
open Cert.DilAIdeal Cert.DilAIdeal.Gen Cert.Rope

variable (m : (ℓ : Loc nD τ sig) → Buf (Elt Ideal) ℓ) (c : Dev nD)

/-- A point leaves the turned product of its input block with the weights that it carries on. -/
theorem left (t : Fin cfg0.N) : (outsAt0 m c t.val t.isLt).1
    = (k0_pay2 (F := Ideal) (iblk m c 0 t) (outsAt0 m c t.val t.isLt).2 (iblk m c 2 t) (iblk m c 3 t) (iblk m c 4 t)) := by
  by_cases h0 : t.val % 16 = 0
  · rw [outsAt0_A m c t h0]
    frame_out
  · rw [outsAt0_B m c t h0]
    frame_out
    simp only [sout0_B_0, read_unread_whole]

/-- Where each window's block lies at a grid point: column block `q` of part `P`, row block `s`. -/
theorem places : ∀ t : Fin cfg0.N, ∃ (P : Fin 3) (q : Fin 2) (s : Fin 16), (P * 2 + q : ℕ) = t.val / 16
    ∧ (win0_0.index t 0 = s ∧ win0_0.index t 1 = 0)
    ∧ (win0_1.index t 0 = 0 ∧ win0_1.index t 1 = 0 ∧ win0_1.index t 2 = P * 6 + 0 + q)
    ∧ (win0_2.index t 0 = P ∧ win0_2.index t 1 = s ∧ win0_2.index t 2 = 0)
    ∧ (win0_3.index t 0 = P ∧ win0_3.index t 1 = s ∧ win0_3.index t 2 = 0)
    ∧ (win0_4.index t 0 = P ∧ win0_4.index t 1 = s ∧ win0_4.index t 2 = 0)
    ∧ (win0_5.index t 0 = s ∧ win0_5.index t 1 = P * 2 + q) := by
  decide +kernel

abbrev a0 : FVec Ideal S8192x2048 .bf16 := m ((c.tc : Thread nD τ).loc main_arg0)
abbrev a1 : IVec S4x2048 32 := m ((c.tc : Thread nD τ).loc main_arg1)
abbrev a2 : FVec Ideal S1x2048x9216 .f32 := m ((c.tc : Thread nD τ).loc main_arg2)

/-- The weights cast at a point. -/
theorem cast_at (w : Vec Ideal S1x2048x512 .f32) (k : Fin 2048) (e : Fin 512) :
    k0_pay1 (F := Ideal) w (ix2 k e) = w (ix3 0 k e) := by
  pointwise [k0_pay1]

/-- The turned product stored at a point. -/
theorem block_at (v3 : Vec Ideal S512x2048 .bf16) (v4 : Vec Ideal S2048x512 .bf16) (v6 v9 v12 : Vec Ideal S1x512x128 .f32)
    (r e : Fin 512) (a : Fin 4) (j : Fin 128) (he : (e : ℕ) = a * 128 + j) (D : Fin 512 → EReal)
    (hD : ∀ e, ∑ x, v3 (ix2 r x) * v4 (ix2 x e) = D e) :
    k0_pay2 (F := Ideal) v3 v4 v6 v9 v12 (ix2 r e)
      = D e * v6 (ix3 0 r j) + D ⟨(e + 512 - 496) % 512, by omega⟩ * v9 (ix3 0 r j)
        + D ⟨(e + 512 - 16) % 512, by omega⟩ * v12 (ix3 0 r j) := by
  pointwise [k0_pay2]
  simp only [hD]
  exact congr_arg₂ (· + ·) (congr_arg₂ (· + ·)
    (congrArg (_ * ·) (tile (fun j => v6 (ix3 0 r j)) a j e he)) (congrArg (_ * ·) (tile (fun j => v9 (ix3 0 r j)) a j e he)))
    (congrArg (_ * ·) (tile (fun j => v12 (ix3 0 r j)) a j e he))

/-- The block of weights. -/
theorem w_blk (t : Fin cfg0.N) (p : Fin 18) (e0 : win0_1.index t 0 = 0) (e1 : win0_1.index t 1 = 0) (e2 : win0_1.index t 2 = p)
    (k : Fin 2048) (e : Fin 512) :
    (iblk m c 1 t : Vec Ideal S1x2048x512 .f32) (ix3 0 k e) = a2 m c (ix3 0 k ⟨p * 512 + e, by omega⟩) := by
  refine Eq.trans ?_ (congrFun (show (V m c main_arg2 : FVec Ideal S1x2048x9216 .f32) = a2 m c from V_main_arg2 m c) _)
  refine congrArg (V m c main_arg2 : FVec Ideal S1x2048x9216 .f32) ?_
  blk_ext [e0, e1, e2]

/-- The block of tokens. -/
theorem x_blk (t : Fin cfg0.N) (s : Fin 16) (e0 : win0_0.index t 0 = s) (e1 : win0_0.index t 1 = 0)
    (r : Fin 512) (k : Fin 2048) :
    (iblk m c 0 t : Vec Ideal S512x2048 .bf16) (ix2 r k) = a0 m c (ix2 ⟨s * 512 + r, by omega⟩ k) := by
  refine Eq.trans ?_ (congrFun (show (V m c main_arg0 : FVec Ideal S8192x2048 .bf16) = a0 m c from V_main_arg0 m c) _)
  refine congrArg (V m c main_arg0 : FVec Ideal S8192x2048 .bf16) ?_
  blk_ext [e0, e1]

/-- A block of the table `c`. -/
theorem c_blk (t : Fin cfg0.N) (P : Fin 3) (s : Fin 16) (e0 : win0_2.index t 0 = P) (e1 : win0_2.index t 1 = s)
    (e2 : win0_2.index t 2 = 0) (r : Fin 512) (j : Fin 128) :
    (iblk m c 2 t : Vec Ideal S1x512x128 .f32) (ix3 0 r j)
      = (V m c main_v48 : FVec Ideal S3x8192x128 .f32) (ix3 P ⟨s * 512 + r, by omega⟩ j) := by
  refine congrArg (V m c main_v48 : FVec Ideal S3x8192x128 .f32) ?_
  blk_ext [e0, e1, e2]

/-- A block of the table `lo`. -/
theorem lo_blk (t : Fin cfg0.N) (P : Fin 3) (s : Fin 16) (e0 : win0_3.index t 0 = P) (e1 : win0_3.index t 1 = s)
    (e2 : win0_3.index t 2 = 0) (r : Fin 512) (j : Fin 128) :
    (iblk m c 3 t : Vec Ideal S1x512x128 .f32) (ix3 0 r j)
      = (V m c main_v52 : FVec Ideal S3x8192x128 .f32) (ix3 P ⟨s * 512 + r, by omega⟩ j) := by
  refine congrArg (V m c main_v52 : FVec Ideal S3x8192x128 .f32) ?_
  blk_ext [e0, e1, e2]

/-- A block of the table `hi`. -/
theorem hi_blk (t : Fin cfg0.N) (P : Fin 3) (s : Fin 16) (e0 : win0_4.index t 0 = P) (e1 : win0_4.index t 1 = s)
    (e2 : win0_4.index t 2 = 0) (r : Fin 512) (j : Fin 128) :
    (iblk m c 4 t : Vec Ideal S1x512x128 .f32) (ix3 0 r j)
      = (V m c main_v56 : FVec Ideal S3x8192x128 .f32) (ix3 P ⟨s * 512 + r, by omega⟩ j) := by
  refine congrArg (V m c main_v56 : FVec Ideal S3x8192x128 .f32) ?_
  blk_ext [e0, e1, e2]

/-- The weights that a point carries on: those of its column block. -/
theorem carried (n : ℕ) : ∀ (hn : n < cfg0.N) (p : Fin 18), (p : ℕ) = n / 32 * 6 + 0 + n / 16 % 2 → ∀ (k : Fin 2048) (e : Fin 512),
    (outsAt0 m c n hn).2 (ix2 k e) = a2 m c (ix3 0 k ⟨p * 512 + e, by omega⟩) := by
  induction n with
  | zero =>
    intro hn p hp k e
    obtain ⟨P, q, s, hp', -, ⟨e0, e1, e2⟩, -⟩ := places ⟨0, hn⟩
    change (P * 2 + q : ℕ) = 0 / 16 at hp'
    refine Eq.trans ?_ ((cast_at (iblk m c 1 ⟨0, hn⟩) k e).trans
      (w_blk m c ⟨0, hn⟩ p e0 e1 (e2.trans (by omega)) k e))
    rw [outsAt0_A m c ⟨0, hn⟩ rfl]
    frame_out
  | succ n ih =>
    intro hn p hp k e
    by_cases h0 : (n + 1) % 16 = 0
    · obtain ⟨P, q, s, hp', -, ⟨e0, e1, e2⟩, -⟩ := places ⟨n + 1, hn⟩
      change (P * 2 + q : ℕ) = (n + 1) / 16 at hp'
      refine Eq.trans ?_ ((cast_at (iblk m c 1 ⟨n + 1, hn⟩) k e).trans
        (w_blk m c ⟨n + 1, hn⟩ p e0 e1 (e2.trans (by omega)) k e))
      rw [outsAt0_A m c ⟨n + 1, hn⟩ h0]
      frame_out
    · rw [outsAt0_B m c ⟨n + 1, hn⟩ h0]
      exact ih (Nat.lt_of_succ_lt hn) p (by omega) k e

abbrev G : Buf (Elt Ideal) ((c.tc : Thread nD τ).loc main_v57) :=
  Cert.DilARefIdeal.Read.val_main_v79 (F := Ideal) (a0 m c) (a1 m c) (a2 m c)

/-- The result array ends holding the reference's result. -/
theorem final : (dats m 0 c).arrAt 5 cfg0.N = G m c := by
  refine (dats m 0 c).arrAt_eq_of_covers 5 _ (by decide +kernel) fun t hf y => ?_
  blk_simp
  rw [after0_5, left]
  obtain ⟨P, q, s, hp, ⟨x0, x1⟩, -, ⟨c0, c1, c2⟩, ⟨l0, l1, l2⟩, ⟨h0, h1, h2⟩, o0, o1⟩ := places t
  obtain ⟨r, e, rfl⟩ : ∃ r e : Fin 512, y = ix2 r e := ⟨y 0, y 1, funext fun a => match a with | ⟨0, _⟩ => rfl | ⟨1, _⟩ => rfl⟩
  obtain ⟨a, ha⟩ : ∃ a : Fin 4, (a : ℕ) = e / 128 := ⟨⟨e / 128, by omega⟩, rfl⟩
  obtain ⟨j, hj⟩ : ∃ j : Fin 128, (j : ℕ) = e % 128 := ⟨⟨e % 128, by omega⟩, rfl⟩
  obtain ⟨R, hR⟩ : ∃ R : Fin 8192, (R : ℕ) = s * 512 + r := ⟨⟨s * 512 + r, by omega⟩, rfl⟩
  obtain ⟨p, hpp⟩ : ∃ p : Fin 18, (p : ℕ) = P * 6 + 0 + q := ⟨⟨P * 6 + 0 + q, by omega⟩, rfl⟩
  obtain ⟨E, hE⟩ : ∃ E : Fin 1024, (E : ℕ) = q * 512 + e := ⟨⟨q * 512 + e, by omega⟩, rfl⟩
  have he : (e : ℕ) = a * 128 + j := by omega
  have e0 : (((win0_5.blk t).view.emb (ix2 r e)) 0 : ℕ) = R := by blk_simp [o0, o1]; omega
  have e1 : (((win0_5.blk t).view.emb (ix2 r e)) 1 : ℕ) = P * 1024 + E := by blk_simp [o0, o1]; omega
  have hi : (win0_5.blk t).view.emb (ix2 r e) = (ix2 R ⟨P * 1024 + E, by omega⟩ : S8192x3072.Idx) :=
    funext fun a => match a with | ⟨0, _⟩ => Fin.ext e0 | ⟨1, _⟩ => Fin.ext e1
  rw [hi]
  have hRe : (⟨s * 512 + r, by omega⟩ : Fin 8192) = R := Fin.ext hR.symm
  refine (block_at _ _ _ _ _ r e a j he (fun e => Ref.dot (a0 m c) (a2 m c) R ⟨p * 512 + e, by omega⟩) fun e => ?_).trans ?_
  · refine Finset.sum_congr rfl fun k _ => congr_arg₂ (· * ·) ?_ (carried m c t.val t.isLt p (by omega) k e)
    exact (x_blk m c t s x0 x1 r k).trans (by rw [hRe])
  rw [c_blk m c t P s c0 c1 c2, lo_blk m c t P s l0 l1 l2, hi_blk m c t P s h0 h1 h2, hRe]
  obtain ⟨x, hx⟩ : ∃ x : Fin 128 → EReal, x = fun l : Fin 128 => Ref.dot (a0 m c) (a2 m c) R ⟨p * 512 + (a * 128 + l), by omega⟩ := ⟨_, rfl⟩
  have hX : Ref.dot (a0 m c) (a2 m c) R ⟨p * 512 + e, by omega⟩
      = x j :=
    (congrArg (Ref.dot (a0 m c) (a2 m c) R) (Fin.ext (by simp only []; omega))).trans (congrFun hx _).symm
  have hY : ∀ h : (j : ℕ) < 16, Ref.dot (a0 m c) (a2 m c) R ⟨p * 512 + (e + 512 - 496) % 512, by omega⟩
      = x ⟨j + 16, by omega⟩ := fun h =>
    (congrArg (Ref.dot (a0 m c) (a2 m c) R) (Fin.ext (by simp only []; omega))).trans (congrFun hx _).symm
  have hZ : ∀ h : ¬(j : ℕ) < 16, (j : ℕ) < 32 → Ref.dot (a0 m c) (a2 m c) R ⟨p * 512 + (e + 512 - 16) % 512, by omega⟩
      = x ⟨j - 16, by omega⟩ := fun h h' =>
    (congrArg (Ref.dot (a0 m c) (a2 m c) R) (Fin.ext (by simp only []; omega))).trans (congrFun hx _).symm
  dsimp only
  obtain ⟨H, hH⟩ : ∃ H : Fin 8, (H : ℕ) = q * 4 + a := ⟨⟨q * 4 + a, by omega⟩, rfl⟩
  have hr : (R : ℕ) = (⟨R / 2048, by omega⟩ : Fin 4) * 2048 + (⟨R % 2048, by omega⟩ : Fin 2048) := by simp only []; omega
  have hEE : (E : ℕ) = H * 128 + j := by omega
  have hP : P = 0 ∨ P = 1 ∨ P = 2 := by fin_cases P <;> simp
  rcases hP with rfl | rfl | rfl
  · rw [c_at0, lo_at0, hi_at0, hX]
    refine (turned_scaled x (pos m c R) j _ _ hY hZ).trans (Eq.trans (congrArg (fun x => turn x (pos m c R) j * sigma)
      (funext fun l => (congrFun hx l).trans (congrArg (Ref.dot (a0 m c) (a2 m c) R) (Fin.ext ?_))))
      ((Ref.q_at (a0 m c) (a1 m c) (a2 m c) _ _ H j R E hr hEE).symm.trans
        (congrArg (fun w => Cert.DilARefIdeal.Read.val_main_v79 (F := Ideal) (a0 m c) (a1 m c) (a2 m c) (ix2 R w)) (Fin.ext ?_))))
    · simp at hpp; simp only []; omega
    · simp
  · rw [c_at1, lo_at1, hi_at1, hX]
    refine (turned x (pos m c R) j _ _ hY hZ).trans (Eq.trans (congrArg (fun x => turn x (pos m c R) j)
      (funext fun l => (congrFun hx l).trans (congrArg (Ref.dot (a0 m c) (a2 m c) R) (Fin.ext ?_))))
      ((Ref.k_at (a0 m c) (a1 m c) (a2 m c) _ _ H j R E hr hEE).symm.trans
        (congrArg (fun w => Cert.DilARefIdeal.Read.val_main_v79 (F := Ideal) (a0 m c) (a1 m c) (a2 m c) (ix2 R w)) (Fin.ext ?_))))
    · simp at hpp; simp only []; omega
    · simp
  · rw [c_at2, lo_at2, hi_at2, mul_one, mul_zero, mul_zero, add_zero, add_zero]
    refine Eq.trans (congrArg (Ref.dot (a0 m c) (a2 m c) R) (Fin.ext ?_))
      ((Ref.v_at (a0 m c) (a1 m c) (a2 m c) R E).symm.trans
        (congrArg (fun w => Cert.DilARefIdeal.Read.val_main_v79 (F := Ideal) (a0 m c) (a1 m c) (a2 m c) (ix2 R w)) (Fin.ext ?_)))
    · simp at hpp; simp only []; omega
    · simp

end Cert.DilAp
-- ==== Proof.DilBEntry.lean ====
module

public import proofs.«01_k».proof.Proof.Gen.DilBIdeal.Value
public import proofs.«01_k».proof.Proof.RopeMath
public import Idealize.ShloMosaic.Lib.Pointwise
public import Idealize.ShloMosaic.Lib.StableHlo.RunRead

@[expose] public section

set_option maxRecDepth 16384

noncomputable section

/-! # The rotary tables that the call reads, from the positions -/

namespace Cert.DilBp
open Idealize.ShloMosaic Idealize.ShloMosaic.TcCoe Idealize.SL.Sem
open Cert.DilBIdeal Cert.DilBIdeal.Gen Cert.Rope

variable (m : (ℓ : Loc nD τ sig) → Buf (Elt Ideal) ℓ) (c : Dev nD)

/-- The position of a row. -/
abbrev pos (r : Fin 8192) : BitVec 32 :=
  (m ((c.tc : Thread nD τ).loc main_arg1) : IVec S4x2048 32) (ix2 ⟨r / 2048, by omega⟩ ⟨r % 2048, by omega⟩)

theorem c_at0 (r : Fin 8192) (j : Fin 128) :
    (V m c main_v48 : FVec Ideal S3x8192x128 .f32) (ix3 0 r j) = (cTab (pos m c r) j * sigma : EReal) := by
  unfold V
  unfold hostOps0
  after_reads_simp
  pointwise
  after_reads_simp
  pointwise
  after_reads_simp
  pointwise
  rfl

theorem c_at1 (r : Fin 8192) (j : Fin 128) :
    (V m c main_v48 : FVec Ideal S3x8192x128 .f32) (ix3 1 r j) = (cTab (pos m c r) j : EReal) := by
  unfold V
  unfold hostOps0
  after_reads_simp
  pointwise
  after_reads_simp
  pointwise
  after_reads_simp
  pointwise
  rfl

theorem c_at2 (r : Fin 8192) (j : Fin 128) :
    (V m c main_v48 : FVec Ideal S3x8192x128 .f32) (ix3 2 r j) = (1 : EReal) := by
  unfold V
  unfold hostOps0
  after_reads_simp
  pointwise
  after_reads_simp
  pointwise

theorem lo_at0 (r : Fin 8192) (j : Fin 128) :
    (V m c main_v52 : FVec Ideal S3x8192x128 .f32) (ix3 0 r j) = (loTab (pos m c r) j * sigma : EReal) := by
  unfold V
  unfold hostOps0
  after_reads_simp
  pointwise
  after_reads_simp
  pointwise
  after_reads_simp
  pointwise
  rfl

theorem lo_at1 (r : Fin 8192) (j : Fin 128) :
    (V m c main_v52 : FVec Ideal S3x8192x128 .f32) (ix3 1 r j) = (loTab (pos m c r) j : EReal) := by
  unfold V
  unfold hostOps0
  after_reads_simp
  pointwise
  after_reads_simp
  pointwise
  after_reads_simp
  pointwise
  rfl

theorem lo_at2 (r : Fin 8192) (j : Fin 128) :
    (V m c main_v52 : FVec Ideal S3x8192x128 .f32) (ix3 2 r j) = (0 : EReal) := by
  unfold V
  unfold hostOps0
  after_reads_simp
  pointwise
  after_reads_simp
  pointwise

theorem hi_at0 (r : Fin 8192) (j : Fin 128) :
    (V m c main_v56 : FVec Ideal S3x8192x128 .f32) (ix3 0 r j) = (hiTab (pos m c r) j * sigma : EReal) := by
  unfold V
  unfold hostOps0
  after_reads_simp
  pointwise
  after_reads_simp
  pointwise
  after_reads_simp
  pointwise
  rfl

theorem hi_at1 (r : Fin 8192) (j : Fin 128) :
    (V m c main_v56 : FVec Ideal S3x8192x128 .f32) (ix3 1 r j) = (hiTab (pos m c r) j : EReal) := by
  unfold V
  unfold hostOps0
  after_reads_simp
  pointwise
  after_reads_simp
  pointwise
  after_reads_simp
  pointwise
  rfl

theorem hi_at2 (r : Fin 8192) (j : Fin 128) :
    (V m c main_v56 : FVec Ideal S3x8192x128 .f32) (ix3 2 r j) = (0 : EReal) := by
  unfold V
  unfold hostOps0
  after_reads_simp
  pointwise
  after_reads_simp
  pointwise

end Cert.DilBp
-- ==== Proof.DilBRef.lean ====
module

public import proofs.«01_k».proof.Proof.Gen.DilBRefIdeal.Read
public import proofs.«01_k».proof.Proof.RopeMath

@[expose] public section

set_option maxRecDepth 16384

noncomputable section

/-! # The reference's queries, keys and values of one group, entry by entry -/

namespace Cert.DilBp.Ref
open Idealize.ShloMosaic Idealize.ShloMosaic.TcCoe Idealize.SL.Sem
open Cert.DilBRefIdeal Cert.DilBRefIdeal.Read Cert.Rope

variable (x0 : (⟨S8192x2048, .bf16⟩ : BufTy).Contents (Elt Ideal)) (x1 : (⟨S4x2048, .i32⟩ : BufTy).Contents (Elt Ideal))
  (x2 : (⟨S1x2048x9216, .f32⟩ : BufTy).Contents (Elt Ideal))

/-- The product of row `r` with column `e` of the weights. -/
def dot (r : Fin 8192) (e : Fin 9216) : EReal := ∑ k : Fin 2048, x0 (ix2 r k) * x2 (ix3 0 k e)

theorem dot_at (b : Fin 4) (s : Fin 2048) (e : Fin 9216) (r : Fin 8192) (hr : (r : ℕ) = b * 2048 + s) :
    val_main_v20 (F := Ideal) x0 x2 (ix3 b s e) = dot x0 x2 r e := by
  rw [val_main_v20_apply]
  refine Finset.sum_congr rfl fun k _ => congr_arg₂ (· * ·) ?_ ?_
  · rw [val_main_v18_apply]
    refine congrArg x0 (funext fun a => match a with
      | ⟨0, _⟩ => Fin.ext ?_
      | ⟨1, _⟩ => Fin.ext ?_)
    all_goals simp [idx_main_v18, lidx_main_v20]
    all_goals omega
  · rw [val_main_v19_apply]
    refine congrArg x2 (funext fun a => match a with
      | ⟨0, _⟩ => Fin.ext ?_
      | ⟨1, _⟩ => Fin.ext ?_
      | ⟨2, _⟩ => Fin.ext ?_)
    all_goals simp [idx_main_v19, ridx_main_v20]
    all_goals omega

theorem ang_at (b : Fin 4) (s : Fin 2048) (l : Fin 16) : val_main_v15 (F := Ideal) x1 (ix3 b s l) = ang (x1 (ix2 b s)) l := by
  unfold val_main_v15 val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1 val_main_cst_2
  pointwise
  rfl

/-- The queries, turned. -/
theorem q_turn (b : Fin 4) (s : Fin 2048) (h : Fin 8) (j : Fin 128) (r : Fin 8192) (hr : (r : ℕ) = b * 2048 + s) :
    val_main_v41 (F := Ideal) x0 x1 x2 (ix5 b s 1 h j)
      = turn (fun l => dot x0 x2 r ⟨1024 + h * 128 + l, by omega⟩) (x1 (ix2 b s)) j := by
  have hT : ∀ l : Fin 16, val_main_v15 (F := Ideal) x1 (ix3 b s l) = ang (x1 (ix2 b s)) l := ang_at x1 b s
  have hY : ∀ e : Fin 9216, val_main_v20 (F := Ideal) x0 x2 (ix3 b s e) = dot x0 x2 r e := fun e => dot_at x0 x2 b s e r hr
  unfold val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v16 val_main_v17
  generalize val_main_v15 (F := Ideal) x1 = t at hT ⊢
  generalize val_main_v20 (F := Ideal) x0 x2 = y at hY ⊢
  pointwise
  simp only [hY]
  refine Eq.trans ?_ (turn_of _ (fun l => t (ix3 b s l)) _ j hT)
  simp [Nat.add_assoc]

/-- The keys, turned. -/
theorem k_turn (b : Fin 4) (s : Fin 2048) (h : Fin 8) (j : Fin 128) (r : Fin 8192) (hr : (r : ℕ) = b * 2048 + s) :
    val_main_v63 (F := Ideal) x0 x1 x2 (ix5 b s 1 h j)
      = turn (fun l => dot x0 x2 r ⟨4096 + h * 128 + l, by omega⟩) (x1 (ix2 b s)) j := by
  have hT : ∀ l : Fin 16, val_main_v15 (F := Ideal) x1 (ix3 b s l) = ang (x1 (ix2 b s)) l := ang_at x1 b s
  have hY : ∀ e : Fin 9216, val_main_v20 (F := Ideal) x0 x2 (ix3 b s e) = dot x0 x2 r e := fun e => dot_at x0 x2 b s e r hr
  unfold val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v21 val_main_v16 val_main_v17
  generalize val_main_v15 (F := Ideal) x1 = t at hT ⊢
  generalize val_main_v20 (F := Ideal) x0 x2 = y at hY ⊢
  pointwise
  simp only [hY]
  refine Eq.trans ?_ (turn_of _ (fun l => t (ix3 b s l)) _ j hT)
  simp [Nat.add_assoc]

/-- A column of queries. -/
theorem q_at (b : Fin 4) (s : Fin 2048) (h : Fin 8) (j : Fin 128) (r : Fin 8192) (e : Fin 1024)
    (hr : (r : ℕ) = b * 2048 + s) (he : (e : ℕ) = h * 128 + j) :
    val_main_v79 (F := Ideal) x0 x1 x2 (ix2 r ⟨e, by omega⟩)
      = turn (fun l => dot x0 x2 r ⟨1024 + h * 128 + l, by omega⟩) (x1 (ix2 b s)) j * sigma := by
  have hq := q_turn x0 x1 x2 b s h j r hr
  unfold val_main_v79 val_main_v78 val_main_v77 val_main_v76 val_main_v75 val_main_v74 val_main_v73 val_main_v72 val_main_v71 val_main_v70 val_main_v69 val_main_v68 val_main_v67 val_main_v66 val_main_cst_4 val_main_v43 val_main_v42 val_main_cst_3
  generalize val_main_v41 (F := Ideal) x0 x1 x2 = t at hq ⊢
  generalize val_main_v63 (F := Ideal) x0 x1 x2 = y
  generalize val_main_v65 (F := Ideal) x0 x2 = z
  pointwise
  have hi : (ix5 (⟨r / 2048, by omega⟩ : Fin 4) (⟨r % 2048, by omega⟩ : Fin 2048) (1 : Fin 3) (⟨e / 128, by omega⟩ : Fin 8)
      (⟨e % 128, by omega⟩ : Fin 128)) = ix5 b s 1 h j := by
    congr 1 <;> exact Fin.ext (by simp only []; omega)
  refine Eq.trans (congrArg (fun w => Ideal.div (w * _) _) (Eq.trans (congrArg t hi) hq)) ?_
  exact scaled _

/-- A column of keys. -/
theorem k_at (b : Fin 4) (s : Fin 2048) (h : Fin 8) (j : Fin 128) (r : Fin 8192) (e : Fin 1024)
    (hr : (r : ℕ) = b * 2048 + s) (he : (e : ℕ) = h * 128 + j) :
    val_main_v79 (F := Ideal) x0 x1 x2 (ix2 r ⟨1024 + e, by omega⟩)
      = turn (fun l => dot x0 x2 r ⟨4096 + h * 128 + l, by omega⟩) (x1 (ix2 b s)) j := by
  have hk := k_turn x0 x1 x2 b s h j r hr
  unfold val_main_v79 val_main_v78 val_main_v77 val_main_v76 val_main_v75 val_main_v74 val_main_v73 val_main_v72 val_main_v71 val_main_v70 val_main_v69 val_main_v68 val_main_v67 val_main_v66 val_main_cst_4 val_main_v43 val_main_v42 val_main_cst_3
  generalize val_main_v41 (F := Ideal) x0 x1 x2 = t
  generalize val_main_v63 (F := Ideal) x0 x1 x2 = y at hk ⊢
  generalize val_main_v65 (F := Ideal) x0 x2 = z
  pointwise
  have hi : (ix5 (⟨r / 2048, by omega⟩ : Fin 4) (⟨r % 2048, by omega⟩ : Fin 2048) (1 : Fin 3) (⟨e / 128, by omega⟩ : Fin 8)
      (⟨e % 128, by omega⟩ : Fin 128)) = ix5 b s 1 h j := by
    congr 1 <;> exact Fin.ext (by simp only []; omega)
  exact (congrArg y hi).trans hk

set_option maxHeartbeats 1000000 in
/-- A column of values. -/
theorem v_at (r : Fin 8192) (e : Fin 1024) :
    val_main_v79 (F := Ideal) x0 x1 x2 (ix2 r ⟨2048 + e, by omega⟩) = dot x0 x2 r ⟨7168 + e, by omega⟩ := by
  have hy := dot_at x0 x2 ⟨r / 2048, by omega⟩ ⟨r % 2048, by omega⟩ ⟨7168 + e, by omega⟩ r (by simp only []; omega)
  unfold val_main_v79 val_main_v78 val_main_v77 val_main_v76 val_main_v75 val_main_v74 val_main_v73 val_main_v72 val_main_v71 val_main_v70 val_main_v69 val_main_v68 val_main_v67 val_main_v66 val_main_cst_4 val_main_v43 val_main_v42 val_main_cst_3
    val_main_v65 val_main_v64 val_main_v21
  generalize val_main_v41 (F := Ideal) x0 x1 x2 = t
  generalize val_main_v63 (F := Ideal) x0 x1 x2 = y
  generalize val_main_v20 (F := Ideal) x0 x2 = z at hy ⊢
  pointwise
  rw [dif_neg (by omega), dif_neg (by omega), ← hy]
  exact congrArg (fun w => z (ix3 _ _ w)) (Fin.ext (by simp only []; omega))

/-- The rows dealt by their place modulo 4. -/
theorem dealt (d : Fin 4) (w : Fin 2048) (e : Fin 3072) :
    val_main_v81 (F := Ideal) x0 x1 x2 (ix3 d w e) = val_main_v79 (F := Ideal) x0 x1 x2 (ix2 ⟨w * 4 + d, by omega⟩ e) := by
  unfold val_main_v81 val_main_v80
  generalize val_main_v79 (F := Ideal) x0 x1 x2 = y
  pointwise

end Cert.DilBp.Ref
-- ==== Proof.DilBStore.lean ====
module

public import proofs.«01_k».proof.Proof.Gen.DilBIdeal.Value
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

/-! # What a point stores: its product, dealt by the rows' place modulo 4 -/

namespace Cert.DilBp
open Idealize.ShloMosaic Idealize.ShloMosaic.TcCoe Idealize.SL.Sem
open Cert.DilBIdeal Cert.DilBIdeal.Gen

/-- An array of 512 columns as four arrays of 128. -/
def lanes (z : FVec Ideal S512x512 .f32) (y : S4x512x128.Idx) : EReal :=
  z (ix2 (y 1 : Fin 512) ⟨(y 0 : Fin 4) * 128 + (y 2 : Fin 128), by
    have h0 : (y 0 : Fin 4).val < 4 := (y 0 : Fin 4).isLt
    have h2 : (y 2 : Fin 128).val < 128 := (y 2 : Fin 128).isLt
    omega⟩)

/-- The rows of an array dealt by their place modulo 4. -/
def dealt (z : FVec Ideal S512x512 .f32) (y : S4x128x512.Idx) : EReal :=
  z (ix2 ⟨(y 1 : Fin 128) * 4 + (y 0 : Fin 4), by
    have h0 : (y 0 : Fin 4).val < 4 := (y 0 : Fin 4).isLt
    have h1 : (y 1 : Fin 128).val < 128 := (y 1 : Fin 128).isLt
    omega⟩ (y 2 : Fin 512))

/-- The casts and reshapes between the scratch and the result change no entry. -/
theorem relay (v : Vec Ideal S1x128x128 .f32) (x : S1x128x128.Idx) :
    shapeCast S1x128x128 (truncf .bf16 (shapeCast S128x128 v shapeCasts_S1x128x128_S128x128 : FVec Ideal S128x128 .f32) bitsLt_bf16_f32) shapeCasts_S128x128_S1x128x128 x = v x := by
  obtain ⟨a, b, e, rfl⟩ : ∃ (a : Fin 1) (b : Fin 128) (e : Fin 128), x = ix3 a b e :=
    ⟨x 0, x 1, x 2, funext fun a => match a with | ⟨0, _⟩ => rfl | ⟨1, _⟩ => rfl | ⟨2, _⟩ => rfl⟩
  have ha : a = 0 := Subsingleton.elim _ _
  rw [ha]
  pointwise

/-- The same of the whole arrays. -/
theorem relays (v : Vec Ideal S1x128x128 .f32) :
    shapeCast S1x128x128 (truncf .bf16 (shapeCast S128x128 v shapeCasts_S1x128x128_S128x128 : FVec Ideal S128x128 .f32) bitsLt_bf16_f32) shapeCasts_S128x128_S1x128x128 = fun x => v x :=
  funext (relay v)

/-- A strided block of the lanes is a block of the dealt rows. -/
theorem piece (z : FVec Ideal S512x512 .f32) (r c o : ℕ) (ho : o = 128 * c) (inb) (inb') (x : S1x128x128.Idx) :
    lanes z (({ off := ![c, r, 0], size := S1x128x128.size, stride := ![1, 4, 1], inb := inb } : LoadRect S4x512x128).idx x)
      = dealt z ((Rect.unit (s := S4x128x512) ![r, 0, o] S1x128x128.size inb').emb x) := by
  have h0 : (x 0 : ℕ) = 0 := by
    have : (x 0 : ℕ) < 1 := (x 0).isLt
    omega
  refine congrArg z (funext fun a => match a with | ⟨0, _⟩ => Fin.ext ?_ | ⟨1, _⟩ => Fin.ext ?_)
  · change r + 4 * (x 1 : ℕ) = (0 + 1 * (x 1 : ℕ)) * 4 + (r + 1 * (x 0 : ℕ))
    omega
  · change (c + 1 * (x 0 : ℕ)) * 128 + (0 + 1 * (x 2 : ℕ)) = o + 1 * (x 2 : ℕ)
    omega

/-- The scratch, written in four blocks of lanes, holds the product. -/
theorem scratch (v : View sig .tc .vmem S4x512x128 .f32) (X : Vec Ideal S512x2048 .bf16) (W : Vec Ideal S2048x512 .bf16)
    (C L H : Vec Ideal S1x512x128 .f32) (B : LoadRect S4x512x128) :
    v.readCov (Val := Elt Ideal)
      [⟨Rect.unit ![3, 0, 0] S1x512x128.size inb_S4x512x128_S1x512x128_3_0_0, k0_pay11 (k0_pay6 X W C L H)⟩,
       ⟨Rect.unit ![2, 0, 0] S1x512x128.size inb_S4x512x128_S1x512x128_2_0_0, k0_pay10 (k0_pay9 X W C L H)⟩,
       ⟨Rect.unit ![1, 0, 0] S1x512x128.size inb_S4x512x128_S1x512x128_1_0_0, k0_pay8 X W C L H⟩,
       ⟨Rect.unit ![0, 0, 0] S1x512x128.size inb_S4x512x128_S1x512x128_0_0_0, k0_pay7 X W C L H⟩] B
      = fun j => lanes (k0_pay6 X W C L H) (B.idx j) := by
  rw [View.readCov_eq_canon']
  funext j
  unfold k0_pay10 k0_pay9 k0_pay8 k0_pay7 k0_pay11
  generalize k0_pay6 X W C L H = z
  refine View.canon_apply_of_pieces (Val := Elt Ideal) (e := .f32) (lanes z) _ ?_ _ ?_
  · refine View.PiecesOf.mem (Val := Elt Ideal) (e := .f32) (G := lanes z) ?_
    refine ⟨fun x => ?_, fun x => ?_, fun x => ?_, fun x => ?_, trivial⟩
    all_goals
      obtain ⟨a, b, e, rfl⟩ : ∃ (a : Fin 1) (b : Fin 512) (e : Fin 128), x = ix3 a b e :=
        ⟨x 0, x 1, x 2, funext fun a => match a with | ⟨0, _⟩ => rfl | ⟨1, _⟩ => rfl | ⟨2, _⟩ => rfl⟩
      have ha : a = 0 := Subsingleton.elim _ _
      rw [ha]
      pointwise [lanes]
      refine congrArg z (funext fun a => match a with | ⟨0, _⟩ => Fin.ext ?_ | ⟨1, _⟩ => Fin.ext ?_)
      all_goals simp [Rect.emb, Rect.unit, LoadRect.idx]
  · refine View.cover_of_tiledL _ ![1, 512, 128] ?_ _
    sl_kernel_rfl

variable (m : (ℓ : Loc nD τ sig) → Buf (Elt Ideal) ℓ) (c : Dev nD)

set_option maxHeartbeats 4000000 in
/-- A point leaves the turned product of its input block with the weights that it carries on, its rows dealt. -/
theorem left (t : Fin cfg0.N) : (outsAt0 m c t.val t.isLt).1
    = dealt (k0_pay6 (F := Ideal) (iblk m c 0 t) (outsAt0 m c t.val t.isLt).2 (iblk m c 2 t) (iblk m c 3 t) (iblk m c 4 t)) := by
  by_cases h0 : t.val % 16 = 0
  · rw [outsAt0_A m c t h0]
    frame_open
    simp (disch := decide) only [View.read_writes_junk_eq_canon, View.canon_cons_unit_lit', View.ld_unit_lit', View.readCov_unit_lit',
      View.readCov_cons_unit_lit', View.readAt_eq_ld, Memref.IsWhole.read_unread, ↓ scratch]
    generalize k0_pay6 (F := Ideal) (iblk m c 0 t) _ (iblk m c 2 t) (iblk m c 3 t) (iblk m c 4 t) = z
    simp only [k0_pay1, k0_pay2, k0_pay3, k0_pay4, k0_pay12, k0_pay13, k0_pay14, k0_pay15, k0_pay16, k0_pay17, k0_pay18, k0_pay19, k0_pay20,
      k0_pay21, k0_pay22, k0_pay23, k0_pay24, k0_pay25, relays]
    funext y
    refine View.canon_apply_of_pieces (Val := Elt Ideal) (e := .bf16) (dealt z) _ ?_ y ?_
    · refine View.PiecesOf.mem (Val := Elt Ideal) (e := .bf16) (G := dealt z) ?_
      exact ⟨
    fun x => piece _ 3 3 384 rfl inb_S4x512x128_S1x128x128_3_3_0_s_1_4_1 inb_S4x128x512_S1x128x128_3_0_384 x,
    fun x => piece _ 3 2 256 rfl inb_S4x512x128_S1x128x128_2_3_0_s_1_4_1 inb_S4x128x512_S1x128x128_3_0_256 x,
    fun x => piece _ 3 1 128 rfl inb_S4x512x128_S1x128x128_1_3_0_s_1_4_1 inb_S4x128x512_S1x128x128_3_0_128 x,
    fun x => piece _ 3 0 0 rfl inb_S4x512x128_S1x128x128_0_3_0_s_1_4_1 inb_S4x128x512_S1x128x128_3_0_0 x,
    fun x => piece _ 2 3 384 rfl inb_S4x512x128_S1x128x128_3_2_0_s_1_4_1 inb_S4x128x512_S1x128x128_2_0_384 x,
    fun x => piece _ 2 2 256 rfl inb_S4x512x128_S1x128x128_2_2_0_s_1_4_1 inb_S4x128x512_S1x128x128_2_0_256 x,
    fun x => piece _ 2 1 128 rfl inb_S4x512x128_S1x128x128_1_2_0_s_1_4_1 inb_S4x128x512_S1x128x128_2_0_128 x,
    fun x => piece _ 2 0 0 rfl inb_S4x512x128_S1x128x128_0_2_0_s_1_4_1 inb_S4x128x512_S1x128x128_2_0_0 x,
    fun x => piece _ 1 3 384 rfl inb_S4x512x128_S1x128x128_3_1_0_s_1_4_1 inb_S4x128x512_S1x128x128_1_0_384 x,
    fun x => piece _ 1 2 256 rfl inb_S4x512x128_S1x128x128_2_1_0_s_1_4_1 inb_S4x128x512_S1x128x128_1_0_256 x,
    fun x => piece _ 1 1 128 rfl inb_S4x512x128_S1x128x128_1_1_0_s_1_4_1 inb_S4x128x512_S1x128x128_1_0_128 x,
    fun x => piece _ 1 0 0 rfl inb_S4x512x128_S1x128x128_0_1_0_s_1_4_1 inb_S4x128x512_S1x128x128_1_0_0 x,
    fun x => piece _ 0 3 384 rfl inb_S4x512x128_S1x128x128_3_0_0_s_1_4_1 inb_S4x128x512_S1x128x128_0_0_384 x,
    fun x => piece _ 0 2 256 rfl inb_S4x512x128_S1x128x128_2_0_0_s_1_4_1 inb_S4x128x512_S1x128x128_0_0_256 x,
    fun x => piece _ 0 1 128 rfl inb_S4x512x128_S1x128x128_1_0_0_s_1_4_1 inb_S4x128x512_S1x128x128_0_0_128 x,
    fun x => piece _ 0 0 0 rfl inb_S4x512x128_S1x128x128_0_0_0_s_1_4_1 inb_S4x128x512_S1x128x128_0_0_0 x,
        trivial⟩
    · refine View.cover_of_tiledL _ ![1, 128, 128] ?_ y
      sl_kernel_rfl
  · rw [outsAt0_B m c t h0]
    frame_open
    simp (disch := decide) only [View.read_writes_junk_eq_canon, View.canon_cons_unit_lit', View.ld_unit_lit', View.readCov_unit_lit',
      View.readCov_cons_unit_lit', View.readAt_eq_ld, Memref.IsWhole.read_unread, sout0_B_0, read_unread_whole, ↓ scratch]
    generalize k0_pay6 (F := Ideal) (iblk m c 0 t) _ (iblk m c 2 t) (iblk m c 3 t) (iblk m c 4 t) = z
    simp only [k0_pay1, k0_pay2, k0_pay3, k0_pay4, k0_pay12, k0_pay13, k0_pay14, k0_pay15, k0_pay16, k0_pay17, k0_pay18, k0_pay19, k0_pay20,
      k0_pay21, k0_pay22, k0_pay23, k0_pay24, k0_pay25, relays]
    funext y
    refine View.canon_apply_of_pieces (Val := Elt Ideal) (e := .bf16) (dealt z) _ ?_ y ?_
    · refine View.PiecesOf.mem (Val := Elt Ideal) (e := .bf16) (G := dealt z) ?_
      exact ⟨
    fun x => piece _ 3 3 384 rfl inb_S4x512x128_S1x128x128_3_3_0_s_1_4_1 inb_S4x128x512_S1x128x128_3_0_384 x,
    fun x => piece _ 3 2 256 rfl inb_S4x512x128_S1x128x128_2_3_0_s_1_4_1 inb_S4x128x512_S1x128x128_3_0_256 x,
    fun x => piece _ 3 1 128 rfl inb_S4x512x128_S1x128x128_1_3_0_s_1_4_1 inb_S4x128x512_S1x128x128_3_0_128 x,
    fun x => piece _ 3 0 0 rfl inb_S4x512x128_S1x128x128_0_3_0_s_1_4_1 inb_S4x128x512_S1x128x128_3_0_0 x,
    fun x => piece _ 2 3 384 rfl inb_S4x512x128_S1x128x128_3_2_0_s_1_4_1 inb_S4x128x512_S1x128x128_2_0_384 x,
    fun x => piece _ 2 2 256 rfl inb_S4x512x128_S1x128x128_2_2_0_s_1_4_1 inb_S4x128x512_S1x128x128_2_0_256 x,
    fun x => piece _ 2 1 128 rfl inb_S4x512x128_S1x128x128_1_2_0_s_1_4_1 inb_S4x128x512_S1x128x128_2_0_128 x,
    fun x => piece _ 2 0 0 rfl inb_S4x512x128_S1x128x128_0_2_0_s_1_4_1 inb_S4x128x512_S1x128x128_2_0_0 x,
    fun x => piece _ 1 3 384 rfl inb_S4x512x128_S1x128x128_3_1_0_s_1_4_1 inb_S4x128x512_S1x128x128_1_0_384 x,
    fun x => piece _ 1 2 256 rfl inb_S4x512x128_S1x128x128_2_1_0_s_1_4_1 inb_S4x128x512_S1x128x128_1_0_256 x,
    fun x => piece _ 1 1 128 rfl inb_S4x512x128_S1x128x128_1_1_0_s_1_4_1 inb_S4x128x512_S1x128x128_1_0_128 x,
    fun x => piece _ 1 0 0 rfl inb_S4x512x128_S1x128x128_0_1_0_s_1_4_1 inb_S4x128x512_S1x128x128_1_0_0 x,
    fun x => piece _ 0 3 384 rfl inb_S4x512x128_S1x128x128_3_0_0_s_1_4_1 inb_S4x128x512_S1x128x128_0_0_384 x,
    fun x => piece _ 0 2 256 rfl inb_S4x512x128_S1x128x128_2_0_0_s_1_4_1 inb_S4x128x512_S1x128x128_0_0_256 x,
    fun x => piece _ 0 1 128 rfl inb_S4x512x128_S1x128x128_1_0_0_s_1_4_1 inb_S4x128x512_S1x128x128_0_0_128 x,
    fun x => piece _ 0 0 0 rfl inb_S4x512x128_S1x128x128_0_0_0_s_1_4_1 inb_S4x128x512_S1x128x128_0_0_0 x,
        trivial⟩
    · refine View.cover_of_tiledL _ ![1, 128, 128] ?_ y
      sl_kernel_rfl

end Cert.DilBp
-- ==== Proof.DilBArr.lean ====
module

public import proofs.«01_k».proof.Proof.Gen.DilBIdeal.Value
public import proofs.«01_k».proof.Proof.DilBEntry
public import proofs.«01_k».proof.Proof.DilBRef
public import proofs.«01_k».proof.Proof.DilBStore
public import Idealize.ShloMosaic.Lib.Pipeline.ValueKit
public import Idealize.ShloMosaic.Lib.Pipeline.ReadBack
public import Idealize.ShloMosaic.Lib.Claim

@[expose] public section

set_option maxRecDepth 16384

noncomputable section

/-! # The product with the rotation: what its result array holds -/

namespace Cert.DilBp
open Idealize.ShloMosaic Idealize.ShloMosaic.TcCoe Idealize.SL.Sem
open Cert.DilBIdeal Cert.DilBIdeal.Gen Cert.Rope

variable (m : (ℓ : Loc nD τ sig) → Buf (Elt Ideal) ℓ) (c : Dev nD)

/-- An entry of the dealt rows. -/
theorem dealt_at (z : FVec Ideal S512x512 .f32) (d : Fin 4) (w : Fin 128) (e r : Fin 512) (h : (r : ℕ) = w * 4 + d) :
    dealt z (ix3 d w e) = z (ix2 r e) :=
  congrArg (fun r => z (ix2 r e)) (Fin.ext h.symm)

/-- Where each window's block lies at a grid point: column block `q` of part `P`, row block `s`. -/
theorem places : ∀ t : Fin cfg0.N, ∃ (P : Fin 3) (q : Fin 2) (s : Fin 16), (P * 2 + q : ℕ) = t.val / 16
    ∧ (win0_0.index t 0 = s ∧ win0_0.index t 1 = 0)
    ∧ (win0_1.index t 0 = 0 ∧ win0_1.index t 1 = 0 ∧ win0_1.index t 2 = P * 6 + 2 + q)
    ∧ (win0_2.index t 0 = P ∧ win0_2.index t 1 = s ∧ win0_2.index t 2 = 0)
    ∧ (win0_3.index t 0 = P ∧ win0_3.index t 1 = s ∧ win0_3.index t 2 = 0)
    ∧ (win0_4.index t 0 = P ∧ win0_4.index t 1 = s ∧ win0_4.index t 2 = 0)
    ∧ (win0_5.index t 0 = 0 ∧ win0_5.index t 1 = s ∧ win0_5.index t 2 = P * 2 + q) := by
  decide +kernel

abbrev a0 : FVec Ideal S8192x2048 .bf16 := m ((c.tc : Thread nD τ).loc main_arg0)
abbrev a1 : IVec S4x2048 32 := m ((c.tc : Thread nD τ).loc main_arg1)
abbrev a2 : FVec Ideal S1x2048x9216 .f32 := m ((c.tc : Thread nD τ).loc main_arg2)

/-- The weights cast at a point. -/
theorem cast_at (w : Vec Ideal S1x2048x512 .f32) (k : Fin 2048) (e : Fin 512) :
    k0_pay5 (F := Ideal) w (ix2 k e) = w (ix3 0 k e) := by
  pointwise [k0_pay5]

/-- The turned product stored at a point. -/
theorem block_at (v3 : Vec Ideal S512x2048 .bf16) (v4 : Vec Ideal S2048x512 .bf16) (v6 v9 v12 : Vec Ideal S1x512x128 .f32)
    (r e : Fin 512) (a : Fin 4) (j : Fin 128) (he : (e : ℕ) = a * 128 + j) (D : Fin 512 → EReal)
    (hD : ∀ e, ∑ x, v3 (ix2 r x) * v4 (ix2 x e) = D e) :
    k0_pay6 (F := Ideal) v3 v4 v6 v9 v12 (ix2 r e)
      = D e * v6 (ix3 0 r j) + D ⟨(e + 512 - 496) % 512, by omega⟩ * v9 (ix3 0 r j)
        + D ⟨(e + 512 - 16) % 512, by omega⟩ * v12 (ix3 0 r j) := by
  pointwise [k0_pay6]
  simp only [hD]
  exact congr_arg₂ (· + ·) (congr_arg₂ (· + ·)
    (congrArg (_ * ·) (tile (fun j => v6 (ix3 0 r j)) a j e he)) (congrArg (_ * ·) (tile (fun j => v9 (ix3 0 r j)) a j e he)))
    (congrArg (_ * ·) (tile (fun j => v12 (ix3 0 r j)) a j e he))

/-- The block of weights. -/
theorem w_blk (t : Fin cfg0.N) (p : Fin 18) (e0 : win0_1.index t 0 = 0) (e1 : win0_1.index t 1 = 0) (e2 : win0_1.index t 2 = p)
    (k : Fin 2048) (e : Fin 512) :
    (iblk m c 1 t : Vec Ideal S1x2048x512 .f32) (ix3 0 k e) = a2 m c (ix3 0 k ⟨p * 512 + e, by omega⟩) := by
  refine Eq.trans ?_ (congrFun (show (V m c main_arg2 : FVec Ideal S1x2048x9216 .f32) = a2 m c from V_main_arg2 m c) _)
  refine congrArg (V m c main_arg2 : FVec Ideal S1x2048x9216 .f32) ?_
  blk_ext [e0, e1, e2]

/-- The block of tokens. -/
theorem x_blk (t : Fin cfg0.N) (s : Fin 16) (e0 : win0_0.index t 0 = s) (e1 : win0_0.index t 1 = 0)
    (r : Fin 512) (k : Fin 2048) :
    (iblk m c 0 t : Vec Ideal S512x2048 .bf16) (ix2 r k) = a0 m c (ix2 ⟨s * 512 + r, by omega⟩ k) := by
  refine Eq.trans ?_ (congrFun (show (V m c main_arg0 : FVec Ideal S8192x2048 .bf16) = a0 m c from V_main_arg0 m c) _)
  refine congrArg (V m c main_arg0 : FVec Ideal S8192x2048 .bf16) ?_
  blk_ext [e0, e1]

/-- A block of the table `c`. -/
theorem c_blk (t : Fin cfg0.N) (P : Fin 3) (s : Fin 16) (e0 : win0_2.index t 0 = P) (e1 : win0_2.index t 1 = s)
    (e2 : win0_2.index t 2 = 0) (r : Fin 512) (j : Fin 128) :
    (iblk m c 2 t : Vec Ideal S1x512x128 .f32) (ix3 0 r j)
      = (V m c main_v48 : FVec Ideal S3x8192x128 .f32) (ix3 P ⟨s * 512 + r, by omega⟩ j) := by
  refine congrArg (V m c main_v48 : FVec Ideal S3x8192x128 .f32) ?_
  blk_ext [e0, e1, e2]

/-- A block of the table `lo`. -/
theorem lo_blk (t : Fin cfg0.N) (P : Fin 3) (s : Fin 16) (e0 : win0_3.index t 0 = P) (e1 : win0_3.index t 1 = s)
    (e2 : win0_3.index t 2 = 0) (r : Fin 512) (j : Fin 128) :
    (iblk m c 3 t : Vec Ideal S1x512x128 .f32) (ix3 0 r j)
      = (V m c main_v52 : FVec Ideal S3x8192x128 .f32) (ix3 P ⟨s * 512 + r, by omega⟩ j) := by
  refine congrArg (V m c main_v52 : FVec Ideal S3x8192x128 .f32) ?_
  blk_ext [e0, e1, e2]

/-- A block of the table `hi`. -/
theorem hi_blk (t : Fin cfg0.N) (P : Fin 3) (s : Fin 16) (e0 : win0_4.index t 0 = P) (e1 : win0_4.index t 1 = s)
    (e2 : win0_4.index t 2 = 0) (r : Fin 512) (j : Fin 128) :
    (iblk m c 4 t : Vec Ideal S1x512x128 .f32) (ix3 0 r j)
      = (V m c main_v56 : FVec Ideal S3x8192x128 .f32) (ix3 P ⟨s * 512 + r, by omega⟩ j) := by
  refine congrArg (V m c main_v56 : FVec Ideal S3x8192x128 .f32) ?_
  blk_ext [e0, e1, e2]

/-- The weights that a point carries on: those of its column block. -/
theorem carried (n : ℕ) : ∀ (hn : n < cfg0.N) (p : Fin 18), (p : ℕ) = n / 32 * 6 + 2 + n / 16 % 2 → ∀ (k : Fin 2048) (e : Fin 512),
    (outsAt0 m c n hn).2 (ix2 k e) = a2 m c (ix3 0 k ⟨p * 512 + e, by omega⟩) := by
  induction n with
  | zero =>
    intro hn p hp k e
    obtain ⟨P, q, s, hp', -, ⟨e0, e1, e2⟩, -⟩ := places ⟨0, hn⟩
    change (P * 2 + q : ℕ) = 0 / 16 at hp'
    refine Eq.trans ?_ ((cast_at (iblk m c 1 ⟨0, hn⟩) k e).trans
      (w_blk m c ⟨0, hn⟩ p e0 e1 (e2.trans (by omega)) k e))
    rw [outsAt0_A m c ⟨0, hn⟩ rfl]
    frame_out
  | succ n ih =>
    intro hn p hp k e
    by_cases h0 : (n + 1) % 16 = 0
    · obtain ⟨P, q, s, hp', -, ⟨e0, e1, e2⟩, -⟩ := places ⟨n + 1, hn⟩
      change (P * 2 + q : ℕ) = (n + 1) / 16 at hp'
      refine Eq.trans ?_ ((cast_at (iblk m c 1 ⟨n + 1, hn⟩) k e).trans
        (w_blk m c ⟨n + 1, hn⟩ p e0 e1 (e2.trans (by omega)) k e))
      rw [outsAt0_A m c ⟨n + 1, hn⟩ h0]
      frame_out
    · rw [outsAt0_B m c ⟨n + 1, hn⟩ h0]
      exact ih (Nat.lt_of_succ_lt hn) p (by omega) k e

abbrev G : Buf (Elt Ideal) ((c.tc : Thread nD τ).loc main_v57) :=
  Cert.DilBRefIdeal.Read.val_main_v81 (F := Ideal) (a0 m c) (a1 m c) (a2 m c)

/-- The result array ends holding the reference's result. -/
theorem final : (dats m 0 c).arrAt 5 cfg0.N = G m c := by
  refine (dats m 0 c).arrAt_eq_of_covers 5 _ (by decide +kernel) fun t hf y => ?_
  blk_simp
  rw [after0_5, left]
  obtain ⟨P, q, s, hp, ⟨x0, x1⟩, -, ⟨c0, c1, c2⟩, ⟨l0, l1, l2⟩, ⟨h0, h1, h2⟩, o0, o1, o2⟩ := places t
  obtain ⟨d, w, e, rfl⟩ : ∃ (d : Fin 4) (w : Fin 128) (e : Fin 512), y = ix3 d w e :=
    ⟨y 0, y 1, y 2, funext fun a => match a with | ⟨0, _⟩ => rfl | ⟨1, _⟩ => rfl | ⟨2, _⟩ => rfl⟩
  obtain ⟨r, hrw⟩ : ∃ r : Fin 512, (r : ℕ) = w * 4 + d := ⟨⟨w * 4 + d, by omega⟩, rfl⟩
  obtain ⟨a, ha⟩ : ∃ a : Fin 4, (a : ℕ) = e / 128 := ⟨⟨e / 128, by omega⟩, rfl⟩
  obtain ⟨j, hj⟩ : ∃ j : Fin 128, (j : ℕ) = e % 128 := ⟨⟨e % 128, by omega⟩, rfl⟩
  obtain ⟨R, hR⟩ : ∃ R : Fin 8192, (R : ℕ) = s * 512 + r := ⟨⟨s * 512 + r, by omega⟩, rfl⟩
  obtain ⟨p, hpp⟩ : ∃ p : Fin 18, (p : ℕ) = P * 6 + 2 + q := ⟨⟨P * 6 + 2 + q, by omega⟩, rfl⟩
  obtain ⟨E, hE⟩ : ∃ E : Fin 1024, (E : ℕ) = q * 512 + e := ⟨⟨q * 512 + e, by omega⟩, rfl⟩
  have he : (e : ℕ) = a * 128 + j := by omega
  have e0 : (((win0_5.blk t).view.emb (ix3 d w e)) 0 : ℕ) = d := by blk_simp [o0, o1, o2]; try omega
  have e1 : (((win0_5.blk t).view.emb (ix3 d w e)) 1 : ℕ) = s * 128 + w := by blk_simp [o0, o1, o2]; try omega
  have e2 : (((win0_5.blk t).view.emb (ix3 d w e)) 2 : ℕ) = P * 1024 + E := by blk_simp [o0, o1, o2]; omega
  have hi : (win0_5.blk t).view.emb (ix3 d w e) = (ix3 d ⟨s * 128 + w, by omega⟩ ⟨P * 1024 + E, by omega⟩ : S4x2048x3072.Idx) :=
    funext fun a => match a with | ⟨0, _⟩ => Fin.ext e0 | ⟨1, _⟩ => Fin.ext e1 | ⟨2, _⟩ => Fin.ext e2
  rw [hi]
  refine (dealt_at _ d w e r hrw).trans (Eq.trans ?_ ((Ref.dealt (a0 m c) (a1 m c) (a2 m c) d ⟨s * 128 + w, by omega⟩ ⟨P * 1024 + E, by omega⟩).trans
    (congrArg (fun R => Cert.DilBRefIdeal.Read.val_main_v79 (F := Ideal) (a0 m c) (a1 m c) (a2 m c) (ix2 R ⟨P * 1024 + E, by omega⟩))
      (show _ = R from Fin.ext (by simp only []; omega)))).symm)
  have hRe : (⟨s * 512 + r, by omega⟩ : Fin 8192) = R := Fin.ext hR.symm
  refine (block_at _ _ _ _ _ r e a j he (fun e => Ref.dot (a0 m c) (a2 m c) R ⟨p * 512 + e, by omega⟩) fun e => ?_).trans ?_
  · refine Finset.sum_congr rfl fun k _ => congr_arg₂ (· * ·) ?_ (carried m c t.val t.isLt p (by omega) k e)
    exact (x_blk m c t s x0 x1 r k).trans (by rw [hRe])
  rw [c_blk m c t P s c0 c1 c2, lo_blk m c t P s l0 l1 l2, hi_blk m c t P s h0 h1 h2, hRe]
  obtain ⟨x, hx⟩ : ∃ x : Fin 128 → EReal, x = fun l : Fin 128 => Ref.dot (a0 m c) (a2 m c) R ⟨p * 512 + (a * 128 + l), by omega⟩ := ⟨_, rfl⟩
  have hX : Ref.dot (a0 m c) (a2 m c) R ⟨p * 512 + e, by omega⟩
      = x j :=
    (congrArg (Ref.dot (a0 m c) (a2 m c) R) (Fin.ext (by simp only []; omega))).trans (congrFun hx _).symm
  have hY : ∀ h : (j : ℕ) < 16, Ref.dot (a0 m c) (a2 m c) R ⟨p * 512 + (e + 512 - 496) % 512, by omega⟩
      = x ⟨j + 16, by omega⟩ := fun h =>
    (congrArg (Ref.dot (a0 m c) (a2 m c) R) (Fin.ext (by simp only []; omega))).trans (congrFun hx _).symm
  have hZ : ∀ h : ¬(j : ℕ) < 16, (j : ℕ) < 32 → Ref.dot (a0 m c) (a2 m c) R ⟨p * 512 + (e + 512 - 16) % 512, by omega⟩
      = x ⟨j - 16, by omega⟩ := fun h h' =>
    (congrArg (Ref.dot (a0 m c) (a2 m c) R) (Fin.ext (by simp only []; omega))).trans (congrFun hx _).symm
  dsimp only
  obtain ⟨H, hH⟩ : ∃ H : Fin 8, (H : ℕ) = q * 4 + a := ⟨⟨q * 4 + a, by omega⟩, rfl⟩
  have hr : (R : ℕ) = (⟨R / 2048, by omega⟩ : Fin 4) * 2048 + (⟨R % 2048, by omega⟩ : Fin 2048) := by simp only []; omega
  have hEE : (E : ℕ) = H * 128 + j := by omega
  have hP : P = 0 ∨ P = 1 ∨ P = 2 := by fin_cases P <;> simp
  rcases hP with rfl | rfl | rfl
  · rw [c_at0, lo_at0, hi_at0, hX]
    refine (turned_scaled x (pos m c R) j _ _ hY hZ).trans (Eq.trans (congrArg (fun x => turn x (pos m c R) j * sigma)
      (funext fun l => (congrFun hx l).trans (congrArg (Ref.dot (a0 m c) (a2 m c) R) (Fin.ext ?_))))
      ((Ref.q_at (a0 m c) (a1 m c) (a2 m c) _ _ H j R E hr hEE).symm.trans
        (congrArg (fun w => Cert.DilBRefIdeal.Read.val_main_v79 (F := Ideal) (a0 m c) (a1 m c) (a2 m c) (ix2 R w)) (Fin.ext ?_))))
    · simp at hpp; simp only []; omega
    · simp
  · rw [c_at1, lo_at1, hi_at1, hX]
    refine (turned x (pos m c R) j _ _ hY hZ).trans (Eq.trans (congrArg (fun x => turn x (pos m c R) j)
      (funext fun l => (congrFun hx l).trans (congrArg (Ref.dot (a0 m c) (a2 m c) R) (Fin.ext ?_))))
      ((Ref.k_at (a0 m c) (a1 m c) (a2 m c) _ _ H j R E hr hEE).symm.trans
        (congrArg (fun w => Cert.DilBRefIdeal.Read.val_main_v79 (F := Ideal) (a0 m c) (a1 m c) (a2 m c) (ix2 R w)) (Fin.ext ?_))))
    · simp at hpp; simp only []; omega
    · simp
  · rw [c_at2, lo_at2, hi_at2, mul_one, mul_zero, mul_zero, add_zero, add_zero]
    refine Eq.trans (congrArg (Ref.dot (a0 m c) (a2 m c) R) (Fin.ext ?_))
      ((Ref.v_at (a0 m c) (a1 m c) (a2 m c) R E).symm.trans
        (congrArg (fun w => Cert.DilBRefIdeal.Read.val_main_v79 (F := Ideal) (a0 m c) (a1 m c) (a2 m c) (ix2 R w)) (Fin.ext ?_)))
    · simp at hpp; simp only []; omega
    · simp

end Cert.DilBp
-- ==== Proof.DilCEntry.lean ====
module

public import proofs.«01_k».proof.Proof.Gen.DilCIdeal.Value
public import proofs.«01_k».proof.Proof.RopeMath
public import Idealize.ShloMosaic.Lib.Pointwise
public import Idealize.ShloMosaic.Lib.StableHlo.RunRead

@[expose] public section

set_option maxRecDepth 16384

noncomputable section

/-! # The rotary tables that the call reads, from the positions -/

namespace Cert.DilCp
open Idealize.ShloMosaic Idealize.ShloMosaic.TcCoe Idealize.SL.Sem
open Cert.DilCIdeal Cert.DilCIdeal.Gen Cert.Rope

variable (m : (ℓ : Loc nD τ sig) → Buf (Elt Ideal) ℓ) (c : Dev nD)

/-- The position of a row. -/
abbrev pos (r : Fin 8192) : BitVec 32 :=
  (m ((c.tc : Thread nD τ).loc main_arg1) : IVec S4x2048 32) (ix2 ⟨r / 2048, by omega⟩ ⟨r % 2048, by omega⟩)

theorem c_at0 (r : Fin 8192) (j : Fin 128) :
    (V m c main_v48 : FVec Ideal S3x8192x128 .f32) (ix3 0 r j) = (cTab (pos m c r) j * sigma : EReal) := by
  unfold V
  unfold hostOps0
  after_reads_simp
  pointwise
  after_reads_simp
  pointwise
  after_reads_simp
  pointwise
  rfl

theorem c_at1 (r : Fin 8192) (j : Fin 128) :
    (V m c main_v48 : FVec Ideal S3x8192x128 .f32) (ix3 1 r j) = (cTab (pos m c r) j : EReal) := by
  unfold V
  unfold hostOps0
  after_reads_simp
  pointwise
  after_reads_simp
  pointwise
  after_reads_simp
  pointwise
  rfl

theorem c_at2 (r : Fin 8192) (j : Fin 128) :
    (V m c main_v48 : FVec Ideal S3x8192x128 .f32) (ix3 2 r j) = (1 : EReal) := by
  unfold V
  unfold hostOps0
  after_reads_simp
  pointwise
  after_reads_simp
  pointwise

theorem lo_at0 (r : Fin 8192) (j : Fin 128) :
    (V m c main_v52 : FVec Ideal S3x8192x128 .f32) (ix3 0 r j) = (loTab (pos m c r) j * sigma : EReal) := by
  unfold V
  unfold hostOps0
  after_reads_simp
  pointwise
  after_reads_simp
  pointwise
  after_reads_simp
  pointwise
  rfl

theorem lo_at1 (r : Fin 8192) (j : Fin 128) :
    (V m c main_v52 : FVec Ideal S3x8192x128 .f32) (ix3 1 r j) = (loTab (pos m c r) j : EReal) := by
  unfold V
  unfold hostOps0
  after_reads_simp
  pointwise
  after_reads_simp
  pointwise
  after_reads_simp
  pointwise
  rfl

theorem lo_at2 (r : Fin 8192) (j : Fin 128) :
    (V m c main_v52 : FVec Ideal S3x8192x128 .f32) (ix3 2 r j) = (0 : EReal) := by
  unfold V
  unfold hostOps0
  after_reads_simp
  pointwise
  after_reads_simp
  pointwise

theorem hi_at0 (r : Fin 8192) (j : Fin 128) :
    (V m c main_v56 : FVec Ideal S3x8192x128 .f32) (ix3 0 r j) = (hiTab (pos m c r) j * sigma : EReal) := by
  unfold V
  unfold hostOps0
  after_reads_simp
  pointwise
  after_reads_simp
  pointwise
  after_reads_simp
  pointwise
  rfl

theorem hi_at1 (r : Fin 8192) (j : Fin 128) :
    (V m c main_v56 : FVec Ideal S3x8192x128 .f32) (ix3 1 r j) = (hiTab (pos m c r) j : EReal) := by
  unfold V
  unfold hostOps0
  after_reads_simp
  pointwise
  after_reads_simp
  pointwise
  after_reads_simp
  pointwise
  rfl

theorem hi_at2 (r : Fin 8192) (j : Fin 128) :
    (V m c main_v56 : FVec Ideal S3x8192x128 .f32) (ix3 2 r j) = (0 : EReal) := by
  unfold V
  unfold hostOps0
  after_reads_simp
  pointwise
  after_reads_simp
  pointwise

end Cert.DilCp
-- ==== Proof.DilCRef.lean ====
module

public import proofs.«01_k».proof.Proof.Gen.DilCRefIdeal.Read
public import proofs.«01_k».proof.Proof.RopeMath

@[expose] public section

set_option maxRecDepth 16384

noncomputable section

/-! # The reference's queries, keys and values of one group, entry by entry -/

namespace Cert.DilCp.Ref
open Idealize.ShloMosaic Idealize.ShloMosaic.TcCoe Idealize.SL.Sem
open Cert.DilCRefIdeal Cert.DilCRefIdeal.Read Cert.Rope

variable (x0 : (⟨S8192x2048, .bf16⟩ : BufTy).Contents (Elt Ideal)) (x1 : (⟨S4x2048, .i32⟩ : BufTy).Contents (Elt Ideal))
  (x2 : (⟨S1x2048x9216, .f32⟩ : BufTy).Contents (Elt Ideal))

/-- The product of row `r` with column `e` of the weights. -/
def dot (r : Fin 8192) (e : Fin 9216) : EReal := ∑ k : Fin 2048, x0 (ix2 r k) * x2 (ix3 0 k e)

theorem dot_at (b : Fin 4) (s : Fin 2048) (e : Fin 9216) (r : Fin 8192) (hr : (r : ℕ) = b * 2048 + s) :
    val_main_v20 (F := Ideal) x0 x2 (ix3 b s e) = dot x0 x2 r e := by
  rw [val_main_v20_apply]
  refine Finset.sum_congr rfl fun k _ => congr_arg₂ (· * ·) ?_ ?_
  · rw [val_main_v18_apply]
    refine congrArg x0 (funext fun a => match a with
      | ⟨0, _⟩ => Fin.ext ?_
      | ⟨1, _⟩ => Fin.ext ?_)
    all_goals simp [idx_main_v18, lidx_main_v20]
    all_goals omega
  · rw [val_main_v19_apply]
    refine congrArg x2 (funext fun a => match a with
      | ⟨0, _⟩ => Fin.ext ?_
      | ⟨1, _⟩ => Fin.ext ?_
      | ⟨2, _⟩ => Fin.ext ?_)
    all_goals simp [idx_main_v19, ridx_main_v20]
    all_goals omega

theorem ang_at (b : Fin 4) (s : Fin 2048) (l : Fin 16) : val_main_v15 (F := Ideal) x1 (ix3 b s l) = ang (x1 (ix2 b s)) l := by
  unfold val_main_v15 val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1 val_main_cst_2
  pointwise
  rfl

/-- The queries, turned. -/
theorem q_turn (b : Fin 4) (s : Fin 2048) (h : Fin 8) (j : Fin 128) (r : Fin 8192) (hr : (r : ℕ) = b * 2048 + s) :
    val_main_v41 (F := Ideal) x0 x1 x2 (ix5 b s 2 h j)
      = turn (fun l => dot x0 x2 r ⟨2048 + h * 128 + l, by omega⟩) (x1 (ix2 b s)) j := by
  have hT : ∀ l : Fin 16, val_main_v15 (F := Ideal) x1 (ix3 b s l) = ang (x1 (ix2 b s)) l := ang_at x1 b s
  have hY : ∀ e : Fin 9216, val_main_v20 (F := Ideal) x0 x2 (ix3 b s e) = dot x0 x2 r e := fun e => dot_at x0 x2 b s e r hr
  unfold val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v16 val_main_v17
  generalize val_main_v15 (F := Ideal) x1 = t at hT ⊢
  generalize val_main_v20 (F := Ideal) x0 x2 = y at hY ⊢
  pointwise
  simp only [hY]
  refine Eq.trans ?_ (turn_of _ (fun l => t (ix3 b s l)) _ j hT)
  simp [Nat.add_assoc]

/-- The keys, turned. -/
theorem k_turn (b : Fin 4) (s : Fin 2048) (h : Fin 8) (j : Fin 128) (r : Fin 8192) (hr : (r : ℕ) = b * 2048 + s) :
    val_main_v63 (F := Ideal) x0 x1 x2 (ix5 b s 2 h j)
      = turn (fun l => dot x0 x2 r ⟨5120 + h * 128 + l, by omega⟩) (x1 (ix2 b s)) j := by
  have hT : ∀ l : Fin 16, val_main_v15 (F := Ideal) x1 (ix3 b s l) = ang (x1 (ix2 b s)) l := ang_at x1 b s
  have hY : ∀ e : Fin 9216, val_main_v20 (F := Ideal) x0 x2 (ix3 b s e) = dot x0 x2 r e := fun e => dot_at x0 x2 b s e r hr
  unfold val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v21 val_main_v16 val_main_v17
  generalize val_main_v15 (F := Ideal) x1 = t at hT ⊢
  generalize val_main_v20 (F := Ideal) x0 x2 = y at hY ⊢
  pointwise
  simp only [hY]
  refine Eq.trans ?_ (turn_of _ (fun l => t (ix3 b s l)) _ j hT)
  simp [Nat.add_assoc]

/-- A column of queries. -/
theorem q_at (b : Fin 4) (s : Fin 2048) (h : Fin 8) (j : Fin 128) (r : Fin 8192) (e : Fin 1024)
    (hr : (r : ℕ) = b * 2048 + s) (he : (e : ℕ) = h * 128 + j) :
    val_main_v79 (F := Ideal) x0 x1 x2 (ix2 r ⟨e, by omega⟩)
      = turn (fun l => dot x0 x2 r ⟨2048 + h * 128 + l, by omega⟩) (x1 (ix2 b s)) j * sigma := by
  have hq := q_turn x0 x1 x2 b s h j r hr
  unfold val_main_v79 val_main_v78 val_main_v77 val_main_v76 val_main_v75 val_main_v74 val_main_v73 val_main_v72 val_main_v71 val_main_v70 val_main_v69 val_main_v68 val_main_v67 val_main_v66 val_main_cst_4 val_main_v43 val_main_v42 val_main_cst_3
  generalize val_main_v41 (F := Ideal) x0 x1 x2 = t at hq ⊢
  generalize val_main_v63 (F := Ideal) x0 x1 x2 = y
  generalize val_main_v65 (F := Ideal) x0 x2 = z
  pointwise
  have hi : (ix5 (⟨r / 2048, by omega⟩ : Fin 4) (⟨r % 2048, by omega⟩ : Fin 2048) (2 : Fin 3) (⟨e / 128, by omega⟩ : Fin 8)
      (⟨e % 128, by omega⟩ : Fin 128)) = ix5 b s 2 h j := by
    congr 1 <;> exact Fin.ext (by simp only []; omega)
  refine Eq.trans (congrArg (fun w => Ideal.div (w * _) _) (Eq.trans (congrArg t hi) hq)) ?_
  exact scaled _

/-- A column of keys. -/
theorem k_at (b : Fin 4) (s : Fin 2048) (h : Fin 8) (j : Fin 128) (r : Fin 8192) (e : Fin 1024)
    (hr : (r : ℕ) = b * 2048 + s) (he : (e : ℕ) = h * 128 + j) :
    val_main_v79 (F := Ideal) x0 x1 x2 (ix2 r ⟨1024 + e, by omega⟩)
      = turn (fun l => dot x0 x2 r ⟨5120 + h * 128 + l, by omega⟩) (x1 (ix2 b s)) j := by
  have hk := k_turn x0 x1 x2 b s h j r hr
  unfold val_main_v79 val_main_v78 val_main_v77 val_main_v76 val_main_v75 val_main_v74 val_main_v73 val_main_v72 val_main_v71 val_main_v70 val_main_v69 val_main_v68 val_main_v67 val_main_v66 val_main_cst_4 val_main_v43 val_main_v42 val_main_cst_3
  generalize val_main_v41 (F := Ideal) x0 x1 x2 = t
  generalize val_main_v63 (F := Ideal) x0 x1 x2 = y at hk ⊢
  generalize val_main_v65 (F := Ideal) x0 x2 = z
  pointwise
  have hi : (ix5 (⟨r / 2048, by omega⟩ : Fin 4) (⟨r % 2048, by omega⟩ : Fin 2048) (2 : Fin 3) (⟨e / 128, by omega⟩ : Fin 8)
      (⟨e % 128, by omega⟩ : Fin 128)) = ix5 b s 2 h j := by
    congr 1 <;> exact Fin.ext (by simp only []; omega)
  exact (congrArg y hi).trans hk

set_option maxHeartbeats 1000000 in
/-- A column of values. -/
theorem v_at (r : Fin 8192) (e : Fin 1024) :
    val_main_v79 (F := Ideal) x0 x1 x2 (ix2 r ⟨2048 + e, by omega⟩) = dot x0 x2 r ⟨8192 + e, by omega⟩ := by
  have hy := dot_at x0 x2 ⟨r / 2048, by omega⟩ ⟨r % 2048, by omega⟩ ⟨8192 + e, by omega⟩ r (by simp only []; omega)
  unfold val_main_v79 val_main_v78 val_main_v77 val_main_v76 val_main_v75 val_main_v74 val_main_v73 val_main_v72 val_main_v71 val_main_v70 val_main_v69 val_main_v68 val_main_v67 val_main_v66 val_main_cst_4 val_main_v43 val_main_v42 val_main_cst_3
    val_main_v65 val_main_v64 val_main_v21
  generalize val_main_v41 (F := Ideal) x0 x1 x2 = t
  generalize val_main_v63 (F := Ideal) x0 x1 x2 = y
  generalize val_main_v20 (F := Ideal) x0 x2 = z at hy ⊢
  pointwise
  rw [dif_neg (by omega), dif_neg (by omega), ← hy]
  exact congrArg (fun w => z (ix3 _ _ w)) (Fin.ext (by simp only []; omega))

/-- The rows dealt by their place modulo 16. -/
theorem dealt (d : Fin 16) (w : Fin 512) (e : Fin 3072) :
    val_main_v81 (F := Ideal) x0 x1 x2 (ix3 d w e) = val_main_v79 (F := Ideal) x0 x1 x2 (ix2 ⟨w * 16 + d, by omega⟩ e) := by
  unfold val_main_v81 val_main_v80
  generalize val_main_v79 (F := Ideal) x0 x1 x2 = y
  pointwise

end Cert.DilCp.Ref
-- ==== Proof.DilCStore.lean ====
module

public import proofs.«01_k».proof.Proof.Gen.DilCIdeal.Value
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

/-! # What a point stores: its product, dealt by the rows' place modulo 16 -/

namespace Cert.DilCp
open Idealize.ShloMosaic Idealize.ShloMosaic.TcCoe Idealize.SL.Sem
open Cert.DilCIdeal Cert.DilCIdeal.Gen

/-- An array of 512 columns as four arrays of 128. -/
def lanes (z : FVec Ideal S512x512 .f32) (y : S4x512x128.Idx) : EReal :=
  z (ix2 (y 1 : Fin 512) ⟨(y 0 : Fin 4) * 128 + (y 2 : Fin 128), by
    have h0 : (y 0 : Fin 4).val < 4 := (y 0 : Fin 4).isLt
    have h2 : (y 2 : Fin 128).val < 128 := (y 2 : Fin 128).isLt
    omega⟩)

/-- The rows of an array dealt by their place modulo 16. -/
def dealt (z : FVec Ideal S512x512 .f32) (y : S16x32x512.Idx) : EReal :=
  z (ix2 ⟨(y 1 : Fin 32) * 16 + (y 0 : Fin 16), by
    have h0 : (y 0 : Fin 16).val < 16 := (y 0 : Fin 16).isLt
    have h1 : (y 1 : Fin 32).val < 32 := (y 1 : Fin 32).isLt
    omega⟩ (y 2 : Fin 512))

/-- The casts and reshapes between the scratch and the result change no entry. -/
theorem relay (v : Vec Ideal S1x32x128 .f32) (x : S1x32x128.Idx) :
    shapeCast S1x32x128 (truncf .bf16 (shapeCast S32x128 v shapeCasts_S1x32x128_S32x128 : FVec Ideal S32x128 .f32) bitsLt_bf16_f32) shapeCasts_S32x128_S1x32x128 x = v x := by
  obtain ⟨a, b, e, rfl⟩ : ∃ (a : Fin 1) (b : Fin 32) (e : Fin 128), x = ix3 a b e :=
    ⟨x 0, x 1, x 2, funext fun a => match a with | ⟨0, _⟩ => rfl | ⟨1, _⟩ => rfl | ⟨2, _⟩ => rfl⟩
  have ha : a = 0 := Subsingleton.elim _ _
  rw [ha]
  pointwise

/-- The same of the whole arrays. -/
theorem relays (v : Vec Ideal S1x32x128 .f32) :
    shapeCast S1x32x128 (truncf .bf16 (shapeCast S32x128 v shapeCasts_S1x32x128_S32x128 : FVec Ideal S32x128 .f32) bitsLt_bf16_f32) shapeCasts_S32x128_S1x32x128 = fun x => v x :=
  funext (relay v)

/-- A strided block of the lanes is a block of the dealt rows. -/
theorem piece (z : FVec Ideal S512x512 .f32) (r c o : ℕ) (ho : o = 128 * c) (inb) (inb') (x : S1x32x128.Idx) :
    lanes z (({ off := ![c, r, 0], size := S1x32x128.size, stride := ![1, 16, 1], inb := inb } : LoadRect S4x512x128).idx x)
      = dealt z ((Rect.unit (s := S16x32x512) ![r, 0, o] S1x32x128.size inb').emb x) := by
  have h0 : (x 0 : ℕ) = 0 := by
    have : (x 0 : ℕ) < 1 := (x 0).isLt
    omega
  refine congrArg z (funext fun a => match a with | ⟨0, _⟩ => Fin.ext ?_ | ⟨1, _⟩ => Fin.ext ?_)
  · change r + 16 * (x 1 : ℕ) = (0 + 1 * (x 1 : ℕ)) * 16 + (r + 1 * (x 0 : ℕ))
    omega
  · change (c + 1 * (x 0 : ℕ)) * 128 + (0 + 1 * (x 2 : ℕ)) = o + 1 * (x 2 : ℕ)
    omega

/-- The scratch, written in four blocks of lanes, holds the product. -/
theorem scratch (v : View sig .tc .vmem S4x512x128 .f32) (X : Vec Ideal S512x2048 .bf16) (W : Vec Ideal S2048x512 .bf16)
    (C L H : Vec Ideal S1x512x128 .f32) (B : LoadRect S4x512x128) :
    v.readCov (Val := Elt Ideal)
      [⟨Rect.unit ![3, 0, 0] S1x512x128.size inb_S4x512x128_S1x512x128_3_0_0, k0_pay8 (k0_pay3 X W C L H)⟩,
       ⟨Rect.unit ![2, 0, 0] S1x512x128.size inb_S4x512x128_S1x512x128_2_0_0, k0_pay7 (k0_pay6 X W C L H)⟩,
       ⟨Rect.unit ![1, 0, 0] S1x512x128.size inb_S4x512x128_S1x512x128_1_0_0, k0_pay5 X W C L H⟩,
       ⟨Rect.unit ![0, 0, 0] S1x512x128.size inb_S4x512x128_S1x512x128_0_0_0, k0_pay4 X W C L H⟩] B
      = fun j => lanes (k0_pay3 X W C L H) (B.idx j) := by
  rw [View.readCov_eq_canon']
  funext j
  unfold k0_pay7 k0_pay6 k0_pay5 k0_pay4 k0_pay8
  generalize k0_pay3 X W C L H = z
  refine View.canon_apply_of_pieces (Val := Elt Ideal) (e := .f32) (lanes z) _ ?_ _ ?_
  · refine View.PiecesOf.mem (Val := Elt Ideal) (e := .f32) (G := lanes z) ?_
    refine ⟨fun x => ?_, fun x => ?_, fun x => ?_, fun x => ?_, trivial⟩
    all_goals
      obtain ⟨a, b, e, rfl⟩ : ∃ (a : Fin 1) (b : Fin 512) (e : Fin 128), x = ix3 a b e :=
        ⟨x 0, x 1, x 2, funext fun a => match a with | ⟨0, _⟩ => rfl | ⟨1, _⟩ => rfl | ⟨2, _⟩ => rfl⟩
      have ha : a = 0 := Subsingleton.elim _ _
      rw [ha]
      pointwise [lanes]
      refine congrArg z (funext fun a => match a with | ⟨0, _⟩ => Fin.ext ?_ | ⟨1, _⟩ => Fin.ext ?_)
      all_goals simp [Rect.emb, Rect.unit, LoadRect.idx]
  · refine View.cover_of_tiledL _ ![1, 512, 128] ?_ _
    sl_kernel_rfl

variable (m : (ℓ : Loc nD τ sig) → Buf (Elt Ideal) ℓ) (c : Dev nD)

set_option maxHeartbeats 4000000 in
/-- A point leaves the turned product of its input block with the weights that it carries on, its rows dealt. -/
theorem left (t : Fin cfg0.N) : (outsAt0 m c t.val t.isLt).1
    = dealt (k0_pay3 (F := Ideal) (iblk m c 0 t) (outsAt0 m c t.val t.isLt).2 (iblk m c 2 t) (iblk m c 3 t) (iblk m c 4 t)) := by
  by_cases h0 : t.val % 16 = 0
  · rw [outsAt0_A m c t h0]
    frame_open
    simp (disch := decide) only [View.read_writes_junk_eq_canon, View.canon_cons_unit_lit', View.ld_unit_lit', View.readCov_unit_lit',
      View.readCov_cons_unit_lit', View.readAt_eq_ld, Memref.IsWhole.read_unread, ↓ scratch]
    generalize k0_pay3 (F := Ideal) (iblk m c 0 t) _ (iblk m c 2 t) (iblk m c 3 t) (iblk m c 4 t) = z
    simp only [k0_pay1, k0_pay9, k0_pay10, k0_pay11, k0_pay12, k0_pay13, k0_pay14, k0_pay15, k0_pay16, k0_pay17, k0_pay18, k0_pay19, k0_pay20,
      k0_pay21, k0_pay22, k0_pay23, k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59,
      k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, relays]
    funext y
    refine View.canon_apply_of_pieces (Val := Elt Ideal) (e := .bf16) (dealt z) _ ?_ y ?_
    · refine View.PiecesOf.mem (Val := Elt Ideal) (e := .bf16) (G := dealt z) ?_
      exact ⟨
    fun x => piece _ 15 3 384 rfl inb_S4x512x128_S1x32x128_3_15_0_s_1_16_1 inb_S16x32x512_S1x32x128_15_0_384 x,
    fun x => piece _ 15 2 256 rfl inb_S4x512x128_S1x32x128_2_15_0_s_1_16_1 inb_S16x32x512_S1x32x128_15_0_256 x,
    fun x => piece _ 15 1 128 rfl inb_S4x512x128_S1x32x128_1_15_0_s_1_16_1 inb_S16x32x512_S1x32x128_15_0_128 x,
    fun x => piece _ 15 0 0 rfl inb_S4x512x128_S1x32x128_0_15_0_s_1_16_1 inb_S16x32x512_S1x32x128_15_0_0 x,
    fun x => piece _ 14 3 384 rfl inb_S4x512x128_S1x32x128_3_14_0_s_1_16_1 inb_S16x32x512_S1x32x128_14_0_384 x,
    fun x => piece _ 14 2 256 rfl inb_S4x512x128_S1x32x128_2_14_0_s_1_16_1 inb_S16x32x512_S1x32x128_14_0_256 x,
    fun x => piece _ 14 1 128 rfl inb_S4x512x128_S1x32x128_1_14_0_s_1_16_1 inb_S16x32x512_S1x32x128_14_0_128 x,
    fun x => piece _ 14 0 0 rfl inb_S4x512x128_S1x32x128_0_14_0_s_1_16_1 inb_S16x32x512_S1x32x128_14_0_0 x,
    fun x => piece _ 13 3 384 rfl inb_S4x512x128_S1x32x128_3_13_0_s_1_16_1 inb_S16x32x512_S1x32x128_13_0_384 x,
    fun x => piece _ 13 2 256 rfl inb_S4x512x128_S1x32x128_2_13_0_s_1_16_1 inb_S16x32x512_S1x32x128_13_0_256 x,
    fun x => piece _ 13 1 128 rfl inb_S4x512x128_S1x32x128_1_13_0_s_1_16_1 inb_S16x32x512_S1x32x128_13_0_128 x,
    fun x => piece _ 13 0 0 rfl inb_S4x512x128_S1x32x128_0_13_0_s_1_16_1 inb_S16x32x512_S1x32x128_13_0_0 x,
    fun x => piece _ 12 3 384 rfl inb_S4x512x128_S1x32x128_3_12_0_s_1_16_1 inb_S16x32x512_S1x32x128_12_0_384 x,
    fun x => piece _ 12 2 256 rfl inb_S4x512x128_S1x32x128_2_12_0_s_1_16_1 inb_S16x32x512_S1x32x128_12_0_256 x,
    fun x => piece _ 12 1 128 rfl inb_S4x512x128_S1x32x128_1_12_0_s_1_16_1 inb_S16x32x512_S1x32x128_12_0_128 x,
    fun x => piece _ 12 0 0 rfl inb_S4x512x128_S1x32x128_0_12_0_s_1_16_1 inb_S16x32x512_S1x32x128_12_0_0 x,
    fun x => piece _ 11 3 384 rfl inb_S4x512x128_S1x32x128_3_11_0_s_1_16_1 inb_S16x32x512_S1x32x128_11_0_384 x,
    fun x => piece _ 11 2 256 rfl inb_S4x512x128_S1x32x128_2_11_0_s_1_16_1 inb_S16x32x512_S1x32x128_11_0_256 x,
    fun x => piece _ 11 1 128 rfl inb_S4x512x128_S1x32x128_1_11_0_s_1_16_1 inb_S16x32x512_S1x32x128_11_0_128 x,
    fun x => piece _ 11 0 0 rfl inb_S4x512x128_S1x32x128_0_11_0_s_1_16_1 inb_S16x32x512_S1x32x128_11_0_0 x,
    fun x => piece _ 10 3 384 rfl inb_S4x512x128_S1x32x128_3_10_0_s_1_16_1 inb_S16x32x512_S1x32x128_10_0_384 x,
    fun x => piece _ 10 2 256 rfl inb_S4x512x128_S1x32x128_2_10_0_s_1_16_1 inb_S16x32x512_S1x32x128_10_0_256 x,
    fun x => piece _ 10 1 128 rfl inb_S4x512x128_S1x32x128_1_10_0_s_1_16_1 inb_S16x32x512_S1x32x128_10_0_128 x,
    fun x => piece _ 10 0 0 rfl inb_S4x512x128_S1x32x128_0_10_0_s_1_16_1 inb_S16x32x512_S1x32x128_10_0_0 x,
    fun x => piece _ 9 3 384 rfl inb_S4x512x128_S1x32x128_3_9_0_s_1_16_1 inb_S16x32x512_S1x32x128_9_0_384 x,
    fun x => piece _ 9 2 256 rfl inb_S4x512x128_S1x32x128_2_9_0_s_1_16_1 inb_S16x32x512_S1x32x128_9_0_256 x,
    fun x => piece _ 9 1 128 rfl inb_S4x512x128_S1x32x128_1_9_0_s_1_16_1 inb_S16x32x512_S1x32x128_9_0_128 x,
    fun x => piece _ 9 0 0 rfl inb_S4x512x128_S1x32x128_0_9_0_s_1_16_1 inb_S16x32x512_S1x32x128_9_0_0 x,
    fun x => piece _ 8 3 384 rfl inb_S4x512x128_S1x32x128_3_8_0_s_1_16_1 inb_S16x32x512_S1x32x128_8_0_384 x,
    fun x => piece _ 8 2 256 rfl inb_S4x512x128_S1x32x128_2_8_0_s_1_16_1 inb_S16x32x512_S1x32x128_8_0_256 x,
    fun x => piece _ 8 1 128 rfl inb_S4x512x128_S1x32x128_1_8_0_s_1_16_1 inb_S16x32x512_S1x32x128_8_0_128 x,
    fun x => piece _ 8 0 0 rfl inb_S4x512x128_S1x32x128_0_8_0_s_1_16_1 inb_S16x32x512_S1x32x128_8_0_0 x,
    fun x => piece _ 7 3 384 rfl inb_S4x512x128_S1x32x128_3_7_0_s_1_16_1 inb_S16x32x512_S1x32x128_7_0_384 x,
    fun x => piece _ 7 2 256 rfl inb_S4x512x128_S1x32x128_2_7_0_s_1_16_1 inb_S16x32x512_S1x32x128_7_0_256 x,
    fun x => piece _ 7 1 128 rfl inb_S4x512x128_S1x32x128_1_7_0_s_1_16_1 inb_S16x32x512_S1x32x128_7_0_128 x,
    fun x => piece _ 7 0 0 rfl inb_S4x512x128_S1x32x128_0_7_0_s_1_16_1 inb_S16x32x512_S1x32x128_7_0_0 x,
    fun x => piece _ 6 3 384 rfl inb_S4x512x128_S1x32x128_3_6_0_s_1_16_1 inb_S16x32x512_S1x32x128_6_0_384 x,
    fun x => piece _ 6 2 256 rfl inb_S4x512x128_S1x32x128_2_6_0_s_1_16_1 inb_S16x32x512_S1x32x128_6_0_256 x,
    fun x => piece _ 6 1 128 rfl inb_S4x512x128_S1x32x128_1_6_0_s_1_16_1 inb_S16x32x512_S1x32x128_6_0_128 x,
    fun x => piece _ 6 0 0 rfl inb_S4x512x128_S1x32x128_0_6_0_s_1_16_1 inb_S16x32x512_S1x32x128_6_0_0 x,
    fun x => piece _ 5 3 384 rfl inb_S4x512x128_S1x32x128_3_5_0_s_1_16_1 inb_S16x32x512_S1x32x128_5_0_384 x,
    fun x => piece _ 5 2 256 rfl inb_S4x512x128_S1x32x128_2_5_0_s_1_16_1 inb_S16x32x512_S1x32x128_5_0_256 x,
    fun x => piece _ 5 1 128 rfl inb_S4x512x128_S1x32x128_1_5_0_s_1_16_1 inb_S16x32x512_S1x32x128_5_0_128 x,
    fun x => piece _ 5 0 0 rfl inb_S4x512x128_S1x32x128_0_5_0_s_1_16_1 inb_S16x32x512_S1x32x128_5_0_0 x,
    fun x => piece _ 4 3 384 rfl inb_S4x512x128_S1x32x128_3_4_0_s_1_16_1 inb_S16x32x512_S1x32x128_4_0_384 x,
    fun x => piece _ 4 2 256 rfl inb_S4x512x128_S1x32x128_2_4_0_s_1_16_1 inb_S16x32x512_S1x32x128_4_0_256 x,
    fun x => piece _ 4 1 128 rfl inb_S4x512x128_S1x32x128_1_4_0_s_1_16_1 inb_S16x32x512_S1x32x128_4_0_128 x,
    fun x => piece _ 4 0 0 rfl inb_S4x512x128_S1x32x128_0_4_0_s_1_16_1 inb_S16x32x512_S1x32x128_4_0_0 x,
    fun x => piece _ 3 3 384 rfl inb_S4x512x128_S1x32x128_3_3_0_s_1_16_1 inb_S16x32x512_S1x32x128_3_0_384 x,
    fun x => piece _ 3 2 256 rfl inb_S4x512x128_S1x32x128_2_3_0_s_1_16_1 inb_S16x32x512_S1x32x128_3_0_256 x,
    fun x => piece _ 3 1 128 rfl inb_S4x512x128_S1x32x128_1_3_0_s_1_16_1 inb_S16x32x512_S1x32x128_3_0_128 x,
    fun x => piece _ 3 0 0 rfl inb_S4x512x128_S1x32x128_0_3_0_s_1_16_1 inb_S16x32x512_S1x32x128_3_0_0 x,
    fun x => piece _ 2 3 384 rfl inb_S4x512x128_S1x32x128_3_2_0_s_1_16_1 inb_S16x32x512_S1x32x128_2_0_384 x,
    fun x => piece _ 2 2 256 rfl inb_S4x512x128_S1x32x128_2_2_0_s_1_16_1 inb_S16x32x512_S1x32x128_2_0_256 x,
    fun x => piece _ 2 1 128 rfl inb_S4x512x128_S1x32x128_1_2_0_s_1_16_1 inb_S16x32x512_S1x32x128_2_0_128 x,
    fun x => piece _ 2 0 0 rfl inb_S4x512x128_S1x32x128_0_2_0_s_1_16_1 inb_S16x32x512_S1x32x128_2_0_0 x,
    fun x => piece _ 1 3 384 rfl inb_S4x512x128_S1x32x128_3_1_0_s_1_16_1 inb_S16x32x512_S1x32x128_1_0_384 x,
    fun x => piece _ 1 2 256 rfl inb_S4x512x128_S1x32x128_2_1_0_s_1_16_1 inb_S16x32x512_S1x32x128_1_0_256 x,
    fun x => piece _ 1 1 128 rfl inb_S4x512x128_S1x32x128_1_1_0_s_1_16_1 inb_S16x32x512_S1x32x128_1_0_128 x,
    fun x => piece _ 1 0 0 rfl inb_S4x512x128_S1x32x128_0_1_0_s_1_16_1 inb_S16x32x512_S1x32x128_1_0_0 x,
    fun x => piece _ 0 3 384 rfl inb_S4x512x128_S1x32x128_3_0_0_s_1_16_1 inb_S16x32x512_S1x32x128_0_0_384 x,
    fun x => piece _ 0 2 256 rfl inb_S4x512x128_S1x32x128_2_0_0_s_1_16_1 inb_S16x32x512_S1x32x128_0_0_256 x,
    fun x => piece _ 0 1 128 rfl inb_S4x512x128_S1x32x128_1_0_0_s_1_16_1 inb_S16x32x512_S1x32x128_0_0_128 x,
    fun x => piece _ 0 0 0 rfl inb_S4x512x128_S1x32x128_0_0_0_s_1_16_1 inb_S16x32x512_S1x32x128_0_0_0 x,
        trivial⟩
    · refine View.cover_of_tiledL _ ![1, 32, 128] ?_ y
      sl_kernel_rfl
  · rw [outsAt0_B m c t h0]
    frame_open
    simp (disch := decide) only [View.read_writes_junk_eq_canon, View.canon_cons_unit_lit', View.ld_unit_lit', View.readCov_unit_lit',
      View.readCov_cons_unit_lit', View.readAt_eq_ld, Memref.IsWhole.read_unread, sout0_B_0, read_unread_whole, ↓ scratch]
    generalize k0_pay3 (F := Ideal) (iblk m c 0 t) _ (iblk m c 2 t) (iblk m c 3 t) (iblk m c 4 t) = z
    simp only [k0_pay1, k0_pay9, k0_pay10, k0_pay11, k0_pay12, k0_pay13, k0_pay14, k0_pay15, k0_pay16, k0_pay17, k0_pay18, k0_pay19, k0_pay20,
      k0_pay21, k0_pay22, k0_pay23, k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59,
      k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, relays]
    funext y
    refine View.canon_apply_of_pieces (Val := Elt Ideal) (e := .bf16) (dealt z) _ ?_ y ?_
    · refine View.PiecesOf.mem (Val := Elt Ideal) (e := .bf16) (G := dealt z) ?_
      exact ⟨
    fun x => piece _ 15 3 384 rfl inb_S4x512x128_S1x32x128_3_15_0_s_1_16_1 inb_S16x32x512_S1x32x128_15_0_384 x,
    fun x => piece _ 15 2 256 rfl inb_S4x512x128_S1x32x128_2_15_0_s_1_16_1 inb_S16x32x512_S1x32x128_15_0_256 x,
    fun x => piece _ 15 1 128 rfl inb_S4x512x128_S1x32x128_1_15_0_s_1_16_1 inb_S16x32x512_S1x32x128_15_0_128 x,
    fun x => piece _ 15 0 0 rfl inb_S4x512x128_S1x32x128_0_15_0_s_1_16_1 inb_S16x32x512_S1x32x128_15_0_0 x,
    fun x => piece _ 14 3 384 rfl inb_S4x512x128_S1x32x128_3_14_0_s_1_16_1 inb_S16x32x512_S1x32x128_14_0_384 x,
    fun x => piece _ 14 2 256 rfl inb_S4x512x128_S1x32x128_2_14_0_s_1_16_1 inb_S16x32x512_S1x32x128_14_0_256 x,
    fun x => piece _ 14 1 128 rfl inb_S4x512x128_S1x32x128_1_14_0_s_1_16_1 inb_S16x32x512_S1x32x128_14_0_128 x,
    fun x => piece _ 14 0 0 rfl inb_S4x512x128_S1x32x128_0_14_0_s_1_16_1 inb_S16x32x512_S1x32x128_14_0_0 x,
    fun x => piece _ 13 3 384 rfl inb_S4x512x128_S1x32x128_3_13_0_s_1_16_1 inb_S16x32x512_S1x32x128_13_0_384 x,
    fun x => piece _ 13 2 256 rfl inb_S4x512x128_S1x32x128_2_13_0_s_1_16_1 inb_S16x32x512_S1x32x128_13_0_256 x,
    fun x => piece _ 13 1 128 rfl inb_S4x512x128_S1x32x128_1_13_0_s_1_16_1 inb_S16x32x512_S1x32x128_13_0_128 x,
    fun x => piece _ 13 0 0 rfl inb_S4x512x128_S1x32x128_0_13_0_s_1_16_1 inb_S16x32x512_S1x32x128_13_0_0 x,
    fun x => piece _ 12 3 384 rfl inb_S4x512x128_S1x32x128_3_12_0_s_1_16_1 inb_S16x32x512_S1x32x128_12_0_384 x,
    fun x => piece _ 12 2 256 rfl inb_S4x512x128_S1x32x128_2_12_0_s_1_16_1 inb_S16x32x512_S1x32x128_12_0_256 x,
    fun x => piece _ 12 1 128 rfl inb_S4x512x128_S1x32x128_1_12_0_s_1_16_1 inb_S16x32x512_S1x32x128_12_0_128 x,
    fun x => piece _ 12 0 0 rfl inb_S4x512x128_S1x32x128_0_12_0_s_1_16_1 inb_S16x32x512_S1x32x128_12_0_0 x,
    fun x => piece _ 11 3 384 rfl inb_S4x512x128_S1x32x128_3_11_0_s_1_16_1 inb_S16x32x512_S1x32x128_11_0_384 x,
    fun x => piece _ 11 2 256 rfl inb_S4x512x128_S1x32x128_2_11_0_s_1_16_1 inb_S16x32x512_S1x32x128_11_0_256 x,
    fun x => piece _ 11 1 128 rfl inb_S4x512x128_S1x32x128_1_11_0_s_1_16_1 inb_S16x32x512_S1x32x128_11_0_128 x,
    fun x => piece _ 11 0 0 rfl inb_S4x512x128_S1x32x128_0_11_0_s_1_16_1 inb_S16x32x512_S1x32x128_11_0_0 x,
    fun x => piece _ 10 3 384 rfl inb_S4x512x128_S1x32x128_3_10_0_s_1_16_1 inb_S16x32x512_S1x32x128_10_0_384 x,
    fun x => piece _ 10 2 256 rfl inb_S4x512x128_S1x32x128_2_10_0_s_1_16_1 inb_S16x32x512_S1x32x128_10_0_256 x,
    fun x => piece _ 10 1 128 rfl inb_S4x512x128_S1x32x128_1_10_0_s_1_16_1 inb_S16x32x512_S1x32x128_10_0_128 x,
    fun x => piece _ 10 0 0 rfl inb_S4x512x128_S1x32x128_0_10_0_s_1_16_1 inb_S16x32x512_S1x32x128_10_0_0 x,
    fun x => piece _ 9 3 384 rfl inb_S4x512x128_S1x32x128_3_9_0_s_1_16_1 inb_S16x32x512_S1x32x128_9_0_384 x,
    fun x => piece _ 9 2 256 rfl inb_S4x512x128_S1x32x128_2_9_0_s_1_16_1 inb_S16x32x512_S1x32x128_9_0_256 x,
    fun x => piece _ 9 1 128 rfl inb_S4x512x128_S1x32x128_1_9_0_s_1_16_1 inb_S16x32x512_S1x32x128_9_0_128 x,
    fun x => piece _ 9 0 0 rfl inb_S4x512x128_S1x32x128_0_9_0_s_1_16_1 inb_S16x32x512_S1x32x128_9_0_0 x,
    fun x => piece _ 8 3 384 rfl inb_S4x512x128_S1x32x128_3_8_0_s_1_16_1 inb_S16x32x512_S1x32x128_8_0_384 x,
    fun x => piece _ 8 2 256 rfl inb_S4x512x128_S1x32x128_2_8_0_s_1_16_1 inb_S16x32x512_S1x32x128_8_0_256 x,
    fun x => piece _ 8 1 128 rfl inb_S4x512x128_S1x32x128_1_8_0_s_1_16_1 inb_S16x32x512_S1x32x128_8_0_128 x,
    fun x => piece _ 8 0 0 rfl inb_S4x512x128_S1x32x128_0_8_0_s_1_16_1 inb_S16x32x512_S1x32x128_8_0_0 x,
    fun x => piece _ 7 3 384 rfl inb_S4x512x128_S1x32x128_3_7_0_s_1_16_1 inb_S16x32x512_S1x32x128_7_0_384 x,
    fun x => piece _ 7 2 256 rfl inb_S4x512x128_S1x32x128_2_7_0_s_1_16_1 inb_S16x32x512_S1x32x128_7_0_256 x,
    fun x => piece _ 7 1 128 rfl inb_S4x512x128_S1x32x128_1_7_0_s_1_16_1 inb_S16x32x512_S1x32x128_7_0_128 x,
    fun x => piece _ 7 0 0 rfl inb_S4x512x128_S1x32x128_0_7_0_s_1_16_1 inb_S16x32x512_S1x32x128_7_0_0 x,
    fun x => piece _ 6 3 384 rfl inb_S4x512x128_S1x32x128_3_6_0_s_1_16_1 inb_S16x32x512_S1x32x128_6_0_384 x,
    fun x => piece _ 6 2 256 rfl inb_S4x512x128_S1x32x128_2_6_0_s_1_16_1 inb_S16x32x512_S1x32x128_6_0_256 x,
    fun x => piece _ 6 1 128 rfl inb_S4x512x128_S1x32x128_1_6_0_s_1_16_1 inb_S16x32x512_S1x32x128_6_0_128 x,
    fun x => piece _ 6 0 0 rfl inb_S4x512x128_S1x32x128_0_6_0_s_1_16_1 inb_S16x32x512_S1x32x128_6_0_0 x,
    fun x => piece _ 5 3 384 rfl inb_S4x512x128_S1x32x128_3_5_0_s_1_16_1 inb_S16x32x512_S1x32x128_5_0_384 x,
    fun x => piece _ 5 2 256 rfl inb_S4x512x128_S1x32x128_2_5_0_s_1_16_1 inb_S16x32x512_S1x32x128_5_0_256 x,
    fun x => piece _ 5 1 128 rfl inb_S4x512x128_S1x32x128_1_5_0_s_1_16_1 inb_S16x32x512_S1x32x128_5_0_128 x,
    fun x => piece _ 5 0 0 rfl inb_S4x512x128_S1x32x128_0_5_0_s_1_16_1 inb_S16x32x512_S1x32x128_5_0_0 x,
    fun x => piece _ 4 3 384 rfl inb_S4x512x128_S1x32x128_3_4_0_s_1_16_1 inb_S16x32x512_S1x32x128_4_0_384 x,
    fun x => piece _ 4 2 256 rfl inb_S4x512x128_S1x32x128_2_4_0_s_1_16_1 inb_S16x32x512_S1x32x128_4_0_256 x,
    fun x => piece _ 4 1 128 rfl inb_S4x512x128_S1x32x128_1_4_0_s_1_16_1 inb_S16x32x512_S1x32x128_4_0_128 x,
    fun x => piece _ 4 0 0 rfl inb_S4x512x128_S1x32x128_0_4_0_s_1_16_1 inb_S16x32x512_S1x32x128_4_0_0 x,
    fun x => piece _ 3 3 384 rfl inb_S4x512x128_S1x32x128_3_3_0_s_1_16_1 inb_S16x32x512_S1x32x128_3_0_384 x,
    fun x => piece _ 3 2 256 rfl inb_S4x512x128_S1x32x128_2_3_0_s_1_16_1 inb_S16x32x512_S1x32x128_3_0_256 x,
    fun x => piece _ 3 1 128 rfl inb_S4x512x128_S1x32x128_1_3_0_s_1_16_1 inb_S16x32x512_S1x32x128_3_0_128 x,
    fun x => piece _ 3 0 0 rfl inb_S4x512x128_S1x32x128_0_3_0_s_1_16_1 inb_S16x32x512_S1x32x128_3_0_0 x,
    fun x => piece _ 2 3 384 rfl inb_S4x512x128_S1x32x128_3_2_0_s_1_16_1 inb_S16x32x512_S1x32x128_2_0_384 x,
    fun x => piece _ 2 2 256 rfl inb_S4x512x128_S1x32x128_2_2_0_s_1_16_1 inb_S16x32x512_S1x32x128_2_0_256 x,
    fun x => piece _ 2 1 128 rfl inb_S4x512x128_S1x32x128_1_2_0_s_1_16_1 inb_S16x32x512_S1x32x128_2_0_128 x,
    fun x => piece _ 2 0 0 rfl inb_S4x512x128_S1x32x128_0_2_0_s_1_16_1 inb_S16x32x512_S1x32x128_2_0_0 x,
    fun x => piece _ 1 3 384 rfl inb_S4x512x128_S1x32x128_3_1_0_s_1_16_1 inb_S16x32x512_S1x32x128_1_0_384 x,
    fun x => piece _ 1 2 256 rfl inb_S4x512x128_S1x32x128_2_1_0_s_1_16_1 inb_S16x32x512_S1x32x128_1_0_256 x,
    fun x => piece _ 1 1 128 rfl inb_S4x512x128_S1x32x128_1_1_0_s_1_16_1 inb_S16x32x512_S1x32x128_1_0_128 x,
    fun x => piece _ 1 0 0 rfl inb_S4x512x128_S1x32x128_0_1_0_s_1_16_1 inb_S16x32x512_S1x32x128_1_0_0 x,
    fun x => piece _ 0 3 384 rfl inb_S4x512x128_S1x32x128_3_0_0_s_1_16_1 inb_S16x32x512_S1x32x128_0_0_384 x,
    fun x => piece _ 0 2 256 rfl inb_S4x512x128_S1x32x128_2_0_0_s_1_16_1 inb_S16x32x512_S1x32x128_0_0_256 x,
    fun x => piece _ 0 1 128 rfl inb_S4x512x128_S1x32x128_1_0_0_s_1_16_1 inb_S16x32x512_S1x32x128_0_0_128 x,
    fun x => piece _ 0 0 0 rfl inb_S4x512x128_S1x32x128_0_0_0_s_1_16_1 inb_S16x32x512_S1x32x128_0_0_0 x,
        trivial⟩
    · refine View.cover_of_tiledL _ ![1, 32, 128] ?_ y
      sl_kernel_rfl

end Cert.DilCp
-- ==== Proof.DilCArr.lean ====
module

public import proofs.«01_k».proof.Proof.Gen.DilCIdeal.Value
public import proofs.«01_k».proof.Proof.DilCEntry
public import proofs.«01_k».proof.Proof.DilCRef
public import proofs.«01_k».proof.Proof.DilCStore
public import Idealize.ShloMosaic.Lib.Pipeline.ValueKit
public import Idealize.ShloMosaic.Lib.Pipeline.ReadBack
public import Idealize.ShloMosaic.Lib.Claim

@[expose] public section

set_option maxRecDepth 16384

noncomputable section

/-! # The product with the rotation: what its result array holds -/

namespace Cert.DilCp
open Idealize.ShloMosaic Idealize.ShloMosaic.TcCoe Idealize.SL.Sem
open Cert.DilCIdeal Cert.DilCIdeal.Gen Cert.Rope

variable (m : (ℓ : Loc nD τ sig) → Buf (Elt Ideal) ℓ) (c : Dev nD)

/-- An entry of the dealt rows. -/
theorem dealt_at (z : FVec Ideal S512x512 .f32) (d : Fin 16) (w : Fin 32) (e r : Fin 512) (h : (r : ℕ) = w * 16 + d) :
    dealt z (ix3 d w e) = z (ix2 r e) :=
  congrArg (fun r => z (ix2 r e)) (Fin.ext h.symm)

/-- Where each window's block lies at a grid point: column block `q` of part `P`, row block `s`. -/
theorem places : ∀ t : Fin cfg0.N, ∃ (P : Fin 3) (q : Fin 2) (s : Fin 16), (P * 2 + q : ℕ) = t.val / 16
    ∧ (win0_0.index t 0 = s ∧ win0_0.index t 1 = 0)
    ∧ (win0_1.index t 0 = 0 ∧ win0_1.index t 1 = 0 ∧ win0_1.index t 2 = P * 6 + 4 + q)
    ∧ (win0_2.index t 0 = P ∧ win0_2.index t 1 = s ∧ win0_2.index t 2 = 0)
    ∧ (win0_3.index t 0 = P ∧ win0_3.index t 1 = s ∧ win0_3.index t 2 = 0)
    ∧ (win0_4.index t 0 = P ∧ win0_4.index t 1 = s ∧ win0_4.index t 2 = 0)
    ∧ (win0_5.index t 0 = 0 ∧ win0_5.index t 1 = s ∧ win0_5.index t 2 = P * 2 + q) := by
  decide +kernel

abbrev a0 : FVec Ideal S8192x2048 .bf16 := m ((c.tc : Thread nD τ).loc main_arg0)
abbrev a1 : IVec S4x2048 32 := m ((c.tc : Thread nD τ).loc main_arg1)
abbrev a2 : FVec Ideal S1x2048x9216 .f32 := m ((c.tc : Thread nD τ).loc main_arg2)

/-- The weights cast at a point. -/
theorem cast_at (w : Vec Ideal S1x2048x512 .f32) (k : Fin 2048) (e : Fin 512) :
    k0_pay2 (F := Ideal) w (ix2 k e) = w (ix3 0 k e) := by
  pointwise [k0_pay2]

/-- The turned product stored at a point. -/
theorem block_at (v3 : Vec Ideal S512x2048 .bf16) (v4 : Vec Ideal S2048x512 .bf16) (v6 v9 v12 : Vec Ideal S1x512x128 .f32)
    (r e : Fin 512) (a : Fin 4) (j : Fin 128) (he : (e : ℕ) = a * 128 + j) (D : Fin 512 → EReal)
    (hD : ∀ e, ∑ x, v3 (ix2 r x) * v4 (ix2 x e) = D e) :
    k0_pay3 (F := Ideal) v3 v4 v6 v9 v12 (ix2 r e)
      = D e * v6 (ix3 0 r j) + D ⟨(e + 512 - 496) % 512, by omega⟩ * v9 (ix3 0 r j)
        + D ⟨(e + 512 - 16) % 512, by omega⟩ * v12 (ix3 0 r j) := by
  pointwise [k0_pay3]
  simp only [hD]
  exact congr_arg₂ (· + ·) (congr_arg₂ (· + ·)
    (congrArg (_ * ·) (tile (fun j => v6 (ix3 0 r j)) a j e he)) (congrArg (_ * ·) (tile (fun j => v9 (ix3 0 r j)) a j e he)))
    (congrArg (_ * ·) (tile (fun j => v12 (ix3 0 r j)) a j e he))

/-- The block of weights. -/
theorem w_blk (t : Fin cfg0.N) (p : Fin 18) (e0 : win0_1.index t 0 = 0) (e1 : win0_1.index t 1 = 0) (e2 : win0_1.index t 2 = p)
    (k : Fin 2048) (e : Fin 512) :
    (iblk m c 1 t : Vec Ideal S1x2048x512 .f32) (ix3 0 k e) = a2 m c (ix3 0 k ⟨p * 512 + e, by omega⟩) := by
  refine Eq.trans ?_ (congrFun (show (V m c main_arg2 : FVec Ideal S1x2048x9216 .f32) = a2 m c from V_main_arg2 m c) _)
  refine congrArg (V m c main_arg2 : FVec Ideal S1x2048x9216 .f32) ?_
  blk_ext [e0, e1, e2]

/-- The block of tokens. -/
theorem x_blk (t : Fin cfg0.N) (s : Fin 16) (e0 : win0_0.index t 0 = s) (e1 : win0_0.index t 1 = 0)
    (r : Fin 512) (k : Fin 2048) :
    (iblk m c 0 t : Vec Ideal S512x2048 .bf16) (ix2 r k) = a0 m c (ix2 ⟨s * 512 + r, by omega⟩ k) := by
  refine Eq.trans ?_ (congrFun (show (V m c main_arg0 : FVec Ideal S8192x2048 .bf16) = a0 m c from V_main_arg0 m c) _)
  refine congrArg (V m c main_arg0 : FVec Ideal S8192x2048 .bf16) ?_
  blk_ext [e0, e1]

/-- A block of the table `c`. -/
theorem c_blk (t : Fin cfg0.N) (P : Fin 3) (s : Fin 16) (e0 : win0_2.index t 0 = P) (e1 : win0_2.index t 1 = s)
    (e2 : win0_2.index t 2 = 0) (r : Fin 512) (j : Fin 128) :
    (iblk m c 2 t : Vec Ideal S1x512x128 .f32) (ix3 0 r j)
      = (V m c main_v48 : FVec Ideal S3x8192x128 .f32) (ix3 P ⟨s * 512 + r, by omega⟩ j) := by
  refine congrArg (V m c main_v48 : FVec Ideal S3x8192x128 .f32) ?_
  blk_ext [e0, e1, e2]

/-- A block of the table `lo`. -/
theorem lo_blk (t : Fin cfg0.N) (P : Fin 3) (s : Fin 16) (e0 : win0_3.index t 0 = P) (e1 : win0_3.index t 1 = s)
    (e2 : win0_3.index t 2 = 0) (r : Fin 512) (j : Fin 128) :
    (iblk m c 3 t : Vec Ideal S1x512x128 .f32) (ix3 0 r j)
      = (V m c main_v52 : FVec Ideal S3x8192x128 .f32) (ix3 P ⟨s * 512 + r, by omega⟩ j) := by
  refine congrArg (V m c main_v52 : FVec Ideal S3x8192x128 .f32) ?_
  blk_ext [e0, e1, e2]

/-- A block of the table `hi`. -/
theorem hi_blk (t : Fin cfg0.N) (P : Fin 3) (s : Fin 16) (e0 : win0_4.index t 0 = P) (e1 : win0_4.index t 1 = s)
    (e2 : win0_4.index t 2 = 0) (r : Fin 512) (j : Fin 128) :
    (iblk m c 4 t : Vec Ideal S1x512x128 .f32) (ix3 0 r j)
      = (V m c main_v56 : FVec Ideal S3x8192x128 .f32) (ix3 P ⟨s * 512 + r, by omega⟩ j) := by
  refine congrArg (V m c main_v56 : FVec Ideal S3x8192x128 .f32) ?_
  blk_ext [e0, e1, e2]

/-- The weights that a point carries on: those of its column block. -/
theorem carried (n : ℕ) : ∀ (hn : n < cfg0.N) (p : Fin 18), (p : ℕ) = n / 32 * 6 + 4 + n / 16 % 2 → ∀ (k : Fin 2048) (e : Fin 512),
    (outsAt0 m c n hn).2 (ix2 k e) = a2 m c (ix3 0 k ⟨p * 512 + e, by omega⟩) := by
  induction n with
  | zero =>
    intro hn p hp k e
    obtain ⟨P, q, s, hp', -, ⟨e0, e1, e2⟩, -⟩ := places ⟨0, hn⟩
    change (P * 2 + q : ℕ) = 0 / 16 at hp'
    refine Eq.trans ?_ ((cast_at (iblk m c 1 ⟨0, hn⟩) k e).trans
      (w_blk m c ⟨0, hn⟩ p e0 e1 (e2.trans (by omega)) k e))
    rw [outsAt0_A m c ⟨0, hn⟩ rfl]
    frame_out
  | succ n ih =>
    intro hn p hp k e
    by_cases h0 : (n + 1) % 16 = 0
    · obtain ⟨P, q, s, hp', -, ⟨e0, e1, e2⟩, -⟩ := places ⟨n + 1, hn⟩
      change (P * 2 + q : ℕ) = (n + 1) / 16 at hp'
      refine Eq.trans ?_ ((cast_at (iblk m c 1 ⟨n + 1, hn⟩) k e).trans
        (w_blk m c ⟨n + 1, hn⟩ p e0 e1 (e2.trans (by omega)) k e))
      rw [outsAt0_A m c ⟨n + 1, hn⟩ h0]
      frame_out
    · rw [outsAt0_B m c ⟨n + 1, hn⟩ h0]
      exact ih (Nat.lt_of_succ_lt hn) p (by omega) k e

abbrev G : Buf (Elt Ideal) ((c.tc : Thread nD τ).loc main_v57) :=
  Cert.DilCRefIdeal.Read.val_main_v81 (F := Ideal) (a0 m c) (a1 m c) (a2 m c)

/-- The result array ends holding the reference's result. -/
theorem final : (dats m 0 c).arrAt 5 cfg0.N = G m c := by
  refine (dats m 0 c).arrAt_eq_of_covers 5 _ (by decide +kernel) fun t hf y => ?_
  blk_simp
  rw [after0_5, left]
  obtain ⟨P, q, s, hp, ⟨x0, x1⟩, -, ⟨c0, c1, c2⟩, ⟨l0, l1, l2⟩, ⟨h0, h1, h2⟩, o0, o1, o2⟩ := places t
  obtain ⟨d, w, e, rfl⟩ : ∃ (d : Fin 16) (w : Fin 32) (e : Fin 512), y = ix3 d w e :=
    ⟨y 0, y 1, y 2, funext fun a => match a with | ⟨0, _⟩ => rfl | ⟨1, _⟩ => rfl | ⟨2, _⟩ => rfl⟩
  obtain ⟨r, hrw⟩ : ∃ r : Fin 512, (r : ℕ) = w * 16 + d := ⟨⟨w * 16 + d, by omega⟩, rfl⟩
  obtain ⟨a, ha⟩ : ∃ a : Fin 4, (a : ℕ) = e / 128 := ⟨⟨e / 128, by omega⟩, rfl⟩
  obtain ⟨j, hj⟩ : ∃ j : Fin 128, (j : ℕ) = e % 128 := ⟨⟨e % 128, by omega⟩, rfl⟩
  obtain ⟨R, hR⟩ : ∃ R : Fin 8192, (R : ℕ) = s * 512 + r := ⟨⟨s * 512 + r, by omega⟩, rfl⟩
  obtain ⟨p, hpp⟩ : ∃ p : Fin 18, (p : ℕ) = P * 6 + 4 + q := ⟨⟨P * 6 + 4 + q, by omega⟩, rfl⟩
  obtain ⟨E, hE⟩ : ∃ E : Fin 1024, (E : ℕ) = q * 512 + e := ⟨⟨q * 512 + e, by omega⟩, rfl⟩
  have he : (e : ℕ) = a * 128 + j := by omega
  have e0 : (((win0_5.blk t).view.emb (ix3 d w e)) 0 : ℕ) = d := by blk_simp [o0, o1, o2]; try omega
  have e1 : (((win0_5.blk t).view.emb (ix3 d w e)) 1 : ℕ) = s * 32 + w := by blk_simp [o0, o1, o2]; try omega
  have e2 : (((win0_5.blk t).view.emb (ix3 d w e)) 2 : ℕ) = P * 1024 + E := by blk_simp [o0, o1, o2]; omega
  have hi : (win0_5.blk t).view.emb (ix3 d w e) = (ix3 d ⟨s * 32 + w, by omega⟩ ⟨P * 1024 + E, by omega⟩ : S16x512x3072.Idx) :=
    funext fun a => match a with | ⟨0, _⟩ => Fin.ext e0 | ⟨1, _⟩ => Fin.ext e1 | ⟨2, _⟩ => Fin.ext e2
  rw [hi]
  refine (dealt_at _ d w e r hrw).trans (Eq.trans ?_ ((Ref.dealt (a0 m c) (a1 m c) (a2 m c) d ⟨s * 32 + w, by omega⟩ ⟨P * 1024 + E, by omega⟩).trans
    (congrArg (fun R => Cert.DilCRefIdeal.Read.val_main_v79 (F := Ideal) (a0 m c) (a1 m c) (a2 m c) (ix2 R ⟨P * 1024 + E, by omega⟩))
      (show _ = R from Fin.ext (by simp only []; omega)))).symm)
  have hRe : (⟨s * 512 + r, by omega⟩ : Fin 8192) = R := Fin.ext hR.symm
  refine (block_at _ _ _ _ _ r e a j he (fun e => Ref.dot (a0 m c) (a2 m c) R ⟨p * 512 + e, by omega⟩) fun e => ?_).trans ?_
  · refine Finset.sum_congr rfl fun k _ => congr_arg₂ (· * ·) ?_ (carried m c t.val t.isLt p (by omega) k e)
    exact (x_blk m c t s x0 x1 r k).trans (by rw [hRe])
  rw [c_blk m c t P s c0 c1 c2, lo_blk m c t P s l0 l1 l2, hi_blk m c t P s h0 h1 h2, hRe]
  obtain ⟨x, hx⟩ : ∃ x : Fin 128 → EReal, x = fun l : Fin 128 => Ref.dot (a0 m c) (a2 m c) R ⟨p * 512 + (a * 128 + l), by omega⟩ := ⟨_, rfl⟩
  have hX : Ref.dot (a0 m c) (a2 m c) R ⟨p * 512 + e, by omega⟩
      = x j :=
    (congrArg (Ref.dot (a0 m c) (a2 m c) R) (Fin.ext (by simp only []; omega))).trans (congrFun hx _).symm
  have hY : ∀ h : (j : ℕ) < 16, Ref.dot (a0 m c) (a2 m c) R ⟨p * 512 + (e + 512 - 496) % 512, by omega⟩
      = x ⟨j + 16, by omega⟩ := fun h =>
    (congrArg (Ref.dot (a0 m c) (a2 m c) R) (Fin.ext (by simp only []; omega))).trans (congrFun hx _).symm
  have hZ : ∀ h : ¬(j : ℕ) < 16, (j : ℕ) < 32 → Ref.dot (a0 m c) (a2 m c) R ⟨p * 512 + (e + 512 - 16) % 512, by omega⟩
      = x ⟨j - 16, by omega⟩ := fun h h' =>
    (congrArg (Ref.dot (a0 m c) (a2 m c) R) (Fin.ext (by simp only []; omega))).trans (congrFun hx _).symm
  dsimp only
  obtain ⟨H, hH⟩ : ∃ H : Fin 8, (H : ℕ) = q * 4 + a := ⟨⟨q * 4 + a, by omega⟩, rfl⟩
  have hr : (R : ℕ) = (⟨R / 2048, by omega⟩ : Fin 4) * 2048 + (⟨R % 2048, by omega⟩ : Fin 2048) := by simp only []; omega
  have hEE : (E : ℕ) = H * 128 + j := by omega
  have hP : P = 0 ∨ P = 1 ∨ P = 2 := by fin_cases P <;> simp
  rcases hP with rfl | rfl | rfl
  · rw [c_at0, lo_at0, hi_at0, hX]
    refine (turned_scaled x (pos m c R) j _ _ hY hZ).trans (Eq.trans (congrArg (fun x => turn x (pos m c R) j * sigma)
      (funext fun l => (congrFun hx l).trans (congrArg (Ref.dot (a0 m c) (a2 m c) R) (Fin.ext ?_))))
      ((Ref.q_at (a0 m c) (a1 m c) (a2 m c) _ _ H j R E hr hEE).symm.trans
        (congrArg (fun w => Cert.DilCRefIdeal.Read.val_main_v79 (F := Ideal) (a0 m c) (a1 m c) (a2 m c) (ix2 R w)) (Fin.ext ?_))))
    · simp at hpp; simp only []; omega
    · simp
  · rw [c_at1, lo_at1, hi_at1, hX]
    refine (turned x (pos m c R) j _ _ hY hZ).trans (Eq.trans (congrArg (fun x => turn x (pos m c R) j)
      (funext fun l => (congrFun hx l).trans (congrArg (Ref.dot (a0 m c) (a2 m c) R) (Fin.ext ?_))))
      ((Ref.k_at (a0 m c) (a1 m c) (a2 m c) _ _ H j R E hr hEE).symm.trans
        (congrArg (fun w => Cert.DilCRefIdeal.Read.val_main_v79 (F := Ideal) (a0 m c) (a1 m c) (a2 m c) (ix2 R w)) (Fin.ext ?_))))
    · simp at hpp; simp only []; omega
    · simp
  · rw [c_at2, lo_at2, hi_at2, mul_one, mul_zero, mul_zero, add_zero, add_zero]
    refine Eq.trans (congrArg (Ref.dot (a0 m c) (a2 m c) R) (Fin.ext ?_))
      ((Ref.v_at (a0 m c) (a1 m c) (a2 m c) R E).symm.trans
        (congrArg (fun w => Cert.DilCRefIdeal.Read.val_main_v79 (F := Ideal) (a0 m c) (a1 m c) (a2 m c) (ix2 R w)) (Fin.ext ?_)))
    · simp at hpp; simp only []; omega
    · simp

end Cert.DilCp
-- ==== Proof.NormMath.lean ====
module

public import Idealize.ShloMosaic.Lib.Pointwise

@[expose] public section

noncomputable section

/-! # One entry of a normed row -/

namespace Cert.Normed
open Idealize.ShloMosaic

/-- An entry of a row over the root of its mean square, times the gain. -/
def entry (x : Fin 2048 → EReal) (g : EReal) (e : Fin 2048) : EReal :=
  x e * Ideal.rsqrt (Ideal.div (∑ k, x k * x k) (Ideal.ofBits .f32 0x45000000#32) + Ideal.ofBits .f32 0x358637BD#32) * g

/-- A token's entry plus its two chosen experts' entries under their gates. -/
def total (x g h y z : EReal) : EReal := x + (g * y + h * z)

/-- The largest of three log-sum-exps. -/
def top (a b c : EReal) : EReal := max (max a b) c

/-- The softmax weight of `w` among three log-sum-exps. -/
def share (w a b c : EReal) : EReal :=
  Ideal.div (Ideal.exp (w - top a b c)) (Ideal.exp (a - top a b c) + Ideal.exp (b - top a b c) + Ideal.exp (c - top a b c))

/-- Three groups' entries under the softmax of their log-sum-exps. -/
def mixed (a b c x y z : EReal) : EReal := share a a b c * x + share b a b c * y + share c a b c * z

end Cert.Normed
-- ==== Proof.NormArr.lean ====
module

public import proofs.«01_k».proof.Proof.Gen.NormIdeal.Value
public import proofs.«01_k».proof.Proof.Gen.NormRefIdeal.Read
public import proofs.«01_k».proof.Proof.NormMath
public import Idealize.ShloMosaic.Lib.Pointwise
public import Idealize.ShloMosaic.Lib.StableHlo.RunRead
public import Idealize.ShloMosaic.Lib.Pipeline.ValueKit
public import Idealize.ShloMosaic.Lib.Pipeline.ReadBack
public import Idealize.ShloMosaic.Lib.Claim

@[expose] public section

set_option maxRecDepth 16384

noncomputable section

/-! # The norm: what its result array holds -/

namespace Cert.Norms
open Idealize.ShloMosaic Idealize.ShloMosaic.TcCoe Idealize.SL.Sem
open Cert.NormIdeal Cert.NormIdeal.Gen

variable (m : (ℓ : Loc nD τ sig) → Buf (Elt Ideal) ℓ) (c : Dev nD)

abbrev a0 : FVec Ideal S8192x2048 .f32 := m ((c.tc : Thread nD τ).loc main_arg0)
abbrev a1 : FVec Ideal S4x2048 .f32 := m ((c.tc : Thread nD τ).loc main_arg1)

/-- Where each window's block lies at a grid point. -/
theorem places : ∀ t : Fin cfg0.N, ∃ s : Fin 32, (win0_0.index t 0 = s ∧ win0_0.index t 1 = 0)
    ∧ (win0_1.index t 0 = 0 ∧ win0_1.index t 1 = 0 ∧ win0_1.index t 2 = 0)
    ∧ (win0_2.index t 0 = s ∧ win0_2.index t 1 = 0) := by
  decide +kernel

/-- The block stored at a point. -/
theorem block_at (x : Vec Ideal S256x2048 .f32) (g : Vec Ideal S1x1x2048 .f32) (r : Fin 256) (e : Fin 2048) :
    k0_pay1 (F := Ideal) x g (ix2 r e) = Normed.entry (fun k => x (ix2 r k)) (g (ix3 0 0 e)) e := by
  pointwise [k0_pay1]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- What a point leaves in the output buffer. -/
theorem left (x : Vec Ideal S256x2048 .f32) (g : Vec Ideal S1x1x2048 .f32) (r : Fin 256) (e : Fin 2048) :
    out0_2 (F := Ideal) x g (ix2 r e) = Normed.entry (fun k => x (ix2 r k)) (g (ix3 0 0 e)) e := by
  unfold out0_2
  rw [View.canon_unit_zero hz2, View.ld_unit_zero hz2, View.ld_unit_zero hz3]
  exact block_at x g r e

/-- The array of gains that the call reads. -/
theorem g_at (l : Fin 4) (x : Fin 2048) : (V m c main_v0 : FVec Ideal S4x1x2048 .f32) (ix3 l 0 x) = a1 m c (ix2 l x) := by
  unfold V
  unfold hostOps0
  after_reads_simp
  pointwise

/-- The block of tokens. -/
theorem x_blk (t : Fin cfg0.N) (s : Fin 32) (e0 : win0_0.index t 0 = s) (e1 : win0_0.index t 1 = 0) (r : Fin 256) (k : Fin 2048)
    (q : Fin 8192) (hq : (q : ℕ) = s * 256 + r) : (iblk m c 0 t : Vec Ideal S256x2048 .f32) (ix2 r k) = a0 m c (ix2 q k) := by
  refine Eq.trans ?_ (congrFun (show (V m c main_arg0 : FVec Ideal S8192x2048 .f32) = a0 m c from V_main_arg0 m c) _)
  refine congrArg (V m c main_arg0 : FVec Ideal S8192x2048 .f32) ?_
  blk_ext [e0, e1, hq]

/-- The gains. -/
theorem g_blk (t : Fin cfg0.N) (e0 : win0_1.index t 0 = 0) (e1 : win0_1.index t 1 = 0) (e2 : win0_1.index t 2 = 0) (x : Fin 2048) :
    (iblk m c 1 t : Vec Ideal S1x1x2048 .f32) (ix3 0 0 x) = a1 m c (ix2 0 x) := by
  refine Eq.trans ?_ (g_at m c 0 x)
  refine congrArg (V m c main_v0 : FVec Ideal S4x1x2048 .f32) (a₂ := ix3 0 0 x) ?_
  blk_ext [e0, e1, e2]

abbrev G : Buf (Elt Ideal) ((c.tc : Thread nD τ).loc main_v1) :=
  Cert.NormRefIdeal.Read.val_main_v15 (F := Ideal) (a0 m c) (a1 m c)

/-- The reference's result at a row and a column. -/
theorem ref_at (x0 : FVec Ideal S8192x2048 .f32) (x1 : FVec Ideal S4x2048 .f32) (r : Fin 8192) (e : Fin 2048) :
    Cert.NormRefIdeal.Read.val_main_v15 (F := Ideal) x0 x1 (ix2 r e) = Normed.entry (fun k => x0 (ix2 r k)) (x1 (ix2 0 e)) e := by
  pointwise [Cert.NormRefIdeal.Read.val_main_v15, Cert.NormRefIdeal.Read.val_main_v14, Cert.NormRefIdeal.Read.val_main_v13,
    Cert.NormRefIdeal.Read.val_main_v12, Cert.NormRefIdeal.Read.val_main_v11, Cert.NormRefIdeal.Read.val_main_v10,
    Cert.NormRefIdeal.Read.val_main_v9, Cert.NormRefIdeal.Read.val_main_v8, Cert.NormRefIdeal.Read.val_main_v7,
    Cert.NormRefIdeal.Read.val_main_v6, Cert.NormRefIdeal.Read.val_main_v5, Cert.NormRefIdeal.Read.val_main_v4,
    Cert.NormRefIdeal.Read.val_main_v3, Cert.NormRefIdeal.Read.val_main_v2, Cert.NormRefIdeal.Read.val_main_v1,
    Cert.NormRefIdeal.Read.val_main_v0,
    Cert.NormRefIdeal.Read.val_main_cst, Cert.NormRefIdeal.Read.val_main_cst_0, Cert.NormRefIdeal.Read.val_main_cst_1]
  rfl

/-- The reference's result at an index with these coordinates. -/
theorem result_at (x0 : FVec Ideal S8192x2048 .f32) (x1 : FVec Ideal S4x2048 .f32) (r : Fin 8192) (e : Fin 2048)
    (i : S8192x2048.Idx) (h0 : (i 0 : ℕ) = r) (h1 : (i 1 : ℕ) = e) :
    Cert.NormRefIdeal.Read.val_main_v15 (F := Ideal) x0 x1 i = Normed.entry (fun k => x0 (ix2 r k)) (x1 (ix2 0 e)) e := by
  obtain rfl : i = ix2 r e := funext fun a => match a with | ⟨0, _⟩ => Fin.ext h0 | ⟨1, _⟩ => Fin.ext h1
  exact ref_at x0 x1 r e

/-- The result array ends holding the reference's result. -/
theorem final : (dats m 0 c).arrAt 2 cfg0.N = G m c := by
  refine (dats m 0 c).arrAt_eq_of_covers 2 _ (by decide +kernel) fun t hf y => ?_
  blk_simp
  rw [after0_2]
  obtain ⟨s, ⟨x0, x1⟩, ⟨g0, g1, g2⟩, o0, o1⟩ := places t
  obtain ⟨r, e, rfl⟩ : ∃ (r : Fin 256) (e : Fin 2048), y = ix2 r e := ⟨y 0, y 1, funext fun a => match a with | ⟨0, _⟩ => rfl | ⟨1, _⟩ => rfl⟩
  obtain ⟨q, hq⟩ : ∃ q : Fin 8192, (q : ℕ) = s * 256 + r := ⟨⟨s * 256 + r, by omega⟩, rfl⟩
  have e0 : (((win0_2.blk t).view.emb (ix2 r e)) 0 : ℕ) = q := by blk_simp [o0, o1]; omega
  have e1 : (((win0_2.blk t).view.emb (ix2 r e)) 1 : ℕ) = e := by blk_simp [o0, o1]
  refine Eq.trans ?_ (result_at (a0 m c) (a1 m c) q e _ e0 e1).symm
  refine (left _ _ r e).trans ?_
  rw [g_blk m c t g0 g1 g2 e]
  exact congrArg (fun x => Normed.entry x _ e) (funext fun k => x_blk m c t s x0 x1 r k q hq)

end Cert.Norms
-- ==== Proof.Comb0Arr.lean ====
module

public import proofs.«01_k».proof.Proof.Gen.Comb0Ideal.Value
public import proofs.«01_k».proof.Proof.Gen.Comb0RefIdeal.Read
public import proofs.«01_k».proof.Proof.NormMath
public import Idealize.ShloMosaic.Lib.Pointwise
public import Idealize.ShloMosaic.Lib.StableHlo.RunRead
public import Idealize.ShloMosaic.Lib.Pipeline.ValueKit
public import Idealize.ShloMosaic.Lib.Pipeline.ReadBack
public import Idealize.ShloMosaic.Lib.Claim

@[expose] public section

set_option maxRecDepth 16384

noncomputable section

/-! # The experts' sum and the norm after it, layer 0: what the result arrays hold -/

namespace Cert.Comb0
open Idealize.ShloMosaic Idealize.ShloMosaic.TcCoe Idealize.SL.Sem
open Cert.Comb0Ideal Cert.Comb0Ideal.Gen

variable (m : (ℓ : Loc nD τ sig) → Buf (Elt Ideal) ℓ) (c : Dev nD)

abbrev a0 : FVec Ideal S8192x2048 .f32 := m ((c.tc : Thread nD τ).loc main_arg0)
abbrev a1 : FVec Ideal S16512x2048 .f32 := m ((c.tc : Thread nD τ).loc main_arg1)
abbrev a2 : FVec Ideal S8192x128 .f32 := m ((c.tc : Thread nD τ).loc main_arg2)
abbrev a3 : FVec Ideal S4x2048 .f32 := m ((c.tc : Thread nD τ).loc main_arg3)

/-- Where each window's block lies at a grid point. -/
theorem places : ∀ t : Fin cfg0.N, ∃ s : Fin 32, (win0_0.index t 0 = s ∧ win0_0.index t 1 = 0)
    ∧ (win0_1.index t 0 = s ∧ win0_1.index t 1 = 0) ∧ (win0_2.index t 0 = 32 + s ∧ win0_2.index t 1 = 0)
    ∧ (win0_3.index t 0 = s ∧ win0_3.index t 1 = 0)
    ∧ (win0_4.index t 0 = 1 ∧ win0_4.index t 1 = 0 ∧ win0_4.index t 2 = 0)
    ∧ (win0_5.index t 0 = s ∧ win0_5.index t 1 = 0)
    ∧ (win0_6.index t 0 = s ∧ win0_6.index t 1 = 0) := by
  decide +kernel

/-- The sum stored at a point. -/
theorem sum_at (g : Vec Ideal S256x128 .f32) (x y z : Vec Ideal S256x2048 .f32) (r : Fin 256) (e : Fin 2048) :
    k0_pay1 (F := Ideal) g x y z (ix2 r e) = Normed.total (x (ix2 r e)) (g (ix2 r 0)) (g (ix2 r 1)) (y (ix2 r e)) (z (ix2 r e)) := by
  pointwise [k0_pay1]
  rfl

/-- The normed row stored at a point. -/
theorem norm_at (g : Vec Ideal S256x128 .f32) (x y z : Vec Ideal S256x2048 .f32) (w : Vec Ideal S1x1x2048 .f32) (r : Fin 256)
    (e : Fin 2048) : k0_pay2 (F := Ideal) g x y z w (ix2 r e)
      = Normed.entry (fun k => Normed.total (x (ix2 r k)) (g (ix2 r 0)) (g (ix2 r 1)) (y (ix2 r k)) (z (ix2 r k))) (w (ix3 0 0 e)) e := by
  pointwise [k0_pay1, k0_pay2]
  rfl

theorem left0 (t : Fin cfg0.N) : (outsAt0 m c t).1 = k0_pay1 (F := Ideal) (iblk m c 3 t) (iblk m c 0 t) (X0_1 m c t) (X0_2 m c t) := by
  unfold outsAt0
  frame_out

theorem left1 (t : Fin cfg0.N) : (outsAt0 m c t).2 = k0_pay2 (F := Ideal) (iblk m c 3 t) (iblk m c 0 t) (X0_1 m c t) (X0_2 m c t) (iblk m c 4 t) := by
  unfold outsAt0
  frame_out

/-- The array of gains that the call reads. -/
theorem g_at (l : Fin 4) (x : Fin 2048) : (V m c main_v0 : FVec Ideal S4x1x2048 .f32) (ix3 l 0 x) = a3 m c (ix2 l x) := by
  unfold V
  unfold hostOps0
  after_reads_simp
  pointwise

theorem x_blk (t : Fin cfg0.N) (s : Fin 32) (e0 : win0_0.index t 0 = s) (e1 : win0_0.index t 1 = 0) (r : Fin 256) (k : Fin 2048)
    (q : Fin 8192) (hq : (q : ℕ) = s * 256 + r) : (iblk m c 0 t : Vec Ideal S256x2048 .f32) (ix2 r k) = a0 m c (ix2 q k) := by
  refine Eq.trans ?_ (congrFun (show (V m c main_arg0 : FVec Ideal S8192x2048 .f32) = a0 m c from V_main_arg0 m c) _)
  refine congrArg (V m c main_arg0 : FVec Ideal S8192x2048 .f32) ?_
  blk_ext [e0, e1, hq]

theorem gate_blk (t : Fin cfg0.N) (s : Fin 32) (e0 : win0_3.index t 0 = s) (e1 : win0_3.index t 1 = 0) (r : Fin 256) (k : Fin 128)
    (q : Fin 8192) (hq : (q : ℕ) = s * 256 + r) : (iblk m c 3 t : Vec Ideal S256x128 .f32) (ix2 r k) = a2 m c (ix2 q k) := by
  refine Eq.trans ?_ (congrFun (show (V m c main_arg2 : FVec Ideal S8192x128 .f32) = a2 m c from V_main_arg2 m c) _)
  refine congrArg (V m c main_arg2 : FVec Ideal S8192x128 .f32) ?_
  blk_ext [e0, e1, hq]

/-- The rows of the first choice: the grid cuts no block of them. -/
theorem y_blk (t : Fin cfg0.N) (s : Fin 32) (e0 : win0_1.index t 0 = s) (e1 : win0_1.index t 1 = 0) (r : Fin 256) (k : Fin 2048)
    (q : Fin 16512) (hq : (q : ℕ) = s * 256 + r) : (X0_1 m c t : Vec Ideal S256x2048 .f32) (ix2 r k) = a1 m c (ix2 q k) := by
  refine Eq.trans ?_ (congrFun (show (V m c main_arg1 : FVec Ideal S16512x2048 .f32) = a1 m c from V_main_arg1 m c) _)
  refine (show (X0_1 m c t : Vec Ideal S256x2048 .f32) (ix2 r k) = iblk m c 1 t _ from dif_pos (moved0_1 t (ix2 r k))).trans ?_
  refine congrArg (V m c main_arg1 : FVec Ideal S16512x2048 .f32) ?_
  blk_ext [e0, e1, hq]

/-- The rows of the second choice. -/
theorem z_blk (t : Fin cfg0.N) (s : Fin 32) (e0 : win0_2.index t 0 = 32 + s) (e1 : win0_2.index t 1 = 0) (r : Fin 256) (k : Fin 2048)
    (q : Fin 16512) (hq : (q : ℕ) = 8192 + (s * 256 + r)) : (X0_2 m c t : Vec Ideal S256x2048 .f32) (ix2 r k) = a1 m c (ix2 q k) := by
  refine Eq.trans ?_ (congrFun (show (V m c main_arg1 : FVec Ideal S16512x2048 .f32) = a1 m c from V_main_arg1 m c) _)
  refine (show (X0_2 m c t : Vec Ideal S256x2048 .f32) (ix2 r k) = iblk m c 2 t _ from dif_pos (moved0_2 t (ix2 r k))).trans ?_
  refine congrArg (V m c main_arg1 : FVec Ideal S16512x2048 .f32) ?_
  blk_ext [e0, e1, hq]

/-- The gains. -/
theorem g_blk (t : Fin cfg0.N) (e0 : win0_4.index t 0 = 1) (e1 : win0_4.index t 1 = 0) (e2 : win0_4.index t 2 = 0) (x : Fin 2048) :
    (iblk m c 4 t : Vec Ideal S1x1x2048 .f32) (ix3 0 0 x) = a3 m c (ix2 1 x) := by
  refine Eq.trans ?_ (g_at m c 1 x)
  refine congrArg (V m c main_v0 : FVec Ideal S4x1x2048 .f32) (a₂ := ix3 1 0 x) ?_
  blk_ext [e0, e1, e2]

/-- A row of the sum: the token's own row and its two chosen rows under their gates. -/
abbrev row (x0 : FVec Ideal S8192x2048 .f32) (x1 : FVec Ideal S16512x2048 .f32) (x2 : FVec Ideal S8192x128 .f32) (q : Fin 8192)
    (k : Fin 2048) : EReal :=
  Normed.total (x0 (ix2 q k)) (x2 (ix2 q 0)) (x2 (ix2 q 1)) (x1 (ix2 ⟨q, by omega⟩ k)) (x1 (ix2 ⟨8192 + q, by omega⟩ k))

/-- The reference's sum. -/
theorem ref_sum (x0 : FVec Ideal S8192x2048 .f32) (x1 : FVec Ideal S16512x2048 .f32) (x2 : FVec Ideal S8192x128 .f32)
    (q : Fin 8192) (k : Fin 2048) : Cert.Comb0RefIdeal.Read.val_main_v8 (F := Ideal) x0 x1 x2 (ix2 q k) = row x0 x1 x2 q k := by
  pointwise [Cert.Comb0RefIdeal.Read.val_main_v8, Cert.Comb0RefIdeal.Read.val_main_v7, Cert.Comb0RefIdeal.Read.val_main_v6,
    Cert.Comb0RefIdeal.Read.val_main_v5, Cert.Comb0RefIdeal.Read.val_main_v4, Cert.Comb0RefIdeal.Read.val_main_v3,
    Cert.Comb0RefIdeal.Read.val_main_v2, Cert.Comb0RefIdeal.Read.val_main_v1, Cert.Comb0RefIdeal.Read.val_main_v0,
    Cert.Comb0RefIdeal.Read.val_main_cst]
  rw [Fin.sum_univ_two]
  simp only [row, Normed.total, Fin.val_zero, Fin.val_one, Nat.zero_mul, Nat.one_mul, Nat.zero_add]
  rfl

/-- The reference's norm. -/
theorem ref_at (x0 : FVec Ideal S8192x2048 .f32) (x1 : FVec Ideal S16512x2048 .f32) (x2 : FVec Ideal S8192x128 .f32)
    (x3 : FVec Ideal S4x2048 .f32) (q : Fin 8192) (e : Fin 2048) :
    Cert.Comb0RefIdeal.Read.val_main_v24 (F := Ideal) x0 x1 x2 x3 (ix2 q e) = Normed.entry (row x0 x1 x2 q) (x3 (ix2 1 e)) e := by
  pointwise [Cert.Comb0RefIdeal.Read.val_main_v24, Cert.Comb0RefIdeal.Read.val_main_v23, Cert.Comb0RefIdeal.Read.val_main_v22,
    Cert.Comb0RefIdeal.Read.val_main_v21, Cert.Comb0RefIdeal.Read.val_main_v20, Cert.Comb0RefIdeal.Read.val_main_v19,
    Cert.Comb0RefIdeal.Read.val_main_v18, Cert.Comb0RefIdeal.Read.val_main_v17, Cert.Comb0RefIdeal.Read.val_main_v16,
    Cert.Comb0RefIdeal.Read.val_main_v15, Cert.Comb0RefIdeal.Read.val_main_v14, Cert.Comb0RefIdeal.Read.val_main_v13,
    Cert.Comb0RefIdeal.Read.val_main_v12, Cert.Comb0RefIdeal.Read.val_main_v11, Cert.Comb0RefIdeal.Read.val_main_v10,
    Cert.Comb0RefIdeal.Read.val_main_v9, Cert.Comb0RefIdeal.Read.val_main_cst_0, Cert.Comb0RefIdeal.Read.val_main_cst_1,
    Cert.Comb0RefIdeal.Read.val_main_cst_2]
  simp only [ref_sum]
  rfl

/-- An index by its coordinates. -/
theorem by_coords (i : S8192x2048.Idx) (q : Fin 8192) (e : Fin 2048) (h0 : (i 0 : ℕ) = q) (h1 : (i 1 : ℕ) = e) : i = ix2 q e :=
  funext fun a => match a with | ⟨0, _⟩ => Fin.ext h0 | ⟨1, _⟩ => Fin.ext h1

abbrev G0 : Buf (Elt Ideal) ((c.tc : Thread nD τ).loc main_v1_0) :=
  Cert.Comb0RefIdeal.Read.val_main_v8 (F := Ideal) (a0 m c) (a1 m c) (a2 m c)

theorem ref0_at (i : S8192x2048.Idx) (q : Fin 8192) (e : Fin 2048) (h0 : (i 0 : ℕ) = q) (h1 : (i 1 : ℕ) = e) :
    Cert.Comb0RefIdeal.Read.val_main_v8 (F := Ideal) (a0 m c) (a1 m c) (a2 m c) i = row (a0 m c) (a1 m c) (a2 m c) q e := by
  rw [by_coords i q e h0 h1]
  exact ref_sum _ _ _ q e

/-- The result array ends holding the reference's sum. -/
theorem final0 : (dats m 0 c).arrAt 5 cfg0.N = G0 m c := by
  refine (dats m 0 c).arrAt_eq_of_covers 5 _ (by decide +kernel) fun t hf y => ?_
  blk_simp
  rw [after0_5]
  obtain ⟨s, ⟨p0, p1⟩, ⟨y0, y1⟩, ⟨z0, z1⟩, ⟨k0, k1⟩, ⟨g0, g1, g2⟩, ⟨o0, o1⟩, -⟩ := places t
  obtain ⟨r, e, rfl⟩ : ∃ (r : Fin 256) (e : Fin 2048), y = ix2 r e := ⟨y 0, y 1, funext fun a => match a with | ⟨0, _⟩ => rfl | ⟨1, _⟩ => rfl⟩
  obtain ⟨q, hq⟩ : ∃ q : Fin 8192, (q : ℕ) = s * 256 + r := ⟨⟨s * 256 + r, by omega⟩, rfl⟩
  have e0 : (((win0_5.blk t).view.emb (ix2 r e)) 0 : ℕ) = q := by blk_simp [o0, o1]; omega
  have e1 : (((win0_5.blk t).view.emb (ix2 r e)) 1 : ℕ) = e := by blk_simp [o0, o1]
  refine Eq.trans ?_ (ref0_at m c _ q e e0 e1).symm
  refine (congrFun (left0 m c t) (ix2 r e)).trans ?_
  have hr : ∀ k : Fin 2048, Normed.total ((iblk m c 0 t : Vec Ideal S256x2048 .f32) (ix2 r k)) ((iblk m c 3 t : Vec Ideal S256x128 .f32) (ix2 r 0))
      ((iblk m c 3 t : Vec Ideal S256x128 .f32) (ix2 r 1)) ((X0_1 m c t : Vec Ideal S256x2048 .f32) (ix2 r k))
      ((X0_2 m c t : Vec Ideal S256x2048 .f32) (ix2 r k)) = row (a0 m c) (a1 m c) (a2 m c) q k := fun k => by
    rw [x_blk m c t s p0 p1 r k q hq, gate_blk m c t s k0 k1 r 0 q hq, gate_blk m c t s k0 k1 r 1 q hq,
      y_blk m c t s y0 y1 r k ⟨q, by omega⟩ hq, z_blk m c t s z0 z1 r k ⟨8192 + q, by omega⟩ (by show 8192 + (q : ℕ) = _; omega)]
  exact (sum_at _ _ _ _ r e).trans (hr e)

abbrev G1 : Buf (Elt Ideal) ((c.tc : Thread nD τ).loc main_v1_1) :=
  Cert.Comb0RefIdeal.Read.val_main_v24 (F := Ideal) (a0 m c) (a1 m c) (a2 m c) (a3 m c)

theorem ref1_at (i : S8192x2048.Idx) (q : Fin 8192) (e : Fin 2048) (h0 : (i 0 : ℕ) = q) (h1 : (i 1 : ℕ) = e) :
    Cert.Comb0RefIdeal.Read.val_main_v24 (F := Ideal) (a0 m c) (a1 m c) (a2 m c) (a3 m c) i = Normed.entry (row (a0 m c) (a1 m c) (a2 m c) q) (a3 m c (ix2 1 e)) e := by
  rw [by_coords i q e h0 h1]
  exact ref_at _ _ _ _ q e

/-- The result array ends holding the reference's norm. -/
theorem final1 : (dats m 0 c).arrAt 6 cfg0.N = G1 m c := by
  refine (dats m 0 c).arrAt_eq_of_covers 6 _ (by decide +kernel) fun t hf y => ?_
  blk_simp
  rw [after0_6]
  obtain ⟨s, ⟨p0, p1⟩, ⟨y0, y1⟩, ⟨z0, z1⟩, ⟨k0, k1⟩, ⟨g0, g1, g2⟩, -, o0, o1⟩ := places t
  obtain ⟨r, e, rfl⟩ : ∃ (r : Fin 256) (e : Fin 2048), y = ix2 r e := ⟨y 0, y 1, funext fun a => match a with | ⟨0, _⟩ => rfl | ⟨1, _⟩ => rfl⟩
  obtain ⟨q, hq⟩ : ∃ q : Fin 8192, (q : ℕ) = s * 256 + r := ⟨⟨s * 256 + r, by omega⟩, rfl⟩
  have e0 : (((win0_6.blk t).view.emb (ix2 r e)) 0 : ℕ) = q := by blk_simp [o0, o1]; omega
  have e1 : (((win0_6.blk t).view.emb (ix2 r e)) 1 : ℕ) = e := by blk_simp [o0, o1]
  refine Eq.trans ?_ (ref1_at m c _ q e e0 e1).symm
  refine (congrFun (left1 m c t) (ix2 r e)).trans ?_
  have hr : ∀ k : Fin 2048, Normed.total ((iblk m c 0 t : Vec Ideal S256x2048 .f32) (ix2 r k)) ((iblk m c 3 t : Vec Ideal S256x128 .f32) (ix2 r 0))
      ((iblk m c 3 t : Vec Ideal S256x128 .f32) (ix2 r 1)) ((X0_1 m c t : Vec Ideal S256x2048 .f32) (ix2 r k))
      ((X0_2 m c t : Vec Ideal S256x2048 .f32) (ix2 r k)) = row (a0 m c) (a1 m c) (a2 m c) q k := fun k => by
    rw [x_blk m c t s p0 p1 r k q hq, gate_blk m c t s k0 k1 r 0 q hq, gate_blk m c t s k0 k1 r 1 q hq,
      y_blk m c t s y0 y1 r k ⟨q, by omega⟩ hq, z_blk m c t s z0 z1 r k ⟨8192 + q, by omega⟩ (by show 8192 + (q : ℕ) = _; omega)]
  refine (norm_at _ _ _ _ _ r e).trans ?_
  rw [g_blk m c t g0 g1 g2 e]
  exact congrArg (fun x => Normed.entry x _ e) (funext hr)

end Cert.Comb0
-- ==== Proof.Comb1Arr.lean ====
module

public import proofs.«01_k».proof.Proof.Gen.Comb1Ideal.Value
public import proofs.«01_k».proof.Proof.Gen.Comb1RefIdeal.Read
public import proofs.«01_k».proof.Proof.NormMath
public import Idealize.ShloMosaic.Lib.Pointwise
public import Idealize.ShloMosaic.Lib.StableHlo.RunRead
public import Idealize.ShloMosaic.Lib.Pipeline.ValueKit
public import Idealize.ShloMosaic.Lib.Pipeline.ReadBack
public import Idealize.ShloMosaic.Lib.Claim

@[expose] public section

set_option maxRecDepth 16384

noncomputable section

/-! # The experts' sum and the norm after it, layer 1: what the result arrays hold -/

namespace Cert.Comb1
open Idealize.ShloMosaic Idealize.ShloMosaic.TcCoe Idealize.SL.Sem
open Cert.Comb1Ideal Cert.Comb1Ideal.Gen

variable (m : (ℓ : Loc nD τ sig) → Buf (Elt Ideal) ℓ) (c : Dev nD)

abbrev a0 : FVec Ideal S8192x2048 .f32 := m ((c.tc : Thread nD τ).loc main_arg0)
abbrev a1 : FVec Ideal S16512x2048 .f32 := m ((c.tc : Thread nD τ).loc main_arg1)
abbrev a2 : FVec Ideal S8192x128 .f32 := m ((c.tc : Thread nD τ).loc main_arg2)
abbrev a3 : FVec Ideal S4x2048 .f32 := m ((c.tc : Thread nD τ).loc main_arg3)

/-- Where each window's block lies at a grid point. -/
theorem places : ∀ t : Fin cfg0.N, ∃ s : Fin 32, (win0_0.index t 0 = s ∧ win0_0.index t 1 = 0)
    ∧ (win0_1.index t 0 = s ∧ win0_1.index t 1 = 0) ∧ (win0_2.index t 0 = 32 + s ∧ win0_2.index t 1 = 0)
    ∧ (win0_3.index t 0 = s ∧ win0_3.index t 1 = 0)
    ∧ (win0_4.index t 0 = 2 ∧ win0_4.index t 1 = 0 ∧ win0_4.index t 2 = 0)
    ∧ (win0_5.index t 0 = s ∧ win0_5.index t 1 = 0)
    ∧ (win0_6.index t 0 = s ∧ win0_6.index t 1 = 0) := by
  decide +kernel

/-- The sum stored at a point. -/
theorem sum_at (g : Vec Ideal S256x128 .f32) (x y z : Vec Ideal S256x2048 .f32) (r : Fin 256) (e : Fin 2048) :
    k0_pay1 (F := Ideal) g x y z (ix2 r e) = Normed.total (x (ix2 r e)) (g (ix2 r 0)) (g (ix2 r 1)) (y (ix2 r e)) (z (ix2 r e)) := by
  pointwise [k0_pay1]
  rfl

/-- The normed row stored at a point. -/
theorem norm_at (g : Vec Ideal S256x128 .f32) (x y z : Vec Ideal S256x2048 .f32) (w : Vec Ideal S1x1x2048 .f32) (r : Fin 256)
    (e : Fin 2048) : k0_pay2 (F := Ideal) g x y z w (ix2 r e)
      = Normed.entry (fun k => Normed.total (x (ix2 r k)) (g (ix2 r 0)) (g (ix2 r 1)) (y (ix2 r k)) (z (ix2 r k))) (w (ix3 0 0 e)) e := by
  pointwise [k0_pay1, k0_pay2]
  rfl

theorem left0 (t : Fin cfg0.N) : (outsAt0 m c t).1 = k0_pay1 (F := Ideal) (iblk m c 3 t) (iblk m c 0 t) (X0_1 m c t) (X0_2 m c t) := by
  unfold outsAt0
  frame_out

theorem left1 (t : Fin cfg0.N) : (outsAt0 m c t).2 = k0_pay2 (F := Ideal) (iblk m c 3 t) (iblk m c 0 t) (X0_1 m c t) (X0_2 m c t) (iblk m c 4 t) := by
  unfold outsAt0
  frame_out

/-- The array of gains that the call reads. -/
theorem g_at (l : Fin 4) (x : Fin 2048) : (V m c main_v0 : FVec Ideal S4x1x2048 .f32) (ix3 l 0 x) = a3 m c (ix2 l x) := by
  unfold V
  unfold hostOps0
  after_reads_simp
  pointwise

theorem x_blk (t : Fin cfg0.N) (s : Fin 32) (e0 : win0_0.index t 0 = s) (e1 : win0_0.index t 1 = 0) (r : Fin 256) (k : Fin 2048)
    (q : Fin 8192) (hq : (q : ℕ) = s * 256 + r) : (iblk m c 0 t : Vec Ideal S256x2048 .f32) (ix2 r k) = a0 m c (ix2 q k) := by
  refine Eq.trans ?_ (congrFun (show (V m c main_arg0 : FVec Ideal S8192x2048 .f32) = a0 m c from V_main_arg0 m c) _)
  refine congrArg (V m c main_arg0 : FVec Ideal S8192x2048 .f32) ?_
  blk_ext [e0, e1, hq]

theorem gate_blk (t : Fin cfg0.N) (s : Fin 32) (e0 : win0_3.index t 0 = s) (e1 : win0_3.index t 1 = 0) (r : Fin 256) (k : Fin 128)
    (q : Fin 8192) (hq : (q : ℕ) = s * 256 + r) : (iblk m c 3 t : Vec Ideal S256x128 .f32) (ix2 r k) = a2 m c (ix2 q k) := by
  refine Eq.trans ?_ (congrFun (show (V m c main_arg2 : FVec Ideal S8192x128 .f32) = a2 m c from V_main_arg2 m c) _)
  refine congrArg (V m c main_arg2 : FVec Ideal S8192x128 .f32) ?_
  blk_ext [e0, e1, hq]

/-- The rows of the first choice: the grid cuts no block of them. -/
theorem y_blk (t : Fin cfg0.N) (s : Fin 32) (e0 : win0_1.index t 0 = s) (e1 : win0_1.index t 1 = 0) (r : Fin 256) (k : Fin 2048)
    (q : Fin 16512) (hq : (q : ℕ) = s * 256 + r) : (X0_1 m c t : Vec Ideal S256x2048 .f32) (ix2 r k) = a1 m c (ix2 q k) := by
  refine Eq.trans ?_ (congrFun (show (V m c main_arg1 : FVec Ideal S16512x2048 .f32) = a1 m c from V_main_arg1 m c) _)
  refine (show (X0_1 m c t : Vec Ideal S256x2048 .f32) (ix2 r k) = iblk m c 1 t _ from dif_pos (moved0_1 t (ix2 r k))).trans ?_
  refine congrArg (V m c main_arg1 : FVec Ideal S16512x2048 .f32) ?_
  blk_ext [e0, e1, hq]

/-- The rows of the second choice. -/
theorem z_blk (t : Fin cfg0.N) (s : Fin 32) (e0 : win0_2.index t 0 = 32 + s) (e1 : win0_2.index t 1 = 0) (r : Fin 256) (k : Fin 2048)
    (q : Fin 16512) (hq : (q : ℕ) = 8192 + (s * 256 + r)) : (X0_2 m c t : Vec Ideal S256x2048 .f32) (ix2 r k) = a1 m c (ix2 q k) := by
  refine Eq.trans ?_ (congrFun (show (V m c main_arg1 : FVec Ideal S16512x2048 .f32) = a1 m c from V_main_arg1 m c) _)
  refine (show (X0_2 m c t : Vec Ideal S256x2048 .f32) (ix2 r k) = iblk m c 2 t _ from dif_pos (moved0_2 t (ix2 r k))).trans ?_
  refine congrArg (V m c main_arg1 : FVec Ideal S16512x2048 .f32) ?_
  blk_ext [e0, e1, hq]

/-- The gains. -/
theorem g_blk (t : Fin cfg0.N) (e0 : win0_4.index t 0 = 2) (e1 : win0_4.index t 1 = 0) (e2 : win0_4.index t 2 = 0) (x : Fin 2048) :
    (iblk m c 4 t : Vec Ideal S1x1x2048 .f32) (ix3 0 0 x) = a3 m c (ix2 2 x) := by
  refine Eq.trans ?_ (g_at m c 2 x)
  refine congrArg (V m c main_v0 : FVec Ideal S4x1x2048 .f32) (a₂ := ix3 2 0 x) ?_
  blk_ext [e0, e1, e2]

/-- A row of the sum: the token's own row and its two chosen rows under their gates. -/
abbrev row (x0 : FVec Ideal S8192x2048 .f32) (x1 : FVec Ideal S16512x2048 .f32) (x2 : FVec Ideal S8192x128 .f32) (q : Fin 8192)
    (k : Fin 2048) : EReal :=
  Normed.total (x0 (ix2 q k)) (x2 (ix2 q 0)) (x2 (ix2 q 1)) (x1 (ix2 ⟨q, by omega⟩ k)) (x1 (ix2 ⟨8192 + q, by omega⟩ k))

/-- The reference's sum. -/
theorem ref_sum (x0 : FVec Ideal S8192x2048 .f32) (x1 : FVec Ideal S16512x2048 .f32) (x2 : FVec Ideal S8192x128 .f32)
    (q : Fin 8192) (k : Fin 2048) : Cert.Comb1RefIdeal.Read.val_main_v8 (F := Ideal) x0 x1 x2 (ix2 q k) = row x0 x1 x2 q k := by
  pointwise [Cert.Comb1RefIdeal.Read.val_main_v8, Cert.Comb1RefIdeal.Read.val_main_v7, Cert.Comb1RefIdeal.Read.val_main_v6,
    Cert.Comb1RefIdeal.Read.val_main_v5, Cert.Comb1RefIdeal.Read.val_main_v4, Cert.Comb1RefIdeal.Read.val_main_v3,
    Cert.Comb1RefIdeal.Read.val_main_v2, Cert.Comb1RefIdeal.Read.val_main_v1, Cert.Comb1RefIdeal.Read.val_main_v0,
    Cert.Comb1RefIdeal.Read.val_main_cst]
  rw [Fin.sum_univ_two]
  simp only [row, Normed.total, Fin.val_zero, Fin.val_one, Nat.zero_mul, Nat.one_mul, Nat.zero_add]
  rfl

/-- The reference's norm. -/
theorem ref_at (x0 : FVec Ideal S8192x2048 .f32) (x1 : FVec Ideal S16512x2048 .f32) (x2 : FVec Ideal S8192x128 .f32)
    (x3 : FVec Ideal S4x2048 .f32) (q : Fin 8192) (e : Fin 2048) :
    Cert.Comb1RefIdeal.Read.val_main_v24 (F := Ideal) x0 x1 x2 x3 (ix2 q e) = Normed.entry (row x0 x1 x2 q) (x3 (ix2 2 e)) e := by
  pointwise [Cert.Comb1RefIdeal.Read.val_main_v24, Cert.Comb1RefIdeal.Read.val_main_v23, Cert.Comb1RefIdeal.Read.val_main_v22,
    Cert.Comb1RefIdeal.Read.val_main_v21, Cert.Comb1RefIdeal.Read.val_main_v20, Cert.Comb1RefIdeal.Read.val_main_v19,
    Cert.Comb1RefIdeal.Read.val_main_v18, Cert.Comb1RefIdeal.Read.val_main_v17, Cert.Comb1RefIdeal.Read.val_main_v16,
    Cert.Comb1RefIdeal.Read.val_main_v15, Cert.Comb1RefIdeal.Read.val_main_v14, Cert.Comb1RefIdeal.Read.val_main_v13,
    Cert.Comb1RefIdeal.Read.val_main_v12, Cert.Comb1RefIdeal.Read.val_main_v11, Cert.Comb1RefIdeal.Read.val_main_v10,
    Cert.Comb1RefIdeal.Read.val_main_v9, Cert.Comb1RefIdeal.Read.val_main_cst_0, Cert.Comb1RefIdeal.Read.val_main_cst_1,
    Cert.Comb1RefIdeal.Read.val_main_cst_2]
  simp only [ref_sum]
  rfl

/-- An index by its coordinates. -/
theorem by_coords (i : S8192x2048.Idx) (q : Fin 8192) (e : Fin 2048) (h0 : (i 0 : ℕ) = q) (h1 : (i 1 : ℕ) = e) : i = ix2 q e :=
  funext fun a => match a with | ⟨0, _⟩ => Fin.ext h0 | ⟨1, _⟩ => Fin.ext h1

abbrev G0 : Buf (Elt Ideal) ((c.tc : Thread nD τ).loc main_v1_0) :=
  Cert.Comb1RefIdeal.Read.val_main_v8 (F := Ideal) (a0 m c) (a1 m c) (a2 m c)

theorem ref0_at (i : S8192x2048.Idx) (q : Fin 8192) (e : Fin 2048) (h0 : (i 0 : ℕ) = q) (h1 : (i 1 : ℕ) = e) :
    Cert.Comb1RefIdeal.Read.val_main_v8 (F := Ideal) (a0 m c) (a1 m c) (a2 m c) i = row (a0 m c) (a1 m c) (a2 m c) q e := by
  rw [by_coords i q e h0 h1]
  exact ref_sum _ _ _ q e

/-- The result array ends holding the reference's sum. -/
theorem final0 : (dats m 0 c).arrAt 5 cfg0.N = G0 m c := by
  refine (dats m 0 c).arrAt_eq_of_covers 5 _ (by decide +kernel) fun t hf y => ?_
  blk_simp
  rw [after0_5]
  obtain ⟨s, ⟨p0, p1⟩, ⟨y0, y1⟩, ⟨z0, z1⟩, ⟨k0, k1⟩, ⟨g0, g1, g2⟩, ⟨o0, o1⟩, -⟩ := places t
  obtain ⟨r, e, rfl⟩ : ∃ (r : Fin 256) (e : Fin 2048), y = ix2 r e := ⟨y 0, y 1, funext fun a => match a with | ⟨0, _⟩ => rfl | ⟨1, _⟩ => rfl⟩
  obtain ⟨q, hq⟩ : ∃ q : Fin 8192, (q : ℕ) = s * 256 + r := ⟨⟨s * 256 + r, by omega⟩, rfl⟩
  have e0 : (((win0_5.blk t).view.emb (ix2 r e)) 0 : ℕ) = q := by blk_simp [o0, o1]; omega
  have e1 : (((win0_5.blk t).view.emb (ix2 r e)) 1 : ℕ) = e := by blk_simp [o0, o1]
  refine Eq.trans ?_ (ref0_at m c _ q e e0 e1).symm
  refine (congrFun (left0 m c t) (ix2 r e)).trans ?_
  have hr : ∀ k : Fin 2048, Normed.total ((iblk m c 0 t : Vec Ideal S256x2048 .f32) (ix2 r k)) ((iblk m c 3 t : Vec Ideal S256x128 .f32) (ix2 r 0))
      ((iblk m c 3 t : Vec Ideal S256x128 .f32) (ix2 r 1)) ((X0_1 m c t : Vec Ideal S256x2048 .f32) (ix2 r k))
      ((X0_2 m c t : Vec Ideal S256x2048 .f32) (ix2 r k)) = row (a0 m c) (a1 m c) (a2 m c) q k := fun k => by
    rw [x_blk m c t s p0 p1 r k q hq, gate_blk m c t s k0 k1 r 0 q hq, gate_blk m c t s k0 k1 r 1 q hq,
      y_blk m c t s y0 y1 r k ⟨q, by omega⟩ hq, z_blk m c t s z0 z1 r k ⟨8192 + q, by omega⟩ (by show 8192 + (q : ℕ) = _; omega)]
  exact (sum_at _ _ _ _ r e).trans (hr e)

abbrev G1 : Buf (Elt Ideal) ((c.tc : Thread nD τ).loc main_v1_1) :=
  Cert.Comb1RefIdeal.Read.val_main_v24 (F := Ideal) (a0 m c) (a1 m c) (a2 m c) (a3 m c)

theorem ref1_at (i : S8192x2048.Idx) (q : Fin 8192) (e : Fin 2048) (h0 : (i 0 : ℕ) = q) (h1 : (i 1 : ℕ) = e) :
    Cert.Comb1RefIdeal.Read.val_main_v24 (F := Ideal) (a0 m c) (a1 m c) (a2 m c) (a3 m c) i = Normed.entry (row (a0 m c) (a1 m c) (a2 m c) q) (a3 m c (ix2 2 e)) e := by
  rw [by_coords i q e h0 h1]
  exact ref_at _ _ _ _ q e

/-- The result array ends holding the reference's norm. -/
theorem final1 : (dats m 0 c).arrAt 6 cfg0.N = G1 m c := by
  refine (dats m 0 c).arrAt_eq_of_covers 6 _ (by decide +kernel) fun t hf y => ?_
  blk_simp
  rw [after0_6]
  obtain ⟨s, ⟨p0, p1⟩, ⟨y0, y1⟩, ⟨z0, z1⟩, ⟨k0, k1⟩, ⟨g0, g1, g2⟩, -, o0, o1⟩ := places t
  obtain ⟨r, e, rfl⟩ : ∃ (r : Fin 256) (e : Fin 2048), y = ix2 r e := ⟨y 0, y 1, funext fun a => match a with | ⟨0, _⟩ => rfl | ⟨1, _⟩ => rfl⟩
  obtain ⟨q, hq⟩ : ∃ q : Fin 8192, (q : ℕ) = s * 256 + r := ⟨⟨s * 256 + r, by omega⟩, rfl⟩
  have e0 : (((win0_6.blk t).view.emb (ix2 r e)) 0 : ℕ) = q := by blk_simp [o0, o1]; omega
  have e1 : (((win0_6.blk t).view.emb (ix2 r e)) 1 : ℕ) = e := by blk_simp [o0, o1]
  refine Eq.trans ?_ (ref1_at m c _ q e e0 e1).symm
  refine (congrFun (left1 m c t) (ix2 r e)).trans ?_
  have hr : ∀ k : Fin 2048, Normed.total ((iblk m c 0 t : Vec Ideal S256x2048 .f32) (ix2 r k)) ((iblk m c 3 t : Vec Ideal S256x128 .f32) (ix2 r 0))
      ((iblk m c 3 t : Vec Ideal S256x128 .f32) (ix2 r 1)) ((X0_1 m c t : Vec Ideal S256x2048 .f32) (ix2 r k))
      ((X0_2 m c t : Vec Ideal S256x2048 .f32) (ix2 r k)) = row (a0 m c) (a1 m c) (a2 m c) q k := fun k => by
    rw [x_blk m c t s p0 p1 r k q hq, gate_blk m c t s k0 k1 r 0 q hq, gate_blk m c t s k0 k1 r 1 q hq,
      y_blk m c t s y0 y1 r k ⟨q, by omega⟩ hq, z_blk m c t s z0 z1 r k ⟨8192 + q, by omega⟩ (by show 8192 + (q : ℕ) = _; omega)]
  refine (norm_at _ _ _ _ _ r e).trans ?_
  rw [g_blk m c t g0 g1 g2 e]
  exact congrArg (fun x => Normed.entry x _ e) (funext hr)

end Cert.Comb1
-- ==== Proof.Comb2Arr.lean ====
module

public import proofs.«01_k».proof.Proof.Gen.Comb2Ideal.Value
public import proofs.«01_k».proof.Proof.Gen.Comb2RefIdeal.Read
public import proofs.«01_k».proof.Proof.NormMath
public import Idealize.ShloMosaic.Lib.Pointwise
public import Idealize.ShloMosaic.Lib.StableHlo.RunRead
public import Idealize.ShloMosaic.Lib.Pipeline.ValueKit
public import Idealize.ShloMosaic.Lib.Pipeline.ReadBack
public import Idealize.ShloMosaic.Lib.Claim

@[expose] public section

set_option maxRecDepth 16384

noncomputable section

/-! # The experts' sum and the norm after it, layer 2: what the result arrays hold -/

namespace Cert.Comb2
open Idealize.ShloMosaic Idealize.ShloMosaic.TcCoe Idealize.SL.Sem
open Cert.Comb2Ideal Cert.Comb2Ideal.Gen

variable (m : (ℓ : Loc nD τ sig) → Buf (Elt Ideal) ℓ) (c : Dev nD)

abbrev a0 : FVec Ideal S8192x2048 .f32 := m ((c.tc : Thread nD τ).loc main_arg0)
abbrev a1 : FVec Ideal S16512x2048 .f32 := m ((c.tc : Thread nD τ).loc main_arg1)
abbrev a2 : FVec Ideal S8192x128 .f32 := m ((c.tc : Thread nD τ).loc main_arg2)
abbrev a3 : FVec Ideal S4x2048 .f32 := m ((c.tc : Thread nD τ).loc main_arg3)

/-- Where each window's block lies at a grid point. -/
theorem places : ∀ t : Fin cfg0.N, ∃ s : Fin 32, (win0_0.index t 0 = s ∧ win0_0.index t 1 = 0)
    ∧ (win0_1.index t 0 = s ∧ win0_1.index t 1 = 0) ∧ (win0_2.index t 0 = 32 + s ∧ win0_2.index t 1 = 0)
    ∧ (win0_3.index t 0 = s ∧ win0_3.index t 1 = 0)
    ∧ (win0_4.index t 0 = 3 ∧ win0_4.index t 1 = 0 ∧ win0_4.index t 2 = 0)
    ∧ (win0_5.index t 0 = s ∧ win0_5.index t 1 = 0)
    ∧ (win0_6.index t 0 = s ∧ win0_6.index t 1 = 0) := by
  decide +kernel

/-- The sum stored at a point. -/
theorem sum_at (g : Vec Ideal S256x128 .f32) (x y z : Vec Ideal S256x2048 .f32) (r : Fin 256) (e : Fin 2048) :
    k0_pay1 (F := Ideal) g x y z (ix2 r e) = Normed.total (x (ix2 r e)) (g (ix2 r 0)) (g (ix2 r 1)) (y (ix2 r e)) (z (ix2 r e)) := by
  pointwise [k0_pay1]
  rfl

/-- The normed row stored at a point. -/
theorem norm_at (g : Vec Ideal S256x128 .f32) (x y z : Vec Ideal S256x2048 .f32) (w : Vec Ideal S1x1x2048 .f32) (r : Fin 256)
    (e : Fin 2048) : k0_pay2 (F := Ideal) g x y z w (ix2 r e)
      = Normed.entry (fun k => Normed.total (x (ix2 r k)) (g (ix2 r 0)) (g (ix2 r 1)) (y (ix2 r k)) (z (ix2 r k))) (w (ix3 0 0 e)) e := by
  pointwise [k0_pay1, k0_pay2]
  rfl

theorem left0 (t : Fin cfg0.N) : (outsAt0 m c t).1 = k0_pay1 (F := Ideal) (iblk m c 3 t) (iblk m c 0 t) (X0_1 m c t) (X0_2 m c t) := by
  unfold outsAt0
  frame_out

theorem left1 (t : Fin cfg0.N) : (outsAt0 m c t).2 = k0_pay2 (F := Ideal) (iblk m c 3 t) (iblk m c 0 t) (X0_1 m c t) (X0_2 m c t) (iblk m c 4 t) := by
  unfold outsAt0
  frame_out

/-- The array of gains that the call reads. -/
theorem g_at (l : Fin 4) (x : Fin 2048) : (V m c main_v0 : FVec Ideal S4x1x2048 .f32) (ix3 l 0 x) = a3 m c (ix2 l x) := by
  unfold V
  unfold hostOps0
  after_reads_simp
  pointwise

theorem x_blk (t : Fin cfg0.N) (s : Fin 32) (e0 : win0_0.index t 0 = s) (e1 : win0_0.index t 1 = 0) (r : Fin 256) (k : Fin 2048)
    (q : Fin 8192) (hq : (q : ℕ) = s * 256 + r) : (iblk m c 0 t : Vec Ideal S256x2048 .f32) (ix2 r k) = a0 m c (ix2 q k) := by
  refine Eq.trans ?_ (congrFun (show (V m c main_arg0 : FVec Ideal S8192x2048 .f32) = a0 m c from V_main_arg0 m c) _)
  refine congrArg (V m c main_arg0 : FVec Ideal S8192x2048 .f32) ?_
  blk_ext [e0, e1, hq]

theorem gate_blk (t : Fin cfg0.N) (s : Fin 32) (e0 : win0_3.index t 0 = s) (e1 : win0_3.index t 1 = 0) (r : Fin 256) (k : Fin 128)
    (q : Fin 8192) (hq : (q : ℕ) = s * 256 + r) : (iblk m c 3 t : Vec Ideal S256x128 .f32) (ix2 r k) = a2 m c (ix2 q k) := by
  refine Eq.trans ?_ (congrFun (show (V m c main_arg2 : FVec Ideal S8192x128 .f32) = a2 m c from V_main_arg2 m c) _)
  refine congrArg (V m c main_arg2 : FVec Ideal S8192x128 .f32) ?_
  blk_ext [e0, e1, hq]

/-- The rows of the first choice: the grid cuts no block of them. -/
theorem y_blk (t : Fin cfg0.N) (s : Fin 32) (e0 : win0_1.index t 0 = s) (e1 : win0_1.index t 1 = 0) (r : Fin 256) (k : Fin 2048)
    (q : Fin 16512) (hq : (q : ℕ) = s * 256 + r) : (X0_1 m c t : Vec Ideal S256x2048 .f32) (ix2 r k) = a1 m c (ix2 q k) := by
  refine Eq.trans ?_ (congrFun (show (V m c main_arg1 : FVec Ideal S16512x2048 .f32) = a1 m c from V_main_arg1 m c) _)
  refine (show (X0_1 m c t : Vec Ideal S256x2048 .f32) (ix2 r k) = iblk m c 1 t _ from dif_pos (moved0_1 t (ix2 r k))).trans ?_
  refine congrArg (V m c main_arg1 : FVec Ideal S16512x2048 .f32) ?_
  blk_ext [e0, e1, hq]

/-- The rows of the second choice. -/
theorem z_blk (t : Fin cfg0.N) (s : Fin 32) (e0 : win0_2.index t 0 = 32 + s) (e1 : win0_2.index t 1 = 0) (r : Fin 256) (k : Fin 2048)
    (q : Fin 16512) (hq : (q : ℕ) = 8192 + (s * 256 + r)) : (X0_2 m c t : Vec Ideal S256x2048 .f32) (ix2 r k) = a1 m c (ix2 q k) := by
  refine Eq.trans ?_ (congrFun (show (V m c main_arg1 : FVec Ideal S16512x2048 .f32) = a1 m c from V_main_arg1 m c) _)
  refine (show (X0_2 m c t : Vec Ideal S256x2048 .f32) (ix2 r k) = iblk m c 2 t _ from dif_pos (moved0_2 t (ix2 r k))).trans ?_
  refine congrArg (V m c main_arg1 : FVec Ideal S16512x2048 .f32) ?_
  blk_ext [e0, e1, hq]

/-- The gains. -/
theorem g_blk (t : Fin cfg0.N) (e0 : win0_4.index t 0 = 3) (e1 : win0_4.index t 1 = 0) (e2 : win0_4.index t 2 = 0) (x : Fin 2048) :
    (iblk m c 4 t : Vec Ideal S1x1x2048 .f32) (ix3 0 0 x) = a3 m c (ix2 3 x) := by
  refine Eq.trans ?_ (g_at m c 3 x)
  refine congrArg (V m c main_v0 : FVec Ideal S4x1x2048 .f32) (a₂ := ix3 3 0 x) ?_
  blk_ext [e0, e1, e2]

/-- A row of the sum: the token's own row and its two chosen rows under their gates. -/
abbrev row (x0 : FVec Ideal S8192x2048 .f32) (x1 : FVec Ideal S16512x2048 .f32) (x2 : FVec Ideal S8192x128 .f32) (q : Fin 8192)
    (k : Fin 2048) : EReal :=
  Normed.total (x0 (ix2 q k)) (x2 (ix2 q 0)) (x2 (ix2 q 1)) (x1 (ix2 ⟨q, by omega⟩ k)) (x1 (ix2 ⟨8192 + q, by omega⟩ k))

/-- The reference's sum. -/
theorem ref_sum (x0 : FVec Ideal S8192x2048 .f32) (x1 : FVec Ideal S16512x2048 .f32) (x2 : FVec Ideal S8192x128 .f32)
    (q : Fin 8192) (k : Fin 2048) : Cert.Comb2RefIdeal.Read.val_main_v8 (F := Ideal) x0 x1 x2 (ix2 q k) = row x0 x1 x2 q k := by
  pointwise [Cert.Comb2RefIdeal.Read.val_main_v8, Cert.Comb2RefIdeal.Read.val_main_v7, Cert.Comb2RefIdeal.Read.val_main_v6,
    Cert.Comb2RefIdeal.Read.val_main_v5, Cert.Comb2RefIdeal.Read.val_main_v4, Cert.Comb2RefIdeal.Read.val_main_v3,
    Cert.Comb2RefIdeal.Read.val_main_v2, Cert.Comb2RefIdeal.Read.val_main_v1, Cert.Comb2RefIdeal.Read.val_main_v0,
    Cert.Comb2RefIdeal.Read.val_main_cst]
  rw [Fin.sum_univ_two]
  simp only [row, Normed.total, Fin.val_zero, Fin.val_one, Nat.zero_mul, Nat.one_mul, Nat.zero_add]
  rfl

/-- The reference's norm. -/
theorem ref_at (x0 : FVec Ideal S8192x2048 .f32) (x1 : FVec Ideal S16512x2048 .f32) (x2 : FVec Ideal S8192x128 .f32)
    (x3 : FVec Ideal S4x2048 .f32) (q : Fin 8192) (e : Fin 2048) :
    Cert.Comb2RefIdeal.Read.val_main_v24 (F := Ideal) x0 x1 x2 x3 (ix2 q e) = Normed.entry (row x0 x1 x2 q) (x3 (ix2 3 e)) e := by
  pointwise [Cert.Comb2RefIdeal.Read.val_main_v24, Cert.Comb2RefIdeal.Read.val_main_v23, Cert.Comb2RefIdeal.Read.val_main_v22,
    Cert.Comb2RefIdeal.Read.val_main_v21, Cert.Comb2RefIdeal.Read.val_main_v20, Cert.Comb2RefIdeal.Read.val_main_v19,
    Cert.Comb2RefIdeal.Read.val_main_v18, Cert.Comb2RefIdeal.Read.val_main_v17, Cert.Comb2RefIdeal.Read.val_main_v16,
    Cert.Comb2RefIdeal.Read.val_main_v15, Cert.Comb2RefIdeal.Read.val_main_v14, Cert.Comb2RefIdeal.Read.val_main_v13,
    Cert.Comb2RefIdeal.Read.val_main_v12, Cert.Comb2RefIdeal.Read.val_main_v11, Cert.Comb2RefIdeal.Read.val_main_v10,
    Cert.Comb2RefIdeal.Read.val_main_v9, Cert.Comb2RefIdeal.Read.val_main_cst_0, Cert.Comb2RefIdeal.Read.val_main_cst_1,
    Cert.Comb2RefIdeal.Read.val_main_cst_2]
  simp only [ref_sum]
  rfl

/-- An index by its coordinates. -/
theorem by_coords (i : S8192x2048.Idx) (q : Fin 8192) (e : Fin 2048) (h0 : (i 0 : ℕ) = q) (h1 : (i 1 : ℕ) = e) : i = ix2 q e :=
  funext fun a => match a with | ⟨0, _⟩ => Fin.ext h0 | ⟨1, _⟩ => Fin.ext h1

abbrev G0 : Buf (Elt Ideal) ((c.tc : Thread nD τ).loc main_v1_0) :=
  Cert.Comb2RefIdeal.Read.val_main_v8 (F := Ideal) (a0 m c) (a1 m c) (a2 m c)

theorem ref0_at (i : S8192x2048.Idx) (q : Fin 8192) (e : Fin 2048) (h0 : (i 0 : ℕ) = q) (h1 : (i 1 : ℕ) = e) :
    Cert.Comb2RefIdeal.Read.val_main_v8 (F := Ideal) (a0 m c) (a1 m c) (a2 m c) i = row (a0 m c) (a1 m c) (a2 m c) q e := by
  rw [by_coords i q e h0 h1]
  exact ref_sum _ _ _ q e

/-- The result array ends holding the reference's sum. -/
theorem final0 : (dats m 0 c).arrAt 5 cfg0.N = G0 m c := by
  refine (dats m 0 c).arrAt_eq_of_covers 5 _ (by decide +kernel) fun t hf y => ?_
  blk_simp
  rw [after0_5]
  obtain ⟨s, ⟨p0, p1⟩, ⟨y0, y1⟩, ⟨z0, z1⟩, ⟨k0, k1⟩, ⟨g0, g1, g2⟩, ⟨o0, o1⟩, -⟩ := places t
  obtain ⟨r, e, rfl⟩ : ∃ (r : Fin 256) (e : Fin 2048), y = ix2 r e := ⟨y 0, y 1, funext fun a => match a with | ⟨0, _⟩ => rfl | ⟨1, _⟩ => rfl⟩
  obtain ⟨q, hq⟩ : ∃ q : Fin 8192, (q : ℕ) = s * 256 + r := ⟨⟨s * 256 + r, by omega⟩, rfl⟩
  have e0 : (((win0_5.blk t).view.emb (ix2 r e)) 0 : ℕ) = q := by blk_simp [o0, o1]; omega
  have e1 : (((win0_5.blk t).view.emb (ix2 r e)) 1 : ℕ) = e := by blk_simp [o0, o1]
  refine Eq.trans ?_ (ref0_at m c _ q e e0 e1).symm
  refine (congrFun (left0 m c t) (ix2 r e)).trans ?_
  have hr : ∀ k : Fin 2048, Normed.total ((iblk m c 0 t : Vec Ideal S256x2048 .f32) (ix2 r k)) ((iblk m c 3 t : Vec Ideal S256x128 .f32) (ix2 r 0))
      ((iblk m c 3 t : Vec Ideal S256x128 .f32) (ix2 r 1)) ((X0_1 m c t : Vec Ideal S256x2048 .f32) (ix2 r k))
      ((X0_2 m c t : Vec Ideal S256x2048 .f32) (ix2 r k)) = row (a0 m c) (a1 m c) (a2 m c) q k := fun k => by
    rw [x_blk m c t s p0 p1 r k q hq, gate_blk m c t s k0 k1 r 0 q hq, gate_blk m c t s k0 k1 r 1 q hq,
      y_blk m c t s y0 y1 r k ⟨q, by omega⟩ hq, z_blk m c t s z0 z1 r k ⟨8192 + q, by omega⟩ (by show 8192 + (q : ℕ) = _; omega)]
  exact (sum_at _ _ _ _ r e).trans (hr e)

abbrev G1 : Buf (Elt Ideal) ((c.tc : Thread nD τ).loc main_v1_1) :=
  Cert.Comb2RefIdeal.Read.val_main_v24 (F := Ideal) (a0 m c) (a1 m c) (a2 m c) (a3 m c)

theorem ref1_at (i : S8192x2048.Idx) (q : Fin 8192) (e : Fin 2048) (h0 : (i 0 : ℕ) = q) (h1 : (i 1 : ℕ) = e) :
    Cert.Comb2RefIdeal.Read.val_main_v24 (F := Ideal) (a0 m c) (a1 m c) (a2 m c) (a3 m c) i = Normed.entry (row (a0 m c) (a1 m c) (a2 m c) q) (a3 m c (ix2 3 e)) e := by
  rw [by_coords i q e h0 h1]
  exact ref_at _ _ _ _ q e

/-- The result array ends holding the reference's norm. -/
theorem final1 : (dats m 0 c).arrAt 6 cfg0.N = G1 m c := by
  refine (dats m 0 c).arrAt_eq_of_covers 6 _ (by decide +kernel) fun t hf y => ?_
  blk_simp
  rw [after0_6]
  obtain ⟨s, ⟨p0, p1⟩, ⟨y0, y1⟩, ⟨z0, z1⟩, ⟨k0, k1⟩, ⟨g0, g1, g2⟩, -, o0, o1⟩ := places t
  obtain ⟨r, e, rfl⟩ : ∃ (r : Fin 256) (e : Fin 2048), y = ix2 r e := ⟨y 0, y 1, funext fun a => match a with | ⟨0, _⟩ => rfl | ⟨1, _⟩ => rfl⟩
  obtain ⟨q, hq⟩ : ∃ q : Fin 8192, (q : ℕ) = s * 256 + r := ⟨⟨s * 256 + r, by omega⟩, rfl⟩
  have e0 : (((win0_6.blk t).view.emb (ix2 r e)) 0 : ℕ) = q := by blk_simp [o0, o1]; omega
  have e1 : (((win0_6.blk t).view.emb (ix2 r e)) 1 : ℕ) = e := by blk_simp [o0, o1]
  refine Eq.trans ?_ (ref1_at m c _ q e e0 e1).symm
  refine (congrFun (left1 m c t) (ix2 r e)).trans ?_
  have hr : ∀ k : Fin 2048, Normed.total ((iblk m c 0 t : Vec Ideal S256x2048 .f32) (ix2 r k)) ((iblk m c 3 t : Vec Ideal S256x128 .f32) (ix2 r 0))
      ((iblk m c 3 t : Vec Ideal S256x128 .f32) (ix2 r 1)) ((X0_1 m c t : Vec Ideal S256x2048 .f32) (ix2 r k))
      ((X0_2 m c t : Vec Ideal S256x2048 .f32) (ix2 r k)) = row (a0 m c) (a1 m c) (a2 m c) q k := fun k => by
    rw [x_blk m c t s p0 p1 r k q hq, gate_blk m c t s k0 k1 r 0 q hq, gate_blk m c t s k0 k1 r 1 q hq,
      y_blk m c t s y0 y1 r k ⟨q, by omega⟩ hq, z_blk m c t s z0 z1 r k ⟨8192 + q, by omega⟩ (by show 8192 + (q : ℕ) = _; omega)]
  refine (norm_at _ _ _ _ _ r e).trans ?_
  rw [g_blk m c t g0 g1 g2 e]
  exact congrArg (fun x => Normed.entry x _ e) (funext hr)

end Cert.Comb2
-- ==== Proof.Comb3Arr.lean ====
module

public import proofs.«01_k».proof.Proof.Gen.Comb3Ideal.Value
public import proofs.«01_k».proof.Proof.Gen.Comb3RefIdeal.Read
public import proofs.«01_k».proof.Proof.NormMath
public import Idealize.ShloMosaic.Lib.Pointwise
public import Idealize.ShloMosaic.Lib.StableHlo.RunRead
public import Idealize.ShloMosaic.Lib.Pipeline.ValueKit
public import Idealize.ShloMosaic.Lib.Pipeline.ReadBack
public import Idealize.ShloMosaic.Lib.Claim

@[expose] public section

set_option maxRecDepth 16384

noncomputable section

/-! # The experts' sum and the norm after it, layer 3: what the result arrays hold -/

namespace Cert.Comb3
open Idealize.ShloMosaic Idealize.ShloMosaic.TcCoe Idealize.SL.Sem
open Cert.Comb3Ideal Cert.Comb3Ideal.Gen

variable (m : (ℓ : Loc nD τ sig) → Buf (Elt Ideal) ℓ) (c : Dev nD)

abbrev a0 : FVec Ideal S8192x2048 .f32 := m ((c.tc : Thread nD τ).loc main_arg0)
abbrev a1 : FVec Ideal S16512x2048 .f32 := m ((c.tc : Thread nD τ).loc main_arg1)
abbrev a2 : FVec Ideal S8192x128 .f32 := m ((c.tc : Thread nD τ).loc main_arg2)
abbrev a3 : FVec Ideal S2048 .f32 := m ((c.tc : Thread nD τ).loc main_arg3)

/-- Where each window's block lies at a grid point. -/
theorem places : ∀ t : Fin cfg0.N, ∃ s : Fin 32, (win0_0.index t 0 = s ∧ win0_0.index t 1 = 0)
    ∧ (win0_1.index t 0 = s ∧ win0_1.index t 1 = 0) ∧ (win0_2.index t 0 = 32 + s ∧ win0_2.index t 1 = 0)
    ∧ (win0_3.index t 0 = s ∧ win0_3.index t 1 = 0)
    ∧ (win0_4.index t 0 = 0 ∧ win0_4.index t 1 = 0 ∧ win0_4.index t 2 = 0)
    ∧ (win0_5.index t 0 = s ∧ win0_5.index t 1 = 0) := by
  decide +kernel

/-- The normed row stored at a point. -/
theorem norm_at (g : Vec Ideal S256x128 .f32) (x y z : Vec Ideal S256x2048 .f32) (w : Vec Ideal S1x1x2048 .f32) (r : Fin 256)
    (e : Fin 2048) : k0_pay1 (F := Ideal) g x y z w (ix2 r e)
      = Normed.entry (fun k => Normed.total (x (ix2 r k)) (g (ix2 r 0)) (g (ix2 r 1)) (y (ix2 r k)) (z (ix2 r k))) (w (ix3 0 0 e)) e := by
  pointwise [k0_pay1]
  rfl

theorem left0 (t : Fin cfg0.N) : outsAt0 m c t = k0_pay1 (F := Ideal) (iblk m c 3 t) (iblk m c 0 t) (X0_1 m c t) (X0_2 m c t) (iblk m c 4 t) := by
  unfold outsAt0
  frame_out

/-- The array of gains that the call reads. -/
theorem g_at (x : Fin 2048) : (V m c main_v1 : FVec Ideal S1x1x2048 .f32) (ix3 0 0 x) = a3 m c (ix1 x) := by
  unfold V
  unfold hostOps0
  after_reads_simp
  pointwise

theorem x_blk (t : Fin cfg0.N) (s : Fin 32) (e0 : win0_0.index t 0 = s) (e1 : win0_0.index t 1 = 0) (r : Fin 256) (k : Fin 2048)
    (q : Fin 8192) (hq : (q : ℕ) = s * 256 + r) : (iblk m c 0 t : Vec Ideal S256x2048 .f32) (ix2 r k) = a0 m c (ix2 q k) := by
  refine Eq.trans ?_ (congrFun (show (V m c main_arg0 : FVec Ideal S8192x2048 .f32) = a0 m c from V_main_arg0 m c) _)
  refine congrArg (V m c main_arg0 : FVec Ideal S8192x2048 .f32) ?_
  blk_ext [e0, e1, hq]

theorem gate_blk (t : Fin cfg0.N) (s : Fin 32) (e0 : win0_3.index t 0 = s) (e1 : win0_3.index t 1 = 0) (r : Fin 256) (k : Fin 128)
    (q : Fin 8192) (hq : (q : ℕ) = s * 256 + r) : (iblk m c 3 t : Vec Ideal S256x128 .f32) (ix2 r k) = a2 m c (ix2 q k) := by
  refine Eq.trans ?_ (congrFun (show (V m c main_arg2 : FVec Ideal S8192x128 .f32) = a2 m c from V_main_arg2 m c) _)
  refine congrArg (V m c main_arg2 : FVec Ideal S8192x128 .f32) ?_
  blk_ext [e0, e1, hq]

/-- The rows of the first choice: the grid cuts no block of them. -/
theorem y_blk (t : Fin cfg0.N) (s : Fin 32) (e0 : win0_1.index t 0 = s) (e1 : win0_1.index t 1 = 0) (r : Fin 256) (k : Fin 2048)
    (q : Fin 16512) (hq : (q : ℕ) = s * 256 + r) : (X0_1 m c t : Vec Ideal S256x2048 .f32) (ix2 r k) = a1 m c (ix2 q k) := by
  refine Eq.trans ?_ (congrFun (show (V m c main_arg1 : FVec Ideal S16512x2048 .f32) = a1 m c from V_main_arg1 m c) _)
  refine (show (X0_1 m c t : Vec Ideal S256x2048 .f32) (ix2 r k) = iblk m c 1 t _ from dif_pos (moved0_1 t (ix2 r k))).trans ?_
  refine congrArg (V m c main_arg1 : FVec Ideal S16512x2048 .f32) ?_
  blk_ext [e0, e1, hq]

/-- The rows of the second choice. -/
theorem z_blk (t : Fin cfg0.N) (s : Fin 32) (e0 : win0_2.index t 0 = 32 + s) (e1 : win0_2.index t 1 = 0) (r : Fin 256) (k : Fin 2048)
    (q : Fin 16512) (hq : (q : ℕ) = 8192 + (s * 256 + r)) : (X0_2 m c t : Vec Ideal S256x2048 .f32) (ix2 r k) = a1 m c (ix2 q k) := by
  refine Eq.trans ?_ (congrFun (show (V m c main_arg1 : FVec Ideal S16512x2048 .f32) = a1 m c from V_main_arg1 m c) _)
  refine (show (X0_2 m c t : Vec Ideal S256x2048 .f32) (ix2 r k) = iblk m c 2 t _ from dif_pos (moved0_2 t (ix2 r k))).trans ?_
  refine congrArg (V m c main_arg1 : FVec Ideal S16512x2048 .f32) ?_
  blk_ext [e0, e1, hq]

/-- The gains. -/
theorem g_blk (t : Fin cfg0.N) (e0 : win0_4.index t 0 = 0) (e1 : win0_4.index t 1 = 0) (e2 : win0_4.index t 2 = 0) (x : Fin 2048) :
    (iblk m c 4 t : Vec Ideal S1x1x2048 .f32) (ix3 0 0 x) = a3 m c (ix1 x) := by
  refine Eq.trans ?_ (g_at m c x)
  refine congrArg (V m c main_v1 : FVec Ideal S1x1x2048 .f32) (a₂ := ix3 0 0 x) ?_
  blk_ext [e0, e1, e2]

/-- A row of the sum: the token's own row and its two chosen rows under their gates. -/
abbrev row (x0 : FVec Ideal S8192x2048 .f32) (x1 : FVec Ideal S16512x2048 .f32) (x2 : FVec Ideal S8192x128 .f32) (q : Fin 8192)
    (k : Fin 2048) : EReal :=
  Normed.total (x0 (ix2 q k)) (x2 (ix2 q 0)) (x2 (ix2 q 1)) (x1 (ix2 ⟨q, by omega⟩ k)) (x1 (ix2 ⟨8192 + q, by omega⟩ k))

/-- The reference's sum. -/
theorem ref_sum (x0 : FVec Ideal S8192x2048 .f32) (x1 : FVec Ideal S16512x2048 .f32) (x2 : FVec Ideal S8192x128 .f32)
    (q : Fin 8192) (k : Fin 2048) : Cert.Comb3RefIdeal.Read.val_main_v8 (F := Ideal) x0 x1 x2 (ix2 q k) = row x0 x1 x2 q k := by
  pointwise [Cert.Comb3RefIdeal.Read.val_main_v8, Cert.Comb3RefIdeal.Read.val_main_v7, Cert.Comb3RefIdeal.Read.val_main_v6,
    Cert.Comb3RefIdeal.Read.val_main_v5, Cert.Comb3RefIdeal.Read.val_main_v4, Cert.Comb3RefIdeal.Read.val_main_v3,
    Cert.Comb3RefIdeal.Read.val_main_v2, Cert.Comb3RefIdeal.Read.val_main_v1, Cert.Comb3RefIdeal.Read.val_main_v0,
    Cert.Comb3RefIdeal.Read.val_main_cst]
  rw [Fin.sum_univ_two]
  simp only [row, Normed.total, Fin.val_zero, Fin.val_one, Nat.zero_mul, Nat.one_mul, Nat.zero_add]
  rfl

/-- The reference's norm. -/
theorem ref_at (x0 : FVec Ideal S8192x2048 .f32) (x1 : FVec Ideal S16512x2048 .f32) (x2 : FVec Ideal S8192x128 .f32)
    (x3 : FVec Ideal S2048 .f32) (q : Fin 8192) (e : Fin 2048) :
    Cert.Comb3RefIdeal.Read.val_main_v21 (F := Ideal) x0 x1 x2 x3 (ix2 q e) = Normed.entry (row x0 x1 x2 q) (x3 (ix1 e)) e := by
  pointwise [Cert.Comb3RefIdeal.Read.val_main_v21, Cert.Comb3RefIdeal.Read.val_main_v20, Cert.Comb3RefIdeal.Read.val_main_v19,
    Cert.Comb3RefIdeal.Read.val_main_v18, Cert.Comb3RefIdeal.Read.val_main_v17, Cert.Comb3RefIdeal.Read.val_main_v16,
    Cert.Comb3RefIdeal.Read.val_main_v15, Cert.Comb3RefIdeal.Read.val_main_v14, Cert.Comb3RefIdeal.Read.val_main_v13,
    Cert.Comb3RefIdeal.Read.val_main_v12, Cert.Comb3RefIdeal.Read.val_main_v11, Cert.Comb3RefIdeal.Read.val_main_v10,
    Cert.Comb3RefIdeal.Read.val_main_v9, Cert.Comb3RefIdeal.Read.val_main_cst_0, Cert.Comb3RefIdeal.Read.val_main_cst_1,
    Cert.Comb3RefIdeal.Read.val_main_cst_2]
  simp only [ref_sum]
  rfl

/-- An index by its coordinates. -/
theorem by_coords (i : S8192x2048.Idx) (q : Fin 8192) (e : Fin 2048) (h0 : (i 0 : ℕ) = q) (h1 : (i 1 : ℕ) = e) : i = ix2 q e :=
  funext fun a => match a with | ⟨0, _⟩ => Fin.ext h0 | ⟨1, _⟩ => Fin.ext h1

abbrev G0 : Buf (Elt Ideal) ((c.tc : Thread nD τ).loc main_v2) :=
  Cert.Comb3RefIdeal.Read.val_main_v21 (F := Ideal) (a0 m c) (a1 m c) (a2 m c) (a3 m c)

theorem ref0_at (i : S8192x2048.Idx) (q : Fin 8192) (e : Fin 2048) (h0 : (i 0 : ℕ) = q) (h1 : (i 1 : ℕ) = e) :
    Cert.Comb3RefIdeal.Read.val_main_v21 (F := Ideal) (a0 m c) (a1 m c) (a2 m c) (a3 m c) i = Normed.entry (row (a0 m c) (a1 m c) (a2 m c) q) (a3 m c (ix1 e)) e := by
  rw [by_coords i q e h0 h1]
  exact ref_at _ _ _ _ q e

/-- The result array ends holding the reference's norm. -/
theorem final0 : (dats m 0 c).arrAt 5 cfg0.N = G0 m c := by
  refine (dats m 0 c).arrAt_eq_of_covers 5 _ (by decide +kernel) fun t hf y => ?_
  blk_simp
  rw [after0_5]
  obtain ⟨s, ⟨p0, p1⟩, ⟨y0, y1⟩, ⟨z0, z1⟩, ⟨k0, k1⟩, ⟨g0, g1, g2⟩, o0, o1⟩ := places t
  obtain ⟨r, e, rfl⟩ : ∃ (r : Fin 256) (e : Fin 2048), y = ix2 r e := ⟨y 0, y 1, funext fun a => match a with | ⟨0, _⟩ => rfl | ⟨1, _⟩ => rfl⟩
  obtain ⟨q, hq⟩ : ∃ q : Fin 8192, (q : ℕ) = s * 256 + r := ⟨⟨s * 256 + r, by omega⟩, rfl⟩
  have e0 : (((win0_5.blk t).view.emb (ix2 r e)) 0 : ℕ) = q := by blk_simp [o0, o1]; omega
  have e1 : (((win0_5.blk t).view.emb (ix2 r e)) 1 : ℕ) = e := by blk_simp [o0, o1]
  refine Eq.trans ?_ (ref0_at m c _ q e e0 e1).symm
  refine (congrFun (left0 m c t) (ix2 r e)).trans ?_
  have hr : ∀ k : Fin 2048, Normed.total ((iblk m c 0 t : Vec Ideal S256x2048 .f32) (ix2 r k)) ((iblk m c 3 t : Vec Ideal S256x128 .f32) (ix2 r 0))
      ((iblk m c 3 t : Vec Ideal S256x128 .f32) (ix2 r 1)) ((X0_1 m c t : Vec Ideal S256x2048 .f32) (ix2 r k))
      ((X0_2 m c t : Vec Ideal S256x2048 .f32) (ix2 r k)) = row (a0 m c) (a1 m c) (a2 m c) q k := fun k => by
    rw [x_blk m c t s p0 p1 r k q hq, gate_blk m c t s k0 k1 r 0 q hq, gate_blk m c t s k0 k1 r 1 q hq,
      y_blk m c t s y0 y1 r k ⟨q, by omega⟩ hq, z_blk m c t s z0 z1 r k ⟨8192 + q, by omega⟩ (by show 8192 + (q : ℕ) = _; omega)]
  refine (norm_at _ _ _ _ _ r e).trans ?_
  rw [g_blk m c t g0 g1 g2 e]
  exact congrArg (fun x => Normed.entry x _ e) (funext hr)

end Cert.Comb3
-- ==== Proof.MergeStore.lean ====
module

public import proofs.«01_k».proof.Proof.Gen.MergeIdeal.Value
public import proofs.«01_k».proof.Proof.NormMath
public import Idealize.ShloMosaic.Lib.Pointwise
public import Idealize.ShloMosaic.Lib.StableHlo.RunRead
public import Idealize.ShloMosaic.Lib.Pipeline.ValueKit
public import Idealize.ShloMosaic.Lib.Pipeline.ReadBack
public import Idealize.ShloMosaic.Lib.Claim

@[expose] public section

set_option maxRecDepth 16384

noncomputable section

/-! # The merge of the dilation groups: what a grid point stores -/

namespace Cert.Merges
open Idealize.ShloMosaic Idealize.ShloMosaic.TcCoe Idealize.SL.Sem
open Cert.MergeIdeal Cert.MergeIdeal.Gen

/-- The head that a column belongs to, as a lane of the log-sum-exps. -/
def lane (e : Fin 1024) : Fin 128 := ⟨(e : ℕ) / 128, by omega⟩

/-- A block of the merged groups. -/
def mixed (x0 x1 x2 : Vec Ideal S256x1024 .f32) (x3 x4 x5 : Vec Ideal S256x128 .f32) : Vec Ideal S256x1024 .bf16 := fun i =>
  Normed.mixed (x3 (ix2 (i 0) (lane (i 1)))) (x4 (ix2 (i 0) (lane (i 1)))) (x5 (ix2 (i 0) (lane (i 1)))) (x0 i) (x1 i) (x2 i)

theorem hz2 : (![0, 0] : Fin 2 → Nat) = fun _ => 0 := funext fun a => by fin_cases a <;> rfl

/-- An entry of head `d`'s columns of the block. -/
theorem at_piece (x0 x1 x2 : Vec Ideal S256x1024 .f32) (x3 x4 x5 : Vec Ideal S256x128 .f32) (d : Fin 8) (a : Fin 256) (b : Fin 128)
    (i : S256x1024.Idx) (h0 : (i 0 : ℕ) = a) (h1 : (i 1 : ℕ) = d * 128 + b) : mixed x0 x1 x2 x3 x4 x5 i
      = Normed.mixed (x3 (ix2 a ⟨d, by omega⟩)) (x4 (ix2 a ⟨d, by omega⟩)) (x5 (ix2 a ⟨d, by omega⟩))
          (x0 (ix2 a ⟨d * 128 + b, by omega⟩)) (x1 (ix2 a ⟨d * 128 + b, by omega⟩)) (x2 (ix2 a ⟨d * 128 + b, by omega⟩)) := by
  have hd : (d : ℕ) * 128 + b < 1024 := by omega
  have hi : i = ix2 a ⟨d * 128 + b, hd⟩ := funext fun k => match k with | ⟨0, _⟩ => Fin.ext h0 | ⟨1, _⟩ => Fin.ext h1
  rw [hi]
  have hl : lane (⟨d * 128 + b, by omega⟩ : Fin 1024) = ⟨d, by omega⟩ := Fin.ext (by show ((d : ℕ) * 128 + b) / 128 = d; omega)
  show Normed.mixed (x3 (ix2 a (lane ⟨d * 128 + b, hd⟩))) (x4 (ix2 a (lane ⟨d * 128 + b, hd⟩))) (x5 (ix2 a (lane ⟨d * 128 + b, hd⟩))) _ _ _ = _
  rw [hl]

/-- The block left by a grid point: its eight stores, one for each head's columns. -/
theorem left (x0 x1 x2 : Vec Ideal S256x1024 .f32) (x3 x4 x5 : Vec Ideal S256x128 .f32) :
    out0_6 (F := Ideal) x0 x1 x2 x3 x4 x5 = mixed x0 x1 x2 x3 x4 x5 := by
  unfold out0_6 k0_pay21 k0_pay22 k0_pay23
  rw [View.ld_unit_zero hz2, View.ld_unit_zero hz2, View.ld_unit_zero hz2]
  funext y
  refine View.canon_apply_of_pieces (Val := Elt Ideal) (e := .bf16) (mixed x0 x1 x2 x3 x4 x5) _ ?_ y ?_
  · refine View.PiecesOf.mem (Val := Elt Ideal) (e := .bf16) (G := mixed x0 x1 x2 x3 x4 x5) ?_
    refine ⟨fun x => ?_, fun x => ?_, fun x => ?_, fun x => ?_, fun x => ?_, fun x => ?_, fun x => ?_, fun x => ?_, trivial⟩
    all_goals
      obtain ⟨a, b, rfl⟩ : ∃ (a : Fin 256) (b : Fin 128), x = ix2 a b :=
        ⟨x 0, x 1, funext fun a => match a with | ⟨0, _⟩ => rfl | ⟨1, _⟩ => rfl⟩
      pointwise [k0_pay1, k0_pay2, k0_pay3, k0_pay4, k0_pay5, k0_pay6, k0_pay7, k0_pay8, k0_pay9, k0_pay10, k0_pay11, k0_pay12, k0_pay13,
        k0_pay14, k0_pay15, k0_pay16, k0_pay17, k0_pay18, k0_pay19, k0_pay20]
    · exact (at_piece x0 x1 x2 x3 x4 x5 7 a b _ (by simp [Rect.emb, Rect.unit, LoadRect.idx]) (by simp [Rect.emb, Rect.unit, LoadRect.idx])).symm
    · exact (at_piece x0 x1 x2 x3 x4 x5 6 a b _ (by simp [Rect.emb, Rect.unit, LoadRect.idx]) (by simp [Rect.emb, Rect.unit, LoadRect.idx])).symm
    · exact (at_piece x0 x1 x2 x3 x4 x5 5 a b _ (by simp [Rect.emb, Rect.unit, LoadRect.idx]) (by simp [Rect.emb, Rect.unit, LoadRect.idx])).symm
    · exact (at_piece x0 x1 x2 x3 x4 x5 4 a b _ (by simp [Rect.emb, Rect.unit, LoadRect.idx]) (by simp [Rect.emb, Rect.unit, LoadRect.idx])).symm
    · exact (at_piece x0 x1 x2 x3 x4 x5 3 a b _ (by simp [Rect.emb, Rect.unit, LoadRect.idx]) (by simp [Rect.emb, Rect.unit, LoadRect.idx])).symm
    · exact (at_piece x0 x1 x2 x3 x4 x5 2 a b _ (by simp [Rect.emb, Rect.unit, LoadRect.idx]) (by simp [Rect.emb, Rect.unit, LoadRect.idx])).symm
    · exact (at_piece x0 x1 x2 x3 x4 x5 1 a b _ (by simp [Rect.emb, Rect.unit, LoadRect.idx]) (by simp [Rect.emb, Rect.unit, LoadRect.idx])).symm
    · refine Eq.trans ?_ (at_piece x0 x1 x2 x3 x4 x5 0 a b _ (by simp [Rect.emb, Rect.unit, LoadRect.idx]) (by simp [Rect.emb, Rect.unit, LoadRect.idx])).symm
      have hb : (⟨b, by omega⟩ : Fin 1024) = ⟨((0 : Fin 8) : ℕ) * 128 + b, by simp; omega⟩ := Fin.ext (by simp)
      rw [← hb]
      rfl
  · refine View.cover_of_tiledL _ ![256, 128] ?_ y
    sl_kernel_rfl

end Cert.Merges
-- ==== Proof.MergeRef.lean ====
module

public import proofs.«01_k».proof.Proof.Gen.MergeRefIdeal.Read
public import proofs.«01_k».proof.Proof.NormMath
public import Idealize.ShloMosaic.Lib.Pointwise
public import Idealize.ShloMosaic.Lib.Claim

@[expose] public section

set_option maxRecDepth 16384

noncomputable section

/-! # The reference of the merge, entry by entry -/

namespace Cert.Merges.Ref
open Idealize.ShloMosaic
open Cert.MergeRefIdeal Cert.MergeRefIdeal.Gen Cert.MergeRefIdeal.Read

variable (x0 x1 x2 : FVec Ideal S8192x1024 .f32) (x3 x4 x5 : FVec Ideal S8192x128 .f32)

theorem lse_at (g : Fin 3) (q : Fin 8192) (h : Fin 8) : val_main_v9 (F := Ideal) x3 x4 x5 (ix3 g q h)
    = (match g with | 0 => x3 (ix2 q ⟨h, by omega⟩) | 1 => x4 (ix2 q ⟨h, by omega⟩) | 2 => x5 (ix2 q ⟨h, by omega⟩)) := by
  fin_cases g
  all_goals pointwise [val_main_v9, val_main_v8, val_main_v7, val_main_v6, val_main_v5, val_main_v4, val_main_v3]

theorem top_at (q : Fin 8192) (h : Fin 8) : val_main_v12 (F := Ideal) x3 x4 x5 (ix2 q h)
    = Normed.top (x3 (ix2 q ⟨h, by omega⟩)) (x4 (ix2 q ⟨h, by omega⟩)) (x5 (ix2 q ⟨h, by omega⟩)) := by
  pointwise [val_main_v12, val_main_v11, val_main_v10, val_main_cst, val_main_cst_0]
  rw [show Ideal.ofBits .f32 4286578688#32 = (⊥ : EReal) by simp [Ideal.ofBits, Ideal.ieee],
    show (Finset.univ : Finset (Fin 3)) = insert 0 (insert 1 {2}) from rfl, Finset.fold_insert (by decide), Finset.fold_insert (by decide),
    Finset.fold_singleton, lse_at, lse_at, lse_at]
  simp only [Normed.top, max_bot_left, max_bot_right, bot_le, max_eq_left, max_eq_right, max_assoc]

theorem share_at (g : Fin 3) (q : Fin 8192) (h : Fin 8) : val_main_v20 (F := Ideal) x3 x4 x5 (ix3 g q h)
    = Normed.share (val_main_v9 (F := Ideal) x3 x4 x5 (ix3 g q h)) (x3 (ix2 q ⟨h, by omega⟩)) (x4 (ix2 q ⟨h, by omega⟩)) (x5 (ix2 q ⟨h, by omega⟩)) := by
  pointwise [val_main_v20, val_main_v19, val_main_v18, val_main_v17, val_main_v16, val_main_v15, val_main_v14, val_main_v13, val_main_cst_1]
  rw [Fin.sum_univ_three, top_at, lse_at x3 x4 x5 0, lse_at x3 x4 x5 1, lse_at x3 x4 x5 2]
  rfl

theorem out_at (g : Fin 3) (q : Fin 8192) (h : Fin 8) (e : Fin 128) (i : Fin 1024) (hi : (i : ℕ) = h * 128 + e) :
    val_main_v24 (F := Ideal) x0 x1 x2 (ix4 g q h e)
    = (match g with | 0 => x0 (ix2 q i) | 1 => x1 (ix2 q i) | 2 => x2 (ix2 q i)) := by
  have e0 : (⟨(h : ℕ) * 128 + e, by omega⟩ : Fin 1024) = i := Fin.ext hi.symm
  rw [← e0]
  fin_cases g
  all_goals pointwise [val_main_v24, val_main_v23, val_main_v22, val_main_v21, val_main_v2, val_main_v1, val_main_v0]

theorem ref_at (q : Fin 8192) (h : Fin 8) (e : Fin 128) (i : Fin 1024) (hi : (i : ℕ) = h * 128 + e) :
    val_main_v30 (F := Ideal) x0 x1 x2 x3 x4 x5 (ix2 q i)
    = Normed.mixed (x3 (ix2 q ⟨h, by omega⟩)) (x4 (ix2 q ⟨h, by omega⟩)) (x5 (ix2 q ⟨h, by omega⟩)) (x0 (ix2 q i)) (x1 (ix2 q i)) (x2 (ix2 q i)) := by
  have e1 : (⟨(i : ℕ) / 128, by omega⟩ : Fin 8) = h := Fin.ext (by show (i : ℕ) / 128 = h; omega)
  have e2 : (⟨(i : ℕ) % 128, by omega⟩ : Fin 128) = e := Fin.ext (by show (i : ℕ) % 128 = e; omega)
  pointwise [val_main_v30, val_main_v29, val_main_v28, val_main_v27, val_main_v26, val_main_v25, val_main_cst_2]
  rw [Fin.sum_univ_three, e1, e2, share_at, share_at, share_at, lse_at x3 x4 x5 0, lse_at x3 x4 x5 1, lse_at x3 x4 x5 2,
    out_at x0 x1 x2 0 q h e i hi, out_at x0 x1 x2 1 q h e i hi, out_at x0 x1 x2 2 q h e i hi]
  rfl

end Cert.Merges.Ref
-- ==== Proof.MergeArr.lean ====
module

public import proofs.«01_k».proof.Proof.MergeStore
public import proofs.«01_k».proof.Proof.MergeRef

@[expose] public section

set_option maxRecDepth 16384

noncomputable section

/-! # The merge of the dilation groups: what its result array holds -/

namespace Cert.Merges
open Idealize.ShloMosaic Idealize.ShloMosaic.TcCoe Idealize.SL.Sem
open Cert.MergeIdeal Cert.MergeIdeal.Gen

variable (m : (ℓ : Loc nD τ sig) → Buf (Elt Ideal) ℓ) (c : Dev nD)

abbrev a0 : FVec Ideal S8192x1024 .f32 := m ((c.tc : Thread nD τ).loc main_arg0)
abbrev a1 : FVec Ideal S8192x1024 .f32 := m ((c.tc : Thread nD τ).loc main_arg1)
abbrev a2 : FVec Ideal S8192x1024 .f32 := m ((c.tc : Thread nD τ).loc main_arg2)
abbrev a3 : FVec Ideal S8192x128 .f32 := m ((c.tc : Thread nD τ).loc main_arg3)
abbrev a4 : FVec Ideal S8192x128 .f32 := m ((c.tc : Thread nD τ).loc main_arg4)
abbrev a5 : FVec Ideal S8192x128 .f32 := m ((c.tc : Thread nD τ).loc main_arg5)

/-- Where each window's block lies at a grid point. -/
theorem places : ∀ t : Fin cfg0.N, ∃ s : Fin 32, (win0_0.index t 0 = s ∧ win0_0.index t 1 = 0)
    ∧ (win0_1.index t 0 = s ∧ win0_1.index t 1 = 0)
    ∧ (win0_2.index t 0 = s ∧ win0_2.index t 1 = 0)
    ∧ (win0_3.index t 0 = s ∧ win0_3.index t 1 = 0)
    ∧ (win0_4.index t 0 = s ∧ win0_4.index t 1 = 0)
    ∧ (win0_5.index t 0 = s ∧ win0_5.index t 1 = 0)
    ∧ (win0_6.index t 0 = s ∧ win0_6.index t 1 = 0) := by
  decide +kernel

theorem blk0 (t : Fin cfg0.N) (s : Fin 32) (e0 : win0_0.index t 0 = s) (e1 : win0_0.index t 1 = 0) (r : Fin 256) (k : Fin 1024)
    (q : Fin 8192) (hq : (q : ℕ) = s * 256 + r) : (iblk m c 0 t : Vec Ideal S256x1024 .f32) (ix2 r k) = a0 m c (ix2 q k) := by
  refine Eq.trans ?_ (congrFun (show (V m c main_arg0 : FVec Ideal S8192x1024 .f32) = a0 m c from V_main_arg0 m c) _)
  refine congrArg (V m c main_arg0 : FVec Ideal S8192x1024 .f32) ?_
  blk_ext [e0, e1, hq]

theorem blk1 (t : Fin cfg0.N) (s : Fin 32) (e0 : win0_1.index t 0 = s) (e1 : win0_1.index t 1 = 0) (r : Fin 256) (k : Fin 1024)
    (q : Fin 8192) (hq : (q : ℕ) = s * 256 + r) : (iblk m c 1 t : Vec Ideal S256x1024 .f32) (ix2 r k) = a1 m c (ix2 q k) := by
  refine Eq.trans ?_ (congrFun (show (V m c main_arg1 : FVec Ideal S8192x1024 .f32) = a1 m c from V_main_arg1 m c) _)
  refine congrArg (V m c main_arg1 : FVec Ideal S8192x1024 .f32) ?_
  blk_ext [e0, e1, hq]

theorem blk2 (t : Fin cfg0.N) (s : Fin 32) (e0 : win0_2.index t 0 = s) (e1 : win0_2.index t 1 = 0) (r : Fin 256) (k : Fin 1024)
    (q : Fin 8192) (hq : (q : ℕ) = s * 256 + r) : (iblk m c 2 t : Vec Ideal S256x1024 .f32) (ix2 r k) = a2 m c (ix2 q k) := by
  refine Eq.trans ?_ (congrFun (show (V m c main_arg2 : FVec Ideal S8192x1024 .f32) = a2 m c from V_main_arg2 m c) _)
  refine congrArg (V m c main_arg2 : FVec Ideal S8192x1024 .f32) ?_
  blk_ext [e0, e1, hq]

theorem blk3 (t : Fin cfg0.N) (s : Fin 32) (e0 : win0_3.index t 0 = s) (e1 : win0_3.index t 1 = 0) (r : Fin 256) (k : Fin 128)
    (q : Fin 8192) (hq : (q : ℕ) = s * 256 + r) : (iblk m c 3 t : Vec Ideal S256x128 .f32) (ix2 r k) = a3 m c (ix2 q k) := by
  refine Eq.trans ?_ (congrFun (show (V m c main_arg3 : FVec Ideal S8192x128 .f32) = a3 m c from V_main_arg3 m c) _)
  refine congrArg (V m c main_arg3 : FVec Ideal S8192x128 .f32) ?_
  blk_ext [e0, e1, hq]

theorem blk4 (t : Fin cfg0.N) (s : Fin 32) (e0 : win0_4.index t 0 = s) (e1 : win0_4.index t 1 = 0) (r : Fin 256) (k : Fin 128)
    (q : Fin 8192) (hq : (q : ℕ) = s * 256 + r) : (iblk m c 4 t : Vec Ideal S256x128 .f32) (ix2 r k) = a4 m c (ix2 q k) := by
  refine Eq.trans ?_ (congrFun (show (V m c main_arg4 : FVec Ideal S8192x128 .f32) = a4 m c from V_main_arg4 m c) _)
  refine congrArg (V m c main_arg4 : FVec Ideal S8192x128 .f32) ?_
  blk_ext [e0, e1, hq]

theorem blk5 (t : Fin cfg0.N) (s : Fin 32) (e0 : win0_5.index t 0 = s) (e1 : win0_5.index t 1 = 0) (r : Fin 256) (k : Fin 128)
    (q : Fin 8192) (hq : (q : ℕ) = s * 256 + r) : (iblk m c 5 t : Vec Ideal S256x128 .f32) (ix2 r k) = a5 m c (ix2 q k) := by
  refine Eq.trans ?_ (congrFun (show (V m c main_arg5 : FVec Ideal S8192x128 .f32) = a5 m c from V_main_arg5 m c) _)
  refine congrArg (V m c main_arg5 : FVec Ideal S8192x128 .f32) ?_
  blk_ext [e0, e1, hq]

abbrev G : Buf (Elt Ideal) ((c.tc : Thread nD τ).loc main_v0) :=
  Cert.MergeRefIdeal.Read.val_main_v30 (F := Ideal) (a0 m c) (a1 m c) (a2 m c) (a3 m c) (a4 m c) (a5 m c)

/-- The reference's result at an index with these coordinates. -/
theorem result_at (i : S8192x1024.Idx) (q : Fin 8192) (e : Fin 1024) (h0 : (i 0 : ℕ) = q) (h1 : (i 1 : ℕ) = e) :
    Cert.MergeRefIdeal.Read.val_main_v30 (F := Ideal) (a0 m c) (a1 m c) (a2 m c) (a3 m c) (a4 m c) (a5 m c) i
    = Normed.mixed (a3 m c (ix2 q (lane e))) (a4 m c (ix2 q (lane e))) (a5 m c (ix2 q (lane e))) (a0 m c (ix2 q e)) (a1 m c (ix2 q e)) (a2 m c (ix2 q e)) := by
  obtain rfl : i = ix2 q e := funext fun a => match a with | ⟨0, _⟩ => Fin.ext h0 | ⟨1, _⟩ => Fin.ext h1
  exact Ref.ref_at (a0 m c) (a1 m c) (a2 m c) (a3 m c) (a4 m c) (a5 m c) q ⟨(e : ℕ) / 128, by omega⟩ ⟨(e : ℕ) % 128, by omega⟩ e (by show (e : ℕ) = (e : ℕ) / 128 * 128 + (e : ℕ) % 128; omega)

/-- The result array ends holding the reference's result. -/
theorem final : (dats m 0 c).arrAt 6 cfg0.N = G m c := by
  refine (dats m 0 c).arrAt_eq_of_covers 6 _ (by decide +kernel) fun t hf y => ?_
  blk_simp
  rw [after0_6, left]
  obtain ⟨s, ⟨p0, p1⟩, ⟨q0, q1⟩, ⟨r0, r1⟩, ⟨k0, k1⟩, ⟨l0, l1⟩, ⟨n0, n1⟩, o0, o1⟩ := places t
  obtain ⟨r, e, rfl⟩ : ∃ (r : Fin 256) (e : Fin 1024), y = ix2 r e := ⟨y 0, y 1, funext fun a => match a with | ⟨0, _⟩ => rfl | ⟨1, _⟩ => rfl⟩
  obtain ⟨q, hq⟩ : ∃ q : Fin 8192, (q : ℕ) = s * 256 + r := ⟨⟨s * 256 + r, by omega⟩, rfl⟩
  have e0 : (((win0_6.blk t).view.emb (ix2 r e)) 0 : ℕ) = q := by blk_simp [o0, o1]; omega
  have e1 : (((win0_6.blk t).view.emb (ix2 r e)) 1 : ℕ) = e := by blk_simp [o0, o1]
  refine Eq.trans ?_ (result_at m c _ q e e0 e1).symm
  refine (show mixed _ _ _ _ _ _ (ix2 r e) = Normed.mixed ((iblk m c 3 t : Vec Ideal S256x128 .f32) (ix2 r (lane e)))
    ((iblk m c 4 t : Vec Ideal S256x128 .f32) (ix2 r (lane e))) ((iblk m c 5 t : Vec Ideal S256x128 .f32) (ix2 r (lane e)))
    ((iblk m c 0 t : Vec Ideal S256x1024 .f32) (ix2 r e)) ((iblk m c 1 t : Vec Ideal S256x1024 .f32) (ix2 r e))
    ((iblk m c 2 t : Vec Ideal S256x1024 .f32) (ix2 r e)) from rfl).trans ?_
  rw [blk0 m c t s p0 p1 r e q hq, blk1 m c t s q0 q1 r e q hq, blk2 m c t s r0 r1 r e q hq, blk3 m c t s k0 k1 r _ q hq,
    blk4 m c t s l0 l1 r _ q hq, blk5 m c t s n0 n1 r _ q hq]

end Cert.Merges
-- ==== Proof.GrpPre.lean ====
module

public import proofs.«01_k».proof.Proof.Gen.Pre_finite_group
public import proofs.«01_k».proof.Proof.AttPre

@[expose] public section

set_option maxRecDepth 16384

noncomputable section

/-! # What the group's precondition gives

Every entry of the queries, keys and values is a real number. -/

namespace Cert.GrpCp.Pre
open Idealize.ShloMosaic

instance : Subsingleton Cert.Pre_finite_group.S_.Idx := ⟨fun a b => funext fun i => i.elim0⟩

theorem reals (a0 a1 a2 : FVec Ideal Cert.Pre_finite_group.S4x2048x8x128 .f32)
    (h : Cert.Pre_finite_group.fn (F := Ideal) a0 a1 a2 = fun _ => 1#1) :
    (∀ i, ∃ r : ℝ, a0 i = (r : EReal)) ∧ (∀ i, ∃ r : ℝ, a1 i = (r : EReal)) ∧ ∀ i, ∃ r : ℝ, a2 i = (r : EReal) := by
  have h0 := congrFun h ix0
  unfold Cert.Pre_finite_group.fn at h0
  obtain ⟨h1, h2⟩ := IntOp.andi_eq_one.mp h0
  obtain ⟨h0, h1⟩ := IntOp.andi_eq_one.mp h1
  exact ⟨Att.Pre.real_of_all a0 _ (fun _ => Att.Pre.posInf) _ _ _ _ h0, Att.Pre.real_of_all a1 _ (fun _ => Att.Pre.posInf) _ _ _ _ h1,
    Att.Pre.real_of_all a2 _ (fun _ => Att.Pre.posInf) _ _ _ _ h2⟩

end Cert.GrpCp.Pre
-- ==== Proof.GrpEntry.lean ====
module

public import proofs.«01_k».proof.Proof.Gen.GrpCIdeal.Value
public import Idealize.ShloMosaic.Lib.Pointwise
public import Idealize.ShloMosaic.Lib.StableHlo.RunRead

@[expose] public section

set_option maxRecDepth 16384

noncomputable section

/-! # The array that the third group's attention reads, from the arguments -/

namespace Cert.GrpCp
open Idealize.ShloMosaic Idealize.ShloMosaic.TcCoe Idealize.SL.Sem
open Cert.GrpCIdeal Cert.GrpCIdeal.Gen

variable (m : (ℓ : Loc nD τ sig) → Buf (Elt Ideal) ℓ) (c : Dev nD)

abbrev a0 : FVec Ideal S4x2048x8x128 .f32 := m ((c.tc : Thread nD τ).loc main_arg0)
abbrev a1 : FVec Ideal S4x2048x8x128 .f32 := m ((c.tc : Thread nD τ).loc main_arg1)
abbrev a2 : FVec Ideal S4x2048x8x128 .f32 := m ((c.tc : Thread nD τ).loc main_arg2)

/-- The first 1024 columns: the queries over `log 2`. -/
theorem q_at (b : Fin 4) (t : Fin 2048) (h : Fin 8) (d : Fin 128) (r : Fin 16) (p : Fin 512) (j : Fin 3072) (hp : (p : ℕ) * 16 + r = b * 2048 + t)
    (hj : (j : ℕ) = h * 128 + d) : (V m c main_v9 : FVec Ideal S16x512x3072 .bf16) (ix3 r p j)
      = Ideal.div (a0 m c (ix4 b t h d)) (Ideal.log (Ideal.ofBits .f32 0x40000000#32)) := by
  unfold V
  unfold hostOps0
  after_reads_simp
  pointwise
  after_reads_simp
  pointwise
  rw [dif_pos (by omega)]
  refine congrArg₂ (fun u w => Ideal.div (a0 m c u) w) ?_ rfl
  refine funext fun a => match a with
    | ⟨0, _⟩ => Fin.ext ?_ | ⟨1, _⟩ => Fin.ext ?_ | ⟨2, _⟩ => Fin.ext ?_ | ⟨3, _⟩ => Fin.ext ?_
  · show ((p : ℕ) * 16 + r) / 2048 = b; omega
  · show ((p : ℕ) * 16 + r) % 2048 = t; omega
  · show ((j : ℕ)) / 128 = h; omega
  · show ((j : ℕ)) % 128 = d; omega

/-- The next 1024 columns: the keys. -/
theorem k_at (b : Fin 4) (t : Fin 2048) (h : Fin 8) (d : Fin 128) (r : Fin 16) (p : Fin 512) (j : Fin 3072) (hp : (p : ℕ) * 16 + r = b * 2048 + t)
    (hj : (j : ℕ) = 1024 + (h * 128 + d)) : (V m c main_v9 : FVec Ideal S16x512x3072 .bf16) (ix3 r p j) = a1 m c (ix4 b t h d) := by
  unfold V
  unfold hostOps0
  after_reads_simp
  pointwise
  after_reads_simp
  pointwise
  rw [dif_neg (by omega), dif_pos (by omega)]
  refine congrArg (a1 m c) ?_
  refine funext fun a => match a with
    | ⟨0, _⟩ => Fin.ext ?_ | ⟨1, _⟩ => Fin.ext ?_ | ⟨2, _⟩ => Fin.ext ?_ | ⟨3, _⟩ => Fin.ext ?_
  · show ((p : ℕ) * 16 + r) / 2048 = b; omega
  · show ((p : ℕ) * 16 + r) % 2048 = t; omega
  · show ((j : ℕ) - 1024) / 128 = h; omega
  · show ((j : ℕ) - 1024) % 128 = d; omega

/-- The last 1024 columns: the values. -/
theorem v_at (b : Fin 4) (t : Fin 2048) (h : Fin 8) (d : Fin 128) (r : Fin 16) (p : Fin 512) (j : Fin 3072) (hp : (p : ℕ) * 16 + r = b * 2048 + t)
    (hj : (j : ℕ) = 2048 + (h * 128 + d)) : (V m c main_v9 : FVec Ideal S16x512x3072 .bf16) (ix3 r p j) = a2 m c (ix4 b t h d) := by
  unfold V
  unfold hostOps0
  after_reads_simp
  pointwise
  after_reads_simp
  pointwise
  rw [dif_neg (by omega), dif_neg (by omega)]
  refine congrArg (a2 m c) ?_
  refine funext fun a => match a with
    | ⟨0, _⟩ => Fin.ext ?_ | ⟨1, _⟩ => Fin.ext ?_ | ⟨2, _⟩ => Fin.ext ?_ | ⟨3, _⟩ => Fin.ext ?_
  · show ((p : ℕ) * 16 + r) / 2048 = b; omega
  · show ((p : ℕ) * 16 + r) % 2048 = t; omega
  · show ((j : ℕ) - 1024 - 1024) / 128 = h; omega
  · show ((j : ℕ) - 1024 - 1024) % 128 = d; omega

end Cert.GrpCp
-- ==== Proof.GrpMath.lean ====
module

public import proofs.«01_k».proof.Proof.AttMath

@[expose] public section

noncomputable section

/-! # Attention over the keys near a query, in real numbers -/

namespace Cert.Group
open Idealize.ShloMosaic

/-- Scores with the keys outside `ok` at minus infinity. -/
def masked {n : ℕ} (ok : Fin n → Prop) [DecidablePred ok] (s : Fin n → ℝ) (k : Fin n) : EReal := if ok k then ((s k : ℝ) : EReal) else ⊥

/-- The unnormalised weights. -/
def wt {n : ℕ} (ok : Fin n → Prop) [DecidablePred ok] (s : Fin n → ℝ) (k : Fin n) : ℝ := if ok k then Real.exp (s k) else 0

/-- The greatest score. -/
def top {n : ℕ} (s : Fin n → EReal) : EReal := Finset.univ.fold max ⊥ s

/-- The kernel's output: weights as powers of two, divided by their sum at the end. -/
def out {n : ℕ} (s v : Fin n → EReal) : EReal :=
  Ideal.div (∑ k, Ideal.exp2 (s k - top s) * v k) (∑ k, Ideal.exp2 (s k - top s))

/-- The kernel's logarithm of the sum of the weights. -/
def lse {n : ℕ} (s : Fin n → EReal) : EReal :=
  (top s + Ideal.div (Ideal.log (∑ k, Ideal.exp2 (s k - top s))) ((Real.log 2 : ℝ) : EReal)) * ((Real.log 2 : ℝ) : EReal)

variable {n : ℕ} (ok : Fin n → Prop) [DecidablePred ok] (s v : Fin n → ℝ)

theorem wt_nonneg (k : Fin n) : 0 ≤ wt ok s k := by
  unfold wt
  split
  · exact (Real.exp_pos _).le
  · exact le_rfl

theorem wt_sum_pos (h : ∃ k, ok k) : 0 < ∑ k, wt ok s k := by
  obtain ⟨k, hk⟩ := h
  refine Finset.sum_pos' (fun j _ => wt_nonneg ok s j) ⟨k, Finset.mem_univ _, ?_⟩
  rw [wt, if_pos hk]
  exact Real.exp_pos _

/-- The greatest score is a real when some key is near. -/
theorem top_real (h : ∃ k, ok k) : ∃ M : ℝ, top (masked ok s) = (M : EReal) := by
  have key : ∀ f : Finset (Fin n), (f.fold max (⊥ : EReal) (masked ok s) = ⊥ ∧ ∀ k ∈ f, ¬ok k)
      ∨ ∃ M : ℝ, f.fold max (⊥ : EReal) (masked ok s) = (M : EReal) := by
    intro f
    induction f using Finset.induction_on with
    | empty => exact Or.inl ⟨rfl, by simp⟩
    | insert a f ha ih =>
      rw [Finset.fold_insert ha]
      by_cases hk : ok a
      · refine Or.inr ?_
        rw [masked, if_pos hk]
        rcases ih with ⟨h0, -⟩ | ⟨M, hM⟩
        · exact ⟨s a, by rw [h0]; simp⟩
        · exact ⟨max (s a) M, by rw [hM]; exact (EReal.coe_strictMono.monotone.map_max).symm⟩
      · rw [masked, if_neg hk, max_eq_right bot_le]
        rcases ih with ⟨h0, h1⟩ | h1
        · refine Or.inl ⟨h0, fun k hk' => ?_⟩
          rcases Finset.mem_insert.mp hk' with rfl | h2
          · exact hk
          · exact h1 k h2
        · exact Or.inr h1
  obtain ⟨k, hk⟩ := h
  exact (key Finset.univ).resolve_left fun h0 => h0.2 k (Finset.mem_univ _) hk

theorem exp2_term (M : ℝ) (k : Fin n) :
    Ideal.exp2 (masked ok (fun k => s k / Real.log 2) k - (M : EReal)) = ((wt ok s k * Real.exp (-(M * Real.log 2)) : ℝ) : EReal) := by
  unfold masked wt
  split
  · rw [Att.Soft.exp2_score, ← Real.exp_add, sub_eq_add_neg]
  · rw [EReal.bot_sub, Ideal.exp2_bot, zero_mul, EReal.coe_zero]

theorem exp_term (M : ℝ) (k : Fin n) : Ideal.exp (masked ok s k - (M : EReal)) = ((wt ok s k * Real.exp (-M) : ℝ) : EReal) := by
  unfold masked wt
  split
  · rw [← EReal.coe_sub, Ideal.exp_coe, ← Real.exp_add, sub_eq_add_neg]
  · rw [EReal.bot_sub, Ideal.exp_bot, zero_mul, EReal.coe_zero]

/-- The kernel's output is the values' mean under the weights. -/
theorem out_real (h : ∃ k, ok k) : out (masked ok fun k => s k / Real.log 2) (fun k => ((v k : ℝ) : EReal))
    = (((∑ k, wt ok s k * v k) / ∑ k, wt ok s k : ℝ) : EReal) := by
  obtain ⟨M, hM⟩ := top_real ok (fun k => s k / Real.log 2) h
  unfold out
  rw [hM]
  simp only [exp2_term, ← EReal.coe_mul, Att.Soft.coe_sum]
  have hp := Real.exp_pos (-(M * Real.log 2))
  have hw := wt_sum_pos ok s h
  rw [← Finset.sum_mul, Ideal.div_coe (mul_pos hw hp).ne', ← EReal.coe_mul]
  congr 1
  rw [mul_one_div, show (∑ k, wt ok s k * Real.exp (-(M * Real.log 2)) * v k) = (∑ k, wt ok s k * v k) * Real.exp (-(M * Real.log 2)) by
    rw [Finset.sum_mul]; exact Finset.sum_congr rfl fun k _ => by ring]
  exact mul_div_mul_right _ _ hp.ne'

/-- The kernel's logarithm is the logarithm of the sum of the weights. -/
theorem lse_real (h : ∃ k, ok k) : lse (masked ok fun k => s k / Real.log 2) = ((Real.log (∑ k, wt ok s k) : ℝ) : EReal) := by
  obtain ⟨M, hM⟩ := top_real ok (fun k => s k / Real.log 2) h
  unfold lse
  rw [hM]
  simp only [exp2_term, Att.Soft.coe_sum]
  have hp := Real.exp_pos (-(M * Real.log 2))
  have hw := wt_sum_pos ok s h
  have hl : Real.log 2 ≠ 0 := (Real.log_pos (by norm_num)).ne'
  rw [← Finset.sum_mul, Ideal.log_coe, if_neg (not_le.mpr (mul_pos hw hp)), Ideal.div_coe hl, ← EReal.coe_mul, ← EReal.coe_add, ← EReal.coe_mul]
  congr 1
  rw [Real.log_mul hw.ne' hp.ne', Real.log_exp]
  field_simp
  ring

/-- The reference's logarithm. -/
theorem ref_lse (h : ∃ k, ok k) (M : ℝ) :
    Ideal.log (∑ k, Ideal.exp (masked ok s k - (M : EReal))) + (M : EReal) = ((Real.log (∑ k, wt ok s k) : ℝ) : EReal) := by
  simp only [exp_term, Att.Soft.coe_sum]
  have hp := Real.exp_pos (-M)
  have hw := wt_sum_pos ok s h
  rw [← Finset.sum_mul, Ideal.log_coe, if_neg (not_le.mpr (mul_pos hw hp)), ← EReal.coe_add]
  congr 1
  rw [Real.log_mul hw.ne' hp.ne', Real.log_exp]
  ring

/-- The reference's sum of values under its weights. -/
theorem ref_out (h : ∃ k, ok k) :
    ∑ k, Ideal.exp (masked ok s k - ((Real.log (∑ k, wt ok s k) : ℝ) : EReal)) * ((v k : ℝ) : EReal)
      = (((∑ k, wt ok s k * v k) / ∑ k, wt ok s k : ℝ) : EReal) := by
  have hw := wt_sum_pos ok s h
  simp only [exp_term, ← EReal.coe_mul, Att.Soft.coe_sum]
  congr 1
  rw [Real.exp_neg, Real.exp_log hw, Finset.sum_div]
  exact Finset.sum_congr rfl fun k _ => by rw [div_eq_mul_inv]; ring

/-- Key `j` is within 64 of query `i`. -/
def near (i j : Fin 128) : Prop := (j : ℕ) ≤ i + 64 ∧ (i : ℕ) ≤ j + 64

instance (i : Fin 128) : DecidablePred (near i) := fun j => inferInstanceAs (Decidable ((j : ℕ) ≤ i + 64 ∧ (i : ℕ) ≤ j + 64))

/-- Offset `o` from query `i`, counted from -64, is a key. -/
def inside (i : Fin 128) (o : Fin 129) : Prop := 64 ≤ (i : ℕ) + o ∧ (i : ℕ) + o < 192

instance (i : Fin 128) : DecidablePred (inside i) := fun o => inferInstanceAs (Decidable (64 ≤ (i : ℕ) + o ∧ (i : ℕ) + o < 192))

theorem near_self (i : Fin 128) : ∃ j, near i j := ⟨i, by unfold near; omega⟩
theorem inside_mid (i : Fin 128) : ∃ o, inside i o := ⟨64, by unfold inside; show 64 ≤ (i : ℕ) + 64 ∧ (i : ℕ) + 64 < 192; omega⟩

/-- The offsets that are keys are the near keys. -/
theorem offsets (i : Fin 128) (f : Fin 129 → ℝ) (g : Fin 128 → ℝ)
    (hfg : ∀ (o : Fin 129) (j : Fin 128), (j : ℕ) + 64 = i + o → f o = g j) :
    (∑ o, if inside i o then f o else 0) = ∑ j, if near i j then g j else 0 := by
  rw [← Finset.sum_filter, ← Finset.sum_filter]
  refine Finset.sum_bij' (fun o ho => ⟨(i : ℕ) + o - 64, by have := (Finset.mem_filter.mp ho).2; unfold inside at this; omega⟩)
    (fun j hj => ⟨(j : ℕ) + 64 - i, by have := (Finset.mem_filter.mp hj).2; unfold near at this; omega⟩) ?_ ?_ ?_ ?_ ?_
  · intro o ho
    have := (Finset.mem_filter.mp ho).2
    refine Finset.mem_filter.mpr ⟨Finset.mem_univ _, ?_⟩
    unfold inside at this
    unfold near
    simp only
    omega
  · intro j hj
    have := (Finset.mem_filter.mp hj).2
    refine Finset.mem_filter.mpr ⟨Finset.mem_univ _, ?_⟩
    unfold near at this
    unfold inside
    simp only
    omega
  · intro o ho
    have := (Finset.mem_filter.mp ho).2
    unfold inside at this
    refine Fin.ext ?_
    simp only
    omega
  · intro j hj
    have := (Finset.mem_filter.mp hj).2
    unfold near at this
    refine Fin.ext ?_
    simp only
    omega
  · intro o ho
    have := (Finset.mem_filter.mp ho).2
    unfold inside at this
    refine hfg o _ ?_
    simp only
    omega

end Cert.Group
-- ==== Proof.GrpStore.lean ====
module

public import proofs.«01_k».proof.Proof.Gen.GrpCIdeal.Value
public import proofs.«01_k».proof.Proof.GrpMath
public import Idealize.ShloMosaic.Lib.Pointwise
public import Idealize.ShloMosaic.Lib.StableHlo.RunRead
public import Idealize.ShloMosaic.Lib.Pipeline.ValueKit
public import Idealize.ShloMosaic.Lib.Pipeline.ReadBack
public import Idealize.ShloMosaic.Lib.Claim

@[expose] public section

set_option maxRecDepth 16384

noncomputable section

/-! # The attention inside a dilation group: what a grid point stores -/

namespace Cert.GrpCp
open Idealize.ShloMosaic Idealize.ShloMosaic.TcCoe Idealize.SL.Sem
open Cert.GrpCIdeal Cert.GrpCIdeal.Gen Cert.Group

/-- One head's masked scores. -/
def score (M : IVec S128x128 1) (q k : Vec Ideal S1x128x128 .bf16) : FVec Ideal S128x128 .f32 :=
  select M (matmul dot_S128x128_S128x128_S128x128_1_1_0_0_n_n none (shapeCast S128x128 q shapeCasts_S1x128x128_S128x128 : FVec Ideal S128x128 .bf16)
    (shapeCast S128x128 k shapeCasts_S1x128x128_S128x128 : FVec Ideal S128x128 .bf16) (constant S128x128 .f32 0x00000000#32))
    (broadcast S128x128 (Named.named κ "mask" 0xF149F2CA#32 : Ideal .f32))

/-- The rows' greatest scores. -/
def tops (s : FVec Ideal S128x128 .f32) : FVec Ideal S128x1 .f32 :=
  shapeCast S128x1 (multiReduction .maximumf [1] S128 s 0xFF800000#32 reduces_S128x128_S128 (.inl rfl) rfl) shapeCasts_S128_S128x1

/-- The unnormalised weights. -/
def wts (s : FVec Ideal S128x128 .f32) : FVec Ideal S128x128 .f32 := exp2 (subf s (broadcastTo S128x128 (tops s) broadcasts_S128x1_S128x128))

/-- The rows' sums of weights. -/
def sums (s : FVec Ideal S128x128 .f32) : FVec Ideal S128x1 .f32 :=
  shapeCast S128x1 (multiReduction .add [1] S128 (wts s) 0x00000000#32 reduces_S128x128_S128 (.inl rfl) rfl) shapeCasts_S128_S128x1

/-- One head's output. -/
def outs (s : FVec Ideal S128x128 .f32) (v : Vec Ideal S1x128x128 .bf16) : FVec Ideal S128x128 .f32 :=
  divf (matmul dot_S128x128_S128x128_S128x128_1_0_0_1_n_n none (truncf .bf16 (wts s) bitsLt_bf16_f32)
    (shapeCast S128x128 v shapeCasts_S1x128x128_S128x128 : FVec Ideal S128x128 .bf16) (constant S128x128 .f32 0x00000000#32))
    (broadcastTo S128x128 (sums s) broadcasts_S128x1_S128x128)

/-- One head's logarithms of the sums. -/
def lses (s : FVec Ideal S128x128 .f32) : FVec Ideal S128x1 .f32 :=
  mulf (addf (tops s) (divf (log (sums s)) (broadcast S128x1 (Named.named κ "ln2" 0x3F317218#32 : Ideal .f32))))
    (broadcast S128x1 (Named.named κ "ln2" 0x3F317218#32 : Ideal .f32))

/-- The lane `d` set to a column. -/
def put (d : BitVec 32) (l : FVec Ideal S128x1 .f32) (p : FVec Ideal S128x128 .f32) : FVec Ideal S128x128 .f32 :=
  select (cmpi .eq (iota .tc S128x128 32 [1] iota_S128x128_d1_w32) (broadcast S128x128 d))
    (broadcastTo S128x128 (shapeCast S128x1 l shapeCasts_S128x1_S128x1 : FVec Ideal S128x1 .f32) broadcasts_S128x1_S128x128) p

theorem score_at (M : IVec S128x128 1) (q k : Vec Ideal S1x128x128 .bf16) (r j : Fin 128) :
    score M q k (ix2 r j) = if M (ix2 r j) = 1#1 then ∑ d : Fin 128, q (ix3 0 r d) * k (ix3 0 j d) else ⊥ := by
  pointwise [score]
  rfl

theorem outs_at (s : FVec Ideal S128x128 .f32) (v : Vec Ideal S1x128x128 .bf16) (r e : Fin 128) :
    outs s v (ix2 r e) = out (fun j : Fin 128 => s (ix2 r j)) (fun j => v (ix3 0 j e)) := by
  pointwise [outs, sums, wts, tops]
  rw [Att.Soft.negInf]
  rfl

theorem lses_at (s : FVec Ideal S128x128 .f32) (r : Fin 128) : lses s (ix2 r 0) = lse fun j : Fin 128 => s (ix2 r j) := by
  pointwise [lses, sums, wts, tops]
  rw [Att.Soft.negInf]
  rfl

theorem put_at (d : BitVec 32) (l : FVec Ideal S128x1 .f32) (p : FVec Ideal S128x128 .f32) (r k : Fin 128) :
    put d l p (ix2 r k) = if BitVec.ofNat 32 k = d then l (ix2 r 0) else p (ix2 r k) := by
  unfold put
  show (if (cmpi .eq (iota .tc S128x128 32 [1] iota_S128x128_d1_w32) (broadcast S128x128 d)) (ix2 r k) = 1#1 then _ else _) = _
  have h : (cmpi .eq (iota .tc S128x128 32 [1] iota_S128x128_d1_w32) (broadcast S128x128 d)) (ix2 r k) = BitVec.ofBool (BitVec.ofNat 32 k == d) := by
    show BitVec.ofBool (BitVec.ofNat 32 (0 * 128 + (k : ℕ)) == d) = _
    rw [zero_mul, zero_add]
  rw [h]
  by_cases hk : BitVec.ofNat 32 (k : ℕ) = d
  · rw [if_pos hk, hk]
    simp only [beq_self_eq_true, BitVec.ofBool_true]
    pointwise
    exact if_pos rfl
  · rw [if_neg hk, beq_false_of_ne hk]
    rfl

theorem mask_at (i : grid0.Coords) (r j : Fin 128) : k0_pay3 i (ix2 r j) = if near r j then 1#1 else 0#1 := by
  have h2 : (i 2).val = 0 := by
    have : (i 2).val < 1 := (i 2).isLt
    omega
  unfold k0_pay3
  rw [h2]
  clear h2
  revert r j
  decide +kernel

theorem ld_at (x : Vec Ideal S1x128x1024 .bf16) (off : Fin 3 → ℕ) (h) (o : ℕ) (ho : off = ![0, 0, o]) (r d : Fin 128) (k : Fin 1024)
    (hk : (k : ℕ) = o + d) : (View.ld x (Rect.unit (s := S1x128x1024) off ![1, 128, 128] h) : Vec Ideal S1x128x128 .bf16) (ix3 0 r d) = x (ix3 0 r k) := by
  subst ho
  refine congrArg x (funext fun a => match a with | ⟨0, _⟩ => Fin.ext ?_ | ⟨1, _⟩ => Fin.ext ?_ | ⟨2, _⟩ => Fin.ext ?_)
  · rfl
  · show 0 + 1 * (r : ℕ) = r
    omega
  · show o + 1 * (d : ℕ) = k
    omega

variable (m : (ℓ : Loc nD τ sig) → Buf (Elt Ideal) ℓ) (c : Dev nD)

/-- A head's columns of a block. -/
def cols (x : Vec Ideal S1x128x1024 .bf16) (h : Fin 8) : Vec Ideal S1x128x128 .bf16 := fun y =>
  x (ix3 0 (y 1) ⟨(h : ℕ) * 128 + (y 2 : Fin 128), by have : ((y 2 : Fin 128) : ℕ) < 128 := (y 2 : Fin 128).isLt; omega⟩)

theorem ld_cols (x : Vec Ideal S1x128x1024 .bf16) (off : Fin 3 → ℕ) (i) (h : Fin 8) (ho : off = ![0, 0, (h : ℕ) * 128]) :
    (View.ld x (Rect.unit (s := S1x128x1024) off ![1, 128, 128] i) : Vec Ideal S1x128x128 .bf16) = cols x h := by
  funext y
  obtain ⟨a, b, e, rfl⟩ : ∃ (a : Fin 1) (b : Fin 128) (e : Fin 128), y = ix3 a b e :=
    ⟨y 0, y 1, y 2, funext fun a => match a with | ⟨0, _⟩ => rfl | ⟨1, _⟩ => rfl | ⟨2, _⟩ => rfl⟩
  have ha : a = 0 := Subsingleton.elim _ _
  rw [ha]
  exact ld_at x off i _ ho b e _ rfl

/-- The second grid coordinate's words are zero: the window is the whole sequence. -/
theorem off_at (i : grid0.Coords) : k0_off1 i = ![0, 0, 0] ∧ k0_off2 i = ![0, 0, 128] ∧ k0_off3 i = ![0, 0, 256] ∧ k0_off4 i = ![0, 0, 384]
    ∧ k0_off5 i = ![0, 0, 512] ∧ k0_off6 i = ![0, 0, 640] ∧ k0_off7 i = ![0, 0, 768] ∧ k0_off8 i = ![0, 0, 896] := by
  have h2 : (i 2).val = 0 := by
    have : (i 2).val < 1 := (i 2).isLt
    omega
  unfold k0_off1 k0_off2 k0_off3 k0_off4 k0_off5 k0_off6 k0_off7 k0_off8
  rw [h2]
  decide +kernel

/-- A block's masked scores of head `h`. -/
abbrev sc (t : Fin cfg0.N) (h : Fin 8) : FVec Ideal S128x128 .f32 :=
  score (k0_pay3 (grid0.coords t)) (cols (iblk m c 0 t) h) (cols (iblk m c 1 t) h)

/-- The block of outputs that a point leaves. -/
def Gout (t : Fin cfg0.N) : Vec Ideal S128x1024 .f32 := fun y =>
  outs (sc m c t ⟨((y 1 : Fin 1024) : ℕ) / 128, by have : ((y 1 : Fin 1024) : ℕ) < 1024 := (y 1 : Fin 1024).isLt; omega⟩)
    (cols (iblk m c 2 t) ⟨((y 1 : Fin 1024) : ℕ) / 128, by have : ((y 1 : Fin 1024) : ℕ) < 1024 := (y 1 : Fin 1024).isLt; omega⟩)
    (ix2 (y 0) ⟨((y 1 : Fin 1024) : ℕ) % 128, by omega⟩)

theorem Gout_at (t : Fin cfg0.N) (h : Fin 8) (r e : Fin 128) (y : S128x1024.Idx) (h0 : (y 0 : ℕ) = r) (h1 : (y 1 : ℕ) = h * 128 + e) :
    Gout m c t y = outs (sc m c t h) (cols (iblk m c 2 t) h) (ix2 r e) := by
  have hy : y = ix2 r ⟨(h : ℕ) * 128 + e, by omega⟩ := funext fun k => match k with | ⟨0, _⟩ => Fin.ext h0 | ⟨1, _⟩ => Fin.ext h1
  rw [hy]
  have e1 : (⟨((h : ℕ) * 128 + e) / 128, by omega⟩ : Fin 8) = h := Fin.ext (by show ((h : ℕ) * 128 + e) / 128 = h; omega)
  have e2 : (⟨((h : ℕ) * 128 + e) % 128, by omega⟩ : Fin 128) = e := Fin.ext (by show ((h : ℕ) * 128 + e) % 128 = e; omega)
  show outs (sc m c t ⟨((h : ℕ) * 128 + e) / 128, _⟩) (cols (iblk m c 2 t) ⟨((h : ℕ) * 128 + e) / 128, _⟩) (ix2 r ⟨((h : ℕ) * 128 + e) % 128, _⟩) = _
  rw [e1, e2]

/-- The logarithms' block that a point leaves. -/
theorem left1 (t : Fin cfg0.N) : (outsAt0 m c t).2 = put 7#32 (lses (sc m c t 7)) (put 6#32 (lses (sc m c t 6)) (put 5#32 (lses (sc m c t 5))
    (put 4#32 (lses (sc m c t 4)) (put 3#32 (lses (sc m c t 3)) (put 2#32 (lses (sc m c t 2)) (put 1#32 (lses (sc m c t 1))
      (put 0#32 (lses (sc m c t 0)) (k0_pay4 (F := Ideal))))))))) := by
  unfold outsAt0
  frame_out
  obtain ⟨o1, o2, o3, o4, o5, o6, o7, o8⟩ := off_at (grid0.coords t)
  rw [ld_cols _ _ _ 0 o1, ld_cols _ _ _ 1 o2, ld_cols _ _ _ 2 o3, ld_cols _ _ _ 3 o4, ld_cols _ _ _ 4 o5, ld_cols _ _ _ 5 o6,
    ld_cols _ _ _ 6 o7, ld_cols _ _ _ 7 o8, ld_cols _ ![0, 0, 0] _ 0 rfl, ld_cols _ ![0, 0, 128] _ 1 rfl, ld_cols _ ![0, 0, 256] _ 2 rfl,
    ld_cols _ ![0, 0, 384] _ 3 rfl, ld_cols _ ![0, 0, 512] _ 4 rfl, ld_cols _ ![0, 0, 640] _ 5 rfl, ld_cols _ ![0, 0, 768] _ 6 rfl,
    ld_cols _ ![0, 0, 896] _ 7 rfl]
  rfl

/-- The outputs' block that a point leaves: eight stores, one for each head's columns. -/
theorem left0 (t : Fin cfg0.N) : (outsAt0 m c t).1 = Gout m c t := by
  unfold outsAt0
  frame_out
  obtain ⟨o1, o2, o3, o4, o5, o6, o7, o8⟩ := off_at (grid0.coords t)
  rw [ld_cols _ _ _ 0 o1, ld_cols _ _ _ 0 o1, ld_cols _ _ _ 1 o2, ld_cols _ _ _ 1 o2, ld_cols _ _ _ 2 o3, ld_cols _ _ _ 2 o3, ld_cols _ _ _ 3 o4,
    ld_cols _ _ _ 3 o4, ld_cols _ _ _ 4 o5, ld_cols _ _ _ 4 o5, ld_cols _ _ _ 5 o6, ld_cols _ _ _ 5 o6,
    ld_cols _ _ _ 6 o7, ld_cols _ _ _ 6 o7, ld_cols _ _ _ 7 o8, ld_cols _ _ _ 7 o8, ld_cols _ ![0, 0, 0] _ 0 rfl, ld_cols _ ![0, 0, 128] _ 1 rfl, ld_cols _ ![0, 0, 256] _ 2 rfl,
    ld_cols _ ![0, 0, 384] _ 3 rfl, ld_cols _ ![0, 0, 512] _ 4 rfl, ld_cols _ ![0, 0, 640] _ 5 rfl, ld_cols _ ![0, 0, 768] _ 6 rfl,
    ld_cols _ ![0, 0, 896] _ 7 rfl]
  funext y
  refine View.canon_apply_of_pieces (Val := Elt Ideal) (e := .f32) (Gout m c t) _ ?_ y ?_
  · refine View.PiecesOf.mem (Val := Elt Ideal) (e := .f32) (G := Gout m c t) ?_
    refine ⟨fun x => ?_, fun x => ?_, fun x => ?_, fun x => ?_, fun x => ?_, fun x => ?_, fun x => ?_, fun x => ?_, trivial⟩
    all_goals
      obtain ⟨a, b, rfl⟩ : ∃ (a : Fin 128) (b : Fin 128), x = ix2 a b :=
        ⟨x 0, x 1, funext fun a => match a with | ⟨0, _⟩ => rfl | ⟨1, _⟩ => rfl⟩
    · exact (Gout_at m c t 7 a b _ (by simp [Rect.emb, Rect.unit, LoadRect.idx]) (by simp [Rect.emb, Rect.unit, LoadRect.idx])).symm
    · exact (Gout_at m c t 6 a b _ (by simp [Rect.emb, Rect.unit, LoadRect.idx]) (by simp [Rect.emb, Rect.unit, LoadRect.idx])).symm
    · exact (Gout_at m c t 5 a b _ (by simp [Rect.emb, Rect.unit, LoadRect.idx]) (by simp [Rect.emb, Rect.unit, LoadRect.idx])).symm
    · exact (Gout_at m c t 4 a b _ (by simp [Rect.emb, Rect.unit, LoadRect.idx]) (by simp [Rect.emb, Rect.unit, LoadRect.idx])).symm
    · exact (Gout_at m c t 3 a b _ (by simp [Rect.emb, Rect.unit, LoadRect.idx]) (by simp [Rect.emb, Rect.unit, LoadRect.idx])).symm
    · exact (Gout_at m c t 2 a b _ (by simp [Rect.emb, Rect.unit, LoadRect.idx]) (by simp [Rect.emb, Rect.unit, LoadRect.idx])).symm
    · exact (Gout_at m c t 1 a b _ (by simp [Rect.emb, Rect.unit, LoadRect.idx]) (by simp [Rect.emb, Rect.unit, LoadRect.idx])).symm
    · exact (Gout_at m c t 0 a b _ (by simp [Rect.emb, Rect.unit, LoadRect.idx]) (by simp [Rect.emb, Rect.unit, LoadRect.idx])).symm
  · refine View.cover_of_tiledL _ ![128, 128] ?_ y
    sl_kernel_rfl

end Cert.GrpCp
-- ==== Proof.GrpRef.lean ====
module

public import proofs.«01_k».proof.Proof.Gen.GrpCRefIdeal.Read
public import proofs.«01_k».proof.Proof.GrpMath
public import Idealize.ShloMosaic.Lib.Pointwise
public import Idealize.ShloMosaic.Lib.Claim

@[expose] public section

set_option maxRecDepth 16384

noncomputable section

/-! # The reference of the attention inside the third dilation group, entry by entry -/

namespace Cert.GrpCp.Ref
open Idealize.ShloMosaic
open Cert.GrpCRefIdeal Cert.GrpCRefIdeal.Gen Cert.GrpCRefIdeal.Read Cert.Group

/-- The word of the key that offset `o` of query `q` names. -/
abbrev word (q : Fin 2048) (o : Fin 129) : BitVec 32 := BitVec.ofNat 32 q + 16#32 * (4294967232#32 + BitVec.ofNat 32 o)

theorem v10_at (q : Fin 2048) (o : Fin 129) : val_main_v10 (F := Ideal) (ix2 q o) = word q o := by
  pointwise [val_main_v10, val_main_v9, val_main_v8, val_main_v7, val_main_v6, val_main_v5, val_main_v4, val_main_v3, val_main_v2, val_main_v1,
    val_main_v0, val_main_c, val_main_c_0]
  rfl

theorem word_int (q : Fin 2048) (o : Fin 129) : (word q o).toInt = (q : ℤ) + 16 * ((o : ℤ) - 64) := by
  have hq := q.isLt
  have ho := o.isLt
  have h : (word q o).toNat = ((q : ℕ) + 16 * ((4294967232 + (o : ℕ)) % 4294967296) % 4294967296) % 4294967296 := by
    simp only [word, BitVec.toNat_add, BitVec.toNat_mul, BitVec.toNat_ofNat]
    omega
  rw [BitVec.toInt_eq_toNat_cond, h]
  split <;> omega

theorem v15_at (q : Fin 2048) (o : Fin 129) (i : Fin 128) (r : Fin 16) (hq : (q : ℕ) = 16 * i + r) :
    val_main_v15 (F := Ideal) (ix2 q o) = if inside i o then 1#1 else 0#1 := by
  pointwise [val_main_v15, val_main_v14, val_main_v13, val_main_v12, val_main_v11, val_main_c_1, val_main_c_2]
  rw [v10_at]
  have hw := word_int q o
  show BitVec.ofBool ((0#32).sle (word q o)) &&& BitVec.ofBool ((word q o).slt 2048#32) = _
  rw [BitVec.sle_eq_decide, BitVec.slt_eq_decide, hw]
  have h0 : (0#32).toInt = 0 := rfl
  have h1 : (2048#32).toInt = 2048 := rfl
  rw [h0, h1]
  by_cases h2 : 64 ≤ (i : ℕ) + o
  · by_cases h3 : (i : ℕ) + o < 192
    · rw [decide_eq_true (by omega), decide_eq_true (by omega), if_pos ⟨h2, h3⟩]
      rfl
    · rw [decide_eq_true (by omega), decide_eq_false (by omega), if_neg (fun h : inside i o => h3 h.2)]
      rfl
  · rw [decide_eq_false (by omega), if_neg (fun h : inside i o => h2 h.1)]
    exact BitVec.zero_and

/-- The key that offset `o` of query `q` reads. -/
def at_ (q : Fin 2048) (o : Fin 129) : Fin 2048 := ⟨min (val_main_v16 (F := Ideal) (ix2 q o)).toInt.toNat 2047, by omega⟩

theorem at_inside (q : Fin 2048) (o : Fin 129) (i j : Fin 128) (r : Fin 16) (hq : (q : ℕ) = 16 * i + r) (hj : (j : ℕ) + 64 = i + o) :
    (at_ q o : ℕ) = 16 * j + r := by
  unfold at_
  have hv : val_main_v16 (F := Ideal) (ix2 q o) = word q o := by
    pointwise [val_main_v16, val_main_call0_v0, val_main_call0_v1, val_main_call0_v2, val_main_call0_v3, val_main_call0_v4, val_main_c_3, val_main_c_4]
    rw [v10_at]
    have hw := word_int q o
    show IntOp.minsi 2047#32 (IntOp.maxsi 0#32 (word q o)) = word q o
    have h0 : (0#32).toInt = 0 := rfl
    have h1 : (2047#32).toInt = 2047 := rfl
    have a1 : IntOp.maxsi 0#32 (word q o) = word q o := by
      unfold IntOp.maxsi
      rw [BitVec.slt_eq_decide, hw, h0, decide_eq_false (by omega)]
      rfl
    rw [a1]
    unfold IntOp.minsi
    rw [BitVec.slt_eq_decide, hw, h1, decide_eq_false (by omega)]
    rfl
  show min (val_main_v16 (F := Ideal) (ix2 q o)).toInt.toNat 2047 = _
  rw [hv, word_int]
  omega

variable (x0 x1 x2 : FVec Ideal S4x2048x8x128 .f32)

theorem gather_at (x : FVec Ideal S4x2048x8x128 .f32) (w : IVec S2048x129x1 32) (b : Fin 4) (q : Fin 2048) (o : Fin 129) (h : Fin 8) (d : Fin 128) :
    Host.gather gather_S4x2048x8x128_S2048x129x1_S4x2048x129x8x128_034_1_n_n_1_2_418128 x w (ix5 b q o h d)
      = x (ix4 b ⟨min (w (ix3 q o 0)).toInt.toNat 2047, by omega⟩ h d) := by
  unfold Host.gather
  refine congrArg x (funext fun a => Fin.ext ?_)
  show (gather_S4x2048x8x128_S2048x129x1_S4x2048x129x8x128_034_1_n_n_1_2_418128 : GatherDims _ _ _).start (ix5 b q o h d) w a
    + (gather_S4x2048x8x128_S2048x129x1_S4x2048x129x8x128_034_1_n_n_1_2_418128 : GatherDims _ _ _).batchCoord (ix5 b q o h d) a
    + (gather_S4x2048x8x128_S2048x129x1_S4x2048x129x8x128_034_1_n_n_1_2_418128 : GatherDims _ _ _).offCoord (ix5 b q o h d) a = _
  rw [GatherDims.batchCoord_eq_zero _ _ _ List.not_mem_nil]
  have h4 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h4 with rfl | rfl | rfl | rfl
  · have hn : (0 : Fin 4) ∉ ([1] : List (Fin 4)) := by decide
    have hs : (0 : Fin 4) ∉ (gather_S4x2048x8x128_S2048x129x1_S4x2048x129x8x128_034_1_n_n_1_2_418128 : GatherDims _ _ _).startIndexMap := hn
    unfold GatherDims.start
    rw [dif_neg hs]
    unfold GatherDims.offCoord
    rw [dif_pos ((GatherDims.mem_sKept _ _).mpr ⟨hn, List.not_mem_nil⟩)]
    simp only [Nat.zero_add, Nat.add_zero]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 4) ∈ (gather_S4x2048x8x128_S2048x129x1_S4x2048x129x8x128_034_1_n_n_1_2_418128 : GatherDims _ _ _).startIndexMap from List.mem_singleton.mpr rfl)]
    refine congrArg (fun u => min (w u).toInt.toNat 2047) (funext fun k => Fin.ext ?_)
    match k with
    | ⟨0, _⟩ => rfl
    | ⟨1, _⟩ => rfl
    | ⟨2, _⟩ => rfl
  · have hn : (2 : Fin 4) ∉ ([1] : List (Fin 4)) := by decide
    have hs : (2 : Fin 4) ∉ (gather_S4x2048x8x128_S2048x129x1_S4x2048x129x8x128_034_1_n_n_1_2_418128 : GatherDims _ _ _).startIndexMap := hn
    unfold GatherDims.start
    rw [dif_neg hs]
    unfold GatherDims.offCoord
    rw [dif_pos ((GatherDims.mem_sKept _ _).mpr ⟨hn, List.not_mem_nil⟩)]
    simp only [Nat.zero_add, Nat.add_zero]
    rfl
  · have hn : (3 : Fin 4) ∉ ([1] : List (Fin 4)) := by decide
    have hs : (3 : Fin 4) ∉ (gather_S4x2048x8x128_S2048x129x1_S4x2048x129x8x128_034_1_n_n_1_2_418128 : GatherDims _ _ _).startIndexMap := hn
    unfold GatherDims.start
    rw [dif_neg hs]
    unfold GatherDims.offCoord
    rw [dif_pos ((GatherDims.mem_sKept _ _).mpr ⟨hn, List.not_mem_nil⟩)]
    simp only [Nat.zero_add, Nat.add_zero]
    rfl

theorem v17_at (b : Fin 4) (q : Fin 2048) (o : Fin 129) (h : Fin 8) (d : Fin 128) : val_main_v17 (F := Ideal) x1 (ix5 b q o h d)
    = x1 (ix4 b (at_ q o) h d) := by
  unfold val_main_v17
  rw [gather_at]
  rfl

theorem v18_at (b : Fin 4) (q : Fin 2048) (o : Fin 129) (h : Fin 8) (d : Fin 128) : val_main_v18 (F := Ideal) x2 (ix5 b q o h d)
    = x2 (ix4 b (at_ q o) h d) := by
  unfold val_main_v18
  rw [gather_at]
  rfl

/-- The token of row `i` in the class `r`. -/
def tok (i : Fin 128) (r : Fin 16) : Fin 2048 := ⟨16 * (i : ℕ) + r, by omega⟩

/-- The score of query `i` and key `j` of the class `r`. -/
def sco (X0 X1 : S4x2048x8x128.Idx → ℝ) (b : Fin 4) (h : Fin 8) (r : Fin 16) (i j : Fin 128) : ℝ :=
  ∑ d : Fin 128, X0 (ix4 b (tok i r) h d) * X1 (ix4 b (tok j r) h d)

/-- The sum of the weights of query `i`. -/
def den (X0 X1 : S4x2048x8x128.Idx → ℝ) (b : Fin 4) (h : Fin 8) (r : Fin 16) (i : Fin 128) : ℝ :=
  ∑ j : Fin 128, wt (near i) (sco X0 X1 b h r i) j

/-- The weighted values of query `i`. -/
def num (X0 X1 X2 : S4x2048x8x128.Idx → ℝ) (b : Fin 4) (h : Fin 8) (r : Fin 16) (i e : Fin 128) : ℝ :=
  ∑ j : Fin 128, wt (near i) (sco X0 X1 b h r i) j * X2 (ix4 b (tok j r) h e)

/-- The score at an offset, as the reference forms it. -/
def osc (X0 X1 : S4x2048x8x128.Idx → ℝ) (b : Fin 4) (h : Fin 8) (r : Fin 16) (i : Fin 128) (o : Fin 129) : ℝ :=
  ∑ d : Fin 128, X0 (ix4 b (tok i r) h d) * X1 (ix4 b (at_ (tok i r) o) h d)

theorem at_tok (i j : Fin 128) (r : Fin 16) (o : Fin 129) (hj : (j : ℕ) + 64 = i + o) : at_ (tok i r) o = tok j r :=
  Fin.ext (at_inside (tok i r) o i j r rfl hj)

theorem den_eq (X0 X1 : S4x2048x8x128.Idx → ℝ) (b : Fin 4) (h : Fin 8) (r : Fin 16) (i : Fin 128) :
    (∑ o : Fin 129, wt (inside i) (osc X0 X1 b h r i) o) = den X0 X1 b h r i := by
  refine offsets i (fun o => Real.exp (osc X0 X1 b h r i o)) (fun j => Real.exp (sco X0 X1 b h r i j)) fun o j hj => ?_
  simp only [osc, sco, at_tok i j r o hj]

theorem num_eq (X0 X1 X2 : S4x2048x8x128.Idx → ℝ) (b : Fin 4) (h : Fin 8) (r : Fin 16) (i e : Fin 128) :
    (∑ o : Fin 129, wt (inside i) (osc X0 X1 b h r i) o * X2 (ix4 b (at_ (tok i r) o) h e)) = num X0 X1 X2 b h r i e := by
  unfold num wt
  simp only [ite_mul, zero_mul]
  refine offsets i (fun o => Real.exp (osc X0 X1 b h r i o) * X2 (ix4 b (at_ (tok i r) o) h e))
    (fun j => Real.exp (sco X0 X1 b h r i j) * X2 (ix4 b (tok j r) h e)) fun o j hj => ?_
  simp only [osc, sco, at_tok i j r o hj]

variable (X0 X1 X2 : S4x2048x8x128.Idx → ℝ) (g0 : ∀ i, x0 i = (X0 i : EReal)) (g1 : ∀ i, x1 i = (X1 i : EReal)) (g2 : ∀ i, x2 i = (X2 i : EReal))

include g0 g1

/-- The masked scores. -/
theorem v21_at (b : Fin 4) (h : Fin 8) (r : Fin 16) (i : Fin 128) (o : Fin 129) :
    val_main_v21 (F := Ideal) x0 x1 (ix4 b (tok i r) h o) = masked (inside i) (osc X0 X1 b h r i) o := by
  pointwise [val_main_v21, val_main_call3_v0, val_main_call3_v1, val_main_call3_v2, val_main_cst, val_main_v20, val_main_v19]
  rw [v15_at (tok i r) o i r rfl]
  have hb : (id (constant (F := Ideal) S_ .f32 4286578688#32) ix0 : EReal) = ⊥ := by
    show Ideal.ofBits .f32 4286578688#32 = ⊥
    simp [Ideal.ofBits, Ideal.ieee]
  have hs : (∑ d : Fin 128, x0 (ix4 b (tok i r) h d) * val_main_v17 (F := Ideal) x1 (ix5 b (tok i r) o h d)) = ((osc X0 X1 b h r i o : ℝ) : EReal) := by
    simp only [v17_at, g0, g1, ← EReal.coe_mul, Att.Soft.coe_sum]
    rfl
  rw [hb, hs]
  unfold masked
  by_cases hi : inside i o
  · rw [if_pos hi, if_pos hi]
    exact if_pos rfl
  · rw [if_neg hi, if_neg hi]
    rfl

/-- The logarithms of the sums. -/
theorem v29_at (b : Fin 4) (h : Fin 8) (r : Fin 16) (i : Fin 128) :
    val_main_v29 (F := Ideal) x0 x1 (ix3 b (tok i r) h) = ((Real.log (den X0 X1 b h r i) : ℝ) : EReal) := by
  pointwise [val_main_v29, val_main_v28, val_main_v27, val_main_v26, val_main_v25, val_main_v24, val_main_v23, val_main_v22, val_main_cst_5, val_main_cst_6]
  have hb : (Ideal.ofBits .f32 4286578688#32 : EReal) = ⊥ := by simp [Ideal.ofBits, Ideal.ieee]
  obtain ⟨M, hM⟩ := top_real (inside i) (osc X0 X1 b h r i) (inside_mid i)
  have hf : (fun o : Fin 129 => val_main_v21 (F := Ideal) x0 x1 (ix4 b (tok i r) h o)) = masked (inside i) (osc X0 X1 b h r i) :=
    funext fun o => v21_at x0 x1 X0 X1 g0 g1 b h r i o
  simp only [v21_at x0 x1 X0 X1 g0 g1]
  rw [hb, show Finset.fold max (⊥ : EReal) (fun o => masked (inside i) (osc X0 X1 b h r i) o) Finset.univ = (M : EReal) from hM,
    ref_lse (inside i) _ (inside_mid i) M, den_eq]

include g2

/-- The outputs. -/
theorem v34_at (b : Fin 4) (h : Fin 8) (r : Fin 16) (i e : Fin 128) : val_main_v34 (F := Ideal) x0 x1 x2 (ix4 b (tok i r) h e)
    = ((num X0 X1 X2 b h r i e / den X0 X1 b h r i : ℝ) : EReal) := by
  pointwise [val_main_v34, val_main_v33, val_main_v32, val_main_v31, val_main_v30]
  simp only [v21_at x0 x1 X0 X1 g0 g1, v29_at x0 x1 X0 X1 g0 g1, v18_at, g2]
  rw [← den_eq, ref_out (inside i) (osc X0 X1 b h r i) (fun o => X2 (ix4 b (at_ (tok i r) o) h e)) (inside_mid i), num_eq]

theorem v37_at (b : Fin 4) (h : Fin 8) (r : Fin 16) (i e : Fin 128) (y : S512x16384.Idx) (h0 : (y 0 : ℕ) = b * 128 + i)
    (h1 : (y 1 : ℕ) = r * 1024 + (h * 128 + e)) : val_main_v37 (F := Ideal) x0 x1 x2 y = ((num X0 X1 X2 b h r i e / den X0 X1 b h r i : ℝ) : EReal) := by
  obtain ⟨p, hp⟩ : ∃ p : Fin 512, (p : ℕ) = b * 128 + i := ⟨⟨b * 128 + i, by omega⟩, rfl⟩
  obtain ⟨k, hk⟩ : ∃ k : Fin 16384, (k : ℕ) = r * 1024 + (h * 128 + e) := ⟨⟨r * 1024 + (h * 128 + e), by omega⟩, rfl⟩
  have hy : y = ix2 p k := funext fun a => match a with | ⟨0, _⟩ => Fin.ext (h0.trans hp.symm) | ⟨1, _⟩ => Fin.ext (h1.trans hk.symm)
  rw [hy, ← v34_at x0 x1 x2 X0 X1 X2 g0 g1 g2 b h r i e]
  pointwise [val_main_v37]
  refine congrArg (val_main_v34 (F := Ideal) x0 x1 x2) (funext fun a => match a with
    | ⟨0, _⟩ => Fin.ext ?_ | ⟨1, _⟩ => Fin.ext ?_ | ⟨2, _⟩ => Fin.ext ?_ | ⟨3, _⟩ => Fin.ext ?_)
  · show (p : ℕ) / 128 = b; omega
  · show (p : ℕ) % 128 * 16 + (k : ℕ) / 1024 = 16 * i + r; omega
  · show (k : ℕ) / 128 % 8 = h; omega
  · show (k : ℕ) % 128 = e; omega

omit g2

theorem v38_at (b : Fin 4) (r : Fin 16) (i k : Fin 128) (y : S512x2048.Idx) (h0 : (y 0 : ℕ) = b * 128 + i)
    (h1 : (y 1 : ℕ) = r * 128 + k) : val_main_v38 (F := Ideal) x0 x1 y
      = if hk : (k : ℕ) < 8 then ((Real.log (den X0 X1 b ⟨k, hk⟩ r i) : ℝ) : EReal) else 0 := by
  obtain ⟨p, hp⟩ : ∃ p : Fin 512, (p : ℕ) = b * 128 + i := ⟨⟨b * 128 + i, by omega⟩, rfl⟩
  obtain ⟨l, hl⟩ : ∃ l : Fin 2048, (l : ℕ) = r * 128 + k := ⟨⟨r * 128 + k, by omega⟩, rfl⟩
  have hy : y = ix2 p l := funext fun a => match a with | ⟨0, _⟩ => Fin.ext (h0.trans hp.symm) | ⟨1, _⟩ => Fin.ext (h1.trans hl.symm)
  rw [hy]
  pointwise [val_main_v38, val_main_v36, val_main_v35, val_main_cst_7]
  by_cases hk : (k : ℕ) < 8
  · rw [dif_pos hk, dif_pos (by omega), ← v29_at x0 x1 X0 X1 g0 g1 b ⟨k, hk⟩ r i]
    refine congrArg (val_main_v29 (F := Ideal) x0 x1) (funext fun a => match a with
      | ⟨0, _⟩ => Fin.ext ?_ | ⟨1, _⟩ => Fin.ext ?_ | ⟨2, _⟩ => Fin.ext ?_)
    · show (p : ℕ) / 128 = b; omega
    · show (p : ℕ) % 128 * 16 + (l : ℕ) / 128 = 16 * i + r; omega
    · show (l : ℕ) % 128 = k; omega
  · rw [dif_neg hk, dif_neg (by omega)]
    try rfl

end Cert.GrpCp.Ref
-- ==== Proof.GrpArr.lean ====
module

public import proofs.«01_k».proof.Proof.GrpEntry
public import proofs.«01_k».proof.Proof.GrpStore
public import proofs.«01_k».proof.Proof.GrpRef

@[expose] public section

set_option maxRecDepth 16384

noncomputable section

/-! # The attention inside the third dilation group: what the result arrays hold -/

namespace Cert.GrpCp
open Idealize.ShloMosaic Idealize.ShloMosaic.TcCoe Idealize.SL.Sem
open Cert.GrpCIdeal Cert.GrpCIdeal.Gen Cert.Group
open Cert.GrpCp.Ref (tok sco den num)

variable (m : (ℓ : Loc nD τ sig) → Buf (Elt Ideal) ℓ) (c : Dev nD)

/-- Where each window's block lies at a grid point. -/
theorem places : ∀ t : Fin cfg0.N, ∃ (b : Fin 4) (r : Fin 16), (win0_0.index t 0 = r ∧ win0_0.index t 1 = b ∧ win0_0.index t 2 = 0)
    ∧ (win0_1.index t 0 = r ∧ win0_1.index t 1 = b ∧ win0_1.index t 2 = 1)
    ∧ (win0_2.index t 0 = r ∧ win0_2.index t 1 = b ∧ win0_2.index t 2 = 2)
    ∧ (win0_3.index t 0 = b ∧ win0_3.index t 1 = r) ∧ (win0_4.index t 0 = b ∧ win0_4.index t 1 = r) := by
  decide +kernel

theorem q_blk (t : Fin cfg0.N) (b : Fin 4) (r : Fin 16) (e0 : win0_0.index t 0 = r) (e1 : win0_0.index t 1 = b) (e2 : win0_0.index t 2 = 0)
    (h : Fin 8) (i d : Fin 128) : cols (iblk m c 0 t) h (ix3 0 i d)
      = Ideal.div (a0 m c (ix4 b (tok i r) h d)) (Ideal.log (Ideal.ofBits .f32 0x40000000#32)) := by
  obtain ⟨p, hp⟩ : ∃ p : Fin 512, (p : ℕ) = b * 128 + i := ⟨⟨b * 128 + i, by omega⟩, rfl⟩
  obtain ⟨j, hj⟩ : ∃ j : Fin 3072, (j : ℕ) = h * 128 + d := ⟨⟨h * 128 + d, by omega⟩, rfl⟩
  refine Eq.trans ?_ (q_at m c b (tok i r) h d r p j (by show (p : ℕ) * 16 + r = b * 2048 + (16 * i + r); omega) hj)
  refine congrArg (V m c main_v9 : FVec Ideal S16x512x3072 .bf16) (a₂ := ix3 r p j) ?_
  blk_ext [e0, e1, e2, hp, hj]

theorem k_blk (t : Fin cfg0.N) (b : Fin 4) (r : Fin 16) (e0 : win0_1.index t 0 = r) (e1 : win0_1.index t 1 = b) (e2 : win0_1.index t 2 = 1)
    (h : Fin 8) (i d : Fin 128) : cols (iblk m c 1 t) h (ix3 0 i d) = a1 m c (ix4 b (tok i r) h d) := by
  obtain ⟨p, hp⟩ : ∃ p : Fin 512, (p : ℕ) = b * 128 + i := ⟨⟨b * 128 + i, by omega⟩, rfl⟩
  obtain ⟨j, hj⟩ : ∃ j : Fin 3072, (j : ℕ) = 1024 + (h * 128 + d) := ⟨⟨1024 + (h * 128 + d), by omega⟩, rfl⟩
  refine Eq.trans ?_ (k_at m c b (tok i r) h d r p j (by show (p : ℕ) * 16 + r = b * 2048 + (16 * i + r); omega) hj)
  refine congrArg (V m c main_v9 : FVec Ideal S16x512x3072 .bf16) (a₂ := ix3 r p j) ?_
  blk_ext [e0, e1, e2, hp, hj]

theorem v_blk (t : Fin cfg0.N) (b : Fin 4) (r : Fin 16) (e0 : win0_2.index t 0 = r) (e1 : win0_2.index t 1 = b) (e2 : win0_2.index t 2 = 2)
    (h : Fin 8) (i d : Fin 128) : cols (iblk m c 2 t) h (ix3 0 i d) = a2 m c (ix4 b (tok i r) h d) := by
  obtain ⟨p, hp⟩ : ∃ p : Fin 512, (p : ℕ) = b * 128 + i := ⟨⟨b * 128 + i, by omega⟩, rfl⟩
  obtain ⟨j, hj⟩ : ∃ j : Fin 3072, (j : ℕ) = 2048 + (h * 128 + d) := ⟨⟨2048 + (h * 128 + d), by omega⟩, rfl⟩
  refine Eq.trans ?_ (v_at m c b (tok i r) h d r p j (by show (p : ℕ) * 16 + r = b * 2048 + (16 * i + r); omega) hj)
  refine congrArg (V m c main_v9 : FVec Ideal S16x512x3072 .bf16) (a₂ := ix3 r p j) ?_
  blk_ext [e0, e1, e2, hp, hj]

/-- Eight lanes set one after the other. -/
theorem lanes (k : Fin 128) (f : Fin 8 → EReal) (z : EReal) (hz : z = 0) :
    (if BitVec.ofNat 32 k = 7#32 then f 7 else if BitVec.ofNat 32 k = 6#32 then f 6 else if BitVec.ofNat 32 k = 5#32 then f 5
      else if BitVec.ofNat 32 k = 4#32 then f 4 else if BitVec.ofNat 32 k = 3#32 then f 3 else if BitVec.ofNat 32 k = 2#32 then f 2
      else if BitVec.ofNat 32 k = 1#32 then f 1 else if BitVec.ofNat 32 k = 0#32 then f 0 else z)
      = if hk : (k : ℕ) < 8 then f ⟨k, hk⟩ else 0 := by
  obtain ⟨k, h128⟩ := k
  have key : ∀ n : ℕ, n < 8 → (BitVec.ofNat 32 k = BitVec.ofNat 32 n ↔ k = n) := fun n hn => by
    refine ⟨fun e => ?_, fun e => by rw [e]⟩
    have e' := congrArg BitVec.toNat e
    simp only [BitVec.toNat_ofNat] at e'
    omega
  simp only [key 7 (by omega), key 6 (by omega), key 5 (by omega), key 4 (by omega), key 3 (by omega), key 2 (by omega), key 1 (by omega),
    key 0 (by omega)]
  by_cases hk : k < 8
  · rw [dif_pos hk]
    interval_cases k <;> rfl
  · rw [dif_neg hk, if_neg (by omega), if_neg (by omega), if_neg (by omega), if_neg (by omega), if_neg (by omega), if_neg (by omega),
      if_neg (by omega), if_neg (by omega), hz]

variable (X0 X1 X2 : S4x2048x8x128.Idx → ℝ) (g0 : ∀ i, a0 m c i = (X0 i : EReal)) (g1 : ∀ i, a1 m c i = (X1 i : EReal))
  (g2 : ∀ i, a2 m c i = (X2 i : EReal))

include g0 g1

/-- A row of a point's masked scores. -/
theorem sc_at (t : Fin cfg0.N) (b : Fin 4) (r : Fin 16)
    (p0 : win0_0.index t 0 = r ∧ win0_0.index t 1 = b ∧ win0_0.index t 2 = 0)
    (p1 : win0_1.index t 0 = r ∧ win0_1.index t 1 = b ∧ win0_1.index t 2 = 1) (h : Fin 8) (i : Fin 128) :
    (fun j : Fin 128 => sc m c t h (ix2 i j)) = masked (near i) fun j => sco X0 X1 b h r i j / Real.log 2 := by
  funext j
  refine (score_at _ _ _ i j).trans ?_
  rw [mask_at]
  have hs : (∑ d : Fin 128, cols (iblk m c 0 t) h (ix3 0 i d) * cols (iblk m c 1 t) h (ix3 0 j d))
      = ((sco X0 X1 b h r i j / Real.log 2 : ℝ) : EReal) := by
    simp only [q_blk m c t b r p0.1 p0.2.1 p0.2.2, k_blk m c t b r p1.1 p1.2.1 p1.2.2, g0, g1]
    exact Att.Soft.score_div _ _
  rw [hs]
  unfold masked
  by_cases hi : near i j
  · rw [if_pos hi, if_pos rfl, if_pos hi]
  · rw [if_neg hi, if_neg (by decide), if_neg hi]

include g2

abbrev G0 : Buf (Elt Ideal) ((c.tc : Thread nD τ).loc main_v10_0) :=
  Cert.GrpCRefIdeal.Read.val_main_v37 (F := Ideal) (a0 m c) (a1 m c) (a2 m c)

abbrev G1 : Buf (Elt Ideal) ((c.tc : Thread nD τ).loc main_v10_1) :=
  Cert.GrpCRefIdeal.Read.val_main_v38 (F := Ideal) (a0 m c) (a1 m c)

/-- The outputs' array ends holding the reference's. -/
theorem final0 : (dats m 0 c).arrAt 3 cfg0.N = G0 m c := by
  refine (dats m 0 c).arrAt_eq_of_covers 3 _ (by decide +kernel) fun t hf y => ?_
  blk_simp
  rw [after0_3]
  obtain ⟨b, r, p0, p1, p2, ⟨o0, o1⟩, -⟩ := places t
  obtain ⟨i, k, rfl⟩ : ∃ (i : Fin 128) (k : Fin 1024), y = ix2 i k := ⟨y 0, y 1, funext fun a => match a with | ⟨0, _⟩ => rfl | ⟨1, _⟩ => rfl⟩
  obtain ⟨h, hh⟩ : ∃ h : Fin 8, (h : ℕ) = k / 128 := ⟨⟨k / 128, by omega⟩, rfl⟩
  obtain ⟨e, he⟩ : ∃ e : Fin 128, (e : ℕ) = k % 128 := ⟨⟨k % 128, by omega⟩, rfl⟩
  have e0 : (((win0_3.blk t).view.emb (ix2 i k)) 0 : ℕ) = b * 128 + i := by blk_simp [o0, o1]
  have e1 : (((win0_3.blk t).view.emb (ix2 i k)) 1 : ℕ) = r * 1024 + (h * 128 + e) := by blk_simp [o0, o1]; omega
  refine Eq.trans ?_ (Ref.v37_at _ _ _ X0 X1 X2 g0 g1 g2 b h r i e _ e0 e1).symm
  refine (congrFun (left0 m c t) (ix2 i k)).trans ?_
  refine (Gout_at m c t h i e _ rfl (by show (k : ℕ) = _; omega)).trans ?_
  rw [outs_at, sc_at m c X0 X1 g0 g1 t b r p0 p1 h i]
  simp only [v_blk m c t b r p2.1 p2.2.1 p2.2.2, g2]
  exact out_real (near i) (sco X0 X1 b h r i) (fun j => X2 (ix4 b (tok j r) h e)) (near_self i)

omit g2

/-- The logarithms' array ends holding the reference's. -/
theorem final1 : (dats m 0 c).arrAt 4 cfg0.N = G1 m c := by
  refine (dats m 0 c).arrAt_eq_of_covers 4 _ (by decide +kernel) fun t hf y => ?_
  blk_simp
  rw [after0_4]
  obtain ⟨b, r, p0, p1, -, -, o0, o1⟩ := places t
  obtain ⟨i, k, rfl⟩ : ∃ (i k : Fin 128), y = ix2 i k := ⟨y 0, y 1, funext fun a => match a with | ⟨0, _⟩ => rfl | ⟨1, _⟩ => rfl⟩
  have e0 : (((win0_4.blk t).view.emb (ix2 i k)) 0 : ℕ) = b * 128 + i := by blk_simp [o0, o1]
  have e1 : (((win0_4.blk t).view.emb (ix2 i k)) 1 : ℕ) = r * 128 + k := by blk_simp [o0, o1]
  refine Eq.trans ?_ (Ref.v38_at _ _ X0 X1 g0 g1 b r i k _ e0 e1).symm
  refine (congrFun (left1 m c t) (ix2 i k)).trans ?_
  have hl : ∀ h : Fin 8, lses (sc m c t h) (ix2 i 0) = ((Real.log (den X0 X1 b h r i) : ℝ) : EReal) := fun h => by
    rw [lses_at, sc_at m c X0 X1 g0 g1 t b r p0 p1 h i]
    exact lse_real (near i) (sco X0 X1 b h r i) (near_self i)
  simp only [put_at, hl]
  exact lanes k (fun h => ((Real.log (den X0 X1 b h r i) : ℝ) : EReal)) _ (by pointwise [k0_pay4])

end Cert.GrpCp
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Att3
public import proofs.«01_k».proof.Proof.Gen.Att3.Frame
public import proofs.«01_k».proof.Proof.Gen.Att3Ideal
public import proofs.«01_k».proof.Proof.Gen.Att3Ideal.Frame
public import proofs.«01_k».proof.Proof.Gen.Att3Ideal.Value
public import proofs.«01_k».proof.Proof.Gen.Att3RefIdeal
public import proofs.«01_k».proof.Proof.Gen.Att3RefIdeal.Run
public import proofs.«01_k».proof.Proof.Gen.Att3RefIdeal.Read
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.Qkv3
public import proofs.«01_k».proof.Proof.Gen.Qkv3.Frame
public import proofs.«01_k».proof.Proof.Gen.Qkv3Ideal
public import proofs.«01_k».proof.Proof.Gen.Qkv3Ideal.Frame
public import proofs.«01_k».proof.Proof.Gen.Qkv3Ideal.Value
public import proofs.«01_k».proof.Proof.Gen.Qkv3RefIdeal
public import proofs.«01_k».proof.Proof.Gen.Qkv3RefIdeal.Run
public import proofs.«01_k».proof.Proof.Gen.Qkv3RefIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Out1
public import proofs.«01_k».proof.Proof.Gen.Out1.Frame
public import proofs.«01_k».proof.Proof.Gen.Out1Ideal
public import proofs.«01_k».proof.Proof.Gen.Out1Ideal.Frame
public import proofs.«01_k».proof.Proof.Gen.Out1Ideal.Value
public import proofs.«01_k».proof.Proof.Gen.Out1RefIdeal
public import proofs.«01_k».proof.Proof.Gen.Out1RefIdeal.Run
public import proofs.«01_k».proof.Proof.Gen.Out1RefIdeal.Read
public import proofs.«01_k».proof.Proof.Gen.Out2
public import proofs.«01_k».proof.Proof.Gen.Out2.Frame
public import proofs.«01_k».proof.Proof.Gen.Out2Ideal
public import proofs.«01_k».proof.Proof.Gen.Out2Ideal.Frame
public import proofs.«01_k».proof.Proof.Gen.Out2Ideal.Value
public import proofs.«01_k».proof.Proof.Gen.Out2RefIdeal
public import proofs.«01_k».proof.Proof.Gen.Out2RefIdeal.Run
public import proofs.«01_k».proof.Proof.Gen.Out2RefIdeal.Read
public import proofs.«01_k».proof.Proof.Gen.Out3
public import proofs.«01_k».proof.Proof.Gen.Out3.Frame
public import proofs.«01_k».proof.Proof.Gen.Out3Ideal
public import proofs.«01_k».proof.Proof.Gen.Out3Ideal.Frame
public import proofs.«01_k».proof.Proof.Gen.Out3Ideal.Value
public import proofs.«01_k».proof.Proof.Gen.Out3RefIdeal
public import proofs.«01_k».proof.Proof.Gen.Out3RefIdeal.Run
public import proofs.«01_k».proof.Proof.Gen.Out3RefIdeal.Read
public import proofs.«01_k».proof.Proof.Gen.DilA
public import proofs.«01_k».proof.Proof.Gen.DilA.Frame
public import proofs.«01_k».proof.Proof.Gen.DilAIdeal
public import proofs.«01_k».proof.Proof.Gen.DilAIdeal.Frame
public import proofs.«01_k».proof.Proof.Gen.DilAIdeal.Value
public import proofs.«01_k».proof.Proof.Gen.DilARefIdeal
public import proofs.«01_k».proof.Proof.Gen.DilARefIdeal.Run
public import proofs.«01_k».proof.Proof.Gen.DilARefIdeal.Read
public import proofs.«01_k».proof.Proof.Gen.DilB
public import proofs.«01_k».proof.Proof.Gen.DilB.Frame
public import proofs.«01_k».proof.Proof.Gen.DilBIdeal
public import proofs.«01_k».proof.Proof.Gen.DilBIdeal.Frame
public import proofs.«01_k».proof.Proof.Gen.DilBIdeal.Value
public import proofs.«01_k».proof.Proof.Gen.DilBRefIdeal
public import proofs.«01_k».proof.Proof.Gen.DilBRefIdeal.Run
public import proofs.«01_k».proof.Proof.Gen.DilBRefIdeal.Read
public import proofs.«01_k».proof.Proof.Gen.DilC
public import proofs.«01_k».proof.Proof.Gen.DilC.Frame
public import proofs.«01_k».proof.Proof.Gen.DilCIdeal
public import proofs.«01_k».proof.Proof.Gen.DilCIdeal.Frame
public import proofs.«01_k».proof.Proof.Gen.DilCIdeal.Value
public import proofs.«01_k».proof.Proof.Gen.DilCRefIdeal
public import proofs.«01_k».proof.Proof.Gen.DilCRefIdeal.Run
public import proofs.«01_k».proof.Proof.Gen.DilCRefIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Comb0
public import proofs.«01_k».proof.Proof.Gen.Comb0.Frame
public import proofs.«01_k».proof.Proof.Gen.Comb0Ideal
public import proofs.«01_k».proof.Proof.Gen.Comb0Ideal.Frame
public import proofs.«01_k».proof.Proof.Gen.Comb0Ideal.Value
public import proofs.«01_k».proof.Proof.Gen.Comb0RefIdeal
public import proofs.«01_k».proof.Proof.Gen.Comb0RefIdeal.Run
public import proofs.«01_k».proof.Proof.Gen.Comb0RefIdeal.Read
public import proofs.«01_k».proof.Proof.Gen.Comb1
public import proofs.«01_k».proof.Proof.Gen.Comb1.Frame
public import proofs.«01_k».proof.Proof.Gen.Comb1Ideal
public import proofs.«01_k».proof.Proof.Gen.Comb1Ideal.Frame
public import proofs.«01_k».proof.Proof.Gen.Comb1Ideal.Value
public import proofs.«01_k».proof.Proof.Gen.Comb1RefIdeal
public import proofs.«01_k».proof.Proof.Gen.Comb1RefIdeal.Run
public import proofs.«01_k».proof.Proof.Gen.Comb1RefIdeal.Read
public import proofs.«01_k».proof.Proof.Gen.Comb2
public import proofs.«01_k».proof.Proof.Gen.Comb2.Frame
public import proofs.«01_k».proof.Proof.Gen.Comb2Ideal
public import proofs.«01_k».proof.Proof.Gen.Comb2Ideal.Frame
public import proofs.«01_k».proof.Proof.Gen.Comb2Ideal.Value
public import proofs.«01_k».proof.Proof.Gen.Comb2RefIdeal
public import proofs.«01_k».proof.Proof.Gen.Comb2RefIdeal.Run
public import proofs.«01_k».proof.Proof.Gen.Comb2RefIdeal.Read
public import proofs.«01_k».proof.Proof.Gen.Comb3
public import proofs.«01_k».proof.Proof.Gen.Comb3.Frame
public import proofs.«01_k».proof.Proof.Gen.Comb3Ideal
public import proofs.«01_k».proof.Proof.Gen.Comb3Ideal.Frame
public import proofs.«01_k».proof.Proof.Gen.Comb3Ideal.Value
public import proofs.«01_k».proof.Proof.Gen.Comb3RefIdeal
public import proofs.«01_k».proof.Proof.Gen.Comb3RefIdeal.Run
public import proofs.«01_k».proof.Proof.Gen.Comb3RefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.AttPre
public import proofs.«01_k».proof.Proof.AttArr
public import proofs.«01_k».proof.Proof.Att3Arr
public import proofs.«01_k».proof.Proof.QkvArr
public import proofs.«01_k».proof.Proof.Qkv3Arr
public import proofs.«01_k».proof.Proof.OutArr
public import proofs.«01_k».proof.Proof.Out1Arr
public import proofs.«01_k».proof.Proof.Out2Arr
public import proofs.«01_k».proof.Proof.Out3Arr
public import proofs.«01_k».proof.Proof.DilAArr
public import proofs.«01_k».proof.Proof.DilBArr
public import proofs.«01_k».proof.Proof.DilCArr
public import proofs.«01_k».proof.Proof.NormArr
public import proofs.«01_k».proof.Proof.Comb0Arr
public import proofs.«01_k».proof.Proof.Comb1Arr
public import proofs.«01_k».proof.Proof.Comb2Arr
public import proofs.«01_k».proof.Proof.Comb3Arr
public import proofs.«01_k».proof.Proof.MergeArr
public import proofs.«01_k».proof.Proof.Gen.GrpC
public import proofs.«01_k».proof.Proof.Gen.GrpC.Frame
public import proofs.«01_k».proof.Proof.Gen.GrpCIdeal
public import proofs.«01_k».proof.Proof.Gen.GrpCIdeal.Frame
public import proofs.«01_k».proof.Proof.Gen.GrpCIdeal.Value
public import proofs.«01_k».proof.Proof.Gen.GrpCRefIdeal
public import proofs.«01_k».proof.Proof.Gen.GrpCRefIdeal.Run
public import proofs.«01_k».proof.Proof.Gen.GrpCRefIdeal.Read
public import proofs.«01_k».proof.Proof.Gen.Pre_finite_group
public import proofs.«01_k».proof.Proof.GrpPre
public import proofs.«01_k».proof.Proof.GrpArr
public import Idealize.ShloMosaic.Adequacy
public import Idealize.ShloMosaic.Init

@[expose] public section

noncomputable section

namespace Cert.Proof

open Idealize.ShloMosaic Idealize.SL.Sem

/-- The reference changes none of its arguments. -/
theorem ref_frame : Cert.quiescent_ReferenceIdeal := fun m ρ _ =>
  (θ_run _ _ _).mono (fun r h => ⟨fun c => (h c).2, sem_eq_zero_of_no_sems (by decide) r.2⟩) (Cert.ReferenceIdeal.Value.run m ρ)

/-- The attention equals its reference. -/
theorem att : Cert.algebraic_KernelIdeal_ReferenceIdeal_pre_finite := by
  intro m g m' g' hpre hargs
  refine ⟨fun c => Cert.Att.G m c, ?_, ?_⟩
  · refine (θ_run _ _ _).mono (fun _ h c => ?_) (Cert.KernelIdeal.Value.run_blocks m g)
    obtain ⟨h0, h1, h2, h3⟩ := Cert.Att.Pre.reals _ _ _ _ _ (hpre c)
    exact ⟨(h c).1.trans (Cert.Att.final m c h0 h1 h2 h3), (h c).2⟩
  · refine (θ_run _ _ _).mono (fun _ h c => ?_) (Cert.ReferenceIdeal.Value.run m' g')
    refine ⟨(h c).1.trans ?_, (h c).2⟩
    obtain ⟨e0, e1, e2, e3, e4⟩ := hargs c
    rw [Cert.ReferenceIdeal.Read.val_main_v57_eq, e0, e1, e2, e3, e4]

/-- The reference of the attention of layer 3 changes none of its arguments. -/
theorem att3_frame : Cert.quiescent_Att3RefIdeal := fun m ρ _ =>
  (θ_run _ _ _).mono (fun r h => ⟨fun c => (h c).2, sem_eq_zero_of_no_sems (by decide) r.2⟩) (Cert.Att3RefIdeal.Value.run m ρ)

/-- The attention of layer 3 equals its reference. -/
theorem att3_eq : Cert.algebraic_Att3Ideal_Att3RefIdeal_pre_finite := by
  intro m g m' g' hpre hargs
  refine ⟨fun c => Cert.Att3.G m c, ?_, ?_⟩
  · refine (θ_run _ _ _).mono (fun _ h c => ?_) (Cert.Att3Ideal.Value.run_blocks m g)
    obtain ⟨h0, h1, h2, h3⟩ := Cert.Att.Pre.reals _ _ _ _ _ (hpre c)
    exact ⟨(h c).1.trans (Cert.Att3.final m c h0 h1 h2 h3), (h c).2⟩
  · refine (θ_run _ _ _).mono (fun _ h c => ?_) (Cert.Att3RefIdeal.Value.run m' g')
    refine ⟨(h c).1.trans ?_, (h c).2⟩
    obtain ⟨e0, e1, e2, e3, e4⟩ := hargs c
    rw [Cert.Att3RefIdeal.Read.val_main_v57_eq, e0, e1, e2, e3, e4]

/-- The reference of the product with w_qkv changes none of its arguments. -/
theorem qkv_frame : Cert.quiescent_QkvRefIdeal := fun m ρ _ =>
  (θ_run _ _ _).mono (fun r h => ⟨fun c => (h c).2, sem_eq_zero_of_no_sems (by decide) r.2⟩) (Cert.QkvRefIdeal.Value.run m ρ)

/-- The product with w_qkv equals its reference. -/
theorem qkv_eq : Cert.algebraic_QkvIdeal_QkvRefIdeal := by
  intro m g m' g' _ hargs
  refine ⟨fun c => Cert.Qkvp.G m c, ?_, ?_⟩
  · refine (θ_run _ _ _).mono (fun _ h c => ?_) (Cert.QkvIdeal.Value.run_blocks m g)
    exact ⟨(h c).1.trans (Cert.Qkvp.final m c), (h c).2⟩
  · refine (θ_run _ _ _).mono (fun _ h c => ?_) (Cert.QkvRefIdeal.Value.run m' g')
    refine ⟨(h c).1.trans ?_, (h c).2⟩
    obtain ⟨e0, e1, e2⟩ := hargs c
    rw [Cert.QkvRefIdeal.Read.val_main_v73_eq, e0, e1, e2]

/-- The reference of the product with w_qkv of layer 3 changes none of its arguments. -/
theorem qkv3_frame : Cert.quiescent_Qkv3RefIdeal := fun m ρ _ =>
  (θ_run _ _ _).mono (fun r h => ⟨fun c => (h c).2, sem_eq_zero_of_no_sems (by decide) r.2⟩) (Cert.Qkv3RefIdeal.Value.run m ρ)

/-- The product with w_qkv of layer 3 equals its reference. -/
theorem qkv3_eq : Cert.algebraic_Qkv3Ideal_Qkv3RefIdeal := by
  intro m g m' g' _ hargs
  refine ⟨fun c => Cert.Qkvp3.G m c, ?_, ?_⟩
  · refine (θ_run _ _ _).mono (fun _ h c => ?_) (Cert.Qkv3Ideal.Value.run_blocks m g)
    exact ⟨(h c).1.trans (Cert.Qkvp3.final m c), (h c).2⟩
  · refine (θ_run _ _ _).mono (fun _ h c => ?_) (Cert.Qkv3RefIdeal.Value.run m' g')
    refine ⟨(h c).1.trans ?_, (h c).2⟩
    obtain ⟨e0, e1, e2⟩ := hargs c
    rw [Cert.Qkv3RefIdeal.Read.val_main_v73_eq, e0, e1, e2]

/-- The reference of the output product changes none of its arguments. -/
theorem out_frame : Cert.quiescent_OutRefIdeal := fun m ρ _ =>
  (θ_run _ _ _).mono (fun r h => ⟨fun c => (h c).2, sem_eq_zero_of_no_sems (by decide) r.2⟩) (Cert.OutRefIdeal.Value.run m ρ)

/-- The output product equals its reference. -/
theorem out_eq : Cert.algebraic_OutIdeal_OutRefIdeal := by
  intro m g m' g' _ hargs
  refine ⟨fun c => Cert.Output.G m c, ?_, ?_⟩
  · refine (θ_run _ _ _).mono (fun _ h c => ?_) (Cert.OutIdeal.Value.run_blocks m g)
    exact ⟨(h c).1.trans (Cert.Output.final m c), (h c).2⟩
  · refine (θ_run _ _ _).mono (fun _ h c => ?_) (Cert.OutRefIdeal.Value.run m' g')
    refine ⟨(h c).1.trans ?_, (h c).2⟩
    obtain ⟨e0, e1, e2⟩ := hargs c
    rw [Cert.OutRefIdeal.Read.val_main_v6_eq, e0, e1, e2]

/-- The reference of the output product of layer 1 changes none of its arguments. -/
theorem out1_frame : Cert.quiescent_Out1RefIdeal := fun m ρ _ =>
  (θ_run _ _ _).mono (fun r h => ⟨fun c => (h c).2, sem_eq_zero_of_no_sems (by decide) r.2⟩) (Cert.Out1RefIdeal.Value.run m ρ)

/-- The output product of layer 1 equals its reference. -/
theorem out1_eq : Cert.algebraic_Out1Ideal_Out1RefIdeal := by
  intro m g m' g' _ hargs
  refine ⟨fun c => Cert.Output1.G m c, ?_, ?_⟩
  · refine (θ_run _ _ _).mono (fun _ h c => ?_) (Cert.Out1Ideal.Value.run_blocks m g)
    exact ⟨(h c).1.trans (Cert.Output1.final m c), (h c).2⟩
  · refine (θ_run _ _ _).mono (fun _ h c => ?_) (Cert.Out1RefIdeal.Value.run m' g')
    refine ⟨(h c).1.trans ?_, (h c).2⟩
    obtain ⟨e0, e1, e2⟩ := hargs c
    rw [Cert.Out1RefIdeal.Read.val_main_v5_eq, e0, e1, e2]

/-- The reference of the output product of layer 2 changes none of its arguments. -/
theorem out2_frame : Cert.quiescent_Out2RefIdeal := fun m ρ _ =>
  (θ_run _ _ _).mono (fun r h => ⟨fun c => (h c).2, sem_eq_zero_of_no_sems (by decide) r.2⟩) (Cert.Out2RefIdeal.Value.run m ρ)

/-- The output product of layer 2 equals its reference. -/
theorem out2_eq : Cert.algebraic_Out2Ideal_Out2RefIdeal := by
  intro m g m' g' _ hargs
  refine ⟨fun c => Cert.Output2.G m c, ?_, ?_⟩
  · refine (θ_run _ _ _).mono (fun _ h c => ?_) (Cert.Out2Ideal.Value.run_blocks m g)
    exact ⟨(h c).1.trans (Cert.Output2.final m c), (h c).2⟩
  · refine (θ_run _ _ _).mono (fun _ h c => ?_) (Cert.Out2RefIdeal.Value.run m' g')
    refine ⟨(h c).1.trans ?_, (h c).2⟩
    obtain ⟨e0, e1, e2⟩ := hargs c
    rw [Cert.Out2RefIdeal.Read.val_main_v5_eq, e0, e1, e2]

/-- The reference of the output product of layer 3 changes none of its arguments. -/
theorem out3_frame : Cert.quiescent_Out3RefIdeal := fun m ρ _ =>
  (θ_run _ _ _).mono (fun r h => ⟨fun c => (h c).2, sem_eq_zero_of_no_sems (by decide) r.2⟩) (Cert.Out3RefIdeal.Value.run m ρ)

/-- The output product of layer 3 equals its reference. -/
theorem out3_eq : Cert.algebraic_Out3Ideal_Out3RefIdeal := by
  intro m g m' g' _ hargs
  refine ⟨fun c => Cert.Output3.G m c, ?_, ?_⟩
  · refine (θ_run _ _ _).mono (fun _ h c => ?_) (Cert.Out3Ideal.Value.run_blocks m g)
    exact ⟨(h c).1.trans (Cert.Output3.final m c), (h c).2⟩
  · refine (θ_run _ _ _).mono (fun _ h c => ?_) (Cert.Out3RefIdeal.Value.run m' g')
    refine ⟨(h c).1.trans ?_, (h c).2⟩
    obtain ⟨e0, e1, e2⟩ := hargs c
    rw [Cert.Out3RefIdeal.Read.val_main_v6_eq, e0, e1, e2]

/-- The reference of the first dilated product changes none of its arguments. -/
theorem dilA_frame : Cert.quiescent_DilARefIdeal := fun m ρ _ =>
  (θ_run _ _ _).mono (fun r h => ⟨fun c => (h c).2, sem_eq_zero_of_no_sems (by decide) r.2⟩) (Cert.DilARefIdeal.Value.run m ρ)

/-- The first dilated product equals its reference. -/
theorem dilA_eq : Cert.algebraic_DilAIdeal_DilARefIdeal := by
  intro m g m' g' _ hargs
  refine ⟨fun c => Cert.DilAp.G m c, ?_, ?_⟩
  · refine (θ_run _ _ _).mono (fun _ h c => ?_) (Cert.DilAIdeal.Value.run_blocks m g)
    exact ⟨(h c).1.trans (Cert.DilAp.final m c), (h c).2⟩
  · refine (θ_run _ _ _).mono (fun _ h c => ?_) (Cert.DilARefIdeal.Value.run m' g')
    refine ⟨(h c).1.trans ?_, (h c).2⟩
    obtain ⟨e0, e1, e2⟩ := hargs c
    rw [Cert.DilARefIdeal.Read.val_main_v79_eq, e0, e1, e2]

/-- The reference of the second dilated product changes none of its arguments. -/
theorem dilB_frame : Cert.quiescent_DilBRefIdeal := fun m ρ _ =>
  (θ_run _ _ _).mono (fun r h => ⟨fun c => (h c).2, sem_eq_zero_of_no_sems (by decide) r.2⟩) (Cert.DilBRefIdeal.Value.run m ρ)

/-- The second dilated product equals its reference. -/
theorem dilB_eq : Cert.algebraic_DilBIdeal_DilBRefIdeal := by
  intro m g m' g' _ hargs
  refine ⟨fun c => Cert.DilBp.G m c, ?_, ?_⟩
  · refine (θ_run _ _ _).mono (fun _ h c => ?_) (Cert.DilBIdeal.Value.run_blocks m g)
    exact ⟨(h c).1.trans (Cert.DilBp.final m c), (h c).2⟩
  · refine (θ_run _ _ _).mono (fun _ h c => ?_) (Cert.DilBRefIdeal.Value.run m' g')
    refine ⟨(h c).1.trans ?_, (h c).2⟩
    obtain ⟨e0, e1, e2⟩ := hargs c
    rw [Cert.DilBRefIdeal.Read.val_main_v81_eq, e0, e1, e2]

/-- The reference of the third dilated product changes none of its arguments. -/
theorem dilC_frame : Cert.quiescent_DilCRefIdeal := fun m ρ _ =>
  (θ_run _ _ _).mono (fun r h => ⟨fun c => (h c).2, sem_eq_zero_of_no_sems (by decide) r.2⟩) (Cert.DilCRefIdeal.Value.run m ρ)

/-- The third dilated product equals its reference. -/
theorem dilC_eq : Cert.algebraic_DilCIdeal_DilCRefIdeal := by
  intro m g m' g' _ hargs
  refine ⟨fun c => Cert.DilCp.G m c, ?_, ?_⟩
  · refine (θ_run _ _ _).mono (fun _ h c => ?_) (Cert.DilCIdeal.Value.run_blocks m g)
    exact ⟨(h c).1.trans (Cert.DilCp.final m c), (h c).2⟩
  · refine (θ_run _ _ _).mono (fun _ h c => ?_) (Cert.DilCRefIdeal.Value.run m' g')
    refine ⟨(h c).1.trans ?_, (h c).2⟩
    obtain ⟨e0, e1, e2⟩ := hargs c
    rw [Cert.DilCRefIdeal.Read.val_main_v81_eq, e0, e1, e2]

/-- The reference of the norm before the first layer changes none of its arguments. -/
theorem norm_frame : Cert.quiescent_NormRefIdeal := fun m ρ _ =>
  (θ_run _ _ _).mono (fun r h => ⟨fun c => (h c).2, sem_eq_zero_of_no_sems (by decide) r.2⟩) (Cert.NormRefIdeal.Value.run m ρ)

/-- The norm before the first layer equals its reference. -/
theorem norm_eq : Cert.algebraic_NormIdeal_NormRefIdeal := by
  intro m g m' g' _ hargs
  refine ⟨fun c => Cert.Norms.G m c, ?_, ?_⟩
  · refine (θ_run _ _ _).mono (fun _ h c => ?_) (Cert.NormIdeal.Value.run_blocks m g)
    exact ⟨(h c).1.trans (Cert.Norms.final m c), (h c).2⟩
  · refine (θ_run _ _ _).mono (fun _ h c => ?_) (Cert.NormRefIdeal.Value.run m' g')
    refine ⟨(h c).1.trans ?_, (h c).2⟩
    obtain ⟨e0, e1⟩ := hargs c
    rw [Cert.NormRefIdeal.Read.val_main_v15_eq, e0, e1]

/-- The reference of the experts' sum and norm of layer 0 changes none of its arguments. -/
theorem comb0_frame : Cert.quiescent_Comb0RefIdeal := fun m ρ _ =>
  (θ_run _ _ _).mono (fun r h => ⟨fun c => (h c).2.2, sem_eq_zero_of_no_sems (by decide) r.2⟩) (Cert.Comb0RefIdeal.Value.run m ρ)

/-- The experts' sum and norm of layer 0 equals its reference. -/
theorem comb0_eq : Cert.algebraic_Comb0Ideal_Comb0RefIdeal := by
  intro m g m' g' _ hargs
  refine ⟨fun c => Cert.Comb0.G0 m c, fun c => Cert.Comb0.G1 m c, ?_, ?_⟩
  · refine (θ_run _ _ _).mono (fun _ h c => ?_) (Cert.Comb0Ideal.Value.run_blocks m g)
    exact ⟨(h c).1.trans (Cert.Comb0.final0 m c), (h c).2.1.trans (Cert.Comb0.final1 m c), (h c).2.2⟩
  · refine (θ_run _ _ _).mono (fun _ h c => ?_) (Cert.Comb0RefIdeal.Value.run m' g')
    obtain ⟨e0, e1, e2, e3⟩ := hargs c
    refine ⟨(h c).1.trans ?_, (h c).2.1.trans ?_, (h c).2.2⟩
    · rw [Cert.Comb0RefIdeal.Read.val_main_v8_eq, e0, e1, e2]
    · rw [Cert.Comb0RefIdeal.Read.val_main_v24_eq, e0, e1, e2, e3]

/-- The reference of the experts' sum and norm of layer 1 changes none of its arguments. -/
theorem comb1_frame : Cert.quiescent_Comb1RefIdeal := fun m ρ _ =>
  (θ_run _ _ _).mono (fun r h => ⟨fun c => (h c).2.2, sem_eq_zero_of_no_sems (by decide) r.2⟩) (Cert.Comb1RefIdeal.Value.run m ρ)

/-- The experts' sum and norm of layer 1 equals its reference. -/
theorem comb1_eq : Cert.algebraic_Comb1Ideal_Comb1RefIdeal := by
  intro m g m' g' _ hargs
  refine ⟨fun c => Cert.Comb1.G0 m c, fun c => Cert.Comb1.G1 m c, ?_, ?_⟩
  · refine (θ_run _ _ _).mono (fun _ h c => ?_) (Cert.Comb1Ideal.Value.run_blocks m g)
    exact ⟨(h c).1.trans (Cert.Comb1.final0 m c), (h c).2.1.trans (Cert.Comb1.final1 m c), (h c).2.2⟩
  · refine (θ_run _ _ _).mono (fun _ h c => ?_) (Cert.Comb1RefIdeal.Value.run m' g')
    obtain ⟨e0, e1, e2, e3⟩ := hargs c
    refine ⟨(h c).1.trans ?_, (h c).2.1.trans ?_, (h c).2.2⟩
    · rw [Cert.Comb1RefIdeal.Read.val_main_v8_eq, e0, e1, e2]
    · rw [Cert.Comb1RefIdeal.Read.val_main_v24_eq, e0, e1, e2, e3]

/-- The reference of the experts' sum and norm of layer 2 changes none of its arguments. -/
theorem comb2_frame : Cert.quiescent_Comb2RefIdeal := fun m ρ _ =>
  (θ_run _ _ _).mono (fun r h => ⟨fun c => (h c).2.2, sem_eq_zero_of_no_sems (by decide) r.2⟩) (Cert.Comb2RefIdeal.Value.run m ρ)

/-- The experts' sum and norm of layer 2 equals its reference. -/
theorem comb2_eq : Cert.algebraic_Comb2Ideal_Comb2RefIdeal := by
  intro m g m' g' _ hargs
  refine ⟨fun c => Cert.Comb2.G0 m c, fun c => Cert.Comb2.G1 m c, ?_, ?_⟩
  · refine (θ_run _ _ _).mono (fun _ h c => ?_) (Cert.Comb2Ideal.Value.run_blocks m g)
    exact ⟨(h c).1.trans (Cert.Comb2.final0 m c), (h c).2.1.trans (Cert.Comb2.final1 m c), (h c).2.2⟩
  · refine (θ_run _ _ _).mono (fun _ h c => ?_) (Cert.Comb2RefIdeal.Value.run m' g')
    obtain ⟨e0, e1, e2, e3⟩ := hargs c
    refine ⟨(h c).1.trans ?_, (h c).2.1.trans ?_, (h c).2.2⟩
    · rw [Cert.Comb2RefIdeal.Read.val_main_v8_eq, e0, e1, e2]
    · rw [Cert.Comb2RefIdeal.Read.val_main_v24_eq, e0, e1, e2, e3]

/-- The reference of the experts' sum and norm of layer 3 changes none of its arguments. -/
theorem comb3_frame : Cert.quiescent_Comb3RefIdeal := fun m ρ _ =>
  (θ_run _ _ _).mono (fun r h => ⟨fun c => (h c).2, sem_eq_zero_of_no_sems (by decide) r.2⟩) (Cert.Comb3RefIdeal.Value.run m ρ)

/-- The experts' sum and norm of layer 3 equals its reference. -/
theorem comb3_eq : Cert.algebraic_Comb3Ideal_Comb3RefIdeal := by
  intro m g m' g' _ hargs
  refine ⟨fun c => Cert.Comb3.G0 m c, ?_, ?_⟩
  · refine (θ_run _ _ _).mono (fun _ h c => ?_) (Cert.Comb3Ideal.Value.run_blocks m g)
    exact ⟨(h c).1.trans (Cert.Comb3.final0 m c), (h c).2⟩
  · refine (θ_run _ _ _).mono (fun _ h c => ?_) (Cert.Comb3RefIdeal.Value.run m' g')
    refine ⟨(h c).1.trans ?_, (h c).2⟩
    obtain ⟨e0, e1, e2, e3⟩ := hargs c
    rw [Cert.Comb3RefIdeal.Read.val_main_v21_eq, e0, e1, e2, e3]

/-- The reference of the merge of the dilation groups changes none of its arguments. -/
theorem merge_frame : Cert.quiescent_MergeRefIdeal := fun m ρ _ =>
  (θ_run _ _ _).mono (fun r h => ⟨fun c => (h c).2, sem_eq_zero_of_no_sems (by decide) r.2⟩) (Cert.MergeRefIdeal.Value.run m ρ)

/-- The merge of the dilation groups equals its reference. -/
theorem merge_eq : Cert.algebraic_MergeIdeal_MergeRefIdeal := by
  intro m g m' g' _ hargs
  refine ⟨fun c => Cert.Merges.G m c, ?_, ?_⟩
  · refine (θ_run _ _ _).mono (fun _ h c => ?_) (Cert.MergeIdeal.Value.run_blocks m g)
    exact ⟨(h c).1.trans (Cert.Merges.final m c), (h c).2⟩
  · refine (θ_run _ _ _).mono (fun _ h c => ?_) (Cert.MergeRefIdeal.Value.run m' g')
    refine ⟨(h c).1.trans ?_, (h c).2⟩
    obtain ⟨e0, e1, e2, e3, e4, e5⟩ := hargs c
    rw [Cert.MergeRefIdeal.Read.val_main_v30_eq, e0, e1, e2, e3, e4, e5]

/-- The reference of the attention inside the third dilation group changes none of its arguments. -/
theorem grpC_frame : Cert.quiescent_GrpCRefIdeal := fun m ρ _ =>
  (θ_run _ _ _).mono (fun r h => ⟨fun c => (h c).2.2, sem_eq_zero_of_no_sems (by decide) r.2⟩) (Cert.GrpCRefIdeal.Value.run m ρ)

/-- The attention inside the third dilation group equals its reference. -/
theorem grpC_eq : Cert.algebraic_GrpCIdeal_GrpCRefIdeal_pre_finite_group := by
  intro m g m' g' hpre hargs
  refine ⟨fun c => Cert.GrpCp.G0 m c, fun c => Cert.GrpCp.G1 m c, ?_, ?_⟩
  · refine (θ_run _ _ _).mono (fun _ h c => ?_) (Cert.GrpCIdeal.Value.run_blocks m g)
    obtain ⟨h0, h1, h2⟩ := Cert.GrpCp.Pre.reals _ _ _ (hpre c)
    choose X0 g0 using h0
    choose X1 g1 using h1
    choose X2 g2 using h2
    exact ⟨(h c).1.trans (Cert.GrpCp.final0 m c X0 X1 X2 g0 g1 g2), (h c).2.1.trans (Cert.GrpCp.final1 m c X0 X1 g0 g1), (h c).2.2⟩
  · refine (θ_run _ _ _).mono (fun _ h c => ?_) (Cert.GrpCRefIdeal.Value.run m' g')
    obtain ⟨e0, e1, e2⟩ := hargs c
    refine ⟨(h c).1.trans ?_, (h c).2.1.trans ?_, (h c).2.2⟩
    · rw [Cert.GrpCRefIdeal.Read.val_main_v37_eq, e0, e1, e2]
    · rw [Cert.GrpCRefIdeal.Read.val_main_v38_eq, e0, e1]

theorem claim : Cert.Claim :=
  ⟨Cert.Kernel.Gen.facts,
    Cert.KernelIdeal.Gen.facts,
    Cert.ReferenceIdeal.Gen.facts,
    Cert.Att3.Gen.facts,
    Cert.Att3Ideal.Gen.facts,
    Cert.Att3RefIdeal.Gen.facts,
    Cert.Qkv.Gen.facts,
    Cert.QkvIdeal.Gen.facts,
    Cert.QkvRefIdeal.Gen.facts,
    Cert.Qkv3.Gen.facts,
    Cert.Qkv3Ideal.Gen.facts,
    Cert.Qkv3RefIdeal.Gen.facts,
    Cert.Out.Gen.facts,
    Cert.OutIdeal.Gen.facts,
    Cert.OutRefIdeal.Gen.facts,
    Cert.Out1.Gen.facts,
    Cert.Out1Ideal.Gen.facts,
    Cert.Out1RefIdeal.Gen.facts,
    Cert.Out2.Gen.facts,
    Cert.Out2Ideal.Gen.facts,
    Cert.Out2RefIdeal.Gen.facts,
    Cert.Out3.Gen.facts,
    Cert.Out3Ideal.Gen.facts,
    Cert.Out3RefIdeal.Gen.facts,
    Cert.DilA.Gen.facts,
    Cert.DilAIdeal.Gen.facts,
    Cert.DilARefIdeal.Gen.facts,
    Cert.DilB.Gen.facts,
    Cert.DilBIdeal.Gen.facts,
    Cert.DilBRefIdeal.Gen.facts,
    Cert.DilC.Gen.facts,
    Cert.DilCIdeal.Gen.facts,
    Cert.DilCRefIdeal.Gen.facts,
    Cert.Norm.Gen.facts,
    Cert.NormIdeal.Gen.facts,
    Cert.NormRefIdeal.Gen.facts,
    Cert.Comb0.Gen.facts,
    Cert.Comb0Ideal.Gen.facts,
    Cert.Comb0RefIdeal.Gen.facts,
    Cert.Comb1.Gen.facts,
    Cert.Comb1Ideal.Gen.facts,
    Cert.Comb1RefIdeal.Gen.facts,
    Cert.Comb2.Gen.facts,
    Cert.Comb2Ideal.Gen.facts,
    Cert.Comb2RefIdeal.Gen.facts,
    Cert.Comb3.Gen.facts,
    Cert.Comb3Ideal.Gen.facts,
    Cert.Comb3RefIdeal.Gen.facts,
    Cert.Merge.Gen.facts,
    Cert.MergeIdeal.Gen.facts,
    Cert.MergeRefIdeal.Gen.facts,
    Cert.GrpC.Gen.facts,
    Cert.GrpCIdeal.Gen.facts,
    Cert.GrpCRefIdeal.Gen.facts,
    Cert.Pre_finite.Gen.facts,
    Cert.Pre_finite_group.Gen.facts,
    fun m ρ _ => Cert.Kernel.Gen.frame m ρ,
    fun m ρ _ => Cert.KernelIdeal.Gen.frame m ρ,
    fun m ρ _ => Cert.KernelIdeal.Gen.frame m ρ,
    ref_frame,
    fun m ρ _ => ref_frame m ρ trivial,
    fun m ρ _ => Cert.Att3.Gen.frame m ρ,
    fun m ρ _ => Cert.Att3Ideal.Gen.frame m ρ,
    fun m ρ _ => Cert.Att3Ideal.Gen.frame m ρ,
    att3_frame,
    fun m ρ _ => att3_frame m ρ trivial,
    fun m ρ _ => Cert.Qkv.Gen.frame m ρ,
    fun m ρ _ => Cert.QkvIdeal.Gen.frame m ρ,
    qkv_frame,
    fun m ρ _ => Cert.Qkv3.Gen.frame m ρ,
    fun m ρ _ => Cert.Qkv3Ideal.Gen.frame m ρ,
    qkv3_frame,
    fun m ρ _ => Cert.Out.Gen.frame m ρ,
    fun m ρ _ => Cert.OutIdeal.Gen.frame m ρ,
    out_frame,
    fun m ρ _ => Cert.Out1.Gen.frame m ρ,
    fun m ρ _ => Cert.Out1Ideal.Gen.frame m ρ,
    out1_frame,
    fun m ρ _ => Cert.Out2.Gen.frame m ρ,
    fun m ρ _ => Cert.Out2Ideal.Gen.frame m ρ,
    out2_frame,
    fun m ρ _ => Cert.Out3.Gen.frame m ρ,
    fun m ρ _ => Cert.Out3Ideal.Gen.frame m ρ,
    out3_frame,
    fun m ρ _ => Cert.DilA.Gen.frame m ρ,
    fun m ρ _ => Cert.DilAIdeal.Gen.frame m ρ,
    dilA_frame,
    fun m ρ _ => Cert.DilB.Gen.frame m ρ,
    fun m ρ _ => Cert.DilBIdeal.Gen.frame m ρ,
    dilB_frame,
    fun m ρ _ => Cert.DilC.Gen.frame m ρ,
    fun m ρ _ => Cert.DilCIdeal.Gen.frame m ρ,
    dilC_frame,
    fun m ρ _ => Cert.Norm.Gen.frame m ρ,
    fun m ρ _ => Cert.NormIdeal.Gen.frame m ρ,
    norm_frame,
    fun m ρ _ => Cert.Comb0.Gen.frame m ρ,
    fun m ρ _ => Cert.Comb0Ideal.Gen.frame m ρ,
    comb0_frame,
    fun m ρ _ => Cert.Comb1.Gen.frame m ρ,
    fun m ρ _ => Cert.Comb1Ideal.Gen.frame m ρ,
    comb1_frame,
    fun m ρ _ => Cert.Comb2.Gen.frame m ρ,
    fun m ρ _ => Cert.Comb2Ideal.Gen.frame m ρ,
    comb2_frame,
    fun m ρ _ => Cert.Comb3.Gen.frame m ρ,
    fun m ρ _ => Cert.Comb3Ideal.Gen.frame m ρ,
    comb3_frame,
    fun m ρ _ => Cert.Merge.Gen.frame m ρ,
    fun m ρ _ => Cert.MergeIdeal.Gen.frame m ρ,
    merge_frame,
    fun m ρ _ => Cert.GrpC.Gen.frame m ρ,
    fun m ρ _ => Cert.GrpCIdeal.Gen.frame m ρ,
    fun m ρ _ => Cert.GrpCIdeal.Gen.frame m ρ,
    grpC_frame,
    fun m ρ _ => grpC_frame m ρ trivial,
    trivial,
    att,
    trivial,
    att3_eq,
    trivial,
    qkv_eq,
    trivial,
    qkv3_eq,
    trivial,
    out_eq,
    trivial,
    out1_eq,
    trivial,
    out2_eq,
    trivial,
    out3_eq,
    trivial,
    dilA_eq,
    trivial,
    dilB_eq,
    trivial,
    dilC_eq,
    trivial,
    norm_eq,
    trivial,
    comb0_eq,
    trivial,
    comb1_eq,
    trivial,
    comb2_eq,
    trivial,
    comb3_eq,
    trivial,
    merge_eq,
    ⟨IdealRules.named_const.statement _ _ _ _ _ rfl, IdealRules.named_const.statement _ _ _ _ _ rfl⟩,
    grpC_eq⟩

end Cert.Proof

end
